-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1200)) (v1 : (c : Dev Cert.KernelIdeal.nD) → Buf (Elt Ideal) ((c.tc : Thread Cert.KernelIdeal.nD Cert.KernelIdeal.τ).loc Cert.KernelIdeal.main_v1213)) (v2 : (c : Dev Cert.KernelIdeal.nD) → Buf (Elt Ideal) ((c.tc : Thread Cert.KernelIdeal.nD Cert.KernelIdeal.τ).loc Cert.KernelIdeal.main_v1226)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1200) = v0 c
          ∧ r.2.mem ((c.tc : Thread Cert.KernelIdeal.nD Cert.KernelIdeal.τ).loc Cert.KernelIdeal.main_v1213) = v1 c
          ∧ r.2.mem ((c.tc : Thread Cert.KernelIdeal.nD Cert.KernelIdeal.τ).loc Cert.KernelIdeal.main_v1226) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3070) = v0 c
          ∧ r.2.mem ((c.tc : Thread Cert.ReferenceIdeal.nD Cert.ReferenceIdeal.τ).loc Cert.ReferenceIdeal.main_v3083) = v1 c
          ∧ r.2.mem ((c.tc : Thread Cert.ReferenceIdeal.nD Cert.ReferenceIdeal.τ).loc Cert.ReferenceIdeal.main_v3096) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x2 : Shape := ⟨3, ![8, 256, 2]⟩
abbrev S256 : Shape := ⟨1, ![256]⟩
abbrev S64x2 : Shape := ⟨2, ![64, 2]⟩
abbrev S64 : Shape := ⟨1, ![64]⟩
abbrev S128x8192 : Shape := ⟨2, ![128, 8192]⟩
abbrev S128 : Shape := ⟨1, ![128]⟩
abbrev S512x192 : Shape := ⟨2, ![512, 192]⟩
abbrev S512x128 : Shape := ⟨2, ![512, 128]⟩
abbrev S512 : Shape := ⟨1, ![512]⟩
abbrev S5x128 : Shape := ⟨2, ![5, 128]⟩
abbrev S5 : Shape := ⟨1, ![5]⟩
abbrev S_ : Shape := ⟨0, ![]⟩
abbrev S256x128 : Shape := ⟨2, ![256, 128]⟩
abbrev S256x1 : Shape := ⟨2, ![256, 1]⟩
abbrev S1x256 : Shape := ⟨2, ![1, 256]⟩
abbrev S8192x128 : Shape := ⟨2, ![8192, 128]⟩
abbrev S1x128 : Shape := ⟨2, ![1, 128]⟩
abbrev S1x256x2 : Shape := ⟨3, ![1, 256, 2]⟩
abbrev S256x2 : Shape := ⟨2, ![256, 2]⟩
abbrev S2x64 : Shape := ⟨2, ![2, 64]⟩
abbrev S256x64 : Shape := ⟨2, ![256, 64]⟩
abbrev S1x64 : Shape := ⟨2, ![1, 64]⟩
abbrev S2x256 : Shape := ⟨2, ![2, 256]⟩
abbrev S256x8192 : Shape := ⟨2, ![256, 8192]⟩
abbrev S256x256 : Shape := ⟨2, ![256, 256]⟩
abbrev S256x192 : Shape := ⟨2, ![256, 192]⟩
abbrev S128x512 : Shape := ⟨2, ![128, 512]⟩
abbrev S256x512 : Shape := ⟨2, ![256, 512]⟩
abbrev S192x512 : Shape := ⟨2, ![192, 512]⟩
abbrev S1x512 : Shape := ⟨2, ![1, 512]⟩
abbrev S128x5 : Shape := ⟨2, ![128, 5]⟩
abbrev S256x5 : Shape := ⟨2, ![256, 5]⟩
abbrev S1x5 : Shape := ⟨2, ![1, 5]⟩
abbrev S12x256x2 : Shape := ⟨3, ![12, 256, 2]⟩
abbrev S12x256 : Shape := ⟨2, ![12, 256]⟩

abbrev nBuf : Space → Nat
  | .hbm => 1418
  | .vmem => 180
  | .smem => 0
  | _ => 0

abbrev hbmTy0_0 (i : Nat) : BufTy := match i % 128 with
  | 0 => ⟨S8x256x2, .f32⟩
  | 1 => ⟨S256, .i1⟩
  | 2 => ⟨S64x2, .f32⟩
  | 3 => ⟨S64, .f32⟩
  | 4 => ⟨S128x8192, .f32⟩
  | 5 => ⟨S128, .f32⟩
  | 6 => ⟨S512x192, .f32⟩
  | 7 => ⟨S512x128, .f32⟩
  | 8 => ⟨S512, .f32⟩
  | 9 => ⟨S512, .f32⟩
  | 10 => ⟨S5x128, .f32⟩
  | 11 => ⟨S5, .f32⟩
  | 12 => ⟨S_, .f32⟩
  | 13 => ⟨S256x128, .f32⟩
  | 14 => ⟨S_, .f32⟩
  | 15 => ⟨S256x128, .f32⟩
  | 16 => ⟨S8x256x2, .i1⟩
  | 17 => ⟨S_, .f32⟩
  | 18 => ⟨S_, .f32⟩
  | 19 => ⟨S8x256x2, .f32⟩
  | 20 => ⟨S8x256x2, .f32⟩
  | 21 => ⟨S256, .f32⟩
  | 22 => ⟨S256x1, .f32⟩
  | 23 => ⟨S256, .f32⟩
  | 24 => ⟨S256x1, .f32⟩
  | 25 => ⟨S256x128, .f32⟩
  | 26 => ⟨S256, .f32⟩
  | 27 => ⟨S1x256, .f32⟩
  | 28 => ⟨S8192x128, .f32⟩
  | 29 => ⟨S1x128, .f32⟩
  | 30 => ⟨S1x256x2, .f32⟩
  | 31 => ⟨S256x2, .f32⟩
  | 32 => ⟨S2x64, .f32⟩
  | 33 => ⟨S256x64, .f32⟩
  | 34 => ⟨S1x64, .f32⟩
  | 35 => ⟨S256x64, .f32⟩
  | 36 => ⟨S256x64, .f32⟩
  | 37 => ⟨S_, .f32⟩
  | 38 => ⟨S256x64, .f32⟩
  | 39 => ⟨S256x64, .f32⟩
  | 40 => ⟨S2x256, .f32⟩
  | 41 => ⟨S256x128, .f32⟩
  | 42 => ⟨S256x192, .f32⟩
  | 43 => ⟨S128x512, .f32⟩
  | 44 => ⟨S_, .f32⟩
  | 45 => ⟨S512, .f32⟩
  | 46 => ⟨S256x512, .f32⟩
  | 47 => ⟨S_, .f32⟩
  | 48 => ⟨S256x512, .f32⟩
  | 49 => ⟨S256x512, .f32⟩
  | 50 => ⟨S192x512, .f32⟩
  | 51 => ⟨S256x512, .f32⟩
  | 52 => ⟨S1x512, .f32⟩
  | 53 => ⟨S256x512, .f32⟩
  | 54 => ⟨S256x512, .f32⟩
  | 55 => ⟨S256x512, .f32⟩
  | 56 => ⟨S1x512, .f32⟩
  | 57 => ⟨S256x512, .f32⟩
  | 58 => ⟨S256x512, .f32⟩
  | 59 => ⟨S256x128, .f32⟩
  | 60 => ⟨S256x128, .f32⟩
  | 61 => ⟨S256x128, .f32⟩
  | 62 => ⟨S256x128, .f32⟩
  | 63 => ⟨S256x128, .f32⟩
  | 64 => ⟨S256x128, .f32⟩
  | 65 => ⟨S_, .f32⟩
  | 66 => ⟨S256x128, .f32⟩
  | 67 => ⟨S256x128, .f32⟩
  | 68 => ⟨S_, .f32⟩
  | 69 => ⟨S256x128, .f32⟩
  | 70 => ⟨S256x128, .f32⟩
  | 71 => ⟨S256x128, .f32⟩
  | 72 => ⟨S256x128, .f32⟩
  | 73 => ⟨S_, .f32⟩
  | 74 => ⟨S256x128, .f32⟩
  | 75 => ⟨S256x128, .f32⟩
  | 76 => ⟨S_, .f32⟩
  | 77 => ⟨S256x128, .f32⟩
  | 78 => ⟨S256x128, .f32⟩
  | 79 => ⟨S256x128, .f32⟩
  | 80 => ⟨S256x128, .f32⟩
  | 81 => ⟨S256x128, .f32⟩
  | 82 => ⟨S_, .f32⟩
  | 83 => ⟨S256x128, .f32⟩
  | 84 => ⟨S256x128, .f32⟩
  | 85 => ⟨S_, .f32⟩
  | 86 => ⟨S256x128, .f32⟩
  | 87 => ⟨S256x128, .f32⟩
  | 88 => ⟨S256x128, .f32⟩
  | 89 => ⟨S256x128, .f32⟩
  | 90 => ⟨S256x128, .f32⟩
  | 91 => ⟨S256x128, .f32⟩
  | 92 => ⟨S256x128, .f32⟩
  | 93 => ⟨S1x256x2, .f32⟩
  | 94 => ⟨S256x2, .f32⟩
  | 95 => ⟨S2x64, .f32⟩
  | 96 => ⟨S256x64, .f32⟩
  | 97 => ⟨S1x64, .f32⟩
  | 98 => ⟨S256x64, .f32⟩
  | 99 => ⟨S256x64, .f32⟩
  | 100 => ⟨S_, .f32⟩
  | 101 => ⟨S256x64, .f32⟩
  | 102 => ⟨S256x64, .f32⟩
  | 103 => ⟨S2x256, .f32⟩
  | 104 => ⟨S256x128, .f32⟩
  | 105 => ⟨S256x192, .f32⟩
  | 106 => ⟨S128x512, .f32⟩
  | 107 => ⟨S256x512, .f32⟩
  | 108 => ⟨S192x512, .f32⟩
  | 109 => ⟨S256x512, .f32⟩
  | 110 => ⟨S1x512, .f32⟩
  | 111 => ⟨S256x512, .f32⟩
  | 112 => ⟨S256x512, .f32⟩
  | 113 => ⟨S256x512, .f32⟩
  | 114 => ⟨S1x512, .f32⟩
  | 115 => ⟨S256x512, .f32⟩
  | 116 => ⟨S256x512, .f32⟩
  | 117 => ⟨S256x128, .f32⟩
  | 118 => ⟨S256x128, .f32⟩
  | 119 => ⟨S256x128, .f32⟩
  | 120 => ⟨S256x128, .f32⟩
  | 121 => ⟨S256x128, .f32⟩
  | 122 => ⟨S256x128, .f32⟩
  | 123 => ⟨S_, .f32⟩
  | 124 => ⟨S256x128, .f32⟩
  | 125 => ⟨S256x128, .f32⟩
  | 126 => ⟨S_, .f32⟩
  | 127 => ⟨S256x128, .f32⟩
  | _ => ⟨S8x256x2, .f32⟩

abbrev hbmTy0_1 (i : Nat) : BufTy := match i % 128 with
  | 0 => ⟨S256x128, .f32⟩
  | 1 => ⟨S256x128, .f32⟩
  | 2 => ⟨S256x128, .f32⟩
  | 3 => ⟨S_, .f32⟩
  | 4 => ⟨S256x128, .f32⟩
  | 5 => ⟨S256x128, .f32⟩
  | 6 => ⟨S_, .f32⟩
  | 7 => ⟨S256x128, .f32⟩
  | 8 => ⟨S256x128, .f32⟩
  | 9 => ⟨S256x128, .f32⟩
  | 10 => ⟨S256x128, .f32⟩
  | 11 => ⟨S256x128, .f32⟩
  | 12 => ⟨S_, .f32⟩
  | 13 => ⟨S256x128, .f32⟩
  | 14 => ⟨S256x128, .f32⟩
  | 15 => ⟨S_, .f32⟩
  | 16 => ⟨S256x128, .f32⟩
  | 17 => ⟨S256x128, .f32⟩
  | 18 => ⟨S256x128, .f32⟩
  | 19 => ⟨S256x128, .f32⟩
  | 20 => ⟨S256x128, .f32⟩
  | 21 => ⟨S256x128, .f32⟩
  | 22 => ⟨S256x128, .f32⟩
  | 23 => ⟨S1x256x2, .f32⟩
  | 24 => ⟨S256x2, .f32⟩
  | 25 => ⟨S2x64, .f32⟩
  | 26 => ⟨S256x64, .f32⟩
  | 27 => ⟨S1x64, .f32⟩
  | 28 => ⟨S256x64, .f32⟩
  | 29 => ⟨S256x64, .f32⟩
  | 30 => ⟨S_, .f32⟩
  | 31 => ⟨S256x64, .f32⟩
  | 32 => ⟨S256x64, .f32⟩
  | 33 => ⟨S2x256, .f32⟩
  | 34 => ⟨S256x128, .f32⟩
  | 35 => ⟨S256x192, .f32⟩
  | 36 => ⟨S128x512, .f32⟩
  | 37 => ⟨S256x512, .f32⟩
  | 38 => ⟨S192x512, .f32⟩
  | 39 => ⟨S256x512, .f32⟩
  | 40 => ⟨S1x512, .f32⟩
  | 41 => ⟨S256x512, .f32⟩
  | 42 => ⟨S256x512, .f32⟩
  | 43 => ⟨S256x512, .f32⟩
  | 44 => ⟨S1x512, .f32⟩
  | 45 => ⟨S256x512, .f32⟩
  | 46 => ⟨S256x512, .f32⟩
  | 47 => ⟨S256x128, .f32⟩
  | 48 => ⟨S256x128, .f32⟩
  | 49 => ⟨S256x128, .f32⟩
  | 50 => ⟨S256x128, .f32⟩
  | 51 => ⟨S256x128, .f32⟩
  | 52 => ⟨S256x128, .f32⟩
  | 53 => ⟨S_, .f32⟩
  | 54 => ⟨S256x128, .f32⟩
  | 55 => ⟨S256x128, .f32⟩
  | 56 => ⟨S_, .f32⟩
  | 57 => ⟨S256x128, .f32⟩
  | 58 => ⟨S256x128, .f32⟩
  | 59 => ⟨S256x128, .f32⟩
  | 60 => ⟨S256x128, .f32⟩
  | 61 => ⟨S_, .f32⟩
  | 62 => ⟨S256x128, .f32⟩
  | 63 => ⟨S256x128, .f32⟩
  | 64 => ⟨S_, .f32⟩
  | 65 => ⟨S256x128, .f32⟩
  | 66 => ⟨S256x128, .f32⟩
  | 67 => ⟨S256x128, .f32⟩
  | 68 => ⟨S256x128, .f32⟩
  | 69 => ⟨S256x128, .f32⟩
  | 70 => ⟨S_, .f32⟩
  | 71 => ⟨S256x128, .f32⟩
  | 72 => ⟨S256x128, .f32⟩
  | 73 => ⟨S_, .f32⟩
  | 74 => ⟨S256x128, .f32⟩
  | 75 => ⟨S256x128, .f32⟩
  | 76 => ⟨S256x128, .f32⟩
  | 77 => ⟨S256x128, .f32⟩
  | 78 => ⟨S256x128, .f32⟩
  | 79 => ⟨S256x128, .f32⟩
  | 80 => ⟨S256x128, .f32⟩
  | 81 => ⟨S1x256x2, .f32⟩
  | 82 => ⟨S256x2, .f32⟩
  | 83 => ⟨S2x64, .f32⟩
  | 84 => ⟨S256x64, .f32⟩
  | 85 => ⟨S1x64, .f32⟩
  | 86 => ⟨S256x64, .f32⟩
  | 87 => ⟨S256x64, .f32⟩
  | 88 => ⟨S_, .f32⟩
  | 89 => ⟨S256x64, .f32⟩
  | 90 => ⟨S256x64, .f32⟩
  | 91 => ⟨S2x256, .f32⟩
  | 92 => ⟨S256x128, .f32⟩
  | 93 => ⟨S256x192, .f32⟩
  | 94 => ⟨S128x512, .f32⟩
  | 95 => ⟨S256x512, .f32⟩
  | 96 => ⟨S192x512, .f32⟩
  | 97 => ⟨S256x512, .f32⟩
  | 98 => ⟨S1x512, .f32⟩
  | 99 => ⟨S256x512, .f32⟩
  | 100 => ⟨S256x512, .f32⟩
  | 101 => ⟨S256x512, .f32⟩
  | 102 => ⟨S1x512, .f32⟩
  | 103 => ⟨S256x512, .f32⟩
  | 104 => ⟨S256x512, .f32⟩
  | 105 => ⟨S256x128, .f32⟩
  | 106 => ⟨S256x128, .f32⟩
  | 107 => ⟨S256x128, .f32⟩
  | 108 => ⟨S256x128, .f32⟩
  | 109 => ⟨S256x128, .f32⟩
  | 110 => ⟨S256x128, .f32⟩
  | 111 => ⟨S_, .f32⟩
  | 112 => ⟨S256x128, .f32⟩
  | 113 => ⟨S256x128, .f32⟩
  | 114 => ⟨S_, .f32⟩
  | 115 => ⟨S256x128, .f32⟩
  | 116 => ⟨S256x128, .f32⟩
  | 117 => ⟨S256x128, .f32⟩
  | 118 => ⟨S256x128, .f32⟩
  | 119 => ⟨S_, .f32⟩
  | 120 => ⟨S256x128, .f32⟩
  | 121 => ⟨S256x128, .f32⟩
  | 122 => ⟨S_, .f32⟩
  | 123 => ⟨S256x128, .f32⟩
  | 124 => ⟨S256x128, .f32⟩
  | 125 => ⟨S256x128, .f32⟩
  | 126 => ⟨S256x128, .f32⟩
  | 127 => ⟨S256x128, .f32⟩
  | _ => ⟨S8x256x2, .f32⟩

abbrev hbmTy0_2 (i : Nat) : BufTy := match i % 128 with
  | 0 => ⟨S_, .f32⟩
  | 1 => ⟨S256x128, .f32⟩
  | 2 => ⟨S256x128, .f32⟩
  | 3 => ⟨S_, .f32⟩
  | 4 => ⟨S256x128, .f32⟩
  | 5 => ⟨S256x128, .f32⟩
  | 6 => ⟨S256x128, .f32⟩
  | 7 => ⟨S256x128, .f32⟩
  | 8 => ⟨S256x128, .f32⟩
  | 9 => ⟨S256x128, .f32⟩
  | 10 => ⟨S256x128, .f32⟩
  | 11 => ⟨S1x256x2, .f32⟩
  | 12 => ⟨S256x2, .f32⟩
  | 13 => ⟨S2x64, .f32⟩
  | 14 => ⟨S256x64, .f32⟩
  | 15 => ⟨S1x64, .f32⟩
  | 16 => ⟨S256x64, .f32⟩
  | 17 => ⟨S256x64, .f32⟩
  | 18 => ⟨S_, .f32⟩
  | 19 => ⟨S256x64, .f32⟩
  | 20 => ⟨S256x64, .f32⟩
  | 21 => ⟨S2x256, .f32⟩
  | 22 => ⟨S256x128, .f32⟩
  | 23 => ⟨S256x192, .f32⟩
  | 24 => ⟨S128x512, .f32⟩
  | 25 => ⟨S256x512, .f32⟩
  | 26 => ⟨S192x512, .f32⟩
  | 27 => ⟨S256x512, .f32⟩
  | 28 => ⟨S1x512, .f32⟩
  | 29 => ⟨S256x512, .f32⟩
  | 30 => ⟨S256x512, .f32⟩
  | 31 => ⟨S256x512, .f32⟩
  | 32 => ⟨S1x512, .f32⟩
  | 33 => ⟨S256x512, .f32⟩
  | 34 => ⟨S256x512, .f32⟩
  | 35 => ⟨S256x128, .f32⟩
  | 36 => ⟨S256x128, .f32⟩
  | 37 => ⟨S256x128, .f32⟩
  | 38 => ⟨S256x128, .f32⟩
  | 39 => ⟨S256x128, .f32⟩
  | 40 => ⟨S256x128, .f32⟩
  | 41 => ⟨S_, .f32⟩
  | 42 => ⟨S256x128, .f32⟩
  | 43 => ⟨S256x128, .f32⟩
  | 44 => ⟨S_, .f32⟩
  | 45 => ⟨S256x128, .f32⟩
  | 46 => ⟨S256x128, .f32⟩
  | 47 => ⟨S256x128, .f32⟩
  | 48 => ⟨S256x128, .f32⟩
  | 49 => ⟨S_, .f32⟩
  | 50 => ⟨S256x128, .f32⟩
  | 51 => ⟨S256x128, .f32⟩
  | 52 => ⟨S_, .f32⟩
  | 53 => ⟨S256x128, .f32⟩
  | 54 => ⟨S256x128, .f32⟩
  | 55 => ⟨S256x128, .f32⟩
  | 56 => ⟨S256x128, .f32⟩
  | 57 => ⟨S256x128, .f32⟩
  | 58 => ⟨S_, .f32⟩
  | 59 => ⟨S256x128, .f32⟩
  | 60 => ⟨S256x128, .f32⟩
  | 61 => ⟨S_, .f32⟩
  | 62 => ⟨S256x128, .f32⟩
  | 63 => ⟨S256x128, .f32⟩
  | 64 => ⟨S256x128, .f32⟩
  | 65 => ⟨S256x128, .f32⟩
  | 66 => ⟨S256x128, .f32⟩
  | 67 => ⟨S256x128, .f32⟩
  | 68 => ⟨S256x128, .f32⟩
  | 69 => ⟨S1x256x2, .f32⟩
  | 70 => ⟨S256x2, .f32⟩
  | 71 => ⟨S2x64, .f32⟩
  | 72 => ⟨S256x64, .f32⟩
  | 73 => ⟨S1x64, .f32⟩
  | 74 => ⟨S256x64, .f32⟩
  | 75 => ⟨S256x64, .f32⟩
  | 76 => ⟨S_, .f32⟩
  | 77 => ⟨S256x64, .f32⟩
  | 78 => ⟨S256x64, .f32⟩
  | 79 => ⟨S2x256, .f32⟩
  | 80 => ⟨S256x128, .f32⟩
  | 81 => ⟨S256x192, .f32⟩
  | 82 => ⟨S128x512, .f32⟩
  | 83 => ⟨S256x512, .f32⟩
  | 84 => ⟨S192x512, .f32⟩
  | 85 => ⟨S256x512, .f32⟩
  | 86 => ⟨S1x512, .f32⟩
  | 87 => ⟨S256x512, .f32⟩
  | 88 => ⟨S256x512, .f32⟩
  | 89 => ⟨S256x512, .f32⟩
  | 90 => ⟨S1x512, .f32⟩
  | 91 => ⟨S256x512, .f32⟩
  | 92 => ⟨S256x512, .f32⟩
  | 93 => ⟨S256x128, .f32⟩
  | 94 => ⟨S256x128, .f32⟩
  | 95 => ⟨S256x128, .f32⟩
  | 96 => ⟨S256x128, .f32⟩
  | 97 => ⟨S256x128, .f32⟩
  | 98 => ⟨S256x128, .f32⟩
  | 99 => ⟨S_, .f32⟩
  | 100 => ⟨S256x128, .f32⟩
  | 101 => ⟨S256x128, .f32⟩
  | 102 => ⟨S_, .f32⟩
  | 103 => ⟨S256x128, .f32⟩
  | 104 => ⟨S256x128, .f32⟩
  | 105 => ⟨S256x128, .f32⟩
  | 106 => ⟨S256x128, .f32⟩
  | 107 => ⟨S_, .f32⟩
  | 108 => ⟨S256x128, .f32⟩
  | 109 => ⟨S256x128, .f32⟩
  | 110 => ⟨S_, .f32⟩
  | 111 => ⟨S256x128, .f32⟩
  | 112 => ⟨S256x128, .f32⟩
  | 113 => ⟨S256x128, .f32⟩
  | 114 => ⟨S256x128, .f32⟩
  | 115 => ⟨S256x128, .f32⟩
  | 116 => ⟨S_, .f32⟩
  | 117 => ⟨S256x128, .f32⟩
  | 118 => ⟨S256x128, .f32⟩
  | 119 => ⟨S_, .f32⟩
  | 120 => ⟨S256x128, .f32⟩
  | 121 => ⟨S256x128, .f32⟩
  | 122 => ⟨S256x128, .f32⟩
  | 123 => ⟨S256x128, .f32⟩
  | 124 => ⟨S256x128, .f32⟩
  | 125 => ⟨S256x128, .f32⟩
  | 126 => ⟨S256x128, .f32⟩
  | 127 => ⟨S1x256x2, .f32⟩
  | _ => ⟨S8x256x2, .f32⟩

abbrev hbmTy0_3 (i : Nat) : BufTy := match i % 128 with
  | 0 => ⟨S256x2, .f32⟩
  | 1 => ⟨S2x64, .f32⟩
  | 2 => ⟨S256x64, .f32⟩
  | 3 => ⟨S1x64, .f32⟩
  | 4 => ⟨S256x64, .f32⟩
  | 5 => ⟨S256x64, .f32⟩
  | 6 => ⟨S_, .f32⟩
  | 7 => ⟨S256x64, .f32⟩
  | 8 => ⟨S256x64, .f32⟩
  | 9 => ⟨S2x256, .f32⟩
  | 10 => ⟨S256x128, .f32⟩
  | 11 => ⟨S256x192, .f32⟩
  | 12 => ⟨S128x512, .f32⟩
  | 13 => ⟨S256x512, .f32⟩
  | 14 => ⟨S192x512, .f32⟩
  | 15 => ⟨S256x512, .f32⟩
  | 16 => ⟨S1x512, .f32⟩
  | 17 => ⟨S256x512, .f32⟩
  | 18 => ⟨S256x512, .f32⟩
  | 19 => ⟨S256x512, .f32⟩
  | 20 => ⟨S1x512, .f32⟩
  | 21 => ⟨S256x512, .f32⟩
  | 22 => ⟨S256x512, .f32⟩
  | 23 => ⟨S256x128, .f32⟩
  | 24 => ⟨S256x128, .f32⟩
  | 25 => ⟨S256x128, .f32⟩
  | 26 => ⟨S256x128, .f32⟩
  | 27 => ⟨S256x128, .f32⟩
  | 28 => ⟨S256x128, .f32⟩
  | 29 => ⟨S_, .f32⟩
  | 30 => ⟨S256x128, .f32⟩
  | 31 => ⟨S256x128, .f32⟩
  | 32 => ⟨S_, .f32⟩
  | 33 => ⟨S256x128, .f32⟩
  | 34 => ⟨S256x128, .f32⟩
  | 35 => ⟨S256x128, .f32⟩
  | 36 => ⟨S256x128, .f32⟩
  | 37 => ⟨S_, .f32⟩
  | 38 => ⟨S256x128, .f32⟩
  | 39 => ⟨S256x128, .f32⟩
  | 40 => ⟨S_, .f32⟩
  | 41 => ⟨S256x128, .f32⟩
  | 42 => ⟨S256x128, .f32⟩
  | 43 => ⟨S256x128, .f32⟩
  | 44 => ⟨S256x128, .f32⟩
  | 45 => ⟨S256x128, .f32⟩
  | 46 => ⟨S_, .f32⟩
  | 47 => ⟨S256x128, .f32⟩
  | 48 => ⟨S256x128, .f32⟩
  | 49 => ⟨S_, .f32⟩
  | 50 => ⟨S256x128, .f32⟩
  | 51 => ⟨S256x128, .f32⟩
  | 52 => ⟨S256x128, .f32⟩
  | 53 => ⟨S256x128, .f32⟩
  | 54 => ⟨S256x128, .f32⟩
  | 55 => ⟨S256x128, .f32⟩
  | 56 => ⟨S256x128, .f32⟩
  | 57 => ⟨S1x256x2, .f32⟩
  | 58 => ⟨S256x2, .f32⟩
  | 59 => ⟨S2x64, .f32⟩
  | 60 => ⟨S256x64, .f32⟩
  | 61 => ⟨S1x64, .f32⟩
  | 62 => ⟨S256x64, .f32⟩
  | 63 => ⟨S256x64, .f32⟩
  | 64 => ⟨S_, .f32⟩
  | 65 => ⟨S256x64, .f32⟩
  | 66 => ⟨S256x64, .f32⟩
  | 67 => ⟨S2x256, .f32⟩
  | 68 => ⟨S256x128, .f32⟩
  | 69 => ⟨S256x192, .f32⟩
  | 70 => ⟨S128x512, .f32⟩
  | 71 => ⟨S256x512, .f32⟩
  | 72 => ⟨S192x512, .f32⟩
  | 73 => ⟨S256x512, .f32⟩
  | 74 => ⟨S1x512, .f32⟩
  | 75 => ⟨S256x512, .f32⟩
  | 76 => ⟨S256x512, .f32⟩
  | 77 => ⟨S256x512, .f32⟩
  | 78 => ⟨S1x512, .f32⟩
  | 79 => ⟨S256x512, .f32⟩
  | 80 => ⟨S256x512, .f32⟩
  | 81 => ⟨S256x128, .f32⟩
  | 82 => ⟨S256x128, .f32⟩
  | 83 => ⟨S256x128, .f32⟩
  | 84 => ⟨S256x128, .f32⟩
  | 85 => ⟨S256x128, .f32⟩
  | 86 => ⟨S256x128, .f32⟩
  | 87 => ⟨S_, .f32⟩
  | 88 => ⟨S256x128, .f32⟩
  | 89 => ⟨S256x128, .f32⟩
  | 90 => ⟨S_, .f32⟩
  | 91 => ⟨S256x128, .f32⟩
  | 92 => ⟨S256x128, .f32⟩
  | 93 => ⟨S256x128, .f32⟩
  | 94 => ⟨S256x128, .f32⟩
  | 95 => ⟨S_, .f32⟩
  | 96 => ⟨S256x128, .f32⟩
  | 97 => ⟨S256x128, .f32⟩
  | 98 => ⟨S_, .f32⟩
  | 99 => ⟨S256x128, .f32⟩
  | 100 => ⟨S256x128, .f32⟩
  | 101 => ⟨S256x128, .f32⟩
  | 102 => ⟨S256x128, .f32⟩
  | 103 => ⟨S256x128, .f32⟩
  | 104 => ⟨S_, .f32⟩
  | 105 => ⟨S256x128, .f32⟩
  | 106 => ⟨S256x128, .f32⟩
  | 107 => ⟨S_, .f32⟩
  | 108 => ⟨S256x128, .f32⟩
  | 109 => ⟨S256x128, .f32⟩
  | 110 => ⟨S256x128, .f32⟩
  | 111 => ⟨S256x128, .f32⟩
  | 112 => ⟨S256x128, .f32⟩
  | 113 => ⟨S256x128, .f32⟩
  | 114 => ⟨S256x128, .f32⟩
  | 115 => ⟨S1x256x2, .f32⟩
  | 116 => ⟨S256x2, .f32⟩
  | 117 => ⟨S256x2, .f32⟩
  | 118 => ⟨S256x2, .f32⟩
  | 119 => ⟨S2x64, .f32⟩
  | 120 => ⟨S256x64, .f32⟩
  | 121 => ⟨S1x64, .f32⟩
  | 122 => ⟨S256x64, .f32⟩
  | 123 => ⟨S256x64, .f32⟩
  | 124 => ⟨S_, .f32⟩
  | 125 => ⟨S256x64, .f32⟩
  | 126 => ⟨S256x64, .f32⟩
  | 127 => ⟨S2x256, .f32⟩
  | _ => ⟨S8x256x2, .f32⟩

abbrev hbmTy0_4 (i : Nat) : BufTy := match i % 128 with
  | 0 => ⟨S256x128, .f32⟩
  | 1 => ⟨S256x192, .f32⟩
  | 2 => ⟨S128x512, .f32⟩
  | 3 => ⟨S256x512, .f32⟩
  | 4 => ⟨S192x512, .f32⟩
  | 5 => ⟨S256x512, .f32⟩
  | 6 => ⟨S1x512, .f32⟩
  | 7 => ⟨S256x512, .f32⟩
  | 8 => ⟨S256x512, .f32⟩
  | 9 => ⟨S256x512, .f32⟩
  | 10 => ⟨S1x512, .f32⟩
  | 11 => ⟨S256x512, .f32⟩
  | 12 => ⟨S256x512, .f32⟩
  | 13 => ⟨S256x128, .f32⟩
  | 14 => ⟨S256x128, .f32⟩
  | 15 => ⟨S256x128, .f32⟩
  | 16 => ⟨S256x128, .f32⟩
  | 17 => ⟨S256x128, .f32⟩
  | 18 => ⟨S256x128, .f32⟩
  | 19 => ⟨S_, .f32⟩
  | 20 => ⟨S256x128, .f32⟩
  | 21 => ⟨S256x128, .f32⟩
  | 22 => ⟨S_, .f32⟩
  | 23 => ⟨S256x128, .f32⟩
  | 24 => ⟨S256x128, .f32⟩
  | 25 => ⟨S256x128, .f32⟩
  | 26 => ⟨S256x128, .f32⟩
  | 27 => ⟨S_, .f32⟩
  | 28 => ⟨S256x128, .f32⟩
  | 29 => ⟨S256x128, .f32⟩
  | 30 => ⟨S_, .f32⟩
  | 31 => ⟨S256x128, .f32⟩
  | 32 => ⟨S256x128, .f32⟩
  | 33 => ⟨S256x128, .f32⟩
  | 34 => ⟨S256x128, .f32⟩
  | 35 => ⟨S256x128, .f32⟩
  | 36 => ⟨S_, .f32⟩
  | 37 => ⟨S256x128, .f32⟩
  | 38 => ⟨S256x128, .f32⟩
  | 39 => ⟨S_, .f32⟩
  | 40 => ⟨S256x128, .f32⟩
  | 41 => ⟨S256x128, .f32⟩
  | 42 => ⟨S256x128, .f32⟩
  | 43 => ⟨S256x128, .f32⟩
  | 44 => ⟨S256x128, .f32⟩
  | 45 => ⟨S256x128, .f32⟩
  | 46 => ⟨S256x128, .f32⟩
  | 47 => ⟨S128x5, .f32⟩
  | 48 => ⟨S256x5, .f32⟩
  | 49 => ⟨S1x5, .f32⟩
  | 50 => ⟨S256x5, .f32⟩
  | 51 => ⟨S256x5, .f32⟩
  | 52 => ⟨S256x2, .f32⟩
  | 53 => ⟨S256x2, .f32⟩
  | 54 => ⟨S256x2, .f32⟩
  | 55 => ⟨S_, .f32⟩
  | 56 => ⟨S256x2, .f32⟩
  | 57 => ⟨S256x2, .f32⟩
  | 58 => ⟨S256x1, .f32⟩
  | 59 => ⟨S256, .f32⟩
  | 60 => ⟨S256, .f32⟩
  | 61 => ⟨S256x2, .f32⟩
  | 62 => ⟨S256x2, .f32⟩
  | 63 => ⟨S256x2, .f32⟩
  | 64 => ⟨S2x64, .f32⟩
  | 65 => ⟨S256x64, .f32⟩
  | 66 => ⟨S1x64, .f32⟩
  | 67 => ⟨S256x64, .f32⟩
  | 68 => ⟨S256x64, .f32⟩
  | 69 => ⟨S_, .f32⟩
  | 70 => ⟨S256x64, .f32⟩
  | 71 => ⟨S256x64, .f32⟩
  | 72 => ⟨S2x256, .f32⟩
  | 73 => ⟨S256x128, .f32⟩
  | 74 => ⟨S256x192, .f32⟩
  | 75 => ⟨S128x512, .f32⟩
  | 76 => ⟨S256x512, .f32⟩
  | 77 => ⟨S192x512, .f32⟩
  | 78 => ⟨S256x512, .f32⟩
  | 79 => ⟨S1x512, .f32⟩
  | 80 => ⟨S256x512, .f32⟩
  | 81 => ⟨S256x512, .f32⟩
  | 82 => ⟨S256x512, .f32⟩
  | 83 => ⟨S1x512, .f32⟩
  | 84 => ⟨S256x512, .f32⟩
  | 85 => ⟨S256x512, .f32⟩
  | 86 => ⟨S256x128, .f32⟩
  | 87 => ⟨S256x128, .f32⟩
  | 88 => ⟨S256x128, .f32⟩
  | 89 => ⟨S256x128, .f32⟩
  | 90 => ⟨S256x128, .f32⟩
  | 91 => ⟨S256x128, .f32⟩
  | 92 => ⟨S_, .f32⟩
  | 93 => ⟨S256x128, .f32⟩
  | 94 => ⟨S256x128, .f32⟩
  | 95 => ⟨S_, .f32⟩
  | 96 => ⟨S256x128, .f32⟩
  | 97 => ⟨S256x128, .f32⟩
  | 98 => ⟨S256x128, .f32⟩
  | 99 => ⟨S256x128, .f32⟩
  | 100 => ⟨S_, .f32⟩
  | 101 => ⟨S256x128, .f32⟩
  | 102 => ⟨S256x128, .f32⟩
  | 103 => ⟨S_, .f32⟩
  | 104 => ⟨S256x128, .f32⟩
  | 105 => ⟨S256x128, .f32⟩
  | 106 => ⟨S256x128, .f32⟩
  | 107 => ⟨S256x128, .f32⟩
  | 108 => ⟨S256x128, .f32⟩
  | 109 => ⟨S_, .f32⟩
  | 110 => ⟨S256x128, .f32⟩
  | 111 => ⟨S256x128, .f32⟩
  | 112 => ⟨S_, .f32⟩
  | 113 => ⟨S256x128, .f32⟩
  | 114 => ⟨S256x128, .f32⟩
  | 115 => ⟨S256x128, .f32⟩
  | 116 => ⟨S256x128, .f32⟩
  | 117 => ⟨S256x128, .f32⟩
  | 118 => ⟨S256x128, .f32⟩
  | 119 => ⟨S256x128, .f32⟩
  | 120 => ⟨S128x5, .f32⟩
  | 121 => ⟨S256x5, .f32⟩
  | 122 => ⟨S1x5, .f32⟩
  | 123 => ⟨S256x5, .f32⟩
  | 124 => ⟨S256x5, .f32⟩
  | 125 => ⟨S256x2, .f32⟩
  | 126 => ⟨S256x2, .f32⟩
  | 127 => ⟨S256x2, .f32⟩
  | _ => ⟨S8x256x2, .f32⟩

abbrev hbmTy0_5 (i : Nat) : BufTy := match i % 128 with
  | 0 => ⟨S_, .f32⟩
  | 1 => ⟨S256x2, .f32⟩
  | 2 => ⟨S256x2, .f32⟩
  | 3 => ⟨S256x1, .f32⟩
  | 4 => ⟨S256, .f32⟩
  | 5 => ⟨S256, .f32⟩
  | 6 => ⟨S256x2, .f32⟩
  | 7 => ⟨S256x2, .f32⟩
  | 8 => ⟨S256x2, .f32⟩
  | 9 => ⟨S2x64, .f32⟩
  | 10 => ⟨S256x64, .f32⟩
  | 11 => ⟨S1x64, .f32⟩
  | 12 => ⟨S256x64, .f32⟩
  | 13 => ⟨S256x64, .f32⟩
  | 14 => ⟨S_, .f32⟩
  | 15 => ⟨S256x64, .f32⟩
  | 16 => ⟨S256x64, .f32⟩
  | 17 => ⟨S2x256, .f32⟩
  | 18 => ⟨S256x128, .f32⟩
  | 19 => ⟨S256x192, .f32⟩
  | 20 => ⟨S128x512, .f32⟩
  | 21 => ⟨S256x512, .f32⟩
  | 22 => ⟨S192x512, .f32⟩
  | 23 => ⟨S256x512, .f32⟩
  | 24 => ⟨S1x512, .f32⟩
  | 25 => ⟨S256x512, .f32⟩
  | 26 => ⟨S256x512, .f32⟩
  | 27 => ⟨S256x512, .f32⟩
  | 28 => ⟨S1x512, .f32⟩
  | 29 => ⟨S256x512, .f32⟩
  | 30 => ⟨S256x512, .f32⟩
  | 31 => ⟨S256x128, .f32⟩
  | 32 => ⟨S256x128, .f32⟩
  | 33 => ⟨S256x128, .f32⟩
  | 34 => ⟨S256x128, .f32⟩
  | 35 => ⟨S256x128, .f32⟩
  | 36 => ⟨S256x128, .f32⟩
  | 37 => ⟨S_, .f32⟩
  | 38 => ⟨S256x128, .f32⟩
  | 39 => ⟨S256x128, .f32⟩
  | 40 => ⟨S_, .f32⟩
  | 41 => ⟨S256x128, .f32⟩
  | 42 => ⟨S256x128, .f32⟩
  | 43 => ⟨S256x128, .f32⟩
  | 44 => ⟨S256x128, .f32⟩
  | 45 => ⟨S_, .f32⟩
  | 46 => ⟨S256x128, .f32⟩
  | 47 => ⟨S256x128, .f32⟩
  | 48 => ⟨S_, .f32⟩
  | 49 => ⟨S256x128, .f32⟩
  | 50 => ⟨S256x128, .f32⟩
  | 51 => ⟨S256x128, .f32⟩
  | 52 => ⟨S256x128, .f32⟩
  | 53 => ⟨S256x128, .f32⟩
  | 54 => ⟨S_, .f32⟩
  | 55 => ⟨S256x128, .f32⟩
  | 56 => ⟨S256x128, .f32⟩
  | 57 => ⟨S_, .f32⟩
  | 58 => ⟨S256x128, .f32⟩
  | 59 => ⟨S256x128, .f32⟩
  | 60 => ⟨S256x128, .f32⟩
  | 61 => ⟨S256x128, .f32⟩
  | 62 => ⟨S256x128, .f32⟩
  | 63 => ⟨S256x128, .f32⟩
  | 64 => ⟨S256x128, .f32⟩
  | 65 => ⟨S128x5, .f32⟩
  | 66 => ⟨S256x5, .f32⟩
  | 67 => ⟨S1x5, .f32⟩
  | 68 => ⟨S256x5, .f32⟩
  | 69 => ⟨S256x5, .f32⟩
  | 70 => ⟨S256x2, .f32⟩
  | 71 => ⟨S256x2, .f32⟩
  | 72 => ⟨S256x2, .f32⟩
  | 73 => ⟨S_, .f32⟩
  | 74 => ⟨S256x2, .f32⟩
  | 75 => ⟨S256x2, .f32⟩
  | 76 => ⟨S256x1, .f32⟩
  | 77 => ⟨S256, .f32⟩
  | 78 => ⟨S256, .f32⟩
  | 79 => ⟨S256x2, .f32⟩
  | 80 => ⟨S256x2, .f32⟩
  | 81 => ⟨S256x2, .f32⟩
  | 82 => ⟨S2x64, .f32⟩
  | 83 => ⟨S256x64, .f32⟩
  | 84 => ⟨S1x64, .f32⟩
  | 85 => ⟨S256x64, .f32⟩
  | 86 => ⟨S256x64, .f32⟩
  | 87 => ⟨S_, .f32⟩
  | 88 => ⟨S256x64, .f32⟩
  | 89 => ⟨S256x64, .f32⟩
  | 90 => ⟨S2x256, .f32⟩
  | 91 => ⟨S256x128, .f32⟩
  | 92 => ⟨S256x192, .f32⟩
  | 93 => ⟨S128x512, .f32⟩
  | 94 => ⟨S256x512, .f32⟩
  | 95 => ⟨S192x512, .f32⟩
  | 96 => ⟨S256x512, .f32⟩
  | 97 => ⟨S1x512, .f32⟩
  | 98 => ⟨S256x512, .f32⟩
  | 99 => ⟨S256x512, .f32⟩
  | 100 => ⟨S256x512, .f32⟩
  | 101 => ⟨S1x512, .f32⟩
  | 102 => ⟨S256x512, .f32⟩
  | 103 => ⟨S256x512, .f32⟩
  | 104 => ⟨S256x128, .f32⟩
  | 105 => ⟨S256x128, .f32⟩
  | 106 => ⟨S256x128, .f32⟩
  | 107 => ⟨S256x128, .f32⟩
  | 108 => ⟨S256x128, .f32⟩
  | 109 => ⟨S256x128, .f32⟩
  | 110 => ⟨S_, .f32⟩
  | 111 => ⟨S256x128, .f32⟩
  | 112 => ⟨S256x128, .f32⟩
  | 113 => ⟨S_, .f32⟩
  | 114 => ⟨S256x128, .f32⟩
  | 115 => ⟨S256x128, .f32⟩
  | 116 => ⟨S256x128, .f32⟩
  | 117 => ⟨S256x128, .f32⟩
  | 118 => ⟨S_, .f32⟩
  | 119 => ⟨S256x128, .f32⟩
  | 120 => ⟨S256x128, .f32⟩
  | 121 => ⟨S_, .f32⟩
  | 122 => ⟨S256x128, .f32⟩
  | 123 => ⟨S256x128, .f32⟩
  | 124 => ⟨S256x128, .f32⟩
  | 125 => ⟨S256x128, .f32⟩
  | 126 => ⟨S256x128, .f32⟩
  | 127 => ⟨S_, .f32⟩
  | _ => ⟨S8x256x2, .f32⟩

abbrev hbmTy0_6 (i : Nat) : BufTy := match i % 128 with
  | 0 => ⟨S256x128, .f32⟩
  | 1 => ⟨S256x128, .f32⟩
  | 2 => ⟨S_, .f32⟩
  | 3 => ⟨S256x128, .f32⟩
  | 4 => ⟨S256x128, .f32⟩
  | 5 => ⟨S256x128, .f32⟩
  | 6 => ⟨S256x128, .f32⟩
  | 7 => ⟨S256x128, .f32⟩
  | 8 => ⟨S256x128, .f32⟩
  | 9 => ⟨S256x128, .f32⟩
  | 10 => ⟨S128x5, .f32⟩
  | 11 => ⟨S256x5, .f32⟩
  | 12 => ⟨S1x5, .f32⟩
  | 13 => ⟨S256x5, .f32⟩
  | 14 => ⟨S256x5, .f32⟩
  | 15 => ⟨S256x2, .f32⟩
  | 16 => ⟨S256x2, .f32⟩
  | 17 => ⟨S256x2, .f32⟩
  | 18 => ⟨S_, .f32⟩
  | 19 => ⟨S256x2, .f32⟩
  | 20 => ⟨S256x2, .f32⟩
  | 21 => ⟨S256x1, .f32⟩
  | 22 => ⟨S256, .f32⟩
  | 23 => ⟨S256, .f32⟩
  | 24 => ⟨S256x2, .f32⟩
  | 25 => ⟨S256x2, .f32⟩
  | 26 => ⟨S256x2, .f32⟩
  | 27 => ⟨S2x64, .f32⟩
  | 28 => ⟨S256x64, .f32⟩
  | 29 => ⟨S1x64, .f32⟩
  | 30 => ⟨S256x64, .f32⟩
  | 31 => ⟨S256x64, .f32⟩
  | 32 => ⟨S_, .f32⟩
  | 33 => ⟨S256x64, .f32⟩
  | 34 => ⟨S256x64, .f32⟩
  | 35 => ⟨S2x256, .f32⟩
  | 36 => ⟨S256x128, .f32⟩
  | 37 => ⟨S256x192, .f32⟩
  | 38 => ⟨S128x512, .f32⟩
  | 39 => ⟨S256x512, .f32⟩
  | 40 => ⟨S192x512, .f32⟩
  | 41 => ⟨S256x512, .f32⟩
  | 42 => ⟨S1x512, .f32⟩
  | 43 => ⟨S256x512, .f32⟩
  | 44 => ⟨S256x512, .f32⟩
  | 45 => ⟨S256x512, .f32⟩
  | 46 => ⟨S1x512, .f32⟩
  | 47 => ⟨S256x512, .f32⟩
  | 48 => ⟨S256x512, .f32⟩
  | 49 => ⟨S256x128, .f32⟩
  | 50 => ⟨S256x128, .f32⟩
  | 51 => ⟨S256x128, .f32⟩
  | 52 => ⟨S256x128, .f32⟩
  | 53 => ⟨S256x128, .f32⟩
  | 54 => ⟨S256x128, .f32⟩
  | 55 => ⟨S_, .f32⟩
  | 56 => ⟨S256x128, .f32⟩
  | 57 => ⟨S256x128, .f32⟩
  | 58 => ⟨S_, .f32⟩
  | 59 => ⟨S256x128, .f32⟩
  | 60 => ⟨S256x128, .f32⟩
  | 61 => ⟨S256x128, .f32⟩
  | 62 => ⟨S256x128, .f32⟩
  | 63 => ⟨S_, .f32⟩
  | 64 => ⟨S256x128, .f32⟩
  | 65 => ⟨S256x128, .f32⟩
  | 66 => ⟨S_, .f32⟩
  | 67 => ⟨S256x128, .f32⟩
  | 68 => ⟨S256x128, .f32⟩
  | 69 => ⟨S256x128, .f32⟩
  | 70 => ⟨S256x128, .f32⟩
  | 71 => ⟨S256x128, .f32⟩
  | 72 => ⟨S_, .f32⟩
  | 73 => ⟨S256x128, .f32⟩
  | 74 => ⟨S256x128, .f32⟩
  | 75 => ⟨S_, .f32⟩
  | 76 => ⟨S256x128, .f32⟩
  | 77 => ⟨S256x128, .f32⟩
  | 78 => ⟨S256x128, .f32⟩
  | 79 => ⟨S256x128, .f32⟩
  | 80 => ⟨S256x128, .f32⟩
  | 81 => ⟨S256x128, .f32⟩
  | 82 => ⟨S256x128, .f32⟩
  | 83 => ⟨S128x5, .f32⟩
  | 84 => ⟨S256x5, .f32⟩
  | 85 => ⟨S1x5, .f32⟩
  | 86 => ⟨S256x5, .f32⟩
  | 87 => ⟨S256x5, .f32⟩
  | 88 => ⟨S256x2, .f32⟩
  | 89 => ⟨S256x2, .f32⟩
  | 90 => ⟨S256x2, .f32⟩
  | 91 => ⟨S_, .f32⟩
  | 92 => ⟨S256x2, .f32⟩
  | 93 => ⟨S256x2, .f32⟩
  | 94 => ⟨S256x1, .f32⟩
  | 95 => ⟨S256, .f32⟩
  | 96 => ⟨S256, .f32⟩
  | 97 => ⟨S256x2, .f32⟩
  | 98 => ⟨S256x2, .f32⟩
  | 99 => ⟨S256x2, .f32⟩
  | 100 => ⟨S2x64, .f32⟩
  | 101 => ⟨S256x64, .f32⟩
  | 102 => ⟨S1x64, .f32⟩
  | 103 => ⟨S256x64, .f32⟩
  | 104 => ⟨S256x64, .f32⟩
  | 105 => ⟨S_, .f32⟩
  | 106 => ⟨S256x64, .f32⟩
  | 107 => ⟨S256x64, .f32⟩
  | 108 => ⟨S2x256, .f32⟩
  | 109 => ⟨S256x128, .f32⟩
  | 110 => ⟨S256x192, .f32⟩
  | 111 => ⟨S128x512, .f32⟩
  | 112 => ⟨S256x512, .f32⟩
  | 113 => ⟨S192x512, .f32⟩
  | 114 => ⟨S256x512, .f32⟩
  | 115 => ⟨S1x512, .f32⟩
  | 116 => ⟨S256x512, .f32⟩
  | 117 => ⟨S256x512, .f32⟩
  | 118 => ⟨S256x512, .f32⟩
  | 119 => ⟨S1x512, .f32⟩
  | 120 => ⟨S256x512, .f32⟩
  | 121 => ⟨S256x512, .f32⟩
  | 122 => ⟨S256x128, .f32⟩
  | 123 => ⟨S256x128, .f32⟩
  | 124 => ⟨S256x128, .f32⟩
  | 125 => ⟨S256x128, .f32⟩
  | 126 => ⟨S256x128, .f32⟩
  | 127 => ⟨S256x128, .f32⟩
  | _ => ⟨S8x256x2, .f32⟩

abbrev hbmTy0_7 (i : Nat) : BufTy := match i % 128 with
  | 0 => ⟨S_, .f32⟩
  | 1 => ⟨S256x128, .f32⟩
  | 2 => ⟨S256x128, .f32⟩
  | 3 => ⟨S_, .f32⟩
  | 4 => ⟨S256x128, .f32⟩
  | 5 => ⟨S256x128, .f32⟩
  | 6 => ⟨S256x128, .f32⟩
  | 7 => ⟨S256x128, .f32⟩
  | 8 => ⟨S_, .f32⟩
  | 9 => ⟨S256x128, .f32⟩
  | 10 => ⟨S256x128, .f32⟩
  | 11 => ⟨S_, .f32⟩
  | 12 => ⟨S256x128, .f32⟩
  | 13 => ⟨S256x128, .f32⟩
  | 14 => ⟨S256x128, .f32⟩
  | 15 => ⟨S256x128, .f32⟩
  | 16 => ⟨S256x128, .f32⟩
  | 17 => ⟨S_, .f32⟩
  | 18 => ⟨S256x128, .f32⟩
  | 19 => ⟨S256x128, .f32⟩
  | 20 => ⟨S_, .f32⟩
  | 21 => ⟨S256x128, .f32⟩
  | 22 => ⟨S256x128, .f32⟩
  | 23 => ⟨S256x128, .f32⟩
  | 24 => ⟨S256x128, .f32⟩
  | 25 => ⟨S256x128, .f32⟩
  | 26 => ⟨S256x128, .f32⟩
  | 27 => ⟨S256x128, .f32⟩
  | 28 => ⟨S128x5, .f32⟩
  | 29 => ⟨S256x5, .f32⟩
  | 30 => ⟨S1x5, .f32⟩
  | 31 => ⟨S256x5, .f32⟩
  | 32 => ⟨S256x5, .f32⟩
  | 33 => ⟨S256x2, .f32⟩
  | 34 => ⟨S256x2, .f32⟩
  | 35 => ⟨S256x2, .f32⟩
  | 36 => ⟨S_, .f32⟩
  | 37 => ⟨S256x2, .f32⟩
  | 38 => ⟨S256x2, .f32⟩
  | 39 => ⟨S256x1, .f32⟩
  | 40 => ⟨S256, .f32⟩
  | 41 => ⟨S256, .f32⟩
  | 42 => ⟨S256x2, .f32⟩
  | 43 => ⟨S256x2, .f32⟩
  | 44 => ⟨S256x2, .f32⟩
  | 45 => ⟨S2x64, .f32⟩
  | 46 => ⟨S256x64, .f32⟩
  | 47 => ⟨S1x64, .f32⟩
  | 48 => ⟨S256x64, .f32⟩
  | 49 => ⟨S256x64, .f32⟩
  | 50 => ⟨S_, .f32⟩
  | 51 => ⟨S256x64, .f32⟩
  | 52 => ⟨S256x64, .f32⟩
  | 53 => ⟨S2x256, .f32⟩
  | 54 => ⟨S256x128, .f32⟩
  | 55 => ⟨S256x192, .f32⟩
  | 56 => ⟨S128x512, .f32⟩
  | 57 => ⟨S256x512, .f32⟩
  | 58 => ⟨S192x512, .f32⟩
  | 59 => ⟨S256x512, .f32⟩
  | 60 => ⟨S1x512, .f32⟩
  | 61 => ⟨S256x512, .f32⟩
  | 62 => ⟨S256x512, .f32⟩
  | 63 => ⟨S256x512, .f32⟩
  | 64 => ⟨S1x512, .f32⟩
  | 65 => ⟨S256x512, .f32⟩
  | 66 => ⟨S256x512, .f32⟩
  | 67 => ⟨S256x128, .f32⟩
  | 68 => ⟨S256x128, .f32⟩
  | 69 => ⟨S256x128, .f32⟩
  | 70 => ⟨S256x128, .f32⟩
  | 71 => ⟨S256x128, .f32⟩
  | 72 => ⟨S256x128, .f32⟩
  | 73 => ⟨S_, .f32⟩
  | 74 => ⟨S256x128, .f32⟩
  | 75 => ⟨S256x128, .f32⟩
  | 76 => ⟨S_, .f32⟩
  | 77 => ⟨S256x128, .f32⟩
  | 78 => ⟨S256x128, .f32⟩
  | 79 => ⟨S256x128, .f32⟩
  | 80 => ⟨S256x128, .f32⟩
  | 81 => ⟨S_, .f32⟩
  | 82 => ⟨S256x128, .f32⟩
  | 83 => ⟨S256x128, .f32⟩
  | 84 => ⟨S_, .f32⟩
  | 85 => ⟨S256x128, .f32⟩
  | 86 => ⟨S256x128, .f32⟩
  | 87 => ⟨S256x128, .f32⟩
  | 88 => ⟨S256x128, .f32⟩
  | 89 => ⟨S256x128, .f32⟩
  | 90 => ⟨S_, .f32⟩
  | 91 => ⟨S256x128, .f32⟩
  | 92 => ⟨S256x128, .f32⟩
  | 93 => ⟨S_, .f32⟩
  | 94 => ⟨S256x128, .f32⟩
  | 95 => ⟨S256x128, .f32⟩
  | 96 => ⟨S256x128, .f32⟩
  | 97 => ⟨S256x128, .f32⟩
  | 98 => ⟨S256x128, .f32⟩
  | 99 => ⟨S256x128, .f32⟩
  | 100 => ⟨S256x128, .f32⟩
  | 101 => ⟨S128x5, .f32⟩
  | 102 => ⟨S256x5, .f32⟩
  | 103 => ⟨S1x5, .f32⟩
  | 104 => ⟨S256x5, .f32⟩
  | 105 => ⟨S256x5, .f32⟩
  | 106 => ⟨S256x2, .f32⟩
  | 107 => ⟨S256x2, .f32⟩
  | 108 => ⟨S256x2, .f32⟩
  | 109 => ⟨S_, .f32⟩
  | 110 => ⟨S256x2, .f32⟩
  | 111 => ⟨S256x2, .f32⟩
  | 112 => ⟨S256x1, .f32⟩
  | 113 => ⟨S256, .f32⟩
  | 114 => ⟨S256, .f32⟩
  | 115 => ⟨S256x2, .f32⟩
  | 116 => ⟨S256x2, .f32⟩
  | 117 => ⟨S256x2, .f32⟩
  | 118 => ⟨S2x64, .f32⟩
  | 119 => ⟨S256x64, .f32⟩
  | 120 => ⟨S1x64, .f32⟩
  | 121 => ⟨S256x64, .f32⟩
  | 122 => ⟨S256x64, .f32⟩
  | 123 => ⟨S_, .f32⟩
  | 124 => ⟨S256x64, .f32⟩
  | 125 => ⟨S256x64, .f32⟩
  | 126 => ⟨S2x256, .f32⟩
  | 127 => ⟨S256x128, .f32⟩
  | _ => ⟨S8x256x2, .f32⟩

abbrev hbmTy0_8 (i : Nat) : BufTy := match i % 128 with
  | 0 => ⟨S256x192, .f32⟩
  | 1 => ⟨S128x512, .f32⟩
  | 2 => ⟨S256x512, .f32⟩
  | 3 => ⟨S192x512, .f32⟩
  | 4 => ⟨S256x512, .f32⟩
  | 5 => ⟨S1x512, .f32⟩
  | 6 => ⟨S256x512, .f32⟩
  | 7 => ⟨S256x512, .f32⟩
  | 8 => ⟨S256x512, .f32⟩
  | 9 => ⟨S1x512, .f32⟩
  | 10 => ⟨S256x512, .f32⟩
  | 11 => ⟨S256x512, .f32⟩
  | 12 => ⟨S256x128, .f32⟩
  | 13 => ⟨S256x128, .f32⟩
  | 14 => ⟨S256x128, .f32⟩
  | 15 => ⟨S256x128, .f32⟩
  | 16 => ⟨S256x128, .f32⟩
  | 17 => ⟨S256x128, .f32⟩
  | 18 => ⟨S_, .f32⟩
  | 19 => ⟨S256x128, .f32⟩
  | 20 => ⟨S256x128, .f32⟩
  | 21 => ⟨S_, .f32⟩
  | 22 => ⟨S256x128, .f32⟩
  | 23 => ⟨S256x128, .f32⟩
  | 24 => ⟨S256x128, .f32⟩
  | 25 => ⟨S256x128, .f32⟩
  | 26 => ⟨S_, .f32⟩
  | 27 => ⟨S256x128, .f32⟩
  | 28 => ⟨S256x128, .f32⟩
  | 29 => ⟨S_, .f32⟩
  | 30 => ⟨S256x128, .f32⟩
  | 31 => ⟨S256x128, .f32⟩
  | 32 => ⟨S256x128, .f32⟩
  | 33 => ⟨S256x128, .f32⟩
  | 34 => ⟨S256x128, .f32⟩
  | 35 => ⟨S_, .f32⟩
  | 36 => ⟨S256x128, .f32⟩
  | 37 => ⟨S256x128, .f32⟩
  | 38 => ⟨S_, .f32⟩
  | 39 => ⟨S256x128, .f32⟩
  | 40 => ⟨S256x128, .f32⟩
  | 41 => ⟨S256x128, .f32⟩
  | 42 => ⟨S256x128, .f32⟩
  | 43 => ⟨S256x128, .f32⟩
  | 44 => ⟨S256x128, .f32⟩
  | 45 => ⟨S256x128, .f32⟩
  | 46 => ⟨S128x5, .f32⟩
  | 47 => ⟨S256x5, .f32⟩
  | 48 => ⟨S1x5, .f32⟩
  | 49 => ⟨S256x5, .f32⟩
  | 50 => ⟨S256x5, .f32⟩
  | 51 => ⟨S256x2, .f32⟩
  | 52 => ⟨S256x2, .f32⟩
  | 53 => ⟨S256x2, .f32⟩
  | 54 => ⟨S_, .f32⟩
  | 55 => ⟨S256x2, .f32⟩
  | 56 => ⟨S256x2, .f32⟩
  | 57 => ⟨S256x1, .f32⟩
  | 58 => ⟨S256, .f32⟩
  | 59 => ⟨S256, .f32⟩
  | 60 => ⟨S256x2, .f32⟩
  | 61 => ⟨S256x2, .f32⟩
  | 62 => ⟨S256x2, .f32⟩
  | 63 => ⟨S2x64, .f32⟩
  | 64 => ⟨S256x64, .f32⟩
  | 65 => ⟨S1x64, .f32⟩
  | 66 => ⟨S256x64, .f32⟩
  | 67 => ⟨S256x64, .f32⟩
  | 68 => ⟨S_, .f32⟩
  | 69 => ⟨S256x64, .f32⟩
  | 70 => ⟨S256x64, .f32⟩
  | 71 => ⟨S2x256, .f32⟩
  | 72 => ⟨S256x128, .f32⟩
  | 73 => ⟨S256x192, .f32⟩
  | 74 => ⟨S128x512, .f32⟩
  | 75 => ⟨S256x512, .f32⟩
  | 76 => ⟨S192x512, .f32⟩
  | 77 => ⟨S256x512, .f32⟩
  | 78 => ⟨S1x512, .f32⟩
  | 79 => ⟨S256x512, .f32⟩
  | 80 => ⟨S256x512, .f32⟩
  | 81 => ⟨S256x512, .f32⟩
  | 82 => ⟨S1x512, .f32⟩
  | 83 => ⟨S256x512, .f32⟩
  | 84 => ⟨S256x512, .f32⟩
  | 85 => ⟨S256x128, .f32⟩
  | 86 => ⟨S256x128, .f32⟩
  | 87 => ⟨S256x128, .f32⟩
  | 88 => ⟨S256x128, .f32⟩
  | 89 => ⟨S256x128, .f32⟩
  | 90 => ⟨S256x128, .f32⟩
  | 91 => ⟨S_, .f32⟩
  | 92 => ⟨S256x128, .f32⟩
  | 93 => ⟨S256x128, .f32⟩
  | 94 => ⟨S_, .f32⟩
  | 95 => ⟨S256x128, .f32⟩
  | 96 => ⟨S256x128, .f32⟩
  | 97 => ⟨S256x128, .f32⟩
  | 98 => ⟨S256x128, .f32⟩
  | 99 => ⟨S_, .f32⟩
  | 100 => ⟨S256x128, .f32⟩
  | 101 => ⟨S256x128, .f32⟩
  | 102 => ⟨S_, .f32⟩
  | 103 => ⟨S256x128, .f32⟩
  | 104 => ⟨S256x128, .f32⟩
  | 105 => ⟨S256x128, .f32⟩
  | 106 => ⟨S256x128, .f32⟩
  | 107 => ⟨S256x128, .f32⟩
  | 108 => ⟨S_, .f32⟩
  | 109 => ⟨S256x128, .f32⟩
  | 110 => ⟨S256x128, .f32⟩
  | 111 => ⟨S_, .f32⟩
  | 112 => ⟨S256x128, .f32⟩
  | 113 => ⟨S256x128, .f32⟩
  | 114 => ⟨S256x128, .f32⟩
  | 115 => ⟨S256x128, .f32⟩
  | 116 => ⟨S256x128, .f32⟩
  | 117 => ⟨S256x128, .f32⟩
  | 118 => ⟨S256x128, .f32⟩
  | 119 => ⟨S128x5, .f32⟩
  | 120 => ⟨S256x5, .f32⟩
  | 121 => ⟨S1x5, .f32⟩
  | 122 => ⟨S256x5, .f32⟩
  | 123 => ⟨S256x5, .f32⟩
  | 124 => ⟨S256x2, .f32⟩
  | 125 => ⟨S256x2, .f32⟩
  | 126 => ⟨S256x2, .f32⟩
  | 127 => ⟨S_, .f32⟩
  | _ => ⟨S8x256x2, .f32⟩

abbrev hbmTy0_9 (i : Nat) : BufTy := match i % 128 with
  | 0 => ⟨S256x2, .f32⟩
  | 1 => ⟨S256x2, .f32⟩
  | 2 => ⟨S256x1, .f32⟩
  | 3 => ⟨S256, .f32⟩
  | 4 => ⟨S256, .f32⟩
  | 5 => ⟨S256x2, .f32⟩
  | 6 => ⟨S256x2, .f32⟩
  | 7 => ⟨S256x2, .f32⟩
  | 8 => ⟨S2x64, .f32⟩
  | 9 => ⟨S256x64, .f32⟩
  | 10 => ⟨S1x64, .f32⟩
  | 11 => ⟨S256x64, .f32⟩
  | 12 => ⟨S256x64, .f32⟩
  | 13 => ⟨S_, .f32⟩
  | 14 => ⟨S256x64, .f32⟩
  | 15 => ⟨S256x64, .f32⟩
  | 16 => ⟨S2x256, .f32⟩
  | 17 => ⟨S256x128, .f32⟩
  | 18 => ⟨S256x192, .f32⟩
  | 19 => ⟨S128x512, .f32⟩
  | 20 => ⟨S256x512, .f32⟩
  | 21 => ⟨S192x512, .f32⟩
  | 22 => ⟨S256x512, .f32⟩
  | 23 => ⟨S1x512, .f32⟩
  | 24 => ⟨S256x512, .f32⟩
  | 25 => ⟨S256x512, .f32⟩
  | 26 => ⟨S256x512, .f32⟩
  | 27 => ⟨S1x512, .f32⟩
  | 28 => ⟨S256x512, .f32⟩
  | 29 => ⟨S256x512, .f32⟩
  | 30 => ⟨S256x128, .f32⟩
  | 31 => ⟨S256x128, .f32⟩
  | 32 => ⟨S256x128, .f32⟩
  | 33 => ⟨S256x128, .f32⟩
  | 34 => ⟨S256x128, .f32⟩
  | 35 => ⟨S256x128, .f32⟩
  | 36 => ⟨S_, .f32⟩
  | 37 => ⟨S256x128, .f32⟩
  | 38 => ⟨S256x128, .f32⟩
  | 39 => ⟨S_, .f32⟩
  | 40 => ⟨S256x128, .f32⟩
  | 41 => ⟨S256x128, .f32⟩
  | 42 => ⟨S256x128, .f32⟩
  | 43 => ⟨S256x128, .f32⟩
  | 44 => ⟨S_, .f32⟩
  | 45 => ⟨S256x128, .f32⟩
  | 46 => ⟨S256x128, .f32⟩
  | 47 => ⟨S_, .f32⟩
  | 48 => ⟨S256x128, .f32⟩
  | 49 => ⟨S256x128, .f32⟩
  | 50 => ⟨S256x128, .f32⟩
  | 51 => ⟨S256x128, .f32⟩
  | 52 => ⟨S256x128, .f32⟩
  | 53 => ⟨S_, .f32⟩
  | 54 => ⟨S256x128, .f32⟩
  | 55 => ⟨S256x128, .f32⟩
  | 56 => ⟨S_, .f32⟩
  | 57 => ⟨S256x128, .f32⟩
  | 58 => ⟨S256x128, .f32⟩
  | 59 => ⟨S256x128, .f32⟩
  | 60 => ⟨S256x128, .f32⟩
  | 61 => ⟨S256x128, .f32⟩
  | 62 => ⟨S256x128, .f32⟩
  | 63 => ⟨S256x128, .f32⟩
  | 64 => ⟨S128x5, .f32⟩
  | 65 => ⟨S256x5, .f32⟩
  | 66 => ⟨S1x5, .f32⟩
  | 67 => ⟨S256x5, .f32⟩
  | 68 => ⟨S256x5, .f32⟩
  | 69 => ⟨S256x2, .f32⟩
  | 70 => ⟨S256x2, .f32⟩
  | 71 => ⟨S256x2, .f32⟩
  | 72 => ⟨S_, .f32⟩
  | 73 => ⟨S256x2, .f32⟩
  | 74 => ⟨S256x2, .f32⟩
  | 75 => ⟨S256x1, .f32⟩
  | 76 => ⟨S256, .f32⟩
  | 77 => ⟨S256, .f32⟩
  | 78 => ⟨S256x2, .f32⟩
  | 79 => ⟨S256x2, .f32⟩
  | 80 => ⟨S256x2, .f32⟩
  | 81 => ⟨S2x64, .f32⟩
  | 82 => ⟨S256x64, .f32⟩
  | 83 => ⟨S1x64, .f32⟩
  | 84 => ⟨S256x64, .f32⟩
  | 85 => ⟨S256x64, .f32⟩
  | 86 => ⟨S_, .f32⟩
  | 87 => ⟨S256x64, .f32⟩
  | 88 => ⟨S256x64, .f32⟩
  | 89 => ⟨S2x256, .f32⟩
  | 90 => ⟨S256x128, .f32⟩
  | 91 => ⟨S256x192, .f32⟩
  | 92 => ⟨S128x512, .f32⟩
  | 93 => ⟨S256x512, .f32⟩
  | 94 => ⟨S192x512, .f32⟩
  | 95 => ⟨S256x512, .f32⟩
  | 96 => ⟨S1x512, .f32⟩
  | 97 => ⟨S256x512, .f32⟩
  | 98 => ⟨S256x512, .f32⟩
  | 99 => ⟨S256x512, .f32⟩
  | 100 => ⟨S1x512, .f32⟩
  | 101 => ⟨S256x512, .f32⟩
  | 102 => ⟨S256x512, .f32⟩
  | 103 => ⟨S256x128, .f32⟩
  | 104 => ⟨S256x128, .f32⟩
  | 105 => ⟨S256x128, .f32⟩
  | 106 => ⟨S256x128, .f32⟩
  | 107 => ⟨S256x128, .f32⟩
  | 108 => ⟨S256x128, .f32⟩
  | 109 => ⟨S_, .f32⟩
  | 110 => ⟨S256x128, .f32⟩
  | 111 => ⟨S256x128, .f32⟩
  | 112 => ⟨S_, .f32⟩
  | 113 => ⟨S256x128, .f32⟩
  | 114 => ⟨S256x128, .f32⟩
  | 115 => ⟨S256x128, .f32⟩
  | 116 => ⟨S256x128, .f32⟩
  | 117 => ⟨S_, .f32⟩
  | 118 => ⟨S256x128, .f32⟩
  | 119 => ⟨S256x128, .f32⟩
  | 120 => ⟨S_, .f32⟩
  | 121 => ⟨S256x128, .f32⟩
  | 122 => ⟨S256x128, .f32⟩
  | 123 => ⟨S256x128, .f32⟩
  | 124 => ⟨S256x128, .f32⟩
  | 125 => ⟨S256x128, .f32⟩
  | 126 => ⟨S_, .f32⟩
  | 127 => ⟨S256x128, .f32⟩
  | _ => ⟨S8x256x2, .f32⟩

abbrev hbmTy0_10 (i : Nat) : BufTy := match i % 128 with
  | 0 => ⟨S256x128, .f32⟩
  | 1 => ⟨S_, .f32⟩
  | 2 => ⟨S256x128, .f32⟩
  | 3 => ⟨S256x128, .f32⟩
  | 4 => ⟨S256x128, .f32⟩
  | 5 => ⟨S256x128, .f32⟩
  | 6 => ⟨S256x128, .f32⟩
  | 7 => ⟨S256x128, .f32⟩
  | 8 => ⟨S256x128, .f32⟩
  | 9 => ⟨S128x5, .f32⟩
  | 10 => ⟨S256x5, .f32⟩
  | 11 => ⟨S1x5, .f32⟩
  | 12 => ⟨S256x5, .f32⟩
  | 13 => ⟨S256x5, .f32⟩
  | 14 => ⟨S256x2, .f32⟩
  | 15 => ⟨S256x2, .f32⟩
  | 16 => ⟨S256x2, .f32⟩
  | 17 => ⟨S_, .f32⟩
  | 18 => ⟨S256x2, .f32⟩
  | 19 => ⟨S256x2, .f32⟩
  | 20 => ⟨S256x1, .f32⟩
  | 21 => ⟨S256, .f32⟩
  | 22 => ⟨S256, .f32⟩
  | 23 => ⟨S256x2, .f32⟩
  | 24 => ⟨S256x2, .f32⟩
  | 25 => ⟨S256x2, .f32⟩
  | 26 => ⟨S2x64, .f32⟩
  | 27 => ⟨S256x64, .f32⟩
  | 28 => ⟨S1x64, .f32⟩
  | 29 => ⟨S256x64, .f32⟩
  | 30 => ⟨S256x64, .f32⟩
  | 31 => ⟨S_, .f32⟩
  | 32 => ⟨S256x64, .f32⟩
  | 33 => ⟨S256x64, .f32⟩
  | 34 => ⟨S2x256, .f32⟩
  | 35 => ⟨S256x128, .f32⟩
  | 36 => ⟨S256x192, .f32⟩
  | 37 => ⟨S128x512, .f32⟩
  | 38 => ⟨S256x512, .f32⟩
  | 39 => ⟨S192x512, .f32⟩
  | 40 => ⟨S256x512, .f32⟩
  | 41 => ⟨S1x512, .f32⟩
  | 42 => ⟨S256x512, .f32⟩
  | 43 => ⟨S256x512, .f32⟩
  | 44 => ⟨S256x512, .f32⟩
  | 45 => ⟨S1x512, .f32⟩
  | 46 => ⟨S256x512, .f32⟩
  | 47 => ⟨S256x512, .f32⟩
  | 48 => ⟨S256x128, .f32⟩
  | 49 => ⟨S256x128, .f32⟩
  | 50 => ⟨S256x128, .f32⟩
  | 51 => ⟨S256x128, .f32⟩
  | 52 => ⟨S256x128, .f32⟩
  | 53 => ⟨S256x128, .f32⟩
  | 54 => ⟨S_, .f32⟩
  | 55 => ⟨S256x128, .f32⟩
  | 56 => ⟨S256x128, .f32⟩
  | 57 => ⟨S_, .f32⟩
  | 58 => ⟨S256x128, .f32⟩
  | 59 => ⟨S256x128, .f32⟩
  | 60 => ⟨S256x128, .f32⟩
  | 61 => ⟨S256x128, .f32⟩
  | 62 => ⟨S_, .f32⟩
  | 63 => ⟨S256x128, .f32⟩
  | 64 => ⟨S256x128, .f32⟩
  | 65 => ⟨S_, .f32⟩
  | 66 => ⟨S256x128, .f32⟩
  | 67 => ⟨S256x128, .f32⟩
  | 68 => ⟨S256x128, .f32⟩
  | 69 => ⟨S256x128, .f32⟩
  | 70 => ⟨S256x128, .f32⟩
  | 71 => ⟨S_, .f32⟩
  | 72 => ⟨S256x128, .f32⟩
  | 73 => ⟨S256x128, .f32⟩
  | 74 => ⟨S_, .f32⟩
  | 75 => ⟨S256x128, .f32⟩
  | 76 => ⟨S256x128, .f32⟩
  | 77 => ⟨S256x128, .f32⟩
  | 78 => ⟨S256x128, .f32⟩
  | 79 => ⟨S256x128, .f32⟩
  | 80 => ⟨S256x128, .f32⟩
  | 81 => ⟨S256x128, .f32⟩
  | 82 => ⟨S128x5, .f32⟩
  | 83 => ⟨S256x5, .f32⟩
  | 84 => ⟨S1x5, .f32⟩
  | 85 => ⟨S256x5, .f32⟩
  | 86 => ⟨S256x5, .f32⟩
  | 87 => ⟨S256x2, .f32⟩
  | 88 => ⟨S256x2, .f32⟩
  | 89 => ⟨S256x2, .f32⟩
  | 90 => ⟨S_, .f32⟩
  | 91 => ⟨S256x2, .f32⟩
  | 92 => ⟨S256x2, .f32⟩
  | 93 => ⟨S256x1, .f32⟩
  | 94 => ⟨S256, .f32⟩
  | 95 => ⟨S256, .f32⟩
  | 96 => ⟨S256x2, .f32⟩
  | 97 => ⟨S256x2, .f32⟩
  | 98 => ⟨S256x2, .f32⟩
  | 99 => ⟨S1x256x2, .f32⟩
  | 100 => ⟨S1x256x2, .f32⟩
  | 101 => ⟨S1x256x2, .f32⟩
  | 102 => ⟨S1x256x2, .f32⟩
  | 103 => ⟨S1x256x2, .f32⟩
  | 104 => ⟨S1x256x2, .f32⟩
  | 105 => ⟨S1x256x2, .f32⟩
  | 106 => ⟨S1x256x2, .f32⟩
  | 107 => ⟨S1x256x2, .f32⟩
  | 108 => ⟨S1x256x2, .f32⟩
  | 109 => ⟨S1x256x2, .f32⟩
  | 110 => ⟨S1x256x2, .f32⟩
  | 111 => ⟨S12x256x2, .f32⟩
  | 112 => ⟨S1x256x2, .f32⟩
  | 113 => ⟨S1x256x2, .f32⟩
  | 114 => ⟨S1x256x2, .f32⟩
  | 115 => ⟨S1x256x2, .f32⟩
  | 116 => ⟨S1x256x2, .f32⟩
  | 117 => ⟨S1x256x2, .f32⟩
  | 118 => ⟨S1x256x2, .f32⟩
  | 119 => ⟨S1x256x2, .f32⟩
  | 120 => ⟨S1x256x2, .f32⟩
  | 121 => ⟨S1x256x2, .f32⟩
  | 122 => ⟨S1x256x2, .f32⟩
  | 123 => ⟨S1x256x2, .f32⟩
  | 124 => ⟨S12x256x2, .f32⟩
  | 125 => ⟨S1x256, .f32⟩
  | 126 => ⟨S1x256, .f32⟩
  | 127 => ⟨S1x256, .f32⟩
  | _ => ⟨S8x256x2, .f32⟩

abbrev hbmTy0_11 (i : Nat) : BufTy := match i % 128 with
  | 0 => ⟨S1x256, .f32⟩
  | 1 => ⟨S1x256, .f32⟩
  | 2 => ⟨S1x256, .f32⟩
  | 3 => ⟨S1x256, .f32⟩
  | 4 => ⟨S1x256, .f32⟩
  | 5 => ⟨S1x256, .f32⟩
  | 6 => ⟨S1x256, .f32⟩
  | 7 => ⟨S1x256, .f32⟩
  | 8 => ⟨S1x256, .f32⟩
  | 9 => ⟨S12x256, .f32⟩
  | _ => ⟨S8x256x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S8x256x2, .f32⟩

abbrev vmemTy0_0 (i : Nat) : BufTy := match i % 128 with
  | 0 => ⟨S256x128, .f32⟩
  | 1 => ⟨S256x2, .f32⟩
  | 2 => ⟨S2x256, .f32⟩
  | 3 => ⟨S256x128, .f32⟩
  | 4 => ⟨S1x256, .f32⟩
  | 5 => ⟨S8192x128, .f32⟩
  | 6 => ⟨S1x128, .f32⟩
  | 7 => ⟨S256x128, .f32⟩
  | 8 => ⟨S256x8192, .f32⟩
  | 9 => ⟨S256x128, .f32⟩
  | 10 => ⟨S256x2, .f32⟩
  | 11 => ⟨S2x256, .f32⟩
  | 12 => ⟨S256x128, .f32⟩
  | 13 => ⟨S1x256, .f32⟩
  | 14 => ⟨S8192x128, .f32⟩
  | 15 => ⟨S1x128, .f32⟩
  | 16 => ⟨S256x128, .f32⟩
  | 17 => ⟨S256x8192, .f32⟩
  | 18 => ⟨S256x128, .f32⟩
  | 19 => ⟨S256x2, .f32⟩
  | 20 => ⟨S2x256, .f32⟩
  | 21 => ⟨S256x128, .f32⟩
  | 22 => ⟨S1x256, .f32⟩
  | 23 => ⟨S8192x128, .f32⟩
  | 24 => ⟨S1x128, .f32⟩
  | 25 => ⟨S256x128, .f32⟩
  | 26 => ⟨S256x8192, .f32⟩
  | 27 => ⟨S256x128, .f32⟩
  | 28 => ⟨S256x2, .f32⟩
  | 29 => ⟨S2x256, .f32⟩
  | 30 => ⟨S256x128, .f32⟩
  | 31 => ⟨S1x256, .f32⟩
  | 32 => ⟨S8192x128, .f32⟩
  | 33 => ⟨S1x128, .f32⟩
  | 34 => ⟨S256x128, .f32⟩
  | 35 => ⟨S256x8192, .f32⟩
  | 36 => ⟨S256x128, .f32⟩
  | 37 => ⟨S256x2, .f32⟩
  | 38 => ⟨S2x256, .f32⟩
  | 39 => ⟨S256x128, .f32⟩
  | 40 => ⟨S1x256, .f32⟩
  | 41 => ⟨S8192x128, .f32⟩
  | 42 => ⟨S1x128, .f32⟩
  | 43 => ⟨S256x128, .f32⟩
  | 44 => ⟨S256x8192, .f32⟩
  | 45 => ⟨S256x128, .f32⟩
  | 46 => ⟨S256x2, .f32⟩
  | 47 => ⟨S2x256, .f32⟩
  | 48 => ⟨S256x128, .f32⟩
  | 49 => ⟨S1x256, .f32⟩
  | 50 => ⟨S8192x128, .f32⟩
  | 51 => ⟨S1x128, .f32⟩
  | 52 => ⟨S256x128, .f32⟩
  | 53 => ⟨S256x8192, .f32⟩
  | 54 => ⟨S256x128, .f32⟩
  | 55 => ⟨S256x2, .f32⟩
  | 56 => ⟨S2x256, .f32⟩
  | 57 => ⟨S256x128, .f32⟩
  | 58 => ⟨S1x256, .f32⟩
  | 59 => ⟨S8192x128, .f32⟩
  | 60 => ⟨S1x128, .f32⟩
  | 61 => ⟨S256x128, .f32⟩
  | 62 => ⟨S256x8192, .f32⟩
  | 63 => ⟨S256x128, .f32⟩
  | 64 => ⟨S256x2, .f32⟩
  | 65 => ⟨S2x256, .f32⟩
  | 66 => ⟨S256x128, .f32⟩
  | 67 => ⟨S1x256, .f32⟩
  | 68 => ⟨S8192x128, .f32⟩
  | 69 => ⟨S1x128, .f32⟩
  | 70 => ⟨S256x128, .f32⟩
  | 71 => ⟨S256x8192, .f32⟩
  | 72 => ⟨S256x128, .f32⟩
  | 73 => ⟨S256x2, .f32⟩
  | 74 => ⟨S2x256, .f32⟩
  | 75 => ⟨S256x128, .f32⟩
  | 76 => ⟨S1x256, .f32⟩
  | 77 => ⟨S8192x128, .f32⟩
  | 78 => ⟨S1x128, .f32⟩
  | 79 => ⟨S256x128, .f32⟩
  | 80 => ⟨S256x8192, .f32⟩
  | 81 => ⟨S256x128, .f32⟩
  | 82 => ⟨S256x2, .f32⟩
  | 83 => ⟨S2x256, .f32⟩
  | 84 => ⟨S256x128, .f32⟩
  | 85 => ⟨S1x256, .f32⟩
  | 86 => ⟨S8192x128, .f32⟩
  | 87 => ⟨S1x128, .f32⟩
  | 88 => ⟨S256x128, .f32⟩
  | 89 => ⟨S256x8192, .f32⟩
  | 90 => ⟨S256x128, .f32⟩
  | 91 => ⟨S256x2, .f32⟩
  | 92 => ⟨S2x256, .f32⟩
  | 93 => ⟨S256x128, .f32⟩
  | 94 => ⟨S1x256, .f32⟩
  | 95 => ⟨S8192x128, .f32⟩
  | 96 => ⟨S1x128, .f32⟩
  | 97 => ⟨S256x128, .f32⟩
  | 98 => ⟨S256x8192, .f32⟩
  | 99 => ⟨S256x128, .f32⟩
  | 100 => ⟨S256x2, .f32⟩
  | 101 => ⟨S2x256, .f32⟩
  | 102 => ⟨S256x128, .f32⟩
  | 103 => ⟨S1x256, .f32⟩
  | 104 => ⟨S8192x128, .f32⟩
  | 105 => ⟨S1x128, .f32⟩
  | 106 => ⟨S256x128, .f32⟩
  | 107 => ⟨S256x8192, .f32⟩
  | 108 => ⟨S256x128, .f32⟩
  | 109 => ⟨S256x2, .f32⟩
  | 110 => ⟨S2x256, .f32⟩
  | 111 => ⟨S256x128, .f32⟩
  | 112 => ⟨S1x256, .f32⟩
  | 113 => ⟨S8192x128, .f32⟩
  | 114 => ⟨S1x128, .f32⟩
  | 115 => ⟨S256x128, .f32⟩
  | 116 => ⟨S256x8192, .f32⟩
  | 117 => ⟨S256x128, .f32⟩
  | 118 => ⟨S256x2, .f32⟩
  | 119 => ⟨S2x256, .f32⟩
  | 120 => ⟨S256x128, .f32⟩
  | 121 => ⟨S1x256, .f32⟩
  | 122 => ⟨S8192x128, .f32⟩
  | 123 => ⟨S1x128, .f32⟩
  | 124 => ⟨S256x128, .f32⟩
  | 125 => ⟨S256x8192, .f32⟩
  | 126 => ⟨S256x128, .f32⟩
  | 127 => ⟨S256x2, .f32⟩
  | _ => ⟨S8x256x2, .f32⟩

abbrev vmemTy0_1 (i : Nat) : BufTy := match i % 128 with
  | 0 => ⟨S2x256, .f32⟩
  | 1 => ⟨S256x128, .f32⟩
  | 2 => ⟨S1x256, .f32⟩
  | 3 => ⟨S8192x128, .f32⟩
  | 4 => ⟨S1x128, .f32⟩
  | 5 => ⟨S256x128, .f32⟩
  | 6 => ⟨S256x8192, .f32⟩
  | 7 => ⟨S256x128, .f32⟩
  | 8 => ⟨S256x2, .f32⟩
  | 9 => ⟨S2x256, .f32⟩
  | 10 => ⟨S256x128, .f32⟩
  | 11 => ⟨S1x256, .f32⟩
  | 12 => ⟨S8192x128, .f32⟩
  | 13 => ⟨S1x128, .f32⟩
  | 14 => ⟨S256x128, .f32⟩
  | 15 => ⟨S256x8192, .f32⟩
  | 16 => ⟨S256x128, .f32⟩
  | 17 => ⟨S256x2, .f32⟩
  | 18 => ⟨S2x256, .f32⟩
  | 19 => ⟨S256x128, .f32⟩
  | 20 => ⟨S1x256, .f32⟩
  | 21 => ⟨S8192x128, .f32⟩
  | 22 => ⟨S1x128, .f32⟩
  | 23 => ⟨S256x128, .f32⟩
  | 24 => ⟨S256x8192, .f32⟩
  | 25 => ⟨S256x128, .f32⟩
  | 26 => ⟨S256x2, .f32⟩
  | 27 => ⟨S2x256, .f32⟩
  | 28 => ⟨S256x128, .f32⟩
  | 29 => ⟨S1x256, .f32⟩
  | 30 => ⟨S8192x128, .f32⟩
  | 31 => ⟨S1x128, .f32⟩
  | 32 => ⟨S256x128, .f32⟩
  | 33 => ⟨S256x8192, .f32⟩
  | 34 => ⟨S256x128, .f32⟩
  | 35 => ⟨S256x2, .f32⟩
  | 36 => ⟨S2x256, .f32⟩
  | 37 => ⟨S256x128, .f32⟩
  | 38 => ⟨S1x256, .f32⟩
  | 39 => ⟨S8192x128, .f32⟩
  | 40 => ⟨S1x128, .f32⟩
  | 41 => ⟨S256x128, .f32⟩
  | 42 => ⟨S256x8192, .f32⟩
  | 43 => ⟨S256x128, .f32⟩
  | 44 => ⟨S256x2, .f32⟩
  | 45 => ⟨S2x256, .f32⟩
  | 46 => ⟨S256x128, .f32⟩
  | 47 => ⟨S1x256, .f32⟩
  | 48 => ⟨S8192x128, .f32⟩
  | 49 => ⟨S1x128, .f32⟩
  | 50 => ⟨S256x128, .f32⟩
  | 51 => ⟨S256x8192, .f32⟩
  | _ => ⟨S8x256x2, .f32⟩

abbrev vmemTy (i : Nat) : BufTy := match i / 128 with
  | 0 => vmemTy0_0 i
  | 1 => vmemTy0_1 i
  | _ => ⟨S8x256x2, .f32⟩

abbrev bufTy : (tb : Table) → Fin (tcTables nBuf tb) → BufTy
  | .hbm, ⟨i, _⟩ => hbmTy i
  | .local _ .vmem, ⟨i, _⟩ => vmemTy i
  | _, _ => ⟨S8x256x2, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 160 → Bool
  | ⟨i, _⟩ => dmaSemScopedAt i

abbrev sig : RefSig :=
  ofTc nBuf bufTy 0 160 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_cst : Ref sig .tc := ⟨.hbm, 37, rfl⟩
abbrev main_call1_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call2_cst : Ref sig .tc := ⟨.hbm, 100, rfl⟩
abbrev main_call2_v0 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_10 : Ref sig .tc := ⟨.hbm, 123, rfl⟩
abbrev main_v94 : Ref sig .tc := ⟨.hbm, 124, rfl⟩
abbrev main_v95 : Ref sig .tc := ⟨.hbm, 125, rfl⟩
abbrev main_cst_11 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_12 : Ref sig .tc := ⟨.hbm, 131, rfl⟩
abbrev main_v100 : Ref sig .tc := ⟨.hbm, 132, rfl⟩
abbrev main_v101 : Ref sig .tc := ⟨.hbm, 133, rfl⟩
abbrev main_cst_13 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_14 : Ref sig .tc := ⟨.hbm, 140, rfl⟩
abbrev main_v107 : Ref sig .tc := ⟨.hbm, 141, rfl⟩
abbrev main_v108 : Ref sig .tc := ⟨.hbm, 142, rfl⟩
abbrev main_cst_15 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_call3_cst : Ref sig .tc := ⟨.hbm, 158, rfl⟩
abbrev main_call3_v0 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_16 : Ref sig .tc := ⟨.hbm, 181, rfl⟩
abbrev main_v144 : Ref sig .tc := ⟨.hbm, 182, rfl⟩
abbrev main_v145 : Ref sig .tc := ⟨.hbm, 183, rfl⟩
abbrev main_cst_17 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_18 : Ref sig .tc := ⟨.hbm, 189, rfl⟩
abbrev main_v150 : Ref sig .tc := ⟨.hbm, 190, rfl⟩
abbrev main_v151 : Ref sig .tc := ⟨.hbm, 191, rfl⟩
abbrev main_cst_19 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_cst_20 : Ref sig .tc := ⟨.hbm, 198, rfl⟩
abbrev main_v157 : Ref sig .tc := ⟨.hbm, 199, rfl⟩
abbrev main_v158 : Ref sig .tc := ⟨.hbm, 200, rfl⟩
abbrev main_cst_21 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_call4_cst : Ref sig .tc := ⟨.hbm, 216, rfl⟩
abbrev main_call4_v0 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_cst_22 : Ref sig .tc := ⟨.hbm, 239, rfl⟩
abbrev main_v194 : Ref sig .tc := ⟨.hbm, 240, rfl⟩
abbrev main_v195 : Ref sig .tc := ⟨.hbm, 241, rfl⟩
abbrev main_cst_23 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_cst_24 : Ref sig .tc := ⟨.hbm, 247, rfl⟩
abbrev main_v200 : Ref sig .tc := ⟨.hbm, 248, rfl⟩
abbrev main_v201 : Ref sig .tc := ⟨.hbm, 249, rfl⟩
abbrev main_cst_25 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_cst_26 : Ref sig .tc := ⟨.hbm, 256, rfl⟩
abbrev main_v207 : Ref sig .tc := ⟨.hbm, 257, rfl⟩
abbrev main_v208 : Ref sig .tc := ⟨.hbm, 258, rfl⟩
abbrev main_cst_27 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_call5_cst : Ref sig .tc := ⟨.hbm, 274, rfl⟩
abbrev main_call5_v0 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_cst_28 : Ref sig .tc := ⟨.hbm, 297, rfl⟩
abbrev main_v244 : Ref sig .tc := ⟨.hbm, 298, rfl⟩
abbrev main_v245 : Ref sig .tc := ⟨.hbm, 299, rfl⟩
abbrev main_cst_29 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_cst_30 : Ref sig .tc := ⟨.hbm, 305, rfl⟩
abbrev main_v250 : Ref sig .tc := ⟨.hbm, 306, rfl⟩
abbrev main_v251 : Ref sig .tc := ⟨.hbm, 307, rfl⟩
abbrev main_cst_31 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_cst_32 : Ref sig .tc := ⟨.hbm, 314, rfl⟩
abbrev main_v257 : Ref sig .tc := ⟨.hbm, 315, rfl⟩
abbrev main_v258 : Ref sig .tc := ⟨.hbm, 316, rfl⟩
abbrev main_cst_33 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_call6_cst : Ref sig .tc := ⟨.hbm, 332, rfl⟩
abbrev main_call6_v0 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_cst_34 : Ref sig .tc := ⟨.hbm, 355, rfl⟩
abbrev main_v294 : Ref sig .tc := ⟨.hbm, 356, rfl⟩
abbrev main_v295 : Ref sig .tc := ⟨.hbm, 357, rfl⟩
abbrev main_cst_35 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_v299 : Ref sig .tc := ⟨.hbm, 362, rfl⟩
abbrev main_cst_36 : Ref sig .tc := ⟨.hbm, 363, rfl⟩
abbrev main_v300 : Ref sig .tc := ⟨.hbm, 364, rfl⟩
abbrev main_v301 : Ref sig .tc := ⟨.hbm, 365, rfl⟩
abbrev main_cst_37 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_cst_38 : Ref sig .tc := ⟨.hbm, 372, rfl⟩
abbrev main_v307 : Ref sig .tc := ⟨.hbm, 373, rfl⟩
abbrev main_v308 : Ref sig .tc := ⟨.hbm, 374, rfl⟩
abbrev main_cst_39 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_call7_cst : Ref sig .tc := ⟨.hbm, 390, rfl⟩
abbrev main_call7_v0 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_v334 : Ref sig .tc := ⟨.hbm, 403, rfl⟩
abbrev main_v335 : Ref sig .tc := ⟨.hbm, 404, rfl⟩
abbrev main_v336 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_v340 : Ref sig .tc := ⟨.hbm, 409, rfl⟩
abbrev main_v341 : Ref sig .tc := ⟨.hbm, 410, rfl⟩
abbrev main_v342 : Ref sig .tc := ⟨.hbm, 411, rfl⟩
abbrev main_v343 : Ref sig .tc := ⟨.hbm, 412, rfl⟩
abbrev main_cst_40 : Ref sig .tc := ⟨.hbm, 413, rfl⟩
abbrev main_v344 : Ref sig .tc := ⟨.hbm, 414, rfl⟩
abbrev main_v345 : Ref sig .tc := ⟨.hbm, 415, rfl⟩
abbrev main_cst_41 : Ref sig .tc := ⟨.hbm, 416, rfl⟩
abbrev main_v346 : Ref sig .tc := ⟨.hbm, 417, rfl⟩
abbrev main_v347 : Ref sig .tc := ⟨.hbm, 418, rfl⟩
abbrev main_v348 : Ref sig .tc := ⟨.hbm, 419, rfl⟩
abbrev main_v349 : Ref sig .tc := ⟨.hbm, 420, rfl⟩
abbrev main_cst_42 : Ref sig .tc := ⟨.hbm, 421, rfl⟩
abbrev main_v350 : Ref sig .tc := ⟨.hbm, 422, rfl⟩
abbrev main_v351 : Ref sig .tc := ⟨.hbm, 423, rfl⟩
abbrev main_cst_43 : Ref sig .tc := ⟨.hbm, 424, rfl⟩
abbrev main_v352 : Ref sig .tc := ⟨.hbm, 425, rfl⟩
abbrev main_v353 : Ref sig .tc := ⟨.hbm, 426, rfl⟩
abbrev main_v354 : Ref sig .tc := ⟨.hbm, 427, rfl⟩
abbrev main_v355 : Ref sig .tc := ⟨.hbm, 428, rfl⟩
abbrev main_v356 : Ref sig .tc := ⟨.hbm, 429, rfl⟩
abbrev main_cst_44 : Ref sig .tc := ⟨.hbm, 430, rfl⟩
abbrev main_v357 : Ref sig .tc := ⟨.hbm, 431, rfl⟩
abbrev main_v358 : Ref sig .tc := ⟨.hbm, 432, rfl⟩
abbrev main_cst_45 : Ref sig .tc := ⟨.hbm, 433, rfl⟩
abbrev main_v359 : Ref sig .tc := ⟨.hbm, 434, rfl⟩
abbrev main_v360 : Ref sig .tc := ⟨.hbm, 435, rfl⟩
abbrev main_v361 : Ref sig .tc := ⟨.hbm, 436, rfl⟩
abbrev main_v362 : Ref sig .tc := ⟨.hbm, 437, rfl⟩
abbrev main_v363 : Ref sig .tc := ⟨.hbm, 438, rfl⟩
abbrev main_v364 : Ref sig .tc := ⟨.hbm, 439, rfl⟩
abbrev main_v365 : Ref sig .tc := ⟨.hbm, 440, rfl⟩
abbrev main_v366 : Ref sig .tc := ⟨.hbm, 441, rfl⟩
abbrev main_v367 : Ref sig .tc := ⟨.hbm, 442, rfl⟩
abbrev main_v368 : Ref sig .tc := ⟨.hbm, 443, rfl⟩
abbrev main_v369 : Ref sig .tc := ⟨.hbm, 444, rfl⟩
abbrev main_v370 : Ref sig .tc := ⟨.hbm, 445, rfl⟩
abbrev main_v371 : Ref sig .tc := ⟨.hbm, 446, rfl⟩
abbrev main_v372 : Ref sig .tc := ⟨.hbm, 447, rfl⟩
abbrev main_call8_cst : Ref sig .tc := ⟨.hbm, 448, rfl⟩
abbrev main_call8_v0 : Ref sig .tc := ⟨.hbm, 449, rfl⟩
abbrev main_v373 : Ref sig .tc := ⟨.hbm, 450, rfl⟩
abbrev main_v374 : Ref sig .tc := ⟨.hbm, 451, rfl⟩
abbrev main_v375 : Ref sig .tc := ⟨.hbm, 452, rfl⟩
abbrev main_v376 : Ref sig .tc := ⟨.hbm, 453, rfl⟩
abbrev main_v377 : Ref sig .tc := ⟨.hbm, 454, rfl⟩
abbrev main_v378 : Ref sig .tc := ⟨.hbm, 455, rfl⟩
abbrev main_v379 : Ref sig .tc := ⟨.hbm, 456, rfl⟩
abbrev main_v380 : Ref sig .tc := ⟨.hbm, 457, rfl⟩
abbrev main_v381 : Ref sig .tc := ⟨.hbm, 458, rfl⟩
abbrev main_v382 : Ref sig .tc := ⟨.hbm, 459, rfl⟩
abbrev main_v383 : Ref sig .tc := ⟨.hbm, 460, rfl⟩
abbrev main_v384 : Ref sig .tc := ⟨.hbm, 461, rfl⟩
abbrev main_v385 : Ref sig .tc := ⟨.hbm, 462, rfl⟩
abbrev main_v386 : Ref sig .tc := ⟨.hbm, 463, rfl⟩
abbrev main_v387 : Ref sig .tc := ⟨.hbm, 464, rfl⟩
abbrev main_v388 : Ref sig .tc := ⟨.hbm, 465, rfl⟩
abbrev main_v389 : Ref sig .tc := ⟨.hbm, 466, rfl⟩
abbrev main_v390 : Ref sig .tc := ⟨.hbm, 467, rfl⟩
abbrev main_v391 : Ref sig .tc := ⟨.hbm, 468, rfl⟩
abbrev main_v392 : Ref sig .tc := ⟨.hbm, 469, rfl⟩
abbrev main_v393 : Ref sig .tc := ⟨.hbm, 470, rfl⟩
abbrev main_cst_46 : Ref sig .tc := ⟨.hbm, 471, rfl⟩
abbrev main_v394 : Ref sig .tc := ⟨.hbm, 472, rfl⟩
abbrev main_v395 : Ref sig .tc := ⟨.hbm, 473, rfl⟩
abbrev main_cst_47 : Ref sig .tc := ⟨.hbm, 474, rfl⟩
abbrev main_v396 : Ref sig .tc := ⟨.hbm, 475, rfl⟩
abbrev main_v397 : Ref sig .tc := ⟨.hbm, 476, rfl⟩
abbrev main_v398 : Ref sig .tc := ⟨.hbm, 477, rfl⟩
abbrev main_v399 : Ref sig .tc := ⟨.hbm, 478, rfl⟩
abbrev main_cst_48 : Ref sig .tc := ⟨.hbm, 479, rfl⟩
abbrev main_v400 : Ref sig .tc := ⟨.hbm, 480, rfl⟩
abbrev main_v401 : Ref sig .tc := ⟨.hbm, 481, rfl⟩
abbrev main_cst_49 : Ref sig .tc := ⟨.hbm, 482, rfl⟩
abbrev main_v402 : Ref sig .tc := ⟨.hbm, 483, rfl⟩
abbrev main_v403 : Ref sig .tc := ⟨.hbm, 484, rfl⟩
abbrev main_v404 : Ref sig .tc := ⟨.hbm, 485, rfl⟩
abbrev main_v405 : Ref sig .tc := ⟨.hbm, 486, rfl⟩
abbrev main_v406 : Ref sig .tc := ⟨.hbm, 487, rfl⟩
abbrev main_cst_50 : Ref sig .tc := ⟨.hbm, 488, rfl⟩
abbrev main_v407 : Ref sig .tc := ⟨.hbm, 489, rfl⟩
abbrev main_v408 : Ref sig .tc := ⟨.hbm, 490, rfl⟩
abbrev main_cst_51 : Ref sig .tc := ⟨.hbm, 491, rfl⟩
abbrev main_v409 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_v418 : Ref sig .tc := ⟨.hbm, 501, rfl⟩
abbrev main_v419 : Ref sig .tc := ⟨.hbm, 502, rfl⟩
abbrev main_v420 : Ref sig .tc := ⟨.hbm, 503, rfl⟩
abbrev main_v421 : Ref sig .tc := ⟨.hbm, 504, rfl⟩
abbrev main_v422 : Ref sig .tc := ⟨.hbm, 505, rfl⟩
abbrev main_v423 : Ref sig .tc := ⟨.hbm, 506, rfl⟩
abbrev main_v424 : Ref sig .tc := ⟨.hbm, 507, rfl⟩
abbrev main_call9_cst : Ref sig .tc := ⟨.hbm, 508, rfl⟩
abbrev main_call9_v0 : Ref sig .tc := ⟨.hbm, 509, rfl⟩
abbrev main_v425 : Ref sig .tc := ⟨.hbm, 510, rfl⟩
abbrev main_v426 : Ref sig .tc := ⟨.hbm, 511, rfl⟩
abbrev main_v427 : Ref sig .tc := ⟨.hbm, 512, rfl⟩
abbrev main_v428 : Ref sig .tc := ⟨.hbm, 513, rfl⟩
abbrev main_v429 : Ref sig .tc := ⟨.hbm, 514, rfl⟩
abbrev main_v430 : Ref sig .tc := ⟨.hbm, 515, rfl⟩
abbrev main_v431 : Ref sig .tc := ⟨.hbm, 516, rfl⟩
abbrev main_v432 : Ref sig .tc := ⟨.hbm, 517, rfl⟩
abbrev main_v433 : Ref sig .tc := ⟨.hbm, 518, rfl⟩
abbrev main_v434 : Ref sig .tc := ⟨.hbm, 519, rfl⟩
abbrev main_v435 : Ref sig .tc := ⟨.hbm, 520, rfl⟩
abbrev main_v436 : Ref sig .tc := ⟨.hbm, 521, rfl⟩
abbrev main_v437 : Ref sig .tc := ⟨.hbm, 522, rfl⟩
abbrev main_v438 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_v445 : Ref sig .tc := ⟨.hbm, 530, rfl⟩
abbrev main_cst_52 : Ref sig .tc := ⟨.hbm, 531, rfl⟩
abbrev main_v446 : Ref sig .tc := ⟨.hbm, 532, rfl⟩
abbrev main_v447 : Ref sig .tc := ⟨.hbm, 533, rfl⟩
abbrev main_cst_53 : Ref sig .tc := ⟨.hbm, 534, rfl⟩
abbrev main_v448 : Ref sig .tc := ⟨.hbm, 535, rfl⟩
abbrev main_v449 : Ref sig .tc := ⟨.hbm, 536, rfl⟩
abbrev main_v450 : Ref sig .tc := ⟨.hbm, 537, rfl⟩
abbrev main_v451 : Ref sig .tc := ⟨.hbm, 538, rfl⟩
abbrev main_cst_54 : Ref sig .tc := ⟨.hbm, 539, rfl⟩
abbrev main_v452 : Ref sig .tc := ⟨.hbm, 540, rfl⟩
abbrev main_v453 : Ref sig .tc := ⟨.hbm, 541, rfl⟩
abbrev main_cst_55 : Ref sig .tc := ⟨.hbm, 542, rfl⟩
abbrev main_v454 : Ref sig .tc := ⟨.hbm, 543, rfl⟩
abbrev main_v455 : Ref sig .tc := ⟨.hbm, 544, rfl⟩
abbrev main_v456 : Ref sig .tc := ⟨.hbm, 545, rfl⟩
abbrev main_v457 : Ref sig .tc := ⟨.hbm, 546, rfl⟩
abbrev main_v458 : Ref sig .tc := ⟨.hbm, 547, rfl⟩
abbrev main_cst_56 : Ref sig .tc := ⟨.hbm, 548, rfl⟩
abbrev main_v459 : Ref sig .tc := ⟨.hbm, 549, rfl⟩
abbrev main_v460 : Ref sig .tc := ⟨.hbm, 550, rfl⟩
abbrev main_cst_57 : Ref sig .tc := ⟨.hbm, 551, rfl⟩
abbrev main_v461 : Ref sig .tc := ⟨.hbm, 552, rfl⟩
abbrev main_v462 : Ref sig .tc := ⟨.hbm, 553, rfl⟩
abbrev main_v463 : Ref sig .tc := ⟨.hbm, 554, rfl⟩
abbrev main_v464 : Ref sig .tc := ⟨.hbm, 555, rfl⟩
abbrev main_v465 : Ref sig .tc := ⟨.hbm, 556, rfl⟩
abbrev main_v466 : Ref sig .tc := ⟨.hbm, 557, rfl⟩
abbrev main_v467 : Ref sig .tc := ⟨.hbm, 558, rfl⟩
abbrev main_v468 : Ref sig .tc := ⟨.hbm, 559, rfl⟩
abbrev main_v469 : Ref sig .tc := ⟨.hbm, 560, rfl⟩
abbrev main_v470 : Ref sig .tc := ⟨.hbm, 561, rfl⟩
abbrev main_v471 : Ref sig .tc := ⟨.hbm, 562, rfl⟩
abbrev main_v472 : Ref sig .tc := ⟨.hbm, 563, rfl⟩
abbrev main_v473 : Ref sig .tc := ⟨.hbm, 564, rfl⟩
abbrev main_v474 : Ref sig .tc := ⟨.hbm, 565, rfl⟩
abbrev main_v475 : Ref sig .tc := ⟨.hbm, 566, rfl⟩
abbrev main_cst_58 : Ref sig .tc := ⟨.hbm, 567, rfl⟩
abbrev main_v476 : Ref sig .tc := ⟨.hbm, 568, rfl⟩
abbrev main_v477 : Ref sig .tc := ⟨.hbm, 569, rfl⟩
abbrev main_v478 : Ref sig .tc := ⟨.hbm, 570, rfl⟩
abbrev main_v479 : Ref sig .tc := ⟨.hbm, 571, rfl⟩
abbrev main_v480 : Ref sig .tc := ⟨.hbm, 572, rfl⟩
abbrev main_v481 : Ref sig .tc := ⟨.hbm, 573, rfl⟩
abbrev main_v482 : Ref sig .tc := ⟨.hbm, 574, rfl⟩
abbrev main_v483 : Ref sig .tc := ⟨.hbm, 575, rfl⟩
abbrev main_v484 : Ref sig .tc := ⟨.hbm, 576, rfl⟩
abbrev main_v485 : Ref sig .tc := ⟨.hbm, 577, rfl⟩
abbrev main_v486 : Ref sig .tc := ⟨.hbm, 578, rfl⟩
abbrev main_v487 : Ref sig .tc := ⟨.hbm, 579, rfl⟩
abbrev main_v488 : Ref sig .tc := ⟨.hbm, 580, rfl⟩
abbrev main_call10_cst : Ref sig .tc := ⟨.hbm, 581, rfl⟩
abbrev main_call10_v0 : Ref sig .tc := ⟨.hbm, 582, rfl⟩
abbrev main_v489 : Ref sig .tc := ⟨.hbm, 583, rfl⟩
abbrev main_v490 : Ref sig .tc := ⟨.hbm, 584, rfl⟩
abbrev main_v491 : Ref sig .tc := ⟨.hbm, 585, rfl⟩
abbrev main_v492 : Ref sig .tc := ⟨.hbm, 586, rfl⟩
abbrev main_v493 : Ref sig .tc := ⟨.hbm, 587, rfl⟩
abbrev main_v494 : Ref sig .tc := ⟨.hbm, 588, rfl⟩
abbrev main_v495 : Ref sig .tc := ⟨.hbm, 589, rfl⟩
abbrev main_v496 : Ref sig .tc := ⟨.hbm, 590, rfl⟩
abbrev main_v497 : Ref sig .tc := ⟨.hbm, 591, rfl⟩
abbrev main_v498 : Ref sig .tc := ⟨.hbm, 592, rfl⟩
abbrev main_v499 : Ref sig .tc := ⟨.hbm, 593, rfl⟩
abbrev main_v500 : Ref sig .tc := ⟨.hbm, 594, rfl⟩
abbrev main_v501 : Ref sig .tc := ⟨.hbm, 595, rfl⟩
abbrev main_v502 : Ref sig .tc := ⟨.hbm, 596, rfl⟩
abbrev main_v503 : Ref sig .tc := ⟨.hbm, 597, rfl⟩
abbrev main_v504 : Ref sig .tc := ⟨.hbm, 598, rfl⟩
abbrev main_v505 : Ref sig .tc := ⟨.hbm, 599, rfl⟩
abbrev main_v506 : Ref sig .tc := ⟨.hbm, 600, rfl⟩
abbrev main_v507 : Ref sig .tc := ⟨.hbm, 601, rfl⟩
abbrev main_v508 : Ref sig .tc := ⟨.hbm, 602, rfl⟩
abbrev main_v509 : Ref sig .tc := ⟨.hbm, 603, rfl⟩
abbrev main_cst_59 : Ref sig .tc := ⟨.hbm, 604, rfl⟩
abbrev main_v510 : Ref sig .tc := ⟨.hbm, 605, rfl⟩
abbrev main_v511 : Ref sig .tc := ⟨.hbm, 606, rfl⟩
abbrev main_cst_60 : Ref sig .tc := ⟨.hbm, 607, rfl⟩
abbrev main_v512 : Ref sig .tc := ⟨.hbm, 608, rfl⟩
abbrev main_v513 : Ref sig .tc := ⟨.hbm, 609, rfl⟩
abbrev main_v514 : Ref sig .tc := ⟨.hbm, 610, rfl⟩
abbrev main_v515 : Ref sig .tc := ⟨.hbm, 611, rfl⟩
abbrev main_cst_61 : Ref sig .tc := ⟨.hbm, 612, rfl⟩
abbrev main_v516 : Ref sig .tc := ⟨.hbm, 613, rfl⟩
abbrev main_v517 : Ref sig .tc := ⟨.hbm, 614, rfl⟩
abbrev main_cst_62 : Ref sig .tc := ⟨.hbm, 615, rfl⟩
abbrev main_v518 : Ref sig .tc := ⟨.hbm, 616, rfl⟩
abbrev main_v519 : Ref sig .tc := ⟨.hbm, 617, rfl⟩
abbrev main_v520 : Ref sig .tc := ⟨.hbm, 618, rfl⟩
abbrev main_v521 : Ref sig .tc := ⟨.hbm, 619, rfl⟩
abbrev main_v522 : Ref sig .tc := ⟨.hbm, 620, rfl⟩
abbrev main_cst_63 : Ref sig .tc := ⟨.hbm, 621, rfl⟩
abbrev main_v523 : Ref sig .tc := ⟨.hbm, 622, rfl⟩
abbrev main_v524 : Ref sig .tc := ⟨.hbm, 623, rfl⟩
abbrev main_cst_64 : Ref sig .tc := ⟨.hbm, 624, rfl⟩
abbrev main_v525 : Ref sig .tc := ⟨.hbm, 625, rfl⟩
abbrev main_v526 : Ref sig .tc := ⟨.hbm, 626, rfl⟩
abbrev main_v527 : Ref sig .tc := ⟨.hbm, 627, rfl⟩
abbrev main_v528 : Ref sig .tc := ⟨.hbm, 628, rfl⟩
abbrev main_v529 : Ref sig .tc := ⟨.hbm, 629, rfl⟩
abbrev main_v530 : Ref sig .tc := ⟨.hbm, 630, rfl⟩
abbrev main_v531 : Ref sig .tc := ⟨.hbm, 631, rfl⟩
abbrev main_v532 : Ref sig .tc := ⟨.hbm, 632, rfl⟩
abbrev main_v533 : Ref sig .tc := ⟨.hbm, 633, rfl⟩
abbrev main_v534 : Ref sig .tc := ⟨.hbm, 634, rfl⟩
abbrev main_v535 : Ref sig .tc := ⟨.hbm, 635, rfl⟩
abbrev main_v536 : Ref sig .tc := ⟨.hbm, 636, rfl⟩
abbrev main_v537 : Ref sig .tc := ⟨.hbm, 637, rfl⟩
abbrev main_v538 : Ref sig .tc := ⟨.hbm, 638, rfl⟩
abbrev main_v539 : Ref sig .tc := ⟨.hbm, 639, rfl⟩
abbrev main_cst_65 : Ref sig .tc := ⟨.hbm, 640, rfl⟩
abbrev main_v540 : Ref sig .tc := ⟨.hbm, 641, rfl⟩
abbrev main_v541 : Ref sig .tc := ⟨.hbm, 642, rfl⟩
abbrev main_v542 : Ref sig .tc := ⟨.hbm, 643, rfl⟩
abbrev main_v543 : Ref sig .tc := ⟨.hbm, 644, rfl⟩
abbrev main_v544 : Ref sig .tc := ⟨.hbm, 645, rfl⟩
abbrev main_v545 : Ref sig .tc := ⟨.hbm, 646, rfl⟩
abbrev main_v546 : Ref sig .tc := ⟨.hbm, 647, rfl⟩
abbrev main_v547 : Ref sig .tc := ⟨.hbm, 648, rfl⟩
abbrev main_v548 : Ref sig .tc := ⟨.hbm, 649, rfl⟩
abbrev main_v549 : Ref sig .tc := ⟨.hbm, 650, rfl⟩
abbrev main_v550 : Ref sig .tc := ⟨.hbm, 651, rfl⟩
abbrev main_v551 : Ref sig .tc := ⟨.hbm, 652, rfl⟩
abbrev main_v552 : Ref sig .tc := ⟨.hbm, 653, rfl⟩
abbrev main_call11_cst : Ref sig .tc := ⟨.hbm, 654, rfl⟩
abbrev main_call11_v0 : Ref sig .tc := ⟨.hbm, 655, rfl⟩
abbrev main_v553 : Ref sig .tc := ⟨.hbm, 656, rfl⟩
abbrev main_v554 : Ref sig .tc := ⟨.hbm, 657, rfl⟩
abbrev main_v555 : Ref sig .tc := ⟨.hbm, 658, rfl⟩
abbrev main_v556 : Ref sig .tc := ⟨.hbm, 659, rfl⟩
abbrev main_v557 : Ref sig .tc := ⟨.hbm, 660, rfl⟩
abbrev main_v558 : Ref sig .tc := ⟨.hbm, 661, rfl⟩
abbrev main_v559 : Ref sig .tc := ⟨.hbm, 662, rfl⟩
abbrev main_v560 : Ref sig .tc := ⟨.hbm, 663, rfl⟩
abbrev main_v561 : Ref sig .tc := ⟨.hbm, 664, rfl⟩
abbrev main_v562 : Ref sig .tc := ⟨.hbm, 665, rfl⟩
abbrev main_v563 : Ref sig .tc := ⟨.hbm, 666, rfl⟩
abbrev main_v564 : Ref sig .tc := ⟨.hbm, 667, rfl⟩
abbrev main_v565 : Ref sig .tc := ⟨.hbm, 668, rfl⟩
abbrev main_v566 : Ref sig .tc := ⟨.hbm, 669, rfl⟩
abbrev main_v567 : Ref sig .tc := ⟨.hbm, 670, rfl⟩
abbrev main_v568 : Ref sig .tc := ⟨.hbm, 671, rfl⟩
abbrev main_v569 : Ref sig .tc := ⟨.hbm, 672, rfl⟩
abbrev main_v570 : Ref sig .tc := ⟨.hbm, 673, rfl⟩
abbrev main_v571 : Ref sig .tc := ⟨.hbm, 674, rfl⟩
abbrev main_v572 : Ref sig .tc := ⟨.hbm, 675, rfl⟩
abbrev main_v573 : Ref sig .tc := ⟨.hbm, 676, rfl⟩
abbrev main_cst_66 : Ref sig .tc := ⟨.hbm, 677, rfl⟩
abbrev main_v574 : Ref sig .tc := ⟨.hbm, 678, rfl⟩
abbrev main_v575 : Ref sig .tc := ⟨.hbm, 679, rfl⟩
abbrev main_cst_67 : Ref sig .tc := ⟨.hbm, 680, rfl⟩
abbrev main_v576 : Ref sig .tc := ⟨.hbm, 681, rfl⟩
abbrev main_v577 : Ref sig .tc := ⟨.hbm, 682, rfl⟩
abbrev main_v578 : Ref sig .tc := ⟨.hbm, 683, rfl⟩
abbrev main_v579 : Ref sig .tc := ⟨.hbm, 684, rfl⟩
abbrev main_cst_68 : Ref sig .tc := ⟨.hbm, 685, rfl⟩
abbrev main_v580 : Ref sig .tc := ⟨.hbm, 686, rfl⟩
abbrev main_v581 : Ref sig .tc := ⟨.hbm, 687, rfl⟩
abbrev main_cst_69 : Ref sig .tc := ⟨.hbm, 688, rfl⟩
abbrev main_v582 : Ref sig .tc := ⟨.hbm, 689, rfl⟩
abbrev main_v583 : Ref sig .tc := ⟨.hbm, 690, rfl⟩
abbrev main_v584 : Ref sig .tc := ⟨.hbm, 691, rfl⟩
abbrev main_v585 : Ref sig .tc := ⟨.hbm, 692, rfl⟩
abbrev main_v586 : Ref sig .tc := ⟨.hbm, 693, rfl⟩
abbrev main_cst_70 : Ref sig .tc := ⟨.hbm, 694, rfl⟩
abbrev main_v587 : Ref sig .tc := ⟨.hbm, 695, rfl⟩
abbrev main_v588 : Ref sig .tc := ⟨.hbm, 696, rfl⟩
abbrev main_cst_71 : Ref sig .tc := ⟨.hbm, 697, rfl⟩
abbrev main_v589 : Ref sig .tc := ⟨.hbm, 698, rfl⟩
abbrev main_v590 : Ref sig .tc := ⟨.hbm, 699, rfl⟩
abbrev main_v591 : Ref sig .tc := ⟨.hbm, 700, rfl⟩
abbrev main_v592 : Ref sig .tc := ⟨.hbm, 701, rfl⟩
abbrev main_v593 : Ref sig .tc := ⟨.hbm, 702, rfl⟩
abbrev main_v594 : Ref sig .tc := ⟨.hbm, 703, rfl⟩
abbrev main_v595 : Ref sig .tc := ⟨.hbm, 704, rfl⟩
abbrev main_v596 : Ref sig .tc := ⟨.hbm, 705, rfl⟩
abbrev main_v597 : Ref sig .tc := ⟨.hbm, 706, rfl⟩
abbrev main_v598 : Ref sig .tc := ⟨.hbm, 707, rfl⟩
abbrev main_v599 : Ref sig .tc := ⟨.hbm, 708, rfl⟩
abbrev main_v600 : Ref sig .tc := ⟨.hbm, 709, rfl⟩
abbrev main_v601 : Ref sig .tc := ⟨.hbm, 710, rfl⟩
abbrev main_v602 : Ref sig .tc := ⟨.hbm, 711, rfl⟩
abbrev main_v603 : Ref sig .tc := ⟨.hbm, 712, rfl⟩
abbrev main_cst_72 : Ref sig .tc := ⟨.hbm, 713, rfl⟩
abbrev main_v604 : Ref sig .tc := ⟨.hbm, 714, rfl⟩
abbrev main_v605 : Ref sig .tc := ⟨.hbm, 715, rfl⟩
abbrev main_v606 : Ref sig .tc := ⟨.hbm, 716, rfl⟩
abbrev main_v607 : Ref sig .tc := ⟨.hbm, 717, rfl⟩
abbrev main_v608 : Ref sig .tc := ⟨.hbm, 718, rfl⟩
abbrev main_v609 : Ref sig .tc := ⟨.hbm, 719, rfl⟩
abbrev main_v610 : Ref sig .tc := ⟨.hbm, 720, rfl⟩
abbrev main_v611 : Ref sig .tc := ⟨.hbm, 721, rfl⟩
abbrev main_v612 : Ref sig .tc := ⟨.hbm, 722, rfl⟩
abbrev main_v613 : Ref sig .tc := ⟨.hbm, 723, rfl⟩
abbrev main_v614 : Ref sig .tc := ⟨.hbm, 724, rfl⟩
abbrev main_v615 : Ref sig .tc := ⟨.hbm, 725, rfl⟩
abbrev main_v616 : Ref sig .tc := ⟨.hbm, 726, rfl⟩
abbrev main_call12_cst : Ref sig .tc := ⟨.hbm, 727, rfl⟩
abbrev main_call12_v0 : Ref sig .tc := ⟨.hbm, 728, rfl⟩
abbrev main_v617 : Ref sig .tc := ⟨.hbm, 729, rfl⟩
abbrev main_v618 : Ref sig .tc := ⟨.hbm, 730, rfl⟩
abbrev main_v619 : Ref sig .tc := ⟨.hbm, 731, rfl⟩
abbrev main_v620 : Ref sig .tc := ⟨.hbm, 732, rfl⟩
abbrev main_v621 : Ref sig .tc := ⟨.hbm, 733, rfl⟩
abbrev main_v622 : Ref sig .tc := ⟨.hbm, 734, rfl⟩
abbrev main_v623 : Ref sig .tc := ⟨.hbm, 735, rfl⟩
abbrev main_v624 : Ref sig .tc := ⟨.hbm, 736, rfl⟩
abbrev main_v625 : Ref sig .tc := ⟨.hbm, 737, rfl⟩
abbrev main_v626 : Ref sig .tc := ⟨.hbm, 738, rfl⟩
abbrev main_v627 : Ref sig .tc := ⟨.hbm, 739, rfl⟩
abbrev main_v628 : Ref sig .tc := ⟨.hbm, 740, rfl⟩
abbrev main_v629 : Ref sig .tc := ⟨.hbm, 741, rfl⟩
abbrev main_v630 : Ref sig .tc := ⟨.hbm, 742, rfl⟩
abbrev main_v631 : Ref sig .tc := ⟨.hbm, 743, rfl⟩
abbrev main_v632 : Ref sig .tc := ⟨.hbm, 744, rfl⟩
abbrev main_v633 : Ref sig .tc := ⟨.hbm, 745, rfl⟩
abbrev main_v634 : Ref sig .tc := ⟨.hbm, 746, rfl⟩
abbrev main_v635 : Ref sig .tc := ⟨.hbm, 747, rfl⟩
abbrev main_v636 : Ref sig .tc := ⟨.hbm, 748, rfl⟩
abbrev main_v637 : Ref sig .tc := ⟨.hbm, 749, rfl⟩
abbrev main_cst_73 : Ref sig .tc := ⟨.hbm, 750, rfl⟩
abbrev main_v638 : Ref sig .tc := ⟨.hbm, 751, rfl⟩
abbrev main_v639 : Ref sig .tc := ⟨.hbm, 752, rfl⟩
abbrev main_cst_74 : Ref sig .tc := ⟨.hbm, 753, rfl⟩
abbrev main_v640 : Ref sig .tc := ⟨.hbm, 754, rfl⟩
abbrev main_v641 : Ref sig .tc := ⟨.hbm, 755, rfl⟩
abbrev main_v642 : Ref sig .tc := ⟨.hbm, 756, rfl⟩
abbrev main_v643 : Ref sig .tc := ⟨.hbm, 757, rfl⟩
abbrev main_cst_75 : Ref sig .tc := ⟨.hbm, 758, rfl⟩
abbrev main_v644 : Ref sig .tc := ⟨.hbm, 759, rfl⟩
abbrev main_v645 : Ref sig .tc := ⟨.hbm, 760, rfl⟩
abbrev main_cst_76 : Ref sig .tc := ⟨.hbm, 761, rfl⟩
abbrev main_v646 : Ref sig .tc := ⟨.hbm, 762, rfl⟩
abbrev main_v647 : Ref sig .tc := ⟨.hbm, 763, rfl⟩
abbrev main_v648 : Ref sig .tc := ⟨.hbm, 764, rfl⟩
abbrev main_v649 : Ref sig .tc := ⟨.hbm, 765, rfl⟩
abbrev main_v650 : Ref sig .tc := ⟨.hbm, 766, rfl⟩
abbrev main_cst_77 : Ref sig .tc := ⟨.hbm, 767, rfl⟩
abbrev main_v651 : Ref sig .tc := ⟨.hbm, 768, rfl⟩
abbrev main_v652 : Ref sig .tc := ⟨.hbm, 769, rfl⟩
abbrev main_cst_78 : Ref sig .tc := ⟨.hbm, 770, rfl⟩
abbrev main_v653 : Ref sig .tc := ⟨.hbm, 771, rfl⟩
abbrev main_v654 : Ref sig .tc := ⟨.hbm, 772, rfl⟩
abbrev main_v655 : Ref sig .tc := ⟨.hbm, 773, rfl⟩
abbrev main_v656 : Ref sig .tc := ⟨.hbm, 774, rfl⟩
abbrev main_v657 : Ref sig .tc := ⟨.hbm, 775, rfl⟩
abbrev main_v658 : Ref sig .tc := ⟨.hbm, 776, rfl⟩
abbrev main_v659 : Ref sig .tc := ⟨.hbm, 777, rfl⟩
abbrev main_v660 : Ref sig .tc := ⟨.hbm, 778, rfl⟩
abbrev main_v661 : Ref sig .tc := ⟨.hbm, 779, rfl⟩
abbrev main_v662 : Ref sig .tc := ⟨.hbm, 780, rfl⟩
abbrev main_v663 : Ref sig .tc := ⟨.hbm, 781, rfl⟩
abbrev main_v664 : Ref sig .tc := ⟨.hbm, 782, rfl⟩
abbrev main_v665 : Ref sig .tc := ⟨.hbm, 783, rfl⟩
abbrev main_v666 : Ref sig .tc := ⟨.hbm, 784, rfl⟩
abbrev main_v667 : Ref sig .tc := ⟨.hbm, 785, rfl⟩
abbrev main_cst_79 : Ref sig .tc := ⟨.hbm, 786, rfl⟩
abbrev main_v668 : Ref sig .tc := ⟨.hbm, 787, rfl⟩
abbrev main_v669 : Ref sig .tc := ⟨.hbm, 788, rfl⟩
abbrev main_v670 : Ref sig .tc := ⟨.hbm, 789, rfl⟩
abbrev main_v671 : Ref sig .tc := ⟨.hbm, 790, rfl⟩
abbrev main_v672 : Ref sig .tc := ⟨.hbm, 791, rfl⟩
abbrev main_v673 : Ref sig .tc := ⟨.hbm, 792, rfl⟩
abbrev main_v674 : Ref sig .tc := ⟨.hbm, 793, rfl⟩
abbrev main_v675 : Ref sig .tc := ⟨.hbm, 794, rfl⟩
abbrev main_v676 : Ref sig .tc := ⟨.hbm, 795, rfl⟩
abbrev main_v677 : Ref sig .tc := ⟨.hbm, 796, rfl⟩
abbrev main_v678 : Ref sig .tc := ⟨.hbm, 797, rfl⟩
abbrev main_v679 : Ref sig .tc := ⟨.hbm, 798, rfl⟩
abbrev main_v680 : Ref sig .tc := ⟨.hbm, 799, rfl⟩
abbrev main_call13_cst : Ref sig .tc := ⟨.hbm, 800, rfl⟩
abbrev main_call13_v0 : Ref sig .tc := ⟨.hbm, 801, rfl⟩
abbrev main_v681 : Ref sig .tc := ⟨.hbm, 802, rfl⟩
abbrev main_v682 : Ref sig .tc := ⟨.hbm, 803, rfl⟩
abbrev main_v683 : Ref sig .tc := ⟨.hbm, 804, rfl⟩
abbrev main_v684 : Ref sig .tc := ⟨.hbm, 805, rfl⟩
abbrev main_v685 : Ref sig .tc := ⟨.hbm, 806, rfl⟩
abbrev main_v686 : Ref sig .tc := ⟨.hbm, 807, rfl⟩
abbrev main_v687 : Ref sig .tc := ⟨.hbm, 808, rfl⟩
abbrev main_v688 : Ref sig .tc := ⟨.hbm, 809, rfl⟩
abbrev main_v689 : Ref sig .tc := ⟨.hbm, 810, rfl⟩
abbrev main_v690 : Ref sig .tc := ⟨.hbm, 811, rfl⟩
abbrev main_v691 : Ref sig .tc := ⟨.hbm, 812, rfl⟩
abbrev main_v692 : Ref sig .tc := ⟨.hbm, 813, rfl⟩
abbrev main_v693 : Ref sig .tc := ⟨.hbm, 814, rfl⟩
abbrev main_v694 : Ref sig .tc := ⟨.hbm, 815, rfl⟩
abbrev main_v695 : Ref sig .tc := ⟨.hbm, 816, rfl⟩
abbrev main_v696 : Ref sig .tc := ⟨.hbm, 817, rfl⟩
abbrev main_v697 : Ref sig .tc := ⟨.hbm, 818, rfl⟩
abbrev main_v698 : Ref sig .tc := ⟨.hbm, 819, rfl⟩
abbrev main_v699 : Ref sig .tc := ⟨.hbm, 820, rfl⟩
abbrev main_v700 : Ref sig .tc := ⟨.hbm, 821, rfl⟩
abbrev main_v701 : Ref sig .tc := ⟨.hbm, 822, rfl⟩
abbrev main_cst_80 : Ref sig .tc := ⟨.hbm, 823, rfl⟩
abbrev main_v702 : Ref sig .tc := ⟨.hbm, 824, rfl⟩
abbrev main_v703 : Ref sig .tc := ⟨.hbm, 825, rfl⟩
abbrev main_cst_81 : Ref sig .tc := ⟨.hbm, 826, rfl⟩
abbrev main_v704 : Ref sig .tc := ⟨.hbm, 827, rfl⟩
abbrev main_v705 : Ref sig .tc := ⟨.hbm, 828, rfl⟩
abbrev main_v706 : Ref sig .tc := ⟨.hbm, 829, rfl⟩
abbrev main_v707 : Ref sig .tc := ⟨.hbm, 830, rfl⟩
abbrev main_cst_82 : Ref sig .tc := ⟨.hbm, 831, rfl⟩
abbrev main_v708 : Ref sig .tc := ⟨.hbm, 832, rfl⟩
abbrev main_v709 : Ref sig .tc := ⟨.hbm, 833, rfl⟩
abbrev main_cst_83 : Ref sig .tc := ⟨.hbm, 834, rfl⟩
abbrev main_v710 : Ref sig .tc := ⟨.hbm, 835, rfl⟩
abbrev main_v711 : Ref sig .tc := ⟨.hbm, 836, rfl⟩
abbrev main_v712 : Ref sig .tc := ⟨.hbm, 837, rfl⟩
abbrev main_v713 : Ref sig .tc := ⟨.hbm, 838, rfl⟩
abbrev main_v714 : Ref sig .tc := ⟨.hbm, 839, rfl⟩
abbrev main_cst_84 : Ref sig .tc := ⟨.hbm, 840, rfl⟩
abbrev main_v715 : Ref sig .tc := ⟨.hbm, 841, rfl⟩
abbrev main_v716 : Ref sig .tc := ⟨.hbm, 842, rfl⟩
abbrev main_cst_85 : Ref sig .tc := ⟨.hbm, 843, rfl⟩
abbrev main_v717 : Ref sig .tc := ⟨.hbm, 844, rfl⟩
abbrev main_v718 : Ref sig .tc := ⟨.hbm, 845, rfl⟩
abbrev main_v719 : Ref sig .tc := ⟨.hbm, 846, rfl⟩
abbrev main_v720 : Ref sig .tc := ⟨.hbm, 847, rfl⟩
abbrev main_v721 : Ref sig .tc := ⟨.hbm, 848, rfl⟩
abbrev main_v722 : Ref sig .tc := ⟨.hbm, 849, rfl⟩
abbrev main_v723 : Ref sig .tc := ⟨.hbm, 850, rfl⟩
abbrev main_v724 : Ref sig .tc := ⟨.hbm, 851, rfl⟩
abbrev main_v725 : Ref sig .tc := ⟨.hbm, 852, rfl⟩
abbrev main_v726 : Ref sig .tc := ⟨.hbm, 853, rfl⟩
abbrev main_v727 : Ref sig .tc := ⟨.hbm, 854, rfl⟩
abbrev main_v728 : Ref sig .tc := ⟨.hbm, 855, rfl⟩
abbrev main_v729 : Ref sig .tc := ⟨.hbm, 856, rfl⟩
abbrev main_v730 : Ref sig .tc := ⟨.hbm, 857, rfl⟩
abbrev main_v731 : Ref sig .tc := ⟨.hbm, 858, rfl⟩
abbrev main_cst_86 : Ref sig .tc := ⟨.hbm, 859, rfl⟩
abbrev main_v732 : Ref sig .tc := ⟨.hbm, 860, rfl⟩
abbrev main_v733 : Ref sig .tc := ⟨.hbm, 861, rfl⟩
abbrev main_v734 : Ref sig .tc := ⟨.hbm, 862, rfl⟩
abbrev main_v735 : Ref sig .tc := ⟨.hbm, 863, rfl⟩
abbrev main_v736 : Ref sig .tc := ⟨.hbm, 864, rfl⟩
abbrev main_v737 : Ref sig .tc := ⟨.hbm, 865, rfl⟩
abbrev main_v738 : Ref sig .tc := ⟨.hbm, 866, rfl⟩
abbrev main_v739 : Ref sig .tc := ⟨.hbm, 867, rfl⟩
abbrev main_v740 : Ref sig .tc := ⟨.hbm, 868, rfl⟩
abbrev main_v741 : Ref sig .tc := ⟨.hbm, 869, rfl⟩
abbrev main_v742 : Ref sig .tc := ⟨.hbm, 870, rfl⟩
abbrev main_v743 : Ref sig .tc := ⟨.hbm, 871, rfl⟩
abbrev main_v744 : Ref sig .tc := ⟨.hbm, 872, rfl⟩
abbrev main_call14_cst : Ref sig .tc := ⟨.hbm, 873, rfl⟩
abbrev main_call14_v0 : Ref sig .tc := ⟨.hbm, 874, rfl⟩
abbrev main_v745 : Ref sig .tc := ⟨.hbm, 875, rfl⟩
abbrev main_v746 : Ref sig .tc := ⟨.hbm, 876, rfl⟩
abbrev main_v747 : Ref sig .tc := ⟨.hbm, 877, rfl⟩
abbrev main_v748 : Ref sig .tc := ⟨.hbm, 878, rfl⟩
abbrev main_v749 : Ref sig .tc := ⟨.hbm, 879, rfl⟩
abbrev main_v750 : Ref sig .tc := ⟨.hbm, 880, rfl⟩
abbrev main_v751 : Ref sig .tc := ⟨.hbm, 881, rfl⟩
abbrev main_v752 : Ref sig .tc := ⟨.hbm, 882, rfl⟩
abbrev main_v753 : Ref sig .tc := ⟨.hbm, 883, rfl⟩
abbrev main_v754 : Ref sig .tc := ⟨.hbm, 884, rfl⟩
abbrev main_v755 : Ref sig .tc := ⟨.hbm, 885, rfl⟩
abbrev main_v756 : Ref sig .tc := ⟨.hbm, 886, rfl⟩
abbrev main_v757 : Ref sig .tc := ⟨.hbm, 887, rfl⟩
abbrev main_v758 : Ref sig .tc := ⟨.hbm, 888, rfl⟩
abbrev main_v759 : Ref sig .tc := ⟨.hbm, 889, rfl⟩
abbrev main_v760 : Ref sig .tc := ⟨.hbm, 890, rfl⟩
abbrev main_v761 : Ref sig .tc := ⟨.hbm, 891, rfl⟩
abbrev main_v762 : Ref sig .tc := ⟨.hbm, 892, rfl⟩
abbrev main_v763 : Ref sig .tc := ⟨.hbm, 893, rfl⟩
abbrev main_v764 : Ref sig .tc := ⟨.hbm, 894, rfl⟩
abbrev main_v765 : Ref sig .tc := ⟨.hbm, 895, rfl⟩
abbrev main_cst_87 : Ref sig .tc := ⟨.hbm, 896, rfl⟩
abbrev main_v766 : Ref sig .tc := ⟨.hbm, 897, rfl⟩
abbrev main_v767 : Ref sig .tc := ⟨.hbm, 898, rfl⟩
abbrev main_cst_88 : Ref sig .tc := ⟨.hbm, 899, rfl⟩
abbrev main_v768 : Ref sig .tc := ⟨.hbm, 900, rfl⟩
abbrev main_v769 : Ref sig .tc := ⟨.hbm, 901, rfl⟩
abbrev main_v770 : Ref sig .tc := ⟨.hbm, 902, rfl⟩
abbrev main_v771 : Ref sig .tc := ⟨.hbm, 903, rfl⟩
abbrev main_cst_89 : Ref sig .tc := ⟨.hbm, 904, rfl⟩
abbrev main_v772 : Ref sig .tc := ⟨.hbm, 905, rfl⟩
abbrev main_v773 : Ref sig .tc := ⟨.hbm, 906, rfl⟩
abbrev main_cst_90 : Ref sig .tc := ⟨.hbm, 907, rfl⟩
abbrev main_v774 : Ref sig .tc := ⟨.hbm, 908, rfl⟩
abbrev main_v775 : Ref sig .tc := ⟨.hbm, 909, rfl⟩
abbrev main_v776 : Ref sig .tc := ⟨.hbm, 910, rfl⟩
abbrev main_v777 : Ref sig .tc := ⟨.hbm, 911, rfl⟩
abbrev main_v778 : Ref sig .tc := ⟨.hbm, 912, rfl⟩
abbrev main_cst_91 : Ref sig .tc := ⟨.hbm, 913, rfl⟩
abbrev main_v779 : Ref sig .tc := ⟨.hbm, 914, rfl⟩
abbrev main_v780 : Ref sig .tc := ⟨.hbm, 915, rfl⟩
abbrev main_cst_92 : Ref sig .tc := ⟨.hbm, 916, rfl⟩
abbrev main_v781 : Ref sig .tc := ⟨.hbm, 917, rfl⟩
abbrev main_v782 : Ref sig .tc := ⟨.hbm, 918, rfl⟩
abbrev main_v783 : Ref sig .tc := ⟨.hbm, 919, rfl⟩
abbrev main_v784 : Ref sig .tc := ⟨.hbm, 920, rfl⟩
abbrev main_v785 : Ref sig .tc := ⟨.hbm, 921, rfl⟩
abbrev main_v786 : Ref sig .tc := ⟨.hbm, 922, rfl⟩
abbrev main_v787 : Ref sig .tc := ⟨.hbm, 923, rfl⟩
abbrev main_v788 : Ref sig .tc := ⟨.hbm, 924, rfl⟩
abbrev main_v789 : Ref sig .tc := ⟨.hbm, 925, rfl⟩
abbrev main_v790 : Ref sig .tc := ⟨.hbm, 926, rfl⟩
abbrev main_v791 : Ref sig .tc := ⟨.hbm, 927, rfl⟩
abbrev main_v792 : Ref sig .tc := ⟨.hbm, 928, rfl⟩
abbrev main_v793 : Ref sig .tc := ⟨.hbm, 929, rfl⟩
abbrev main_v794 : Ref sig .tc := ⟨.hbm, 930, rfl⟩
abbrev main_v795 : Ref sig .tc := ⟨.hbm, 931, rfl⟩
abbrev main_cst_93 : Ref sig .tc := ⟨.hbm, 932, rfl⟩
abbrev main_v796 : Ref sig .tc := ⟨.hbm, 933, rfl⟩
abbrev main_v797 : Ref sig .tc := ⟨.hbm, 934, rfl⟩
abbrev main_v798 : Ref sig .tc := ⟨.hbm, 935, rfl⟩
abbrev main_v799 : Ref sig .tc := ⟨.hbm, 936, rfl⟩
abbrev main_v800 : Ref sig .tc := ⟨.hbm, 937, rfl⟩
abbrev main_v801 : Ref sig .tc := ⟨.hbm, 938, rfl⟩
abbrev main_v802 : Ref sig .tc := ⟨.hbm, 939, rfl⟩
abbrev main_v803 : Ref sig .tc := ⟨.hbm, 940, rfl⟩
abbrev main_v804 : Ref sig .tc := ⟨.hbm, 941, rfl⟩
abbrev main_v805 : Ref sig .tc := ⟨.hbm, 942, rfl⟩
abbrev main_v806 : Ref sig .tc := ⟨.hbm, 943, rfl⟩
abbrev main_v807 : Ref sig .tc := ⟨.hbm, 944, rfl⟩
abbrev main_v808 : Ref sig .tc := ⟨.hbm, 945, rfl⟩
abbrev main_call15_cst : Ref sig .tc := ⟨.hbm, 946, rfl⟩
abbrev main_call15_v0 : Ref sig .tc := ⟨.hbm, 947, rfl⟩
abbrev main_v809 : Ref sig .tc := ⟨.hbm, 948, rfl⟩
abbrev main_v810 : Ref sig .tc := ⟨.hbm, 949, rfl⟩
abbrev main_v811 : Ref sig .tc := ⟨.hbm, 950, rfl⟩
abbrev main_v812 : Ref sig .tc := ⟨.hbm, 951, rfl⟩
abbrev main_v813 : Ref sig .tc := ⟨.hbm, 952, rfl⟩
abbrev main_v814 : Ref sig .tc := ⟨.hbm, 953, rfl⟩
abbrev main_v815 : Ref sig .tc := ⟨.hbm, 954, rfl⟩
abbrev main_v816 : Ref sig .tc := ⟨.hbm, 955, rfl⟩
abbrev main_v817 : Ref sig .tc := ⟨.hbm, 956, rfl⟩
abbrev main_v818 : Ref sig .tc := ⟨.hbm, 957, rfl⟩
abbrev main_v819 : Ref sig .tc := ⟨.hbm, 958, rfl⟩
abbrev main_v820 : Ref sig .tc := ⟨.hbm, 959, rfl⟩
abbrev main_v821 : Ref sig .tc := ⟨.hbm, 960, rfl⟩
abbrev main_v822 : Ref sig .tc := ⟨.hbm, 961, rfl⟩
abbrev main_v823 : Ref sig .tc := ⟨.hbm, 962, rfl⟩
abbrev main_v824 : Ref sig .tc := ⟨.hbm, 963, rfl⟩
abbrev main_v825 : Ref sig .tc := ⟨.hbm, 964, rfl⟩
abbrev main_v826 : Ref sig .tc := ⟨.hbm, 965, rfl⟩
abbrev main_v827 : Ref sig .tc := ⟨.hbm, 966, rfl⟩
abbrev main_v828 : Ref sig .tc := ⟨.hbm, 967, rfl⟩
abbrev main_v829 : Ref sig .tc := ⟨.hbm, 968, rfl⟩
abbrev main_cst_94 : Ref sig .tc := ⟨.hbm, 969, rfl⟩
abbrev main_v830 : Ref sig .tc := ⟨.hbm, 970, rfl⟩
abbrev main_v831 : Ref sig .tc := ⟨.hbm, 971, rfl⟩
abbrev main_cst_95 : Ref sig .tc := ⟨.hbm, 972, rfl⟩
abbrev main_v832 : Ref sig .tc := ⟨.hbm, 973, rfl⟩
abbrev main_v833 : Ref sig .tc := ⟨.hbm, 974, rfl⟩
abbrev main_v834 : Ref sig .tc := ⟨.hbm, 975, rfl⟩
abbrev main_v835 : Ref sig .tc := ⟨.hbm, 976, rfl⟩
abbrev main_cst_96 : Ref sig .tc := ⟨.hbm, 977, rfl⟩
abbrev main_v836 : Ref sig .tc := ⟨.hbm, 978, rfl⟩
abbrev main_v837 : Ref sig .tc := ⟨.hbm, 979, rfl⟩
abbrev main_cst_97 : Ref sig .tc := ⟨.hbm, 980, rfl⟩
abbrev main_v838 : Ref sig .tc := ⟨.hbm, 981, rfl⟩
abbrev main_v839 : Ref sig .tc := ⟨.hbm, 982, rfl⟩
abbrev main_v840 : Ref sig .tc := ⟨.hbm, 983, rfl⟩
abbrev main_v841 : Ref sig .tc := ⟨.hbm, 984, rfl⟩
abbrev main_v842 : Ref sig .tc := ⟨.hbm, 985, rfl⟩
abbrev main_cst_98 : Ref sig .tc := ⟨.hbm, 986, rfl⟩
abbrev main_v843 : Ref sig .tc := ⟨.hbm, 987, rfl⟩
abbrev main_v844 : Ref sig .tc := ⟨.hbm, 988, rfl⟩
abbrev main_cst_99 : Ref sig .tc := ⟨.hbm, 989, rfl⟩
abbrev main_v845 : Ref sig .tc := ⟨.hbm, 990, rfl⟩
abbrev main_v846 : Ref sig .tc := ⟨.hbm, 991, rfl⟩
abbrev main_v847 : Ref sig .tc := ⟨.hbm, 992, rfl⟩
abbrev main_v848 : Ref sig .tc := ⟨.hbm, 993, rfl⟩
abbrev main_v849 : Ref sig .tc := ⟨.hbm, 994, rfl⟩
abbrev main_v850 : Ref sig .tc := ⟨.hbm, 995, rfl⟩
abbrev main_v851 : Ref sig .tc := ⟨.hbm, 996, rfl⟩
abbrev main_v852 : Ref sig .tc := ⟨.hbm, 997, rfl⟩
abbrev main_v853 : Ref sig .tc := ⟨.hbm, 998, rfl⟩
abbrev main_v854 : Ref sig .tc := ⟨.hbm, 999, rfl⟩
abbrev main_v855 : Ref sig .tc := ⟨.hbm, 1000, rfl⟩
abbrev main_v856 : Ref sig .tc := ⟨.hbm, 1001, rfl⟩
abbrev main_v857 : Ref sig .tc := ⟨.hbm, 1002, rfl⟩
abbrev main_v858 : Ref sig .tc := ⟨.hbm, 1003, rfl⟩
abbrev main_v859 : Ref sig .tc := ⟨.hbm, 1004, rfl⟩
abbrev main_cst_100 : Ref sig .tc := ⟨.hbm, 1005, rfl⟩
abbrev main_v860 : Ref sig .tc := ⟨.hbm, 1006, rfl⟩
abbrev main_v861 : Ref sig .tc := ⟨.hbm, 1007, rfl⟩
abbrev main_v862 : Ref sig .tc := ⟨.hbm, 1008, rfl⟩
abbrev main_v863 : Ref sig .tc := ⟨.hbm, 1009, rfl⟩
abbrev main_v864 : Ref sig .tc := ⟨.hbm, 1010, rfl⟩
abbrev main_v865 : Ref sig .tc := ⟨.hbm, 1011, rfl⟩
abbrev main_v866 : Ref sig .tc := ⟨.hbm, 1012, rfl⟩
abbrev main_v867 : Ref sig .tc := ⟨.hbm, 1013, rfl⟩
abbrev main_v868 : Ref sig .tc := ⟨.hbm, 1014, rfl⟩
abbrev main_v869 : Ref sig .tc := ⟨.hbm, 1015, rfl⟩
abbrev main_v870 : Ref sig .tc := ⟨.hbm, 1016, rfl⟩
abbrev main_v871 : Ref sig .tc := ⟨.hbm, 1017, rfl⟩
abbrev main_v872 : Ref sig .tc := ⟨.hbm, 1018, rfl⟩
abbrev main_call16_cst : Ref sig .tc := ⟨.hbm, 1019, rfl⟩
abbrev main_call16_v0 : Ref sig .tc := ⟨.hbm, 1020, rfl⟩
abbrev main_v873 : Ref sig .tc := ⟨.hbm, 1021, rfl⟩
abbrev main_v874 : Ref sig .tc := ⟨.hbm, 1022, rfl⟩
abbrev main_v875 : Ref sig .tc := ⟨.hbm, 1023, rfl⟩
abbrev main_v876 : Ref sig .tc := ⟨.hbm, 1024, rfl⟩
abbrev main_v877 : Ref sig .tc := ⟨.hbm, 1025, rfl⟩
abbrev main_v878 : Ref sig .tc := ⟨.hbm, 1026, rfl⟩
abbrev main_v879 : Ref sig .tc := ⟨.hbm, 1027, rfl⟩
abbrev main_v880 : Ref sig .tc := ⟨.hbm, 1028, rfl⟩
abbrev main_v881 : Ref sig .tc := ⟨.hbm, 1029, rfl⟩
abbrev main_v882 : Ref sig .tc := ⟨.hbm, 1030, rfl⟩
abbrev main_v883 : Ref sig .tc := ⟨.hbm, 1031, rfl⟩
abbrev main_v884 : Ref sig .tc := ⟨.hbm, 1032, rfl⟩
abbrev main_v885 : Ref sig .tc := ⟨.hbm, 1033, rfl⟩
abbrev main_v886 : Ref sig .tc := ⟨.hbm, 1034, rfl⟩
abbrev main_v887 : Ref sig .tc := ⟨.hbm, 1035, rfl⟩
abbrev main_v888 : Ref sig .tc := ⟨.hbm, 1036, rfl⟩
abbrev main_v889 : Ref sig .tc := ⟨.hbm, 1037, rfl⟩
abbrev main_v890 : Ref sig .tc := ⟨.hbm, 1038, rfl⟩
abbrev main_v891 : Ref sig .tc := ⟨.hbm, 1039, rfl⟩
abbrev main_v892 : Ref sig .tc := ⟨.hbm, 1040, rfl⟩
abbrev main_v893 : Ref sig .tc := ⟨.hbm, 1041, rfl⟩
abbrev main_cst_101 : Ref sig .tc := ⟨.hbm, 1042, rfl⟩
abbrev main_v894 : Ref sig .tc := ⟨.hbm, 1043, rfl⟩
abbrev main_v895 : Ref sig .tc := ⟨.hbm, 1044, rfl⟩
abbrev main_cst_102 : Ref sig .tc := ⟨.hbm, 1045, rfl⟩
abbrev main_v896 : Ref sig .tc := ⟨.hbm, 1046, rfl⟩
abbrev main_v897 : Ref sig .tc := ⟨.hbm, 1047, rfl⟩
abbrev main_v898 : Ref sig .tc := ⟨.hbm, 1048, rfl⟩
abbrev main_v899 : Ref sig .tc := ⟨.hbm, 1049, rfl⟩
abbrev main_cst_103 : Ref sig .tc := ⟨.hbm, 1050, rfl⟩
abbrev main_v900 : Ref sig .tc := ⟨.hbm, 1051, rfl⟩
abbrev main_v901 : Ref sig .tc := ⟨.hbm, 1052, rfl⟩
abbrev main_cst_104 : Ref sig .tc := ⟨.hbm, 1053, rfl⟩
abbrev main_v902 : Ref sig .tc := ⟨.hbm, 1054, rfl⟩
abbrev main_v903 : Ref sig .tc := ⟨.hbm, 1055, rfl⟩
abbrev main_v904 : Ref sig .tc := ⟨.hbm, 1056, rfl⟩
abbrev main_v905 : Ref sig .tc := ⟨.hbm, 1057, rfl⟩
abbrev main_v906 : Ref sig .tc := ⟨.hbm, 1058, rfl⟩
abbrev main_cst_105 : Ref sig .tc := ⟨.hbm, 1059, rfl⟩
abbrev main_v907 : Ref sig .tc := ⟨.hbm, 1060, rfl⟩
abbrev main_v908 : Ref sig .tc := ⟨.hbm, 1061, rfl⟩
abbrev main_cst_106 : Ref sig .tc := ⟨.hbm, 1062, rfl⟩
abbrev main_v909 : Ref sig .tc := ⟨.hbm, 1063, rfl⟩
abbrev main_v910 : Ref sig .tc := ⟨.hbm, 1064, rfl⟩
abbrev main_v911 : Ref sig .tc := ⟨.hbm, 1065, rfl⟩
abbrev main_v912 : Ref sig .tc := ⟨.hbm, 1066, rfl⟩
abbrev main_v913 : Ref sig .tc := ⟨.hbm, 1067, rfl⟩
abbrev main_v914 : Ref sig .tc := ⟨.hbm, 1068, rfl⟩
abbrev main_v915 : Ref sig .tc := ⟨.hbm, 1069, rfl⟩
abbrev main_v916 : Ref sig .tc := ⟨.hbm, 1070, rfl⟩
abbrev main_v917 : Ref sig .tc := ⟨.hbm, 1071, rfl⟩
abbrev main_v918 : Ref sig .tc := ⟨.hbm, 1072, rfl⟩
abbrev main_v919 : Ref sig .tc := ⟨.hbm, 1073, rfl⟩
abbrev main_v920 : Ref sig .tc := ⟨.hbm, 1074, rfl⟩
abbrev main_v921 : Ref sig .tc := ⟨.hbm, 1075, rfl⟩
abbrev main_v922 : Ref sig .tc := ⟨.hbm, 1076, rfl⟩
abbrev main_v923 : Ref sig .tc := ⟨.hbm, 1077, rfl⟩
abbrev main_cst_107 : Ref sig .tc := ⟨.hbm, 1078, rfl⟩
abbrev main_v924 : Ref sig .tc := ⟨.hbm, 1079, rfl⟩
abbrev main_v925 : Ref sig .tc := ⟨.hbm, 1080, rfl⟩
abbrev main_v926 : Ref sig .tc := ⟨.hbm, 1081, rfl⟩
abbrev main_v927 : Ref sig .tc := ⟨.hbm, 1082, rfl⟩
abbrev main_v928 : Ref sig .tc := ⟨.hbm, 1083, rfl⟩
abbrev main_v929 : Ref sig .tc := ⟨.hbm, 1084, rfl⟩
abbrev main_v930 : Ref sig .tc := ⟨.hbm, 1085, rfl⟩
abbrev main_v931 : Ref sig .tc := ⟨.hbm, 1086, rfl⟩
abbrev main_v932 : Ref sig .tc := ⟨.hbm, 1087, rfl⟩
abbrev main_v933 : Ref sig .tc := ⟨.hbm, 1088, rfl⟩
abbrev main_v934 : Ref sig .tc := ⟨.hbm, 1089, rfl⟩
abbrev main_v935 : Ref sig .tc := ⟨.hbm, 1090, rfl⟩
abbrev main_v936 : Ref sig .tc := ⟨.hbm, 1091, rfl⟩
abbrev main_call17_cst : Ref sig .tc := ⟨.hbm, 1092, rfl⟩
abbrev main_call17_v0 : Ref sig .tc := ⟨.hbm, 1093, rfl⟩
abbrev main_v937 : Ref sig .tc := ⟨.hbm, 1094, rfl⟩
abbrev main_v938 : Ref sig .tc := ⟨.hbm, 1095, rfl⟩
abbrev main_v939 : Ref sig .tc := ⟨.hbm, 1096, rfl⟩
abbrev main_v940 : Ref sig .tc := ⟨.hbm, 1097, rfl⟩
abbrev main_v941 : Ref sig .tc := ⟨.hbm, 1098, rfl⟩
abbrev main_v942 : Ref sig .tc := ⟨.hbm, 1099, rfl⟩
abbrev main_v943 : Ref sig .tc := ⟨.hbm, 1100, rfl⟩
abbrev main_v944 : Ref sig .tc := ⟨.hbm, 1101, rfl⟩
abbrev main_v945 : Ref sig .tc := ⟨.hbm, 1102, rfl⟩
abbrev main_v946 : Ref sig .tc := ⟨.hbm, 1103, rfl⟩
abbrev main_v947 : Ref sig .tc := ⟨.hbm, 1104, rfl⟩
abbrev main_v948 : Ref sig .tc := ⟨.hbm, 1105, rfl⟩
abbrev main_v949 : Ref sig .tc := ⟨.hbm, 1106, rfl⟩
abbrev main_v950 : Ref sig .tc := ⟨.hbm, 1107, rfl⟩
abbrev main_v951 : Ref sig .tc := ⟨.hbm, 1108, rfl⟩
abbrev main_v952 : Ref sig .tc := ⟨.hbm, 1109, rfl⟩
abbrev main_v953 : Ref sig .tc := ⟨.hbm, 1110, rfl⟩
abbrev main_v954 : Ref sig .tc := ⟨.hbm, 1111, rfl⟩
abbrev main_v955 : Ref sig .tc := ⟨.hbm, 1112, rfl⟩
abbrev main_v956 : Ref sig .tc := ⟨.hbm, 1113, rfl⟩
abbrev main_v957 : Ref sig .tc := ⟨.hbm, 1114, rfl⟩
abbrev main_cst_108 : Ref sig .tc := ⟨.hbm, 1115, rfl⟩
abbrev main_v958 : Ref sig .tc := ⟨.hbm, 1116, rfl⟩
abbrev main_v959 : Ref sig .tc := ⟨.hbm, 1117, rfl⟩
abbrev main_cst_109 : Ref sig .tc := ⟨.hbm, 1118, rfl⟩
abbrev main_v960 : Ref sig .tc := ⟨.hbm, 1119, rfl⟩
abbrev main_v961 : Ref sig .tc := ⟨.hbm, 1120, rfl⟩
abbrev main_v962 : Ref sig .tc := ⟨.hbm, 1121, rfl⟩
abbrev main_v963 : Ref sig .tc := ⟨.hbm, 1122, rfl⟩
abbrev main_cst_110 : Ref sig .tc := ⟨.hbm, 1123, rfl⟩
abbrev main_v964 : Ref sig .tc := ⟨.hbm, 1124, rfl⟩
abbrev main_v965 : Ref sig .tc := ⟨.hbm, 1125, rfl⟩
abbrev main_cst_111 : Ref sig .tc := ⟨.hbm, 1126, rfl⟩
abbrev main_v966 : Ref sig .tc := ⟨.hbm, 1127, rfl⟩
abbrev main_v967 : Ref sig .tc := ⟨.hbm, 1128, rfl⟩
abbrev main_v968 : Ref sig .tc := ⟨.hbm, 1129, rfl⟩
abbrev main_v969 : Ref sig .tc := ⟨.hbm, 1130, rfl⟩
abbrev main_v970 : Ref sig .tc := ⟨.hbm, 1131, rfl⟩
abbrev main_cst_112 : Ref sig .tc := ⟨.hbm, 1132, rfl⟩
abbrev main_v971 : Ref sig .tc := ⟨.hbm, 1133, rfl⟩
abbrev main_v972 : Ref sig .tc := ⟨.hbm, 1134, rfl⟩
abbrev main_cst_113 : Ref sig .tc := ⟨.hbm, 1135, rfl⟩
abbrev main_v973 : Ref sig .tc := ⟨.hbm, 1136, rfl⟩
abbrev main_v974 : Ref sig .tc := ⟨.hbm, 1137, rfl⟩
abbrev main_v975 : Ref sig .tc := ⟨.hbm, 1138, rfl⟩
abbrev main_v976 : Ref sig .tc := ⟨.hbm, 1139, rfl⟩
abbrev main_v977 : Ref sig .tc := ⟨.hbm, 1140, rfl⟩
abbrev main_v978 : Ref sig .tc := ⟨.hbm, 1141, rfl⟩
abbrev main_v979 : Ref sig .tc := ⟨.hbm, 1142, rfl⟩
abbrev main_v980 : Ref sig .tc := ⟨.hbm, 1143, rfl⟩
abbrev main_v981 : Ref sig .tc := ⟨.hbm, 1144, rfl⟩
abbrev main_v982 : Ref sig .tc := ⟨.hbm, 1145, rfl⟩
abbrev main_v983 : Ref sig .tc := ⟨.hbm, 1146, rfl⟩
abbrev main_v984 : Ref sig .tc := ⟨.hbm, 1147, rfl⟩
abbrev main_v985 : Ref sig .tc := ⟨.hbm, 1148, rfl⟩
abbrev main_v986 : Ref sig .tc := ⟨.hbm, 1149, rfl⟩
abbrev main_v987 : Ref sig .tc := ⟨.hbm, 1150, rfl⟩
abbrev main_cst_114 : Ref sig .tc := ⟨.hbm, 1151, rfl⟩
abbrev main_v988 : Ref sig .tc := ⟨.hbm, 1152, rfl⟩
abbrev main_v989 : Ref sig .tc := ⟨.hbm, 1153, rfl⟩
abbrev main_v990 : Ref sig .tc := ⟨.hbm, 1154, rfl⟩
abbrev main_v991 : Ref sig .tc := ⟨.hbm, 1155, rfl⟩
abbrev main_v992 : Ref sig .tc := ⟨.hbm, 1156, rfl⟩
abbrev main_v993 : Ref sig .tc := ⟨.hbm, 1157, rfl⟩
abbrev main_v994 : Ref sig .tc := ⟨.hbm, 1158, rfl⟩
abbrev main_v995 : Ref sig .tc := ⟨.hbm, 1159, rfl⟩
abbrev main_v996 : Ref sig .tc := ⟨.hbm, 1160, rfl⟩
abbrev main_v997 : Ref sig .tc := ⟨.hbm, 1161, rfl⟩
abbrev main_v998 : Ref sig .tc := ⟨.hbm, 1162, rfl⟩
abbrev main_v999 : Ref sig .tc := ⟨.hbm, 1163, rfl⟩
abbrev main_v1000 : Ref sig .tc := ⟨.hbm, 1164, rfl⟩
abbrev main_call18_cst : Ref sig .tc := ⟨.hbm, 1165, rfl⟩
abbrev main_call18_v0 : Ref sig .tc := ⟨.hbm, 1166, rfl⟩
abbrev main_v1001 : Ref sig .tc := ⟨.hbm, 1167, rfl⟩
abbrev main_v1002 : Ref sig .tc := ⟨.hbm, 1168, rfl⟩
abbrev main_v1003 : Ref sig .tc := ⟨.hbm, 1169, rfl⟩
abbrev main_v1004 : Ref sig .tc := ⟨.hbm, 1170, rfl⟩
abbrev main_v1005 : Ref sig .tc := ⟨.hbm, 1171, rfl⟩
abbrev main_v1006 : Ref sig .tc := ⟨.hbm, 1172, rfl⟩
abbrev main_v1007 : Ref sig .tc := ⟨.hbm, 1173, rfl⟩
abbrev main_v1008 : Ref sig .tc := ⟨.hbm, 1174, rfl⟩
abbrev main_v1009 : Ref sig .tc := ⟨.hbm, 1175, rfl⟩
abbrev main_v1010 : Ref sig .tc := ⟨.hbm, 1176, rfl⟩
abbrev main_v1011 : Ref sig .tc := ⟨.hbm, 1177, rfl⟩
abbrev main_v1012 : Ref sig .tc := ⟨.hbm, 1178, rfl⟩
abbrev main_v1013 : Ref sig .tc := ⟨.hbm, 1179, rfl⟩
abbrev main_v1014 : Ref sig .tc := ⟨.hbm, 1180, rfl⟩
abbrev main_v1015 : Ref sig .tc := ⟨.hbm, 1181, rfl⟩
abbrev main_v1016 : Ref sig .tc := ⟨.hbm, 1182, rfl⟩
abbrev main_v1017 : Ref sig .tc := ⟨.hbm, 1183, rfl⟩
abbrev main_v1018 : Ref sig .tc := ⟨.hbm, 1184, rfl⟩
abbrev main_v1019 : Ref sig .tc := ⟨.hbm, 1185, rfl⟩
abbrev main_v1020 : Ref sig .tc := ⟨.hbm, 1186, rfl⟩
abbrev main_v1021 : Ref sig .tc := ⟨.hbm, 1187, rfl⟩
abbrev main_cst_115 : Ref sig .tc := ⟨.hbm, 1188, rfl⟩
abbrev main_v1022 : Ref sig .tc := ⟨.hbm, 1189, rfl⟩
abbrev main_v1023 : Ref sig .tc := ⟨.hbm, 1190, rfl⟩
abbrev main_cst_116 : Ref sig .tc := ⟨.hbm, 1191, rfl⟩
abbrev main_v1024 : Ref sig .tc := ⟨.hbm, 1192, rfl⟩
abbrev main_v1025 : Ref sig .tc := ⟨.hbm, 1193, rfl⟩
abbrev main_v1026 : Ref sig .tc := ⟨.hbm, 1194, rfl⟩
abbrev main_v1027 : Ref sig .tc := ⟨.hbm, 1195, rfl⟩
abbrev main_cst_117 : Ref sig .tc := ⟨.hbm, 1196, rfl⟩
abbrev main_v1028 : Ref sig .tc := ⟨.hbm, 1197, rfl⟩
abbrev main_v1029 : Ref sig .tc := ⟨.hbm, 1198, rfl⟩
abbrev main_cst_118 : Ref sig .tc := ⟨.hbm, 1199, rfl⟩
abbrev main_v1030 : Ref sig .tc := ⟨.hbm, 1200, rfl⟩
abbrev main_v1031 : Ref sig .tc := ⟨.hbm, 1201, rfl⟩
abbrev main_v1032 : Ref sig .tc := ⟨.hbm, 1202, rfl⟩
abbrev main_v1033 : Ref sig .tc := ⟨.hbm, 1203, rfl⟩
abbrev main_v1034 : Ref sig .tc := ⟨.hbm, 1204, rfl⟩
abbrev main_cst_119 : Ref sig .tc := ⟨.hbm, 1205, rfl⟩
abbrev main_v1035 : Ref sig .tc := ⟨.hbm, 1206, rfl⟩
abbrev main_v1036 : Ref sig .tc := ⟨.hbm, 1207, rfl⟩
abbrev main_cst_120 : Ref sig .tc := ⟨.hbm, 1208, rfl⟩
abbrev main_v1037 : Ref sig .tc := ⟨.hbm, 1209, rfl⟩
abbrev main_v1038 : Ref sig .tc := ⟨.hbm, 1210, rfl⟩
abbrev main_v1039 : Ref sig .tc := ⟨.hbm, 1211, rfl⟩
abbrev main_v1040 : Ref sig .tc := ⟨.hbm, 1212, rfl⟩
abbrev main_v1041 : Ref sig .tc := ⟨.hbm, 1213, rfl⟩
abbrev main_v1042 : Ref sig .tc := ⟨.hbm, 1214, rfl⟩
abbrev main_v1043 : Ref sig .tc := ⟨.hbm, 1215, rfl⟩
abbrev main_v1044 : Ref sig .tc := ⟨.hbm, 1216, rfl⟩
abbrev main_v1045 : Ref sig .tc := ⟨.hbm, 1217, rfl⟩
abbrev main_v1046 : Ref sig .tc := ⟨.hbm, 1218, rfl⟩
abbrev main_v1047 : Ref sig .tc := ⟨.hbm, 1219, rfl⟩
abbrev main_v1048 : Ref sig .tc := ⟨.hbm, 1220, rfl⟩
abbrev main_v1049 : Ref sig .tc := ⟨.hbm, 1221, rfl⟩
abbrev main_v1050 : Ref sig .tc := ⟨.hbm, 1222, rfl⟩
abbrev main_v1051 : Ref sig .tc := ⟨.hbm, 1223, rfl⟩
abbrev main_cst_121 : Ref sig .tc := ⟨.hbm, 1224, rfl⟩
abbrev main_v1052 : Ref sig .tc := ⟨.hbm, 1225, rfl⟩
abbrev main_v1053 : Ref sig .tc := ⟨.hbm, 1226, rfl⟩
abbrev main_v1054 : Ref sig .tc := ⟨.hbm, 1227, rfl⟩
abbrev main_v1055 : Ref sig .tc := ⟨.hbm, 1228, rfl⟩
abbrev main_v1056 : Ref sig .tc := ⟨.hbm, 1229, rfl⟩
abbrev main_v1057 : Ref sig .tc := ⟨.hbm, 1230, rfl⟩
abbrev main_v1058 : Ref sig .tc := ⟨.hbm, 1231, rfl⟩
abbrev main_v1059 : Ref sig .tc := ⟨.hbm, 1232, rfl⟩
abbrev main_v1060 : Ref sig .tc := ⟨.hbm, 1233, rfl⟩
abbrev main_v1061 : Ref sig .tc := ⟨.hbm, 1234, rfl⟩
abbrev main_v1062 : Ref sig .tc := ⟨.hbm, 1235, rfl⟩
abbrev main_v1063 : Ref sig .tc := ⟨.hbm, 1236, rfl⟩
abbrev main_v1064 : Ref sig .tc := ⟨.hbm, 1237, rfl⟩
abbrev main_call19_cst : Ref sig .tc := ⟨.hbm, 1238, rfl⟩
abbrev main_call19_v0 : Ref sig .tc := ⟨.hbm, 1239, rfl⟩
abbrev main_v1065 : Ref sig .tc := ⟨.hbm, 1240, rfl⟩
abbrev main_v1066 : Ref sig .tc := ⟨.hbm, 1241, rfl⟩
abbrev main_v1067 : Ref sig .tc := ⟨.hbm, 1242, rfl⟩
abbrev main_v1068 : Ref sig .tc := ⟨.hbm, 1243, rfl⟩
abbrev main_v1069 : Ref sig .tc := ⟨.hbm, 1244, rfl⟩
abbrev main_v1070 : Ref sig .tc := ⟨.hbm, 1245, rfl⟩
abbrev main_v1071 : Ref sig .tc := ⟨.hbm, 1246, rfl⟩
abbrev main_v1072 : Ref sig .tc := ⟨.hbm, 1247, rfl⟩
abbrev main_v1073 : Ref sig .tc := ⟨.hbm, 1248, rfl⟩
abbrev main_v1074 : Ref sig .tc := ⟨.hbm, 1249, rfl⟩
abbrev main_v1075 : Ref sig .tc := ⟨.hbm, 1250, rfl⟩
abbrev main_v1076 : Ref sig .tc := ⟨.hbm, 1251, rfl⟩
abbrev main_v1077 : Ref sig .tc := ⟨.hbm, 1252, rfl⟩
abbrev main_v1078 : Ref sig .tc := ⟨.hbm, 1253, rfl⟩
abbrev main_v1079 : Ref sig .tc := ⟨.hbm, 1254, rfl⟩
abbrev main_v1080 : Ref sig .tc := ⟨.hbm, 1255, rfl⟩
abbrev main_v1081 : Ref sig .tc := ⟨.hbm, 1256, rfl⟩
abbrev main_v1082 : Ref sig .tc := ⟨.hbm, 1257, rfl⟩
abbrev main_v1083 : Ref sig .tc := ⟨.hbm, 1258, rfl⟩
abbrev main_v1084 : Ref sig .tc := ⟨.hbm, 1259, rfl⟩
abbrev main_v1085 : Ref sig .tc := ⟨.hbm, 1260, rfl⟩
abbrev main_cst_122 : Ref sig .tc := ⟨.hbm, 1261, rfl⟩
abbrev main_v1086 : Ref sig .tc := ⟨.hbm, 1262, rfl⟩
abbrev main_v1087 : Ref sig .tc := ⟨.hbm, 1263, rfl⟩
abbrev main_cst_123 : Ref sig .tc := ⟨.hbm, 1264, rfl⟩
abbrev main_v1088 : Ref sig .tc := ⟨.hbm, 1265, rfl⟩
abbrev main_v1089 : Ref sig .tc := ⟨.hbm, 1266, rfl⟩
abbrev main_v1090 : Ref sig .tc := ⟨.hbm, 1267, rfl⟩
abbrev main_v1091 : Ref sig .tc := ⟨.hbm, 1268, rfl⟩
abbrev main_cst_124 : Ref sig .tc := ⟨.hbm, 1269, rfl⟩
abbrev main_v1092 : Ref sig .tc := ⟨.hbm, 1270, rfl⟩
abbrev main_v1093 : Ref sig .tc := ⟨.hbm, 1271, rfl⟩
abbrev main_cst_125 : Ref sig .tc := ⟨.hbm, 1272, rfl⟩
abbrev main_v1094 : Ref sig .tc := ⟨.hbm, 1273, rfl⟩
abbrev main_v1095 : Ref sig .tc := ⟨.hbm, 1274, rfl⟩
abbrev main_v1096 : Ref sig .tc := ⟨.hbm, 1275, rfl⟩
abbrev main_v1097 : Ref sig .tc := ⟨.hbm, 1276, rfl⟩
abbrev main_v1098 : Ref sig .tc := ⟨.hbm, 1277, rfl⟩
abbrev main_cst_126 : Ref sig .tc := ⟨.hbm, 1278, rfl⟩
abbrev main_v1099 : Ref sig .tc := ⟨.hbm, 1279, rfl⟩
abbrev main_v1100 : Ref sig .tc := ⟨.hbm, 1280, rfl⟩
abbrev main_cst_127 : Ref sig .tc := ⟨.hbm, 1281, rfl⟩
abbrev main_v1101 : Ref sig .tc := ⟨.hbm, 1282, rfl⟩
abbrev main_v1102 : Ref sig .tc := ⟨.hbm, 1283, rfl⟩
abbrev main_v1103 : Ref sig .tc := ⟨.hbm, 1284, rfl⟩
abbrev main_v1104 : Ref sig .tc := ⟨.hbm, 1285, rfl⟩
abbrev main_v1105 : Ref sig .tc := ⟨.hbm, 1286, rfl⟩
abbrev main_v1106 : Ref sig .tc := ⟨.hbm, 1287, rfl⟩
abbrev main_v1107 : Ref sig .tc := ⟨.hbm, 1288, rfl⟩
abbrev main_v1108 : Ref sig .tc := ⟨.hbm, 1289, rfl⟩
abbrev main_v1109 : Ref sig .tc := ⟨.hbm, 1290, rfl⟩
abbrev main_v1110 : Ref sig .tc := ⟨.hbm, 1291, rfl⟩
abbrev main_v1111 : Ref sig .tc := ⟨.hbm, 1292, rfl⟩
abbrev main_v1112 : Ref sig .tc := ⟨.hbm, 1293, rfl⟩
abbrev main_v1113 : Ref sig .tc := ⟨.hbm, 1294, rfl⟩
abbrev main_v1114 : Ref sig .tc := ⟨.hbm, 1295, rfl⟩
abbrev main_v1115 : Ref sig .tc := ⟨.hbm, 1296, rfl⟩
abbrev main_cst_128 : Ref sig .tc := ⟨.hbm, 1297, rfl⟩
abbrev main_v1116 : Ref sig .tc := ⟨.hbm, 1298, rfl⟩
abbrev main_v1117 : Ref sig .tc := ⟨.hbm, 1299, rfl⟩
abbrev main_v1118 : Ref sig .tc := ⟨.hbm, 1300, rfl⟩
abbrev main_v1119 : Ref sig .tc := ⟨.hbm, 1301, rfl⟩
abbrev main_v1120 : Ref sig .tc := ⟨.hbm, 1302, rfl⟩
abbrev main_v1121 : Ref sig .tc := ⟨.hbm, 1303, rfl⟩
abbrev main_v1122 : Ref sig .tc := ⟨.hbm, 1304, rfl⟩
abbrev main_v1123 : Ref sig .tc := ⟨.hbm, 1305, rfl⟩
abbrev main_v1124 : Ref sig .tc := ⟨.hbm, 1306, rfl⟩
abbrev main_v1125 : Ref sig .tc := ⟨.hbm, 1307, rfl⟩
abbrev main_v1126 : Ref sig .tc := ⟨.hbm, 1308, rfl⟩
abbrev main_v1127 : Ref sig .tc := ⟨.hbm, 1309, rfl⟩
abbrev main_v1128 : Ref sig .tc := ⟨.hbm, 1310, rfl⟩
abbrev main_call20_cst : Ref sig .tc := ⟨.hbm, 1311, rfl⟩
abbrev main_call20_v0 : Ref sig .tc := ⟨.hbm, 1312, rfl⟩
abbrev main_v1129 : Ref sig .tc := ⟨.hbm, 1313, rfl⟩
abbrev main_v1130 : Ref sig .tc := ⟨.hbm, 1314, rfl⟩
abbrev main_v1131 : Ref sig .tc := ⟨.hbm, 1315, rfl⟩
abbrev main_v1132 : Ref sig .tc := ⟨.hbm, 1316, rfl⟩
abbrev main_v1133 : Ref sig .tc := ⟨.hbm, 1317, rfl⟩
abbrev main_v1134 : Ref sig .tc := ⟨.hbm, 1318, rfl⟩
abbrev main_v1135 : Ref sig .tc := ⟨.hbm, 1319, rfl⟩
abbrev main_v1136 : Ref sig .tc := ⟨.hbm, 1320, rfl⟩
abbrev main_v1137 : Ref sig .tc := ⟨.hbm, 1321, rfl⟩
abbrev main_v1138 : Ref sig .tc := ⟨.hbm, 1322, rfl⟩
abbrev main_v1139 : Ref sig .tc := ⟨.hbm, 1323, rfl⟩
abbrev main_v1140 : Ref sig .tc := ⟨.hbm, 1324, rfl⟩
abbrev main_v1141 : Ref sig .tc := ⟨.hbm, 1325, rfl⟩
abbrev main_v1142 : Ref sig .tc := ⟨.hbm, 1326, rfl⟩
abbrev main_v1143 : Ref sig .tc := ⟨.hbm, 1327, rfl⟩
abbrev main_v1144 : Ref sig .tc := ⟨.hbm, 1328, rfl⟩
abbrev main_v1145 : Ref sig .tc := ⟨.hbm, 1329, rfl⟩
abbrev main_v1146 : Ref sig .tc := ⟨.hbm, 1330, rfl⟩
abbrev main_v1147 : Ref sig .tc := ⟨.hbm, 1331, rfl⟩
abbrev main_v1148 : Ref sig .tc := ⟨.hbm, 1332, rfl⟩
abbrev main_v1149 : Ref sig .tc := ⟨.hbm, 1333, rfl⟩
abbrev main_cst_129 : Ref sig .tc := ⟨.hbm, 1334, rfl⟩
abbrev main_v1150 : Ref sig .tc := ⟨.hbm, 1335, rfl⟩
abbrev main_v1151 : Ref sig .tc := ⟨.hbm, 1336, rfl⟩
abbrev main_cst_130 : Ref sig .tc := ⟨.hbm, 1337, rfl⟩
abbrev main_v1152 : Ref sig .tc := ⟨.hbm, 1338, rfl⟩
abbrev main_v1153 : Ref sig .tc := ⟨.hbm, 1339, rfl⟩
abbrev main_v1154 : Ref sig .tc := ⟨.hbm, 1340, rfl⟩
abbrev main_v1155 : Ref sig .tc := ⟨.hbm, 1341, rfl⟩
abbrev main_cst_131 : Ref sig .tc := ⟨.hbm, 1342, rfl⟩
abbrev main_v1156 : Ref sig .tc := ⟨.hbm, 1343, rfl⟩
abbrev main_v1157 : Ref sig .tc := ⟨.hbm, 1344, rfl⟩
abbrev main_cst_132 : Ref sig .tc := ⟨.hbm, 1345, rfl⟩
abbrev main_v1158 : Ref sig .tc := ⟨.hbm, 1346, rfl⟩
abbrev main_v1159 : Ref sig .tc := ⟨.hbm, 1347, rfl⟩
abbrev main_v1160 : Ref sig .tc := ⟨.hbm, 1348, rfl⟩
abbrev main_v1161 : Ref sig .tc := ⟨.hbm, 1349, rfl⟩
abbrev main_v1162 : Ref sig .tc := ⟨.hbm, 1350, rfl⟩
abbrev main_cst_133 : Ref sig .tc := ⟨.hbm, 1351, rfl⟩
abbrev main_v1163 : Ref sig .tc := ⟨.hbm, 1352, rfl⟩
abbrev main_v1164 : Ref sig .tc := ⟨.hbm, 1353, rfl⟩
abbrev main_cst_134 : Ref sig .tc := ⟨.hbm, 1354, rfl⟩
abbrev main_v1165 : Ref sig .tc := ⟨.hbm, 1355, rfl⟩
abbrev main_v1166 : Ref sig .tc := ⟨.hbm, 1356, rfl⟩
abbrev main_v1167 : Ref sig .tc := ⟨.hbm, 1357, rfl⟩
abbrev main_v1168 : Ref sig .tc := ⟨.hbm, 1358, rfl⟩
abbrev main_v1169 : Ref sig .tc := ⟨.hbm, 1359, rfl⟩
abbrev main_v1170 : Ref sig .tc := ⟨.hbm, 1360, rfl⟩
abbrev main_v1171 : Ref sig .tc := ⟨.hbm, 1361, rfl⟩
abbrev main_v1172 : Ref sig .tc := ⟨.hbm, 1362, rfl⟩
abbrev main_v1173 : Ref sig .tc := ⟨.hbm, 1363, rfl⟩
abbrev main_v1174 : Ref sig .tc := ⟨.hbm, 1364, rfl⟩
abbrev main_v1175 : Ref sig .tc := ⟨.hbm, 1365, rfl⟩
abbrev main_v1176 : Ref sig .tc := ⟨.hbm, 1366, rfl⟩
abbrev main_v1177 : Ref sig .tc := ⟨.hbm, 1367, rfl⟩
abbrev main_v1178 : Ref sig .tc := ⟨.hbm, 1368, rfl⟩
abbrev main_v1179 : Ref sig .tc := ⟨.hbm, 1369, rfl⟩
abbrev main_cst_135 : Ref sig .tc := ⟨.hbm, 1370, rfl⟩
abbrev main_v1180 : Ref sig .tc := ⟨.hbm, 1371, rfl⟩
abbrev main_v1181 : Ref sig .tc := ⟨.hbm, 1372, rfl⟩
abbrev main_v1182 : Ref sig .tc := ⟨.hbm, 1373, rfl⟩
abbrev main_v1183 : Ref sig .tc := ⟨.hbm, 1374, rfl⟩
abbrev main_v1184 : Ref sig .tc := ⟨.hbm, 1375, rfl⟩
abbrev main_v1185 : Ref sig .tc := ⟨.hbm, 1376, rfl⟩
abbrev main_v1186 : Ref sig .tc := ⟨.hbm, 1377, rfl⟩
abbrev main_v1187 : Ref sig .tc := ⟨.hbm, 1378, rfl⟩
abbrev main_v1188 : Ref sig .tc := ⟨.hbm, 1379, rfl⟩
abbrev main_v1189 : Ref sig .tc := ⟨.hbm, 1380, rfl⟩
abbrev main_v1190 : Ref sig .tc := ⟨.hbm, 1381, rfl⟩
abbrev main_v1191 : Ref sig .tc := ⟨.hbm, 1382, rfl⟩
abbrev main_v1192 : Ref sig .tc := ⟨.hbm, 1383, rfl⟩
abbrev main_v1193 : Ref sig .tc := ⟨.hbm, 1384, rfl⟩
abbrev main_v1194 : Ref sig .tc := ⟨.hbm, 1385, rfl⟩
abbrev main_v1195 : Ref sig .tc := ⟨.hbm, 1386, rfl⟩
abbrev main_v1196 : Ref sig .tc := ⟨.hbm, 1387, rfl⟩
abbrev main_v1197 : Ref sig .tc := ⟨.hbm, 1388, rfl⟩
abbrev main_v1198 : Ref sig .tc := ⟨.hbm, 1389, rfl⟩
abbrev main_v1199 : Ref sig .tc := ⟨.hbm, 1390, rfl⟩
abbrev main_v1200 : Ref sig .tc := ⟨.hbm, 1391, rfl⟩
abbrev main_v1201 : Ref sig .tc := ⟨.hbm, 1392, rfl⟩
abbrev main_v1202 : Ref sig .tc := ⟨.hbm, 1393, rfl⟩
abbrev main_v1203 : Ref sig .tc := ⟨.hbm, 1394, rfl⟩
abbrev main_v1204 : Ref sig .tc := ⟨.hbm, 1395, rfl⟩
abbrev main_v1205 : Ref sig .tc := ⟨.hbm, 1396, rfl⟩
abbrev main_v1206 : Ref sig .tc := ⟨.hbm, 1397, rfl⟩
abbrev main_v1207 : Ref sig .tc := ⟨.hbm, 1398, rfl⟩
abbrev main_v1208 : Ref sig .tc := ⟨.hbm, 1399, rfl⟩
abbrev main_v1209 : Ref sig .tc := ⟨.hbm, 1400, rfl⟩
abbrev main_v1210 : Ref sig .tc := ⟨.hbm, 1401, rfl⟩
abbrev main_v1211 : Ref sig .tc := ⟨.hbm, 1402, rfl⟩
abbrev main_v1212 : Ref sig .tc := ⟨.hbm, 1403, rfl⟩
abbrev main_v1213 : Ref sig .tc := ⟨.hbm, 1404, rfl⟩
abbrev main_v1214 : Ref sig .tc := ⟨.hbm, 1405, rfl⟩
abbrev main_v1215 : Ref sig .tc := ⟨.hbm, 1406, rfl⟩
abbrev main_v1216 : Ref sig .tc := ⟨.hbm, 1407, rfl⟩
abbrev main_v1217 : Ref sig .tc := ⟨.hbm, 1408, rfl⟩
abbrev main_v1218 : Ref sig .tc := ⟨.hbm, 1409, rfl⟩
abbrev main_v1219 : Ref sig .tc := ⟨.hbm, 1410, rfl⟩
abbrev main_v1220 : Ref sig .tc := ⟨.hbm, 1411, rfl⟩
abbrev main_v1221 : Ref sig .tc := ⟨.hbm, 1412, rfl⟩
abbrev main_v1222 : Ref sig .tc := ⟨.hbm, 1413, rfl⟩
abbrev main_v1223 : Ref sig .tc := ⟨.hbm, 1414, rfl⟩
abbrev main_v1224 : Ref sig .tc := ⟨.hbm, 1415, rfl⟩
abbrev main_v1225 : Ref sig .tc := ⟨.hbm, 1416, rfl⟩
abbrev main_v1226 : Ref sig .tc := ⟨.hbm, 1417, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_scratch0 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg7_0 : Ref sig .tc := ⟨.vmem, 61, rfl⟩
abbrev cc6_scratch0 : Ref sig .tc := ⟨.vmem, 62, rfl⟩
abbrev cc7_stg0_0 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg5_0 : Ref sig .tc := ⟨.vmem, 68, rfl⟩
abbrev cc7_stg6_0 : Ref sig .tc := ⟨.vmem, 69, rfl⟩
abbrev cc7_stg7_0 : Ref sig .tc := ⟨.vmem, 70, rfl⟩
abbrev cc7_scratch0 : Ref sig .tc := ⟨.vmem, 71, rfl⟩
abbrev cc8_stg0_0 : Ref sig .tc := ⟨.vmem, 72, rfl⟩
abbrev cc8_stg1_0 : Ref sig .tc := ⟨.vmem, 73, rfl⟩
abbrev cc8_stg2_0 : Ref sig .tc := ⟨.vmem, 74, rfl⟩
abbrev cc8_stg3_0 : Ref sig .tc := ⟨.vmem, 75, rfl⟩
abbrev cc8_stg4_0 : Ref sig .tc := ⟨.vmem, 76, rfl⟩
abbrev cc8_stg5_0 : Ref sig .tc := ⟨.vmem, 77, rfl⟩
abbrev cc8_stg6_0 : Ref sig .tc := ⟨.vmem, 78, rfl⟩
abbrev cc8_stg7_0 : Ref sig .tc := ⟨.vmem, 79, rfl⟩
abbrev cc8_scratch0 : Ref sig .tc := ⟨.vmem, 80, rfl⟩
abbrev cc9_stg0_0 : Ref sig .tc := ⟨.vmem, 81, rfl⟩
abbrev cc9_stg1_0 : Ref sig .tc := ⟨.vmem, 82, rfl⟩
abbrev cc9_stg2_0 : Ref sig .tc := ⟨.vmem, 83, rfl⟩
abbrev cc9_stg3_0 : Ref sig .tc := ⟨.vmem, 84, rfl⟩
abbrev cc9_stg4_0 : Ref sig .tc := ⟨.vmem, 85, rfl⟩
abbrev cc9_stg5_0 : Ref sig .tc := ⟨.vmem, 86, rfl⟩
abbrev cc9_stg6_0 : Ref sig .tc := ⟨.vmem, 87, rfl⟩
abbrev cc9_stg7_0 : Ref sig .tc := ⟨.vmem, 88, rfl⟩
abbrev cc9_scratch0 : Ref sig .tc := ⟨.vmem, 89, rfl⟩
abbrev cc10_stg0_0 : Ref sig .tc := ⟨.vmem, 90, rfl⟩
abbrev cc10_stg1_0 : Ref sig .tc := ⟨.vmem, 91, rfl⟩
abbrev cc10_stg2_0 : Ref sig .tc := ⟨.vmem, 92, rfl⟩
abbrev cc10_stg3_0 : Ref sig .tc := ⟨.vmem, 93, rfl⟩
abbrev cc10_stg4_0 : Ref sig .tc := ⟨.vmem, 94, rfl⟩
abbrev cc10_stg5_0 : Ref sig .tc := ⟨.vmem, 95, rfl⟩
abbrev cc10_stg6_0 : Ref sig .tc := ⟨.vmem, 96, rfl⟩
abbrev cc10_stg7_0 : Ref sig .tc := ⟨.vmem, 97, rfl⟩
abbrev cc10_scratch0 : Ref sig .tc := ⟨.vmem, 98, rfl⟩
abbrev cc11_stg0_0 : Ref sig .tc := ⟨.vmem, 99, rfl⟩
abbrev cc11_stg1_0 : Ref sig .tc := ⟨.vmem, 100, rfl⟩
abbrev cc11_stg2_0 : Ref sig .tc := ⟨.vmem, 101, rfl⟩
abbrev cc11_stg3_0 : Ref sig .tc := ⟨.vmem, 102, rfl⟩
abbrev cc11_stg4_0 : Ref sig .tc := ⟨.vmem, 103, rfl⟩
abbrev cc11_stg5_0 : Ref sig .tc := ⟨.vmem, 104, rfl⟩
abbrev cc11_stg6_0 : Ref sig .tc := ⟨.vmem, 105, rfl⟩
abbrev cc11_stg7_0 : Ref sig .tc := ⟨.vmem, 106, rfl⟩
abbrev cc11_scratch0 : Ref sig .tc := ⟨.vmem, 107, rfl⟩
abbrev cc12_stg0_0 : Ref sig .tc := ⟨.vmem, 108, rfl⟩
abbrev cc12_stg1_0 : Ref sig .tc := ⟨.vmem, 109, rfl⟩
abbrev cc12_stg2_0 : Ref sig .tc := ⟨.vmem, 110, rfl⟩
abbrev cc12_stg3_0 : Ref sig .tc := ⟨.vmem, 111, rfl⟩
abbrev cc12_stg4_0 : Ref sig .tc := ⟨.vmem, 112, rfl⟩
abbrev cc12_stg5_0 : Ref sig .tc := ⟨.vmem, 113, rfl⟩
abbrev cc12_stg6_0 : Ref sig .tc := ⟨.vmem, 114, rfl⟩
abbrev cc12_stg7_0 : Ref sig .tc := ⟨.vmem, 115, rfl⟩
abbrev cc12_scratch0 : Ref sig .tc := ⟨.vmem, 116, rfl⟩
abbrev cc13_stg0_0 : Ref sig .tc := ⟨.vmem, 117, rfl⟩
abbrev cc13_stg1_0 : Ref sig .tc := ⟨.vmem, 118, rfl⟩
abbrev cc13_stg2_0 : Ref sig .tc := ⟨.vmem, 119, rfl⟩
abbrev cc13_stg3_0 : Ref sig .tc := ⟨.vmem, 120, rfl⟩
abbrev cc13_stg4_0 : Ref sig .tc := ⟨.vmem, 121, rfl⟩
abbrev cc13_stg5_0 : Ref sig .tc := ⟨.vmem, 122, rfl⟩
abbrev cc13_stg6_0 : Ref sig .tc := ⟨.vmem, 123, rfl⟩
abbrev cc13_stg7_0 : Ref sig .tc := ⟨.vmem, 124, rfl⟩
abbrev cc13_scratch0 : Ref sig .tc := ⟨.vmem, 125, rfl⟩
abbrev cc14_stg0_0 : Ref sig .tc := ⟨.vmem, 126, rfl⟩
abbrev cc14_stg1_0 : Ref sig .tc := ⟨.vmem, 127, rfl⟩
abbrev cc14_stg2_0 : Ref sig .tc := ⟨.vmem, 128, rfl⟩
abbrev cc14_stg3_0 : Ref sig .tc := ⟨.vmem, 129, rfl⟩
abbrev cc14_stg4_0 : Ref sig .tc := ⟨.vmem, 130, rfl⟩
abbrev cc14_stg5_0 : Ref sig .tc := ⟨.vmem, 131, rfl⟩
abbrev cc14_stg6_0 : Ref sig .tc := ⟨.vmem, 132, rfl⟩
abbrev cc14_stg7_0 : Ref sig .tc := ⟨.vmem, 133, rfl⟩
abbrev cc14_scratch0 : Ref sig .tc := ⟨.vmem, 134, rfl⟩
abbrev cc15_stg0_0 : Ref sig .tc := ⟨.vmem, 135, rfl⟩
abbrev cc15_stg1_0 : Ref sig .tc := ⟨.vmem, 136, rfl⟩
abbrev cc15_stg2_0 : Ref sig .tc := ⟨.vmem, 137, rfl⟩
abbrev cc15_stg3_0 : Ref sig .tc := ⟨.vmem, 138, rfl⟩
abbrev cc15_stg4_0 : Ref sig .tc := ⟨.vmem, 139, rfl⟩
abbrev cc15_stg5_0 : Ref sig .tc := ⟨.vmem, 140, rfl⟩
abbrev cc15_stg6_0 : Ref sig .tc := ⟨.vmem, 141, rfl⟩
abbrev cc15_stg7_0 : Ref sig .tc := ⟨.vmem, 142, rfl⟩
abbrev cc15_scratch0 : Ref sig .tc := ⟨.vmem, 143, rfl⟩
abbrev cc16_stg0_0 : Ref sig .tc := ⟨.vmem, 144, rfl⟩
abbrev cc16_stg1_0 : Ref sig .tc := ⟨.vmem, 145, rfl⟩
abbrev cc16_stg2_0 : Ref sig .tc := ⟨.vmem, 146, rfl⟩
abbrev cc16_stg3_0 : Ref sig .tc := ⟨.vmem, 147, rfl⟩
abbrev cc16_stg4_0 : Ref sig .tc := ⟨.vmem, 148, rfl⟩
abbrev cc16_stg5_0 : Ref sig .tc := ⟨.vmem, 149, rfl⟩
abbrev cc16_stg6_0 : Ref sig .tc := ⟨.vmem, 150, rfl⟩
abbrev cc16_stg7_0 : Ref sig .tc := ⟨.vmem, 151, rfl⟩
abbrev cc16_scratch0 : Ref sig .tc := ⟨.vmem, 152, rfl⟩
abbrev cc17_stg0_0 : Ref sig .tc := ⟨.vmem, 153, rfl⟩
abbrev cc17_stg1_0 : Ref sig .tc := ⟨.vmem, 154, rfl⟩
abbrev cc17_stg2_0 : Ref sig .tc := ⟨.vmem, 155, rfl⟩
abbrev cc17_stg3_0 : Ref sig .tc := ⟨.vmem, 156, rfl⟩
abbrev cc17_stg4_0 : Ref sig .tc := ⟨.vmem, 157, rfl⟩
abbrev cc17_stg5_0 : Ref sig .tc := ⟨.vmem, 158, rfl⟩
abbrev cc17_stg6_0 : Ref sig .tc := ⟨.vmem, 159, rfl⟩
abbrev cc17_stg7_0 : Ref sig .tc := ⟨.vmem, 160, rfl⟩
abbrev cc17_scratch0 : Ref sig .tc := ⟨.vmem, 161, rfl⟩
abbrev cc18_stg0_0 : Ref sig .tc := ⟨.vmem, 162, rfl⟩
abbrev cc18_stg1_0 : Ref sig .tc := ⟨.vmem, 163, rfl⟩
abbrev cc18_stg2_0 : Ref sig .tc := ⟨.vmem, 164, rfl⟩
abbrev cc18_stg3_0 : Ref sig .tc := ⟨.vmem, 165, rfl⟩
abbrev cc18_stg4_0 : Ref sig .tc := ⟨.vmem, 166, rfl⟩
abbrev cc18_stg5_0 : Ref sig .tc := ⟨.vmem, 167, rfl⟩
abbrev cc18_stg6_0 : Ref sig .tc := ⟨.vmem, 168, rfl⟩
abbrev cc18_stg7_0 : Ref sig .tc := ⟨.vmem, 169, rfl⟩
abbrev cc18_scratch0 : Ref sig .tc := ⟨.vmem, 170, rfl⟩
abbrev cc19_stg0_0 : Ref sig .tc := ⟨.vmem, 171, rfl⟩
abbrev cc19_stg1_0 : Ref sig .tc := ⟨.vmem, 172, rfl⟩
abbrev cc19_stg2_0 : Ref sig .tc := ⟨.vmem, 173, rfl⟩
abbrev cc19_stg3_0 : Ref sig .tc := ⟨.vmem, 174, rfl⟩
abbrev cc19_stg4_0 : Ref sig .tc := ⟨.vmem, 175, rfl⟩
abbrev cc19_stg5_0 : Ref sig .tc := ⟨.vmem, 176, rfl⟩
abbrev cc19_stg6_0 : Ref sig .tc := ⟨.vmem, 177, rfl⟩
abbrev cc19_stg7_0 : Ref sig .tc := ⟨.vmem, 178, rfl⟩
abbrev cc19_scratch0 : Ref sig .tc := ⟨.vmem, 179, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc5_sem0_0 : DmaSem sig := 40
abbrev cc5_sem1_0 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem7_0 : DmaSem sig := 47
abbrev cc6_sem0_0 : DmaSem sig := 48
abbrev cc6_sem1_0 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem7_0 : DmaSem sig := 55
abbrev cc7_sem0_0 : DmaSem sig := 56
abbrev cc7_sem1_0 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem7_0 : DmaSem sig := 63
abbrev cc8_sem0_0 : DmaSem sig := 64
abbrev cc8_sem1_0 : DmaSem sig := 65
abbrev cc8_sem2_0 : DmaSem sig := 66
abbrev cc8_sem3_0 : DmaSem sig := 67
abbrev cc8_sem4_0 : DmaSem sig := 68
abbrev cc8_sem5_0 : DmaSem sig := 69
abbrev cc8_sem6_0 : DmaSem sig := 70
abbrev cc8_sem7_0 : DmaSem sig := 71
abbrev cc9_sem0_0 : DmaSem sig := 72
abbrev cc9_sem1_0 : DmaSem sig := 73
abbrev cc9_sem2_0 : DmaSem sig := 74
abbrev cc9_sem3_0 : DmaSem sig := 75
abbrev cc9_sem4_0 : DmaSem sig := 76
abbrev cc9_sem5_0 : DmaSem sig := 77
abbrev cc9_sem6_0 : DmaSem sig := 78
abbrev cc9_sem7_0 : DmaSem sig := 79
abbrev cc10_sem0_0 : DmaSem sig := 80
abbrev cc10_sem1_0 : DmaSem sig := 81
abbrev cc10_sem2_0 : DmaSem sig := 82
abbrev cc10_sem3_0 : DmaSem sig := 83
abbrev cc10_sem4_0 : DmaSem sig := 84
abbrev cc10_sem5_0 : DmaSem sig := 85
abbrev cc10_sem6_0 : DmaSem sig := 86
abbrev cc10_sem7_0 : DmaSem sig := 87
abbrev cc11_sem0_0 : DmaSem sig := 88
abbrev cc11_sem1_0 : DmaSem sig := 89
abbrev cc11_sem2_0 : DmaSem sig := 90
abbrev cc11_sem3_0 : DmaSem sig := 91
abbrev cc11_sem4_0 : DmaSem sig := 92
abbrev cc11_sem5_0 : DmaSem sig := 93
abbrev cc11_sem6_0 : DmaSem sig := 94
abbrev cc11_sem7_0 : DmaSem sig := 95
abbrev cc12_sem0_0 : DmaSem sig := 96
abbrev cc12_sem1_0 : DmaSem sig := 97
abbrev cc12_sem2_0 : DmaSem sig := 98
abbrev cc12_sem3_0 : DmaSem sig := 99
abbrev cc12_sem4_0 : DmaSem sig := 100
abbrev cc12_sem5_0 : DmaSem sig := 101
abbrev cc12_sem6_0 : DmaSem sig := 102
abbrev cc12_sem7_0 : DmaSem sig := 103
abbrev cc13_sem0_0 : DmaSem sig := 104
abbrev cc13_sem1_0 : DmaSem sig := 105
abbrev cc13_sem2_0 : DmaSem sig := 106
abbrev cc13_sem3_0 : DmaSem sig := 107
abbrev cc13_sem4_0 : DmaSem sig := 108
abbrev cc13_sem5_0 : DmaSem sig := 109
abbrev cc13_sem6_0 : DmaSem sig := 110
abbrev cc13_sem7_0 : DmaSem sig := 111
abbrev cc14_sem0_0 : DmaSem sig := 112
abbrev cc14_sem1_0 : DmaSem sig := 113
abbrev cc14_sem2_0 : DmaSem sig := 114
abbrev cc14_sem3_0 : DmaSem sig := 115
abbrev cc14_sem4_0 : DmaSem sig := 116
abbrev cc14_sem5_0 : DmaSem sig := 117
abbrev cc14_sem6_0 : DmaSem sig := 118
abbrev cc14_sem7_0 : DmaSem sig := 119
abbrev cc15_sem0_0 : DmaSem sig := 120
abbrev cc15_sem1_0 : DmaSem sig := 121
abbrev cc15_sem2_0 : DmaSem sig := 122
abbrev cc15_sem3_0 : DmaSem sig := 123
abbrev cc15_sem4_0 : DmaSem sig := 124
abbrev cc15_sem5_0 : DmaSem sig := 125
abbrev cc15_sem6_0 : DmaSem sig := 126
abbrev cc15_sem7_0 : DmaSem sig := 127
abbrev cc16_sem0_0 : DmaSem sig := 128
abbrev cc16_sem1_0 : DmaSem sig := 129
abbrev cc16_sem2_0 : DmaSem sig := 130
abbrev cc16_sem3_0 : DmaSem sig := 131
abbrev cc16_sem4_0 : DmaSem sig := 132
abbrev cc16_sem5_0 : DmaSem sig := 133
abbrev cc16_sem6_0 : DmaSem sig := 134
abbrev cc16_sem7_0 : DmaSem sig := 135
abbrev cc17_sem0_0 : DmaSem sig := 136
abbrev cc17_sem1_0 : DmaSem sig := 137
abbrev cc17_sem2_0 : DmaSem sig := 138
abbrev cc17_sem3_0 : DmaSem sig := 139
abbrev cc17_sem4_0 : DmaSem sig := 140
abbrev cc17_sem5_0 : DmaSem sig := 141
abbrev cc17_sem6_0 : DmaSem sig := 142
abbrev cc17_sem7_0 : DmaSem sig := 143
abbrev cc18_sem0_0 : DmaSem sig := 144
abbrev cc18_sem1_0 : DmaSem sig := 145
abbrev cc18_sem2_0 : DmaSem sig := 146
abbrev cc18_sem3_0 : DmaSem sig := 147
abbrev cc18_sem4_0 : DmaSem sig := 148
abbrev cc18_sem5_0 : DmaSem sig := 149
abbrev cc18_sem6_0 : DmaSem sig := 150
abbrev cc18_sem7_0 : DmaSem sig := 151
abbrev cc19_sem0_0 : DmaSem sig := 152
abbrev cc19_sem1_0 : DmaSem sig := 153
abbrev cc19_sem2_0 : DmaSem sig := 154
abbrev cc19_sem3_0 : DmaSem sig := 155
abbrev cc19_sem4_0 : DmaSem sig := 156
abbrev cc19_sem5_0 : DmaSem sig := 157
abbrev cc19_sem6_0 : DmaSem sig := 158
abbrev cc19_sem7_0 : DmaSem sig := 159

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k0_off1 (k0_t1 : Fin k0_t1_loop.trips) : Fin 2 → Nat :=
  let c0_26 : Index := 0#32
  let c0_i32 : BitVec 32 := 0#32
  let c1_i32 : BitVec 32 := 1#32
  let arg9 : BitVec 32 := Scf.iv c0_i32 c1_i32 k0_t1
  let c128_i32 : BitVec 32 := 128#32
  let v73 : BitVec 32 := Scalar.muli arg9 c128_i32
  let v74 : Index := Scalar.indexCast v73
  ![0, v74.toNat]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k1_off1 (k1_t1 : Fin k1_t1_loop.trips) : Fin 2 → Nat :=
  let c0_26 : Index := 0#32
  let c0_i32 : BitVec 32 := 0#32
  let c1_i32 : BitVec 32 := 1#32
  let arg9 : BitVec 32 := Scf.iv c0_i32 c1_i32 k1_t1
  let c128_i32 : BitVec 32 := 128#32
  let v73 : BitVec 32 := Scalar.muli arg9 c128_i32
  let v74 : Index := Scalar.indexCast v73
  ![0, v74.toNat]
abbrev stage1_0 : Fin 1 → Memref sig .tc .vmem S256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8192x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := .none

@[reducible] def k2_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k2_off1 (k2_t1 : Fin k2_t1_loop.trips) : Fin 2 → Nat :=
  let c0_26 : Index := 0#32
  let c0_i32 : BitVec 32 := 0#32
  let c1_i32 : BitVec 32 := 1#32
  let arg9 : BitVec 32 := Scf.iv c0_i32 c1_i32 k2_t1
  let c128_i32 : BitVec 32 := 128#32
  let v73 : BitVec 32 := Scalar.muli arg9 c128_i32
  let v74 : Index := Scalar.indexCast v73
  ![0, v74.toNat]
abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S8192x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev grid3 : Pipeline.Grid := .none

@[reducible] def k3_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k3_off1 (k3_t1 : Fin k3_t1_loop.trips) : Fin 2 → Nat :=
  let c0_26 : Index := 0#32
  let c0_i32 : BitVec 32 := 0#32
  let c1_i32 : BitVec 32 := 1#32
  let arg9 : BitVec 32 := Scf.iv c0_i32 c1_i32 k3_t1
  let c128_i32 : BitVec 32 := 128#32
  let v73 : BitVec 32 := Scalar.muli arg9 c128_i32
  let v74 : Index := Scalar.indexCast v73
  ![0, v74.toNat]
abbrev stage3_0 : Fin 1 → Memref sig .tc .vmem S256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S256x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S2x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S8192x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S256x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev grid4 : Pipeline.Grid := .none

@[reducible] def k4_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k4_off1 (k4_t1 : Fin k4_t1_loop.trips) : Fin 2 → Nat :=
  let c0_26 : Index := 0#32
  let c0_i32 : BitVec 32 := 0#32
  let c1_i32 : BitVec 32 := 1#32
  let arg9 : BitVec 32 := Scf.iv c0_i32 c1_i32 k4_t1
  let c128_i32 : BitVec 32 := 128#32
  let v73 : BitVec 32 := Scalar.muli arg9 c128_i32
  let v74 : Index := Scalar.indexCast v73
  ![0, v74.toNat]
abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S256x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S2x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S8192x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev grid5 : Pipeline.Grid := .none

@[reducible] def k5_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k5_off1 (k5_t1 : Fin k5_t1_loop.trips) : Fin 2 → Nat :=
  let c0_26 : Index := 0#32
  let c0_i32 : BitVec 32 := 0#32
  let c1_i32 : BitVec 32 := 1#32
  let arg9 : BitVec 32 := Scf.iv c0_i32 c1_i32 k5_t1
  let c128_i32 : BitVec 32 := 128#32
  let v73 : BitVec 32 := Scalar.muli arg9 c128_i32
  let v74 : Index := Scalar.indexCast v73
  ![0, v74.toNat]
abbrev stage5_0 : Fin 1 → Memref sig .tc .vmem S256x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S256x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S2x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S256x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S8192x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S256x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))

abbrev grid6 : Pipeline.Grid := .none

@[reducible] def k6_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k6_off1 (k6_t1 : Fin k6_t1_loop.trips) : Fin 2 → Nat :=
  let c0_26 : Index := 0#32
  let c0_i32 : BitVec 32 := 0#32
  let c1_i32 : BitVec 32 := 1#32
  let arg9 : BitVec 32 := Scf.iv c0_i32 c1_i32 k6_t1
  let c128_i32 : BitVec 32 := 128#32
  let v73 : BitVec 32 := Scalar.muli arg9 c128_i32
  let v74 : Index := Scalar.indexCast v73
  ![0, v74.toNat]
abbrev stage6_0 : Fin 1 → Memref sig .tc .vmem S256x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S256x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S2x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S256x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S8192x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))

abbrev stage6_7 : Fin 1 → Memref sig .tc .vmem S256x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))

abbrev grid7 : Pipeline.Grid := .none

@[reducible] def k7_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k7_off1 (k7_t1 : Fin k7_t1_loop.trips) : Fin 2 → Nat :=
  let c0_26 : Index := 0#32
  let c0_i32 : BitVec 32 := 0#32
  let c1_i32 : BitVec 32 := 1#32
  let arg9 : BitVec 32 := Scf.iv c0_i32 c1_i32 k7_t1
  let c128_i32 : BitVec 32 := 128#32
  let v73 : BitVec 32 := Scalar.muli arg9 c128_i32
  let v74 : Index := Scalar.indexCast v73
  ![0, v74.toNat]
abbrev stage7_0 : Fin 1 → Memref sig .tc .vmem S256x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S256x2 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S2x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S256x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S8192x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))

abbrev stage7_7 : Fin 1 → Memref sig .tc .vmem S256x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))

abbrev grid8 : Pipeline.Grid := .none

@[reducible] def k8_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k8_off1 (k8_t1 : Fin k8_t1_loop.trips) : Fin 2 → Nat :=
  let c0_26 : Index := 0#32
  let c0_i32 : BitVec 32 := 0#32
  let c1_i32 : BitVec 32 := 1#32
  let arg9 : BitVec 32 := Scf.iv c0_i32 c1_i32 k8_t1
  let c128_i32 : BitVec 32 := 128#32
  let v73 : BitVec 32 := Scalar.muli arg9 c128_i32
  let v74 : Index := Scalar.indexCast v73
  ![0, v74.toNat]
abbrev stage8_0 : Fin 1 → Memref sig .tc .vmem S256x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S256x2 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S2x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S256x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))

abbrev stage8_5 : Fin 1 → Memref sig .tc .vmem S8192x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))

abbrev stage8_7 : Fin 1 → Memref sig .tc .vmem S256x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))

abbrev grid9 : Pipeline.Grid := .none

@[reducible] def k9_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k9_off1 (k9_t1 : Fin k9_t1_loop.trips) : Fin 2 → Nat :=
  let c0_26 : Index := 0#32
  let c0_i32 : BitVec 32 := 0#32
  let c1_i32 : BitVec 32 := 1#32
  let arg9 : BitVec 32 := Scf.iv c0_i32 c1_i32 k9_t1
  let c128_i32 : BitVec 32 := 128#32
  let v73 : BitVec 32 := Scalar.muli arg9 c128_i32
  let v74 : Index := Scalar.indexCast v73
  ![0, v74.toNat]
abbrev stage9_0 : Fin 1 → Memref sig .tc .vmem S256x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S256x2 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S2x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev stage9_3 : Fin 1 → Memref sig .tc .vmem S256x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))

abbrev stage9_5 : Fin 1 → Memref sig .tc .vmem S8192x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))

abbrev stage9_7 : Fin 1 → Memref sig .tc .vmem S256x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))

abbrev grid10 : Pipeline.Grid := .none

@[reducible] def k10_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k10_off1 (k10_t1 : Fin k10_t1_loop.trips) : Fin 2 → Nat :=
  let c0_26 : Index := 0#32
  let c0_i32 : BitVec 32 := 0#32
  let c1_i32 : BitVec 32 := 1#32
  let arg9 : BitVec 32 := Scf.iv c0_i32 c1_i32 k10_t1
  let c128_i32 : BitVec 32 := 128#32
  let v73 : BitVec 32 := Scalar.muli arg9 c128_i32
  let v74 : Index := Scalar.indexCast v73
  ![0, v74.toNat]
abbrev stage10_0 : Fin 1 → Memref sig .tc .vmem S256x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))

abbrev stage10_1 : Fin 1 → Memref sig .tc .vmem S256x2 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))

abbrev stage10_2 : Fin 1 → Memref sig .tc .vmem S2x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))

abbrev stage10_3 : Fin 1 → Memref sig .tc .vmem S256x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))

abbrev stage10_5 : Fin 1 → Memref sig .tc .vmem S8192x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))

abbrev stage10_7 : Fin 1 → Memref sig .tc .vmem S256x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))

abbrev grid11 : Pipeline.Grid := .none

@[reducible] def k11_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k11_off1 (k11_t1 : Fin k11_t1_loop.trips) : Fin 2 → Nat :=
  let c0_26 : Index := 0#32
  let c0_i32 : BitVec 32 := 0#32
  let c1_i32 : BitVec 32 := 1#32
  let arg9 : BitVec 32 := Scf.iv c0_i32 c1_i32 k11_t1
  let c128_i32 : BitVec 32 := 128#32
  let v73 : BitVec 32 := Scalar.muli arg9 c128_i32
  let v74 : Index := Scalar.indexCast v73
  ![0, v74.toNat]
abbrev stage11_0 : Fin 1 → Memref sig .tc .vmem S256x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))

abbrev stage11_1 : Fin 1 → Memref sig .tc .vmem S256x2 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))

abbrev stage11_2 : Fin 1 → Memref sig .tc .vmem S2x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))

abbrev stage11_3 : Fin 1 → Memref sig .tc .vmem S256x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))

abbrev stage11_5 : Fin 1 → Memref sig .tc .vmem S8192x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))

abbrev stage11_7 : Fin 1 → Memref sig .tc .vmem S256x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))

abbrev grid12 : Pipeline.Grid := .none

@[reducible] def k12_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k12_off1 (k12_t1 : Fin k12_t1_loop.trips) : Fin 2 → Nat :=
  let c0_26 : Index := 0#32
  let c0_i32 : BitVec 32 := 0#32
  let c1_i32 : BitVec 32 := 1#32
  let arg9 : BitVec 32 := Scf.iv c0_i32 c1_i32 k12_t1
  let c128_i32 : BitVec 32 := 128#32
  let v73 : BitVec 32 := Scalar.muli arg9 c128_i32
  let v74 : Index := Scalar.indexCast v73
  ![0, v74.toNat]
abbrev stage12_0 : Fin 1 → Memref sig .tc .vmem S256x128 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))

abbrev stage12_1 : Fin 1 → Memref sig .tc .vmem S256x2 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))

abbrev stage12_2 : Fin 1 → Memref sig .tc .vmem S2x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))

abbrev stage12_3 : Fin 1 → Memref sig .tc .vmem S256x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))

abbrev stage12_4 : Fin 1 → Memref sig .tc .vmem S1x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))

abbrev stage12_5 : Fin 1 → Memref sig .tc .vmem S8192x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))

abbrev stage12_7 : Fin 1 → Memref sig .tc .vmem S256x128 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))

abbrev grid13 : Pipeline.Grid := .none

@[reducible] def k13_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k13_off1 (k13_t1 : Fin k13_t1_loop.trips) : Fin 2 → Nat :=
  let c0_26 : Index := 0#32
  let c0_i32 : BitVec 32 := 0#32
  let c1_i32 : BitVec 32 := 1#32
  let arg9 : BitVec 32 := Scf.iv c0_i32 c1_i32 k13_t1
  let c128_i32 : BitVec 32 := 128#32
  let v73 : BitVec 32 := Scalar.muli arg9 c128_i32
  let v74 : Index := Scalar.indexCast v73
  ![0, v74.toNat]
abbrev stage13_0 : Fin 1 → Memref sig .tc .vmem S256x128 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))

abbrev stage13_1 : Fin 1 → Memref sig .tc .vmem S256x2 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))

abbrev stage13_2 : Fin 1 → Memref sig .tc .vmem S2x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))

abbrev stage13_3 : Fin 1 → Memref sig .tc .vmem S256x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))

abbrev stage13_4 : Fin 1 → Memref sig .tc .vmem S1x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))

abbrev stage13_5 : Fin 1 → Memref sig .tc .vmem S8192x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))

abbrev stage13_7 : Fin 1 → Memref sig .tc .vmem S256x128 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))

abbrev grid14 : Pipeline.Grid := .none

@[reducible] def k14_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k14_off1 (k14_t1 : Fin k14_t1_loop.trips) : Fin 2 → Nat :=
  let c0_26 : Index := 0#32
  let c0_i32 : BitVec 32 := 0#32
  let c1_i32 : BitVec 32 := 1#32
  let arg9 : BitVec 32 := Scf.iv c0_i32 c1_i32 k14_t1
  let c128_i32 : BitVec 32 := 128#32
  let v73 : BitVec 32 := Scalar.muli arg9 c128_i32
  let v74 : Index := Scalar.indexCast v73
  ![0, v74.toNat]
abbrev stage14_0 : Fin 1 → Memref sig .tc .vmem S256x128 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))

abbrev stage14_1 : Fin 1 → Memref sig .tc .vmem S256x2 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))

abbrev stage14_2 : Fin 1 → Memref sig .tc .vmem S2x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))

abbrev stage14_3 : Fin 1 → Memref sig .tc .vmem S256x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))

abbrev stage14_4 : Fin 1 → Memref sig .tc .vmem S1x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))

abbrev stage14_5 : Fin 1 → Memref sig .tc .vmem S8192x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))

abbrev stage14_6 : Fin 1 → Memref sig .tc .vmem S1x128 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))

abbrev stage14_7 : Fin 1 → Memref sig .tc .vmem S256x128 .f32 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))

abbrev grid15 : Pipeline.Grid := .none

@[reducible] def k15_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k15_off1 (k15_t1 : Fin k15_t1_loop.trips) : Fin 2 → Nat :=
  let c0_26 : Index := 0#32
  let c0_i32 : BitVec 32 := 0#32
  let c1_i32 : BitVec 32 := 1#32
  let arg9 : BitVec 32 := Scf.iv c0_i32 c1_i32 k15_t1
  let c128_i32 : BitVec 32 := 128#32
  let v73 : BitVec 32 := Scalar.muli arg9 c128_i32
  let v74 : Index := Scalar.indexCast v73
  ![0, v74.toNat]
abbrev stage15_0 : Fin 1 → Memref sig .tc .vmem S256x128 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))

abbrev stage15_1 : Fin 1 → Memref sig .tc .vmem S256x2 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))

abbrev stage15_2 : Fin 1 → Memref sig .tc .vmem S2x256 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))

abbrev stage15_3 : Fin 1 → Memref sig .tc .vmem S256x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))

abbrev stage15_4 : Fin 1 → Memref sig .tc .vmem S1x256 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))

abbrev stage15_5 : Fin 1 → Memref sig .tc .vmem S8192x128 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))

abbrev stage15_6 : Fin 1 → Memref sig .tc .vmem S1x128 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))

abbrev stage15_7 : Fin 1 → Memref sig .tc .vmem S256x128 .f32 := fun | 0 => Memref.whole cc15_stg7_0 | ⟨_ + 1, h⟩ => absurd h (Nat.not_lt.2 (Nat.le_add_left _ _))
abbrev sem15_7 : Fin 1 → DmaSem sig := fun | 0 => cc15_sem7_0 | ⟨_ + 1, h⟩ => absurd h (Nat.not_lt.2 (Nat.le_add_left _ _))

abbrev grid16 : Pipeline.Grid := .none

@[reducible] def k16_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k16_off1 (k16_t1 : Fin k16_t1_loop.trips) : Fin 2 → Nat :=
  let c0_26 : Index := 0#32
  let c0_i32 : BitVec 32 := 0#32
  let c1_i32 : BitVec 32 := 1#32
  let arg9 : BitVec 32 := Scf.iv c0_i32 c1_i32 k16_t1
  let c128_i32 : BitVec 32 := 128#32
  let v73 : BitVec 32 := Scalar.muli arg9 c128_i32
  let v74 : Index := Scalar.indexCast v73
  ![0, v74.toNat]
abbrev stage16_0 : Fin 1 → Memref sig .tc .vmem S256x128 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))

abbrev stage16_1 : Fin 1 → Memref sig .tc .vmem S256x2 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))

abbrev stage16_2 : Fin 1 → Memref sig .tc .vmem S2x256 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))

abbrev stage16_3 : Fin 1 → Memref sig .tc .vmem S256x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))

abbrev stage16_4 : Fin 1 → Memref sig .tc .vmem S1x256 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))

abbrev stage16_5 : Fin 1 → Memref sig .tc .vmem S8192x128 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))

abbrev stage16_6 : Fin 1 → Memref sig .tc .vmem S1x128 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))

abbrev stage16_7 : Fin 1 → Memref sig .tc .vmem S256x128 .f32 := fun | 0 => Memref.whole cc16_stg7_0 | ⟨_ + 1, h⟩ => absurd h (Nat.not_lt.2 (Nat.le_add_left _ _))
abbrev sem16_7 : Fin 1 → DmaSem sig := fun | 0 => cc16_sem7_0 | ⟨_ + 1, h⟩ => absurd h (Nat.not_lt.2 (Nat.le_add_left _ _))

abbrev grid17 : Pipeline.Grid := .none

@[reducible] def k17_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k17_off1 (k17_t1 : Fin k17_t1_loop.trips) : Fin 2 → Nat :=
  let c0_26 : Index := 0#32
  let c0_i32 : BitVec 32 := 0#32
  let c1_i32 : BitVec 32 := 1#32
  let arg9 : BitVec 32 := Scf.iv c0_i32 c1_i32 k17_t1
  let c128_i32 : BitVec 32 := 128#32
  let v73 : BitVec 32 := Scalar.muli arg9 c128_i32
  let v74 : Index := Scalar.indexCast v73
  ![0, v74.toNat]
abbrev stage17_0 : Fin 1 → Memref sig .tc .vmem S256x128 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))

abbrev stage17_1 : Fin 1 → Memref sig .tc .vmem S256x2 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))

abbrev stage17_2 : Fin 1 → Memref sig .tc .vmem S2x256 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))

abbrev stage17_3 : Fin 1 → Memref sig .tc .vmem S256x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))

abbrev stage17_4 : Fin 1 → Memref sig .tc .vmem S1x256 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))

abbrev stage17_5 : Fin 1 → Memref sig .tc .vmem S8192x128 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))

abbrev stage17_6 : Fin 1 → Memref sig .tc .vmem S1x128 .f32 := fun | 0 => Memref.whole cc17_stg6_0 | ⟨_ + 1, h⟩ => absurd h (Nat.not_lt.2 (Nat.le_add_left _ _))
abbrev sem17_6 : Fin 1 → DmaSem sig := fun | 0 => cc17_sem6_0 | ⟨_ + 1, h⟩ => absurd h (Nat.not_lt.2 (Nat.le_add_left _ _))

abbrev stage17_7 : Fin 1 → Memref sig .tc .vmem S256x128 .f32 := fun | 0 => Memref.whole cc17_stg7_0 | ⟨_ + 1, h⟩ => absurd h (Nat.not_lt.2 (Nat.le_add_left _ _))
abbrev sem17_7 : Fin 1 → DmaSem sig := fun | 0 => cc17_sem7_0 | ⟨_ + 1, h⟩ => absurd h (Nat.not_lt.2 (Nat.le_add_left _ _))

abbrev grid18 : Pipeline.Grid := .none

@[reducible] def k18_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k18_off1 (k18_t1 : Fin k18_t1_loop.trips) : Fin 2 → Nat :=
  let c0_26 : Index := 0#32
  let c0_i32 : BitVec 32 := 0#32
  let c1_i32 : BitVec 32 := 1#32
  let arg9 : BitVec 32 := Scf.iv c0_i32 c1_i32 k18_t1
  let c128_i32 : BitVec 32 := 128#32
  let v73 : BitVec 32 := Scalar.muli arg9 c128_i32
  let v74 : Index := Scalar.indexCast v73
  ![0, v74.toNat]
abbrev stage18_0 : Fin 1 → Memref sig .tc .vmem S256x128 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))

abbrev stage18_1 : Fin 1 → Memref sig .tc .vmem S256x2 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))

abbrev stage18_2 : Fin 1 → Memref sig .tc .vmem S2x256 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))

abbrev stage18_3 : Fin 1 → Memref sig .tc .vmem S256x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))

abbrev stage18_4 : Fin 1 → Memref sig .tc .vmem S1x256 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))

abbrev stage18_5 : Fin 1 → Memref sig .tc .vmem S8192x128 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))

abbrev stage18_6 : Fin 1 → Memref sig .tc .vmem S1x128 .f32 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))

abbrev stage18_7 : Fin 1 → Memref sig .tc .vmem S256x128 .f32 := fun | 0 => Memref.whole cc18_stg7_0 | ⟨_ + 1, h⟩ => absurd h (Nat.not_lt.2 (Nat.le_add_left _ _))
abbrev sem18_7 : Fin 1 → DmaSem sig := fun | 0 => cc18_sem7_0 | ⟨_ + 1, h⟩ => absurd h (Nat.not_lt.2 (Nat.le_add_left _ _))

abbrev grid19 : Pipeline.Grid := .none

@[reducible] def k19_t1_loop : Scf.Loop 32 :=
  let c0_i32 : BitVec 32 := 0#32
  let c64_i32 : BitVec 32 := 64#32
  let v55 : BitVec 32 := Scalar.addi c0_i32 c64_i32
  let c1_i32 : BitVec 32 := 1#32
  ⟨c0_i32, v55, c1_i32⟩
def k19_off1 (k19_t1 : Fin k19_t1_loop.trips) : Fin 2 → Nat :=
  let c0_26 : Index := 0#32
  let c0_i32 : BitVec 32 := 0#32
  let c1_i32 : BitVec 32 := 1#32
  let arg9 : BitVec 32 := Scf.iv c0_i32 c1_i32 k19_t1
  let c128_i32 : BitVec 32 := 128#32
  let v73 : BitVec 32 := Scalar.muli arg9 c128_i32
  let v74 : Index := Scalar.indexCast v73
  ![0, v74.toNat]
abbrev stage19_0 : Fin 1 → Memref sig .tc .vmem S256x128 .f32 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))

abbrev stage19_1 : Fin 1 → Memref sig .tc .vmem S256x2 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))

abbrev stage19_2 : Fin 1 → Memref sig .tc .vmem S2x256 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))

abbrev stage19_3 : Fin 1 → Memref sig .tc .vmem S256x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))

abbrev stage19_4 : Fin 1 → Memref sig .tc .vmem S1x256 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))

abbrev stage19_5 : Fin 1 → Memref sig .tc .vmem S8192x128 .f32 := fun | 0 => Memref.whole cc19_stg5_0 | ⟨_ + 1, h⟩ => absurd h (Nat.not_lt.2 (Nat.le_add_left _ _))
abbrev sem19_5 : Fin 1 → DmaSem sig := fun | 0 => cc19_sem5_0 | ⟨_ + 1, h⟩ => absurd h (Nat.not_lt.2 (Nat.le_add_left _ _))

abbrev stage19_6 : Fin 1 → Memref sig .tc .vmem S1x128 .f32 := fun | 0 => Memref.whole cc19_stg6_0 | ⟨_ + 1, h⟩ => absurd h (Nat.not_lt.2 (Nat.le_add_left _ _))
abbrev sem19_6 : Fin 1 → DmaSem sig := fun | 0 => cc19_sem6_0 | ⟨_ + 1, h⟩ => absurd h (Nat.not_lt.2 (Nat.le_add_left _ _))

abbrev stage19_7 : Fin 1 → Memref sig .tc .vmem S256x128 .f32 := fun | 0 => Memref.whole cc19_stg7_0 | ⟨_ + 1, h⟩ => absurd h (Nat.not_lt.2 (Nat.le_add_left _ _))
abbrev sem19_7 : Fin 1 → DmaSem sig := fun | 0 => cc19_sem7_0 | ⟨_ + 1, h⟩ => absurd h (Nat.not_lt.2 (Nat.le_add_left _ _))
-- ==== ReferenceIdeal.lean ====
abbrev S8x256x2 : Shape := ⟨3, ![8, 256, 2]⟩
abbrev S256 : Shape := ⟨1, ![256]⟩
abbrev S64x2 : Shape := ⟨2, ![64, 2]⟩
abbrev S64 : Shape := ⟨1, ![64]⟩
abbrev S128x8192 : Shape := ⟨2, ![128, 8192]⟩
abbrev S128 : Shape := ⟨1, ![128]⟩
abbrev S512x192 : Shape := ⟨2, ![512, 192]⟩
abbrev S512x128 : Shape := ⟨2, ![512, 128]⟩
abbrev S512 : Shape := ⟨1, ![512]⟩
abbrev S5x128 : Shape := ⟨2, ![5, 128]⟩
abbrev S5 : Shape := ⟨1, ![5]⟩
abbrev S_ : Shape := ⟨0, ![]⟩
abbrev S256x128 : Shape := ⟨2, ![256, 128]⟩
abbrev S256x1 : Shape := ⟨2, ![256, 1]⟩
abbrev S1x256x2 : Shape := ⟨3, ![1, 256, 2]⟩
abbrev S256x2 : Shape := ⟨2, ![256, 2]⟩
abbrev S2x64 : Shape := ⟨2, ![2, 64]⟩
abbrev S256x64 : Shape := ⟨2, ![256, 64]⟩
abbrev S1x64 : Shape := ⟨2, ![1, 64]⟩
abbrev S256x1x2 : Shape := ⟨3, ![256, 1, 2]⟩
abbrev S256x256x2 : Shape := ⟨3, ![256, 256, 2]⟩
abbrev S256x256x1 : Shape := ⟨3, ![256, 256, 1]⟩
abbrev S256x256 : Shape := ⟨2, ![256, 256]⟩
abbrev S1x256 : Shape := ⟨2, ![1, 256]⟩
abbrev S1x256x128 : Shape := ⟨3, ![1, 256, 128]⟩
abbrev S256x256x128 : Shape := ⟨3, ![256, 256, 128]⟩
abbrev S256x65x128 : Shape := ⟨3, ![256, 65, 128]⟩
abbrev S256x64x128 : Shape := ⟨3, ![256, 64, 128]⟩
abbrev S256x8192 : Shape := ⟨2, ![256, 8192]⟩
abbrev S8192x128 : Shape := ⟨2, ![8192, 128]⟩
abbrev S1x128 : Shape := ⟨2, ![1, 128]⟩
abbrev S256x192 : Shape := ⟨2, ![256, 192]⟩
abbrev S192x512 : Shape := ⟨2, ![192, 512]⟩
abbrev S256x512 : Shape := ⟨2, ![256, 512]⟩
abbrev S1x512 : Shape := ⟨2, ![1, 512]⟩
abbrev S128x512 : Shape := ⟨2, ![128, 512]⟩
abbrev S128x5 : Shape := ⟨2, ![128, 5]⟩
abbrev S256x5 : Shape := ⟨2, ![256, 5]⟩
abbrev S1x5 : Shape := ⟨2, ![1, 5]⟩
abbrev S12x256x2 : Shape := ⟨3, ![12, 256, 2]⟩
abbrev S12x256 : Shape := ⟨2, ![12, 256]⟩

abbrev nBuf : Space → Nat
  | .hbm => 3906
  | .vmem => 0
  | .smem => 0
  | _ => 0

abbrev hbmTy0_0 (i : Nat) : BufTy := match i % 128 with
  | 0 => ⟨S8x256x2, .f32⟩
  | 1 => ⟨S256, .i1⟩
  | 2 => ⟨S64x2, .f32⟩
  | 3 => ⟨S64, .f32⟩
  | 4 => ⟨S128x8192, .f32⟩
  | 5 => ⟨S128, .f32⟩
  | 6 => ⟨S512x192, .f32⟩
  | 7 => ⟨S512x128, .f32⟩
  | 8 => ⟨S512, .f32⟩
  | 9 => ⟨S512, .f32⟩
  | 10 => ⟨S5x128, .f32⟩
  | 11 => ⟨S5, .f32⟩
  | 12 => ⟨S_, .f32⟩
  | 13 => ⟨S256x128, .f32⟩
  | 14 => ⟨S_, .f32⟩
  | 15 => ⟨S256x128, .f32⟩
  | 16 => ⟨S8x256x2, .i1⟩
  | 17 => ⟨S_, .f32⟩
  | 18 => ⟨S_, .f32⟩
  | 19 => ⟨S8x256x2, .f32⟩
  | 20 => ⟨S8x256x2, .f32⟩
  | 21 => ⟨S256, .f32⟩
  | 22 => ⟨S256x1, .f32⟩
  | 23 => ⟨S1x256x2, .f32⟩
  | 24 => ⟨S256x2, .f32⟩
  | 25 => ⟨S2x64, .f32⟩
  | 26 => ⟨S256x64, .f32⟩
  | 27 => ⟨S1x64, .f32⟩
  | 28 => ⟨S256x64, .f32⟩
  | 29 => ⟨S256x64, .f32⟩
  | 30 => ⟨S_, .f32⟩
  | 31 => ⟨S256x64, .f32⟩
  | 32 => ⟨S256x64, .f32⟩
  | 33 => ⟨S1x256x2, .f32⟩
  | 34 => ⟨S256x1x2, .f32⟩
  | 35 => ⟨S256x256x2, .f32⟩
  | 36 => ⟨S256x256x2, .f32⟩
  | 37 => ⟨S256x256x2, .f32⟩
  | 38 => ⟨S256x256x1, .f32⟩
  | 39 => ⟨S256x256, .f32⟩
  | 40 => ⟨S256x256x1, .f32⟩
  | 41 => ⟨S256x256, .f32⟩
  | 42 => ⟨S_, .f32⟩
  | 43 => ⟨S256x256, .f32⟩
  | 44 => ⟨S256x256, .f32⟩
  | 45 => ⟨S_, .f32⟩
  | 46 => ⟨S256x256, .f32⟩
  | 47 => ⟨S256x256, .f32⟩
  | 48 => ⟨S256x256, .f32⟩
  | 49 => ⟨S256x256, .i32⟩
  | 50 => ⟨S_, .i32⟩
  | 51 => ⟨S_, .i32⟩
  | 52 => ⟨S_, .i32⟩
  | 53 => ⟨S256x256, .i32⟩
  | 54 => ⟨S256x256, .i32⟩
  | 55 => ⟨S_, .i32⟩
  | 56 => ⟨S256x256, .i32⟩
  | 57 => ⟨S256x256, .i32⟩
  | 58 => ⟨S_, .f32⟩
  | 59 => ⟨S256x256, .f32⟩
  | 60 => ⟨S256x256, .f32⟩
  | 61 => ⟨S_, .f32⟩
  | 62 => ⟨S256x256, .f32⟩
  | 63 => ⟨S256x256, .f32⟩
  | 64 => ⟨S256x256, .f32⟩
  | 65 => ⟨S256x256, .i32⟩
  | 66 => ⟨S_, .i32⟩
  | 67 => ⟨S_, .i32⟩
  | 68 => ⟨S_, .i32⟩
  | 69 => ⟨S256x256, .i32⟩
  | 70 => ⟨S256x256, .i32⟩
  | 71 => ⟨S_, .i32⟩
  | 72 => ⟨S256x256, .i32⟩
  | 73 => ⟨S256x256, .i32⟩
  | 74 => ⟨S_, .i32⟩
  | 75 => ⟨S256x256, .i32⟩
  | 76 => ⟨S256x256, .i32⟩
  | 77 => ⟨S256x256, .i32⟩
  | 78 => ⟨S256x256, .i32⟩
  | 79 => ⟨S256x256, .i32⟩
  | 80 => ⟨S_, .i32⟩
  | 81 => ⟨S256x256, .i32⟩
  | 82 => ⟨S256x256, .i32⟩
  | 83 => ⟨S256x256, .i1⟩
  | 84 => ⟨S256x2, .i1⟩
  | 85 => ⟨S_, .i1⟩
  | 86 => ⟨S256, .i1⟩
  | 87 => ⟨S256x256, .i1⟩
  | 88 => ⟨S1x256, .i1⟩
  | 89 => ⟨S256x256, .i1⟩
  | 90 => ⟨S256x256, .i1⟩
  | 91 => ⟨S256x1, .i1⟩
  | 92 => ⟨S256x256, .i1⟩
  | 93 => ⟨S256x256, .i1⟩
  | 94 => ⟨S256x256, .f32⟩
  | 95 => ⟨S_, .f32⟩
  | 96 => ⟨S256x256, .f32⟩
  | 97 => ⟨S256x256, .i1⟩
  | 98 => ⟨S256x256, .i1⟩
  | 99 => ⟨S256x256, .f32⟩
  | 100 => ⟨S_, .f32⟩
  | 101 => ⟨S256x256, .f32⟩
  | 102 => ⟨S256x256, .i1⟩
  | 103 => ⟨S256x256, .i1⟩
  | 104 => ⟨S256x256, .i1⟩
  | 105 => ⟨S256x256, .i1⟩
  | 106 => ⟨S256x256, .i1⟩
  | 107 => ⟨S256x256, .i1⟩
  | 108 => ⟨S256x256, .i1⟩
  | 109 => ⟨S256x256, .i1⟩
  | 110 => ⟨S256, .i1⟩
  | 111 => ⟨S256x1, .i1⟩
  | 112 => ⟨S256x256, .i1⟩
  | 113 => ⟨S256x256, .i1⟩
  | 114 => ⟨S_, .i32⟩
  | 115 => ⟨S_, .i32⟩
  | 116 => ⟨S256x256, .i32⟩
  | 117 => ⟨S256x256, .i32⟩
  | 118 => ⟨S1x256x128, .f32⟩
  | 119 => ⟨S256x256x128, .f32⟩
  | 120 => ⟨S256x256x1, .i1⟩
  | 121 => ⟨S256x256x1, .f32⟩
  | 122 => ⟨S256x256x128, .f32⟩
  | 123 => ⟨S256x256x128, .f32⟩
  | 124 => ⟨S256, .i32⟩
  | 125 => ⟨S256x1, .i32⟩
  | 126 => ⟨S256x256, .i32⟩
  | 127 => ⟨S_, .f32⟩
  | _ => ⟨S8x256x2, .f32⟩

abbrev hbmTy0_1 (i : Nat) : BufTy := match i % 128 with
  | 0 => ⟨S256x65x128, .f32⟩
  | 1 => ⟨S_, .i32⟩
  | 2 => ⟨S256x256, .i32⟩
  | 3 => ⟨S256x256, .i1⟩
  | 4 => ⟨S_, .i32⟩
  | 5 => ⟨S256x256, .i32⟩
  | 6 => ⟨S256x256, .i32⟩
  | 7 => ⟨S256x256, .i32⟩
  | 8 => ⟨S_, .i32⟩
  | 9 => ⟨S256x256, .i32⟩
  | 10 => ⟨S256x256, .i1⟩
  | 11 => ⟨S_, .i32⟩
  | 12 => ⟨S256x256, .i32⟩
  | 13 => ⟨S256x256, .i32⟩
  | 14 => ⟨S256x256, .i32⟩
  | 15 => ⟨S256x256x1, .i32⟩
  | 16 => ⟨S256x256x1, .i32⟩
  | 17 => ⟨S256x256x2, .i32⟩
  | 18 => ⟨S256x65x128, .f32⟩
  | 19 => ⟨S256x64x128, .f32⟩
  | 20 => ⟨S256x8192, .f32⟩
  | 21 => ⟨S256, .i1⟩
  | 22 => ⟨S256, .i1⟩
  | 23 => ⟨S256, .f32⟩
  | 24 => ⟨S256x1, .f32⟩
  | 25 => ⟨S8192x128, .f32⟩
  | 26 => ⟨S256x128, .f32⟩
  | 27 => ⟨S1x128, .f32⟩
  | 28 => ⟨S256x128, .f32⟩
  | 29 => ⟨S256x128, .f32⟩
  | 30 => ⟨S256x128, .f32⟩
  | 31 => ⟨S256x128, .f32⟩
  | 32 => ⟨S256x192, .f32⟩
  | 33 => ⟨S192x512, .f32⟩
  | 34 => ⟨S256x512, .f32⟩
  | 35 => ⟨S1x512, .f32⟩
  | 36 => ⟨S256x512, .f32⟩
  | 37 => ⟨S256x512, .f32⟩
  | 38 => ⟨S128x512, .f32⟩
  | 39 => ⟨S256x512, .f32⟩
  | 40 => ⟨S256x512, .f32⟩
  | 41 => ⟨S1x512, .f32⟩
  | 42 => ⟨S256x512, .f32⟩
  | 43 => ⟨S256x512, .f32⟩
  | 44 => ⟨S256x128, .f32⟩
  | 45 => ⟨S256x128, .f32⟩
  | 46 => ⟨S256x128, .f32⟩
  | 47 => ⟨S256x128, .f32⟩
  | 48 => ⟨S256x128, .f32⟩
  | 49 => ⟨S256x128, .f32⟩
  | 50 => ⟨S_, .f32⟩
  | 51 => ⟨S256x128, .f32⟩
  | 52 => ⟨S256x128, .f32⟩
  | 53 => ⟨S_, .f32⟩
  | 54 => ⟨S256x128, .f32⟩
  | 55 => ⟨S256x128, .f32⟩
  | 56 => ⟨S256x128, .f32⟩
  | 57 => ⟨S256x128, .f32⟩
  | 58 => ⟨S_, .f32⟩
  | 59 => ⟨S256x128, .f32⟩
  | 60 => ⟨S256x128, .f32⟩
  | 61 => ⟨S_, .f32⟩
  | 62 => ⟨S256x128, .f32⟩
  | 63 => ⟨S256x128, .f32⟩
  | 64 => ⟨S256x128, .f32⟩
  | 65 => ⟨S256x128, .f32⟩
  | 66 => ⟨S256x128, .f32⟩
  | 67 => ⟨S_, .f32⟩
  | 68 => ⟨S256x128, .f32⟩
  | 69 => ⟨S256x128, .f32⟩
  | 70 => ⟨S_, .f32⟩
  | 71 => ⟨S256x128, .f32⟩
  | 72 => ⟨S256x128, .f32⟩
  | 73 => ⟨S256x128, .f32⟩
  | 74 => ⟨S256x128, .f32⟩
  | 75 => ⟨S256x128, .f32⟩
  | 76 => ⟨S256x128, .f32⟩
  | 77 => ⟨S256x128, .f32⟩
  | 78 => ⟨S1x256x2, .f32⟩
  | 79 => ⟨S256x2, .f32⟩
  | 80 => ⟨S2x64, .f32⟩
  | 81 => ⟨S256x64, .f32⟩
  | 82 => ⟨S1x64, .f32⟩
  | 83 => ⟨S256x64, .f32⟩
  | 84 => ⟨S256x64, .f32⟩
  | 85 => ⟨S_, .f32⟩
  | 86 => ⟨S256x64, .f32⟩
  | 87 => ⟨S256x64, .f32⟩
  | 88 => ⟨S1x256x2, .f32⟩
  | 89 => ⟨S256x1x2, .f32⟩
  | 90 => ⟨S256x256x2, .f32⟩
  | 91 => ⟨S256x256x2, .f32⟩
  | 92 => ⟨S256x256x2, .f32⟩
  | 93 => ⟨S256x256x1, .f32⟩
  | 94 => ⟨S256x256, .f32⟩
  | 95 => ⟨S256x256x1, .f32⟩
  | 96 => ⟨S256x256, .f32⟩
  | 97 => ⟨S_, .f32⟩
  | 98 => ⟨S256x256, .f32⟩
  | 99 => ⟨S256x256, .f32⟩
  | 100 => ⟨S_, .f32⟩
  | 101 => ⟨S256x256, .f32⟩
  | 102 => ⟨S256x256, .f32⟩
  | 103 => ⟨S256x256, .f32⟩
  | 104 => ⟨S256x256, .i32⟩
  | 105 => ⟨S_, .i32⟩
  | 106 => ⟨S_, .i32⟩
  | 107 => ⟨S_, .i32⟩
  | 108 => ⟨S256x256, .i32⟩
  | 109 => ⟨S256x256, .i32⟩
  | 110 => ⟨S_, .i32⟩
  | 111 => ⟨S256x256, .i32⟩
  | 112 => ⟨S256x256, .i32⟩
  | 113 => ⟨S_, .f32⟩
  | 114 => ⟨S256x256, .f32⟩
  | 115 => ⟨S256x256, .f32⟩
  | 116 => ⟨S_, .f32⟩
  | 117 => ⟨S256x256, .f32⟩
  | 118 => ⟨S256x256, .f32⟩
  | 119 => ⟨S256x256, .f32⟩
  | 120 => ⟨S256x256, .i32⟩
  | 121 => ⟨S_, .i32⟩
  | 122 => ⟨S_, .i32⟩
  | 123 => ⟨S_, .i32⟩
  | 124 => ⟨S256x256, .i32⟩
  | 125 => ⟨S256x256, .i32⟩
  | 126 => ⟨S_, .i32⟩
  | 127 => ⟨S256x256, .i32⟩
  | _ => ⟨S8x256x2, .f32⟩

abbrev hbmTy0_2 (i : Nat) : BufTy := match i % 128 with
  | 0 => ⟨S256x256, .i32⟩
  | 1 => ⟨S_, .i32⟩
  | 2 => ⟨S256x256, .i32⟩
  | 3 => ⟨S256x256, .i32⟩
  | 4 => ⟨S256x256, .i32⟩
  | 5 => ⟨S256x256, .i32⟩
  | 6 => ⟨S256x256, .i32⟩
  | 7 => ⟨S_, .i32⟩
  | 8 => ⟨S256x256, .i32⟩
  | 9 => ⟨S256x256, .i32⟩
  | 10 => ⟨S256x256, .i1⟩
  | 11 => ⟨S256x2, .i1⟩
  | 12 => ⟨S_, .i1⟩
  | 13 => ⟨S256, .i1⟩
  | 14 => ⟨S256x256, .i1⟩
  | 15 => ⟨S1x256, .i1⟩
  | 16 => ⟨S256x256, .i1⟩
  | 17 => ⟨S256x256, .i1⟩
  | 18 => ⟨S256x1, .i1⟩
  | 19 => ⟨S256x256, .i1⟩
  | 20 => ⟨S256x256, .i1⟩
  | 21 => ⟨S256x256, .f32⟩
  | 22 => ⟨S_, .f32⟩
  | 23 => ⟨S256x256, .f32⟩
  | 24 => ⟨S256x256, .i1⟩
  | 25 => ⟨S256x256, .i1⟩
  | 26 => ⟨S256x256, .f32⟩
  | 27 => ⟨S_, .f32⟩
  | 28 => ⟨S256x256, .f32⟩
  | 29 => ⟨S256x256, .i1⟩
  | 30 => ⟨S256x256, .i1⟩
  | 31 => ⟨S256x256, .i1⟩
  | 32 => ⟨S256x256, .i1⟩
  | 33 => ⟨S256x256, .i1⟩
  | 34 => ⟨S256x256, .i1⟩
  | 35 => ⟨S256x256, .i1⟩
  | 36 => ⟨S256x256, .i1⟩
  | 37 => ⟨S256, .i1⟩
  | 38 => ⟨S256x1, .i1⟩
  | 39 => ⟨S256x256, .i1⟩
  | 40 => ⟨S256x256, .i1⟩
  | 41 => ⟨S_, .i32⟩
  | 42 => ⟨S_, .i32⟩
  | 43 => ⟨S256x256, .i32⟩
  | 44 => ⟨S256x256, .i32⟩
  | 45 => ⟨S1x256x128, .f32⟩
  | 46 => ⟨S256x256x128, .f32⟩
  | 47 => ⟨S256x256x1, .i1⟩
  | 48 => ⟨S256x256x1, .f32⟩
  | 49 => ⟨S256x256x128, .f32⟩
  | 50 => ⟨S256x256x128, .f32⟩
  | 51 => ⟨S256, .i32⟩
  | 52 => ⟨S256x1, .i32⟩
  | 53 => ⟨S256x256, .i32⟩
  | 54 => ⟨S_, .f32⟩
  | 55 => ⟨S256x65x128, .f32⟩
  | 56 => ⟨S_, .i32⟩
  | 57 => ⟨S256x256, .i32⟩
  | 58 => ⟨S256x256, .i1⟩
  | 59 => ⟨S_, .i32⟩
  | 60 => ⟨S256x256, .i32⟩
  | 61 => ⟨S256x256, .i32⟩
  | 62 => ⟨S256x256, .i32⟩
  | 63 => ⟨S_, .i32⟩
  | 64 => ⟨S256x256, .i32⟩
  | 65 => ⟨S256x256, .i1⟩
  | 66 => ⟨S_, .i32⟩
  | 67 => ⟨S256x256, .i32⟩
  | 68 => ⟨S256x256, .i32⟩
  | 69 => ⟨S256x256, .i32⟩
  | 70 => ⟨S256x256x1, .i32⟩
  | 71 => ⟨S256x256x1, .i32⟩
  | 72 => ⟨S256x256x2, .i32⟩
  | 73 => ⟨S256x65x128, .f32⟩
  | 74 => ⟨S256x64x128, .f32⟩
  | 75 => ⟨S256x8192, .f32⟩
  | 76 => ⟨S256, .i1⟩
  | 77 => ⟨S256, .i1⟩
  | 78 => ⟨S256, .f32⟩
  | 79 => ⟨S256x1, .f32⟩
  | 80 => ⟨S8192x128, .f32⟩
  | 81 => ⟨S256x128, .f32⟩
  | 82 => ⟨S1x128, .f32⟩
  | 83 => ⟨S256x128, .f32⟩
  | 84 => ⟨S256x128, .f32⟩
  | 85 => ⟨S256x128, .f32⟩
  | 86 => ⟨S256x128, .f32⟩
  | 87 => ⟨S256x192, .f32⟩
  | 88 => ⟨S192x512, .f32⟩
  | 89 => ⟨S256x512, .f32⟩
  | 90 => ⟨S1x512, .f32⟩
  | 91 => ⟨S256x512, .f32⟩
  | 92 => ⟨S256x512, .f32⟩
  | 93 => ⟨S128x512, .f32⟩
  | 94 => ⟨S256x512, .f32⟩
  | 95 => ⟨S256x512, .f32⟩
  | 96 => ⟨S1x512, .f32⟩
  | 97 => ⟨S256x512, .f32⟩
  | 98 => ⟨S256x512, .f32⟩
  | 99 => ⟨S256x128, .f32⟩
  | 100 => ⟨S256x128, .f32⟩
  | 101 => ⟨S256x128, .f32⟩
  | 102 => ⟨S256x128, .f32⟩
  | 103 => ⟨S256x128, .f32⟩
  | 104 => ⟨S256x128, .f32⟩
  | 105 => ⟨S_, .f32⟩
  | 106 => ⟨S256x128, .f32⟩
  | 107 => ⟨S256x128, .f32⟩
  | 108 => ⟨S_, .f32⟩
  | 109 => ⟨S256x128, .f32⟩
  | 110 => ⟨S256x128, .f32⟩
  | 111 => ⟨S256x128, .f32⟩
  | 112 => ⟨S256x128, .f32⟩
  | 113 => ⟨S_, .f32⟩
  | 114 => ⟨S256x128, .f32⟩
  | 115 => ⟨S256x128, .f32⟩
  | 116 => ⟨S_, .f32⟩
  | 117 => ⟨S256x128, .f32⟩
  | 118 => ⟨S256x128, .f32⟩
  | 119 => ⟨S256x128, .f32⟩
  | 120 => ⟨S256x128, .f32⟩
  | 121 => ⟨S256x128, .f32⟩
  | 122 => ⟨S_, .f32⟩
  | 123 => ⟨S256x128, .f32⟩
  | 124 => ⟨S256x128, .f32⟩
  | 125 => ⟨S_, .f32⟩
  | 126 => ⟨S256x128, .f32⟩
  | 127 => ⟨S256x128, .f32⟩
  | _ => ⟨S8x256x2, .f32⟩

abbrev hbmTy0_3 (i : Nat) : BufTy := match i % 128 with
  | 0 => ⟨S256x128, .f32⟩
  | 1 => ⟨S256x128, .f32⟩
  | 2 => ⟨S256x128, .f32⟩
  | 3 => ⟨S256x128, .f32⟩
  | 4 => ⟨S256x128, .f32⟩
  | 5 => ⟨S1x256x2, .f32⟩
  | 6 => ⟨S256x2, .f32⟩
  | 7 => ⟨S2x64, .f32⟩
  | 8 => ⟨S256x64, .f32⟩
  | 9 => ⟨S1x64, .f32⟩
  | 10 => ⟨S256x64, .f32⟩
  | 11 => ⟨S256x64, .f32⟩
  | 12 => ⟨S_, .f32⟩
  | 13 => ⟨S256x64, .f32⟩
  | 14 => ⟨S256x64, .f32⟩
  | 15 => ⟨S1x256x2, .f32⟩
  | 16 => ⟨S256x1x2, .f32⟩
  | 17 => ⟨S256x256x2, .f32⟩
  | 18 => ⟨S256x256x2, .f32⟩
  | 19 => ⟨S256x256x2, .f32⟩
  | 20 => ⟨S256x256x1, .f32⟩
  | 21 => ⟨S256x256, .f32⟩
  | 22 => ⟨S256x256x1, .f32⟩
  | 23 => ⟨S256x256, .f32⟩
  | 24 => ⟨S_, .f32⟩
  | 25 => ⟨S256x256, .f32⟩
  | 26 => ⟨S256x256, .f32⟩
  | 27 => ⟨S_, .f32⟩
  | 28 => ⟨S256x256, .f32⟩
  | 29 => ⟨S256x256, .f32⟩
  | 30 => ⟨S256x256, .f32⟩
  | 31 => ⟨S256x256, .i32⟩
  | 32 => ⟨S_, .i32⟩
  | 33 => ⟨S_, .i32⟩
  | 34 => ⟨S_, .i32⟩
  | 35 => ⟨S256x256, .i32⟩
  | 36 => ⟨S256x256, .i32⟩
  | 37 => ⟨S_, .i32⟩
  | 38 => ⟨S256x256, .i32⟩
  | 39 => ⟨S256x256, .i32⟩
  | 40 => ⟨S_, .f32⟩
  | 41 => ⟨S256x256, .f32⟩
  | 42 => ⟨S256x256, .f32⟩
  | 43 => ⟨S_, .f32⟩
  | 44 => ⟨S256x256, .f32⟩
  | 45 => ⟨S256x256, .f32⟩
  | 46 => ⟨S256x256, .f32⟩
  | 47 => ⟨S256x256, .i32⟩
  | 48 => ⟨S_, .i32⟩
  | 49 => ⟨S_, .i32⟩
  | 50 => ⟨S_, .i32⟩
  | 51 => ⟨S256x256, .i32⟩
  | 52 => ⟨S256x256, .i32⟩
  | 53 => ⟨S_, .i32⟩
  | 54 => ⟨S256x256, .i32⟩
  | 55 => ⟨S256x256, .i32⟩
  | 56 => ⟨S_, .i32⟩
  | 57 => ⟨S256x256, .i32⟩
  | 58 => ⟨S256x256, .i32⟩
  | 59 => ⟨S256x256, .i32⟩
  | 60 => ⟨S256x256, .i32⟩
  | 61 => ⟨S256x256, .i32⟩
  | 62 => ⟨S_, .i32⟩
  | 63 => ⟨S256x256, .i32⟩
  | 64 => ⟨S256x256, .i32⟩
  | 65 => ⟨S256x256, .i1⟩
  | 66 => ⟨S256x2, .i1⟩
  | 67 => ⟨S_, .i1⟩
  | 68 => ⟨S256, .i1⟩
  | 69 => ⟨S256x256, .i1⟩
  | 70 => ⟨S1x256, .i1⟩
  | 71 => ⟨S256x256, .i1⟩
  | 72 => ⟨S256x256, .i1⟩
  | 73 => ⟨S256x1, .i1⟩
  | 74 => ⟨S256x256, .i1⟩
  | 75 => ⟨S256x256, .i1⟩
  | 76 => ⟨S256x256, .f32⟩
  | 77 => ⟨S_, .f32⟩
  | 78 => ⟨S256x256, .f32⟩
  | 79 => ⟨S256x256, .i1⟩
  | 80 => ⟨S256x256, .i1⟩
  | 81 => ⟨S256x256, .f32⟩
  | 82 => ⟨S_, .f32⟩
  | 83 => ⟨S256x256, .f32⟩
  | 84 => ⟨S256x256, .i1⟩
  | 85 => ⟨S256x256, .i1⟩
  | 86 => ⟨S256x256, .i1⟩
  | 87 => ⟨S256x256, .i1⟩
  | 88 => ⟨S256x256, .i1⟩
  | 89 => ⟨S256x256, .i1⟩
  | 90 => ⟨S256x256, .i1⟩
  | 91 => ⟨S256x256, .i1⟩
  | 92 => ⟨S256, .i1⟩
  | 93 => ⟨S256x1, .i1⟩
  | 94 => ⟨S256x256, .i1⟩
  | 95 => ⟨S256x256, .i1⟩
  | 96 => ⟨S_, .i32⟩
  | 97 => ⟨S_, .i32⟩
  | 98 => ⟨S256x256, .i32⟩
  | 99 => ⟨S256x256, .i32⟩
  | 100 => ⟨S1x256x128, .f32⟩
  | 101 => ⟨S256x256x128, .f32⟩
  | 102 => ⟨S256x256x1, .i1⟩
  | 103 => ⟨S256x256x1, .f32⟩
  | 104 => ⟨S256x256x128, .f32⟩
  | 105 => ⟨S256x256x128, .f32⟩
  | 106 => ⟨S256, .i32⟩
  | 107 => ⟨S256x1, .i32⟩
  | 108 => ⟨S256x256, .i32⟩
  | 109 => ⟨S_, .f32⟩
  | 110 => ⟨S256x65x128, .f32⟩
  | 111 => ⟨S_, .i32⟩
  | 112 => ⟨S256x256, .i32⟩
  | 113 => ⟨S256x256, .i1⟩
  | 114 => ⟨S_, .i32⟩
  | 115 => ⟨S256x256, .i32⟩
  | 116 => ⟨S256x256, .i32⟩
  | 117 => ⟨S256x256, .i32⟩
  | 118 => ⟨S_, .i32⟩
  | 119 => ⟨S256x256, .i32⟩
  | 120 => ⟨S256x256, .i1⟩
  | 121 => ⟨S_, .i32⟩
  | 122 => ⟨S256x256, .i32⟩
  | 123 => ⟨S256x256, .i32⟩
  | 124 => ⟨S256x256, .i32⟩
  | 125 => ⟨S256x256x1, .i32⟩
  | 126 => ⟨S256x256x1, .i32⟩
  | 127 => ⟨S256x256x2, .i32⟩
  | _ => ⟨S8x256x2, .f32⟩

abbrev hbmTy0_4 (i : Nat) : BufTy := match i % 128 with
  | 0 => ⟨S256x65x128, .f32⟩
  | 1 => ⟨S256x64x128, .f32⟩
  | 2 => ⟨S256x8192, .f32⟩
  | 3 => ⟨S256, .i1⟩
  | 4 => ⟨S256, .i1⟩
  | 5 => ⟨S256, .f32⟩
  | 6 => ⟨S256x1, .f32⟩
  | 7 => ⟨S8192x128, .f32⟩
  | 8 => ⟨S256x128, .f32⟩
  | 9 => ⟨S1x128, .f32⟩
  | 10 => ⟨S256x128, .f32⟩
  | 11 => ⟨S256x128, .f32⟩
  | 12 => ⟨S256x128, .f32⟩
  | 13 => ⟨S256x128, .f32⟩
  | 14 => ⟨S256x192, .f32⟩
  | 15 => ⟨S192x512, .f32⟩
  | 16 => ⟨S256x512, .f32⟩
  | 17 => ⟨S1x512, .f32⟩
  | 18 => ⟨S256x512, .f32⟩
  | 19 => ⟨S256x512, .f32⟩
  | 20 => ⟨S128x512, .f32⟩
  | 21 => ⟨S256x512, .f32⟩
  | 22 => ⟨S256x512, .f32⟩
  | 23 => ⟨S1x512, .f32⟩
  | 24 => ⟨S256x512, .f32⟩
  | 25 => ⟨S256x512, .f32⟩
  | 26 => ⟨S256x128, .f32⟩
  | 27 => ⟨S256x128, .f32⟩
  | 28 => ⟨S256x128, .f32⟩
  | 29 => ⟨S256x128, .f32⟩
  | 30 => ⟨S256x128, .f32⟩
  | 31 => ⟨S256x128, .f32⟩
  | 32 => ⟨S_, .f32⟩
  | 33 => ⟨S256x128, .f32⟩
  | 34 => ⟨S256x128, .f32⟩
  | 35 => ⟨S_, .f32⟩
  | 36 => ⟨S256x128, .f32⟩
  | 37 => ⟨S256x128, .f32⟩
  | 38 => ⟨S256x128, .f32⟩
  | 39 => ⟨S256x128, .f32⟩
  | 40 => ⟨S_, .f32⟩
  | 41 => ⟨S256x128, .f32⟩
  | 42 => ⟨S256x128, .f32⟩
  | 43 => ⟨S_, .f32⟩
  | 44 => ⟨S256x128, .f32⟩
  | 45 => ⟨S256x128, .f32⟩
  | 46 => ⟨S256x128, .f32⟩
  | 47 => ⟨S256x128, .f32⟩
  | 48 => ⟨S256x128, .f32⟩
  | 49 => ⟨S_, .f32⟩
  | 50 => ⟨S256x128, .f32⟩
  | 51 => ⟨S256x128, .f32⟩
  | 52 => ⟨S_, .f32⟩
  | 53 => ⟨S256x128, .f32⟩
  | 54 => ⟨S256x128, .f32⟩
  | 55 => ⟨S256x128, .f32⟩
  | 56 => ⟨S256x128, .f32⟩
  | 57 => ⟨S256x128, .f32⟩
  | 58 => ⟨S256x128, .f32⟩
  | 59 => ⟨S256x128, .f32⟩
  | 60 => ⟨S1x256x2, .f32⟩
  | 61 => ⟨S256x2, .f32⟩
  | 62 => ⟨S2x64, .f32⟩
  | 63 => ⟨S256x64, .f32⟩
  | 64 => ⟨S1x64, .f32⟩
  | 65 => ⟨S256x64, .f32⟩
  | 66 => ⟨S256x64, .f32⟩
  | 67 => ⟨S_, .f32⟩
  | 68 => ⟨S256x64, .f32⟩
  | 69 => ⟨S256x64, .f32⟩
  | 70 => ⟨S1x256x2, .f32⟩
  | 71 => ⟨S256x1x2, .f32⟩
  | 72 => ⟨S256x256x2, .f32⟩
  | 73 => ⟨S256x256x2, .f32⟩
  | 74 => ⟨S256x256x2, .f32⟩
  | 75 => ⟨S256x256x1, .f32⟩
  | 76 => ⟨S256x256, .f32⟩
  | 77 => ⟨S256x256x1, .f32⟩
  | 78 => ⟨S256x256, .f32⟩
  | 79 => ⟨S_, .f32⟩
  | 80 => ⟨S256x256, .f32⟩
  | 81 => ⟨S256x256, .f32⟩
  | 82 => ⟨S_, .f32⟩
  | 83 => ⟨S256x256, .f32⟩
  | 84 => ⟨S256x256, .f32⟩
  | 85 => ⟨S256x256, .f32⟩
  | 86 => ⟨S256x256, .i32⟩
  | 87 => ⟨S_, .i32⟩
  | 88 => ⟨S_, .i32⟩
  | 89 => ⟨S_, .i32⟩
  | 90 => ⟨S256x256, .i32⟩
  | 91 => ⟨S256x256, .i32⟩
  | 92 => ⟨S_, .i32⟩
  | 93 => ⟨S256x256, .i32⟩
  | 94 => ⟨S256x256, .i32⟩
  | 95 => ⟨S_, .f32⟩
  | 96 => ⟨S256x256, .f32⟩
  | 97 => ⟨S256x256, .f32⟩
  | 98 => ⟨S_, .f32⟩
  | 99 => ⟨S256x256, .f32⟩
  | 100 => ⟨S256x256, .f32⟩
  | 101 => ⟨S256x256, .f32⟩
  | 102 => ⟨S256x256, .i32⟩
  | 103 => ⟨S_, .i32⟩
  | 104 => ⟨S_, .i32⟩
  | 105 => ⟨S_, .i32⟩
  | 106 => ⟨S256x256, .i32⟩
  | 107 => ⟨S256x256, .i32⟩
  | 108 => ⟨S_, .i32⟩
  | 109 => ⟨S256x256, .i32⟩
  | 110 => ⟨S256x256, .i32⟩
  | 111 => ⟨S_, .i32⟩
  | 112 => ⟨S256x256, .i32⟩
  | 113 => ⟨S256x256, .i32⟩
  | 114 => ⟨S256x256, .i32⟩
  | 115 => ⟨S256x256, .i32⟩
  | 116 => ⟨S256x256, .i32⟩
  | 117 => ⟨S_, .i32⟩
  | 118 => ⟨S256x256, .i32⟩
  | 119 => ⟨S256x256, .i32⟩
  | 120 => ⟨S256x256, .i1⟩
  | 121 => ⟨S256x2, .i1⟩
  | 122 => ⟨S_, .i1⟩
  | 123 => ⟨S256, .i1⟩
  | 124 => ⟨S256x256, .i1⟩
  | 125 => ⟨S1x256, .i1⟩
  | 126 => ⟨S256x256, .i1⟩
  | 127 => ⟨S256x256, .i1⟩
  | _ => ⟨S8x256x2, .f32⟩

abbrev hbmTy0_5 (i : Nat) : BufTy := match i % 128 with
  | 0 => ⟨S256x1, .i1⟩
  | 1 => ⟨S256x256, .i1⟩
  | 2 => ⟨S256x256, .i1⟩
  | 3 => ⟨S256x256, .f32⟩
  | 4 => ⟨S_, .f32⟩
  | 5 => ⟨S256x256, .f32⟩
  | 6 => ⟨S256x256, .i1⟩
  | 7 => ⟨S256x256, .i1⟩
  | 8 => ⟨S256x256, .f32⟩
  | 9 => ⟨S_, .f32⟩
  | 10 => ⟨S256x256, .f32⟩
  | 11 => ⟨S256x256, .i1⟩
  | 12 => ⟨S256x256, .i1⟩
  | 13 => ⟨S256x256, .i1⟩
  | 14 => ⟨S256x256, .i1⟩
  | 15 => ⟨S256x256, .i1⟩
  | 16 => ⟨S256x256, .i1⟩
  | 17 => ⟨S256x256, .i1⟩
  | 18 => ⟨S256x256, .i1⟩
  | 19 => ⟨S256, .i1⟩
  | 20 => ⟨S256x1, .i1⟩
  | 21 => ⟨S256x256, .i1⟩
  | 22 => ⟨S256x256, .i1⟩
  | 23 => ⟨S_, .i32⟩
  | 24 => ⟨S_, .i32⟩
  | 25 => ⟨S256x256, .i32⟩
  | 26 => ⟨S256x256, .i32⟩
  | 27 => ⟨S1x256x128, .f32⟩
  | 28 => ⟨S256x256x128, .f32⟩
  | 29 => ⟨S256x256x1, .i1⟩
  | 30 => ⟨S256x256x1, .f32⟩
  | 31 => ⟨S256x256x128, .f32⟩
  | 32 => ⟨S256x256x128, .f32⟩
  | 33 => ⟨S256, .i32⟩
  | 34 => ⟨S256x1, .i32⟩
  | 35 => ⟨S256x256, .i32⟩
  | 36 => ⟨S_, .f32⟩
  | 37 => ⟨S256x65x128, .f32⟩
  | 38 => ⟨S_, .i32⟩
  | 39 => ⟨S256x256, .i32⟩
  | 40 => ⟨S256x256, .i1⟩
  | 41 => ⟨S_, .i32⟩
  | 42 => ⟨S256x256, .i32⟩
  | 43 => ⟨S256x256, .i32⟩
  | 44 => ⟨S256x256, .i32⟩
  | 45 => ⟨S_, .i32⟩
  | 46 => ⟨S256x256, .i32⟩
  | 47 => ⟨S256x256, .i1⟩
  | 48 => ⟨S_, .i32⟩
  | 49 => ⟨S256x256, .i32⟩
  | 50 => ⟨S256x256, .i32⟩
  | 51 => ⟨S256x256, .i32⟩
  | 52 => ⟨S256x256x1, .i32⟩
  | 53 => ⟨S256x256x1, .i32⟩
  | 54 => ⟨S256x256x2, .i32⟩
  | 55 => ⟨S256x65x128, .f32⟩
  | 56 => ⟨S256x64x128, .f32⟩
  | 57 => ⟨S256x8192, .f32⟩
  | 58 => ⟨S256, .i1⟩
  | 59 => ⟨S256, .i1⟩
  | 60 => ⟨S256, .f32⟩
  | 61 => ⟨S256x1, .f32⟩
  | 62 => ⟨S8192x128, .f32⟩
  | 63 => ⟨S256x128, .f32⟩
  | 64 => ⟨S1x128, .f32⟩
  | 65 => ⟨S256x128, .f32⟩
  | 66 => ⟨S256x128, .f32⟩
  | 67 => ⟨S256x128, .f32⟩
  | 68 => ⟨S256x128, .f32⟩
  | 69 => ⟨S256x192, .f32⟩
  | 70 => ⟨S192x512, .f32⟩
  | 71 => ⟨S256x512, .f32⟩
  | 72 => ⟨S1x512, .f32⟩
  | 73 => ⟨S256x512, .f32⟩
  | 74 => ⟨S256x512, .f32⟩
  | 75 => ⟨S128x512, .f32⟩
  | 76 => ⟨S256x512, .f32⟩
  | 77 => ⟨S256x512, .f32⟩
  | 78 => ⟨S1x512, .f32⟩
  | 79 => ⟨S256x512, .f32⟩
  | 80 => ⟨S256x512, .f32⟩
  | 81 => ⟨S256x128, .f32⟩
  | 82 => ⟨S256x128, .f32⟩
  | 83 => ⟨S256x128, .f32⟩
  | 84 => ⟨S256x128, .f32⟩
  | 85 => ⟨S256x128, .f32⟩
  | 86 => ⟨S256x128, .f32⟩
  | 87 => ⟨S_, .f32⟩
  | 88 => ⟨S256x128, .f32⟩
  | 89 => ⟨S256x128, .f32⟩
  | 90 => ⟨S_, .f32⟩
  | 91 => ⟨S256x128, .f32⟩
  | 92 => ⟨S256x128, .f32⟩
  | 93 => ⟨S256x128, .f32⟩
  | 94 => ⟨S256x128, .f32⟩
  | 95 => ⟨S_, .f32⟩
  | 96 => ⟨S256x128, .f32⟩
  | 97 => ⟨S256x128, .f32⟩
  | 98 => ⟨S_, .f32⟩
  | 99 => ⟨S256x128, .f32⟩
  | 100 => ⟨S256x128, .f32⟩
  | 101 => ⟨S256x128, .f32⟩
  | 102 => ⟨S256x128, .f32⟩
  | 103 => ⟨S256x128, .f32⟩
  | 104 => ⟨S_, .f32⟩
  | 105 => ⟨S256x128, .f32⟩
  | 106 => ⟨S256x128, .f32⟩
  | 107 => ⟨S_, .f32⟩
  | 108 => ⟨S256x128, .f32⟩
  | 109 => ⟨S256x128, .f32⟩
  | 110 => ⟨S256x128, .f32⟩
  | 111 => ⟨S256x128, .f32⟩
  | 112 => ⟨S256x128, .f32⟩
  | 113 => ⟨S256x128, .f32⟩
  | 114 => ⟨S256x128, .f32⟩
  | 115 => ⟨S1x256x2, .f32⟩
  | 116 => ⟨S256x2, .f32⟩
  | 117 => ⟨S2x64, .f32⟩
  | 118 => ⟨S256x64, .f32⟩
  | 119 => ⟨S1x64, .f32⟩
  | 120 => ⟨S256x64, .f32⟩
  | 121 => ⟨S256x64, .f32⟩
  | 122 => ⟨S_, .f32⟩
  | 123 => ⟨S256x64, .f32⟩
  | 124 => ⟨S256x64, .f32⟩
  | 125 => ⟨S1x256x2, .f32⟩
  | 126 => ⟨S256x1x2, .f32⟩
  | 127 => ⟨S256x256x2, .f32⟩
  | _ => ⟨S8x256x2, .f32⟩

abbrev hbmTy0_6 (i : Nat) : BufTy := match i % 128 with
  | 0 => ⟨S256x256x2, .f32⟩
  | 1 => ⟨S256x256x2, .f32⟩
  | 2 => ⟨S256x256x1, .f32⟩
  | 3 => ⟨S256x256, .f32⟩
  | 4 => ⟨S256x256x1, .f32⟩
  | 5 => ⟨S256x256, .f32⟩
  | 6 => ⟨S_, .f32⟩
  | 7 => ⟨S256x256, .f32⟩
  | 8 => ⟨S256x256, .f32⟩
  | 9 => ⟨S_, .f32⟩
  | 10 => ⟨S256x256, .f32⟩
  | 11 => ⟨S256x256, .f32⟩
  | 12 => ⟨S256x256, .f32⟩
  | 13 => ⟨S256x256, .i32⟩
  | 14 => ⟨S_, .i32⟩
  | 15 => ⟨S_, .i32⟩
  | 16 => ⟨S_, .i32⟩
  | 17 => ⟨S256x256, .i32⟩
  | 18 => ⟨S256x256, .i32⟩
  | 19 => ⟨S_, .i32⟩
  | 20 => ⟨S256x256, .i32⟩
  | 21 => ⟨S256x256, .i32⟩
  | 22 => ⟨S_, .f32⟩
  | 23 => ⟨S256x256, .f32⟩
  | 24 => ⟨S256x256, .f32⟩
  | 25 => ⟨S_, .f32⟩
  | 26 => ⟨S256x256, .f32⟩
  | 27 => ⟨S256x256, .f32⟩
  | 28 => ⟨S256x256, .f32⟩
  | 29 => ⟨S256x256, .i32⟩
  | 30 => ⟨S_, .i32⟩
  | 31 => ⟨S_, .i32⟩
  | 32 => ⟨S_, .i32⟩
  | 33 => ⟨S256x256, .i32⟩
  | 34 => ⟨S256x256, .i32⟩
  | 35 => ⟨S_, .i32⟩
  | 36 => ⟨S256x256, .i32⟩
  | 37 => ⟨S256x256, .i32⟩
  | 38 => ⟨S_, .i32⟩
  | 39 => ⟨S256x256, .i32⟩
  | 40 => ⟨S256x256, .i32⟩
  | 41 => ⟨S256x256, .i32⟩
  | 42 => ⟨S256x256, .i32⟩
  | 43 => ⟨S256x256, .i32⟩
  | 44 => ⟨S_, .i32⟩
  | 45 => ⟨S256x256, .i32⟩
  | 46 => ⟨S256x256, .i32⟩
  | 47 => ⟨S256x256, .i1⟩
  | 48 => ⟨S256x2, .i1⟩
  | 49 => ⟨S_, .i1⟩
  | 50 => ⟨S256, .i1⟩
  | 51 => ⟨S256x256, .i1⟩
  | 52 => ⟨S1x256, .i1⟩
  | 53 => ⟨S256x256, .i1⟩
  | 54 => ⟨S256x256, .i1⟩
  | 55 => ⟨S256x1, .i1⟩
  | 56 => ⟨S256x256, .i1⟩
  | 57 => ⟨S256x256, .i1⟩
  | 58 => ⟨S256x256, .f32⟩
  | 59 => ⟨S_, .f32⟩
  | 60 => ⟨S256x256, .f32⟩
  | 61 => ⟨S256x256, .i1⟩
  | 62 => ⟨S256x256, .i1⟩
  | 63 => ⟨S256x256, .f32⟩
  | 64 => ⟨S_, .f32⟩
  | 65 => ⟨S256x256, .f32⟩
  | 66 => ⟨S256x256, .i1⟩
  | 67 => ⟨S256x256, .i1⟩
  | 68 => ⟨S256x256, .i1⟩
  | 69 => ⟨S256x256, .i1⟩
  | 70 => ⟨S256x256, .i1⟩
  | 71 => ⟨S256x256, .i1⟩
  | 72 => ⟨S256x256, .i1⟩
  | 73 => ⟨S256x256, .i1⟩
  | 74 => ⟨S256, .i1⟩
  | 75 => ⟨S256x1, .i1⟩
  | 76 => ⟨S256x256, .i1⟩
  | 77 => ⟨S256x256, .i1⟩
  | 78 => ⟨S_, .i32⟩
  | 79 => ⟨S_, .i32⟩
  | 80 => ⟨S256x256, .i32⟩
  | 81 => ⟨S256x256, .i32⟩
  | 82 => ⟨S1x256x128, .f32⟩
  | 83 => ⟨S256x256x128, .f32⟩
  | 84 => ⟨S256x256x1, .i1⟩
  | 85 => ⟨S256x256x1, .f32⟩
  | 86 => ⟨S256x256x128, .f32⟩
  | 87 => ⟨S256x256x128, .f32⟩
  | 88 => ⟨S256, .i32⟩
  | 89 => ⟨S256x1, .i32⟩
  | 90 => ⟨S256x256, .i32⟩
  | 91 => ⟨S_, .f32⟩
  | 92 => ⟨S256x65x128, .f32⟩
  | 93 => ⟨S_, .i32⟩
  | 94 => ⟨S256x256, .i32⟩
  | 95 => ⟨S256x256, .i1⟩
  | 96 => ⟨S_, .i32⟩
  | 97 => ⟨S256x256, .i32⟩
  | 98 => ⟨S256x256, .i32⟩
  | 99 => ⟨S256x256, .i32⟩
  | 100 => ⟨S_, .i32⟩
  | 101 => ⟨S256x256, .i32⟩
  | 102 => ⟨S256x256, .i1⟩
  | 103 => ⟨S_, .i32⟩
  | 104 => ⟨S256x256, .i32⟩
  | 105 => ⟨S256x256, .i32⟩
  | 106 => ⟨S256x256, .i32⟩
  | 107 => ⟨S256x256x1, .i32⟩
  | 108 => ⟨S256x256x1, .i32⟩
  | 109 => ⟨S256x256x2, .i32⟩
  | 110 => ⟨S256x65x128, .f32⟩
  | 111 => ⟨S256x64x128, .f32⟩
  | 112 => ⟨S256x8192, .f32⟩
  | 113 => ⟨S256, .i1⟩
  | 114 => ⟨S256, .i1⟩
  | 115 => ⟨S256, .f32⟩
  | 116 => ⟨S256x1, .f32⟩
  | 117 => ⟨S8192x128, .f32⟩
  | 118 => ⟨S256x128, .f32⟩
  | 119 => ⟨S1x128, .f32⟩
  | 120 => ⟨S256x128, .f32⟩
  | 121 => ⟨S256x128, .f32⟩
  | 122 => ⟨S256x128, .f32⟩
  | 123 => ⟨S256x128, .f32⟩
  | 124 => ⟨S256x192, .f32⟩
  | 125 => ⟨S192x512, .f32⟩
  | 126 => ⟨S256x512, .f32⟩
  | 127 => ⟨S1x512, .f32⟩
  | _ => ⟨S8x256x2, .f32⟩

abbrev hbmTy0_7 (i : Nat) : BufTy := match i % 128 with
  | 0 => ⟨S256x512, .f32⟩
  | 1 => ⟨S256x512, .f32⟩
  | 2 => ⟨S128x512, .f32⟩
  | 3 => ⟨S256x512, .f32⟩
  | 4 => ⟨S256x512, .f32⟩
  | 5 => ⟨S1x512, .f32⟩
  | 6 => ⟨S256x512, .f32⟩
  | 7 => ⟨S256x512, .f32⟩
  | 8 => ⟨S256x128, .f32⟩
  | 9 => ⟨S256x128, .f32⟩
  | 10 => ⟨S256x128, .f32⟩
  | 11 => ⟨S256x128, .f32⟩
  | 12 => ⟨S256x128, .f32⟩
  | 13 => ⟨S256x128, .f32⟩
  | 14 => ⟨S_, .f32⟩
  | 15 => ⟨S256x128, .f32⟩
  | 16 => ⟨S256x128, .f32⟩
  | 17 => ⟨S_, .f32⟩
  | 18 => ⟨S256x128, .f32⟩
  | 19 => ⟨S256x128, .f32⟩
  | 20 => ⟨S256x128, .f32⟩
  | 21 => ⟨S256x128, .f32⟩
  | 22 => ⟨S_, .f32⟩
  | 23 => ⟨S256x128, .f32⟩
  | 24 => ⟨S256x128, .f32⟩
  | 25 => ⟨S_, .f32⟩
  | 26 => ⟨S256x128, .f32⟩
  | 27 => ⟨S256x128, .f32⟩
  | 28 => ⟨S256x128, .f32⟩
  | 29 => ⟨S256x128, .f32⟩
  | 30 => ⟨S256x128, .f32⟩
  | 31 => ⟨S_, .f32⟩
  | 32 => ⟨S256x128, .f32⟩
  | 33 => ⟨S256x128, .f32⟩
  | 34 => ⟨S_, .f32⟩
  | 35 => ⟨S256x128, .f32⟩
  | 36 => ⟨S256x128, .f32⟩
  | 37 => ⟨S256x128, .f32⟩
  | 38 => ⟨S256x128, .f32⟩
  | 39 => ⟨S256x128, .f32⟩
  | 40 => ⟨S256x128, .f32⟩
  | 41 => ⟨S256x128, .f32⟩
  | 42 => ⟨S1x256x2, .f32⟩
  | 43 => ⟨S256x2, .f32⟩
  | 44 => ⟨S2x64, .f32⟩
  | 45 => ⟨S256x64, .f32⟩
  | 46 => ⟨S1x64, .f32⟩
  | 47 => ⟨S256x64, .f32⟩
  | 48 => ⟨S256x64, .f32⟩
  | 49 => ⟨S_, .f32⟩
  | 50 => ⟨S256x64, .f32⟩
  | 51 => ⟨S256x64, .f32⟩
  | 52 => ⟨S1x256x2, .f32⟩
  | 53 => ⟨S256x1x2, .f32⟩
  | 54 => ⟨S256x256x2, .f32⟩
  | 55 => ⟨S256x256x2, .f32⟩
  | 56 => ⟨S256x256x2, .f32⟩
  | 57 => ⟨S256x256x1, .f32⟩
  | 58 => ⟨S256x256, .f32⟩
  | 59 => ⟨S256x256x1, .f32⟩
  | 60 => ⟨S256x256, .f32⟩
  | 61 => ⟨S_, .f32⟩
  | 62 => ⟨S256x256, .f32⟩
  | 63 => ⟨S256x256, .f32⟩
  | 64 => ⟨S_, .f32⟩
  | 65 => ⟨S256x256, .f32⟩
  | 66 => ⟨S256x256, .f32⟩
  | 67 => ⟨S256x256, .f32⟩
  | 68 => ⟨S256x256, .i32⟩
  | 69 => ⟨S_, .i32⟩
  | 70 => ⟨S_, .i32⟩
  | 71 => ⟨S_, .i32⟩
  | 72 => ⟨S256x256, .i32⟩
  | 73 => ⟨S256x256, .i32⟩
  | 74 => ⟨S_, .i32⟩
  | 75 => ⟨S256x256, .i32⟩
  | 76 => ⟨S256x256, .i32⟩
  | 77 => ⟨S_, .f32⟩
  | 78 => ⟨S256x256, .f32⟩
  | 79 => ⟨S256x256, .f32⟩
  | 80 => ⟨S_, .f32⟩
  | 81 => ⟨S256x256, .f32⟩
  | 82 => ⟨S256x256, .f32⟩
  | 83 => ⟨S256x256, .f32⟩
  | 84 => ⟨S256x256, .i32⟩
  | 85 => ⟨S_, .i32⟩
  | 86 => ⟨S_, .i32⟩
  | 87 => ⟨S_, .i32⟩
  | 88 => ⟨S256x256, .i32⟩
  | 89 => ⟨S256x256, .i32⟩
  | 90 => ⟨S_, .i32⟩
  | 91 => ⟨S256x256, .i32⟩
  | 92 => ⟨S256x256, .i32⟩
  | 93 => ⟨S_, .i32⟩
  | 94 => ⟨S256x256, .i32⟩
  | 95 => ⟨S256x256, .i32⟩
  | 96 => ⟨S256x256, .i32⟩
  | 97 => ⟨S256x256, .i32⟩
  | 98 => ⟨S256x256, .i32⟩
  | 99 => ⟨S_, .i32⟩
  | 100 => ⟨S256x256, .i32⟩
  | 101 => ⟨S256x256, .i32⟩
  | 102 => ⟨S256x256, .i1⟩
  | 103 => ⟨S256x2, .i1⟩
  | 104 => ⟨S_, .i1⟩
  | 105 => ⟨S256, .i1⟩
  | 106 => ⟨S256x256, .i1⟩
  | 107 => ⟨S1x256, .i1⟩
  | 108 => ⟨S256x256, .i1⟩
  | 109 => ⟨S256x256, .i1⟩
  | 110 => ⟨S256x1, .i1⟩
  | 111 => ⟨S256x256, .i1⟩
  | 112 => ⟨S256x256, .i1⟩
  | 113 => ⟨S256x256, .f32⟩
  | 114 => ⟨S_, .f32⟩
  | 115 => ⟨S256x256, .f32⟩
  | 116 => ⟨S256x256, .i1⟩
  | 117 => ⟨S256x256, .i1⟩
  | 118 => ⟨S256x256, .f32⟩
  | 119 => ⟨S_, .f32⟩
  | 120 => ⟨S256x256, .f32⟩
  | 121 => ⟨S256x256, .i1⟩
  | 122 => ⟨S256x256, .i1⟩
  | 123 => ⟨S256x256, .i1⟩
  | 124 => ⟨S256x256, .i1⟩
  | 125 => ⟨S256x256, .i1⟩
  | 126 => ⟨S256x256, .i1⟩
  | 127 => ⟨S256x256, .i1⟩
  | _ => ⟨S8x256x2, .f32⟩

abbrev hbmTy0_8 (i : Nat) : BufTy := match i % 128 with
  | 0 => ⟨S256x256, .i1⟩
  | 1 => ⟨S256, .i1⟩
  | 2 => ⟨S256x1, .i1⟩
  | 3 => ⟨S256x256, .i1⟩
  | 4 => ⟨S256x256, .i1⟩
  | 5 => ⟨S_, .i32⟩
  | 6 => ⟨S_, .i32⟩
  | 7 => ⟨S256x256, .i32⟩
  | 8 => ⟨S256x256, .i32⟩
  | 9 => ⟨S1x256x128, .f32⟩
  | 10 => ⟨S256x256x128, .f32⟩
  | 11 => ⟨S256x256x1, .i1⟩
  | 12 => ⟨S256x256x1, .f32⟩
  | 13 => ⟨S256x256x128, .f32⟩
  | 14 => ⟨S256x256x128, .f32⟩
  | 15 => ⟨S256, .i32⟩
  | 16 => ⟨S256x1, .i32⟩
  | 17 => ⟨S256x256, .i32⟩
  | 18 => ⟨S_, .f32⟩
  | 19 => ⟨S256x65x128, .f32⟩
  | 20 => ⟨S_, .i32⟩
  | 21 => ⟨S256x256, .i32⟩
  | 22 => ⟨S256x256, .i1⟩
  | 23 => ⟨S_, .i32⟩
  | 24 => ⟨S256x256, .i32⟩
  | 25 => ⟨S256x256, .i32⟩
  | 26 => ⟨S256x256, .i32⟩
  | 27 => ⟨S_, .i32⟩
  | 28 => ⟨S256x256, .i32⟩
  | 29 => ⟨S256x256, .i1⟩
  | 30 => ⟨S_, .i32⟩
  | 31 => ⟨S256x256, .i32⟩
  | 32 => ⟨S256x256, .i32⟩
  | 33 => ⟨S256x256, .i32⟩
  | 34 => ⟨S256x256x1, .i32⟩
  | 35 => ⟨S256x256x1, .i32⟩
  | 36 => ⟨S256x256x2, .i32⟩
  | 37 => ⟨S256x65x128, .f32⟩
  | 38 => ⟨S256x64x128, .f32⟩
  | 39 => ⟨S256x8192, .f32⟩
  | 40 => ⟨S256, .i1⟩
  | 41 => ⟨S256, .i1⟩
  | 42 => ⟨S256, .f32⟩
  | 43 => ⟨S256x1, .f32⟩
  | 44 => ⟨S8192x128, .f32⟩
  | 45 => ⟨S256x128, .f32⟩
  | 46 => ⟨S1x128, .f32⟩
  | 47 => ⟨S256x128, .f32⟩
  | 48 => ⟨S256x128, .f32⟩
  | 49 => ⟨S256x128, .f32⟩
  | 50 => ⟨S256x128, .f32⟩
  | 51 => ⟨S256x192, .f32⟩
  | 52 => ⟨S192x512, .f32⟩
  | 53 => ⟨S256x512, .f32⟩
  | 54 => ⟨S1x512, .f32⟩
  | 55 => ⟨S256x512, .f32⟩
  | 56 => ⟨S256x512, .f32⟩
  | 57 => ⟨S128x512, .f32⟩
  | 58 => ⟨S256x512, .f32⟩
  | 59 => ⟨S256x512, .f32⟩
  | 60 => ⟨S1x512, .f32⟩
  | 61 => ⟨S256x512, .f32⟩
  | 62 => ⟨S256x512, .f32⟩
  | 63 => ⟨S256x128, .f32⟩
  | 64 => ⟨S256x128, .f32⟩
  | 65 => ⟨S256x128, .f32⟩
  | 66 => ⟨S256x128, .f32⟩
  | 67 => ⟨S256x128, .f32⟩
  | 68 => ⟨S256x128, .f32⟩
  | 69 => ⟨S_, .f32⟩
  | 70 => ⟨S256x128, .f32⟩
  | 71 => ⟨S256x128, .f32⟩
  | 72 => ⟨S_, .f32⟩
  | 73 => ⟨S256x128, .f32⟩
  | 74 => ⟨S256x128, .f32⟩
  | 75 => ⟨S256x128, .f32⟩
  | 76 => ⟨S256x128, .f32⟩
  | 77 => ⟨S_, .f32⟩
  | 78 => ⟨S256x128, .f32⟩
  | 79 => ⟨S256x128, .f32⟩
  | 80 => ⟨S_, .f32⟩
  | 81 => ⟨S256x128, .f32⟩
  | 82 => ⟨S256x128, .f32⟩
  | 83 => ⟨S256x128, .f32⟩
  | 84 => ⟨S256x128, .f32⟩
  | 85 => ⟨S256x128, .f32⟩
  | 86 => ⟨S_, .f32⟩
  | 87 => ⟨S256x128, .f32⟩
  | 88 => ⟨S256x128, .f32⟩
  | 89 => ⟨S_, .f32⟩
  | 90 => ⟨S256x128, .f32⟩
  | 91 => ⟨S256x128, .f32⟩
  | 92 => ⟨S256x128, .f32⟩
  | 93 => ⟨S256x128, .f32⟩
  | 94 => ⟨S256x128, .f32⟩
  | 95 => ⟨S256x128, .f32⟩
  | 96 => ⟨S256x128, .f32⟩
  | 97 => ⟨S1x256x2, .f32⟩
  | 98 => ⟨S256x2, .f32⟩
  | 99 => ⟨S2x64, .f32⟩
  | 100 => ⟨S256x64, .f32⟩
  | 101 => ⟨S1x64, .f32⟩
  | 102 => ⟨S256x64, .f32⟩
  | 103 => ⟨S256x64, .f32⟩
  | 104 => ⟨S_, .f32⟩
  | 105 => ⟨S256x64, .f32⟩
  | 106 => ⟨S256x64, .f32⟩
  | 107 => ⟨S1x256x2, .f32⟩
  | 108 => ⟨S256x1x2, .f32⟩
  | 109 => ⟨S256x256x2, .f32⟩
  | 110 => ⟨S256x256x2, .f32⟩
  | 111 => ⟨S256x256x2, .f32⟩
  | 112 => ⟨S256x256x1, .f32⟩
  | 113 => ⟨S256x256, .f32⟩
  | 114 => ⟨S256x256x1, .f32⟩
  | 115 => ⟨S256x256, .f32⟩
  | 116 => ⟨S_, .f32⟩
  | 117 => ⟨S256x256, .f32⟩
  | 118 => ⟨S256x256, .f32⟩
  | 119 => ⟨S_, .f32⟩
  | 120 => ⟨S256x256, .f32⟩
  | 121 => ⟨S256x256, .f32⟩
  | 122 => ⟨S256x256, .f32⟩
  | 123 => ⟨S256x256, .i32⟩
  | 124 => ⟨S_, .i32⟩
  | 125 => ⟨S_, .i32⟩
  | 126 => ⟨S_, .i32⟩
  | 127 => ⟨S256x256, .i32⟩
  | _ => ⟨S8x256x2, .f32⟩

abbrev hbmTy0_9 (i : Nat) : BufTy := match i % 128 with
  | 0 => ⟨S256x256, .i32⟩
  | 1 => ⟨S_, .i32⟩
  | 2 => ⟨S256x256, .i32⟩
  | 3 => ⟨S256x256, .i32⟩
  | 4 => ⟨S_, .f32⟩
  | 5 => ⟨S256x256, .f32⟩
  | 6 => ⟨S256x256, .f32⟩
  | 7 => ⟨S_, .f32⟩
  | 8 => ⟨S256x256, .f32⟩
  | 9 => ⟨S256x256, .f32⟩
  | 10 => ⟨S256x256, .f32⟩
  | 11 => ⟨S256x256, .i32⟩
  | 12 => ⟨S_, .i32⟩
  | 13 => ⟨S_, .i32⟩
  | 14 => ⟨S_, .i32⟩
  | 15 => ⟨S256x256, .i32⟩
  | 16 => ⟨S256x256, .i32⟩
  | 17 => ⟨S_, .i32⟩
  | 18 => ⟨S256x256, .i32⟩
  | 19 => ⟨S256x256, .i32⟩
  | 20 => ⟨S_, .i32⟩
  | 21 => ⟨S256x256, .i32⟩
  | 22 => ⟨S256x256, .i32⟩
  | 23 => ⟨S256x256, .i32⟩
  | 24 => ⟨S256x256, .i32⟩
  | 25 => ⟨S256x256, .i32⟩
  | 26 => ⟨S_, .i32⟩
  | 27 => ⟨S256x256, .i32⟩
  | 28 => ⟨S256x256, .i32⟩
  | 29 => ⟨S256x256, .i1⟩
  | 30 => ⟨S256x2, .i1⟩
  | 31 => ⟨S_, .i1⟩
  | 32 => ⟨S256, .i1⟩
  | 33 => ⟨S256x256, .i1⟩
  | 34 => ⟨S1x256, .i1⟩
  | 35 => ⟨S256x256, .i1⟩
  | 36 => ⟨S256x256, .i1⟩
  | 37 => ⟨S256x1, .i1⟩
  | 38 => ⟨S256x256, .i1⟩
  | 39 => ⟨S256x256, .i1⟩
  | 40 => ⟨S256x256, .f32⟩
  | 41 => ⟨S_, .f32⟩
  | 42 => ⟨S256x256, .f32⟩
  | 43 => ⟨S256x256, .i1⟩
  | 44 => ⟨S256x256, .i1⟩
  | 45 => ⟨S256x256, .f32⟩
  | 46 => ⟨S_, .f32⟩
  | 47 => ⟨S256x256, .f32⟩
  | 48 => ⟨S256x256, .i1⟩
  | 49 => ⟨S256x256, .i1⟩
  | 50 => ⟨S256x256, .i1⟩
  | 51 => ⟨S256x256, .i1⟩
  | 52 => ⟨S256x256, .i1⟩
  | 53 => ⟨S256x256, .i1⟩
  | 54 => ⟨S256x256, .i1⟩
  | 55 => ⟨S256x256, .i1⟩
  | 56 => ⟨S256, .i1⟩
  | 57 => ⟨S256x1, .i1⟩
  | 58 => ⟨S256x256, .i1⟩
  | 59 => ⟨S256x256, .i1⟩
  | 60 => ⟨S_, .i32⟩
  | 61 => ⟨S_, .i32⟩
  | 62 => ⟨S256x256, .i32⟩
  | 63 => ⟨S256x256, .i32⟩
  | 64 => ⟨S1x256x128, .f32⟩
  | 65 => ⟨S256x256x128, .f32⟩
  | 66 => ⟨S256x256x1, .i1⟩
  | 67 => ⟨S256x256x1, .f32⟩
  | 68 => ⟨S256x256x128, .f32⟩
  | 69 => ⟨S256x256x128, .f32⟩
  | 70 => ⟨S256, .i32⟩
  | 71 => ⟨S256x1, .i32⟩
  | 72 => ⟨S256x256, .i32⟩
  | 73 => ⟨S_, .f32⟩
  | 74 => ⟨S256x65x128, .f32⟩
  | 75 => ⟨S_, .i32⟩
  | 76 => ⟨S256x256, .i32⟩
  | 77 => ⟨S256x256, .i1⟩
  | 78 => ⟨S_, .i32⟩
  | 79 => ⟨S256x256, .i32⟩
  | 80 => ⟨S256x256, .i32⟩
  | 81 => ⟨S256x256, .i32⟩
  | 82 => ⟨S_, .i32⟩
  | 83 => ⟨S256x256, .i32⟩
  | 84 => ⟨S256x256, .i1⟩
  | 85 => ⟨S_, .i32⟩
  | 86 => ⟨S256x256, .i32⟩
  | 87 => ⟨S256x256, .i32⟩
  | 88 => ⟨S256x256, .i32⟩
  | 89 => ⟨S256x256x1, .i32⟩
  | 90 => ⟨S256x256x1, .i32⟩
  | 91 => ⟨S256x256x2, .i32⟩
  | 92 => ⟨S256x65x128, .f32⟩
  | 93 => ⟨S256x64x128, .f32⟩
  | 94 => ⟨S256x8192, .f32⟩
  | 95 => ⟨S256, .i1⟩
  | 96 => ⟨S256, .i1⟩
  | 97 => ⟨S256, .f32⟩
  | 98 => ⟨S256x1, .f32⟩
  | 99 => ⟨S8192x128, .f32⟩
  | 100 => ⟨S256x128, .f32⟩
  | 101 => ⟨S1x128, .f32⟩
  | 102 => ⟨S256x128, .f32⟩
  | 103 => ⟨S256x128, .f32⟩
  | 104 => ⟨S256x128, .f32⟩
  | 105 => ⟨S256x128, .f32⟩
  | 106 => ⟨S256x192, .f32⟩
  | 107 => ⟨S192x512, .f32⟩
  | 108 => ⟨S256x512, .f32⟩
  | 109 => ⟨S1x512, .f32⟩
  | 110 => ⟨S256x512, .f32⟩
  | 111 => ⟨S256x512, .f32⟩
  | 112 => ⟨S128x512, .f32⟩
  | 113 => ⟨S256x512, .f32⟩
  | 114 => ⟨S256x512, .f32⟩
  | 115 => ⟨S1x512, .f32⟩
  | 116 => ⟨S256x512, .f32⟩
  | 117 => ⟨S256x512, .f32⟩
  | 118 => ⟨S256x128, .f32⟩
  | 119 => ⟨S256x128, .f32⟩
  | 120 => ⟨S256x128, .f32⟩
  | 121 => ⟨S256x128, .f32⟩
  | 122 => ⟨S256x128, .f32⟩
  | 123 => ⟨S256x128, .f32⟩
  | 124 => ⟨S_, .f32⟩
  | 125 => ⟨S256x128, .f32⟩
  | 126 => ⟨S256x128, .f32⟩
  | 127 => ⟨S_, .f32⟩
  | _ => ⟨S8x256x2, .f32⟩

abbrev hbmTy0_10 (i : Nat) : BufTy := match i % 128 with
  | 0 => ⟨S256x128, .f32⟩
  | 1 => ⟨S256x128, .f32⟩
  | 2 => ⟨S256x128, .f32⟩
  | 3 => ⟨S256x128, .f32⟩
  | 4 => ⟨S_, .f32⟩
  | 5 => ⟨S256x128, .f32⟩
  | 6 => ⟨S256x128, .f32⟩
  | 7 => ⟨S_, .f32⟩
  | 8 => ⟨S256x128, .f32⟩
  | 9 => ⟨S256x128, .f32⟩
  | 10 => ⟨S256x128, .f32⟩
  | 11 => ⟨S256x128, .f32⟩
  | 12 => ⟨S256x128, .f32⟩
  | 13 => ⟨S_, .f32⟩
  | 14 => ⟨S256x128, .f32⟩
  | 15 => ⟨S256x128, .f32⟩
  | 16 => ⟨S_, .f32⟩
  | 17 => ⟨S256x128, .f32⟩
  | 18 => ⟨S256x128, .f32⟩
  | 19 => ⟨S256x128, .f32⟩
  | 20 => ⟨S256x128, .f32⟩
  | 21 => ⟨S256x128, .f32⟩
  | 22 => ⟨S256x128, .f32⟩
  | 23 => ⟨S256x128, .f32⟩
  | 24 => ⟨S1x256x2, .f32⟩
  | 25 => ⟨S256x2, .f32⟩
  | 26 => ⟨S2x64, .f32⟩
  | 27 => ⟨S256x64, .f32⟩
  | 28 => ⟨S1x64, .f32⟩
  | 29 => ⟨S256x64, .f32⟩
  | 30 => ⟨S256x64, .f32⟩
  | 31 => ⟨S_, .f32⟩
  | 32 => ⟨S256x64, .f32⟩
  | 33 => ⟨S256x64, .f32⟩
  | 34 => ⟨S1x256x2, .f32⟩
  | 35 => ⟨S256x1x2, .f32⟩
  | 36 => ⟨S256x256x2, .f32⟩
  | 37 => ⟨S256x256x2, .f32⟩
  | 38 => ⟨S256x256x2, .f32⟩
  | 39 => ⟨S256x256x1, .f32⟩
  | 40 => ⟨S256x256, .f32⟩
  | 41 => ⟨S256x256x1, .f32⟩
  | 42 => ⟨S256x256, .f32⟩
  | 43 => ⟨S_, .f32⟩
  | 44 => ⟨S256x256, .f32⟩
  | 45 => ⟨S256x256, .f32⟩
  | 46 => ⟨S_, .f32⟩
  | 47 => ⟨S256x256, .f32⟩
  | 48 => ⟨S256x256, .f32⟩
  | 49 => ⟨S256x256, .f32⟩
  | 50 => ⟨S256x256, .i32⟩
  | 51 => ⟨S_, .i32⟩
  | 52 => ⟨S_, .i32⟩
  | 53 => ⟨S_, .i32⟩
  | 54 => ⟨S256x256, .i32⟩
  | 55 => ⟨S256x256, .i32⟩
  | 56 => ⟨S_, .i32⟩
  | 57 => ⟨S256x256, .i32⟩
  | 58 => ⟨S256x256, .i32⟩
  | 59 => ⟨S_, .f32⟩
  | 60 => ⟨S256x256, .f32⟩
  | 61 => ⟨S256x256, .f32⟩
  | 62 => ⟨S_, .f32⟩
  | 63 => ⟨S256x256, .f32⟩
  | 64 => ⟨S256x256, .f32⟩
  | 65 => ⟨S256x256, .f32⟩
  | 66 => ⟨S256x256, .i32⟩
  | 67 => ⟨S_, .i32⟩
  | 68 => ⟨S_, .i32⟩
  | 69 => ⟨S_, .i32⟩
  | 70 => ⟨S256x256, .i32⟩
  | 71 => ⟨S256x256, .i32⟩
  | 72 => ⟨S_, .i32⟩
  | 73 => ⟨S256x256, .i32⟩
  | 74 => ⟨S256x256, .i32⟩
  | 75 => ⟨S_, .i32⟩
  | 76 => ⟨S256x256, .i32⟩
  | 77 => ⟨S256x256, .i32⟩
  | 78 => ⟨S256x256, .i32⟩
  | 79 => ⟨S256x256, .i32⟩
  | 80 => ⟨S256x256, .i32⟩
  | 81 => ⟨S_, .i32⟩
  | 82 => ⟨S256x256, .i32⟩
  | 83 => ⟨S256x256, .i32⟩
  | 84 => ⟨S256x256, .i1⟩
  | 85 => ⟨S256x2, .i1⟩
  | 86 => ⟨S_, .i1⟩
  | 87 => ⟨S256, .i1⟩
  | 88 => ⟨S256x256, .i1⟩
  | 89 => ⟨S1x256, .i1⟩
  | 90 => ⟨S256x256, .i1⟩
  | 91 => ⟨S256x256, .i1⟩
  | 92 => ⟨S256x1, .i1⟩
  | 93 => ⟨S256x256, .i1⟩
  | 94 => ⟨S256x256, .i1⟩
  | 95 => ⟨S256x256, .f32⟩
  | 96 => ⟨S_, .f32⟩
  | 97 => ⟨S256x256, .f32⟩
  | 98 => ⟨S256x256, .i1⟩
  | 99 => ⟨S256x256, .i1⟩
  | 100 => ⟨S256x256, .f32⟩
  | 101 => ⟨S_, .f32⟩
  | 102 => ⟨S256x256, .f32⟩
  | 103 => ⟨S256x256, .i1⟩
  | 104 => ⟨S256x256, .i1⟩
  | 105 => ⟨S256x256, .i1⟩
  | 106 => ⟨S256x256, .i1⟩
  | 107 => ⟨S256x256, .i1⟩
  | 108 => ⟨S256x256, .i1⟩
  | 109 => ⟨S256x256, .i1⟩
  | 110 => ⟨S256x256, .i1⟩
  | 111 => ⟨S256, .i1⟩
  | 112 => ⟨S256x1, .i1⟩
  | 113 => ⟨S256x256, .i1⟩
  | 114 => ⟨S256x256, .i1⟩
  | 115 => ⟨S_, .i32⟩
  | 116 => ⟨S_, .i32⟩
  | 117 => ⟨S256x256, .i32⟩
  | 118 => ⟨S256x256, .i32⟩
  | 119 => ⟨S1x256x128, .f32⟩
  | 120 => ⟨S256x256x128, .f32⟩
  | 121 => ⟨S256x256x1, .i1⟩
  | 122 => ⟨S256x256x1, .f32⟩
  | 123 => ⟨S256x256x128, .f32⟩
  | 124 => ⟨S256x256x128, .f32⟩
  | 125 => ⟨S256, .i32⟩
  | 126 => ⟨S256x1, .i32⟩
  | 127 => ⟨S256x256, .i32⟩
  | _ => ⟨S8x256x2, .f32⟩

abbrev hbmTy0_11 (i : Nat) : BufTy := match i % 128 with
  | 0 => ⟨S_, .f32⟩
  | 1 => ⟨S256x65x128, .f32⟩
  | 2 => ⟨S_, .i32⟩
  | 3 => ⟨S256x256, .i32⟩
  | 4 => ⟨S256x256, .i1⟩
  | 5 => ⟨S_, .i32⟩
  | 6 => ⟨S256x256, .i32⟩
  | 7 => ⟨S256x256, .i32⟩
  | 8 => ⟨S256x256, .i32⟩
  | 9 => ⟨S_, .i32⟩
  | 10 => ⟨S256x256, .i32⟩
  | 11 => ⟨S256x256, .i1⟩
  | 12 => ⟨S_, .i32⟩
  | 13 => ⟨S256x256, .i32⟩
  | 14 => ⟨S256x256, .i32⟩
  | 15 => ⟨S256x256, .i32⟩
  | 16 => ⟨S256x256x1, .i32⟩
  | 17 => ⟨S256x256x1, .i32⟩
  | 18 => ⟨S256x256x2, .i32⟩
  | 19 => ⟨S256x65x128, .f32⟩
  | 20 => ⟨S256x64x128, .f32⟩
  | 21 => ⟨S256x8192, .f32⟩
  | 22 => ⟨S256, .i1⟩
  | 23 => ⟨S256, .i1⟩
  | 24 => ⟨S256, .f32⟩
  | 25 => ⟨S256x1, .f32⟩
  | 26 => ⟨S8192x128, .f32⟩
  | 27 => ⟨S256x128, .f32⟩
  | 28 => ⟨S1x128, .f32⟩
  | 29 => ⟨S256x128, .f32⟩
  | 30 => ⟨S256x128, .f32⟩
  | 31 => ⟨S256x128, .f32⟩
  | 32 => ⟨S256x128, .f32⟩
  | 33 => ⟨S256x192, .f32⟩
  | 34 => ⟨S192x512, .f32⟩
  | 35 => ⟨S256x512, .f32⟩
  | 36 => ⟨S1x512, .f32⟩
  | 37 => ⟨S256x512, .f32⟩
  | 38 => ⟨S256x512, .f32⟩
  | 39 => ⟨S128x512, .f32⟩
  | 40 => ⟨S256x512, .f32⟩
  | 41 => ⟨S256x512, .f32⟩
  | 42 => ⟨S1x512, .f32⟩
  | 43 => ⟨S256x512, .f32⟩
  | 44 => ⟨S256x512, .f32⟩
  | 45 => ⟨S256x128, .f32⟩
  | 46 => ⟨S256x128, .f32⟩
  | 47 => ⟨S256x128, .f32⟩
  | 48 => ⟨S256x128, .f32⟩
  | 49 => ⟨S256x128, .f32⟩
  | 50 => ⟨S256x128, .f32⟩
  | 51 => ⟨S_, .f32⟩
  | 52 => ⟨S256x128, .f32⟩
  | 53 => ⟨S256x128, .f32⟩
  | 54 => ⟨S_, .f32⟩
  | 55 => ⟨S256x128, .f32⟩
  | 56 => ⟨S256x128, .f32⟩
  | 57 => ⟨S256x128, .f32⟩
  | 58 => ⟨S256x128, .f32⟩
  | 59 => ⟨S_, .f32⟩
  | 60 => ⟨S256x128, .f32⟩
  | 61 => ⟨S256x128, .f32⟩
  | 62 => ⟨S_, .f32⟩
  | 63 => ⟨S256x128, .f32⟩
  | 64 => ⟨S256x128, .f32⟩
  | 65 => ⟨S256x128, .f32⟩
  | 66 => ⟨S256x128, .f32⟩
  | 67 => ⟨S256x128, .f32⟩
  | 68 => ⟨S_, .f32⟩
  | 69 => ⟨S256x128, .f32⟩
  | 70 => ⟨S256x128, .f32⟩
  | 71 => ⟨S_, .f32⟩
  | 72 => ⟨S256x128, .f32⟩
  | 73 => ⟨S256x128, .f32⟩
  | 74 => ⟨S256x128, .f32⟩
  | 75 => ⟨S256x128, .f32⟩
  | 76 => ⟨S256x128, .f32⟩
  | 77 => ⟨S256x128, .f32⟩
  | 78 => ⟨S256x128, .f32⟩
  | 79 => ⟨S1x256x2, .f32⟩
  | 80 => ⟨S256x2, .f32⟩
  | 81 => ⟨S256x2, .f32⟩
  | 82 => ⟨S256x2, .f32⟩
  | 83 => ⟨S2x64, .f32⟩
  | 84 => ⟨S256x64, .f32⟩
  | 85 => ⟨S1x64, .f32⟩
  | 86 => ⟨S256x64, .f32⟩
  | 87 => ⟨S256x64, .f32⟩
  | 88 => ⟨S_, .f32⟩
  | 89 => ⟨S256x64, .f32⟩
  | 90 => ⟨S256x64, .f32⟩
  | 91 => ⟨S1x256x2, .f32⟩
  | 92 => ⟨S256x1x2, .f32⟩
  | 93 => ⟨S256x256x2, .f32⟩
  | 94 => ⟨S256x256x2, .f32⟩
  | 95 => ⟨S256x256x2, .f32⟩
  | 96 => ⟨S256x256x1, .f32⟩
  | 97 => ⟨S256x256, .f32⟩
  | 98 => ⟨S256x256x1, .f32⟩
  | 99 => ⟨S256x256, .f32⟩
  | 100 => ⟨S_, .f32⟩
  | 101 => ⟨S256x256, .f32⟩
  | 102 => ⟨S256x256, .f32⟩
  | 103 => ⟨S_, .f32⟩
  | 104 => ⟨S256x256, .f32⟩
  | 105 => ⟨S256x256, .f32⟩
  | 106 => ⟨S256x256, .f32⟩
  | 107 => ⟨S256x256, .i32⟩
  | 108 => ⟨S_, .i32⟩
  | 109 => ⟨S_, .i32⟩
  | 110 => ⟨S_, .i32⟩
  | 111 => ⟨S256x256, .i32⟩
  | 112 => ⟨S256x256, .i32⟩
  | 113 => ⟨S_, .i32⟩
  | 114 => ⟨S256x256, .i32⟩
  | 115 => ⟨S256x256, .i32⟩
  | 116 => ⟨S_, .f32⟩
  | 117 => ⟨S256x256, .f32⟩
  | 118 => ⟨S256x256, .f32⟩
  | 119 => ⟨S_, .f32⟩
  | 120 => ⟨S256x256, .f32⟩
  | 121 => ⟨S256x256, .f32⟩
  | 122 => ⟨S256x256, .f32⟩
  | 123 => ⟨S256x256, .i32⟩
  | 124 => ⟨S_, .i32⟩
  | 125 => ⟨S_, .i32⟩
  | 126 => ⟨S_, .i32⟩
  | 127 => ⟨S256x256, .i32⟩
  | _ => ⟨S8x256x2, .f32⟩

abbrev hbmTy0_12 (i : Nat) : BufTy := match i % 128 with
  | 0 => ⟨S256x256, .i32⟩
  | 1 => ⟨S_, .i32⟩
  | 2 => ⟨S256x256, .i32⟩
  | 3 => ⟨S256x256, .i32⟩
  | 4 => ⟨S_, .i32⟩
  | 5 => ⟨S256x256, .i32⟩
  | 6 => ⟨S256x256, .i32⟩
  | 7 => ⟨S256x256, .i32⟩
  | 8 => ⟨S256x256, .i32⟩
  | 9 => ⟨S256x256, .i32⟩
  | 10 => ⟨S_, .i32⟩
  | 11 => ⟨S256x256, .i32⟩
  | 12 => ⟨S256x256, .i32⟩
  | 13 => ⟨S256x256, .i1⟩
  | 14 => ⟨S256x2, .i1⟩
  | 15 => ⟨S_, .i1⟩
  | 16 => ⟨S256, .i1⟩
  | 17 => ⟨S256x256, .i1⟩
  | 18 => ⟨S1x256, .i1⟩
  | 19 => ⟨S256x256, .i1⟩
  | 20 => ⟨S256x256, .i1⟩
  | 21 => ⟨S256x1, .i1⟩
  | 22 => ⟨S256x256, .i1⟩
  | 23 => ⟨S256x256, .i1⟩
  | 24 => ⟨S256x256, .f32⟩
  | 25 => ⟨S_, .f32⟩
  | 26 => ⟨S256x256, .f32⟩
  | 27 => ⟨S256x256, .i1⟩
  | 28 => ⟨S256x256, .i1⟩
  | 29 => ⟨S256x256, .f32⟩
  | 30 => ⟨S_, .f32⟩
  | 31 => ⟨S256x256, .f32⟩
  | 32 => ⟨S256x256, .i1⟩
  | 33 => ⟨S256x256, .i1⟩
  | 34 => ⟨S256x256, .i1⟩
  | 35 => ⟨S256x256, .i1⟩
  | 36 => ⟨S256x256, .i1⟩
  | 37 => ⟨S256x256, .i1⟩
  | 38 => ⟨S256x256, .i1⟩
  | 39 => ⟨S256x256, .i1⟩
  | 40 => ⟨S256, .i1⟩
  | 41 => ⟨S256x1, .i1⟩
  | 42 => ⟨S256x256, .i1⟩
  | 43 => ⟨S256x256, .i1⟩
  | 44 => ⟨S_, .i32⟩
  | 45 => ⟨S_, .i32⟩
  | 46 => ⟨S256x256, .i32⟩
  | 47 => ⟨S256x256, .i32⟩
  | 48 => ⟨S1x256x128, .f32⟩
  | 49 => ⟨S256x256x128, .f32⟩
  | 50 => ⟨S256x256x1, .i1⟩
  | 51 => ⟨S256x256x1, .f32⟩
  | 52 => ⟨S256x256x128, .f32⟩
  | 53 => ⟨S256x256x128, .f32⟩
  | 54 => ⟨S256, .i32⟩
  | 55 => ⟨S256x1, .i32⟩
  | 56 => ⟨S256x256, .i32⟩
  | 57 => ⟨S_, .f32⟩
  | 58 => ⟨S256x65x128, .f32⟩
  | 59 => ⟨S_, .i32⟩
  | 60 => ⟨S256x256, .i32⟩
  | 61 => ⟨S256x256, .i1⟩
  | 62 => ⟨S_, .i32⟩
  | 63 => ⟨S256x256, .i32⟩
  | 64 => ⟨S256x256, .i32⟩
  | 65 => ⟨S256x256, .i32⟩
  | 66 => ⟨S_, .i32⟩
  | 67 => ⟨S256x256, .i32⟩
  | 68 => ⟨S256x256, .i1⟩
  | 69 => ⟨S_, .i32⟩
  | 70 => ⟨S256x256, .i32⟩
  | 71 => ⟨S256x256, .i32⟩
  | 72 => ⟨S256x256, .i32⟩
  | 73 => ⟨S256x256x1, .i32⟩
  | 74 => ⟨S256x256x1, .i32⟩
  | 75 => ⟨S256x256x2, .i32⟩
  | 76 => ⟨S256x65x128, .f32⟩
  | 77 => ⟨S256x64x128, .f32⟩
  | 78 => ⟨S256x8192, .f32⟩
  | 79 => ⟨S256, .i1⟩
  | 80 => ⟨S256, .i1⟩
  | 81 => ⟨S256, .f32⟩
  | 82 => ⟨S256x1, .f32⟩
  | 83 => ⟨S8192x128, .f32⟩
  | 84 => ⟨S256x128, .f32⟩
  | 85 => ⟨S1x128, .f32⟩
  | 86 => ⟨S256x128, .f32⟩
  | 87 => ⟨S256x128, .f32⟩
  | 88 => ⟨S256x128, .f32⟩
  | 89 => ⟨S256x128, .f32⟩
  | 90 => ⟨S256x192, .f32⟩
  | 91 => ⟨S192x512, .f32⟩
  | 92 => ⟨S256x512, .f32⟩
  | 93 => ⟨S1x512, .f32⟩
  | 94 => ⟨S256x512, .f32⟩
  | 95 => ⟨S256x512, .f32⟩
  | 96 => ⟨S128x512, .f32⟩
  | 97 => ⟨S256x512, .f32⟩
  | 98 => ⟨S256x512, .f32⟩
  | 99 => ⟨S1x512, .f32⟩
  | 100 => ⟨S256x512, .f32⟩
  | 101 => ⟨S256x512, .f32⟩
  | 102 => ⟨S256x128, .f32⟩
  | 103 => ⟨S256x128, .f32⟩
  | 104 => ⟨S256x128, .f32⟩
  | 105 => ⟨S256x128, .f32⟩
  | 106 => ⟨S256x128, .f32⟩
  | 107 => ⟨S256x128, .f32⟩
  | 108 => ⟨S_, .f32⟩
  | 109 => ⟨S256x128, .f32⟩
  | 110 => ⟨S256x128, .f32⟩
  | 111 => ⟨S_, .f32⟩
  | 112 => ⟨S256x128, .f32⟩
  | 113 => ⟨S256x128, .f32⟩
  | 114 => ⟨S256x128, .f32⟩
  | 115 => ⟨S256x128, .f32⟩
  | 116 => ⟨S_, .f32⟩
  | 117 => ⟨S256x128, .f32⟩
  | 118 => ⟨S256x128, .f32⟩
  | 119 => ⟨S_, .f32⟩
  | 120 => ⟨S256x128, .f32⟩
  | 121 => ⟨S256x128, .f32⟩
  | 122 => ⟨S256x128, .f32⟩
  | 123 => ⟨S256x128, .f32⟩
  | 124 => ⟨S256x128, .f32⟩
  | 125 => ⟨S_, .f32⟩
  | 126 => ⟨S256x128, .f32⟩
  | 127 => ⟨S256x128, .f32⟩
  | _ => ⟨S8x256x2, .f32⟩

abbrev hbmTy0_13 (i : Nat) : BufTy := match i % 128 with
  | 0 => ⟨S_, .f32⟩
  | 1 => ⟨S256x128, .f32⟩
  | 2 => ⟨S256x128, .f32⟩
  | 3 => ⟨S256x128, .f32⟩
  | 4 => ⟨S256x128, .f32⟩
  | 5 => ⟨S256x128, .f32⟩
  | 6 => ⟨S256x128, .f32⟩
  | 7 => ⟨S256x128, .f32⟩
  | 8 => ⟨S128x5, .f32⟩
  | 9 => ⟨S256x5, .f32⟩
  | 10 => ⟨S1x5, .f32⟩
  | 11 => ⟨S256x5, .f32⟩
  | 12 => ⟨S256x5, .f32⟩
  | 13 => ⟨S256x2, .f32⟩
  | 14 => ⟨S256x2, .f32⟩
  | 15 => ⟨S256x2, .f32⟩
  | 16 => ⟨S_, .f32⟩
  | 17 => ⟨S256x2, .f32⟩
  | 18 => ⟨S256x2, .f32⟩
  | 19 => ⟨S256x1, .f32⟩
  | 20 => ⟨S256, .f32⟩
  | 21 => ⟨S256, .f32⟩
  | 22 => ⟨S256x2, .f32⟩
  | 23 => ⟨S256x2, .f32⟩
  | 24 => ⟨S256x2, .f32⟩
  | 25 => ⟨S2x64, .f32⟩
  | 26 => ⟨S256x64, .f32⟩
  | 27 => ⟨S1x64, .f32⟩
  | 28 => ⟨S256x64, .f32⟩
  | 29 => ⟨S256x64, .f32⟩
  | 30 => ⟨S_, .f32⟩
  | 31 => ⟨S256x64, .f32⟩
  | 32 => ⟨S256x64, .f32⟩
  | 33 => ⟨S1x256x2, .f32⟩
  | 34 => ⟨S256x1x2, .f32⟩
  | 35 => ⟨S256x256x2, .f32⟩
  | 36 => ⟨S256x256x2, .f32⟩
  | 37 => ⟨S256x256x2, .f32⟩
  | 38 => ⟨S256x256x1, .f32⟩
  | 39 => ⟨S256x256, .f32⟩
  | 40 => ⟨S256x256x1, .f32⟩
  | 41 => ⟨S256x256, .f32⟩
  | 42 => ⟨S_, .f32⟩
  | 43 => ⟨S256x256, .f32⟩
  | 44 => ⟨S256x256, .f32⟩
  | 45 => ⟨S_, .f32⟩
  | 46 => ⟨S256x256, .f32⟩
  | 47 => ⟨S256x256, .f32⟩
  | 48 => ⟨S256x256, .f32⟩
  | 49 => ⟨S256x256, .i32⟩
  | 50 => ⟨S_, .i32⟩
  | 51 => ⟨S_, .i32⟩
  | 52 => ⟨S_, .i32⟩
  | 53 => ⟨S256x256, .i32⟩
  | 54 => ⟨S256x256, .i32⟩
  | 55 => ⟨S_, .i32⟩
  | 56 => ⟨S256x256, .i32⟩
  | 57 => ⟨S256x256, .i32⟩
  | 58 => ⟨S_, .f32⟩
  | 59 => ⟨S256x256, .f32⟩
  | 60 => ⟨S256x256, .f32⟩
  | 61 => ⟨S_, .f32⟩
  | 62 => ⟨S256x256, .f32⟩
  | 63 => ⟨S256x256, .f32⟩
  | 64 => ⟨S256x256, .f32⟩
  | 65 => ⟨S256x256, .i32⟩
  | 66 => ⟨S_, .i32⟩
  | 67 => ⟨S_, .i32⟩
  | 68 => ⟨S_, .i32⟩
  | 69 => ⟨S256x256, .i32⟩
  | 70 => ⟨S256x256, .i32⟩
  | 71 => ⟨S_, .i32⟩
  | 72 => ⟨S256x256, .i32⟩
  | 73 => ⟨S256x256, .i32⟩
  | 74 => ⟨S_, .i32⟩
  | 75 => ⟨S256x256, .i32⟩
  | 76 => ⟨S256x256, .i32⟩
  | 77 => ⟨S256x256, .i32⟩
  | 78 => ⟨S256x256, .i32⟩
  | 79 => ⟨S256x256, .i32⟩
  | 80 => ⟨S_, .i32⟩
  | 81 => ⟨S256x256, .i32⟩
  | 82 => ⟨S256x256, .i32⟩
  | 83 => ⟨S256x256, .i1⟩
  | 84 => ⟨S256x2, .i1⟩
  | 85 => ⟨S_, .i1⟩
  | 86 => ⟨S256, .i1⟩
  | 87 => ⟨S256x256, .i1⟩
  | 88 => ⟨S1x256, .i1⟩
  | 89 => ⟨S256x256, .i1⟩
  | 90 => ⟨S256x256, .i1⟩
  | 91 => ⟨S256x1, .i1⟩
  | 92 => ⟨S256x256, .i1⟩
  | 93 => ⟨S256x256, .i1⟩
  | 94 => ⟨S256x256, .f32⟩
  | 95 => ⟨S_, .f32⟩
  | 96 => ⟨S256x256, .f32⟩
  | 97 => ⟨S256x256, .i1⟩
  | 98 => ⟨S256x256, .i1⟩
  | 99 => ⟨S256x256, .f32⟩
  | 100 => ⟨S_, .f32⟩
  | 101 => ⟨S256x256, .f32⟩
  | 102 => ⟨S256x256, .i1⟩
  | 103 => ⟨S256x256, .i1⟩
  | 104 => ⟨S256x256, .i1⟩
  | 105 => ⟨S256x256, .i1⟩
  | 106 => ⟨S256x256, .i1⟩
  | 107 => ⟨S256x256, .i1⟩
  | 108 => ⟨S256x256, .i1⟩
  | 109 => ⟨S256x256, .i1⟩
  | 110 => ⟨S256, .i1⟩
  | 111 => ⟨S256x1, .i1⟩
  | 112 => ⟨S256x256, .i1⟩
  | 113 => ⟨S256x256, .i1⟩
  | 114 => ⟨S_, .i32⟩
  | 115 => ⟨S_, .i32⟩
  | 116 => ⟨S256x256, .i32⟩
  | 117 => ⟨S256x256, .i32⟩
  | 118 => ⟨S1x256x128, .f32⟩
  | 119 => ⟨S256x256x128, .f32⟩
  | 120 => ⟨S256x256x1, .i1⟩
  | 121 => ⟨S256x256x1, .f32⟩
  | 122 => ⟨S256x256x128, .f32⟩
  | 123 => ⟨S256x256x128, .f32⟩
  | 124 => ⟨S256, .i32⟩
  | 125 => ⟨S256x1, .i32⟩
  | 126 => ⟨S256x256, .i32⟩
  | 127 => ⟨S_, .f32⟩
  | _ => ⟨S8x256x2, .f32⟩

abbrev hbmTy0_14 (i : Nat) : BufTy := match i % 128 with
  | 0 => ⟨S256x65x128, .f32⟩
  | 1 => ⟨S_, .i32⟩
  | 2 => ⟨S256x256, .i32⟩
  | 3 => ⟨S256x256, .i1⟩
  | 4 => ⟨S_, .i32⟩
  | 5 => ⟨S256x256, .i32⟩
  | 6 => ⟨S256x256, .i32⟩
  | 7 => ⟨S256x256, .i32⟩
  | 8 => ⟨S_, .i32⟩
  | 9 => ⟨S256x256, .i32⟩
  | 10 => ⟨S256x256, .i1⟩
  | 11 => ⟨S_, .i32⟩
  | 12 => ⟨S256x256, .i32⟩
  | 13 => ⟨S256x256, .i32⟩
  | 14 => ⟨S256x256, .i32⟩
  | 15 => ⟨S256x256x1, .i32⟩
  | 16 => ⟨S256x256x1, .i32⟩
  | 17 => ⟨S256x256x2, .i32⟩
  | 18 => ⟨S256x65x128, .f32⟩
  | 19 => ⟨S256x64x128, .f32⟩
  | 20 => ⟨S256x8192, .f32⟩
  | 21 => ⟨S256, .i1⟩
  | 22 => ⟨S256, .i1⟩
  | 23 => ⟨S256, .f32⟩
  | 24 => ⟨S256x1, .f32⟩
  | 25 => ⟨S8192x128, .f32⟩
  | 26 => ⟨S256x128, .f32⟩
  | 27 => ⟨S1x128, .f32⟩
  | 28 => ⟨S256x128, .f32⟩
  | 29 => ⟨S256x128, .f32⟩
  | 30 => ⟨S256x128, .f32⟩
  | 31 => ⟨S256x128, .f32⟩
  | 32 => ⟨S256x192, .f32⟩
  | 33 => ⟨S192x512, .f32⟩
  | 34 => ⟨S256x512, .f32⟩
  | 35 => ⟨S1x512, .f32⟩
  | 36 => ⟨S256x512, .f32⟩
  | 37 => ⟨S256x512, .f32⟩
  | 38 => ⟨S128x512, .f32⟩
  | 39 => ⟨S256x512, .f32⟩
  | 40 => ⟨S256x512, .f32⟩
  | 41 => ⟨S1x512, .f32⟩
  | 42 => ⟨S256x512, .f32⟩
  | 43 => ⟨S256x512, .f32⟩
  | 44 => ⟨S256x128, .f32⟩
  | 45 => ⟨S256x128, .f32⟩
  | 46 => ⟨S256x128, .f32⟩
  | 47 => ⟨S256x128, .f32⟩
  | 48 => ⟨S256x128, .f32⟩
  | 49 => ⟨S256x128, .f32⟩
  | 50 => ⟨S_, .f32⟩
  | 51 => ⟨S256x128, .f32⟩
  | 52 => ⟨S256x128, .f32⟩
  | 53 => ⟨S_, .f32⟩
  | 54 => ⟨S256x128, .f32⟩
  | 55 => ⟨S256x128, .f32⟩
  | 56 => ⟨S256x128, .f32⟩
  | 57 => ⟨S256x128, .f32⟩
  | 58 => ⟨S_, .f32⟩
  | 59 => ⟨S256x128, .f32⟩
  | 60 => ⟨S256x128, .f32⟩
  | 61 => ⟨S_, .f32⟩
  | 62 => ⟨S256x128, .f32⟩
  | 63 => ⟨S256x128, .f32⟩
  | 64 => ⟨S256x128, .f32⟩
  | 65 => ⟨S256x128, .f32⟩
  | 66 => ⟨S256x128, .f32⟩
  | 67 => ⟨S_, .f32⟩
  | 68 => ⟨S256x128, .f32⟩
  | 69 => ⟨S256x128, .f32⟩
  | 70 => ⟨S_, .f32⟩
  | 71 => ⟨S256x128, .f32⟩
  | 72 => ⟨S256x128, .f32⟩
  | 73 => ⟨S256x128, .f32⟩
  | 74 => ⟨S256x128, .f32⟩
  | 75 => ⟨S256x128, .f32⟩
  | 76 => ⟨S256x128, .f32⟩
  | 77 => ⟨S256x128, .f32⟩
  | 78 => ⟨S128x5, .f32⟩
  | 79 => ⟨S256x5, .f32⟩
  | 80 => ⟨S1x5, .f32⟩
  | 81 => ⟨S256x5, .f32⟩
  | 82 => ⟨S256x5, .f32⟩
  | 83 => ⟨S256x2, .f32⟩
  | 84 => ⟨S256x2, .f32⟩
  | 85 => ⟨S256x2, .f32⟩
  | 86 => ⟨S_, .f32⟩
  | 87 => ⟨S256x2, .f32⟩
  | 88 => ⟨S256x2, .f32⟩
  | 89 => ⟨S256x1, .f32⟩
  | 90 => ⟨S256, .f32⟩
  | 91 => ⟨S256, .f32⟩
  | 92 => ⟨S256x2, .f32⟩
  | 93 => ⟨S256x2, .f32⟩
  | 94 => ⟨S256x2, .f32⟩
  | 95 => ⟨S2x64, .f32⟩
  | 96 => ⟨S256x64, .f32⟩
  | 97 => ⟨S1x64, .f32⟩
  | 98 => ⟨S256x64, .f32⟩
  | 99 => ⟨S256x64, .f32⟩
  | 100 => ⟨S_, .f32⟩
  | 101 => ⟨S256x64, .f32⟩
  | 102 => ⟨S256x64, .f32⟩
  | 103 => ⟨S1x256x2, .f32⟩
  | 104 => ⟨S256x1x2, .f32⟩
  | 105 => ⟨S256x256x2, .f32⟩
  | 106 => ⟨S256x256x2, .f32⟩
  | 107 => ⟨S256x256x2, .f32⟩
  | 108 => ⟨S256x256x1, .f32⟩
  | 109 => ⟨S256x256, .f32⟩
  | 110 => ⟨S256x256x1, .f32⟩
  | 111 => ⟨S256x256, .f32⟩
  | 112 => ⟨S_, .f32⟩
  | 113 => ⟨S256x256, .f32⟩
  | 114 => ⟨S256x256, .f32⟩
  | 115 => ⟨S_, .f32⟩
  | 116 => ⟨S256x256, .f32⟩
  | 117 => ⟨S256x256, .f32⟩
  | 118 => ⟨S256x256, .f32⟩
  | 119 => ⟨S256x256, .i32⟩
  | 120 => ⟨S_, .i32⟩
  | 121 => ⟨S_, .i32⟩
  | 122 => ⟨S_, .i32⟩
  | 123 => ⟨S256x256, .i32⟩
  | 124 => ⟨S256x256, .i32⟩
  | 125 => ⟨S_, .i32⟩
  | 126 => ⟨S256x256, .i32⟩
  | 127 => ⟨S256x256, .i32⟩
  | _ => ⟨S8x256x2, .f32⟩

abbrev hbmTy0_15 (i : Nat) : BufTy := match i % 128 with
  | 0 => ⟨S_, .f32⟩
  | 1 => ⟨S256x256, .f32⟩
  | 2 => ⟨S256x256, .f32⟩
  | 3 => ⟨S_, .f32⟩
  | 4 => ⟨S256x256, .f32⟩
  | 5 => ⟨S256x256, .f32⟩
  | 6 => ⟨S256x256, .f32⟩
  | 7 => ⟨S256x256, .i32⟩
  | 8 => ⟨S_, .i32⟩
  | 9 => ⟨S_, .i32⟩
  | 10 => ⟨S_, .i32⟩
  | 11 => ⟨S256x256, .i32⟩
  | 12 => ⟨S256x256, .i32⟩
  | 13 => ⟨S_, .i32⟩
  | 14 => ⟨S256x256, .i32⟩
  | 15 => ⟨S256x256, .i32⟩
  | 16 => ⟨S_, .i32⟩
  | 17 => ⟨S256x256, .i32⟩
  | 18 => ⟨S256x256, .i32⟩
  | 19 => ⟨S256x256, .i32⟩
  | 20 => ⟨S256x256, .i32⟩
  | 21 => ⟨S256x256, .i32⟩
  | 22 => ⟨S_, .i32⟩
  | 23 => ⟨S256x256, .i32⟩
  | 24 => ⟨S256x256, .i32⟩
  | 25 => ⟨S256x256, .i1⟩
  | 26 => ⟨S256x2, .i1⟩
  | 27 => ⟨S_, .i1⟩
  | 28 => ⟨S256, .i1⟩
  | 29 => ⟨S256x256, .i1⟩
  | 30 => ⟨S1x256, .i1⟩
  | 31 => ⟨S256x256, .i1⟩
  | 32 => ⟨S256x256, .i1⟩
  | 33 => ⟨S256x1, .i1⟩
  | 34 => ⟨S256x256, .i1⟩
  | 35 => ⟨S256x256, .i1⟩
  | 36 => ⟨S256x256, .f32⟩
  | 37 => ⟨S_, .f32⟩
  | 38 => ⟨S256x256, .f32⟩
  | 39 => ⟨S256x256, .i1⟩
  | 40 => ⟨S256x256, .i1⟩
  | 41 => ⟨S256x256, .f32⟩
  | 42 => ⟨S_, .f32⟩
  | 43 => ⟨S256x256, .f32⟩
  | 44 => ⟨S256x256, .i1⟩
  | 45 => ⟨S256x256, .i1⟩
  | 46 => ⟨S256x256, .i1⟩
  | 47 => ⟨S256x256, .i1⟩
  | 48 => ⟨S256x256, .i1⟩
  | 49 => ⟨S256x256, .i1⟩
  | 50 => ⟨S256x256, .i1⟩
  | 51 => ⟨S256x256, .i1⟩
  | 52 => ⟨S256, .i1⟩
  | 53 => ⟨S256x1, .i1⟩
  | 54 => ⟨S256x256, .i1⟩
  | 55 => ⟨S256x256, .i1⟩
  | 56 => ⟨S_, .i32⟩
  | 57 => ⟨S_, .i32⟩
  | 58 => ⟨S256x256, .i32⟩
  | 59 => ⟨S256x256, .i32⟩
  | 60 => ⟨S1x256x128, .f32⟩
  | 61 => ⟨S256x256x128, .f32⟩
  | 62 => ⟨S256x256x1, .i1⟩
  | 63 => ⟨S256x256x1, .f32⟩
  | 64 => ⟨S256x256x128, .f32⟩
  | 65 => ⟨S256x256x128, .f32⟩
  | 66 => ⟨S256, .i32⟩
  | 67 => ⟨S256x1, .i32⟩
  | 68 => ⟨S256x256, .i32⟩
  | 69 => ⟨S_, .f32⟩
  | 70 => ⟨S256x65x128, .f32⟩
  | 71 => ⟨S_, .i32⟩
  | 72 => ⟨S256x256, .i32⟩
  | 73 => ⟨S256x256, .i1⟩
  | 74 => ⟨S_, .i32⟩
  | 75 => ⟨S256x256, .i32⟩
  | 76 => ⟨S256x256, .i32⟩
  | 77 => ⟨S256x256, .i32⟩
  | 78 => ⟨S_, .i32⟩
  | 79 => ⟨S256x256, .i32⟩
  | 80 => ⟨S256x256, .i1⟩
  | 81 => ⟨S_, .i32⟩
  | 82 => ⟨S256x256, .i32⟩
  | 83 => ⟨S256x256, .i32⟩
  | 84 => ⟨S256x256, .i32⟩
  | 85 => ⟨S256x256x1, .i32⟩
  | 86 => ⟨S256x256x1, .i32⟩
  | 87 => ⟨S256x256x2, .i32⟩
  | 88 => ⟨S256x65x128, .f32⟩
  | 89 => ⟨S256x64x128, .f32⟩
  | 90 => ⟨S256x8192, .f32⟩
  | 91 => ⟨S256, .i1⟩
  | 92 => ⟨S256, .i1⟩
  | 93 => ⟨S256, .f32⟩
  | 94 => ⟨S256x1, .f32⟩
  | 95 => ⟨S8192x128, .f32⟩
  | 96 => ⟨S256x128, .f32⟩
  | 97 => ⟨S1x128, .f32⟩
  | 98 => ⟨S256x128, .f32⟩
  | 99 => ⟨S256x128, .f32⟩
  | 100 => ⟨S256x128, .f32⟩
  | 101 => ⟨S256x128, .f32⟩
  | 102 => ⟨S256x192, .f32⟩
  | 103 => ⟨S192x512, .f32⟩
  | 104 => ⟨S256x512, .f32⟩
  | 105 => ⟨S1x512, .f32⟩
  | 106 => ⟨S256x512, .f32⟩
  | 107 => ⟨S256x512, .f32⟩
  | 108 => ⟨S128x512, .f32⟩
  | 109 => ⟨S256x512, .f32⟩
  | 110 => ⟨S256x512, .f32⟩
  | 111 => ⟨S1x512, .f32⟩
  | 112 => ⟨S256x512, .f32⟩
  | 113 => ⟨S256x512, .f32⟩
  | 114 => ⟨S256x128, .f32⟩
  | 115 => ⟨S256x128, .f32⟩
  | 116 => ⟨S256x128, .f32⟩
  | 117 => ⟨S256x128, .f32⟩
  | 118 => ⟨S256x128, .f32⟩
  | 119 => ⟨S256x128, .f32⟩
  | 120 => ⟨S_, .f32⟩
  | 121 => ⟨S256x128, .f32⟩
  | 122 => ⟨S256x128, .f32⟩
  | 123 => ⟨S_, .f32⟩
  | 124 => ⟨S256x128, .f32⟩
  | 125 => ⟨S256x128, .f32⟩
  | 126 => ⟨S256x128, .f32⟩
  | 127 => ⟨S256x128, .f32⟩
  | _ => ⟨S8x256x2, .f32⟩

abbrev hbmTy0_16 (i : Nat) : BufTy := match i % 128 with
  | 0 => ⟨S_, .f32⟩
  | 1 => ⟨S256x128, .f32⟩
  | 2 => ⟨S256x128, .f32⟩
  | 3 => ⟨S_, .f32⟩
  | 4 => ⟨S256x128, .f32⟩
  | 5 => ⟨S256x128, .f32⟩
  | 6 => ⟨S256x128, .f32⟩
  | 7 => ⟨S256x128, .f32⟩
  | 8 => ⟨S256x128, .f32⟩
  | 9 => ⟨S_, .f32⟩
  | 10 => ⟨S256x128, .f32⟩
  | 11 => ⟨S256x128, .f32⟩
  | 12 => ⟨S_, .f32⟩
  | 13 => ⟨S256x128, .f32⟩
  | 14 => ⟨S256x128, .f32⟩
  | 15 => ⟨S256x128, .f32⟩
  | 16 => ⟨S256x128, .f32⟩
  | 17 => ⟨S256x128, .f32⟩
  | 18 => ⟨S256x128, .f32⟩
  | 19 => ⟨S256x128, .f32⟩
  | 20 => ⟨S128x5, .f32⟩
  | 21 => ⟨S256x5, .f32⟩
  | 22 => ⟨S1x5, .f32⟩
  | 23 => ⟨S256x5, .f32⟩
  | 24 => ⟨S256x5, .f32⟩
  | 25 => ⟨S256x2, .f32⟩
  | 26 => ⟨S256x2, .f32⟩
  | 27 => ⟨S256x2, .f32⟩
  | 28 => ⟨S_, .f32⟩
  | 29 => ⟨S256x2, .f32⟩
  | 30 => ⟨S256x2, .f32⟩
  | 31 => ⟨S256x1, .f32⟩
  | 32 => ⟨S256, .f32⟩
  | 33 => ⟨S256, .f32⟩
  | 34 => ⟨S256x2, .f32⟩
  | 35 => ⟨S256x2, .f32⟩
  | 36 => ⟨S256x2, .f32⟩
  | 37 => ⟨S2x64, .f32⟩
  | 38 => ⟨S256x64, .f32⟩
  | 39 => ⟨S1x64, .f32⟩
  | 40 => ⟨S256x64, .f32⟩
  | 41 => ⟨S256x64, .f32⟩
  | 42 => ⟨S_, .f32⟩
  | 43 => ⟨S256x64, .f32⟩
  | 44 => ⟨S256x64, .f32⟩
  | 45 => ⟨S1x256x2, .f32⟩
  | 46 => ⟨S256x1x2, .f32⟩
  | 47 => ⟨S256x256x2, .f32⟩
  | 48 => ⟨S256x256x2, .f32⟩
  | 49 => ⟨S256x256x2, .f32⟩
  | 50 => ⟨S256x256x1, .f32⟩
  | 51 => ⟨S256x256, .f32⟩
  | 52 => ⟨S256x256x1, .f32⟩
  | 53 => ⟨S256x256, .f32⟩
  | 54 => ⟨S_, .f32⟩
  | 55 => ⟨S256x256, .f32⟩
  | 56 => ⟨S256x256, .f32⟩
  | 57 => ⟨S_, .f32⟩
  | 58 => ⟨S256x256, .f32⟩
  | 59 => ⟨S256x256, .f32⟩
  | 60 => ⟨S256x256, .f32⟩
  | 61 => ⟨S256x256, .i32⟩
  | 62 => ⟨S_, .i32⟩
  | 63 => ⟨S_, .i32⟩
  | 64 => ⟨S_, .i32⟩
  | 65 => ⟨S256x256, .i32⟩
  | 66 => ⟨S256x256, .i32⟩
  | 67 => ⟨S_, .i32⟩
  | 68 => ⟨S256x256, .i32⟩
  | 69 => ⟨S256x256, .i32⟩
  | 70 => ⟨S_, .f32⟩
  | 71 => ⟨S256x256, .f32⟩
  | 72 => ⟨S256x256, .f32⟩
  | 73 => ⟨S_, .f32⟩
  | 74 => ⟨S256x256, .f32⟩
  | 75 => ⟨S256x256, .f32⟩
  | 76 => ⟨S256x256, .f32⟩
  | 77 => ⟨S256x256, .i32⟩
  | 78 => ⟨S_, .i32⟩
  | 79 => ⟨S_, .i32⟩
  | 80 => ⟨S_, .i32⟩
  | 81 => ⟨S256x256, .i32⟩
  | 82 => ⟨S256x256, .i32⟩
  | 83 => ⟨S_, .i32⟩
  | 84 => ⟨S256x256, .i32⟩
  | 85 => ⟨S256x256, .i32⟩
  | 86 => ⟨S_, .i32⟩
  | 87 => ⟨S256x256, .i32⟩
  | 88 => ⟨S256x256, .i32⟩
  | 89 => ⟨S256x256, .i32⟩
  | 90 => ⟨S256x256, .i32⟩
  | 91 => ⟨S256x256, .i32⟩
  | 92 => ⟨S_, .i32⟩
  | 93 => ⟨S256x256, .i32⟩
  | 94 => ⟨S256x256, .i32⟩
  | 95 => ⟨S256x256, .i1⟩
  | 96 => ⟨S256x2, .i1⟩
  | 97 => ⟨S_, .i1⟩
  | 98 => ⟨S256, .i1⟩
  | 99 => ⟨S256x256, .i1⟩
  | 100 => ⟨S1x256, .i1⟩
  | 101 => ⟨S256x256, .i1⟩
  | 102 => ⟨S256x256, .i1⟩
  | 103 => ⟨S256x1, .i1⟩
  | 104 => ⟨S256x256, .i1⟩
  | 105 => ⟨S256x256, .i1⟩
  | 106 => ⟨S256x256, .f32⟩
  | 107 => ⟨S_, .f32⟩
  | 108 => ⟨S256x256, .f32⟩
  | 109 => ⟨S256x256, .i1⟩
  | 110 => ⟨S256x256, .i1⟩
  | 111 => ⟨S256x256, .f32⟩
  | 112 => ⟨S_, .f32⟩
  | 113 => ⟨S256x256, .f32⟩
  | 114 => ⟨S256x256, .i1⟩
  | 115 => ⟨S256x256, .i1⟩
  | 116 => ⟨S256x256, .i1⟩
  | 117 => ⟨S256x256, .i1⟩
  | 118 => ⟨S256x256, .i1⟩
  | 119 => ⟨S256x256, .i1⟩
  | 120 => ⟨S256x256, .i1⟩
  | 121 => ⟨S256x256, .i1⟩
  | 122 => ⟨S256, .i1⟩
  | 123 => ⟨S256x1, .i1⟩
  | 124 => ⟨S256x256, .i1⟩
  | 125 => ⟨S256x256, .i1⟩
  | 126 => ⟨S_, .i32⟩
  | 127 => ⟨S_, .i32⟩
  | _ => ⟨S8x256x2, .f32⟩

abbrev hbmTy0_17 (i : Nat) : BufTy := match i % 128 with
  | 0 => ⟨S256x256, .i32⟩
  | 1 => ⟨S256x256, .i32⟩
  | 2 => ⟨S1x256x128, .f32⟩
  | 3 => ⟨S256x256x128, .f32⟩
  | 4 => ⟨S256x256x1, .i1⟩
  | 5 => ⟨S256x256x1, .f32⟩
  | 6 => ⟨S256x256x128, .f32⟩
  | 7 => ⟨S256x256x128, .f32⟩
  | 8 => ⟨S256, .i32⟩
  | 9 => ⟨S256x1, .i32⟩
  | 10 => ⟨S256x256, .i32⟩
  | 11 => ⟨S_, .f32⟩
  | 12 => ⟨S256x65x128, .f32⟩
  | 13 => ⟨S_, .i32⟩
  | 14 => ⟨S256x256, .i32⟩
  | 15 => ⟨S256x256, .i1⟩
  | 16 => ⟨S_, .i32⟩
  | 17 => ⟨S256x256, .i32⟩
  | 18 => ⟨S256x256, .i32⟩
  | 19 => ⟨S256x256, .i32⟩
  | 20 => ⟨S_, .i32⟩
  | 21 => ⟨S256x256, .i32⟩
  | 22 => ⟨S256x256, .i1⟩
  | 23 => ⟨S_, .i32⟩
  | 24 => ⟨S256x256, .i32⟩
  | 25 => ⟨S256x256, .i32⟩
  | 26 => ⟨S256x256, .i32⟩
  | 27 => ⟨S256x256x1, .i32⟩
  | 28 => ⟨S256x256x1, .i32⟩
  | 29 => ⟨S256x256x2, .i32⟩
  | 30 => ⟨S256x65x128, .f32⟩
  | 31 => ⟨S256x64x128, .f32⟩
  | 32 => ⟨S256x8192, .f32⟩
  | 33 => ⟨S256, .i1⟩
  | 34 => ⟨S256, .i1⟩
  | 35 => ⟨S256, .f32⟩
  | 36 => ⟨S256x1, .f32⟩
  | 37 => ⟨S8192x128, .f32⟩
  | 38 => ⟨S256x128, .f32⟩
  | 39 => ⟨S1x128, .f32⟩
  | 40 => ⟨S256x128, .f32⟩
  | 41 => ⟨S256x128, .f32⟩
  | 42 => ⟨S256x128, .f32⟩
  | 43 => ⟨S256x128, .f32⟩
  | 44 => ⟨S256x192, .f32⟩
  | 45 => ⟨S192x512, .f32⟩
  | 46 => ⟨S256x512, .f32⟩
  | 47 => ⟨S1x512, .f32⟩
  | 48 => ⟨S256x512, .f32⟩
  | 49 => ⟨S256x512, .f32⟩
  | 50 => ⟨S128x512, .f32⟩
  | 51 => ⟨S256x512, .f32⟩
  | 52 => ⟨S256x512, .f32⟩
  | 53 => ⟨S1x512, .f32⟩
  | 54 => ⟨S256x512, .f32⟩
  | 55 => ⟨S256x512, .f32⟩
  | 56 => ⟨S256x128, .f32⟩
  | 57 => ⟨S256x128, .f32⟩
  | 58 => ⟨S256x128, .f32⟩
  | 59 => ⟨S256x128, .f32⟩
  | 60 => ⟨S256x128, .f32⟩
  | 61 => ⟨S256x128, .f32⟩
  | 62 => ⟨S_, .f32⟩
  | 63 => ⟨S256x128, .f32⟩
  | 64 => ⟨S256x128, .f32⟩
  | 65 => ⟨S_, .f32⟩
  | 66 => ⟨S256x128, .f32⟩
  | 67 => ⟨S256x128, .f32⟩
  | 68 => ⟨S256x128, .f32⟩
  | 69 => ⟨S256x128, .f32⟩
  | 70 => ⟨S_, .f32⟩
  | 71 => ⟨S256x128, .f32⟩
  | 72 => ⟨S256x128, .f32⟩
  | 73 => ⟨S_, .f32⟩
  | 74 => ⟨S256x128, .f32⟩
  | 75 => ⟨S256x128, .f32⟩
  | 76 => ⟨S256x128, .f32⟩
  | 77 => ⟨S256x128, .f32⟩
  | 78 => ⟨S256x128, .f32⟩
  | 79 => ⟨S_, .f32⟩
  | 80 => ⟨S256x128, .f32⟩
  | 81 => ⟨S256x128, .f32⟩
  | 82 => ⟨S_, .f32⟩
  | 83 => ⟨S256x128, .f32⟩
  | 84 => ⟨S256x128, .f32⟩
  | 85 => ⟨S256x128, .f32⟩
  | 86 => ⟨S256x128, .f32⟩
  | 87 => ⟨S256x128, .f32⟩
  | 88 => ⟨S256x128, .f32⟩
  | 89 => ⟨S256x128, .f32⟩
  | 90 => ⟨S128x5, .f32⟩
  | 91 => ⟨S256x5, .f32⟩
  | 92 => ⟨S1x5, .f32⟩
  | 93 => ⟨S256x5, .f32⟩
  | 94 => ⟨S256x5, .f32⟩
  | 95 => ⟨S256x2, .f32⟩
  | 96 => ⟨S256x2, .f32⟩
  | 97 => ⟨S256x2, .f32⟩
  | 98 => ⟨S_, .f32⟩
  | 99 => ⟨S256x2, .f32⟩
  | 100 => ⟨S256x2, .f32⟩
  | 101 => ⟨S256x1, .f32⟩
  | 102 => ⟨S256, .f32⟩
  | 103 => ⟨S256, .f32⟩
  | 104 => ⟨S256x2, .f32⟩
  | 105 => ⟨S256x2, .f32⟩
  | 106 => ⟨S256x2, .f32⟩
  | 107 => ⟨S2x64, .f32⟩
  | 108 => ⟨S256x64, .f32⟩
  | 109 => ⟨S1x64, .f32⟩
  | 110 => ⟨S256x64, .f32⟩
  | 111 => ⟨S256x64, .f32⟩
  | 112 => ⟨S_, .f32⟩
  | 113 => ⟨S256x64, .f32⟩
  | 114 => ⟨S256x64, .f32⟩
  | 115 => ⟨S1x256x2, .f32⟩
  | 116 => ⟨S256x1x2, .f32⟩
  | 117 => ⟨S256x256x2, .f32⟩
  | 118 => ⟨S256x256x2, .f32⟩
  | 119 => ⟨S256x256x2, .f32⟩
  | 120 => ⟨S256x256x1, .f32⟩
  | 121 => ⟨S256x256, .f32⟩
  | 122 => ⟨S256x256x1, .f32⟩
  | 123 => ⟨S256x256, .f32⟩
  | 124 => ⟨S_, .f32⟩
  | 125 => ⟨S256x256, .f32⟩
  | 126 => ⟨S256x256, .f32⟩
  | 127 => ⟨S_, .f32⟩
  | _ => ⟨S8x256x2, .f32⟩

abbrev hbmTy0_18 (i : Nat) : BufTy := match i % 128 with
  | 0 => ⟨S256x256, .f32⟩
  | 1 => ⟨S256x256, .f32⟩
  | 2 => ⟨S256x256, .f32⟩
  | 3 => ⟨S256x256, .i32⟩
  | 4 => ⟨S_, .i32⟩
  | 5 => ⟨S_, .i32⟩
  | 6 => ⟨S_, .i32⟩
  | 7 => ⟨S256x256, .i32⟩
  | 8 => ⟨S256x256, .i32⟩
  | 9 => ⟨S_, .i32⟩
  | 10 => ⟨S256x256, .i32⟩
  | 11 => ⟨S256x256, .i32⟩
  | 12 => ⟨S_, .f32⟩
  | 13 => ⟨S256x256, .f32⟩
  | 14 => ⟨S256x256, .f32⟩
  | 15 => ⟨S_, .f32⟩
  | 16 => ⟨S256x256, .f32⟩
  | 17 => ⟨S256x256, .f32⟩
  | 18 => ⟨S256x256, .f32⟩
  | 19 => ⟨S256x256, .i32⟩
  | 20 => ⟨S_, .i32⟩
  | 21 => ⟨S_, .i32⟩
  | 22 => ⟨S_, .i32⟩
  | 23 => ⟨S256x256, .i32⟩
  | 24 => ⟨S256x256, .i32⟩
  | 25 => ⟨S_, .i32⟩
  | 26 => ⟨S256x256, .i32⟩
  | 27 => ⟨S256x256, .i32⟩
  | 28 => ⟨S_, .i32⟩
  | 29 => ⟨S256x256, .i32⟩
  | 30 => ⟨S256x256, .i32⟩
  | 31 => ⟨S256x256, .i32⟩
  | 32 => ⟨S256x256, .i32⟩
  | 33 => ⟨S256x256, .i32⟩
  | 34 => ⟨S_, .i32⟩
  | 35 => ⟨S256x256, .i32⟩
  | 36 => ⟨S256x256, .i32⟩
  | 37 => ⟨S256x256, .i1⟩
  | 38 => ⟨S256x2, .i1⟩
  | 39 => ⟨S_, .i1⟩
  | 40 => ⟨S256, .i1⟩
  | 41 => ⟨S256x256, .i1⟩
  | 42 => ⟨S1x256, .i1⟩
  | 43 => ⟨S256x256, .i1⟩
  | 44 => ⟨S256x256, .i1⟩
  | 45 => ⟨S256x1, .i1⟩
  | 46 => ⟨S256x256, .i1⟩
  | 47 => ⟨S256x256, .i1⟩
  | 48 => ⟨S256x256, .f32⟩
  | 49 => ⟨S_, .f32⟩
  | 50 => ⟨S256x256, .f32⟩
  | 51 => ⟨S256x256, .i1⟩
  | 52 => ⟨S256x256, .i1⟩
  | 53 => ⟨S256x256, .f32⟩
  | 54 => ⟨S_, .f32⟩
  | 55 => ⟨S256x256, .f32⟩
  | 56 => ⟨S256x256, .i1⟩
  | 57 => ⟨S256x256, .i1⟩
  | 58 => ⟨S256x256, .i1⟩
  | 59 => ⟨S256x256, .i1⟩
  | 60 => ⟨S256x256, .i1⟩
  | 61 => ⟨S256x256, .i1⟩
  | 62 => ⟨S256x256, .i1⟩
  | 63 => ⟨S256x256, .i1⟩
  | 64 => ⟨S256, .i1⟩
  | 65 => ⟨S256x1, .i1⟩
  | 66 => ⟨S256x256, .i1⟩
  | 67 => ⟨S256x256, .i1⟩
  | 68 => ⟨S_, .i32⟩
  | 69 => ⟨S_, .i32⟩
  | 70 => ⟨S256x256, .i32⟩
  | 71 => ⟨S256x256, .i32⟩
  | 72 => ⟨S1x256x128, .f32⟩
  | 73 => ⟨S256x256x128, .f32⟩
  | 74 => ⟨S256x256x1, .i1⟩
  | 75 => ⟨S256x256x1, .f32⟩
  | 76 => ⟨S256x256x128, .f32⟩
  | 77 => ⟨S256x256x128, .f32⟩
  | 78 => ⟨S256, .i32⟩
  | 79 => ⟨S256x1, .i32⟩
  | 80 => ⟨S256x256, .i32⟩
  | 81 => ⟨S_, .f32⟩
  | 82 => ⟨S256x65x128, .f32⟩
  | 83 => ⟨S_, .i32⟩
  | 84 => ⟨S256x256, .i32⟩
  | 85 => ⟨S256x256, .i1⟩
  | 86 => ⟨S_, .i32⟩
  | 87 => ⟨S256x256, .i32⟩
  | 88 => ⟨S256x256, .i32⟩
  | 89 => ⟨S256x256, .i32⟩
  | 90 => ⟨S_, .i32⟩
  | 91 => ⟨S256x256, .i32⟩
  | 92 => ⟨S256x256, .i1⟩
  | 93 => ⟨S_, .i32⟩
  | 94 => ⟨S256x256, .i32⟩
  | 95 => ⟨S256x256, .i32⟩
  | 96 => ⟨S256x256, .i32⟩
  | 97 => ⟨S256x256x1, .i32⟩
  | 98 => ⟨S256x256x1, .i32⟩
  | 99 => ⟨S256x256x2, .i32⟩
  | 100 => ⟨S256x65x128, .f32⟩
  | 101 => ⟨S256x64x128, .f32⟩
  | 102 => ⟨S256x8192, .f32⟩
  | 103 => ⟨S256, .i1⟩
  | 104 => ⟨S256, .i1⟩
  | 105 => ⟨S256, .f32⟩
  | 106 => ⟨S256x1, .f32⟩
  | 107 => ⟨S8192x128, .f32⟩
  | 108 => ⟨S256x128, .f32⟩
  | 109 => ⟨S1x128, .f32⟩
  | 110 => ⟨S256x128, .f32⟩
  | 111 => ⟨S256x128, .f32⟩
  | 112 => ⟨S256x128, .f32⟩
  | 113 => ⟨S256x128, .f32⟩
  | 114 => ⟨S256x192, .f32⟩
  | 115 => ⟨S192x512, .f32⟩
  | 116 => ⟨S256x512, .f32⟩
  | 117 => ⟨S1x512, .f32⟩
  | 118 => ⟨S256x512, .f32⟩
  | 119 => ⟨S256x512, .f32⟩
  | 120 => ⟨S128x512, .f32⟩
  | 121 => ⟨S256x512, .f32⟩
  | 122 => ⟨S256x512, .f32⟩
  | 123 => ⟨S1x512, .f32⟩
  | 124 => ⟨S256x512, .f32⟩
  | 125 => ⟨S256x512, .f32⟩
  | 126 => ⟨S256x128, .f32⟩
  | 127 => ⟨S256x128, .f32⟩
  | _ => ⟨S8x256x2, .f32⟩

abbrev hbmTy0_19 (i : Nat) : BufTy := match i % 128 with
  | 0 => ⟨S256x128, .f32⟩
  | 1 => ⟨S256x128, .f32⟩
  | 2 => ⟨S256x128, .f32⟩
  | 3 => ⟨S256x128, .f32⟩
  | 4 => ⟨S_, .f32⟩
  | 5 => ⟨S256x128, .f32⟩
  | 6 => ⟨S256x128, .f32⟩
  | 7 => ⟨S_, .f32⟩
  | 8 => ⟨S256x128, .f32⟩
  | 9 => ⟨S256x128, .f32⟩
  | 10 => ⟨S256x128, .f32⟩
  | 11 => ⟨S256x128, .f32⟩
  | 12 => ⟨S_, .f32⟩
  | 13 => ⟨S256x128, .f32⟩
  | 14 => ⟨S256x128, .f32⟩
  | 15 => ⟨S_, .f32⟩
  | 16 => ⟨S256x128, .f32⟩
  | 17 => ⟨S256x128, .f32⟩
  | 18 => ⟨S256x128, .f32⟩
  | 19 => ⟨S256x128, .f32⟩
  | 20 => ⟨S256x128, .f32⟩
  | 21 => ⟨S_, .f32⟩
  | 22 => ⟨S256x128, .f32⟩
  | 23 => ⟨S256x128, .f32⟩
  | 24 => ⟨S_, .f32⟩
  | 25 => ⟨S256x128, .f32⟩
  | 26 => ⟨S256x128, .f32⟩
  | 27 => ⟨S256x128, .f32⟩
  | 28 => ⟨S256x128, .f32⟩
  | 29 => ⟨S256x128, .f32⟩
  | 30 => ⟨S256x128, .f32⟩
  | 31 => ⟨S256x128, .f32⟩
  | 32 => ⟨S128x5, .f32⟩
  | 33 => ⟨S256x5, .f32⟩
  | 34 => ⟨S1x5, .f32⟩
  | 35 => ⟨S256x5, .f32⟩
  | 36 => ⟨S256x5, .f32⟩
  | 37 => ⟨S256x2, .f32⟩
  | 38 => ⟨S256x2, .f32⟩
  | 39 => ⟨S256x2, .f32⟩
  | 40 => ⟨S_, .f32⟩
  | 41 => ⟨S256x2, .f32⟩
  | 42 => ⟨S256x2, .f32⟩
  | 43 => ⟨S256x1, .f32⟩
  | 44 => ⟨S256, .f32⟩
  | 45 => ⟨S256, .f32⟩
  | 46 => ⟨S256x2, .f32⟩
  | 47 => ⟨S256x2, .f32⟩
  | 48 => ⟨S256x2, .f32⟩
  | 49 => ⟨S2x64, .f32⟩
  | 50 => ⟨S256x64, .f32⟩
  | 51 => ⟨S1x64, .f32⟩
  | 52 => ⟨S256x64, .f32⟩
  | 53 => ⟨S256x64, .f32⟩
  | 54 => ⟨S_, .f32⟩
  | 55 => ⟨S256x64, .f32⟩
  | 56 => ⟨S256x64, .f32⟩
  | 57 => ⟨S1x256x2, .f32⟩
  | 58 => ⟨S256x1x2, .f32⟩
  | 59 => ⟨S256x256x2, .f32⟩
  | 60 => ⟨S256x256x2, .f32⟩
  | 61 => ⟨S256x256x2, .f32⟩
  | 62 => ⟨S256x256x1, .f32⟩
  | 63 => ⟨S256x256, .f32⟩
  | 64 => ⟨S256x256x1, .f32⟩
  | 65 => ⟨S256x256, .f32⟩
  | 66 => ⟨S_, .f32⟩
  | 67 => ⟨S256x256, .f32⟩
  | 68 => ⟨S256x256, .f32⟩
  | 69 => ⟨S_, .f32⟩
  | 70 => ⟨S256x256, .f32⟩
  | 71 => ⟨S256x256, .f32⟩
  | 72 => ⟨S256x256, .f32⟩
  | 73 => ⟨S256x256, .i32⟩
  | 74 => ⟨S_, .i32⟩
  | 75 => ⟨S_, .i32⟩
  | 76 => ⟨S_, .i32⟩
  | 77 => ⟨S256x256, .i32⟩
  | 78 => ⟨S256x256, .i32⟩
  | 79 => ⟨S_, .i32⟩
  | 80 => ⟨S256x256, .i32⟩
  | 81 => ⟨S256x256, .i32⟩
  | 82 => ⟨S_, .f32⟩
  | 83 => ⟨S256x256, .f32⟩
  | 84 => ⟨S256x256, .f32⟩
  | 85 => ⟨S_, .f32⟩
  | 86 => ⟨S256x256, .f32⟩
  | 87 => ⟨S256x256, .f32⟩
  | 88 => ⟨S256x256, .f32⟩
  | 89 => ⟨S256x256, .i32⟩
  | 90 => ⟨S_, .i32⟩
  | 91 => ⟨S_, .i32⟩
  | 92 => ⟨S_, .i32⟩
  | 93 => ⟨S256x256, .i32⟩
  | 94 => ⟨S256x256, .i32⟩
  | 95 => ⟨S_, .i32⟩
  | 96 => ⟨S256x256, .i32⟩
  | 97 => ⟨S256x256, .i32⟩
  | 98 => ⟨S_, .i32⟩
  | 99 => ⟨S256x256, .i32⟩
  | 100 => ⟨S256x256, .i32⟩
  | 101 => ⟨S256x256, .i32⟩
  | 102 => ⟨S256x256, .i32⟩
  | 103 => ⟨S256x256, .i32⟩
  | 104 => ⟨S_, .i32⟩
  | 105 => ⟨S256x256, .i32⟩
  | 106 => ⟨S256x256, .i32⟩
  | 107 => ⟨S256x256, .i1⟩
  | 108 => ⟨S256x2, .i1⟩
  | 109 => ⟨S_, .i1⟩
  | 110 => ⟨S256, .i1⟩
  | 111 => ⟨S256x256, .i1⟩
  | 112 => ⟨S1x256, .i1⟩
  | 113 => ⟨S256x256, .i1⟩
  | 114 => ⟨S256x256, .i1⟩
  | 115 => ⟨S256x1, .i1⟩
  | 116 => ⟨S256x256, .i1⟩
  | 117 => ⟨S256x256, .i1⟩
  | 118 => ⟨S256x256, .f32⟩
  | 119 => ⟨S_, .f32⟩
  | 120 => ⟨S256x256, .f32⟩
  | 121 => ⟨S256x256, .i1⟩
  | 122 => ⟨S256x256, .i1⟩
  | 123 => ⟨S256x256, .f32⟩
  | 124 => ⟨S_, .f32⟩
  | 125 => ⟨S256x256, .f32⟩
  | 126 => ⟨S256x256, .i1⟩
  | 127 => ⟨S256x256, .i1⟩
  | _ => ⟨S8x256x2, .f32⟩

abbrev hbmTy0_20 (i : Nat) : BufTy := match i % 128 with
  | 0 => ⟨S256x256, .i1⟩
  | 1 => ⟨S256x256, .i1⟩
  | 2 => ⟨S256x256, .i1⟩
  | 3 => ⟨S256x256, .i1⟩
  | 4 => ⟨S256x256, .i1⟩
  | 5 => ⟨S256x256, .i1⟩
  | 6 => ⟨S256, .i1⟩
  | 7 => ⟨S256x1, .i1⟩
  | 8 => ⟨S256x256, .i1⟩
  | 9 => ⟨S256x256, .i1⟩
  | 10 => ⟨S_, .i32⟩
  | 11 => ⟨S_, .i32⟩
  | 12 => ⟨S256x256, .i32⟩
  | 13 => ⟨S256x256, .i32⟩
  | 14 => ⟨S1x256x128, .f32⟩
  | 15 => ⟨S256x256x128, .f32⟩
  | 16 => ⟨S256x256x1, .i1⟩
  | 17 => ⟨S256x256x1, .f32⟩
  | 18 => ⟨S256x256x128, .f32⟩
  | 19 => ⟨S256x256x128, .f32⟩
  | 20 => ⟨S256, .i32⟩
  | 21 => ⟨S256x1, .i32⟩
  | 22 => ⟨S256x256, .i32⟩
  | 23 => ⟨S_, .f32⟩
  | 24 => ⟨S256x65x128, .f32⟩
  | 25 => ⟨S_, .i32⟩
  | 26 => ⟨S256x256, .i32⟩
  | 27 => ⟨S256x256, .i1⟩
  | 28 => ⟨S_, .i32⟩
  | 29 => ⟨S256x256, .i32⟩
  | 30 => ⟨S256x256, .i32⟩
  | 31 => ⟨S256x256, .i32⟩
  | 32 => ⟨S_, .i32⟩
  | 33 => ⟨S256x256, .i32⟩
  | 34 => ⟨S256x256, .i1⟩
  | 35 => ⟨S_, .i32⟩
  | 36 => ⟨S256x256, .i32⟩
  | 37 => ⟨S256x256, .i32⟩
  | 38 => ⟨S256x256, .i32⟩
  | 39 => ⟨S256x256x1, .i32⟩
  | 40 => ⟨S256x256x1, .i32⟩
  | 41 => ⟨S256x256x2, .i32⟩
  | 42 => ⟨S256x65x128, .f32⟩
  | 43 => ⟨S256x64x128, .f32⟩
  | 44 => ⟨S256x8192, .f32⟩
  | 45 => ⟨S256, .i1⟩
  | 46 => ⟨S256, .i1⟩
  | 47 => ⟨S256, .f32⟩
  | 48 => ⟨S256x1, .f32⟩
  | 49 => ⟨S8192x128, .f32⟩
  | 50 => ⟨S256x128, .f32⟩
  | 51 => ⟨S1x128, .f32⟩
  | 52 => ⟨S256x128, .f32⟩
  | 53 => ⟨S256x128, .f32⟩
  | 54 => ⟨S256x128, .f32⟩
  | 55 => ⟨S256x128, .f32⟩
  | 56 => ⟨S256x192, .f32⟩
  | 57 => ⟨S192x512, .f32⟩
  | 58 => ⟨S256x512, .f32⟩
  | 59 => ⟨S1x512, .f32⟩
  | 60 => ⟨S256x512, .f32⟩
  | 61 => ⟨S256x512, .f32⟩
  | 62 => ⟨S128x512, .f32⟩
  | 63 => ⟨S256x512, .f32⟩
  | 64 => ⟨S256x512, .f32⟩
  | 65 => ⟨S1x512, .f32⟩
  | 66 => ⟨S256x512, .f32⟩
  | 67 => ⟨S256x512, .f32⟩
  | 68 => ⟨S256x128, .f32⟩
  | 69 => ⟨S256x128, .f32⟩
  | 70 => ⟨S256x128, .f32⟩
  | 71 => ⟨S256x128, .f32⟩
  | 72 => ⟨S256x128, .f32⟩
  | 73 => ⟨S256x128, .f32⟩
  | 74 => ⟨S_, .f32⟩
  | 75 => ⟨S256x128, .f32⟩
  | 76 => ⟨S256x128, .f32⟩
  | 77 => ⟨S_, .f32⟩
  | 78 => ⟨S256x128, .f32⟩
  | 79 => ⟨S256x128, .f32⟩
  | 80 => ⟨S256x128, .f32⟩
  | 81 => ⟨S256x128, .f32⟩
  | 82 => ⟨S_, .f32⟩
  | 83 => ⟨S256x128, .f32⟩
  | 84 => ⟨S256x128, .f32⟩
  | 85 => ⟨S_, .f32⟩
  | 86 => ⟨S256x128, .f32⟩
  | 87 => ⟨S256x128, .f32⟩
  | 88 => ⟨S256x128, .f32⟩
  | 89 => ⟨S256x128, .f32⟩
  | 90 => ⟨S256x128, .f32⟩
  | 91 => ⟨S_, .f32⟩
  | 92 => ⟨S256x128, .f32⟩
  | 93 => ⟨S256x128, .f32⟩
  | 94 => ⟨S_, .f32⟩
  | 95 => ⟨S256x128, .f32⟩
  | 96 => ⟨S256x128, .f32⟩
  | 97 => ⟨S256x128, .f32⟩
  | 98 => ⟨S256x128, .f32⟩
  | 99 => ⟨S256x128, .f32⟩
  | 100 => ⟨S256x128, .f32⟩
  | 101 => ⟨S256x128, .f32⟩
  | 102 => ⟨S128x5, .f32⟩
  | 103 => ⟨S256x5, .f32⟩
  | 104 => ⟨S1x5, .f32⟩
  | 105 => ⟨S256x5, .f32⟩
  | 106 => ⟨S256x5, .f32⟩
  | 107 => ⟨S256x2, .f32⟩
  | 108 => ⟨S256x2, .f32⟩
  | 109 => ⟨S256x2, .f32⟩
  | 110 => ⟨S_, .f32⟩
  | 111 => ⟨S256x2, .f32⟩
  | 112 => ⟨S256x2, .f32⟩
  | 113 => ⟨S256x1, .f32⟩
  | 114 => ⟨S256, .f32⟩
  | 115 => ⟨S256, .f32⟩
  | 116 => ⟨S256x2, .f32⟩
  | 117 => ⟨S256x2, .f32⟩
  | 118 => ⟨S256x2, .f32⟩
  | 119 => ⟨S2x64, .f32⟩
  | 120 => ⟨S256x64, .f32⟩
  | 121 => ⟨S1x64, .f32⟩
  | 122 => ⟨S256x64, .f32⟩
  | 123 => ⟨S256x64, .f32⟩
  | 124 => ⟨S_, .f32⟩
  | 125 => ⟨S256x64, .f32⟩
  | 126 => ⟨S256x64, .f32⟩
  | 127 => ⟨S1x256x2, .f32⟩
  | _ => ⟨S8x256x2, .f32⟩

abbrev hbmTy0_21 (i : Nat) : BufTy := match i % 128 with
  | 0 => ⟨S256x1x2, .f32⟩
  | 1 => ⟨S256x256x2, .f32⟩
  | 2 => ⟨S256x256x2, .f32⟩
  | 3 => ⟨S256x256x2, .f32⟩
  | 4 => ⟨S256x256x1, .f32⟩
  | 5 => ⟨S256x256, .f32⟩
  | 6 => ⟨S256x256x1, .f32⟩
  | 7 => ⟨S256x256, .f32⟩
  | 8 => ⟨S_, .f32⟩
  | 9 => ⟨S256x256, .f32⟩
  | 10 => ⟨S256x256, .f32⟩
  | 11 => ⟨S_, .f32⟩
  | 12 => ⟨S256x256, .f32⟩
  | 13 => ⟨S256x256, .f32⟩
  | 14 => ⟨S256x256, .f32⟩
  | 15 => ⟨S256x256, .i32⟩
  | 16 => ⟨S_, .i32⟩
  | 17 => ⟨S_, .i32⟩
  | 18 => ⟨S_, .i32⟩
  | 19 => ⟨S256x256, .i32⟩
  | 20 => ⟨S256x256, .i32⟩
  | 21 => ⟨S_, .i32⟩
  | 22 => ⟨S256x256, .i32⟩
  | 23 => ⟨S256x256, .i32⟩
  | 24 => ⟨S_, .f32⟩
  | 25 => ⟨S256x256, .f32⟩
  | 26 => ⟨S256x256, .f32⟩
  | 27 => ⟨S_, .f32⟩
  | 28 => ⟨S256x256, .f32⟩
  | 29 => ⟨S256x256, .f32⟩
  | 30 => ⟨S256x256, .f32⟩
  | 31 => ⟨S256x256, .i32⟩
  | 32 => ⟨S_, .i32⟩
  | 33 => ⟨S_, .i32⟩
  | 34 => ⟨S_, .i32⟩
  | 35 => ⟨S256x256, .i32⟩
  | 36 => ⟨S256x256, .i32⟩
  | 37 => ⟨S_, .i32⟩
  | 38 => ⟨S256x256, .i32⟩
  | 39 => ⟨S256x256, .i32⟩
  | 40 => ⟨S_, .i32⟩
  | 41 => ⟨S256x256, .i32⟩
  | 42 => ⟨S256x256, .i32⟩
  | 43 => ⟨S256x256, .i32⟩
  | 44 => ⟨S256x256, .i32⟩
  | 45 => ⟨S256x256, .i32⟩
  | 46 => ⟨S_, .i32⟩
  | 47 => ⟨S256x256, .i32⟩
  | 48 => ⟨S256x256, .i32⟩
  | 49 => ⟨S256x256, .i1⟩
  | 50 => ⟨S256x2, .i1⟩
  | 51 => ⟨S_, .i1⟩
  | 52 => ⟨S256, .i1⟩
  | 53 => ⟨S256x256, .i1⟩
  | 54 => ⟨S1x256, .i1⟩
  | 55 => ⟨S256x256, .i1⟩
  | 56 => ⟨S256x256, .i1⟩
  | 57 => ⟨S256x1, .i1⟩
  | 58 => ⟨S256x256, .i1⟩
  | 59 => ⟨S256x256, .i1⟩
  | 60 => ⟨S256x256, .f32⟩
  | 61 => ⟨S_, .f32⟩
  | 62 => ⟨S256x256, .f32⟩
  | 63 => ⟨S256x256, .i1⟩
  | 64 => ⟨S256x256, .i1⟩
  | 65 => ⟨S256x256, .f32⟩
  | 66 => ⟨S_, .f32⟩
  | 67 => ⟨S256x256, .f32⟩
  | 68 => ⟨S256x256, .i1⟩
  | 69 => ⟨S256x256, .i1⟩
  | 70 => ⟨S256x256, .i1⟩
  | 71 => ⟨S256x256, .i1⟩
  | 72 => ⟨S256x256, .i1⟩
  | 73 => ⟨S256x256, .i1⟩
  | 74 => ⟨S256x256, .i1⟩
  | 75 => ⟨S256x256, .i1⟩
  | 76 => ⟨S256, .i1⟩
  | 77 => ⟨S256x1, .i1⟩
  | 78 => ⟨S256x256, .i1⟩
  | 79 => ⟨S256x256, .i1⟩
  | 80 => ⟨S_, .i32⟩
  | 81 => ⟨S_, .i32⟩
  | 82 => ⟨S256x256, .i32⟩
  | 83 => ⟨S256x256, .i32⟩
  | 84 => ⟨S1x256x128, .f32⟩
  | 85 => ⟨S256x256x128, .f32⟩
  | 86 => ⟨S256x256x1, .i1⟩
  | 87 => ⟨S256x256x1, .f32⟩
  | 88 => ⟨S256x256x128, .f32⟩
  | 89 => ⟨S256x256x128, .f32⟩
  | 90 => ⟨S256, .i32⟩
  | 91 => ⟨S256x1, .i32⟩
  | 92 => ⟨S256x256, .i32⟩
  | 93 => ⟨S_, .f32⟩
  | 94 => ⟨S256x65x128, .f32⟩
  | 95 => ⟨S_, .i32⟩
  | 96 => ⟨S256x256, .i32⟩
  | 97 => ⟨S256x256, .i1⟩
  | 98 => ⟨S_, .i32⟩
  | 99 => ⟨S256x256, .i32⟩
  | 100 => ⟨S256x256, .i32⟩
  | 101 => ⟨S256x256, .i32⟩
  | 102 => ⟨S_, .i32⟩
  | 103 => ⟨S256x256, .i32⟩
  | 104 => ⟨S256x256, .i1⟩
  | 105 => ⟨S_, .i32⟩
  | 106 => ⟨S256x256, .i32⟩
  | 107 => ⟨S256x256, .i32⟩
  | 108 => ⟨S256x256, .i32⟩
  | 109 => ⟨S256x256x1, .i32⟩
  | 110 => ⟨S256x256x1, .i32⟩
  | 111 => ⟨S256x256x2, .i32⟩
  | 112 => ⟨S256x65x128, .f32⟩
  | 113 => ⟨S256x64x128, .f32⟩
  | 114 => ⟨S256x8192, .f32⟩
  | 115 => ⟨S256, .i1⟩
  | 116 => ⟨S256, .i1⟩
  | 117 => ⟨S256, .f32⟩
  | 118 => ⟨S256x1, .f32⟩
  | 119 => ⟨S8192x128, .f32⟩
  | 120 => ⟨S256x128, .f32⟩
  | 121 => ⟨S1x128, .f32⟩
  | 122 => ⟨S256x128, .f32⟩
  | 123 => ⟨S256x128, .f32⟩
  | 124 => ⟨S256x128, .f32⟩
  | 125 => ⟨S256x128, .f32⟩
  | 126 => ⟨S256x192, .f32⟩
  | 127 => ⟨S192x512, .f32⟩
  | _ => ⟨S8x256x2, .f32⟩

abbrev hbmTy0_22 (i : Nat) : BufTy := match i % 128 with
  | 0 => ⟨S256x512, .f32⟩
  | 1 => ⟨S1x512, .f32⟩
  | 2 => ⟨S256x512, .f32⟩
  | 3 => ⟨S256x512, .f32⟩
  | 4 => ⟨S128x512, .f32⟩
  | 5 => ⟨S256x512, .f32⟩
  | 6 => ⟨S256x512, .f32⟩
  | 7 => ⟨S1x512, .f32⟩
  | 8 => ⟨S256x512, .f32⟩
  | 9 => ⟨S256x512, .f32⟩
  | 10 => ⟨S256x128, .f32⟩
  | 11 => ⟨S256x128, .f32⟩
  | 12 => ⟨S256x128, .f32⟩
  | 13 => ⟨S256x128, .f32⟩
  | 14 => ⟨S256x128, .f32⟩
  | 15 => ⟨S256x128, .f32⟩
  | 16 => ⟨S_, .f32⟩
  | 17 => ⟨S256x128, .f32⟩
  | 18 => ⟨S256x128, .f32⟩
  | 19 => ⟨S_, .f32⟩
  | 20 => ⟨S256x128, .f32⟩
  | 21 => ⟨S256x128, .f32⟩
  | 22 => ⟨S256x128, .f32⟩
  | 23 => ⟨S256x128, .f32⟩
  | 24 => ⟨S_, .f32⟩
  | 25 => ⟨S256x128, .f32⟩
  | 26 => ⟨S256x128, .f32⟩
  | 27 => ⟨S_, .f32⟩
  | 28 => ⟨S256x128, .f32⟩
  | 29 => ⟨S256x128, .f32⟩
  | 30 => ⟨S256x128, .f32⟩
  | 31 => ⟨S256x128, .f32⟩
  | 32 => ⟨S256x128, .f32⟩
  | 33 => ⟨S_, .f32⟩
  | 34 => ⟨S256x128, .f32⟩
  | 35 => ⟨S256x128, .f32⟩
  | 36 => ⟨S_, .f32⟩
  | 37 => ⟨S256x128, .f32⟩
  | 38 => ⟨S256x128, .f32⟩
  | 39 => ⟨S256x128, .f32⟩
  | 40 => ⟨S256x128, .f32⟩
  | 41 => ⟨S256x128, .f32⟩
  | 42 => ⟨S256x128, .f32⟩
  | 43 => ⟨S256x128, .f32⟩
  | 44 => ⟨S128x5, .f32⟩
  | 45 => ⟨S256x5, .f32⟩
  | 46 => ⟨S1x5, .f32⟩
  | 47 => ⟨S256x5, .f32⟩
  | 48 => ⟨S256x5, .f32⟩
  | 49 => ⟨S256x2, .f32⟩
  | 50 => ⟨S256x2, .f32⟩
  | 51 => ⟨S256x2, .f32⟩
  | 52 => ⟨S_, .f32⟩
  | 53 => ⟨S256x2, .f32⟩
  | 54 => ⟨S256x2, .f32⟩
  | 55 => ⟨S256x1, .f32⟩
  | 56 => ⟨S256, .f32⟩
  | 57 => ⟨S256, .f32⟩
  | 58 => ⟨S256x2, .f32⟩
  | 59 => ⟨S256x2, .f32⟩
  | 60 => ⟨S256x2, .f32⟩
  | 61 => ⟨S2x64, .f32⟩
  | 62 => ⟨S256x64, .f32⟩
  | 63 => ⟨S1x64, .f32⟩
  | 64 => ⟨S256x64, .f32⟩
  | 65 => ⟨S256x64, .f32⟩
  | 66 => ⟨S_, .f32⟩
  | 67 => ⟨S256x64, .f32⟩
  | 68 => ⟨S256x64, .f32⟩
  | 69 => ⟨S1x256x2, .f32⟩
  | 70 => ⟨S256x1x2, .f32⟩
  | 71 => ⟨S256x256x2, .f32⟩
  | 72 => ⟨S256x256x2, .f32⟩
  | 73 => ⟨S256x256x2, .f32⟩
  | 74 => ⟨S256x256x1, .f32⟩
  | 75 => ⟨S256x256, .f32⟩
  | 76 => ⟨S256x256x1, .f32⟩
  | 77 => ⟨S256x256, .f32⟩
  | 78 => ⟨S_, .f32⟩
  | 79 => ⟨S256x256, .f32⟩
  | 80 => ⟨S256x256, .f32⟩
  | 81 => ⟨S_, .f32⟩
  | 82 => ⟨S256x256, .f32⟩
  | 83 => ⟨S256x256, .f32⟩
  | 84 => ⟨S256x256, .f32⟩
  | 85 => ⟨S256x256, .i32⟩
  | 86 => ⟨S_, .i32⟩
  | 87 => ⟨S_, .i32⟩
  | 88 => ⟨S_, .i32⟩
  | 89 => ⟨S256x256, .i32⟩
  | 90 => ⟨S256x256, .i32⟩
  | 91 => ⟨S_, .i32⟩
  | 92 => ⟨S256x256, .i32⟩
  | 93 => ⟨S256x256, .i32⟩
  | 94 => ⟨S_, .f32⟩
  | 95 => ⟨S256x256, .f32⟩
  | 96 => ⟨S256x256, .f32⟩
  | 97 => ⟨S_, .f32⟩
  | 98 => ⟨S256x256, .f32⟩
  | 99 => ⟨S256x256, .f32⟩
  | 100 => ⟨S256x256, .f32⟩
  | 101 => ⟨S256x256, .i32⟩
  | 102 => ⟨S_, .i32⟩
  | 103 => ⟨S_, .i32⟩
  | 104 => ⟨S_, .i32⟩
  | 105 => ⟨S256x256, .i32⟩
  | 106 => ⟨S256x256, .i32⟩
  | 107 => ⟨S_, .i32⟩
  | 108 => ⟨S256x256, .i32⟩
  | 109 => ⟨S256x256, .i32⟩
  | 110 => ⟨S_, .i32⟩
  | 111 => ⟨S256x256, .i32⟩
  | 112 => ⟨S256x256, .i32⟩
  | 113 => ⟨S256x256, .i32⟩
  | 114 => ⟨S256x256, .i32⟩
  | 115 => ⟨S256x256, .i32⟩
  | 116 => ⟨S_, .i32⟩
  | 117 => ⟨S256x256, .i32⟩
  | 118 => ⟨S256x256, .i32⟩
  | 119 => ⟨S256x256, .i1⟩
  | 120 => ⟨S256x2, .i1⟩
  | 121 => ⟨S_, .i1⟩
  | 122 => ⟨S256, .i1⟩
  | 123 => ⟨S256x256, .i1⟩
  | 124 => ⟨S1x256, .i1⟩
  | 125 => ⟨S256x256, .i1⟩
  | 126 => ⟨S256x256, .i1⟩
  | 127 => ⟨S256x1, .i1⟩
  | _ => ⟨S8x256x2, .f32⟩

abbrev hbmTy0_23 (i : Nat) : BufTy := match i % 128 with
  | 0 => ⟨S256x256, .i1⟩
  | 1 => ⟨S256x256, .i1⟩
  | 2 => ⟨S256x256, .f32⟩
  | 3 => ⟨S_, .f32⟩
  | 4 => ⟨S256x256, .f32⟩
  | 5 => ⟨S256x256, .i1⟩
  | 6 => ⟨S256x256, .i1⟩
  | 7 => ⟨S256x256, .f32⟩
  | 8 => ⟨S_, .f32⟩
  | 9 => ⟨S256x256, .f32⟩
  | 10 => ⟨S256x256, .i1⟩
  | 11 => ⟨S256x256, .i1⟩
  | 12 => ⟨S256x256, .i1⟩
  | 13 => ⟨S256x256, .i1⟩
  | 14 => ⟨S256x256, .i1⟩
  | 15 => ⟨S256x256, .i1⟩
  | 16 => ⟨S256x256, .i1⟩
  | 17 => ⟨S256x256, .i1⟩
  | 18 => ⟨S256, .i1⟩
  | 19 => ⟨S256x1, .i1⟩
  | 20 => ⟨S256x256, .i1⟩
  | 21 => ⟨S256x256, .i1⟩
  | 22 => ⟨S_, .i32⟩
  | 23 => ⟨S_, .i32⟩
  | 24 => ⟨S256x256, .i32⟩
  | 25 => ⟨S256x256, .i32⟩
  | 26 => ⟨S1x256x128, .f32⟩
  | 27 => ⟨S256x256x128, .f32⟩
  | 28 => ⟨S256x256x1, .i1⟩
  | 29 => ⟨S256x256x1, .f32⟩
  | 30 => ⟨S256x256x128, .f32⟩
  | 31 => ⟨S256x256x128, .f32⟩
  | 32 => ⟨S256, .i32⟩
  | 33 => ⟨S256x1, .i32⟩
  | 34 => ⟨S256x256, .i32⟩
  | 35 => ⟨S_, .f32⟩
  | 36 => ⟨S256x65x128, .f32⟩
  | 37 => ⟨S_, .i32⟩
  | 38 => ⟨S256x256, .i32⟩
  | 39 => ⟨S256x256, .i1⟩
  | 40 => ⟨S_, .i32⟩
  | 41 => ⟨S256x256, .i32⟩
  | 42 => ⟨S256x256, .i32⟩
  | 43 => ⟨S256x256, .i32⟩
  | 44 => ⟨S_, .i32⟩
  | 45 => ⟨S256x256, .i32⟩
  | 46 => ⟨S256x256, .i1⟩
  | 47 => ⟨S_, .i32⟩
  | 48 => ⟨S256x256, .i32⟩
  | 49 => ⟨S256x256, .i32⟩
  | 50 => ⟨S256x256, .i32⟩
  | 51 => ⟨S256x256x1, .i32⟩
  | 52 => ⟨S256x256x1, .i32⟩
  | 53 => ⟨S256x256x2, .i32⟩
  | 54 => ⟨S256x65x128, .f32⟩
  | 55 => ⟨S256x64x128, .f32⟩
  | 56 => ⟨S256x8192, .f32⟩
  | 57 => ⟨S256, .i1⟩
  | 58 => ⟨S256, .i1⟩
  | 59 => ⟨S256, .f32⟩
  | 60 => ⟨S256x1, .f32⟩
  | 61 => ⟨S8192x128, .f32⟩
  | 62 => ⟨S256x128, .f32⟩
  | 63 => ⟨S1x128, .f32⟩
  | 64 => ⟨S256x128, .f32⟩
  | 65 => ⟨S256x128, .f32⟩
  | 66 => ⟨S256x128, .f32⟩
  | 67 => ⟨S256x128, .f32⟩
  | 68 => ⟨S256x192, .f32⟩
  | 69 => ⟨S192x512, .f32⟩
  | 70 => ⟨S256x512, .f32⟩
  | 71 => ⟨S1x512, .f32⟩
  | 72 => ⟨S256x512, .f32⟩
  | 73 => ⟨S256x512, .f32⟩
  | 74 => ⟨S128x512, .f32⟩
  | 75 => ⟨S256x512, .f32⟩
  | 76 => ⟨S256x512, .f32⟩
  | 77 => ⟨S1x512, .f32⟩
  | 78 => ⟨S256x512, .f32⟩
  | 79 => ⟨S256x512, .f32⟩
  | 80 => ⟨S256x128, .f32⟩
  | 81 => ⟨S256x128, .f32⟩
  | 82 => ⟨S256x128, .f32⟩
  | 83 => ⟨S256x128, .f32⟩
  | 84 => ⟨S256x128, .f32⟩
  | 85 => ⟨S256x128, .f32⟩
  | 86 => ⟨S_, .f32⟩
  | 87 => ⟨S256x128, .f32⟩
  | 88 => ⟨S256x128, .f32⟩
  | 89 => ⟨S_, .f32⟩
  | 90 => ⟨S256x128, .f32⟩
  | 91 => ⟨S256x128, .f32⟩
  | 92 => ⟨S256x128, .f32⟩
  | 93 => ⟨S256x128, .f32⟩
  | 94 => ⟨S_, .f32⟩
  | 95 => ⟨S256x128, .f32⟩
  | 96 => ⟨S256x128, .f32⟩
  | 97 => ⟨S_, .f32⟩
  | 98 => ⟨S256x128, .f32⟩
  | 99 => ⟨S256x128, .f32⟩
  | 100 => ⟨S256x128, .f32⟩
  | 101 => ⟨S256x128, .f32⟩
  | 102 => ⟨S256x128, .f32⟩
  | 103 => ⟨S_, .f32⟩
  | 104 => ⟨S256x128, .f32⟩
  | 105 => ⟨S256x128, .f32⟩
  | 106 => ⟨S_, .f32⟩
  | 107 => ⟨S256x128, .f32⟩
  | 108 => ⟨S256x128, .f32⟩
  | 109 => ⟨S256x128, .f32⟩
  | 110 => ⟨S256x128, .f32⟩
  | 111 => ⟨S256x128, .f32⟩
  | 112 => ⟨S256x128, .f32⟩
  | 113 => ⟨S256x128, .f32⟩
  | 114 => ⟨S128x5, .f32⟩
  | 115 => ⟨S256x5, .f32⟩
  | 116 => ⟨S1x5, .f32⟩
  | 117 => ⟨S256x5, .f32⟩
  | 118 => ⟨S256x5, .f32⟩
  | 119 => ⟨S256x2, .f32⟩
  | 120 => ⟨S256x2, .f32⟩
  | 121 => ⟨S256x2, .f32⟩
  | 122 => ⟨S_, .f32⟩
  | 123 => ⟨S256x2, .f32⟩
  | 124 => ⟨S256x2, .f32⟩
  | 125 => ⟨S256x1, .f32⟩
  | 126 => ⟨S256, .f32⟩
  | 127 => ⟨S256, .f32⟩
  | _ => ⟨S8x256x2, .f32⟩

abbrev hbmTy0_24 (i : Nat) : BufTy := match i % 128 with
  | 0 => ⟨S256x2, .f32⟩
  | 1 => ⟨S256x2, .f32⟩
  | 2 => ⟨S256x2, .f32⟩
  | 3 => ⟨S2x64, .f32⟩
  | 4 => ⟨S256x64, .f32⟩
  | 5 => ⟨S1x64, .f32⟩
  | 6 => ⟨S256x64, .f32⟩
  | 7 => ⟨S256x64, .f32⟩
  | 8 => ⟨S_, .f32⟩
  | 9 => ⟨S256x64, .f32⟩
  | 10 => ⟨S256x64, .f32⟩
  | 11 => ⟨S1x256x2, .f32⟩
  | 12 => ⟨S256x1x2, .f32⟩
  | 13 => ⟨S256x256x2, .f32⟩
  | 14 => ⟨S256x256x2, .f32⟩
  | 15 => ⟨S256x256x2, .f32⟩
  | 16 => ⟨S256x256x1, .f32⟩
  | 17 => ⟨S256x256, .f32⟩
  | 18 => ⟨S256x256x1, .f32⟩
  | 19 => ⟨S256x256, .f32⟩
  | 20 => ⟨S_, .f32⟩
  | 21 => ⟨S256x256, .f32⟩
  | 22 => ⟨S256x256, .f32⟩
  | 23 => ⟨S_, .f32⟩
  | 24 => ⟨S256x256, .f32⟩
  | 25 => ⟨S256x256, .f32⟩
  | 26 => ⟨S256x256, .f32⟩
  | 27 => ⟨S256x256, .i32⟩
  | 28 => ⟨S_, .i32⟩
  | 29 => ⟨S_, .i32⟩
  | 30 => ⟨S_, .i32⟩
  | 31 => ⟨S256x256, .i32⟩
  | 32 => ⟨S256x256, .i32⟩
  | 33 => ⟨S_, .i32⟩
  | 34 => ⟨S256x256, .i32⟩
  | 35 => ⟨S256x256, .i32⟩
  | 36 => ⟨S_, .f32⟩
  | 37 => ⟨S256x256, .f32⟩
  | 38 => ⟨S256x256, .f32⟩
  | 39 => ⟨S_, .f32⟩
  | 40 => ⟨S256x256, .f32⟩
  | 41 => ⟨S256x256, .f32⟩
  | 42 => ⟨S256x256, .f32⟩
  | 43 => ⟨S256x256, .i32⟩
  | 44 => ⟨S_, .i32⟩
  | 45 => ⟨S_, .i32⟩
  | 46 => ⟨S_, .i32⟩
  | 47 => ⟨S256x256, .i32⟩
  | 48 => ⟨S256x256, .i32⟩
  | 49 => ⟨S_, .i32⟩
  | 50 => ⟨S256x256, .i32⟩
  | 51 => ⟨S256x256, .i32⟩
  | 52 => ⟨S_, .i32⟩
  | 53 => ⟨S256x256, .i32⟩
  | 54 => ⟨S256x256, .i32⟩
  | 55 => ⟨S256x256, .i32⟩
  | 56 => ⟨S256x256, .i32⟩
  | 57 => ⟨S256x256, .i32⟩
  | 58 => ⟨S_, .i32⟩
  | 59 => ⟨S256x256, .i32⟩
  | 60 => ⟨S256x256, .i32⟩
  | 61 => ⟨S256x256, .i1⟩
  | 62 => ⟨S256x2, .i1⟩
  | 63 => ⟨S_, .i1⟩
  | 64 => ⟨S256, .i1⟩
  | 65 => ⟨S256x256, .i1⟩
  | 66 => ⟨S1x256, .i1⟩
  | 67 => ⟨S256x256, .i1⟩
  | 68 => ⟨S256x256, .i1⟩
  | 69 => ⟨S256x1, .i1⟩
  | 70 => ⟨S256x256, .i1⟩
  | 71 => ⟨S256x256, .i1⟩
  | 72 => ⟨S256x256, .f32⟩
  | 73 => ⟨S_, .f32⟩
  | 74 => ⟨S256x256, .f32⟩
  | 75 => ⟨S256x256, .i1⟩
  | 76 => ⟨S256x256, .i1⟩
  | 77 => ⟨S256x256, .f32⟩
  | 78 => ⟨S_, .f32⟩
  | 79 => ⟨S256x256, .f32⟩
  | 80 => ⟨S256x256, .i1⟩
  | 81 => ⟨S256x256, .i1⟩
  | 82 => ⟨S256x256, .i1⟩
  | 83 => ⟨S256x256, .i1⟩
  | 84 => ⟨S256x256, .i1⟩
  | 85 => ⟨S256x256, .i1⟩
  | 86 => ⟨S256x256, .i1⟩
  | 87 => ⟨S256x256, .i1⟩
  | 88 => ⟨S256, .i1⟩
  | 89 => ⟨S256x1, .i1⟩
  | 90 => ⟨S256x256, .i1⟩
  | 91 => ⟨S256x256, .i1⟩
  | 92 => ⟨S_, .i32⟩
  | 93 => ⟨S_, .i32⟩
  | 94 => ⟨S256x256, .i32⟩
  | 95 => ⟨S256x256, .i32⟩
  | 96 => ⟨S1x256x128, .f32⟩
  | 97 => ⟨S256x256x128, .f32⟩
  | 98 => ⟨S256x256x1, .i1⟩
  | 99 => ⟨S256x256x1, .f32⟩
  | 100 => ⟨S256x256x128, .f32⟩
  | 101 => ⟨S256x256x128, .f32⟩
  | 102 => ⟨S256, .i32⟩
  | 103 => ⟨S256x1, .i32⟩
  | 104 => ⟨S256x256, .i32⟩
  | 105 => ⟨S_, .f32⟩
  | 106 => ⟨S256x65x128, .f32⟩
  | 107 => ⟨S_, .i32⟩
  | 108 => ⟨S256x256, .i32⟩
  | 109 => ⟨S256x256, .i1⟩
  | 110 => ⟨S_, .i32⟩
  | 111 => ⟨S256x256, .i32⟩
  | 112 => ⟨S256x256, .i32⟩
  | 113 => ⟨S256x256, .i32⟩
  | 114 => ⟨S_, .i32⟩
  | 115 => ⟨S256x256, .i32⟩
  | 116 => ⟨S256x256, .i1⟩
  | 117 => ⟨S_, .i32⟩
  | 118 => ⟨S256x256, .i32⟩
  | 119 => ⟨S256x256, .i32⟩
  | 120 => ⟨S256x256, .i32⟩
  | 121 => ⟨S256x256x1, .i32⟩
  | 122 => ⟨S256x256x1, .i32⟩
  | 123 => ⟨S256x256x2, .i32⟩
  | 124 => ⟨S256x65x128, .f32⟩
  | 125 => ⟨S256x64x128, .f32⟩
  | 126 => ⟨S256x8192, .f32⟩
  | 127 => ⟨S256, .i1⟩
  | _ => ⟨S8x256x2, .f32⟩

abbrev hbmTy0_25 (i : Nat) : BufTy := match i % 128 with
  | 0 => ⟨S256, .i1⟩
  | 1 => ⟨S256, .f32⟩
  | 2 => ⟨S256x1, .f32⟩
  | 3 => ⟨S8192x128, .f32⟩
  | 4 => ⟨S256x128, .f32⟩
  | 5 => ⟨S1x128, .f32⟩
  | 6 => ⟨S256x128, .f32⟩
  | 7 => ⟨S256x128, .f32⟩
  | 8 => ⟨S256x128, .f32⟩
  | 9 => ⟨S256x128, .f32⟩
  | 10 => ⟨S256x192, .f32⟩
  | 11 => ⟨S192x512, .f32⟩
  | 12 => ⟨S256x512, .f32⟩
  | 13 => ⟨S1x512, .f32⟩
  | 14 => ⟨S256x512, .f32⟩
  | 15 => ⟨S256x512, .f32⟩
  | 16 => ⟨S128x512, .f32⟩
  | 17 => ⟨S256x512, .f32⟩
  | 18 => ⟨S256x512, .f32⟩
  | 19 => ⟨S1x512, .f32⟩
  | 20 => ⟨S256x512, .f32⟩
  | 21 => ⟨S256x512, .f32⟩
  | 22 => ⟨S256x128, .f32⟩
  | 23 => ⟨S256x128, .f32⟩
  | 24 => ⟨S256x128, .f32⟩
  | 25 => ⟨S256x128, .f32⟩
  | 26 => ⟨S256x128, .f32⟩
  | 27 => ⟨S256x128, .f32⟩
  | 28 => ⟨S_, .f32⟩
  | 29 => ⟨S256x128, .f32⟩
  | 30 => ⟨S256x128, .f32⟩
  | 31 => ⟨S_, .f32⟩
  | 32 => ⟨S256x128, .f32⟩
  | 33 => ⟨S256x128, .f32⟩
  | 34 => ⟨S256x128, .f32⟩
  | 35 => ⟨S256x128, .f32⟩
  | 36 => ⟨S_, .f32⟩
  | 37 => ⟨S256x128, .f32⟩
  | 38 => ⟨S256x128, .f32⟩
  | 39 => ⟨S_, .f32⟩
  | 40 => ⟨S256x128, .f32⟩
  | 41 => ⟨S256x128, .f32⟩
  | 42 => ⟨S256x128, .f32⟩
  | 43 => ⟨S256x128, .f32⟩
  | 44 => ⟨S256x128, .f32⟩
  | 45 => ⟨S_, .f32⟩
  | 46 => ⟨S256x128, .f32⟩
  | 47 => ⟨S256x128, .f32⟩
  | 48 => ⟨S_, .f32⟩
  | 49 => ⟨S256x128, .f32⟩
  | 50 => ⟨S256x128, .f32⟩
  | 51 => ⟨S256x128, .f32⟩
  | 52 => ⟨S256x128, .f32⟩
  | 53 => ⟨S256x128, .f32⟩
  | 54 => ⟨S256x128, .f32⟩
  | 55 => ⟨S256x128, .f32⟩
  | 56 => ⟨S128x5, .f32⟩
  | 57 => ⟨S256x5, .f32⟩
  | 58 => ⟨S1x5, .f32⟩
  | 59 => ⟨S256x5, .f32⟩
  | 60 => ⟨S256x5, .f32⟩
  | 61 => ⟨S256x2, .f32⟩
  | 62 => ⟨S256x2, .f32⟩
  | 63 => ⟨S256x2, .f32⟩
  | 64 => ⟨S_, .f32⟩
  | 65 => ⟨S256x2, .f32⟩
  | 66 => ⟨S256x2, .f32⟩
  | 67 => ⟨S256x1, .f32⟩
  | 68 => ⟨S256, .f32⟩
  | 69 => ⟨S256, .f32⟩
  | 70 => ⟨S256x2, .f32⟩
  | 71 => ⟨S256x2, .f32⟩
  | 72 => ⟨S256x2, .f32⟩
  | 73 => ⟨S2x64, .f32⟩
  | 74 => ⟨S256x64, .f32⟩
  | 75 => ⟨S1x64, .f32⟩
  | 76 => ⟨S256x64, .f32⟩
  | 77 => ⟨S256x64, .f32⟩
  | 78 => ⟨S_, .f32⟩
  | 79 => ⟨S256x64, .f32⟩
  | 80 => ⟨S256x64, .f32⟩
  | 81 => ⟨S1x256x2, .f32⟩
  | 82 => ⟨S256x1x2, .f32⟩
  | 83 => ⟨S256x256x2, .f32⟩
  | 84 => ⟨S256x256x2, .f32⟩
  | 85 => ⟨S256x256x2, .f32⟩
  | 86 => ⟨S256x256x1, .f32⟩
  | 87 => ⟨S256x256, .f32⟩
  | 88 => ⟨S256x256x1, .f32⟩
  | 89 => ⟨S256x256, .f32⟩
  | 90 => ⟨S_, .f32⟩
  | 91 => ⟨S256x256, .f32⟩
  | 92 => ⟨S256x256, .f32⟩
  | 93 => ⟨S_, .f32⟩
  | 94 => ⟨S256x256, .f32⟩
  | 95 => ⟨S256x256, .f32⟩
  | 96 => ⟨S256x256, .f32⟩
  | 97 => ⟨S256x256, .i32⟩
  | 98 => ⟨S_, .i32⟩
  | 99 => ⟨S_, .i32⟩
  | 100 => ⟨S_, .i32⟩
  | 101 => ⟨S256x256, .i32⟩
  | 102 => ⟨S256x256, .i32⟩
  | 103 => ⟨S_, .i32⟩
  | 104 => ⟨S256x256, .i32⟩
  | 105 => ⟨S256x256, .i32⟩
  | 106 => ⟨S_, .f32⟩
  | 107 => ⟨S256x256, .f32⟩
  | 108 => ⟨S256x256, .f32⟩
  | 109 => ⟨S_, .f32⟩
  | 110 => ⟨S256x256, .f32⟩
  | 111 => ⟨S256x256, .f32⟩
  | 112 => ⟨S256x256, .f32⟩
  | 113 => ⟨S256x256, .i32⟩
  | 114 => ⟨S_, .i32⟩
  | 115 => ⟨S_, .i32⟩
  | 116 => ⟨S_, .i32⟩
  | 117 => ⟨S256x256, .i32⟩
  | 118 => ⟨S256x256, .i32⟩
  | 119 => ⟨S_, .i32⟩
  | 120 => ⟨S256x256, .i32⟩
  | 121 => ⟨S256x256, .i32⟩
  | 122 => ⟨S_, .i32⟩
  | 123 => ⟨S256x256, .i32⟩
  | 124 => ⟨S256x256, .i32⟩
  | 125 => ⟨S256x256, .i32⟩
  | 126 => ⟨S256x256, .i32⟩
  | 127 => ⟨S256x256, .i32⟩
  | _ => ⟨S8x256x2, .f32⟩

abbrev hbmTy0_26 (i : Nat) : BufTy := match i % 128 with
  | 0 => ⟨S_, .i32⟩
  | 1 => ⟨S256x256, .i32⟩
  | 2 => ⟨S256x256, .i32⟩
  | 3 => ⟨S256x256, .i1⟩
  | 4 => ⟨S256x2, .i1⟩
  | 5 => ⟨S_, .i1⟩
  | 6 => ⟨S256, .i1⟩
  | 7 => ⟨S256x256, .i1⟩
  | 8 => ⟨S1x256, .i1⟩
  | 9 => ⟨S256x256, .i1⟩
  | 10 => ⟨S256x256, .i1⟩
  | 11 => ⟨S256x1, .i1⟩
  | 12 => ⟨S256x256, .i1⟩
  | 13 => ⟨S256x256, .i1⟩
  | 14 => ⟨S256x256, .f32⟩
  | 15 => ⟨S_, .f32⟩
  | 16 => ⟨S256x256, .f32⟩
  | 17 => ⟨S256x256, .i1⟩
  | 18 => ⟨S256x256, .i1⟩
  | 19 => ⟨S256x256, .f32⟩
  | 20 => ⟨S_, .f32⟩
  | 21 => ⟨S256x256, .f32⟩
  | 22 => ⟨S256x256, .i1⟩
  | 23 => ⟨S256x256, .i1⟩
  | 24 => ⟨S256x256, .i1⟩
  | 25 => ⟨S256x256, .i1⟩
  | 26 => ⟨S256x256, .i1⟩
  | 27 => ⟨S256x256, .i1⟩
  | 28 => ⟨S256x256, .i1⟩
  | 29 => ⟨S256x256, .i1⟩
  | 30 => ⟨S256, .i1⟩
  | 31 => ⟨S256x1, .i1⟩
  | 32 => ⟨S256x256, .i1⟩
  | 33 => ⟨S256x256, .i1⟩
  | 34 => ⟨S_, .i32⟩
  | 35 => ⟨S_, .i32⟩
  | 36 => ⟨S256x256, .i32⟩
  | 37 => ⟨S256x256, .i32⟩
  | 38 => ⟨S1x256x128, .f32⟩
  | 39 => ⟨S256x256x128, .f32⟩
  | 40 => ⟨S256x256x1, .i1⟩
  | 41 => ⟨S256x256x1, .f32⟩
  | 42 => ⟨S256x256x128, .f32⟩
  | 43 => ⟨S256x256x128, .f32⟩
  | 44 => ⟨S256, .i32⟩
  | 45 => ⟨S256x1, .i32⟩
  | 46 => ⟨S256x256, .i32⟩
  | 47 => ⟨S_, .f32⟩
  | 48 => ⟨S256x65x128, .f32⟩
  | 49 => ⟨S_, .i32⟩
  | 50 => ⟨S256x256, .i32⟩
  | 51 => ⟨S256x256, .i1⟩
  | 52 => ⟨S_, .i32⟩
  | 53 => ⟨S256x256, .i32⟩
  | 54 => ⟨S256x256, .i32⟩
  | 55 => ⟨S256x256, .i32⟩
  | 56 => ⟨S_, .i32⟩
  | 57 => ⟨S256x256, .i32⟩
  | 58 => ⟨S256x256, .i1⟩
  | 59 => ⟨S_, .i32⟩
  | 60 => ⟨S256x256, .i32⟩
  | 61 => ⟨S256x256, .i32⟩
  | 62 => ⟨S256x256, .i32⟩
  | 63 => ⟨S256x256x1, .i32⟩
  | 64 => ⟨S256x256x1, .i32⟩
  | 65 => ⟨S256x256x2, .i32⟩
  | 66 => ⟨S256x65x128, .f32⟩
  | 67 => ⟨S256x64x128, .f32⟩
  | 68 => ⟨S256x8192, .f32⟩
  | 69 => ⟨S256, .i1⟩
  | 70 => ⟨S256, .i1⟩
  | 71 => ⟨S256, .f32⟩
  | 72 => ⟨S256x1, .f32⟩
  | 73 => ⟨S8192x128, .f32⟩
  | 74 => ⟨S256x128, .f32⟩
  | 75 => ⟨S1x128, .f32⟩
  | 76 => ⟨S256x128, .f32⟩
  | 77 => ⟨S256x128, .f32⟩
  | 78 => ⟨S256x128, .f32⟩
  | 79 => ⟨S256x128, .f32⟩
  | 80 => ⟨S256x192, .f32⟩
  | 81 => ⟨S192x512, .f32⟩
  | 82 => ⟨S256x512, .f32⟩
  | 83 => ⟨S1x512, .f32⟩
  | 84 => ⟨S256x512, .f32⟩
  | 85 => ⟨S256x512, .f32⟩
  | 86 => ⟨S128x512, .f32⟩
  | 87 => ⟨S256x512, .f32⟩
  | 88 => ⟨S256x512, .f32⟩
  | 89 => ⟨S1x512, .f32⟩
  | 90 => ⟨S256x512, .f32⟩
  | 91 => ⟨S256x512, .f32⟩
  | 92 => ⟨S256x128, .f32⟩
  | 93 => ⟨S256x128, .f32⟩
  | 94 => ⟨S256x128, .f32⟩
  | 95 => ⟨S256x128, .f32⟩
  | 96 => ⟨S256x128, .f32⟩
  | 97 => ⟨S256x128, .f32⟩
  | 98 => ⟨S_, .f32⟩
  | 99 => ⟨S256x128, .f32⟩
  | 100 => ⟨S256x128, .f32⟩
  | 101 => ⟨S_, .f32⟩
  | 102 => ⟨S256x128, .f32⟩
  | 103 => ⟨S256x128, .f32⟩
  | 104 => ⟨S256x128, .f32⟩
  | 105 => ⟨S256x128, .f32⟩
  | 106 => ⟨S_, .f32⟩
  | 107 => ⟨S256x128, .f32⟩
  | 108 => ⟨S256x128, .f32⟩
  | 109 => ⟨S_, .f32⟩
  | 110 => ⟨S256x128, .f32⟩
  | 111 => ⟨S256x128, .f32⟩
  | 112 => ⟨S256x128, .f32⟩
  | 113 => ⟨S256x128, .f32⟩
  | 114 => ⟨S256x128, .f32⟩
  | 115 => ⟨S_, .f32⟩
  | 116 => ⟨S256x128, .f32⟩
  | 117 => ⟨S256x128, .f32⟩
  | 118 => ⟨S_, .f32⟩
  | 119 => ⟨S256x128, .f32⟩
  | 120 => ⟨S256x128, .f32⟩
  | 121 => ⟨S256x128, .f32⟩
  | 122 => ⟨S256x128, .f32⟩
  | 123 => ⟨S256x128, .f32⟩
  | 124 => ⟨S256x128, .f32⟩
  | 125 => ⟨S256x128, .f32⟩
  | 126 => ⟨S128x5, .f32⟩
  | 127 => ⟨S256x5, .f32⟩
  | _ => ⟨S8x256x2, .f32⟩

abbrev hbmTy0_27 (i : Nat) : BufTy := match i % 128 with
  | 0 => ⟨S1x5, .f32⟩
  | 1 => ⟨S256x5, .f32⟩
  | 2 => ⟨S256x5, .f32⟩
  | 3 => ⟨S256x2, .f32⟩
  | 4 => ⟨S256x2, .f32⟩
  | 5 => ⟨S256x2, .f32⟩
  | 6 => ⟨S_, .f32⟩
  | 7 => ⟨S256x2, .f32⟩
  | 8 => ⟨S256x2, .f32⟩
  | 9 => ⟨S256x1, .f32⟩
  | 10 => ⟨S256, .f32⟩
  | 11 => ⟨S256, .f32⟩
  | 12 => ⟨S256x2, .f32⟩
  | 13 => ⟨S256x2, .f32⟩
  | 14 => ⟨S256x2, .f32⟩
  | 15 => ⟨S2x64, .f32⟩
  | 16 => ⟨S256x64, .f32⟩
  | 17 => ⟨S1x64, .f32⟩
  | 18 => ⟨S256x64, .f32⟩
  | 19 => ⟨S256x64, .f32⟩
  | 20 => ⟨S_, .f32⟩
  | 21 => ⟨S256x64, .f32⟩
  | 22 => ⟨S256x64, .f32⟩
  | 23 => ⟨S1x256x2, .f32⟩
  | 24 => ⟨S256x1x2, .f32⟩
  | 25 => ⟨S256x256x2, .f32⟩
  | 26 => ⟨S256x256x2, .f32⟩
  | 27 => ⟨S256x256x2, .f32⟩
  | 28 => ⟨S256x256x1, .f32⟩
  | 29 => ⟨S256x256, .f32⟩
  | 30 => ⟨S256x256x1, .f32⟩
  | 31 => ⟨S256x256, .f32⟩
  | 32 => ⟨S_, .f32⟩
  | 33 => ⟨S256x256, .f32⟩
  | 34 => ⟨S256x256, .f32⟩
  | 35 => ⟨S_, .f32⟩
  | 36 => ⟨S256x256, .f32⟩
  | 37 => ⟨S256x256, .f32⟩
  | 38 => ⟨S256x256, .f32⟩
  | 39 => ⟨S256x256, .i32⟩
  | 40 => ⟨S_, .i32⟩
  | 41 => ⟨S_, .i32⟩
  | 42 => ⟨S_, .i32⟩
  | 43 => ⟨S256x256, .i32⟩
  | 44 => ⟨S256x256, .i32⟩
  | 45 => ⟨S_, .i32⟩
  | 46 => ⟨S256x256, .i32⟩
  | 47 => ⟨S256x256, .i32⟩
  | 48 => ⟨S_, .f32⟩
  | 49 => ⟨S256x256, .f32⟩
  | 50 => ⟨S256x256, .f32⟩
  | 51 => ⟨S_, .f32⟩
  | 52 => ⟨S256x256, .f32⟩
  | 53 => ⟨S256x256, .f32⟩
  | 54 => ⟨S256x256, .f32⟩
  | 55 => ⟨S256x256, .i32⟩
  | 56 => ⟨S_, .i32⟩
  | 57 => ⟨S_, .i32⟩
  | 58 => ⟨S_, .i32⟩
  | 59 => ⟨S256x256, .i32⟩
  | 60 => ⟨S256x256, .i32⟩
  | 61 => ⟨S_, .i32⟩
  | 62 => ⟨S256x256, .i32⟩
  | 63 => ⟨S256x256, .i32⟩
  | 64 => ⟨S_, .i32⟩
  | 65 => ⟨S256x256, .i32⟩
  | 66 => ⟨S256x256, .i32⟩
  | 67 => ⟨S256x256, .i32⟩
  | 68 => ⟨S256x256, .i32⟩
  | 69 => ⟨S256x256, .i32⟩
  | 70 => ⟨S_, .i32⟩
  | 71 => ⟨S256x256, .i32⟩
  | 72 => ⟨S256x256, .i32⟩
  | 73 => ⟨S256x256, .i1⟩
  | 74 => ⟨S256x2, .i1⟩
  | 75 => ⟨S_, .i1⟩
  | 76 => ⟨S256, .i1⟩
  | 77 => ⟨S256x256, .i1⟩
  | 78 => ⟨S1x256, .i1⟩
  | 79 => ⟨S256x256, .i1⟩
  | 80 => ⟨S256x256, .i1⟩
  | 81 => ⟨S256x1, .i1⟩
  | 82 => ⟨S256x256, .i1⟩
  | 83 => ⟨S256x256, .i1⟩
  | 84 => ⟨S256x256, .f32⟩
  | 85 => ⟨S_, .f32⟩
  | 86 => ⟨S256x256, .f32⟩
  | 87 => ⟨S256x256, .i1⟩
  | 88 => ⟨S256x256, .i1⟩
  | 89 => ⟨S256x256, .f32⟩
  | 90 => ⟨S_, .f32⟩
  | 91 => ⟨S256x256, .f32⟩
  | 92 => ⟨S256x256, .i1⟩
  | 93 => ⟨S256x256, .i1⟩
  | 94 => ⟨S256x256, .i1⟩
  | 95 => ⟨S256x256, .i1⟩
  | 96 => ⟨S256x256, .i1⟩
  | 97 => ⟨S256x256, .i1⟩
  | 98 => ⟨S256x256, .i1⟩
  | 99 => ⟨S256x256, .i1⟩
  | 100 => ⟨S256, .i1⟩
  | 101 => ⟨S256x1, .i1⟩
  | 102 => ⟨S256x256, .i1⟩
  | 103 => ⟨S256x256, .i1⟩
  | 104 => ⟨S_, .i32⟩
  | 105 => ⟨S_, .i32⟩
  | 106 => ⟨S256x256, .i32⟩
  | 107 => ⟨S256x256, .i32⟩
  | 108 => ⟨S1x256x128, .f32⟩
  | 109 => ⟨S256x256x128, .f32⟩
  | 110 => ⟨S256x256x1, .i1⟩
  | 111 => ⟨S256x256x1, .f32⟩
  | 112 => ⟨S256x256x128, .f32⟩
  | 113 => ⟨S256x256x128, .f32⟩
  | 114 => ⟨S256, .i32⟩
  | 115 => ⟨S256x1, .i32⟩
  | 116 => ⟨S256x256, .i32⟩
  | 117 => ⟨S_, .f32⟩
  | 118 => ⟨S256x65x128, .f32⟩
  | 119 => ⟨S_, .i32⟩
  | 120 => ⟨S256x256, .i32⟩
  | 121 => ⟨S256x256, .i1⟩
  | 122 => ⟨S_, .i32⟩
  | 123 => ⟨S256x256, .i32⟩
  | 124 => ⟨S256x256, .i32⟩
  | 125 => ⟨S256x256, .i32⟩
  | 126 => ⟨S_, .i32⟩
  | 127 => ⟨S256x256, .i32⟩
  | _ => ⟨S8x256x2, .f32⟩

abbrev hbmTy0_28 (i : Nat) : BufTy := match i % 128 with
  | 0 => ⟨S256x256, .i1⟩
  | 1 => ⟨S_, .i32⟩
  | 2 => ⟨S256x256, .i32⟩
  | 3 => ⟨S256x256, .i32⟩
  | 4 => ⟨S256x256, .i32⟩
  | 5 => ⟨S256x256x1, .i32⟩
  | 6 => ⟨S256x256x1, .i32⟩
  | 7 => ⟨S256x256x2, .i32⟩
  | 8 => ⟨S256x65x128, .f32⟩
  | 9 => ⟨S256x64x128, .f32⟩
  | 10 => ⟨S256x8192, .f32⟩
  | 11 => ⟨S256, .i1⟩
  | 12 => ⟨S256, .i1⟩
  | 13 => ⟨S256, .f32⟩
  | 14 => ⟨S256x1, .f32⟩
  | 15 => ⟨S8192x128, .f32⟩
  | 16 => ⟨S256x128, .f32⟩
  | 17 => ⟨S1x128, .f32⟩
  | 18 => ⟨S256x128, .f32⟩
  | 19 => ⟨S256x128, .f32⟩
  | 20 => ⟨S256x128, .f32⟩
  | 21 => ⟨S256x128, .f32⟩
  | 22 => ⟨S256x192, .f32⟩
  | 23 => ⟨S192x512, .f32⟩
  | 24 => ⟨S256x512, .f32⟩
  | 25 => ⟨S1x512, .f32⟩
  | 26 => ⟨S256x512, .f32⟩
  | 27 => ⟨S256x512, .f32⟩
  | 28 => ⟨S128x512, .f32⟩
  | 29 => ⟨S256x512, .f32⟩
  | 30 => ⟨S256x512, .f32⟩
  | 31 => ⟨S1x512, .f32⟩
  | 32 => ⟨S256x512, .f32⟩
  | 33 => ⟨S256x512, .f32⟩
  | 34 => ⟨S256x128, .f32⟩
  | 35 => ⟨S256x128, .f32⟩
  | 36 => ⟨S256x128, .f32⟩
  | 37 => ⟨S256x128, .f32⟩
  | 38 => ⟨S256x128, .f32⟩
  | 39 => ⟨S256x128, .f32⟩
  | 40 => ⟨S_, .f32⟩
  | 41 => ⟨S256x128, .f32⟩
  | 42 => ⟨S256x128, .f32⟩
  | 43 => ⟨S_, .f32⟩
  | 44 => ⟨S256x128, .f32⟩
  | 45 => ⟨S256x128, .f32⟩
  | 46 => ⟨S256x128, .f32⟩
  | 47 => ⟨S256x128, .f32⟩
  | 48 => ⟨S_, .f32⟩
  | 49 => ⟨S256x128, .f32⟩
  | 50 => ⟨S256x128, .f32⟩
  | 51 => ⟨S_, .f32⟩
  | 52 => ⟨S256x128, .f32⟩
  | 53 => ⟨S256x128, .f32⟩
  | 54 => ⟨S256x128, .f32⟩
  | 55 => ⟨S256x128, .f32⟩
  | 56 => ⟨S256x128, .f32⟩
  | 57 => ⟨S_, .f32⟩
  | 58 => ⟨S256x128, .f32⟩
  | 59 => ⟨S256x128, .f32⟩
  | 60 => ⟨S_, .f32⟩
  | 61 => ⟨S256x128, .f32⟩
  | 62 => ⟨S256x128, .f32⟩
  | 63 => ⟨S256x128, .f32⟩
  | 64 => ⟨S256x128, .f32⟩
  | 65 => ⟨S256x128, .f32⟩
  | 66 => ⟨S256x128, .f32⟩
  | 67 => ⟨S256x128, .f32⟩
  | 68 => ⟨S128x5, .f32⟩
  | 69 => ⟨S256x5, .f32⟩
  | 70 => ⟨S1x5, .f32⟩
  | 71 => ⟨S256x5, .f32⟩
  | 72 => ⟨S256x5, .f32⟩
  | 73 => ⟨S256x2, .f32⟩
  | 74 => ⟨S256x2, .f32⟩
  | 75 => ⟨S256x2, .f32⟩
  | 76 => ⟨S_, .f32⟩
  | 77 => ⟨S256x2, .f32⟩
  | 78 => ⟨S256x2, .f32⟩
  | 79 => ⟨S256x1, .f32⟩
  | 80 => ⟨S256, .f32⟩
  | 81 => ⟨S256, .f32⟩
  | 82 => ⟨S256x2, .f32⟩
  | 83 => ⟨S256x2, .f32⟩
  | 84 => ⟨S256x2, .f32⟩
  | 85 => ⟨S2x64, .f32⟩
  | 86 => ⟨S256x64, .f32⟩
  | 87 => ⟨S1x64, .f32⟩
  | 88 => ⟨S256x64, .f32⟩
  | 89 => ⟨S256x64, .f32⟩
  | 90 => ⟨S_, .f32⟩
  | 91 => ⟨S256x64, .f32⟩
  | 92 => ⟨S256x64, .f32⟩
  | 93 => ⟨S1x256x2, .f32⟩
  | 94 => ⟨S256x1x2, .f32⟩
  | 95 => ⟨S256x256x2, .f32⟩
  | 96 => ⟨S256x256x2, .f32⟩
  | 97 => ⟨S256x256x2, .f32⟩
  | 98 => ⟨S256x256x1, .f32⟩
  | 99 => ⟨S256x256, .f32⟩
  | 100 => ⟨S256x256x1, .f32⟩
  | 101 => ⟨S256x256, .f32⟩
  | 102 => ⟨S_, .f32⟩
  | 103 => ⟨S256x256, .f32⟩
  | 104 => ⟨S256x256, .f32⟩
  | 105 => ⟨S_, .f32⟩
  | 106 => ⟨S256x256, .f32⟩
  | 107 => ⟨S256x256, .f32⟩
  | 108 => ⟨S256x256, .f32⟩
  | 109 => ⟨S256x256, .i32⟩
  | 110 => ⟨S_, .i32⟩
  | 111 => ⟨S_, .i32⟩
  | 112 => ⟨S_, .i32⟩
  | 113 => ⟨S256x256, .i32⟩
  | 114 => ⟨S256x256, .i32⟩
  | 115 => ⟨S_, .i32⟩
  | 116 => ⟨S256x256, .i32⟩
  | 117 => ⟨S256x256, .i32⟩
  | 118 => ⟨S_, .f32⟩
  | 119 => ⟨S256x256, .f32⟩
  | 120 => ⟨S256x256, .f32⟩
  | 121 => ⟨S_, .f32⟩
  | 122 => ⟨S256x256, .f32⟩
  | 123 => ⟨S256x256, .f32⟩
  | 124 => ⟨S256x256, .f32⟩
  | 125 => ⟨S256x256, .i32⟩
  | 126 => ⟨S_, .i32⟩
  | 127 => ⟨S_, .i32⟩
  | _ => ⟨S8x256x2, .f32⟩

abbrev hbmTy0_29 (i : Nat) : BufTy := match i % 128 with
  | 0 => ⟨S_, .i32⟩
  | 1 => ⟨S256x256, .i32⟩
  | 2 => ⟨S256x256, .i32⟩
  | 3 => ⟨S_, .i32⟩
  | 4 => ⟨S256x256, .i32⟩
  | 5 => ⟨S256x256, .i32⟩
  | 6 => ⟨S_, .i32⟩
  | 7 => ⟨S256x256, .i32⟩
  | 8 => ⟨S256x256, .i32⟩
  | 9 => ⟨S256x256, .i32⟩
  | 10 => ⟨S256x256, .i32⟩
  | 11 => ⟨S256x256, .i32⟩
  | 12 => ⟨S_, .i32⟩
  | 13 => ⟨S256x256, .i32⟩
  | 14 => ⟨S256x256, .i32⟩
  | 15 => ⟨S256x256, .i1⟩
  | 16 => ⟨S256x2, .i1⟩
  | 17 => ⟨S_, .i1⟩
  | 18 => ⟨S256, .i1⟩
  | 19 => ⟨S256x256, .i1⟩
  | 20 => ⟨S1x256, .i1⟩
  | 21 => ⟨S256x256, .i1⟩
  | 22 => ⟨S256x256, .i1⟩
  | 23 => ⟨S256x1, .i1⟩
  | 24 => ⟨S256x256, .i1⟩
  | 25 => ⟨S256x256, .i1⟩
  | 26 => ⟨S256x256, .f32⟩
  | 27 => ⟨S_, .f32⟩
  | 28 => ⟨S256x256, .f32⟩
  | 29 => ⟨S256x256, .i1⟩
  | 30 => ⟨S256x256, .i1⟩
  | 31 => ⟨S256x256, .f32⟩
  | 32 => ⟨S_, .f32⟩
  | 33 => ⟨S256x256, .f32⟩
  | 34 => ⟨S256x256, .i1⟩
  | 35 => ⟨S256x256, .i1⟩
  | 36 => ⟨S256x256, .i1⟩
  | 37 => ⟨S256x256, .i1⟩
  | 38 => ⟨S256x256, .i1⟩
  | 39 => ⟨S256x256, .i1⟩
  | 40 => ⟨S256x256, .i1⟩
  | 41 => ⟨S256x256, .i1⟩
  | 42 => ⟨S256, .i1⟩
  | 43 => ⟨S256x1, .i1⟩
  | 44 => ⟨S256x256, .i1⟩
  | 45 => ⟨S256x256, .i1⟩
  | 46 => ⟨S_, .i32⟩
  | 47 => ⟨S_, .i32⟩
  | 48 => ⟨S256x256, .i32⟩
  | 49 => ⟨S256x256, .i32⟩
  | 50 => ⟨S1x256x128, .f32⟩
  | 51 => ⟨S256x256x128, .f32⟩
  | 52 => ⟨S256x256x1, .i1⟩
  | 53 => ⟨S256x256x1, .f32⟩
  | 54 => ⟨S256x256x128, .f32⟩
  | 55 => ⟨S256x256x128, .f32⟩
  | 56 => ⟨S256, .i32⟩
  | 57 => ⟨S256x1, .i32⟩
  | 58 => ⟨S256x256, .i32⟩
  | 59 => ⟨S_, .f32⟩
  | 60 => ⟨S256x65x128, .f32⟩
  | 61 => ⟨S_, .i32⟩
  | 62 => ⟨S256x256, .i32⟩
  | 63 => ⟨S256x256, .i1⟩
  | 64 => ⟨S_, .i32⟩
  | 65 => ⟨S256x256, .i32⟩
  | 66 => ⟨S256x256, .i32⟩
  | 67 => ⟨S256x256, .i32⟩
  | 68 => ⟨S_, .i32⟩
  | 69 => ⟨S256x256, .i32⟩
  | 70 => ⟨S256x256, .i1⟩
  | 71 => ⟨S_, .i32⟩
  | 72 => ⟨S256x256, .i32⟩
  | 73 => ⟨S256x256, .i32⟩
  | 74 => ⟨S256x256, .i32⟩
  | 75 => ⟨S256x256x1, .i32⟩
  | 76 => ⟨S256x256x1, .i32⟩
  | 77 => ⟨S256x256x2, .i32⟩
  | 78 => ⟨S256x65x128, .f32⟩
  | 79 => ⟨S256x64x128, .f32⟩
  | 80 => ⟨S256x8192, .f32⟩
  | 81 => ⟨S256, .i1⟩
  | 82 => ⟨S256, .i1⟩
  | 83 => ⟨S256, .f32⟩
  | 84 => ⟨S256x1, .f32⟩
  | 85 => ⟨S8192x128, .f32⟩
  | 86 => ⟨S256x128, .f32⟩
  | 87 => ⟨S1x128, .f32⟩
  | 88 => ⟨S256x128, .f32⟩
  | 89 => ⟨S256x128, .f32⟩
  | 90 => ⟨S256x128, .f32⟩
  | 91 => ⟨S256x128, .f32⟩
  | 92 => ⟨S256x192, .f32⟩
  | 93 => ⟨S192x512, .f32⟩
  | 94 => ⟨S256x512, .f32⟩
  | 95 => ⟨S1x512, .f32⟩
  | 96 => ⟨S256x512, .f32⟩
  | 97 => ⟨S256x512, .f32⟩
  | 98 => ⟨S128x512, .f32⟩
  | 99 => ⟨S256x512, .f32⟩
  | 100 => ⟨S256x512, .f32⟩
  | 101 => ⟨S1x512, .f32⟩
  | 102 => ⟨S256x512, .f32⟩
  | 103 => ⟨S256x512, .f32⟩
  | 104 => ⟨S256x128, .f32⟩
  | 105 => ⟨S256x128, .f32⟩
  | 106 => ⟨S256x128, .f32⟩
  | 107 => ⟨S256x128, .f32⟩
  | 108 => ⟨S256x128, .f32⟩
  | 109 => ⟨S256x128, .f32⟩
  | 110 => ⟨S_, .f32⟩
  | 111 => ⟨S256x128, .f32⟩
  | 112 => ⟨S256x128, .f32⟩
  | 113 => ⟨S_, .f32⟩
  | 114 => ⟨S256x128, .f32⟩
  | 115 => ⟨S256x128, .f32⟩
  | 116 => ⟨S256x128, .f32⟩
  | 117 => ⟨S256x128, .f32⟩
  | 118 => ⟨S_, .f32⟩
  | 119 => ⟨S256x128, .f32⟩
  | 120 => ⟨S256x128, .f32⟩
  | 121 => ⟨S_, .f32⟩
  | 122 => ⟨S256x128, .f32⟩
  | 123 => ⟨S256x128, .f32⟩
  | 124 => ⟨S256x128, .f32⟩
  | 125 => ⟨S256x128, .f32⟩
  | 126 => ⟨S256x128, .f32⟩
  | 127 => ⟨S_, .f32⟩
  | _ => ⟨S8x256x2, .f32⟩

abbrev hbmTy0_30 (i : Nat) : BufTy := match i % 128 with
  | 0 => ⟨S256x128, .f32⟩
  | 1 => ⟨S256x128, .f32⟩
  | 2 => ⟨S_, .f32⟩
  | 3 => ⟨S256x128, .f32⟩
  | 4 => ⟨S256x128, .f32⟩
  | 5 => ⟨S256x128, .f32⟩
  | 6 => ⟨S256x128, .f32⟩
  | 7 => ⟨S256x128, .f32⟩
  | 8 => ⟨S256x128, .f32⟩
  | 9 => ⟨S256x128, .f32⟩
  | 10 => ⟨S128x5, .f32⟩
  | 11 => ⟨S256x5, .f32⟩
  | 12 => ⟨S1x5, .f32⟩
  | 13 => ⟨S256x5, .f32⟩
  | 14 => ⟨S256x5, .f32⟩
  | 15 => ⟨S256x2, .f32⟩
  | 16 => ⟨S256x2, .f32⟩
  | 17 => ⟨S256x2, .f32⟩
  | 18 => ⟨S_, .f32⟩
  | 19 => ⟨S256x2, .f32⟩
  | 20 => ⟨S256x2, .f32⟩
  | 21 => ⟨S256x1, .f32⟩
  | 22 => ⟨S256, .f32⟩
  | 23 => ⟨S256, .f32⟩
  | 24 => ⟨S256x2, .f32⟩
  | 25 => ⟨S256x2, .f32⟩
  | 26 => ⟨S256x2, .f32⟩
  | 27 => ⟨S1x256x2, .f32⟩
  | 28 => ⟨S1x256x2, .f32⟩
  | 29 => ⟨S1x256x2, .f32⟩
  | 30 => ⟨S1x256x2, .f32⟩
  | 31 => ⟨S1x256x2, .f32⟩
  | 32 => ⟨S1x256x2, .f32⟩
  | 33 => ⟨S1x256x2, .f32⟩
  | 34 => ⟨S1x256x2, .f32⟩
  | 35 => ⟨S1x256x2, .f32⟩
  | 36 => ⟨S1x256x2, .f32⟩
  | 37 => ⟨S1x256x2, .f32⟩
  | 38 => ⟨S1x256x2, .f32⟩
  | 39 => ⟨S12x256x2, .f32⟩
  | 40 => ⟨S1x256x2, .f32⟩
  | 41 => ⟨S1x256x2, .f32⟩
  | 42 => ⟨S1x256x2, .f32⟩
  | 43 => ⟨S1x256x2, .f32⟩
  | 44 => ⟨S1x256x2, .f32⟩
  | 45 => ⟨S1x256x2, .f32⟩
  | 46 => ⟨S1x256x2, .f32⟩
  | 47 => ⟨S1x256x2, .f32⟩
  | 48 => ⟨S1x256x2, .f32⟩
  | 49 => ⟨S1x256x2, .f32⟩
  | 50 => ⟨S1x256x2, .f32⟩
  | 51 => ⟨S1x256x2, .f32⟩
  | 52 => ⟨S12x256x2, .f32⟩
  | 53 => ⟨S1x256, .f32⟩
  | 54 => ⟨S1x256, .f32⟩
  | 55 => ⟨S1x256, .f32⟩
  | 56 => ⟨S1x256, .f32⟩
  | 57 => ⟨S1x256, .f32⟩
  | 58 => ⟨S1x256, .f32⟩
  | 59 => ⟨S1x256, .f32⟩
  | 60 => ⟨S1x256, .f32⟩
  | 61 => ⟨S1x256, .f32⟩
  | 62 => ⟨S1x256, .f32⟩
  | 63 => ⟨S1x256, .f32⟩
  | 64 => ⟨S1x256, .f32⟩
  | 65 => ⟨S12x256, .f32⟩
  | _ => ⟨S8x256x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | _ => ⟨S8x256x2, .f32⟩

abbrev bufTy : (tb : Table) → Fin (tcTables nBuf tb) → BufTy
  | .hbm, ⟨i, _⟩ => hbmTy i
  | _, _ => ⟨S8x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_cst : Ref sig .tc := ⟨.hbm, 30, rfl⟩
abbrev main_call1_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c : Ref sig .tc := ⟨.hbm, 50, rfl⟩
abbrev main_c_4 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_7 : Ref sig .tc := ⟨.hbm, 66, rfl⟩
abbrev main_c_8 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v36 : Ref sig .tc := ⟨.hbm, 73, rfl⟩
abbrev main_c_9 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_10 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_c_11 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_12 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_13 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_14 : Ref sig .tc := ⟨.hbm, 114, rfl⟩
abbrev main_call4_v0 : Ref sig .tc := ⟨.hbm, 115, rfl⟩
abbrev main_call4_v1 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_15 : Ref sig .tc := ⟨.hbm, 127, rfl⟩
abbrev main_v82 : Ref sig .tc := ⟨.hbm, 128, rfl⟩
abbrev main_c_16 : Ref sig .tc := ⟨.hbm, 129, rfl⟩
abbrev main_v83 : Ref sig .tc := ⟨.hbm, 130, rfl⟩
abbrev main_v84 : Ref sig .tc := ⟨.hbm, 131, rfl⟩
abbrev main_c_17 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_c_18 : Ref sig .tc := ⟨.hbm, 136, rfl⟩
abbrev main_v88 : Ref sig .tc := ⟨.hbm, 137, rfl⟩
abbrev main_v89 : Ref sig .tc := ⟨.hbm, 138, rfl⟩
abbrev main_c_19 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_20 : Ref sig .tc := ⟨.hbm, 178, rfl⟩
abbrev main_v128 : Ref sig .tc := ⟨.hbm, 179, rfl⟩
abbrev main_v129 : Ref sig .tc := ⟨.hbm, 180, rfl⟩
abbrev main_cst_21 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_22 : Ref sig .tc := ⟨.hbm, 186, rfl⟩
abbrev main_v134 : Ref sig .tc := ⟨.hbm, 187, rfl⟩
abbrev main_v135 : Ref sig .tc := ⟨.hbm, 188, rfl⟩
abbrev main_cst_23 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_24 : Ref sig .tc := ⟨.hbm, 195, rfl⟩
abbrev main_v141 : Ref sig .tc := ⟨.hbm, 196, rfl⟩
abbrev main_v142 : Ref sig .tc := ⟨.hbm, 197, rfl⟩
abbrev main_cst_25 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_call5_cst : Ref sig .tc := ⟨.hbm, 213, rfl⟩
abbrev main_call5_v0 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_26 : Ref sig .tc := ⟨.hbm, 225, rfl⟩
abbrev main_v167 : Ref sig .tc := ⟨.hbm, 226, rfl⟩
abbrev main_v168 : Ref sig .tc := ⟨.hbm, 227, rfl⟩
abbrev main_cst_27 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_c_28 : Ref sig .tc := ⟨.hbm, 233, rfl⟩
abbrev main_c_29 : Ref sig .tc := ⟨.hbm, 234, rfl⟩
abbrev main_call6_v0 : Ref sig .tc := ⟨.hbm, 235, rfl⟩
abbrev main_call6_v1 : Ref sig .tc := ⟨.hbm, 236, rfl⟩
abbrev main_call6_v2 : Ref sig .tc := ⟨.hbm, 237, rfl⟩
abbrev main_call6_v3 : Ref sig .tc := ⟨.hbm, 238, rfl⟩
abbrev main_call6_v4 : Ref sig .tc := ⟨.hbm, 239, rfl⟩
abbrev main_v173 : Ref sig .tc := ⟨.hbm, 240, rfl⟩
abbrev main_cst_30 : Ref sig .tc := ⟨.hbm, 241, rfl⟩
abbrev main_v174 : Ref sig .tc := ⟨.hbm, 242, rfl⟩
abbrev main_v175 : Ref sig .tc := ⟨.hbm, 243, rfl⟩
abbrev main_cst_31 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_c_32 : Ref sig .tc := ⟨.hbm, 249, rfl⟩
abbrev main_c_33 : Ref sig .tc := ⟨.hbm, 250, rfl⟩
abbrev main_call7_v0 : Ref sig .tc := ⟨.hbm, 251, rfl⟩
abbrev main_call7_v1 : Ref sig .tc := ⟨.hbm, 252, rfl⟩
abbrev main_call7_v2 : Ref sig .tc := ⟨.hbm, 253, rfl⟩
abbrev main_call7_v3 : Ref sig .tc := ⟨.hbm, 254, rfl⟩
abbrev main_call7_v4 : Ref sig .tc := ⟨.hbm, 255, rfl⟩
abbrev main_v180 : Ref sig .tc := ⟨.hbm, 256, rfl⟩
abbrev main_c_34 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_c_35 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_c_36 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_cst_37 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_cst_38 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_c_39 : Ref sig .tc := ⟨.hbm, 297, rfl⟩
abbrev main_call8_v0 : Ref sig .tc := ⟨.hbm, 298, rfl⟩
abbrev main_call8_v1 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_cst_40 : Ref sig .tc := ⟨.hbm, 310, rfl⟩
abbrev main_v226 : Ref sig .tc := ⟨.hbm, 311, rfl⟩
abbrev main_c_41 : Ref sig .tc := ⟨.hbm, 312, rfl⟩
abbrev main_v227 : Ref sig .tc := ⟨.hbm, 313, rfl⟩
abbrev main_v228 : Ref sig .tc := ⟨.hbm, 314, rfl⟩
abbrev main_c_42 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_c_43 : Ref sig .tc := ⟨.hbm, 319, rfl⟩
abbrev main_v232 : Ref sig .tc := ⟨.hbm, 320, rfl⟩
abbrev main_v233 : Ref sig .tc := ⟨.hbm, 321, rfl⟩
abbrev main_c_44 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_cst_45 : Ref sig .tc := ⟨.hbm, 361, rfl⟩
abbrev main_v272 : Ref sig .tc := ⟨.hbm, 362, rfl⟩
abbrev main_v273 : Ref sig .tc := ⟨.hbm, 363, rfl⟩
abbrev main_cst_46 : Ref sig .tc := ⟨.hbm, 364, rfl⟩
abbrev main_v274 : Ref sig .tc := ⟨.hbm, 365, rfl⟩
abbrev main_v275 : Ref sig .tc := ⟨.hbm, 366, rfl⟩
abbrev main_v276 : Ref sig .tc := ⟨.hbm, 367, rfl⟩
abbrev main_v277 : Ref sig .tc := ⟨.hbm, 368, rfl⟩
abbrev main_cst_47 : Ref sig .tc := ⟨.hbm, 369, rfl⟩
abbrev main_v278 : Ref sig .tc := ⟨.hbm, 370, rfl⟩
abbrev main_v279 : Ref sig .tc := ⟨.hbm, 371, rfl⟩
abbrev main_cst_48 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_cst_49 : Ref sig .tc := ⟨.hbm, 378, rfl⟩
abbrev main_v285 : Ref sig .tc := ⟨.hbm, 379, rfl⟩
abbrev main_v286 : Ref sig .tc := ⟨.hbm, 380, rfl⟩
abbrev main_cst_50 : Ref sig .tc := ⟨.hbm, 381, rfl⟩
abbrev main_v287 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_v296 : Ref sig .tc := ⟨.hbm, 391, rfl⟩
abbrev main_v297 : Ref sig .tc := ⟨.hbm, 392, rfl⟩
abbrev main_v298 : Ref sig .tc := ⟨.hbm, 393, rfl⟩
abbrev main_v299 : Ref sig .tc := ⟨.hbm, 394, rfl⟩
abbrev main_v300 : Ref sig .tc := ⟨.hbm, 395, rfl⟩
abbrev main_call9_cst : Ref sig .tc := ⟨.hbm, 396, rfl⟩
abbrev main_call9_v0 : Ref sig .tc := ⟨.hbm, 397, rfl⟩
abbrev main_v301 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩
abbrev main_v307 : Ref sig .tc := ⟨.hbm, 404, rfl⟩
abbrev main_v308 : Ref sig .tc := ⟨.hbm, 405, rfl⟩
abbrev main_v309 : Ref sig .tc := ⟨.hbm, 406, rfl⟩
abbrev main_v310 : Ref sig .tc := ⟨.hbm, 407, rfl⟩
abbrev main_cst_51 : Ref sig .tc := ⟨.hbm, 408, rfl⟩
abbrev main_v311 : Ref sig .tc := ⟨.hbm, 409, rfl⟩
abbrev main_v312 : Ref sig .tc := ⟨.hbm, 410, rfl⟩
abbrev main_cst_52 : Ref sig .tc := ⟨.hbm, 411, rfl⟩
abbrev main_v313 : Ref sig .tc := ⟨.hbm, 412, rfl⟩
abbrev main_v314 : Ref sig .tc := ⟨.hbm, 413, rfl⟩
abbrev main_v315 : Ref sig .tc := ⟨.hbm, 414, rfl⟩
abbrev main_v316 : Ref sig .tc := ⟨.hbm, 415, rfl⟩
abbrev main_c_53 : Ref sig .tc := ⟨.hbm, 416, rfl⟩
abbrev main_c_54 : Ref sig .tc := ⟨.hbm, 417, rfl⟩
abbrev main_call10_v0 : Ref sig .tc := ⟨.hbm, 418, rfl⟩
abbrev main_call10_v1 : Ref sig .tc := ⟨.hbm, 419, rfl⟩
abbrev main_call10_v2 : Ref sig .tc := ⟨.hbm, 420, rfl⟩
abbrev main_call10_v3 : Ref sig .tc := ⟨.hbm, 421, rfl⟩
abbrev main_call10_v4 : Ref sig .tc := ⟨.hbm, 422, rfl⟩
abbrev main_v317 : Ref sig .tc := ⟨.hbm, 423, rfl⟩
abbrev main_cst_55 : Ref sig .tc := ⟨.hbm, 424, rfl⟩
abbrev main_v318 : Ref sig .tc := ⟨.hbm, 425, rfl⟩
abbrev main_v319 : Ref sig .tc := ⟨.hbm, 426, rfl⟩
abbrev main_cst_56 : Ref sig .tc := ⟨.hbm, 427, rfl⟩
abbrev main_v320 : Ref sig .tc := ⟨.hbm, 428, rfl⟩
abbrev main_v321 : Ref sig .tc := ⟨.hbm, 429, rfl⟩
abbrev main_v322 : Ref sig .tc := ⟨.hbm, 430, rfl⟩
abbrev main_v323 : Ref sig .tc := ⟨.hbm, 431, rfl⟩
abbrev main_c_57 : Ref sig .tc := ⟨.hbm, 432, rfl⟩
abbrev main_c_58 : Ref sig .tc := ⟨.hbm, 433, rfl⟩
abbrev main_call11_v0 : Ref sig .tc := ⟨.hbm, 434, rfl⟩
abbrev main_call11_v1 : Ref sig .tc := ⟨.hbm, 435, rfl⟩
abbrev main_call11_v2 : Ref sig .tc := ⟨.hbm, 436, rfl⟩
abbrev main_call11_v3 : Ref sig .tc := ⟨.hbm, 437, rfl⟩
abbrev main_call11_v4 : Ref sig .tc := ⟨.hbm, 438, rfl⟩
abbrev main_v324 : Ref sig .tc := ⟨.hbm, 439, rfl⟩
abbrev main_c_59 : Ref sig .tc := ⟨.hbm, 440, rfl⟩
abbrev main_v325 : Ref sig .tc := ⟨.hbm, 441, rfl⟩
abbrev main_v326 : Ref sig .tc := ⟨.hbm, 442, rfl⟩
abbrev main_v327 : Ref sig .tc := ⟨.hbm, 443, rfl⟩
abbrev main_v328 : Ref sig .tc := ⟨.hbm, 444, rfl⟩
abbrev main_v329 : Ref sig .tc := ⟨.hbm, 445, rfl⟩
abbrev main_c_60 : Ref sig .tc := ⟨.hbm, 446, rfl⟩
abbrev main_v330 : Ref sig .tc := ⟨.hbm, 447, rfl⟩
abbrev main_v331 : Ref sig .tc := ⟨.hbm, 448, rfl⟩
abbrev main_v332 : Ref sig .tc := ⟨.hbm, 449, rfl⟩
abbrev main_v333 : Ref sig .tc := ⟨.hbm, 450, rfl⟩
abbrev main_c_61 : Ref sig .tc := ⟨.hbm, 451, rfl⟩
abbrev main_v334 : Ref sig .tc := ⟨.hbm, 452, rfl⟩
abbrev main_v335 : Ref sig .tc := ⟨.hbm, 453, rfl⟩
abbrev main_v336 : Ref sig .tc := ⟨.hbm, 454, rfl⟩
abbrev main_v337 : Ref sig .tc := ⟨.hbm, 455, rfl⟩
abbrev main_v338 : Ref sig .tc := ⟨.hbm, 456, rfl⟩
abbrev main_v339 : Ref sig .tc := ⟨.hbm, 457, rfl⟩
abbrev main_v340 : Ref sig .tc := ⟨.hbm, 458, rfl⟩
abbrev main_v341 : Ref sig .tc := ⟨.hbm, 459, rfl⟩
abbrev main_v342 : Ref sig .tc := ⟨.hbm, 460, rfl⟩
abbrev main_cst_62 : Ref sig .tc := ⟨.hbm, 461, rfl⟩
abbrev main_v343 : Ref sig .tc := ⟨.hbm, 462, rfl⟩
abbrev main_v344 : Ref sig .tc := ⟨.hbm, 463, rfl⟩
abbrev main_v345 : Ref sig .tc := ⟨.hbm, 464, rfl⟩
abbrev main_v346 : Ref sig .tc := ⟨.hbm, 465, rfl⟩
abbrev main_cst_63 : Ref sig .tc := ⟨.hbm, 466, rfl⟩
abbrev main_v347 : Ref sig .tc := ⟨.hbm, 467, rfl⟩
abbrev main_v348 : Ref sig .tc := ⟨.hbm, 468, rfl⟩
abbrev main_v349 : Ref sig .tc := ⟨.hbm, 469, rfl⟩
abbrev main_v350 : Ref sig .tc := ⟨.hbm, 470, rfl⟩
abbrev main_v351 : Ref sig .tc := ⟨.hbm, 471, rfl⟩
abbrev main_v352 : Ref sig .tc := ⟨.hbm, 472, rfl⟩
abbrev main_v353 : Ref sig .tc := ⟨.hbm, 473, rfl⟩
abbrev main_v354 : Ref sig .tc := ⟨.hbm, 474, rfl⟩
abbrev main_v355 : Ref sig .tc := ⟨.hbm, 475, rfl⟩
abbrev main_v356 : Ref sig .tc := ⟨.hbm, 476, rfl⟩
abbrev main_v357 : Ref sig .tc := ⟨.hbm, 477, rfl⟩
abbrev main_v358 : Ref sig .tc := ⟨.hbm, 478, rfl⟩
abbrev main_v359 : Ref sig .tc := ⟨.hbm, 479, rfl⟩
abbrev main_c_64 : Ref sig .tc := ⟨.hbm, 480, rfl⟩
abbrev main_call12_v0 : Ref sig .tc := ⟨.hbm, 481, rfl⟩
abbrev main_call12_v1 : Ref sig .tc := ⟨.hbm, 482, rfl⟩
abbrev main_v360 : Ref sig .tc := ⟨.hbm, 483, rfl⟩
abbrev main_v361 : Ref sig .tc := ⟨.hbm, 484, rfl⟩
abbrev main_v362 : Ref sig .tc := ⟨.hbm, 485, rfl⟩
abbrev main_v363 : Ref sig .tc := ⟨.hbm, 486, rfl⟩
abbrev main_v364 : Ref sig .tc := ⟨.hbm, 487, rfl⟩
abbrev main_v365 : Ref sig .tc := ⟨.hbm, 488, rfl⟩
abbrev main_v366 : Ref sig .tc := ⟨.hbm, 489, rfl⟩
abbrev main_v367 : Ref sig .tc := ⟨.hbm, 490, rfl⟩
abbrev main_v368 : Ref sig .tc := ⟨.hbm, 491, rfl⟩
abbrev main_v369 : Ref sig .tc := ⟨.hbm, 492, rfl⟩
abbrev main_cst_65 : Ref sig .tc := ⟨.hbm, 493, rfl⟩
abbrev main_v370 : Ref sig .tc := ⟨.hbm, 494, rfl⟩
abbrev main_c_66 : Ref sig .tc := ⟨.hbm, 495, rfl⟩
abbrev main_v371 : Ref sig .tc := ⟨.hbm, 496, rfl⟩
abbrev main_v372 : Ref sig .tc := ⟨.hbm, 497, rfl⟩
abbrev main_c_67 : Ref sig .tc := ⟨.hbm, 498, rfl⟩
abbrev main_v373 : Ref sig .tc := ⟨.hbm, 499, rfl⟩
abbrev main_v374 : Ref sig .tc := ⟨.hbm, 500, rfl⟩
abbrev main_v375 : Ref sig .tc := ⟨.hbm, 501, rfl⟩
abbrev main_c_68 : Ref sig .tc := ⟨.hbm, 502, rfl⟩
abbrev main_v376 : Ref sig .tc := ⟨.hbm, 503, rfl⟩
abbrev main_v377 : Ref sig .tc := ⟨.hbm, 504, rfl⟩
abbrev main_c_69 : Ref sig .tc := ⟨.hbm, 505, rfl⟩
abbrev main_v378 : Ref sig .tc := ⟨.hbm, 506, rfl⟩
abbrev main_v379 : Ref sig .tc := ⟨.hbm, 507, rfl⟩
abbrev main_v380 : Ref sig .tc := ⟨.hbm, 508, rfl⟩
abbrev main_v381 : Ref sig .tc := ⟨.hbm, 509, rfl⟩
abbrev main_v382 : Ref sig .tc := ⟨.hbm, 510, rfl⟩
abbrev main_v383 : Ref sig .tc := ⟨.hbm, 511, rfl⟩
abbrev main_v384 : Ref sig .tc := ⟨.hbm, 512, rfl⟩
abbrev main_v385 : Ref sig .tc := ⟨.hbm, 513, rfl⟩
abbrev main_v386 : Ref sig .tc := ⟨.hbm, 514, rfl⟩
abbrev main_v387 : Ref sig .tc := ⟨.hbm, 515, rfl⟩
abbrev main_v388 : Ref sig .tc := ⟨.hbm, 516, rfl⟩
abbrev main_v389 : Ref sig .tc := ⟨.hbm, 517, rfl⟩
abbrev main_v390 : Ref sig .tc := ⟨.hbm, 518, rfl⟩
abbrev main_v391 : Ref sig .tc := ⟨.hbm, 519, rfl⟩
abbrev main_v392 : Ref sig .tc := ⟨.hbm, 520, rfl⟩
abbrev main_v393 : Ref sig .tc := ⟨.hbm, 521, rfl⟩
abbrev main_v394 : Ref sig .tc := ⟨.hbm, 522, rfl⟩
abbrev main_v395 : Ref sig .tc := ⟨.hbm, 523, rfl⟩
abbrev main_v396 : Ref sig .tc := ⟨.hbm, 524, rfl⟩
abbrev main_v397 : Ref sig .tc := ⟨.hbm, 525, rfl⟩
abbrev main_v398 : Ref sig .tc := ⟨.hbm, 526, rfl⟩
abbrev main_v399 : Ref sig .tc := ⟨.hbm, 527, rfl⟩
abbrev main_v400 : Ref sig .tc := ⟨.hbm, 528, rfl⟩
abbrev main_v401 : Ref sig .tc := ⟨.hbm, 529, rfl⟩
abbrev main_v402 : Ref sig .tc := ⟨.hbm, 530, rfl⟩
abbrev main_v403 : Ref sig .tc := ⟨.hbm, 531, rfl⟩
abbrev main_v404 : Ref sig .tc := ⟨.hbm, 532, rfl⟩
abbrev main_v405 : Ref sig .tc := ⟨.hbm, 533, rfl⟩
abbrev main_v406 : Ref sig .tc := ⟨.hbm, 534, rfl⟩
abbrev main_v407 : Ref sig .tc := ⟨.hbm, 535, rfl⟩
abbrev main_v408 : Ref sig .tc := ⟨.hbm, 536, rfl⟩
abbrev main_v409 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_cst_70 : Ref sig .tc := ⟨.hbm, 544, rfl⟩
abbrev main_v416 : Ref sig .tc := ⟨.hbm, 545, rfl⟩
abbrev main_v417 : Ref sig .tc := ⟨.hbm, 546, rfl⟩
abbrev main_cst_71 : Ref sig .tc := ⟨.hbm, 547, rfl⟩
abbrev main_v418 : Ref sig .tc := ⟨.hbm, 548, rfl⟩
abbrev main_v419 : Ref sig .tc := ⟨.hbm, 549, rfl⟩
abbrev main_v420 : Ref sig .tc := ⟨.hbm, 550, rfl⟩
abbrev main_v421 : Ref sig .tc := ⟨.hbm, 551, rfl⟩
abbrev main_cst_72 : Ref sig .tc := ⟨.hbm, 552, rfl⟩
abbrev main_v422 : Ref sig .tc := ⟨.hbm, 553, rfl⟩
abbrev main_v423 : Ref sig .tc := ⟨.hbm, 554, rfl⟩
abbrev main_cst_73 : Ref sig .tc := ⟨.hbm, 555, rfl⟩
abbrev main_v424 : Ref sig .tc := ⟨.hbm, 556, rfl⟩
abbrev main_v425 : Ref sig .tc := ⟨.hbm, 557, rfl⟩
abbrev main_v426 : Ref sig .tc := ⟨.hbm, 558, rfl⟩
abbrev main_v427 : Ref sig .tc := ⟨.hbm, 559, rfl⟩
abbrev main_v428 : Ref sig .tc := ⟨.hbm, 560, rfl⟩
abbrev main_cst_74 : Ref sig .tc := ⟨.hbm, 561, rfl⟩
abbrev main_v429 : Ref sig .tc := ⟨.hbm, 562, rfl⟩
abbrev main_v430 : Ref sig .tc := ⟨.hbm, 563, rfl⟩
abbrev main_cst_75 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_v437 : Ref sig .tc := ⟨.hbm, 571, rfl⟩
abbrev main_v438 : Ref sig .tc := ⟨.hbm, 572, rfl⟩
abbrev main_v439 : Ref sig .tc := ⟨.hbm, 573, rfl⟩
abbrev main_v440 : Ref sig .tc := ⟨.hbm, 574, rfl⟩
abbrev main_v441 : Ref sig .tc := ⟨.hbm, 575, rfl⟩
abbrev main_v442 : Ref sig .tc := ⟨.hbm, 576, rfl⟩
abbrev main_v443 : Ref sig .tc := ⟨.hbm, 577, rfl⟩
abbrev main_v444 : Ref sig .tc := ⟨.hbm, 578, rfl⟩
abbrev main_call13_cst : Ref sig .tc := ⟨.hbm, 579, rfl⟩
abbrev main_call13_v0 : Ref sig .tc := ⟨.hbm, 580, rfl⟩
abbrev main_v445 : Ref sig .tc := ⟨.hbm, 581, rfl⟩
abbrev main_v446 : Ref sig .tc := ⟨.hbm, 582, rfl⟩
abbrev main_v447 : Ref sig .tc := ⟨.hbm, 583, rfl⟩
abbrev main_v448 : Ref sig .tc := ⟨.hbm, 584, rfl⟩
abbrev main_v449 : Ref sig .tc := ⟨.hbm, 585, rfl⟩
abbrev main_v450 : Ref sig .tc := ⟨.hbm, 586, rfl⟩
abbrev main_v451 : Ref sig .tc := ⟨.hbm, 587, rfl⟩
abbrev main_v452 : Ref sig .tc := ⟨.hbm, 588, rfl⟩
abbrev main_v453 : Ref sig .tc := ⟨.hbm, 589, rfl⟩
abbrev main_v454 : Ref sig .tc := ⟨.hbm, 590, rfl⟩
abbrev main_cst_76 : Ref sig .tc := ⟨.hbm, 591, rfl⟩
abbrev main_v455 : Ref sig .tc := ⟨.hbm, 592, rfl⟩
abbrev main_v456 : Ref sig .tc := ⟨.hbm, 593, rfl⟩
abbrev main_cst_77 : Ref sig .tc := ⟨.hbm, 594, rfl⟩
abbrev main_v457 : Ref sig .tc := ⟨.hbm, 595, rfl⟩
abbrev main_v458 : Ref sig .tc := ⟨.hbm, 596, rfl⟩
abbrev main_v459 : Ref sig .tc := ⟨.hbm, 597, rfl⟩
abbrev main_v460 : Ref sig .tc := ⟨.hbm, 598, rfl⟩
abbrev main_c_78 : Ref sig .tc := ⟨.hbm, 599, rfl⟩
abbrev main_c_79 : Ref sig .tc := ⟨.hbm, 600, rfl⟩
abbrev main_call14_v0 : Ref sig .tc := ⟨.hbm, 601, rfl⟩
abbrev main_call14_v1 : Ref sig .tc := ⟨.hbm, 602, rfl⟩
abbrev main_call14_v2 : Ref sig .tc := ⟨.hbm, 603, rfl⟩
abbrev main_call14_v3 : Ref sig .tc := ⟨.hbm, 604, rfl⟩
abbrev main_call14_v4 : Ref sig .tc := ⟨.hbm, 605, rfl⟩
abbrev main_v461 : Ref sig .tc := ⟨.hbm, 606, rfl⟩
abbrev main_cst_80 : Ref sig .tc := ⟨.hbm, 607, rfl⟩
abbrev main_v462 : Ref sig .tc := ⟨.hbm, 608, rfl⟩
abbrev main_v463 : Ref sig .tc := ⟨.hbm, 609, rfl⟩
abbrev main_cst_81 : Ref sig .tc := ⟨.hbm, 610, rfl⟩
abbrev main_v464 : Ref sig .tc := ⟨.hbm, 611, rfl⟩
abbrev main_v465 : Ref sig .tc := ⟨.hbm, 612, rfl⟩
abbrev main_v466 : Ref sig .tc := ⟨.hbm, 613, rfl⟩
abbrev main_v467 : Ref sig .tc := ⟨.hbm, 614, rfl⟩
abbrev main_c_82 : Ref sig .tc := ⟨.hbm, 615, rfl⟩
abbrev main_c_83 : Ref sig .tc := ⟨.hbm, 616, rfl⟩
abbrev main_call15_v0 : Ref sig .tc := ⟨.hbm, 617, rfl⟩
abbrev main_call15_v1 : Ref sig .tc := ⟨.hbm, 618, rfl⟩
abbrev main_call15_v2 : Ref sig .tc := ⟨.hbm, 619, rfl⟩
abbrev main_call15_v3 : Ref sig .tc := ⟨.hbm, 620, rfl⟩
abbrev main_call15_v4 : Ref sig .tc := ⟨.hbm, 621, rfl⟩
abbrev main_v468 : Ref sig .tc := ⟨.hbm, 622, rfl⟩
abbrev main_c_84 : Ref sig .tc := ⟨.hbm, 623, rfl⟩
abbrev main_v469 : Ref sig .tc := ⟨.hbm, 624, rfl⟩
abbrev main_v470 : Ref sig .tc := ⟨.hbm, 625, rfl⟩
abbrev main_v471 : Ref sig .tc := ⟨.hbm, 626, rfl⟩
abbrev main_v472 : Ref sig .tc := ⟨.hbm, 627, rfl⟩
abbrev main_v473 : Ref sig .tc := ⟨.hbm, 628, rfl⟩
abbrev main_c_85 : Ref sig .tc := ⟨.hbm, 629, rfl⟩
abbrev main_v474 : Ref sig .tc := ⟨.hbm, 630, rfl⟩
abbrev main_v475 : Ref sig .tc := ⟨.hbm, 631, rfl⟩
abbrev main_v476 : Ref sig .tc := ⟨.hbm, 632, rfl⟩
abbrev main_v477 : Ref sig .tc := ⟨.hbm, 633, rfl⟩
abbrev main_c_86 : Ref sig .tc := ⟨.hbm, 634, rfl⟩
abbrev main_v478 : Ref sig .tc := ⟨.hbm, 635, rfl⟩
abbrev main_v479 : Ref sig .tc := ⟨.hbm, 636, rfl⟩
abbrev main_v480 : Ref sig .tc := ⟨.hbm, 637, rfl⟩
abbrev main_v481 : Ref sig .tc := ⟨.hbm, 638, rfl⟩
abbrev main_v482 : Ref sig .tc := ⟨.hbm, 639, rfl⟩
abbrev main_v483 : Ref sig .tc := ⟨.hbm, 640, rfl⟩
abbrev main_v484 : Ref sig .tc := ⟨.hbm, 641, rfl⟩
abbrev main_v485 : Ref sig .tc := ⟨.hbm, 642, rfl⟩
abbrev main_v486 : Ref sig .tc := ⟨.hbm, 643, rfl⟩
abbrev main_cst_87 : Ref sig .tc := ⟨.hbm, 644, rfl⟩
abbrev main_v487 : Ref sig .tc := ⟨.hbm, 645, rfl⟩
abbrev main_v488 : Ref sig .tc := ⟨.hbm, 646, rfl⟩
abbrev main_v489 : Ref sig .tc := ⟨.hbm, 647, rfl⟩
abbrev main_v490 : Ref sig .tc := ⟨.hbm, 648, rfl⟩
abbrev main_cst_88 : Ref sig .tc := ⟨.hbm, 649, rfl⟩
abbrev main_v491 : Ref sig .tc := ⟨.hbm, 650, rfl⟩
abbrev main_v492 : Ref sig .tc := ⟨.hbm, 651, rfl⟩
abbrev main_v493 : Ref sig .tc := ⟨.hbm, 652, rfl⟩
abbrev main_v494 : Ref sig .tc := ⟨.hbm, 653, rfl⟩
abbrev main_v495 : Ref sig .tc := ⟨.hbm, 654, rfl⟩
abbrev main_v496 : Ref sig .tc := ⟨.hbm, 655, rfl⟩
abbrev main_v497 : Ref sig .tc := ⟨.hbm, 656, rfl⟩
abbrev main_v498 : Ref sig .tc := ⟨.hbm, 657, rfl⟩
abbrev main_v499 : Ref sig .tc := ⟨.hbm, 658, rfl⟩
abbrev main_v500 : Ref sig .tc := ⟨.hbm, 659, rfl⟩
abbrev main_v501 : Ref sig .tc := ⟨.hbm, 660, rfl⟩
abbrev main_v502 : Ref sig .tc := ⟨.hbm, 661, rfl⟩
abbrev main_v503 : Ref sig .tc := ⟨.hbm, 662, rfl⟩
abbrev main_c_89 : Ref sig .tc := ⟨.hbm, 663, rfl⟩
abbrev main_call16_v0 : Ref sig .tc := ⟨.hbm, 664, rfl⟩
abbrev main_call16_v1 : Ref sig .tc := ⟨.hbm, 665, rfl⟩
abbrev main_v504 : Ref sig .tc := ⟨.hbm, 666, rfl⟩
abbrev main_v505 : Ref sig .tc := ⟨.hbm, 667, rfl⟩
abbrev main_v506 : Ref sig .tc := ⟨.hbm, 668, rfl⟩
abbrev main_v507 : Ref sig .tc := ⟨.hbm, 669, rfl⟩
abbrev main_v508 : Ref sig .tc := ⟨.hbm, 670, rfl⟩
abbrev main_v509 : Ref sig .tc := ⟨.hbm, 671, rfl⟩
abbrev main_v510 : Ref sig .tc := ⟨.hbm, 672, rfl⟩
abbrev main_v511 : Ref sig .tc := ⟨.hbm, 673, rfl⟩
abbrev main_v512 : Ref sig .tc := ⟨.hbm, 674, rfl⟩
abbrev main_v513 : Ref sig .tc := ⟨.hbm, 675, rfl⟩
abbrev main_cst_90 : Ref sig .tc := ⟨.hbm, 676, rfl⟩
abbrev main_v514 : Ref sig .tc := ⟨.hbm, 677, rfl⟩
abbrev main_c_91 : Ref sig .tc := ⟨.hbm, 678, rfl⟩
abbrev main_v515 : Ref sig .tc := ⟨.hbm, 679, rfl⟩
abbrev main_v516 : Ref sig .tc := ⟨.hbm, 680, rfl⟩
abbrev main_c_92 : Ref sig .tc := ⟨.hbm, 681, rfl⟩
abbrev main_v517 : Ref sig .tc := ⟨.hbm, 682, rfl⟩
abbrev main_v518 : Ref sig .tc := ⟨.hbm, 683, rfl⟩
abbrev main_v519 : Ref sig .tc := ⟨.hbm, 684, rfl⟩
abbrev main_c_93 : Ref sig .tc := ⟨.hbm, 685, rfl⟩
abbrev main_v520 : Ref sig .tc := ⟨.hbm, 686, rfl⟩
abbrev main_v521 : Ref sig .tc := ⟨.hbm, 687, rfl⟩
abbrev main_c_94 : Ref sig .tc := ⟨.hbm, 688, rfl⟩
abbrev main_v522 : Ref sig .tc := ⟨.hbm, 689, rfl⟩
abbrev main_v523 : Ref sig .tc := ⟨.hbm, 690, rfl⟩
abbrev main_v524 : Ref sig .tc := ⟨.hbm, 691, rfl⟩
abbrev main_v525 : Ref sig .tc := ⟨.hbm, 692, rfl⟩
abbrev main_v526 : Ref sig .tc := ⟨.hbm, 693, rfl⟩
abbrev main_v527 : Ref sig .tc := ⟨.hbm, 694, rfl⟩
abbrev main_v528 : Ref sig .tc := ⟨.hbm, 695, rfl⟩
abbrev main_v529 : Ref sig .tc := ⟨.hbm, 696, rfl⟩
abbrev main_v530 : Ref sig .tc := ⟨.hbm, 697, rfl⟩
abbrev main_v531 : Ref sig .tc := ⟨.hbm, 698, rfl⟩
abbrev main_v532 : Ref sig .tc := ⟨.hbm, 699, rfl⟩
abbrev main_v533 : Ref sig .tc := ⟨.hbm, 700, rfl⟩
abbrev main_v534 : Ref sig .tc := ⟨.hbm, 701, rfl⟩
abbrev main_v535 : Ref sig .tc := ⟨.hbm, 702, rfl⟩
abbrev main_v536 : Ref sig .tc := ⟨.hbm, 703, rfl⟩
abbrev main_v537 : Ref sig .tc := ⟨.hbm, 704, rfl⟩
abbrev main_v538 : Ref sig .tc := ⟨.hbm, 705, rfl⟩
abbrev main_v539 : Ref sig .tc := ⟨.hbm, 706, rfl⟩
abbrev main_v540 : Ref sig .tc := ⟨.hbm, 707, rfl⟩
abbrev main_v541 : Ref sig .tc := ⟨.hbm, 708, rfl⟩
abbrev main_v542 : Ref sig .tc := ⟨.hbm, 709, rfl⟩
abbrev main_v543 : Ref sig .tc := ⟨.hbm, 710, rfl⟩
abbrev main_v544 : Ref sig .tc := ⟨.hbm, 711, rfl⟩
abbrev main_v545 : Ref sig .tc := ⟨.hbm, 712, rfl⟩
abbrev main_v546 : Ref sig .tc := ⟨.hbm, 713, rfl⟩
abbrev main_v547 : Ref sig .tc := ⟨.hbm, 714, rfl⟩
abbrev main_v548 : Ref sig .tc := ⟨.hbm, 715, rfl⟩
abbrev main_v549 : Ref sig .tc := ⟨.hbm, 716, rfl⟩
abbrev main_v550 : Ref sig .tc := ⟨.hbm, 717, rfl⟩
abbrev main_v551 : Ref sig .tc := ⟨.hbm, 718, rfl⟩
abbrev main_v552 : Ref sig .tc := ⟨.hbm, 719, rfl⟩
abbrev main_v553 : Ref sig .tc := ⟨.hbm, 720, rfl⟩
abbrev main_v554 : Ref sig .tc := ⟨.hbm, 721, rfl⟩
abbrev main_v555 : Ref sig .tc := ⟨.hbm, 722, rfl⟩
abbrev main_v556 : Ref sig .tc := ⟨.hbm, 723, rfl⟩
abbrev main_v557 : Ref sig .tc := ⟨.hbm, 724, rfl⟩
abbrev main_v558 : Ref sig .tc := ⟨.hbm, 725, rfl⟩
abbrev main_v559 : Ref sig .tc := ⟨.hbm, 726, rfl⟩
abbrev main_cst_95 : Ref sig .tc := ⟨.hbm, 727, rfl⟩
abbrev main_v560 : Ref sig .tc := ⟨.hbm, 728, rfl⟩
abbrev main_v561 : Ref sig .tc := ⟨.hbm, 729, rfl⟩
abbrev main_cst_96 : Ref sig .tc := ⟨.hbm, 730, rfl⟩
abbrev main_v562 : Ref sig .tc := ⟨.hbm, 731, rfl⟩
abbrev main_v563 : Ref sig .tc := ⟨.hbm, 732, rfl⟩
abbrev main_v564 : Ref sig .tc := ⟨.hbm, 733, rfl⟩
abbrev main_v565 : Ref sig .tc := ⟨.hbm, 734, rfl⟩
abbrev main_cst_97 : Ref sig .tc := ⟨.hbm, 735, rfl⟩
abbrev main_v566 : Ref sig .tc := ⟨.hbm, 736, rfl⟩
abbrev main_v567 : Ref sig .tc := ⟨.hbm, 737, rfl⟩
abbrev main_cst_98 : Ref sig .tc := ⟨.hbm, 738, rfl⟩
abbrev main_v568 : Ref sig .tc := ⟨.hbm, 739, rfl⟩
abbrev main_v569 : Ref sig .tc := ⟨.hbm, 740, rfl⟩
abbrev main_v570 : Ref sig .tc := ⟨.hbm, 741, rfl⟩
abbrev main_v571 : Ref sig .tc := ⟨.hbm, 742, rfl⟩
abbrev main_v572 : Ref sig .tc := ⟨.hbm, 743, rfl⟩
abbrev main_cst_99 : Ref sig .tc := ⟨.hbm, 744, rfl⟩
abbrev main_v573 : Ref sig .tc := ⟨.hbm, 745, rfl⟩
abbrev main_v574 : Ref sig .tc := ⟨.hbm, 746, rfl⟩
abbrev main_cst_100 : Ref sig .tc := ⟨.hbm, 747, rfl⟩
abbrev main_v575 : Ref sig .tc := ⟨.hbm, 748, rfl⟩
abbrev main_v576 : Ref sig .tc := ⟨.hbm, 749, rfl⟩
abbrev main_v577 : Ref sig .tc := ⟨.hbm, 750, rfl⟩
abbrev main_v578 : Ref sig .tc := ⟨.hbm, 751, rfl⟩
abbrev main_v579 : Ref sig .tc := ⟨.hbm, 752, rfl⟩
abbrev main_v580 : Ref sig .tc := ⟨.hbm, 753, rfl⟩
abbrev main_v581 : Ref sig .tc := ⟨.hbm, 754, rfl⟩
abbrev main_v582 : Ref sig .tc := ⟨.hbm, 755, rfl⟩
abbrev main_v583 : Ref sig .tc := ⟨.hbm, 756, rfl⟩
abbrev main_v584 : Ref sig .tc := ⟨.hbm, 757, rfl⟩
abbrev main_v585 : Ref sig .tc := ⟨.hbm, 758, rfl⟩
abbrev main_v586 : Ref sig .tc := ⟨.hbm, 759, rfl⟩
abbrev main_v587 : Ref sig .tc := ⟨.hbm, 760, rfl⟩
abbrev main_v588 : Ref sig .tc := ⟨.hbm, 761, rfl⟩
abbrev main_call17_cst : Ref sig .tc := ⟨.hbm, 762, rfl⟩
abbrev main_call17_v0 : Ref sig .tc := ⟨.hbm, 763, rfl⟩
abbrev main_v589 : Ref sig .tc := ⟨.hbm, 764, rfl⟩
abbrev main_v590 : Ref sig .tc := ⟨.hbm, 765, rfl⟩
abbrev main_v591 : Ref sig .tc := ⟨.hbm, 766, rfl⟩
abbrev main_v592 : Ref sig .tc := ⟨.hbm, 767, rfl⟩
abbrev main_v593 : Ref sig .tc := ⟨.hbm, 768, rfl⟩
abbrev main_v594 : Ref sig .tc := ⟨.hbm, 769, rfl⟩
abbrev main_v595 : Ref sig .tc := ⟨.hbm, 770, rfl⟩
abbrev main_v596 : Ref sig .tc := ⟨.hbm, 771, rfl⟩
abbrev main_v597 : Ref sig .tc := ⟨.hbm, 772, rfl⟩
abbrev main_v598 : Ref sig .tc := ⟨.hbm, 773, rfl⟩
abbrev main_cst_101 : Ref sig .tc := ⟨.hbm, 774, rfl⟩
abbrev main_v599 : Ref sig .tc := ⟨.hbm, 775, rfl⟩
abbrev main_v600 : Ref sig .tc := ⟨.hbm, 776, rfl⟩
abbrev main_cst_102 : Ref sig .tc := ⟨.hbm, 777, rfl⟩
abbrev main_v601 : Ref sig .tc := ⟨.hbm, 778, rfl⟩
abbrev main_v602 : Ref sig .tc := ⟨.hbm, 779, rfl⟩
abbrev main_v603 : Ref sig .tc := ⟨.hbm, 780, rfl⟩
abbrev main_v604 : Ref sig .tc := ⟨.hbm, 781, rfl⟩
abbrev main_c_103 : Ref sig .tc := ⟨.hbm, 782, rfl⟩
abbrev main_c_104 : Ref sig .tc := ⟨.hbm, 783, rfl⟩
abbrev main_call18_v0 : Ref sig .tc := ⟨.hbm, 784, rfl⟩
abbrev main_call18_v1 : Ref sig .tc := ⟨.hbm, 785, rfl⟩
abbrev main_call18_v2 : Ref sig .tc := ⟨.hbm, 786, rfl⟩
abbrev main_call18_v3 : Ref sig .tc := ⟨.hbm, 787, rfl⟩
abbrev main_call18_v4 : Ref sig .tc := ⟨.hbm, 788, rfl⟩
abbrev main_v605 : Ref sig .tc := ⟨.hbm, 789, rfl⟩
abbrev main_cst_105 : Ref sig .tc := ⟨.hbm, 790, rfl⟩
abbrev main_v606 : Ref sig .tc := ⟨.hbm, 791, rfl⟩
abbrev main_v607 : Ref sig .tc := ⟨.hbm, 792, rfl⟩
abbrev main_cst_106 : Ref sig .tc := ⟨.hbm, 793, rfl⟩
abbrev main_v608 : Ref sig .tc := ⟨.hbm, 794, rfl⟩
abbrev main_v609 : Ref sig .tc := ⟨.hbm, 795, rfl⟩
abbrev main_v610 : Ref sig .tc := ⟨.hbm, 796, rfl⟩
abbrev main_v611 : Ref sig .tc := ⟨.hbm, 797, rfl⟩
abbrev main_c_107 : Ref sig .tc := ⟨.hbm, 798, rfl⟩
abbrev main_c_108 : Ref sig .tc := ⟨.hbm, 799, rfl⟩
abbrev main_call19_v0 : Ref sig .tc := ⟨.hbm, 800, rfl⟩
abbrev main_call19_v1 : Ref sig .tc := ⟨.hbm, 801, rfl⟩
abbrev main_call19_v2 : Ref sig .tc := ⟨.hbm, 802, rfl⟩
abbrev main_call19_v3 : Ref sig .tc := ⟨.hbm, 803, rfl⟩
abbrev main_call19_v4 : Ref sig .tc := ⟨.hbm, 804, rfl⟩
abbrev main_v612 : Ref sig .tc := ⟨.hbm, 805, rfl⟩
abbrev main_c_109 : Ref sig .tc := ⟨.hbm, 806, rfl⟩
abbrev main_v613 : Ref sig .tc := ⟨.hbm, 807, rfl⟩
abbrev main_v614 : Ref sig .tc := ⟨.hbm, 808, rfl⟩
abbrev main_v615 : Ref sig .tc := ⟨.hbm, 809, rfl⟩
abbrev main_v616 : Ref sig .tc := ⟨.hbm, 810, rfl⟩
abbrev main_v617 : Ref sig .tc := ⟨.hbm, 811, rfl⟩
abbrev main_c_110 : Ref sig .tc := ⟨.hbm, 812, rfl⟩
abbrev main_v618 : Ref sig .tc := ⟨.hbm, 813, rfl⟩
abbrev main_v619 : Ref sig .tc := ⟨.hbm, 814, rfl⟩
abbrev main_v620 : Ref sig .tc := ⟨.hbm, 815, rfl⟩
abbrev main_v621 : Ref sig .tc := ⟨.hbm, 816, rfl⟩
abbrev main_c_111 : Ref sig .tc := ⟨.hbm, 817, rfl⟩
abbrev main_v622 : Ref sig .tc := ⟨.hbm, 818, rfl⟩
abbrev main_v623 : Ref sig .tc := ⟨.hbm, 819, rfl⟩
abbrev main_v624 : Ref sig .tc := ⟨.hbm, 820, rfl⟩
abbrev main_v625 : Ref sig .tc := ⟨.hbm, 821, rfl⟩
abbrev main_v626 : Ref sig .tc := ⟨.hbm, 822, rfl⟩
abbrev main_v627 : Ref sig .tc := ⟨.hbm, 823, rfl⟩
abbrev main_v628 : Ref sig .tc := ⟨.hbm, 824, rfl⟩
abbrev main_v629 : Ref sig .tc := ⟨.hbm, 825, rfl⟩
abbrev main_v630 : Ref sig .tc := ⟨.hbm, 826, rfl⟩
abbrev main_cst_112 : Ref sig .tc := ⟨.hbm, 827, rfl⟩
abbrev main_v631 : Ref sig .tc := ⟨.hbm, 828, rfl⟩
abbrev main_v632 : Ref sig .tc := ⟨.hbm, 829, rfl⟩
abbrev main_v633 : Ref sig .tc := ⟨.hbm, 830, rfl⟩
abbrev main_v634 : Ref sig .tc := ⟨.hbm, 831, rfl⟩
abbrev main_cst_113 : Ref sig .tc := ⟨.hbm, 832, rfl⟩
abbrev main_v635 : Ref sig .tc := ⟨.hbm, 833, rfl⟩
abbrev main_v636 : Ref sig .tc := ⟨.hbm, 834, rfl⟩
abbrev main_v637 : Ref sig .tc := ⟨.hbm, 835, rfl⟩
abbrev main_v638 : Ref sig .tc := ⟨.hbm, 836, rfl⟩
abbrev main_v639 : Ref sig .tc := ⟨.hbm, 837, rfl⟩
abbrev main_v640 : Ref sig .tc := ⟨.hbm, 838, rfl⟩
abbrev main_v641 : Ref sig .tc := ⟨.hbm, 839, rfl⟩
abbrev main_v642 : Ref sig .tc := ⟨.hbm, 840, rfl⟩
abbrev main_v643 : Ref sig .tc := ⟨.hbm, 841, rfl⟩
abbrev main_v644 : Ref sig .tc := ⟨.hbm, 842, rfl⟩
abbrev main_v645 : Ref sig .tc := ⟨.hbm, 843, rfl⟩
abbrev main_v646 : Ref sig .tc := ⟨.hbm, 844, rfl⟩
abbrev main_v647 : Ref sig .tc := ⟨.hbm, 845, rfl⟩
abbrev main_c_114 : Ref sig .tc := ⟨.hbm, 846, rfl⟩
abbrev main_call20_v0 : Ref sig .tc := ⟨.hbm, 847, rfl⟩
abbrev main_call20_v1 : Ref sig .tc := ⟨.hbm, 848, rfl⟩
abbrev main_v648 : Ref sig .tc := ⟨.hbm, 849, rfl⟩
abbrev main_v649 : Ref sig .tc := ⟨.hbm, 850, rfl⟩
abbrev main_v650 : Ref sig .tc := ⟨.hbm, 851, rfl⟩
abbrev main_v651 : Ref sig .tc := ⟨.hbm, 852, rfl⟩
abbrev main_v652 : Ref sig .tc := ⟨.hbm, 853, rfl⟩
abbrev main_v653 : Ref sig .tc := ⟨.hbm, 854, rfl⟩
abbrev main_v654 : Ref sig .tc := ⟨.hbm, 855, rfl⟩
abbrev main_v655 : Ref sig .tc := ⟨.hbm, 856, rfl⟩
abbrev main_v656 : Ref sig .tc := ⟨.hbm, 857, rfl⟩
abbrev main_v657 : Ref sig .tc := ⟨.hbm, 858, rfl⟩
abbrev main_cst_115 : Ref sig .tc := ⟨.hbm, 859, rfl⟩
abbrev main_v658 : Ref sig .tc := ⟨.hbm, 860, rfl⟩
abbrev main_c_116 : Ref sig .tc := ⟨.hbm, 861, rfl⟩
abbrev main_v659 : Ref sig .tc := ⟨.hbm, 862, rfl⟩
abbrev main_v660 : Ref sig .tc := ⟨.hbm, 863, rfl⟩
abbrev main_c_117 : Ref sig .tc := ⟨.hbm, 864, rfl⟩
abbrev main_v661 : Ref sig .tc := ⟨.hbm, 865, rfl⟩
abbrev main_v662 : Ref sig .tc := ⟨.hbm, 866, rfl⟩
abbrev main_v663 : Ref sig .tc := ⟨.hbm, 867, rfl⟩
abbrev main_c_118 : Ref sig .tc := ⟨.hbm, 868, rfl⟩
abbrev main_v664 : Ref sig .tc := ⟨.hbm, 869, rfl⟩
abbrev main_v665 : Ref sig .tc := ⟨.hbm, 870, rfl⟩
abbrev main_c_119 : Ref sig .tc := ⟨.hbm, 871, rfl⟩
abbrev main_v666 : Ref sig .tc := ⟨.hbm, 872, rfl⟩
abbrev main_v667 : Ref sig .tc := ⟨.hbm, 873, rfl⟩
abbrev main_v668 : Ref sig .tc := ⟨.hbm, 874, rfl⟩
abbrev main_v669 : Ref sig .tc := ⟨.hbm, 875, rfl⟩
abbrev main_v670 : Ref sig .tc := ⟨.hbm, 876, rfl⟩
abbrev main_v671 : Ref sig .tc := ⟨.hbm, 877, rfl⟩
abbrev main_v672 : Ref sig .tc := ⟨.hbm, 878, rfl⟩
abbrev main_v673 : Ref sig .tc := ⟨.hbm, 879, rfl⟩
abbrev main_v674 : Ref sig .tc := ⟨.hbm, 880, rfl⟩
abbrev main_v675 : Ref sig .tc := ⟨.hbm, 881, rfl⟩
abbrev main_v676 : Ref sig .tc := ⟨.hbm, 882, rfl⟩
abbrev main_v677 : Ref sig .tc := ⟨.hbm, 883, rfl⟩
abbrev main_v678 : Ref sig .tc := ⟨.hbm, 884, rfl⟩
abbrev main_v679 : Ref sig .tc := ⟨.hbm, 885, rfl⟩
abbrev main_v680 : Ref sig .tc := ⟨.hbm, 886, rfl⟩
abbrev main_v681 : Ref sig .tc := ⟨.hbm, 887, rfl⟩
abbrev main_v682 : Ref sig .tc := ⟨.hbm, 888, rfl⟩
abbrev main_v683 : Ref sig .tc := ⟨.hbm, 889, rfl⟩
abbrev main_v684 : Ref sig .tc := ⟨.hbm, 890, rfl⟩
abbrev main_v685 : Ref sig .tc := ⟨.hbm, 891, rfl⟩
abbrev main_v686 : Ref sig .tc := ⟨.hbm, 892, rfl⟩
abbrev main_v687 : Ref sig .tc := ⟨.hbm, 893, rfl⟩
abbrev main_v688 : Ref sig .tc := ⟨.hbm, 894, rfl⟩
abbrev main_v689 : Ref sig .tc := ⟨.hbm, 895, rfl⟩
abbrev main_v690 : Ref sig .tc := ⟨.hbm, 896, rfl⟩
abbrev main_v691 : Ref sig .tc := ⟨.hbm, 897, rfl⟩
abbrev main_v692 : Ref sig .tc := ⟨.hbm, 898, rfl⟩
abbrev main_v693 : Ref sig .tc := ⟨.hbm, 899, rfl⟩
abbrev main_v694 : Ref sig .tc := ⟨.hbm, 900, rfl⟩
abbrev main_v695 : Ref sig .tc := ⟨.hbm, 901, rfl⟩
abbrev main_v696 : Ref sig .tc := ⟨.hbm, 902, rfl⟩
abbrev main_v697 : Ref sig .tc := ⟨.hbm, 903, rfl⟩
abbrev main_v698 : Ref sig .tc := ⟨.hbm, 904, rfl⟩
abbrev main_v699 : Ref sig .tc := ⟨.hbm, 905, rfl⟩
abbrev main_v700 : Ref sig .tc := ⟨.hbm, 906, rfl⟩
abbrev main_v701 : Ref sig .tc := ⟨.hbm, 907, rfl⟩
abbrev main_v702 : Ref sig .tc := ⟨.hbm, 908, rfl⟩
abbrev main_v703 : Ref sig .tc := ⟨.hbm, 909, rfl⟩
abbrev main_cst_120 : Ref sig .tc := ⟨.hbm, 910, rfl⟩
abbrev main_v704 : Ref sig .tc := ⟨.hbm, 911, rfl⟩
abbrev main_v705 : Ref sig .tc := ⟨.hbm, 912, rfl⟩
abbrev main_cst_121 : Ref sig .tc := ⟨.hbm, 913, rfl⟩
abbrev main_v706 : Ref sig .tc := ⟨.hbm, 914, rfl⟩
abbrev main_v707 : Ref sig .tc := ⟨.hbm, 915, rfl⟩
abbrev main_v708 : Ref sig .tc := ⟨.hbm, 916, rfl⟩
abbrev main_v709 : Ref sig .tc := ⟨.hbm, 917, rfl⟩
abbrev main_cst_122 : Ref sig .tc := ⟨.hbm, 918, rfl⟩
abbrev main_v710 : Ref sig .tc := ⟨.hbm, 919, rfl⟩
abbrev main_v711 : Ref sig .tc := ⟨.hbm, 920, rfl⟩
abbrev main_cst_123 : Ref sig .tc := ⟨.hbm, 921, rfl⟩
abbrev main_v712 : Ref sig .tc := ⟨.hbm, 922, rfl⟩
abbrev main_v713 : Ref sig .tc := ⟨.hbm, 923, rfl⟩
abbrev main_v714 : Ref sig .tc := ⟨.hbm, 924, rfl⟩
abbrev main_v715 : Ref sig .tc := ⟨.hbm, 925, rfl⟩
abbrev main_v716 : Ref sig .tc := ⟨.hbm, 926, rfl⟩
abbrev main_cst_124 : Ref sig .tc := ⟨.hbm, 927, rfl⟩
abbrev main_v717 : Ref sig .tc := ⟨.hbm, 928, rfl⟩
abbrev main_v718 : Ref sig .tc := ⟨.hbm, 929, rfl⟩
abbrev main_cst_125 : Ref sig .tc := ⟨.hbm, 930, rfl⟩
abbrev main_v719 : Ref sig .tc := ⟨.hbm, 931, rfl⟩
abbrev main_v720 : Ref sig .tc := ⟨.hbm, 932, rfl⟩
abbrev main_v721 : Ref sig .tc := ⟨.hbm, 933, rfl⟩
abbrev main_v722 : Ref sig .tc := ⟨.hbm, 934, rfl⟩
abbrev main_v723 : Ref sig .tc := ⟨.hbm, 935, rfl⟩
abbrev main_v724 : Ref sig .tc := ⟨.hbm, 936, rfl⟩
abbrev main_v725 : Ref sig .tc := ⟨.hbm, 937, rfl⟩
abbrev main_v726 : Ref sig .tc := ⟨.hbm, 938, rfl⟩
abbrev main_v727 : Ref sig .tc := ⟨.hbm, 939, rfl⟩
abbrev main_v728 : Ref sig .tc := ⟨.hbm, 940, rfl⟩
abbrev main_v729 : Ref sig .tc := ⟨.hbm, 941, rfl⟩
abbrev main_v730 : Ref sig .tc := ⟨.hbm, 942, rfl⟩
abbrev main_v731 : Ref sig .tc := ⟨.hbm, 943, rfl⟩
abbrev main_v732 : Ref sig .tc := ⟨.hbm, 944, rfl⟩
abbrev main_call21_cst : Ref sig .tc := ⟨.hbm, 945, rfl⟩
abbrev main_call21_v0 : Ref sig .tc := ⟨.hbm, 946, rfl⟩
abbrev main_v733 : Ref sig .tc := ⟨.hbm, 947, rfl⟩
abbrev main_v734 : Ref sig .tc := ⟨.hbm, 948, rfl⟩
abbrev main_v735 : Ref sig .tc := ⟨.hbm, 949, rfl⟩
abbrev main_v736 : Ref sig .tc := ⟨.hbm, 950, rfl⟩
abbrev main_v737 : Ref sig .tc := ⟨.hbm, 951, rfl⟩
abbrev main_v738 : Ref sig .tc := ⟨.hbm, 952, rfl⟩
abbrev main_v739 : Ref sig .tc := ⟨.hbm, 953, rfl⟩
abbrev main_v740 : Ref sig .tc := ⟨.hbm, 954, rfl⟩
abbrev main_v741 : Ref sig .tc := ⟨.hbm, 955, rfl⟩
abbrev main_v742 : Ref sig .tc := ⟨.hbm, 956, rfl⟩
abbrev main_cst_126 : Ref sig .tc := ⟨.hbm, 957, rfl⟩
abbrev main_v743 : Ref sig .tc := ⟨.hbm, 958, rfl⟩
abbrev main_v744 : Ref sig .tc := ⟨.hbm, 959, rfl⟩
abbrev main_cst_127 : Ref sig .tc := ⟨.hbm, 960, rfl⟩
abbrev main_v745 : Ref sig .tc := ⟨.hbm, 961, rfl⟩
abbrev main_v746 : Ref sig .tc := ⟨.hbm, 962, rfl⟩
abbrev main_v747 : Ref sig .tc := ⟨.hbm, 963, rfl⟩
abbrev main_v748 : Ref sig .tc := ⟨.hbm, 964, rfl⟩
abbrev main_c_128 : Ref sig .tc := ⟨.hbm, 965, rfl⟩
abbrev main_c_129 : Ref sig .tc := ⟨.hbm, 966, rfl⟩
abbrev main_call22_v0 : Ref sig .tc := ⟨.hbm, 967, rfl⟩
abbrev main_call22_v1 : Ref sig .tc := ⟨.hbm, 968, rfl⟩
abbrev main_call22_v2 : Ref sig .tc := ⟨.hbm, 969, rfl⟩
abbrev main_call22_v3 : Ref sig .tc := ⟨.hbm, 970, rfl⟩
abbrev main_call22_v4 : Ref sig .tc := ⟨.hbm, 971, rfl⟩
abbrev main_v749 : Ref sig .tc := ⟨.hbm, 972, rfl⟩
abbrev main_cst_130 : Ref sig .tc := ⟨.hbm, 973, rfl⟩
abbrev main_v750 : Ref sig .tc := ⟨.hbm, 974, rfl⟩
abbrev main_v751 : Ref sig .tc := ⟨.hbm, 975, rfl⟩
abbrev main_cst_131 : Ref sig .tc := ⟨.hbm, 976, rfl⟩
abbrev main_v752 : Ref sig .tc := ⟨.hbm, 977, rfl⟩
abbrev main_v753 : Ref sig .tc := ⟨.hbm, 978, rfl⟩
abbrev main_v754 : Ref sig .tc := ⟨.hbm, 979, rfl⟩
abbrev main_v755 : Ref sig .tc := ⟨.hbm, 980, rfl⟩
abbrev main_c_132 : Ref sig .tc := ⟨.hbm, 981, rfl⟩
abbrev main_c_133 : Ref sig .tc := ⟨.hbm, 982, rfl⟩
abbrev main_call23_v0 : Ref sig .tc := ⟨.hbm, 983, rfl⟩
abbrev main_call23_v1 : Ref sig .tc := ⟨.hbm, 984, rfl⟩
abbrev main_call23_v2 : Ref sig .tc := ⟨.hbm, 985, rfl⟩
abbrev main_call23_v3 : Ref sig .tc := ⟨.hbm, 986, rfl⟩
abbrev main_call23_v4 : Ref sig .tc := ⟨.hbm, 987, rfl⟩
abbrev main_v756 : Ref sig .tc := ⟨.hbm, 988, rfl⟩
abbrev main_c_134 : Ref sig .tc := ⟨.hbm, 989, rfl⟩
abbrev main_v757 : Ref sig .tc := ⟨.hbm, 990, rfl⟩
abbrev main_v758 : Ref sig .tc := ⟨.hbm, 991, rfl⟩
abbrev main_v759 : Ref sig .tc := ⟨.hbm, 992, rfl⟩
abbrev main_v760 : Ref sig .tc := ⟨.hbm, 993, rfl⟩
abbrev main_v761 : Ref sig .tc := ⟨.hbm, 994, rfl⟩
abbrev main_c_135 : Ref sig .tc := ⟨.hbm, 995, rfl⟩
abbrev main_v762 : Ref sig .tc := ⟨.hbm, 996, rfl⟩
abbrev main_v763 : Ref sig .tc := ⟨.hbm, 997, rfl⟩
abbrev main_v764 : Ref sig .tc := ⟨.hbm, 998, rfl⟩
abbrev main_v765 : Ref sig .tc := ⟨.hbm, 999, rfl⟩
abbrev main_c_136 : Ref sig .tc := ⟨.hbm, 1000, rfl⟩
abbrev main_v766 : Ref sig .tc := ⟨.hbm, 1001, rfl⟩
abbrev main_v767 : Ref sig .tc := ⟨.hbm, 1002, rfl⟩
abbrev main_v768 : Ref sig .tc := ⟨.hbm, 1003, rfl⟩
abbrev main_v769 : Ref sig .tc := ⟨.hbm, 1004, rfl⟩
abbrev main_v770 : Ref sig .tc := ⟨.hbm, 1005, rfl⟩
abbrev main_v771 : Ref sig .tc := ⟨.hbm, 1006, rfl⟩
abbrev main_v772 : Ref sig .tc := ⟨.hbm, 1007, rfl⟩
abbrev main_v773 : Ref sig .tc := ⟨.hbm, 1008, rfl⟩
abbrev main_v774 : Ref sig .tc := ⟨.hbm, 1009, rfl⟩
abbrev main_cst_137 : Ref sig .tc := ⟨.hbm, 1010, rfl⟩
abbrev main_v775 : Ref sig .tc := ⟨.hbm, 1011, rfl⟩
abbrev main_v776 : Ref sig .tc := ⟨.hbm, 1012, rfl⟩
abbrev main_v777 : Ref sig .tc := ⟨.hbm, 1013, rfl⟩
abbrev main_v778 : Ref sig .tc := ⟨.hbm, 1014, rfl⟩
abbrev main_cst_138 : Ref sig .tc := ⟨.hbm, 1015, rfl⟩
abbrev main_v779 : Ref sig .tc := ⟨.hbm, 1016, rfl⟩
abbrev main_v780 : Ref sig .tc := ⟨.hbm, 1017, rfl⟩
abbrev main_v781 : Ref sig .tc := ⟨.hbm, 1018, rfl⟩
abbrev main_v782 : Ref sig .tc := ⟨.hbm, 1019, rfl⟩
abbrev main_v783 : Ref sig .tc := ⟨.hbm, 1020, rfl⟩
abbrev main_v784 : Ref sig .tc := ⟨.hbm, 1021, rfl⟩
abbrev main_v785 : Ref sig .tc := ⟨.hbm, 1022, rfl⟩
abbrev main_v786 : Ref sig .tc := ⟨.hbm, 1023, rfl⟩
abbrev main_v787 : Ref sig .tc := ⟨.hbm, 1024, rfl⟩
abbrev main_v788 : Ref sig .tc := ⟨.hbm, 1025, rfl⟩
abbrev main_v789 : Ref sig .tc := ⟨.hbm, 1026, rfl⟩
abbrev main_v790 : Ref sig .tc := ⟨.hbm, 1027, rfl⟩
abbrev main_v791 : Ref sig .tc := ⟨.hbm, 1028, rfl⟩
abbrev main_c_139 : Ref sig .tc := ⟨.hbm, 1029, rfl⟩
abbrev main_call24_v0 : Ref sig .tc := ⟨.hbm, 1030, rfl⟩
abbrev main_call24_v1 : Ref sig .tc := ⟨.hbm, 1031, rfl⟩
abbrev main_v792 : Ref sig .tc := ⟨.hbm, 1032, rfl⟩
abbrev main_v793 : Ref sig .tc := ⟨.hbm, 1033, rfl⟩
abbrev main_v794 : Ref sig .tc := ⟨.hbm, 1034, rfl⟩
abbrev main_v795 : Ref sig .tc := ⟨.hbm, 1035, rfl⟩
abbrev main_v796 : Ref sig .tc := ⟨.hbm, 1036, rfl⟩
abbrev main_v797 : Ref sig .tc := ⟨.hbm, 1037, rfl⟩
abbrev main_v798 : Ref sig .tc := ⟨.hbm, 1038, rfl⟩
abbrev main_v799 : Ref sig .tc := ⟨.hbm, 1039, rfl⟩
abbrev main_v800 : Ref sig .tc := ⟨.hbm, 1040, rfl⟩
abbrev main_v801 : Ref sig .tc := ⟨.hbm, 1041, rfl⟩
abbrev main_cst_140 : Ref sig .tc := ⟨.hbm, 1042, rfl⟩
abbrev main_v802 : Ref sig .tc := ⟨.hbm, 1043, rfl⟩
abbrev main_c_141 : Ref sig .tc := ⟨.hbm, 1044, rfl⟩
abbrev main_v803 : Ref sig .tc := ⟨.hbm, 1045, rfl⟩
abbrev main_v804 : Ref sig .tc := ⟨.hbm, 1046, rfl⟩
abbrev main_c_142 : Ref sig .tc := ⟨.hbm, 1047, rfl⟩
abbrev main_v805 : Ref sig .tc := ⟨.hbm, 1048, rfl⟩
abbrev main_v806 : Ref sig .tc := ⟨.hbm, 1049, rfl⟩
abbrev main_v807 : Ref sig .tc := ⟨.hbm, 1050, rfl⟩
abbrev main_c_143 : Ref sig .tc := ⟨.hbm, 1051, rfl⟩
abbrev main_v808 : Ref sig .tc := ⟨.hbm, 1052, rfl⟩
abbrev main_v809 : Ref sig .tc := ⟨.hbm, 1053, rfl⟩
abbrev main_c_144 : Ref sig .tc := ⟨.hbm, 1054, rfl⟩
abbrev main_v810 : Ref sig .tc := ⟨.hbm, 1055, rfl⟩
abbrev main_v811 : Ref sig .tc := ⟨.hbm, 1056, rfl⟩
abbrev main_v812 : Ref sig .tc := ⟨.hbm, 1057, rfl⟩
abbrev main_v813 : Ref sig .tc := ⟨.hbm, 1058, rfl⟩
abbrev main_v814 : Ref sig .tc := ⟨.hbm, 1059, rfl⟩
abbrev main_v815 : Ref sig .tc := ⟨.hbm, 1060, rfl⟩
abbrev main_v816 : Ref sig .tc := ⟨.hbm, 1061, rfl⟩
abbrev main_v817 : Ref sig .tc := ⟨.hbm, 1062, rfl⟩
abbrev main_v818 : Ref sig .tc := ⟨.hbm, 1063, rfl⟩
abbrev main_v819 : Ref sig .tc := ⟨.hbm, 1064, rfl⟩
abbrev main_v820 : Ref sig .tc := ⟨.hbm, 1065, rfl⟩
abbrev main_v821 : Ref sig .tc := ⟨.hbm, 1066, rfl⟩
abbrev main_v822 : Ref sig .tc := ⟨.hbm, 1067, rfl⟩
abbrev main_v823 : Ref sig .tc := ⟨.hbm, 1068, rfl⟩
abbrev main_v824 : Ref sig .tc := ⟨.hbm, 1069, rfl⟩
abbrev main_v825 : Ref sig .tc := ⟨.hbm, 1070, rfl⟩
abbrev main_v826 : Ref sig .tc := ⟨.hbm, 1071, rfl⟩
abbrev main_v827 : Ref sig .tc := ⟨.hbm, 1072, rfl⟩
abbrev main_v828 : Ref sig .tc := ⟨.hbm, 1073, rfl⟩
abbrev main_v829 : Ref sig .tc := ⟨.hbm, 1074, rfl⟩
abbrev main_v830 : Ref sig .tc := ⟨.hbm, 1075, rfl⟩
abbrev main_v831 : Ref sig .tc := ⟨.hbm, 1076, rfl⟩
abbrev main_v832 : Ref sig .tc := ⟨.hbm, 1077, rfl⟩
abbrev main_v833 : Ref sig .tc := ⟨.hbm, 1078, rfl⟩
abbrev main_v834 : Ref sig .tc := ⟨.hbm, 1079, rfl⟩
abbrev main_v835 : Ref sig .tc := ⟨.hbm, 1080, rfl⟩
abbrev main_v836 : Ref sig .tc := ⟨.hbm, 1081, rfl⟩
abbrev main_v837 : Ref sig .tc := ⟨.hbm, 1082, rfl⟩
abbrev main_v838 : Ref sig .tc := ⟨.hbm, 1083, rfl⟩
abbrev main_v839 : Ref sig .tc := ⟨.hbm, 1084, rfl⟩
abbrev main_v840 : Ref sig .tc := ⟨.hbm, 1085, rfl⟩
abbrev main_v841 : Ref sig .tc := ⟨.hbm, 1086, rfl⟩
abbrev main_v842 : Ref sig .tc := ⟨.hbm, 1087, rfl⟩
abbrev main_v843 : Ref sig .tc := ⟨.hbm, 1088, rfl⟩
abbrev main_v844 : Ref sig .tc := ⟨.hbm, 1089, rfl⟩
abbrev main_v845 : Ref sig .tc := ⟨.hbm, 1090, rfl⟩
abbrev main_v846 : Ref sig .tc := ⟨.hbm, 1091, rfl⟩
abbrev main_v847 : Ref sig .tc := ⟨.hbm, 1092, rfl⟩
abbrev main_cst_145 : Ref sig .tc := ⟨.hbm, 1093, rfl⟩
abbrev main_v848 : Ref sig .tc := ⟨.hbm, 1094, rfl⟩
abbrev main_v849 : Ref sig .tc := ⟨.hbm, 1095, rfl⟩
abbrev main_cst_146 : Ref sig .tc := ⟨.hbm, 1096, rfl⟩
abbrev main_v850 : Ref sig .tc := ⟨.hbm, 1097, rfl⟩
abbrev main_v851 : Ref sig .tc := ⟨.hbm, 1098, rfl⟩
abbrev main_v852 : Ref sig .tc := ⟨.hbm, 1099, rfl⟩
abbrev main_v853 : Ref sig .tc := ⟨.hbm, 1100, rfl⟩
abbrev main_cst_147 : Ref sig .tc := ⟨.hbm, 1101, rfl⟩
abbrev main_v854 : Ref sig .tc := ⟨.hbm, 1102, rfl⟩
abbrev main_v855 : Ref sig .tc := ⟨.hbm, 1103, rfl⟩
abbrev main_cst_148 : Ref sig .tc := ⟨.hbm, 1104, rfl⟩
abbrev main_v856 : Ref sig .tc := ⟨.hbm, 1105, rfl⟩
abbrev main_v857 : Ref sig .tc := ⟨.hbm, 1106, rfl⟩
abbrev main_v858 : Ref sig .tc := ⟨.hbm, 1107, rfl⟩
abbrev main_v859 : Ref sig .tc := ⟨.hbm, 1108, rfl⟩
abbrev main_v860 : Ref sig .tc := ⟨.hbm, 1109, rfl⟩
abbrev main_cst_149 : Ref sig .tc := ⟨.hbm, 1110, rfl⟩
abbrev main_v861 : Ref sig .tc := ⟨.hbm, 1111, rfl⟩
abbrev main_v862 : Ref sig .tc := ⟨.hbm, 1112, rfl⟩
abbrev main_cst_150 : Ref sig .tc := ⟨.hbm, 1113, rfl⟩
abbrev main_v863 : Ref sig .tc := ⟨.hbm, 1114, rfl⟩
abbrev main_v864 : Ref sig .tc := ⟨.hbm, 1115, rfl⟩
abbrev main_v865 : Ref sig .tc := ⟨.hbm, 1116, rfl⟩
abbrev main_v866 : Ref sig .tc := ⟨.hbm, 1117, rfl⟩
abbrev main_v867 : Ref sig .tc := ⟨.hbm, 1118, rfl⟩
abbrev main_v868 : Ref sig .tc := ⟨.hbm, 1119, rfl⟩
abbrev main_v869 : Ref sig .tc := ⟨.hbm, 1120, rfl⟩
abbrev main_v870 : Ref sig .tc := ⟨.hbm, 1121, rfl⟩
abbrev main_v871 : Ref sig .tc := ⟨.hbm, 1122, rfl⟩
abbrev main_v872 : Ref sig .tc := ⟨.hbm, 1123, rfl⟩
abbrev main_v873 : Ref sig .tc := ⟨.hbm, 1124, rfl⟩
abbrev main_v874 : Ref sig .tc := ⟨.hbm, 1125, rfl⟩
abbrev main_v875 : Ref sig .tc := ⟨.hbm, 1126, rfl⟩
abbrev main_v876 : Ref sig .tc := ⟨.hbm, 1127, rfl⟩
abbrev main_call25_cst : Ref sig .tc := ⟨.hbm, 1128, rfl⟩
abbrev main_call25_v0 : Ref sig .tc := ⟨.hbm, 1129, rfl⟩
abbrev main_v877 : Ref sig .tc := ⟨.hbm, 1130, rfl⟩
abbrev main_v878 : Ref sig .tc := ⟨.hbm, 1131, rfl⟩
abbrev main_v879 : Ref sig .tc := ⟨.hbm, 1132, rfl⟩
abbrev main_v880 : Ref sig .tc := ⟨.hbm, 1133, rfl⟩
abbrev main_v881 : Ref sig .tc := ⟨.hbm, 1134, rfl⟩
abbrev main_v882 : Ref sig .tc := ⟨.hbm, 1135, rfl⟩
abbrev main_v883 : Ref sig .tc := ⟨.hbm, 1136, rfl⟩
abbrev main_v884 : Ref sig .tc := ⟨.hbm, 1137, rfl⟩
abbrev main_v885 : Ref sig .tc := ⟨.hbm, 1138, rfl⟩
abbrev main_v886 : Ref sig .tc := ⟨.hbm, 1139, rfl⟩
abbrev main_cst_151 : Ref sig .tc := ⟨.hbm, 1140, rfl⟩
abbrev main_v887 : Ref sig .tc := ⟨.hbm, 1141, rfl⟩
abbrev main_v888 : Ref sig .tc := ⟨.hbm, 1142, rfl⟩
abbrev main_cst_152 : Ref sig .tc := ⟨.hbm, 1143, rfl⟩
abbrev main_v889 : Ref sig .tc := ⟨.hbm, 1144, rfl⟩
abbrev main_v890 : Ref sig .tc := ⟨.hbm, 1145, rfl⟩
abbrev main_v891 : Ref sig .tc := ⟨.hbm, 1146, rfl⟩
abbrev main_v892 : Ref sig .tc := ⟨.hbm, 1147, rfl⟩
abbrev main_c_153 : Ref sig .tc := ⟨.hbm, 1148, rfl⟩
abbrev main_c_154 : Ref sig .tc := ⟨.hbm, 1149, rfl⟩
abbrev main_call26_v0 : Ref sig .tc := ⟨.hbm, 1150, rfl⟩
abbrev main_call26_v1 : Ref sig .tc := ⟨.hbm, 1151, rfl⟩
abbrev main_call26_v2 : Ref sig .tc := ⟨.hbm, 1152, rfl⟩
abbrev main_call26_v3 : Ref sig .tc := ⟨.hbm, 1153, rfl⟩
abbrev main_call26_v4 : Ref sig .tc := ⟨.hbm, 1154, rfl⟩
abbrev main_v893 : Ref sig .tc := ⟨.hbm, 1155, rfl⟩
abbrev main_cst_155 : Ref sig .tc := ⟨.hbm, 1156, rfl⟩
abbrev main_v894 : Ref sig .tc := ⟨.hbm, 1157, rfl⟩
abbrev main_v895 : Ref sig .tc := ⟨.hbm, 1158, rfl⟩
abbrev main_cst_156 : Ref sig .tc := ⟨.hbm, 1159, rfl⟩
abbrev main_v896 : Ref sig .tc := ⟨.hbm, 1160, rfl⟩
abbrev main_v897 : Ref sig .tc := ⟨.hbm, 1161, rfl⟩
abbrev main_v898 : Ref sig .tc := ⟨.hbm, 1162, rfl⟩
abbrev main_v899 : Ref sig .tc := ⟨.hbm, 1163, rfl⟩
abbrev main_c_157 : Ref sig .tc := ⟨.hbm, 1164, rfl⟩
abbrev main_c_158 : Ref sig .tc := ⟨.hbm, 1165, rfl⟩
abbrev main_call27_v0 : Ref sig .tc := ⟨.hbm, 1166, rfl⟩
abbrev main_call27_v1 : Ref sig .tc := ⟨.hbm, 1167, rfl⟩
abbrev main_call27_v2 : Ref sig .tc := ⟨.hbm, 1168, rfl⟩
abbrev main_call27_v3 : Ref sig .tc := ⟨.hbm, 1169, rfl⟩
abbrev main_call27_v4 : Ref sig .tc := ⟨.hbm, 1170, rfl⟩
abbrev main_v900 : Ref sig .tc := ⟨.hbm, 1171, rfl⟩
abbrev main_c_159 : Ref sig .tc := ⟨.hbm, 1172, rfl⟩
abbrev main_v901 : Ref sig .tc := ⟨.hbm, 1173, rfl⟩
abbrev main_v902 : Ref sig .tc := ⟨.hbm, 1174, rfl⟩
abbrev main_v903 : Ref sig .tc := ⟨.hbm, 1175, rfl⟩
abbrev main_v904 : Ref sig .tc := ⟨.hbm, 1176, rfl⟩
abbrev main_v905 : Ref sig .tc := ⟨.hbm, 1177, rfl⟩
abbrev main_c_160 : Ref sig .tc := ⟨.hbm, 1178, rfl⟩
abbrev main_v906 : Ref sig .tc := ⟨.hbm, 1179, rfl⟩
abbrev main_v907 : Ref sig .tc := ⟨.hbm, 1180, rfl⟩
abbrev main_v908 : Ref sig .tc := ⟨.hbm, 1181, rfl⟩
abbrev main_v909 : Ref sig .tc := ⟨.hbm, 1182, rfl⟩
abbrev main_c_161 : Ref sig .tc := ⟨.hbm, 1183, rfl⟩
abbrev main_v910 : Ref sig .tc := ⟨.hbm, 1184, rfl⟩
abbrev main_v911 : Ref sig .tc := ⟨.hbm, 1185, rfl⟩
abbrev main_v912 : Ref sig .tc := ⟨.hbm, 1186, rfl⟩
abbrev main_v913 : Ref sig .tc := ⟨.hbm, 1187, rfl⟩
abbrev main_v914 : Ref sig .tc := ⟨.hbm, 1188, rfl⟩
abbrev main_v915 : Ref sig .tc := ⟨.hbm, 1189, rfl⟩
abbrev main_v916 : Ref sig .tc := ⟨.hbm, 1190, rfl⟩
abbrev main_v917 : Ref sig .tc := ⟨.hbm, 1191, rfl⟩
abbrev main_v918 : Ref sig .tc := ⟨.hbm, 1192, rfl⟩
abbrev main_cst_162 : Ref sig .tc := ⟨.hbm, 1193, rfl⟩
abbrev main_v919 : Ref sig .tc := ⟨.hbm, 1194, rfl⟩
abbrev main_v920 : Ref sig .tc := ⟨.hbm, 1195, rfl⟩
abbrev main_v921 : Ref sig .tc := ⟨.hbm, 1196, rfl⟩
abbrev main_v922 : Ref sig .tc := ⟨.hbm, 1197, rfl⟩
abbrev main_cst_163 : Ref sig .tc := ⟨.hbm, 1198, rfl⟩
abbrev main_v923 : Ref sig .tc := ⟨.hbm, 1199, rfl⟩
abbrev main_v924 : Ref sig .tc := ⟨.hbm, 1200, rfl⟩
abbrev main_v925 : Ref sig .tc := ⟨.hbm, 1201, rfl⟩
abbrev main_v926 : Ref sig .tc := ⟨.hbm, 1202, rfl⟩
abbrev main_v927 : Ref sig .tc := ⟨.hbm, 1203, rfl⟩
abbrev main_v928 : Ref sig .tc := ⟨.hbm, 1204, rfl⟩
abbrev main_v929 : Ref sig .tc := ⟨.hbm, 1205, rfl⟩
abbrev main_v930 : Ref sig .tc := ⟨.hbm, 1206, rfl⟩
abbrev main_v931 : Ref sig .tc := ⟨.hbm, 1207, rfl⟩
abbrev main_v932 : Ref sig .tc := ⟨.hbm, 1208, rfl⟩
abbrev main_v933 : Ref sig .tc := ⟨.hbm, 1209, rfl⟩
abbrev main_v934 : Ref sig .tc := ⟨.hbm, 1210, rfl⟩
abbrev main_v935 : Ref sig .tc := ⟨.hbm, 1211, rfl⟩
abbrev main_c_164 : Ref sig .tc := ⟨.hbm, 1212, rfl⟩
abbrev main_call28_v0 : Ref sig .tc := ⟨.hbm, 1213, rfl⟩
abbrev main_call28_v1 : Ref sig .tc := ⟨.hbm, 1214, rfl⟩
abbrev main_v936 : Ref sig .tc := ⟨.hbm, 1215, rfl⟩
abbrev main_v937 : Ref sig .tc := ⟨.hbm, 1216, rfl⟩
abbrev main_v938 : Ref sig .tc := ⟨.hbm, 1217, rfl⟩
abbrev main_v939 : Ref sig .tc := ⟨.hbm, 1218, rfl⟩
abbrev main_v940 : Ref sig .tc := ⟨.hbm, 1219, rfl⟩
abbrev main_v941 : Ref sig .tc := ⟨.hbm, 1220, rfl⟩
abbrev main_v942 : Ref sig .tc := ⟨.hbm, 1221, rfl⟩
abbrev main_v943 : Ref sig .tc := ⟨.hbm, 1222, rfl⟩
abbrev main_v944 : Ref sig .tc := ⟨.hbm, 1223, rfl⟩
abbrev main_v945 : Ref sig .tc := ⟨.hbm, 1224, rfl⟩
abbrev main_cst_165 : Ref sig .tc := ⟨.hbm, 1225, rfl⟩
abbrev main_v946 : Ref sig .tc := ⟨.hbm, 1226, rfl⟩
abbrev main_c_166 : Ref sig .tc := ⟨.hbm, 1227, rfl⟩
abbrev main_v947 : Ref sig .tc := ⟨.hbm, 1228, rfl⟩
abbrev main_v948 : Ref sig .tc := ⟨.hbm, 1229, rfl⟩
abbrev main_c_167 : Ref sig .tc := ⟨.hbm, 1230, rfl⟩
abbrev main_v949 : Ref sig .tc := ⟨.hbm, 1231, rfl⟩
abbrev main_v950 : Ref sig .tc := ⟨.hbm, 1232, rfl⟩
abbrev main_v951 : Ref sig .tc := ⟨.hbm, 1233, rfl⟩
abbrev main_c_168 : Ref sig .tc := ⟨.hbm, 1234, rfl⟩
abbrev main_v952 : Ref sig .tc := ⟨.hbm, 1235, rfl⟩
abbrev main_v953 : Ref sig .tc := ⟨.hbm, 1236, rfl⟩
abbrev main_c_169 : Ref sig .tc := ⟨.hbm, 1237, rfl⟩
abbrev main_v954 : Ref sig .tc := ⟨.hbm, 1238, rfl⟩
abbrev main_v955 : Ref sig .tc := ⟨.hbm, 1239, rfl⟩
abbrev main_v956 : Ref sig .tc := ⟨.hbm, 1240, rfl⟩
abbrev main_v957 : Ref sig .tc := ⟨.hbm, 1241, rfl⟩
abbrev main_v958 : Ref sig .tc := ⟨.hbm, 1242, rfl⟩
abbrev main_v959 : Ref sig .tc := ⟨.hbm, 1243, rfl⟩
abbrev main_v960 : Ref sig .tc := ⟨.hbm, 1244, rfl⟩
abbrev main_v961 : Ref sig .tc := ⟨.hbm, 1245, rfl⟩
abbrev main_v962 : Ref sig .tc := ⟨.hbm, 1246, rfl⟩
abbrev main_v963 : Ref sig .tc := ⟨.hbm, 1247, rfl⟩
abbrev main_v964 : Ref sig .tc := ⟨.hbm, 1248, rfl⟩
abbrev main_v965 : Ref sig .tc := ⟨.hbm, 1249, rfl⟩
abbrev main_v966 : Ref sig .tc := ⟨.hbm, 1250, rfl⟩
abbrev main_v967 : Ref sig .tc := ⟨.hbm, 1251, rfl⟩
abbrev main_v968 : Ref sig .tc := ⟨.hbm, 1252, rfl⟩
abbrev main_v969 : Ref sig .tc := ⟨.hbm, 1253, rfl⟩
abbrev main_v970 : Ref sig .tc := ⟨.hbm, 1254, rfl⟩
abbrev main_v971 : Ref sig .tc := ⟨.hbm, 1255, rfl⟩
abbrev main_v972 : Ref sig .tc := ⟨.hbm, 1256, rfl⟩
abbrev main_v973 : Ref sig .tc := ⟨.hbm, 1257, rfl⟩
abbrev main_v974 : Ref sig .tc := ⟨.hbm, 1258, rfl⟩
abbrev main_v975 : Ref sig .tc := ⟨.hbm, 1259, rfl⟩
abbrev main_v976 : Ref sig .tc := ⟨.hbm, 1260, rfl⟩
abbrev main_v977 : Ref sig .tc := ⟨.hbm, 1261, rfl⟩
abbrev main_v978 : Ref sig .tc := ⟨.hbm, 1262, rfl⟩
abbrev main_v979 : Ref sig .tc := ⟨.hbm, 1263, rfl⟩
abbrev main_v980 : Ref sig .tc := ⟨.hbm, 1264, rfl⟩
abbrev main_v981 : Ref sig .tc := ⟨.hbm, 1265, rfl⟩
abbrev main_v982 : Ref sig .tc := ⟨.hbm, 1266, rfl⟩
abbrev main_v983 : Ref sig .tc := ⟨.hbm, 1267, rfl⟩
abbrev main_v984 : Ref sig .tc := ⟨.hbm, 1268, rfl⟩
abbrev main_v985 : Ref sig .tc := ⟨.hbm, 1269, rfl⟩
abbrev main_v986 : Ref sig .tc := ⟨.hbm, 1270, rfl⟩
abbrev main_v987 : Ref sig .tc := ⟨.hbm, 1271, rfl⟩
abbrev main_v988 : Ref sig .tc := ⟨.hbm, 1272, rfl⟩
abbrev main_v989 : Ref sig .tc := ⟨.hbm, 1273, rfl⟩
abbrev main_v990 : Ref sig .tc := ⟨.hbm, 1274, rfl⟩
abbrev main_v991 : Ref sig .tc := ⟨.hbm, 1275, rfl⟩
abbrev main_cst_170 : Ref sig .tc := ⟨.hbm, 1276, rfl⟩
abbrev main_v992 : Ref sig .tc := ⟨.hbm, 1277, rfl⟩
abbrev main_v993 : Ref sig .tc := ⟨.hbm, 1278, rfl⟩
abbrev main_cst_171 : Ref sig .tc := ⟨.hbm, 1279, rfl⟩
abbrev main_v994 : Ref sig .tc := ⟨.hbm, 1280, rfl⟩
abbrev main_v995 : Ref sig .tc := ⟨.hbm, 1281, rfl⟩
abbrev main_v996 : Ref sig .tc := ⟨.hbm, 1282, rfl⟩
abbrev main_v997 : Ref sig .tc := ⟨.hbm, 1283, rfl⟩
abbrev main_cst_172 : Ref sig .tc := ⟨.hbm, 1284, rfl⟩
abbrev main_v998 : Ref sig .tc := ⟨.hbm, 1285, rfl⟩
abbrev main_v999 : Ref sig .tc := ⟨.hbm, 1286, rfl⟩
abbrev main_cst_173 : Ref sig .tc := ⟨.hbm, 1287, rfl⟩
abbrev main_v1000 : Ref sig .tc := ⟨.hbm, 1288, rfl⟩
abbrev main_v1001 : Ref sig .tc := ⟨.hbm, 1289, rfl⟩
abbrev main_v1002 : Ref sig .tc := ⟨.hbm, 1290, rfl⟩
abbrev main_v1003 : Ref sig .tc := ⟨.hbm, 1291, rfl⟩
abbrev main_v1004 : Ref sig .tc := ⟨.hbm, 1292, rfl⟩
abbrev main_cst_174 : Ref sig .tc := ⟨.hbm, 1293, rfl⟩
abbrev main_v1005 : Ref sig .tc := ⟨.hbm, 1294, rfl⟩
abbrev main_v1006 : Ref sig .tc := ⟨.hbm, 1295, rfl⟩
abbrev main_cst_175 : Ref sig .tc := ⟨.hbm, 1296, rfl⟩
abbrev main_v1007 : Ref sig .tc := ⟨.hbm, 1297, rfl⟩
abbrev main_v1008 : Ref sig .tc := ⟨.hbm, 1298, rfl⟩
abbrev main_v1009 : Ref sig .tc := ⟨.hbm, 1299, rfl⟩
abbrev main_v1010 : Ref sig .tc := ⟨.hbm, 1300, rfl⟩
abbrev main_v1011 : Ref sig .tc := ⟨.hbm, 1301, rfl⟩
abbrev main_v1012 : Ref sig .tc := ⟨.hbm, 1302, rfl⟩
abbrev main_v1013 : Ref sig .tc := ⟨.hbm, 1303, rfl⟩
abbrev main_v1014 : Ref sig .tc := ⟨.hbm, 1304, rfl⟩
abbrev main_v1015 : Ref sig .tc := ⟨.hbm, 1305, rfl⟩
abbrev main_v1016 : Ref sig .tc := ⟨.hbm, 1306, rfl⟩
abbrev main_v1017 : Ref sig .tc := ⟨.hbm, 1307, rfl⟩
abbrev main_v1018 : Ref sig .tc := ⟨.hbm, 1308, rfl⟩
abbrev main_v1019 : Ref sig .tc := ⟨.hbm, 1309, rfl⟩
abbrev main_v1020 : Ref sig .tc := ⟨.hbm, 1310, rfl⟩
abbrev main_call29_cst : Ref sig .tc := ⟨.hbm, 1311, rfl⟩
abbrev main_call29_v0 : Ref sig .tc := ⟨.hbm, 1312, rfl⟩
abbrev main_v1021 : Ref sig .tc := ⟨.hbm, 1313, rfl⟩
abbrev main_v1022 : Ref sig .tc := ⟨.hbm, 1314, rfl⟩
abbrev main_v1023 : Ref sig .tc := ⟨.hbm, 1315, rfl⟩
abbrev main_v1024 : Ref sig .tc := ⟨.hbm, 1316, rfl⟩
abbrev main_v1025 : Ref sig .tc := ⟨.hbm, 1317, rfl⟩
abbrev main_v1026 : Ref sig .tc := ⟨.hbm, 1318, rfl⟩
abbrev main_v1027 : Ref sig .tc := ⟨.hbm, 1319, rfl⟩
abbrev main_v1028 : Ref sig .tc := ⟨.hbm, 1320, rfl⟩
abbrev main_v1029 : Ref sig .tc := ⟨.hbm, 1321, rfl⟩
abbrev main_v1030 : Ref sig .tc := ⟨.hbm, 1322, rfl⟩
abbrev main_cst_176 : Ref sig .tc := ⟨.hbm, 1323, rfl⟩
abbrev main_v1031 : Ref sig .tc := ⟨.hbm, 1324, rfl⟩
abbrev main_v1032 : Ref sig .tc := ⟨.hbm, 1325, rfl⟩
abbrev main_cst_177 : Ref sig .tc := ⟨.hbm, 1326, rfl⟩
abbrev main_v1033 : Ref sig .tc := ⟨.hbm, 1327, rfl⟩
abbrev main_v1034 : Ref sig .tc := ⟨.hbm, 1328, rfl⟩
abbrev main_v1035 : Ref sig .tc := ⟨.hbm, 1329, rfl⟩
abbrev main_v1036 : Ref sig .tc := ⟨.hbm, 1330, rfl⟩
abbrev main_c_178 : Ref sig .tc := ⟨.hbm, 1331, rfl⟩
abbrev main_c_179 : Ref sig .tc := ⟨.hbm, 1332, rfl⟩
abbrev main_call30_v0 : Ref sig .tc := ⟨.hbm, 1333, rfl⟩
abbrev main_call30_v1 : Ref sig .tc := ⟨.hbm, 1334, rfl⟩
abbrev main_call30_v2 : Ref sig .tc := ⟨.hbm, 1335, rfl⟩
abbrev main_call30_v3 : Ref sig .tc := ⟨.hbm, 1336, rfl⟩
abbrev main_call30_v4 : Ref sig .tc := ⟨.hbm, 1337, rfl⟩
abbrev main_v1037 : Ref sig .tc := ⟨.hbm, 1338, rfl⟩
abbrev main_cst_180 : Ref sig .tc := ⟨.hbm, 1339, rfl⟩
abbrev main_v1038 : Ref sig .tc := ⟨.hbm, 1340, rfl⟩
abbrev main_v1039 : Ref sig .tc := ⟨.hbm, 1341, rfl⟩
abbrev main_cst_181 : Ref sig .tc := ⟨.hbm, 1342, rfl⟩
abbrev main_v1040 : Ref sig .tc := ⟨.hbm, 1343, rfl⟩
abbrev main_v1041 : Ref sig .tc := ⟨.hbm, 1344, rfl⟩
abbrev main_v1042 : Ref sig .tc := ⟨.hbm, 1345, rfl⟩
abbrev main_v1043 : Ref sig .tc := ⟨.hbm, 1346, rfl⟩
abbrev main_c_182 : Ref sig .tc := ⟨.hbm, 1347, rfl⟩
abbrev main_c_183 : Ref sig .tc := ⟨.hbm, 1348, rfl⟩
abbrev main_call31_v0 : Ref sig .tc := ⟨.hbm, 1349, rfl⟩
abbrev main_call31_v1 : Ref sig .tc := ⟨.hbm, 1350, rfl⟩
abbrev main_call31_v2 : Ref sig .tc := ⟨.hbm, 1351, rfl⟩
abbrev main_call31_v3 : Ref sig .tc := ⟨.hbm, 1352, rfl⟩
abbrev main_call31_v4 : Ref sig .tc := ⟨.hbm, 1353, rfl⟩
abbrev main_v1044 : Ref sig .tc := ⟨.hbm, 1354, rfl⟩
abbrev main_c_184 : Ref sig .tc := ⟨.hbm, 1355, rfl⟩
abbrev main_v1045 : Ref sig .tc := ⟨.hbm, 1356, rfl⟩
abbrev main_v1046 : Ref sig .tc := ⟨.hbm, 1357, rfl⟩
abbrev main_v1047 : Ref sig .tc := ⟨.hbm, 1358, rfl⟩
abbrev main_v1048 : Ref sig .tc := ⟨.hbm, 1359, rfl⟩
abbrev main_v1049 : Ref sig .tc := ⟨.hbm, 1360, rfl⟩
abbrev main_c_185 : Ref sig .tc := ⟨.hbm, 1361, rfl⟩
abbrev main_v1050 : Ref sig .tc := ⟨.hbm, 1362, rfl⟩
abbrev main_v1051 : Ref sig .tc := ⟨.hbm, 1363, rfl⟩
abbrev main_v1052 : Ref sig .tc := ⟨.hbm, 1364, rfl⟩
abbrev main_v1053 : Ref sig .tc := ⟨.hbm, 1365, rfl⟩
abbrev main_c_186 : Ref sig .tc := ⟨.hbm, 1366, rfl⟩
abbrev main_v1054 : Ref sig .tc := ⟨.hbm, 1367, rfl⟩
abbrev main_v1055 : Ref sig .tc := ⟨.hbm, 1368, rfl⟩
abbrev main_v1056 : Ref sig .tc := ⟨.hbm, 1369, rfl⟩
abbrev main_v1057 : Ref sig .tc := ⟨.hbm, 1370, rfl⟩
abbrev main_v1058 : Ref sig .tc := ⟨.hbm, 1371, rfl⟩
abbrev main_v1059 : Ref sig .tc := ⟨.hbm, 1372, rfl⟩
abbrev main_v1060 : Ref sig .tc := ⟨.hbm, 1373, rfl⟩
abbrev main_v1061 : Ref sig .tc := ⟨.hbm, 1374, rfl⟩
abbrev main_v1062 : Ref sig .tc := ⟨.hbm, 1375, rfl⟩
abbrev main_cst_187 : Ref sig .tc := ⟨.hbm, 1376, rfl⟩
abbrev main_v1063 : Ref sig .tc := ⟨.hbm, 1377, rfl⟩
abbrev main_v1064 : Ref sig .tc := ⟨.hbm, 1378, rfl⟩
abbrev main_v1065 : Ref sig .tc := ⟨.hbm, 1379, rfl⟩
abbrev main_v1066 : Ref sig .tc := ⟨.hbm, 1380, rfl⟩
abbrev main_cst_188 : Ref sig .tc := ⟨.hbm, 1381, rfl⟩
abbrev main_v1067 : Ref sig .tc := ⟨.hbm, 1382, rfl⟩
abbrev main_v1068 : Ref sig .tc := ⟨.hbm, 1383, rfl⟩
abbrev main_v1069 : Ref sig .tc := ⟨.hbm, 1384, rfl⟩
abbrev main_v1070 : Ref sig .tc := ⟨.hbm, 1385, rfl⟩
abbrev main_v1071 : Ref sig .tc := ⟨.hbm, 1386, rfl⟩
abbrev main_v1072 : Ref sig .tc := ⟨.hbm, 1387, rfl⟩
abbrev main_v1073 : Ref sig .tc := ⟨.hbm, 1388, rfl⟩
abbrev main_v1074 : Ref sig .tc := ⟨.hbm, 1389, rfl⟩
abbrev main_v1075 : Ref sig .tc := ⟨.hbm, 1390, rfl⟩
abbrev main_v1076 : Ref sig .tc := ⟨.hbm, 1391, rfl⟩
abbrev main_v1077 : Ref sig .tc := ⟨.hbm, 1392, rfl⟩
abbrev main_v1078 : Ref sig .tc := ⟨.hbm, 1393, rfl⟩
abbrev main_v1079 : Ref sig .tc := ⟨.hbm, 1394, rfl⟩
abbrev main_c_189 : Ref sig .tc := ⟨.hbm, 1395, rfl⟩
abbrev main_call32_v0 : Ref sig .tc := ⟨.hbm, 1396, rfl⟩
abbrev main_call32_v1 : Ref sig .tc := ⟨.hbm, 1397, rfl⟩
abbrev main_v1080 : Ref sig .tc := ⟨.hbm, 1398, rfl⟩
abbrev main_v1081 : Ref sig .tc := ⟨.hbm, 1399, rfl⟩
abbrev main_v1082 : Ref sig .tc := ⟨.hbm, 1400, rfl⟩
abbrev main_v1083 : Ref sig .tc := ⟨.hbm, 1401, rfl⟩
abbrev main_v1084 : Ref sig .tc := ⟨.hbm, 1402, rfl⟩
abbrev main_v1085 : Ref sig .tc := ⟨.hbm, 1403, rfl⟩
abbrev main_v1086 : Ref sig .tc := ⟨.hbm, 1404, rfl⟩
abbrev main_v1087 : Ref sig .tc := ⟨.hbm, 1405, rfl⟩
abbrev main_v1088 : Ref sig .tc := ⟨.hbm, 1406, rfl⟩
abbrev main_v1089 : Ref sig .tc := ⟨.hbm, 1407, rfl⟩
abbrev main_cst_190 : Ref sig .tc := ⟨.hbm, 1408, rfl⟩
abbrev main_v1090 : Ref sig .tc := ⟨.hbm, 1409, rfl⟩
abbrev main_c_191 : Ref sig .tc := ⟨.hbm, 1410, rfl⟩
abbrev main_v1091 : Ref sig .tc := ⟨.hbm, 1411, rfl⟩
abbrev main_v1092 : Ref sig .tc := ⟨.hbm, 1412, rfl⟩
abbrev main_c_192 : Ref sig .tc := ⟨.hbm, 1413, rfl⟩
abbrev main_v1093 : Ref sig .tc := ⟨.hbm, 1414, rfl⟩
abbrev main_v1094 : Ref sig .tc := ⟨.hbm, 1415, rfl⟩
abbrev main_v1095 : Ref sig .tc := ⟨.hbm, 1416, rfl⟩
abbrev main_c_193 : Ref sig .tc := ⟨.hbm, 1417, rfl⟩
abbrev main_v1096 : Ref sig .tc := ⟨.hbm, 1418, rfl⟩
abbrev main_v1097 : Ref sig .tc := ⟨.hbm, 1419, rfl⟩
abbrev main_c_194 : Ref sig .tc := ⟨.hbm, 1420, rfl⟩
abbrev main_v1098 : Ref sig .tc := ⟨.hbm, 1421, rfl⟩
abbrev main_v1099 : Ref sig .tc := ⟨.hbm, 1422, rfl⟩
abbrev main_v1100 : Ref sig .tc := ⟨.hbm, 1423, rfl⟩
abbrev main_v1101 : Ref sig .tc := ⟨.hbm, 1424, rfl⟩
abbrev main_v1102 : Ref sig .tc := ⟨.hbm, 1425, rfl⟩
abbrev main_v1103 : Ref sig .tc := ⟨.hbm, 1426, rfl⟩
abbrev main_v1104 : Ref sig .tc := ⟨.hbm, 1427, rfl⟩
abbrev main_v1105 : Ref sig .tc := ⟨.hbm, 1428, rfl⟩
abbrev main_v1106 : Ref sig .tc := ⟨.hbm, 1429, rfl⟩
abbrev main_v1107 : Ref sig .tc := ⟨.hbm, 1430, rfl⟩
abbrev main_v1108 : Ref sig .tc := ⟨.hbm, 1431, rfl⟩
abbrev main_v1109 : Ref sig .tc := ⟨.hbm, 1432, rfl⟩
abbrev main_v1110 : Ref sig .tc := ⟨.hbm, 1433, rfl⟩
abbrev main_v1111 : Ref sig .tc := ⟨.hbm, 1434, rfl⟩
abbrev main_v1112 : Ref sig .tc := ⟨.hbm, 1435, rfl⟩
abbrev main_v1113 : Ref sig .tc := ⟨.hbm, 1436, rfl⟩
abbrev main_v1114 : Ref sig .tc := ⟨.hbm, 1437, rfl⟩
abbrev main_v1115 : Ref sig .tc := ⟨.hbm, 1438, rfl⟩
abbrev main_v1116 : Ref sig .tc := ⟨.hbm, 1439, rfl⟩
abbrev main_v1117 : Ref sig .tc := ⟨.hbm, 1440, rfl⟩
abbrev main_v1118 : Ref sig .tc := ⟨.hbm, 1441, rfl⟩
abbrev main_v1119 : Ref sig .tc := ⟨.hbm, 1442, rfl⟩
abbrev main_v1120 : Ref sig .tc := ⟨.hbm, 1443, rfl⟩
abbrev main_v1121 : Ref sig .tc := ⟨.hbm, 1444, rfl⟩
abbrev main_v1122 : Ref sig .tc := ⟨.hbm, 1445, rfl⟩
abbrev main_v1123 : Ref sig .tc := ⟨.hbm, 1446, rfl⟩
abbrev main_v1124 : Ref sig .tc := ⟨.hbm, 1447, rfl⟩
abbrev main_v1125 : Ref sig .tc := ⟨.hbm, 1448, rfl⟩
abbrev main_v1126 : Ref sig .tc := ⟨.hbm, 1449, rfl⟩
abbrev main_v1127 : Ref sig .tc := ⟨.hbm, 1450, rfl⟩
abbrev main_v1128 : Ref sig .tc := ⟨.hbm, 1451, rfl⟩
abbrev main_v1129 : Ref sig .tc := ⟨.hbm, 1452, rfl⟩
abbrev main_v1130 : Ref sig .tc := ⟨.hbm, 1453, rfl⟩
abbrev main_v1131 : Ref sig .tc := ⟨.hbm, 1454, rfl⟩
abbrev main_v1132 : Ref sig .tc := ⟨.hbm, 1455, rfl⟩
abbrev main_v1133 : Ref sig .tc := ⟨.hbm, 1456, rfl⟩
abbrev main_v1134 : Ref sig .tc := ⟨.hbm, 1457, rfl⟩
abbrev main_v1135 : Ref sig .tc := ⟨.hbm, 1458, rfl⟩
abbrev main_cst_195 : Ref sig .tc := ⟨.hbm, 1459, rfl⟩
abbrev main_v1136 : Ref sig .tc := ⟨.hbm, 1460, rfl⟩
abbrev main_v1137 : Ref sig .tc := ⟨.hbm, 1461, rfl⟩
abbrev main_cst_196 : Ref sig .tc := ⟨.hbm, 1462, rfl⟩
abbrev main_v1138 : Ref sig .tc := ⟨.hbm, 1463, rfl⟩
abbrev main_v1139 : Ref sig .tc := ⟨.hbm, 1464, rfl⟩
abbrev main_v1140 : Ref sig .tc := ⟨.hbm, 1465, rfl⟩
abbrev main_v1141 : Ref sig .tc := ⟨.hbm, 1466, rfl⟩
abbrev main_cst_197 : Ref sig .tc := ⟨.hbm, 1467, rfl⟩
abbrev main_v1142 : Ref sig .tc := ⟨.hbm, 1468, rfl⟩
abbrev main_v1143 : Ref sig .tc := ⟨.hbm, 1469, rfl⟩
abbrev main_cst_198 : Ref sig .tc := ⟨.hbm, 1470, rfl⟩
abbrev main_v1144 : Ref sig .tc := ⟨.hbm, 1471, rfl⟩
abbrev main_v1145 : Ref sig .tc := ⟨.hbm, 1472, rfl⟩
abbrev main_v1146 : Ref sig .tc := ⟨.hbm, 1473, rfl⟩
abbrev main_v1147 : Ref sig .tc := ⟨.hbm, 1474, rfl⟩
abbrev main_v1148 : Ref sig .tc := ⟨.hbm, 1475, rfl⟩
abbrev main_cst_199 : Ref sig .tc := ⟨.hbm, 1476, rfl⟩
abbrev main_v1149 : Ref sig .tc := ⟨.hbm, 1477, rfl⟩
abbrev main_v1150 : Ref sig .tc := ⟨.hbm, 1478, rfl⟩
abbrev main_cst_200 : Ref sig .tc := ⟨.hbm, 1479, rfl⟩
abbrev main_v1151 : Ref sig .tc := ⟨.hbm, 1480, rfl⟩
abbrev main_v1152 : Ref sig .tc := ⟨.hbm, 1481, rfl⟩
abbrev main_v1153 : Ref sig .tc := ⟨.hbm, 1482, rfl⟩
abbrev main_v1154 : Ref sig .tc := ⟨.hbm, 1483, rfl⟩
abbrev main_v1155 : Ref sig .tc := ⟨.hbm, 1484, rfl⟩
abbrev main_v1156 : Ref sig .tc := ⟨.hbm, 1485, rfl⟩
abbrev main_v1157 : Ref sig .tc := ⟨.hbm, 1486, rfl⟩
abbrev main_v1158 : Ref sig .tc := ⟨.hbm, 1487, rfl⟩
abbrev main_v1159 : Ref sig .tc := ⟨.hbm, 1488, rfl⟩
abbrev main_v1160 : Ref sig .tc := ⟨.hbm, 1489, rfl⟩
abbrev main_v1161 : Ref sig .tc := ⟨.hbm, 1490, rfl⟩
abbrev main_v1162 : Ref sig .tc := ⟨.hbm, 1491, rfl⟩
abbrev main_v1163 : Ref sig .tc := ⟨.hbm, 1492, rfl⟩
abbrev main_v1164 : Ref sig .tc := ⟨.hbm, 1493, rfl⟩
abbrev main_v1165 : Ref sig .tc := ⟨.hbm, 1494, rfl⟩
abbrev main_v1166 : Ref sig .tc := ⟨.hbm, 1495, rfl⟩
abbrev main_call33_cst : Ref sig .tc := ⟨.hbm, 1496, rfl⟩
abbrev main_call33_v0 : Ref sig .tc := ⟨.hbm, 1497, rfl⟩
abbrev main_v1167 : Ref sig .tc := ⟨.hbm, 1498, rfl⟩
abbrev main_v1168 : Ref sig .tc := ⟨.hbm, 1499, rfl⟩
abbrev main_v1169 : Ref sig .tc := ⟨.hbm, 1500, rfl⟩
abbrev main_v1170 : Ref sig .tc := ⟨.hbm, 1501, rfl⟩
abbrev main_v1171 : Ref sig .tc := ⟨.hbm, 1502, rfl⟩
abbrev main_v1172 : Ref sig .tc := ⟨.hbm, 1503, rfl⟩
abbrev main_v1173 : Ref sig .tc := ⟨.hbm, 1504, rfl⟩
abbrev main_v1174 : Ref sig .tc := ⟨.hbm, 1505, rfl⟩
abbrev main_v1175 : Ref sig .tc := ⟨.hbm, 1506, rfl⟩
abbrev main_v1176 : Ref sig .tc := ⟨.hbm, 1507, rfl⟩
abbrev main_cst_201 : Ref sig .tc := ⟨.hbm, 1508, rfl⟩
abbrev main_v1177 : Ref sig .tc := ⟨.hbm, 1509, rfl⟩
abbrev main_v1178 : Ref sig .tc := ⟨.hbm, 1510, rfl⟩
abbrev main_cst_202 : Ref sig .tc := ⟨.hbm, 1511, rfl⟩
abbrev main_v1179 : Ref sig .tc := ⟨.hbm, 1512, rfl⟩
abbrev main_v1180 : Ref sig .tc := ⟨.hbm, 1513, rfl⟩
abbrev main_v1181 : Ref sig .tc := ⟨.hbm, 1514, rfl⟩
abbrev main_v1182 : Ref sig .tc := ⟨.hbm, 1515, rfl⟩
abbrev main_c_203 : Ref sig .tc := ⟨.hbm, 1516, rfl⟩
abbrev main_c_204 : Ref sig .tc := ⟨.hbm, 1517, rfl⟩
abbrev main_call34_v0 : Ref sig .tc := ⟨.hbm, 1518, rfl⟩
abbrev main_call34_v1 : Ref sig .tc := ⟨.hbm, 1519, rfl⟩
abbrev main_call34_v2 : Ref sig .tc := ⟨.hbm, 1520, rfl⟩
abbrev main_call34_v3 : Ref sig .tc := ⟨.hbm, 1521, rfl⟩
abbrev main_call34_v4 : Ref sig .tc := ⟨.hbm, 1522, rfl⟩
abbrev main_v1183 : Ref sig .tc := ⟨.hbm, 1523, rfl⟩
abbrev main_cst_205 : Ref sig .tc := ⟨.hbm, 1524, rfl⟩
abbrev main_v1184 : Ref sig .tc := ⟨.hbm, 1525, rfl⟩
abbrev main_v1185 : Ref sig .tc := ⟨.hbm, 1526, rfl⟩
abbrev main_cst_206 : Ref sig .tc := ⟨.hbm, 1527, rfl⟩
abbrev main_v1186 : Ref sig .tc := ⟨.hbm, 1528, rfl⟩
abbrev main_v1187 : Ref sig .tc := ⟨.hbm, 1529, rfl⟩
abbrev main_v1188 : Ref sig .tc := ⟨.hbm, 1530, rfl⟩
abbrev main_v1189 : Ref sig .tc := ⟨.hbm, 1531, rfl⟩
abbrev main_c_207 : Ref sig .tc := ⟨.hbm, 1532, rfl⟩
abbrev main_c_208 : Ref sig .tc := ⟨.hbm, 1533, rfl⟩
abbrev main_call35_v0 : Ref sig .tc := ⟨.hbm, 1534, rfl⟩
abbrev main_call35_v1 : Ref sig .tc := ⟨.hbm, 1535, rfl⟩
abbrev main_call35_v2 : Ref sig .tc := ⟨.hbm, 1536, rfl⟩
abbrev main_call35_v3 : Ref sig .tc := ⟨.hbm, 1537, rfl⟩
abbrev main_call35_v4 : Ref sig .tc := ⟨.hbm, 1538, rfl⟩
abbrev main_v1190 : Ref sig .tc := ⟨.hbm, 1539, rfl⟩
abbrev main_c_209 : Ref sig .tc := ⟨.hbm, 1540, rfl⟩
abbrev main_v1191 : Ref sig .tc := ⟨.hbm, 1541, rfl⟩
abbrev main_v1192 : Ref sig .tc := ⟨.hbm, 1542, rfl⟩
abbrev main_v1193 : Ref sig .tc := ⟨.hbm, 1543, rfl⟩
abbrev main_v1194 : Ref sig .tc := ⟨.hbm, 1544, rfl⟩
abbrev main_v1195 : Ref sig .tc := ⟨.hbm, 1545, rfl⟩
abbrev main_c_210 : Ref sig .tc := ⟨.hbm, 1546, rfl⟩
abbrev main_v1196 : Ref sig .tc := ⟨.hbm, 1547, rfl⟩
abbrev main_v1197 : Ref sig .tc := ⟨.hbm, 1548, rfl⟩
abbrev main_v1198 : Ref sig .tc := ⟨.hbm, 1549, rfl⟩
abbrev main_v1199 : Ref sig .tc := ⟨.hbm, 1550, rfl⟩
abbrev main_c_211 : Ref sig .tc := ⟨.hbm, 1551, rfl⟩
abbrev main_v1200 : Ref sig .tc := ⟨.hbm, 1552, rfl⟩
abbrev main_v1201 : Ref sig .tc := ⟨.hbm, 1553, rfl⟩
abbrev main_v1202 : Ref sig .tc := ⟨.hbm, 1554, rfl⟩
abbrev main_v1203 : Ref sig .tc := ⟨.hbm, 1555, rfl⟩
abbrev main_v1204 : Ref sig .tc := ⟨.hbm, 1556, rfl⟩
abbrev main_v1205 : Ref sig .tc := ⟨.hbm, 1557, rfl⟩
abbrev main_v1206 : Ref sig .tc := ⟨.hbm, 1558, rfl⟩
abbrev main_v1207 : Ref sig .tc := ⟨.hbm, 1559, rfl⟩
abbrev main_v1208 : Ref sig .tc := ⟨.hbm, 1560, rfl⟩
abbrev main_cst_212 : Ref sig .tc := ⟨.hbm, 1561, rfl⟩
abbrev main_v1209 : Ref sig .tc := ⟨.hbm, 1562, rfl⟩
abbrev main_v1210 : Ref sig .tc := ⟨.hbm, 1563, rfl⟩
abbrev main_v1211 : Ref sig .tc := ⟨.hbm, 1564, rfl⟩
abbrev main_v1212 : Ref sig .tc := ⟨.hbm, 1565, rfl⟩
abbrev main_cst_213 : Ref sig .tc := ⟨.hbm, 1566, rfl⟩
abbrev main_v1213 : Ref sig .tc := ⟨.hbm, 1567, rfl⟩
abbrev main_v1214 : Ref sig .tc := ⟨.hbm, 1568, rfl⟩
abbrev main_v1215 : Ref sig .tc := ⟨.hbm, 1569, rfl⟩
abbrev main_v1216 : Ref sig .tc := ⟨.hbm, 1570, rfl⟩
abbrev main_v1217 : Ref sig .tc := ⟨.hbm, 1571, rfl⟩
abbrev main_v1218 : Ref sig .tc := ⟨.hbm, 1572, rfl⟩
abbrev main_v1219 : Ref sig .tc := ⟨.hbm, 1573, rfl⟩
abbrev main_v1220 : Ref sig .tc := ⟨.hbm, 1574, rfl⟩
abbrev main_v1221 : Ref sig .tc := ⟨.hbm, 1575, rfl⟩
abbrev main_v1222 : Ref sig .tc := ⟨.hbm, 1576, rfl⟩
abbrev main_v1223 : Ref sig .tc := ⟨.hbm, 1577, rfl⟩
abbrev main_v1224 : Ref sig .tc := ⟨.hbm, 1578, rfl⟩
abbrev main_v1225 : Ref sig .tc := ⟨.hbm, 1579, rfl⟩
abbrev main_c_214 : Ref sig .tc := ⟨.hbm, 1580, rfl⟩
abbrev main_call36_v0 : Ref sig .tc := ⟨.hbm, 1581, rfl⟩
abbrev main_call36_v1 : Ref sig .tc := ⟨.hbm, 1582, rfl⟩
abbrev main_v1226 : Ref sig .tc := ⟨.hbm, 1583, rfl⟩
abbrev main_v1227 : Ref sig .tc := ⟨.hbm, 1584, rfl⟩
abbrev main_v1228 : Ref sig .tc := ⟨.hbm, 1585, rfl⟩
abbrev main_v1229 : Ref sig .tc := ⟨.hbm, 1586, rfl⟩
abbrev main_v1230 : Ref sig .tc := ⟨.hbm, 1587, rfl⟩
abbrev main_v1231 : Ref sig .tc := ⟨.hbm, 1588, rfl⟩
abbrev main_v1232 : Ref sig .tc := ⟨.hbm, 1589, rfl⟩
abbrev main_v1233 : Ref sig .tc := ⟨.hbm, 1590, rfl⟩
abbrev main_v1234 : Ref sig .tc := ⟨.hbm, 1591, rfl⟩
abbrev main_v1235 : Ref sig .tc := ⟨.hbm, 1592, rfl⟩
abbrev main_cst_215 : Ref sig .tc := ⟨.hbm, 1593, rfl⟩
abbrev main_v1236 : Ref sig .tc := ⟨.hbm, 1594, rfl⟩
abbrev main_c_216 : Ref sig .tc := ⟨.hbm, 1595, rfl⟩
abbrev main_v1237 : Ref sig .tc := ⟨.hbm, 1596, rfl⟩
abbrev main_v1238 : Ref sig .tc := ⟨.hbm, 1597, rfl⟩
abbrev main_c_217 : Ref sig .tc := ⟨.hbm, 1598, rfl⟩
abbrev main_v1239 : Ref sig .tc := ⟨.hbm, 1599, rfl⟩
abbrev main_v1240 : Ref sig .tc := ⟨.hbm, 1600, rfl⟩
abbrev main_v1241 : Ref sig .tc := ⟨.hbm, 1601, rfl⟩
abbrev main_c_218 : Ref sig .tc := ⟨.hbm, 1602, rfl⟩
abbrev main_v1242 : Ref sig .tc := ⟨.hbm, 1603, rfl⟩
abbrev main_v1243 : Ref sig .tc := ⟨.hbm, 1604, rfl⟩
abbrev main_c_219 : Ref sig .tc := ⟨.hbm, 1605, rfl⟩
abbrev main_v1244 : Ref sig .tc := ⟨.hbm, 1606, rfl⟩
abbrev main_v1245 : Ref sig .tc := ⟨.hbm, 1607, rfl⟩
abbrev main_v1246 : Ref sig .tc := ⟨.hbm, 1608, rfl⟩
abbrev main_v1247 : Ref sig .tc := ⟨.hbm, 1609, rfl⟩
abbrev main_v1248 : Ref sig .tc := ⟨.hbm, 1610, rfl⟩
abbrev main_v1249 : Ref sig .tc := ⟨.hbm, 1611, rfl⟩
abbrev main_v1250 : Ref sig .tc := ⟨.hbm, 1612, rfl⟩
abbrev main_v1251 : Ref sig .tc := ⟨.hbm, 1613, rfl⟩
abbrev main_v1252 : Ref sig .tc := ⟨.hbm, 1614, rfl⟩
abbrev main_v1253 : Ref sig .tc := ⟨.hbm, 1615, rfl⟩
abbrev main_v1254 : Ref sig .tc := ⟨.hbm, 1616, rfl⟩
abbrev main_v1255 : Ref sig .tc := ⟨.hbm, 1617, rfl⟩
abbrev main_v1256 : Ref sig .tc := ⟨.hbm, 1618, rfl⟩
abbrev main_v1257 : Ref sig .tc := ⟨.hbm, 1619, rfl⟩
abbrev main_v1258 : Ref sig .tc := ⟨.hbm, 1620, rfl⟩
abbrev main_v1259 : Ref sig .tc := ⟨.hbm, 1621, rfl⟩
abbrev main_v1260 : Ref sig .tc := ⟨.hbm, 1622, rfl⟩
abbrev main_v1261 : Ref sig .tc := ⟨.hbm, 1623, rfl⟩
abbrev main_v1262 : Ref sig .tc := ⟨.hbm, 1624, rfl⟩
abbrev main_v1263 : Ref sig .tc := ⟨.hbm, 1625, rfl⟩
abbrev main_v1264 : Ref sig .tc := ⟨.hbm, 1626, rfl⟩
abbrev main_v1265 : Ref sig .tc := ⟨.hbm, 1627, rfl⟩
abbrev main_v1266 : Ref sig .tc := ⟨.hbm, 1628, rfl⟩
abbrev main_v1267 : Ref sig .tc := ⟨.hbm, 1629, rfl⟩
abbrev main_v1268 : Ref sig .tc := ⟨.hbm, 1630, rfl⟩
abbrev main_v1269 : Ref sig .tc := ⟨.hbm, 1631, rfl⟩
abbrev main_v1270 : Ref sig .tc := ⟨.hbm, 1632, rfl⟩
abbrev main_v1271 : Ref sig .tc := ⟨.hbm, 1633, rfl⟩
abbrev main_v1272 : Ref sig .tc := ⟨.hbm, 1634, rfl⟩
abbrev main_v1273 : Ref sig .tc := ⟨.hbm, 1635, rfl⟩
abbrev main_v1274 : Ref sig .tc := ⟨.hbm, 1636, rfl⟩
abbrev main_v1275 : Ref sig .tc := ⟨.hbm, 1637, rfl⟩
abbrev main_v1276 : Ref sig .tc := ⟨.hbm, 1638, rfl⟩
abbrev main_v1277 : Ref sig .tc := ⟨.hbm, 1639, rfl⟩
abbrev main_v1278 : Ref sig .tc := ⟨.hbm, 1640, rfl⟩
abbrev main_v1279 : Ref sig .tc := ⟨.hbm, 1641, rfl⟩
abbrev main_v1280 : Ref sig .tc := ⟨.hbm, 1642, rfl⟩
abbrev main_v1281 : Ref sig .tc := ⟨.hbm, 1643, rfl⟩
abbrev main_cst_220 : Ref sig .tc := ⟨.hbm, 1644, rfl⟩
abbrev main_v1282 : Ref sig .tc := ⟨.hbm, 1645, rfl⟩
abbrev main_v1283 : Ref sig .tc := ⟨.hbm, 1646, rfl⟩
abbrev main_cst_221 : Ref sig .tc := ⟨.hbm, 1647, rfl⟩
abbrev main_v1284 : Ref sig .tc := ⟨.hbm, 1648, rfl⟩
abbrev main_v1285 : Ref sig .tc := ⟨.hbm, 1649, rfl⟩
abbrev main_v1286 : Ref sig .tc := ⟨.hbm, 1650, rfl⟩
abbrev main_v1287 : Ref sig .tc := ⟨.hbm, 1651, rfl⟩
abbrev main_cst_222 : Ref sig .tc := ⟨.hbm, 1652, rfl⟩
abbrev main_v1288 : Ref sig .tc := ⟨.hbm, 1653, rfl⟩
abbrev main_v1289 : Ref sig .tc := ⟨.hbm, 1654, rfl⟩
abbrev main_cst_223 : Ref sig .tc := ⟨.hbm, 1655, rfl⟩
abbrev main_v1290 : Ref sig .tc := ⟨.hbm, 1656, rfl⟩
abbrev main_v1291 : Ref sig .tc := ⟨.hbm, 1657, rfl⟩
abbrev main_v1292 : Ref sig .tc := ⟨.hbm, 1658, rfl⟩
abbrev main_v1293 : Ref sig .tc := ⟨.hbm, 1659, rfl⟩
abbrev main_v1294 : Ref sig .tc := ⟨.hbm, 1660, rfl⟩
abbrev main_cst_224 : Ref sig .tc := ⟨.hbm, 1661, rfl⟩
abbrev main_v1295 : Ref sig .tc := ⟨.hbm, 1662, rfl⟩
abbrev main_v1296 : Ref sig .tc := ⟨.hbm, 1663, rfl⟩
abbrev main_cst_225 : Ref sig .tc := ⟨.hbm, 1664, rfl⟩
abbrev main_v1297 : Ref sig .tc := ⟨.hbm, 1665, rfl⟩
abbrev main_v1298 : Ref sig .tc := ⟨.hbm, 1666, rfl⟩
abbrev main_v1299 : Ref sig .tc := ⟨.hbm, 1667, rfl⟩
abbrev main_v1300 : Ref sig .tc := ⟨.hbm, 1668, rfl⟩
abbrev main_v1301 : Ref sig .tc := ⟨.hbm, 1669, rfl⟩
abbrev main_v1302 : Ref sig .tc := ⟨.hbm, 1670, rfl⟩
abbrev main_v1303 : Ref sig .tc := ⟨.hbm, 1671, rfl⟩
abbrev main_v1304 : Ref sig .tc := ⟨.hbm, 1672, rfl⟩
abbrev main_v1305 : Ref sig .tc := ⟨.hbm, 1673, rfl⟩
abbrev main_v1306 : Ref sig .tc := ⟨.hbm, 1674, rfl⟩
abbrev main_v1307 : Ref sig .tc := ⟨.hbm, 1675, rfl⟩
abbrev main_v1308 : Ref sig .tc := ⟨.hbm, 1676, rfl⟩
abbrev main_v1309 : Ref sig .tc := ⟨.hbm, 1677, rfl⟩
abbrev main_v1310 : Ref sig .tc := ⟨.hbm, 1678, rfl⟩
abbrev main_v1311 : Ref sig .tc := ⟨.hbm, 1679, rfl⟩
abbrev main_cst_226 : Ref sig .tc := ⟨.hbm, 1680, rfl⟩
abbrev main_v1312 : Ref sig .tc := ⟨.hbm, 1681, rfl⟩
abbrev main_v1313 : Ref sig .tc := ⟨.hbm, 1682, rfl⟩
abbrev main_v1314 : Ref sig .tc := ⟨.hbm, 1683, rfl⟩
abbrev main_v1315 : Ref sig .tc := ⟨.hbm, 1684, rfl⟩
abbrev main_v1316 : Ref sig .tc := ⟨.hbm, 1685, rfl⟩
abbrev main_v1317 : Ref sig .tc := ⟨.hbm, 1686, rfl⟩
abbrev main_v1318 : Ref sig .tc := ⟨.hbm, 1687, rfl⟩
abbrev main_v1319 : Ref sig .tc := ⟨.hbm, 1688, rfl⟩
abbrev main_v1320 : Ref sig .tc := ⟨.hbm, 1689, rfl⟩
abbrev main_v1321 : Ref sig .tc := ⟨.hbm, 1690, rfl⟩
abbrev main_v1322 : Ref sig .tc := ⟨.hbm, 1691, rfl⟩
abbrev main_v1323 : Ref sig .tc := ⟨.hbm, 1692, rfl⟩
abbrev main_v1324 : Ref sig .tc := ⟨.hbm, 1693, rfl⟩
abbrev main_call37_cst : Ref sig .tc := ⟨.hbm, 1694, rfl⟩
abbrev main_call37_v0 : Ref sig .tc := ⟨.hbm, 1695, rfl⟩
abbrev main_v1325 : Ref sig .tc := ⟨.hbm, 1696, rfl⟩
abbrev main_v1326 : Ref sig .tc := ⟨.hbm, 1697, rfl⟩
abbrev main_v1327 : Ref sig .tc := ⟨.hbm, 1698, rfl⟩
abbrev main_v1328 : Ref sig .tc := ⟨.hbm, 1699, rfl⟩
abbrev main_v1329 : Ref sig .tc := ⟨.hbm, 1700, rfl⟩
abbrev main_v1330 : Ref sig .tc := ⟨.hbm, 1701, rfl⟩
abbrev main_v1331 : Ref sig .tc := ⟨.hbm, 1702, rfl⟩
abbrev main_v1332 : Ref sig .tc := ⟨.hbm, 1703, rfl⟩
abbrev main_v1333 : Ref sig .tc := ⟨.hbm, 1704, rfl⟩
abbrev main_v1334 : Ref sig .tc := ⟨.hbm, 1705, rfl⟩
abbrev main_cst_227 : Ref sig .tc := ⟨.hbm, 1706, rfl⟩
abbrev main_v1335 : Ref sig .tc := ⟨.hbm, 1707, rfl⟩
abbrev main_v1336 : Ref sig .tc := ⟨.hbm, 1708, rfl⟩
abbrev main_cst_228 : Ref sig .tc := ⟨.hbm, 1709, rfl⟩
abbrev main_v1337 : Ref sig .tc := ⟨.hbm, 1710, rfl⟩
abbrev main_v1338 : Ref sig .tc := ⟨.hbm, 1711, rfl⟩
abbrev main_v1339 : Ref sig .tc := ⟨.hbm, 1712, rfl⟩
abbrev main_v1340 : Ref sig .tc := ⟨.hbm, 1713, rfl⟩
abbrev main_c_229 : Ref sig .tc := ⟨.hbm, 1714, rfl⟩
abbrev main_c_230 : Ref sig .tc := ⟨.hbm, 1715, rfl⟩
abbrev main_call38_v0 : Ref sig .tc := ⟨.hbm, 1716, rfl⟩
abbrev main_call38_v1 : Ref sig .tc := ⟨.hbm, 1717, rfl⟩
abbrev main_call38_v2 : Ref sig .tc := ⟨.hbm, 1718, rfl⟩
abbrev main_call38_v3 : Ref sig .tc := ⟨.hbm, 1719, rfl⟩
abbrev main_call38_v4 : Ref sig .tc := ⟨.hbm, 1720, rfl⟩
abbrev main_v1341 : Ref sig .tc := ⟨.hbm, 1721, rfl⟩
abbrev main_cst_231 : Ref sig .tc := ⟨.hbm, 1722, rfl⟩
abbrev main_v1342 : Ref sig .tc := ⟨.hbm, 1723, rfl⟩
abbrev main_v1343 : Ref sig .tc := ⟨.hbm, 1724, rfl⟩
abbrev main_cst_232 : Ref sig .tc := ⟨.hbm, 1725, rfl⟩
abbrev main_v1344 : Ref sig .tc := ⟨.hbm, 1726, rfl⟩
abbrev main_v1345 : Ref sig .tc := ⟨.hbm, 1727, rfl⟩
abbrev main_v1346 : Ref sig .tc := ⟨.hbm, 1728, rfl⟩
abbrev main_v1347 : Ref sig .tc := ⟨.hbm, 1729, rfl⟩
abbrev main_c_233 : Ref sig .tc := ⟨.hbm, 1730, rfl⟩
abbrev main_c_234 : Ref sig .tc := ⟨.hbm, 1731, rfl⟩
abbrev main_call39_v0 : Ref sig .tc := ⟨.hbm, 1732, rfl⟩
abbrev main_call39_v1 : Ref sig .tc := ⟨.hbm, 1733, rfl⟩
abbrev main_call39_v2 : Ref sig .tc := ⟨.hbm, 1734, rfl⟩
abbrev main_call39_v3 : Ref sig .tc := ⟨.hbm, 1735, rfl⟩
abbrev main_call39_v4 : Ref sig .tc := ⟨.hbm, 1736, rfl⟩
abbrev main_v1348 : Ref sig .tc := ⟨.hbm, 1737, rfl⟩
abbrev main_c_235 : Ref sig .tc := ⟨.hbm, 1738, rfl⟩
abbrev main_v1349 : Ref sig .tc := ⟨.hbm, 1739, rfl⟩
abbrev main_v1350 : Ref sig .tc := ⟨.hbm, 1740, rfl⟩
abbrev main_v1351 : Ref sig .tc := ⟨.hbm, 1741, rfl⟩
abbrev main_v1352 : Ref sig .tc := ⟨.hbm, 1742, rfl⟩
abbrev main_v1353 : Ref sig .tc := ⟨.hbm, 1743, rfl⟩
abbrev main_c_236 : Ref sig .tc := ⟨.hbm, 1744, rfl⟩
abbrev main_v1354 : Ref sig .tc := ⟨.hbm, 1745, rfl⟩
abbrev main_v1355 : Ref sig .tc := ⟨.hbm, 1746, rfl⟩
abbrev main_v1356 : Ref sig .tc := ⟨.hbm, 1747, rfl⟩
abbrev main_v1357 : Ref sig .tc := ⟨.hbm, 1748, rfl⟩
abbrev main_c_237 : Ref sig .tc := ⟨.hbm, 1749, rfl⟩
abbrev main_v1358 : Ref sig .tc := ⟨.hbm, 1750, rfl⟩
abbrev main_v1359 : Ref sig .tc := ⟨.hbm, 1751, rfl⟩
abbrev main_v1360 : Ref sig .tc := ⟨.hbm, 1752, rfl⟩
abbrev main_v1361 : Ref sig .tc := ⟨.hbm, 1753, rfl⟩
abbrev main_v1362 : Ref sig .tc := ⟨.hbm, 1754, rfl⟩
abbrev main_v1363 : Ref sig .tc := ⟨.hbm, 1755, rfl⟩
abbrev main_v1364 : Ref sig .tc := ⟨.hbm, 1756, rfl⟩
abbrev main_v1365 : Ref sig .tc := ⟨.hbm, 1757, rfl⟩
abbrev main_v1366 : Ref sig .tc := ⟨.hbm, 1758, rfl⟩
abbrev main_cst_238 : Ref sig .tc := ⟨.hbm, 1759, rfl⟩
abbrev main_v1367 : Ref sig .tc := ⟨.hbm, 1760, rfl⟩
abbrev main_v1368 : Ref sig .tc := ⟨.hbm, 1761, rfl⟩
abbrev main_v1369 : Ref sig .tc := ⟨.hbm, 1762, rfl⟩
abbrev main_v1370 : Ref sig .tc := ⟨.hbm, 1763, rfl⟩
abbrev main_cst_239 : Ref sig .tc := ⟨.hbm, 1764, rfl⟩
abbrev main_v1371 : Ref sig .tc := ⟨.hbm, 1765, rfl⟩
abbrev main_v1372 : Ref sig .tc := ⟨.hbm, 1766, rfl⟩
abbrev main_v1373 : Ref sig .tc := ⟨.hbm, 1767, rfl⟩
abbrev main_v1374 : Ref sig .tc := ⟨.hbm, 1768, rfl⟩
abbrev main_v1375 : Ref sig .tc := ⟨.hbm, 1769, rfl⟩
abbrev main_v1376 : Ref sig .tc := ⟨.hbm, 1770, rfl⟩
abbrev main_v1377 : Ref sig .tc := ⟨.hbm, 1771, rfl⟩
abbrev main_v1378 : Ref sig .tc := ⟨.hbm, 1772, rfl⟩
abbrev main_v1379 : Ref sig .tc := ⟨.hbm, 1773, rfl⟩
abbrev main_v1380 : Ref sig .tc := ⟨.hbm, 1774, rfl⟩
abbrev main_v1381 : Ref sig .tc := ⟨.hbm, 1775, rfl⟩
abbrev main_v1382 : Ref sig .tc := ⟨.hbm, 1776, rfl⟩
abbrev main_v1383 : Ref sig .tc := ⟨.hbm, 1777, rfl⟩
abbrev main_c_240 : Ref sig .tc := ⟨.hbm, 1778, rfl⟩
abbrev main_call40_v0 : Ref sig .tc := ⟨.hbm, 1779, rfl⟩
abbrev main_call40_v1 : Ref sig .tc := ⟨.hbm, 1780, rfl⟩
abbrev main_v1384 : Ref sig .tc := ⟨.hbm, 1781, rfl⟩
abbrev main_v1385 : Ref sig .tc := ⟨.hbm, 1782, rfl⟩
abbrev main_v1386 : Ref sig .tc := ⟨.hbm, 1783, rfl⟩
abbrev main_v1387 : Ref sig .tc := ⟨.hbm, 1784, rfl⟩
abbrev main_v1388 : Ref sig .tc := ⟨.hbm, 1785, rfl⟩
abbrev main_v1389 : Ref sig .tc := ⟨.hbm, 1786, rfl⟩
abbrev main_v1390 : Ref sig .tc := ⟨.hbm, 1787, rfl⟩
abbrev main_v1391 : Ref sig .tc := ⟨.hbm, 1788, rfl⟩
abbrev main_v1392 : Ref sig .tc := ⟨.hbm, 1789, rfl⟩
abbrev main_v1393 : Ref sig .tc := ⟨.hbm, 1790, rfl⟩
abbrev main_cst_241 : Ref sig .tc := ⟨.hbm, 1791, rfl⟩
abbrev main_v1394 : Ref sig .tc := ⟨.hbm, 1792, rfl⟩
abbrev main_c_242 : Ref sig .tc := ⟨.hbm, 1793, rfl⟩
abbrev main_v1395 : Ref sig .tc := ⟨.hbm, 1794, rfl⟩
abbrev main_v1396 : Ref sig .tc := ⟨.hbm, 1795, rfl⟩
abbrev main_c_243 : Ref sig .tc := ⟨.hbm, 1796, rfl⟩
abbrev main_v1397 : Ref sig .tc := ⟨.hbm, 1797, rfl⟩
abbrev main_v1398 : Ref sig .tc := ⟨.hbm, 1798, rfl⟩
abbrev main_v1399 : Ref sig .tc := ⟨.hbm, 1799, rfl⟩
abbrev main_c_244 : Ref sig .tc := ⟨.hbm, 1800, rfl⟩
abbrev main_v1400 : Ref sig .tc := ⟨.hbm, 1801, rfl⟩
abbrev main_v1401 : Ref sig .tc := ⟨.hbm, 1802, rfl⟩
abbrev main_c_245 : Ref sig .tc := ⟨.hbm, 1803, rfl⟩
abbrev main_v1402 : Ref sig .tc := ⟨.hbm, 1804, rfl⟩
abbrev main_v1403 : Ref sig .tc := ⟨.hbm, 1805, rfl⟩
abbrev main_v1404 : Ref sig .tc := ⟨.hbm, 1806, rfl⟩
abbrev main_v1405 : Ref sig .tc := ⟨.hbm, 1807, rfl⟩
abbrev main_v1406 : Ref sig .tc := ⟨.hbm, 1808, rfl⟩
abbrev main_v1407 : Ref sig .tc := ⟨.hbm, 1809, rfl⟩
abbrev main_v1408 : Ref sig .tc := ⟨.hbm, 1810, rfl⟩
abbrev main_v1409 : Ref sig .tc := ⟨.hbm, 1811, rfl⟩
abbrev main_v1410 : Ref sig .tc := ⟨.hbm, 1812, rfl⟩
abbrev main_v1411 : Ref sig .tc := ⟨.hbm, 1813, rfl⟩
abbrev main_v1412 : Ref sig .tc := ⟨.hbm, 1814, rfl⟩
abbrev main_v1413 : Ref sig .tc := ⟨.hbm, 1815, rfl⟩
abbrev main_v1414 : Ref sig .tc := ⟨.hbm, 1816, rfl⟩
abbrev main_v1415 : Ref sig .tc := ⟨.hbm, 1817, rfl⟩
abbrev main_v1416 : Ref sig .tc := ⟨.hbm, 1818, rfl⟩
abbrev main_v1417 : Ref sig .tc := ⟨.hbm, 1819, rfl⟩
abbrev main_v1418 : Ref sig .tc := ⟨.hbm, 1820, rfl⟩
abbrev main_v1419 : Ref sig .tc := ⟨.hbm, 1821, rfl⟩
abbrev main_v1420 : Ref sig .tc := ⟨.hbm, 1822, rfl⟩
abbrev main_v1421 : Ref sig .tc := ⟨.hbm, 1823, rfl⟩
abbrev main_v1422 : Ref sig .tc := ⟨.hbm, 1824, rfl⟩
abbrev main_v1423 : Ref sig .tc := ⟨.hbm, 1825, rfl⟩
abbrev main_v1424 : Ref sig .tc := ⟨.hbm, 1826, rfl⟩
abbrev main_v1425 : Ref sig .tc := ⟨.hbm, 1827, rfl⟩
abbrev main_v1426 : Ref sig .tc := ⟨.hbm, 1828, rfl⟩
abbrev main_v1427 : Ref sig .tc := ⟨.hbm, 1829, rfl⟩
abbrev main_v1428 : Ref sig .tc := ⟨.hbm, 1830, rfl⟩
abbrev main_v1429 : Ref sig .tc := ⟨.hbm, 1831, rfl⟩
abbrev main_v1430 : Ref sig .tc := ⟨.hbm, 1832, rfl⟩
abbrev main_v1431 : Ref sig .tc := ⟨.hbm, 1833, rfl⟩
abbrev main_v1432 : Ref sig .tc := ⟨.hbm, 1834, rfl⟩
abbrev main_v1433 : Ref sig .tc := ⟨.hbm, 1835, rfl⟩
abbrev main_v1434 : Ref sig .tc := ⟨.hbm, 1836, rfl⟩
abbrev main_v1435 : Ref sig .tc := ⟨.hbm, 1837, rfl⟩
abbrev main_v1436 : Ref sig .tc := ⟨.hbm, 1838, rfl⟩
abbrev main_v1437 : Ref sig .tc := ⟨.hbm, 1839, rfl⟩
abbrev main_v1438 : Ref sig .tc := ⟨.hbm, 1840, rfl⟩
abbrev main_v1439 : Ref sig .tc := ⟨.hbm, 1841, rfl⟩
abbrev main_cst_246 : Ref sig .tc := ⟨.hbm, 1842, rfl⟩
abbrev main_v1440 : Ref sig .tc := ⟨.hbm, 1843, rfl⟩
abbrev main_v1441 : Ref sig .tc := ⟨.hbm, 1844, rfl⟩
abbrev main_cst_247 : Ref sig .tc := ⟨.hbm, 1845, rfl⟩
abbrev main_v1442 : Ref sig .tc := ⟨.hbm, 1846, rfl⟩
abbrev main_v1443 : Ref sig .tc := ⟨.hbm, 1847, rfl⟩
abbrev main_v1444 : Ref sig .tc := ⟨.hbm, 1848, rfl⟩
abbrev main_v1445 : Ref sig .tc := ⟨.hbm, 1849, rfl⟩
abbrev main_cst_248 : Ref sig .tc := ⟨.hbm, 1850, rfl⟩
abbrev main_v1446 : Ref sig .tc := ⟨.hbm, 1851, rfl⟩
abbrev main_v1447 : Ref sig .tc := ⟨.hbm, 1852, rfl⟩
abbrev main_cst_249 : Ref sig .tc := ⟨.hbm, 1853, rfl⟩
abbrev main_v1448 : Ref sig .tc := ⟨.hbm, 1854, rfl⟩
abbrev main_v1449 : Ref sig .tc := ⟨.hbm, 1855, rfl⟩
abbrev main_v1450 : Ref sig .tc := ⟨.hbm, 1856, rfl⟩
abbrev main_v1451 : Ref sig .tc := ⟨.hbm, 1857, rfl⟩
abbrev main_v1452 : Ref sig .tc := ⟨.hbm, 1858, rfl⟩
abbrev main_cst_250 : Ref sig .tc := ⟨.hbm, 1859, rfl⟩
abbrev main_v1453 : Ref sig .tc := ⟨.hbm, 1860, rfl⟩
abbrev main_v1454 : Ref sig .tc := ⟨.hbm, 1861, rfl⟩
abbrev main_cst_251 : Ref sig .tc := ⟨.hbm, 1862, rfl⟩
abbrev main_v1455 : Ref sig .tc := ⟨.hbm, 1863, rfl⟩
abbrev main_v1456 : Ref sig .tc := ⟨.hbm, 1864, rfl⟩
abbrev main_v1457 : Ref sig .tc := ⟨.hbm, 1865, rfl⟩
abbrev main_v1458 : Ref sig .tc := ⟨.hbm, 1866, rfl⟩
abbrev main_v1459 : Ref sig .tc := ⟨.hbm, 1867, rfl⟩
abbrev main_v1460 : Ref sig .tc := ⟨.hbm, 1868, rfl⟩
abbrev main_v1461 : Ref sig .tc := ⟨.hbm, 1869, rfl⟩
abbrev main_v1462 : Ref sig .tc := ⟨.hbm, 1870, rfl⟩
abbrev main_v1463 : Ref sig .tc := ⟨.hbm, 1871, rfl⟩
abbrev main_v1464 : Ref sig .tc := ⟨.hbm, 1872, rfl⟩
abbrev main_v1465 : Ref sig .tc := ⟨.hbm, 1873, rfl⟩
abbrev main_v1466 : Ref sig .tc := ⟨.hbm, 1874, rfl⟩
abbrev main_v1467 : Ref sig .tc := ⟨.hbm, 1875, rfl⟩
abbrev main_v1468 : Ref sig .tc := ⟨.hbm, 1876, rfl⟩
abbrev main_v1469 : Ref sig .tc := ⟨.hbm, 1877, rfl⟩
abbrev main_cst_252 : Ref sig .tc := ⟨.hbm, 1878, rfl⟩
abbrev main_v1470 : Ref sig .tc := ⟨.hbm, 1879, rfl⟩
abbrev main_v1471 : Ref sig .tc := ⟨.hbm, 1880, rfl⟩
abbrev main_v1472 : Ref sig .tc := ⟨.hbm, 1881, rfl⟩
abbrev main_v1473 : Ref sig .tc := ⟨.hbm, 1882, rfl⟩
abbrev main_v1474 : Ref sig .tc := ⟨.hbm, 1883, rfl⟩
abbrev main_v1475 : Ref sig .tc := ⟨.hbm, 1884, rfl⟩
abbrev main_v1476 : Ref sig .tc := ⟨.hbm, 1885, rfl⟩
abbrev main_v1477 : Ref sig .tc := ⟨.hbm, 1886, rfl⟩
abbrev main_v1478 : Ref sig .tc := ⟨.hbm, 1887, rfl⟩
abbrev main_v1479 : Ref sig .tc := ⟨.hbm, 1888, rfl⟩
abbrev main_v1480 : Ref sig .tc := ⟨.hbm, 1889, rfl⟩
abbrev main_v1481 : Ref sig .tc := ⟨.hbm, 1890, rfl⟩
abbrev main_v1482 : Ref sig .tc := ⟨.hbm, 1891, rfl⟩
abbrev main_call41_cst : Ref sig .tc := ⟨.hbm, 1892, rfl⟩
abbrev main_call41_v0 : Ref sig .tc := ⟨.hbm, 1893, rfl⟩
abbrev main_v1483 : Ref sig .tc := ⟨.hbm, 1894, rfl⟩
abbrev main_v1484 : Ref sig .tc := ⟨.hbm, 1895, rfl⟩
abbrev main_v1485 : Ref sig .tc := ⟨.hbm, 1896, rfl⟩
abbrev main_v1486 : Ref sig .tc := ⟨.hbm, 1897, rfl⟩
abbrev main_v1487 : Ref sig .tc := ⟨.hbm, 1898, rfl⟩
abbrev main_v1488 : Ref sig .tc := ⟨.hbm, 1899, rfl⟩
abbrev main_v1489 : Ref sig .tc := ⟨.hbm, 1900, rfl⟩
abbrev main_v1490 : Ref sig .tc := ⟨.hbm, 1901, rfl⟩
abbrev main_v1491 : Ref sig .tc := ⟨.hbm, 1902, rfl⟩
abbrev main_v1492 : Ref sig .tc := ⟨.hbm, 1903, rfl⟩
abbrev main_cst_253 : Ref sig .tc := ⟨.hbm, 1904, rfl⟩
abbrev main_v1493 : Ref sig .tc := ⟨.hbm, 1905, rfl⟩
abbrev main_v1494 : Ref sig .tc := ⟨.hbm, 1906, rfl⟩
abbrev main_cst_254 : Ref sig .tc := ⟨.hbm, 1907, rfl⟩
abbrev main_v1495 : Ref sig .tc := ⟨.hbm, 1908, rfl⟩
abbrev main_v1496 : Ref sig .tc := ⟨.hbm, 1909, rfl⟩
abbrev main_v1497 : Ref sig .tc := ⟨.hbm, 1910, rfl⟩
abbrev main_v1498 : Ref sig .tc := ⟨.hbm, 1911, rfl⟩
abbrev main_c_255 : Ref sig .tc := ⟨.hbm, 1912, rfl⟩
abbrev main_c_256 : Ref sig .tc := ⟨.hbm, 1913, rfl⟩
abbrev main_call42_v0 : Ref sig .tc := ⟨.hbm, 1914, rfl⟩
abbrev main_call42_v1 : Ref sig .tc := ⟨.hbm, 1915, rfl⟩
abbrev main_call42_v2 : Ref sig .tc := ⟨.hbm, 1916, rfl⟩
abbrev main_call42_v3 : Ref sig .tc := ⟨.hbm, 1917, rfl⟩
abbrev main_call42_v4 : Ref sig .tc := ⟨.hbm, 1918, rfl⟩
abbrev main_v1499 : Ref sig .tc := ⟨.hbm, 1919, rfl⟩
abbrev main_cst_257 : Ref sig .tc := ⟨.hbm, 1920, rfl⟩
abbrev main_v1500 : Ref sig .tc := ⟨.hbm, 1921, rfl⟩
abbrev main_v1501 : Ref sig .tc := ⟨.hbm, 1922, rfl⟩
abbrev main_cst_258 : Ref sig .tc := ⟨.hbm, 1923, rfl⟩
abbrev main_v1502 : Ref sig .tc := ⟨.hbm, 1924, rfl⟩
abbrev main_v1503 : Ref sig .tc := ⟨.hbm, 1925, rfl⟩
abbrev main_v1504 : Ref sig .tc := ⟨.hbm, 1926, rfl⟩
abbrev main_v1505 : Ref sig .tc := ⟨.hbm, 1927, rfl⟩
abbrev main_c_259 : Ref sig .tc := ⟨.hbm, 1928, rfl⟩
abbrev main_c_260 : Ref sig .tc := ⟨.hbm, 1929, rfl⟩
abbrev main_call43_v0 : Ref sig .tc := ⟨.hbm, 1930, rfl⟩
abbrev main_call43_v1 : Ref sig .tc := ⟨.hbm, 1931, rfl⟩
abbrev main_call43_v2 : Ref sig .tc := ⟨.hbm, 1932, rfl⟩
abbrev main_call43_v3 : Ref sig .tc := ⟨.hbm, 1933, rfl⟩
abbrev main_call43_v4 : Ref sig .tc := ⟨.hbm, 1934, rfl⟩
abbrev main_v1506 : Ref sig .tc := ⟨.hbm, 1935, rfl⟩
abbrev main_c_261 : Ref sig .tc := ⟨.hbm, 1936, rfl⟩
abbrev main_v1507 : Ref sig .tc := ⟨.hbm, 1937, rfl⟩
abbrev main_v1508 : Ref sig .tc := ⟨.hbm, 1938, rfl⟩
abbrev main_v1509 : Ref sig .tc := ⟨.hbm, 1939, rfl⟩
abbrev main_v1510 : Ref sig .tc := ⟨.hbm, 1940, rfl⟩
abbrev main_v1511 : Ref sig .tc := ⟨.hbm, 1941, rfl⟩
abbrev main_c_262 : Ref sig .tc := ⟨.hbm, 1942, rfl⟩
abbrev main_v1512 : Ref sig .tc := ⟨.hbm, 1943, rfl⟩
abbrev main_v1513 : Ref sig .tc := ⟨.hbm, 1944, rfl⟩
abbrev main_v1514 : Ref sig .tc := ⟨.hbm, 1945, rfl⟩
abbrev main_v1515 : Ref sig .tc := ⟨.hbm, 1946, rfl⟩
abbrev main_c_263 : Ref sig .tc := ⟨.hbm, 1947, rfl⟩
abbrev main_v1516 : Ref sig .tc := ⟨.hbm, 1948, rfl⟩
abbrev main_v1517 : Ref sig .tc := ⟨.hbm, 1949, rfl⟩
abbrev main_v1518 : Ref sig .tc := ⟨.hbm, 1950, rfl⟩
abbrev main_v1519 : Ref sig .tc := ⟨.hbm, 1951, rfl⟩
abbrev main_v1520 : Ref sig .tc := ⟨.hbm, 1952, rfl⟩
abbrev main_v1521 : Ref sig .tc := ⟨.hbm, 1953, rfl⟩
abbrev main_v1522 : Ref sig .tc := ⟨.hbm, 1954, rfl⟩
abbrev main_v1523 : Ref sig .tc := ⟨.hbm, 1955, rfl⟩
abbrev main_v1524 : Ref sig .tc := ⟨.hbm, 1956, rfl⟩
abbrev main_cst_264 : Ref sig .tc := ⟨.hbm, 1957, rfl⟩
abbrev main_v1525 : Ref sig .tc := ⟨.hbm, 1958, rfl⟩
abbrev main_v1526 : Ref sig .tc := ⟨.hbm, 1959, rfl⟩
abbrev main_v1527 : Ref sig .tc := ⟨.hbm, 1960, rfl⟩
abbrev main_v1528 : Ref sig .tc := ⟨.hbm, 1961, rfl⟩
abbrev main_cst_265 : Ref sig .tc := ⟨.hbm, 1962, rfl⟩
abbrev main_v1529 : Ref sig .tc := ⟨.hbm, 1963, rfl⟩
abbrev main_v1530 : Ref sig .tc := ⟨.hbm, 1964, rfl⟩
abbrev main_v1531 : Ref sig .tc := ⟨.hbm, 1965, rfl⟩
abbrev main_v1532 : Ref sig .tc := ⟨.hbm, 1966, rfl⟩
abbrev main_v1533 : Ref sig .tc := ⟨.hbm, 1967, rfl⟩
abbrev main_v1534 : Ref sig .tc := ⟨.hbm, 1968, rfl⟩
abbrev main_v1535 : Ref sig .tc := ⟨.hbm, 1969, rfl⟩
abbrev main_v1536 : Ref sig .tc := ⟨.hbm, 1970, rfl⟩
abbrev main_v1537 : Ref sig .tc := ⟨.hbm, 1971, rfl⟩
abbrev main_v1538 : Ref sig .tc := ⟨.hbm, 1972, rfl⟩
abbrev main_v1539 : Ref sig .tc := ⟨.hbm, 1973, rfl⟩
abbrev main_v1540 : Ref sig .tc := ⟨.hbm, 1974, rfl⟩
abbrev main_v1541 : Ref sig .tc := ⟨.hbm, 1975, rfl⟩
abbrev main_c_266 : Ref sig .tc := ⟨.hbm, 1976, rfl⟩
abbrev main_call44_v0 : Ref sig .tc := ⟨.hbm, 1977, rfl⟩
abbrev main_call44_v1 : Ref sig .tc := ⟨.hbm, 1978, rfl⟩
abbrev main_v1542 : Ref sig .tc := ⟨.hbm, 1979, rfl⟩
abbrev main_v1543 : Ref sig .tc := ⟨.hbm, 1980, rfl⟩
abbrev main_v1544 : Ref sig .tc := ⟨.hbm, 1981, rfl⟩
abbrev main_v1545 : Ref sig .tc := ⟨.hbm, 1982, rfl⟩
abbrev main_v1546 : Ref sig .tc := ⟨.hbm, 1983, rfl⟩
abbrev main_v1547 : Ref sig .tc := ⟨.hbm, 1984, rfl⟩
abbrev main_v1548 : Ref sig .tc := ⟨.hbm, 1985, rfl⟩
abbrev main_v1549 : Ref sig .tc := ⟨.hbm, 1986, rfl⟩
abbrev main_v1550 : Ref sig .tc := ⟨.hbm, 1987, rfl⟩
abbrev main_v1551 : Ref sig .tc := ⟨.hbm, 1988, rfl⟩
abbrev main_cst_267 : Ref sig .tc := ⟨.hbm, 1989, rfl⟩
abbrev main_v1552 : Ref sig .tc := ⟨.hbm, 1990, rfl⟩
abbrev main_c_268 : Ref sig .tc := ⟨.hbm, 1991, rfl⟩
abbrev main_v1553 : Ref sig .tc := ⟨.hbm, 1992, rfl⟩
abbrev main_v1554 : Ref sig .tc := ⟨.hbm, 1993, rfl⟩
abbrev main_c_269 : Ref sig .tc := ⟨.hbm, 1994, rfl⟩
abbrev main_v1555 : Ref sig .tc := ⟨.hbm, 1995, rfl⟩
abbrev main_v1556 : Ref sig .tc := ⟨.hbm, 1996, rfl⟩
abbrev main_v1557 : Ref sig .tc := ⟨.hbm, 1997, rfl⟩
abbrev main_c_270 : Ref sig .tc := ⟨.hbm, 1998, rfl⟩
abbrev main_v1558 : Ref sig .tc := ⟨.hbm, 1999, rfl⟩
abbrev main_v1559 : Ref sig .tc := ⟨.hbm, 2000, rfl⟩
abbrev main_c_271 : Ref sig .tc := ⟨.hbm, 2001, rfl⟩
abbrev main_v1560 : Ref sig .tc := ⟨.hbm, 2002, rfl⟩
abbrev main_v1561 : Ref sig .tc := ⟨.hbm, 2003, rfl⟩
abbrev main_v1562 : Ref sig .tc := ⟨.hbm, 2004, rfl⟩
abbrev main_v1563 : Ref sig .tc := ⟨.hbm, 2005, rfl⟩
abbrev main_v1564 : Ref sig .tc := ⟨.hbm, 2006, rfl⟩
abbrev main_v1565 : Ref sig .tc := ⟨.hbm, 2007, rfl⟩
abbrev main_v1566 : Ref sig .tc := ⟨.hbm, 2008, rfl⟩
abbrev main_v1567 : Ref sig .tc := ⟨.hbm, 2009, rfl⟩
abbrev main_v1568 : Ref sig .tc := ⟨.hbm, 2010, rfl⟩
abbrev main_v1569 : Ref sig .tc := ⟨.hbm, 2011, rfl⟩
abbrev main_v1570 : Ref sig .tc := ⟨.hbm, 2012, rfl⟩
abbrev main_v1571 : Ref sig .tc := ⟨.hbm, 2013, rfl⟩
abbrev main_v1572 : Ref sig .tc := ⟨.hbm, 2014, rfl⟩
abbrev main_v1573 : Ref sig .tc := ⟨.hbm, 2015, rfl⟩
abbrev main_v1574 : Ref sig .tc := ⟨.hbm, 2016, rfl⟩
abbrev main_v1575 : Ref sig .tc := ⟨.hbm, 2017, rfl⟩
abbrev main_v1576 : Ref sig .tc := ⟨.hbm, 2018, rfl⟩
abbrev main_v1577 : Ref sig .tc := ⟨.hbm, 2019, rfl⟩
abbrev main_v1578 : Ref sig .tc := ⟨.hbm, 2020, rfl⟩
abbrev main_v1579 : Ref sig .tc := ⟨.hbm, 2021, rfl⟩
abbrev main_v1580 : Ref sig .tc := ⟨.hbm, 2022, rfl⟩
abbrev main_v1581 : Ref sig .tc := ⟨.hbm, 2023, rfl⟩
abbrev main_v1582 : Ref sig .tc := ⟨.hbm, 2024, rfl⟩
abbrev main_v1583 : Ref sig .tc := ⟨.hbm, 2025, rfl⟩
abbrev main_v1584 : Ref sig .tc := ⟨.hbm, 2026, rfl⟩
abbrev main_v1585 : Ref sig .tc := ⟨.hbm, 2027, rfl⟩
abbrev main_v1586 : Ref sig .tc := ⟨.hbm, 2028, rfl⟩
abbrev main_v1587 : Ref sig .tc := ⟨.hbm, 2029, rfl⟩
abbrev main_v1588 : Ref sig .tc := ⟨.hbm, 2030, rfl⟩
abbrev main_v1589 : Ref sig .tc := ⟨.hbm, 2031, rfl⟩
abbrev main_v1590 : Ref sig .tc := ⟨.hbm, 2032, rfl⟩
abbrev main_v1591 : Ref sig .tc := ⟨.hbm, 2033, rfl⟩
abbrev main_v1592 : Ref sig .tc := ⟨.hbm, 2034, rfl⟩
abbrev main_v1593 : Ref sig .tc := ⟨.hbm, 2035, rfl⟩
abbrev main_v1594 : Ref sig .tc := ⟨.hbm, 2036, rfl⟩
abbrev main_v1595 : Ref sig .tc := ⟨.hbm, 2037, rfl⟩
abbrev main_v1596 : Ref sig .tc := ⟨.hbm, 2038, rfl⟩
abbrev main_v1597 : Ref sig .tc := ⟨.hbm, 2039, rfl⟩
abbrev main_cst_272 : Ref sig .tc := ⟨.hbm, 2040, rfl⟩
abbrev main_v1598 : Ref sig .tc := ⟨.hbm, 2041, rfl⟩
abbrev main_v1599 : Ref sig .tc := ⟨.hbm, 2042, rfl⟩
abbrev main_cst_273 : Ref sig .tc := ⟨.hbm, 2043, rfl⟩
abbrev main_v1600 : Ref sig .tc := ⟨.hbm, 2044, rfl⟩
abbrev main_v1601 : Ref sig .tc := ⟨.hbm, 2045, rfl⟩
abbrev main_v1602 : Ref sig .tc := ⟨.hbm, 2046, rfl⟩
abbrev main_v1603 : Ref sig .tc := ⟨.hbm, 2047, rfl⟩
abbrev main_cst_274 : Ref sig .tc := ⟨.hbm, 2048, rfl⟩
abbrev main_v1604 : Ref sig .tc := ⟨.hbm, 2049, rfl⟩
abbrev main_v1605 : Ref sig .tc := ⟨.hbm, 2050, rfl⟩
abbrev main_cst_275 : Ref sig .tc := ⟨.hbm, 2051, rfl⟩
abbrev main_v1606 : Ref sig .tc := ⟨.hbm, 2052, rfl⟩
abbrev main_v1607 : Ref sig .tc := ⟨.hbm, 2053, rfl⟩
abbrev main_v1608 : Ref sig .tc := ⟨.hbm, 2054, rfl⟩
abbrev main_v1609 : Ref sig .tc := ⟨.hbm, 2055, rfl⟩
abbrev main_v1610 : Ref sig .tc := ⟨.hbm, 2056, rfl⟩
abbrev main_cst_276 : Ref sig .tc := ⟨.hbm, 2057, rfl⟩
abbrev main_v1611 : Ref sig .tc := ⟨.hbm, 2058, rfl⟩
abbrev main_v1612 : Ref sig .tc := ⟨.hbm, 2059, rfl⟩
abbrev main_cst_277 : Ref sig .tc := ⟨.hbm, 2060, rfl⟩
abbrev main_v1613 : Ref sig .tc := ⟨.hbm, 2061, rfl⟩
abbrev main_v1614 : Ref sig .tc := ⟨.hbm, 2062, rfl⟩
abbrev main_v1615 : Ref sig .tc := ⟨.hbm, 2063, rfl⟩
abbrev main_v1616 : Ref sig .tc := ⟨.hbm, 2064, rfl⟩
abbrev main_v1617 : Ref sig .tc := ⟨.hbm, 2065, rfl⟩
abbrev main_v1618 : Ref sig .tc := ⟨.hbm, 2066, rfl⟩
abbrev main_v1619 : Ref sig .tc := ⟨.hbm, 2067, rfl⟩
abbrev main_v1620 : Ref sig .tc := ⟨.hbm, 2068, rfl⟩
abbrev main_v1621 : Ref sig .tc := ⟨.hbm, 2069, rfl⟩
abbrev main_v1622 : Ref sig .tc := ⟨.hbm, 2070, rfl⟩
abbrev main_v1623 : Ref sig .tc := ⟨.hbm, 2071, rfl⟩
abbrev main_v1624 : Ref sig .tc := ⟨.hbm, 2072, rfl⟩
abbrev main_v1625 : Ref sig .tc := ⟨.hbm, 2073, rfl⟩
abbrev main_v1626 : Ref sig .tc := ⟨.hbm, 2074, rfl⟩
abbrev main_v1627 : Ref sig .tc := ⟨.hbm, 2075, rfl⟩
abbrev main_cst_278 : Ref sig .tc := ⟨.hbm, 2076, rfl⟩
abbrev main_v1628 : Ref sig .tc := ⟨.hbm, 2077, rfl⟩
abbrev main_v1629 : Ref sig .tc := ⟨.hbm, 2078, rfl⟩
abbrev main_v1630 : Ref sig .tc := ⟨.hbm, 2079, rfl⟩
abbrev main_v1631 : Ref sig .tc := ⟨.hbm, 2080, rfl⟩
abbrev main_v1632 : Ref sig .tc := ⟨.hbm, 2081, rfl⟩
abbrev main_v1633 : Ref sig .tc := ⟨.hbm, 2082, rfl⟩
abbrev main_v1634 : Ref sig .tc := ⟨.hbm, 2083, rfl⟩
abbrev main_v1635 : Ref sig .tc := ⟨.hbm, 2084, rfl⟩
abbrev main_v1636 : Ref sig .tc := ⟨.hbm, 2085, rfl⟩
abbrev main_v1637 : Ref sig .tc := ⟨.hbm, 2086, rfl⟩
abbrev main_v1638 : Ref sig .tc := ⟨.hbm, 2087, rfl⟩
abbrev main_v1639 : Ref sig .tc := ⟨.hbm, 2088, rfl⟩
abbrev main_v1640 : Ref sig .tc := ⟨.hbm, 2089, rfl⟩
abbrev main_call45_cst : Ref sig .tc := ⟨.hbm, 2090, rfl⟩
abbrev main_call45_v0 : Ref sig .tc := ⟨.hbm, 2091, rfl⟩
abbrev main_v1641 : Ref sig .tc := ⟨.hbm, 2092, rfl⟩
abbrev main_v1642 : Ref sig .tc := ⟨.hbm, 2093, rfl⟩
abbrev main_v1643 : Ref sig .tc := ⟨.hbm, 2094, rfl⟩
abbrev main_v1644 : Ref sig .tc := ⟨.hbm, 2095, rfl⟩
abbrev main_v1645 : Ref sig .tc := ⟨.hbm, 2096, rfl⟩
abbrev main_v1646 : Ref sig .tc := ⟨.hbm, 2097, rfl⟩
abbrev main_v1647 : Ref sig .tc := ⟨.hbm, 2098, rfl⟩
abbrev main_v1648 : Ref sig .tc := ⟨.hbm, 2099, rfl⟩
abbrev main_v1649 : Ref sig .tc := ⟨.hbm, 2100, rfl⟩
abbrev main_v1650 : Ref sig .tc := ⟨.hbm, 2101, rfl⟩
abbrev main_cst_279 : Ref sig .tc := ⟨.hbm, 2102, rfl⟩
abbrev main_v1651 : Ref sig .tc := ⟨.hbm, 2103, rfl⟩
abbrev main_v1652 : Ref sig .tc := ⟨.hbm, 2104, rfl⟩
abbrev main_cst_280 : Ref sig .tc := ⟨.hbm, 2105, rfl⟩
abbrev main_v1653 : Ref sig .tc := ⟨.hbm, 2106, rfl⟩
abbrev main_v1654 : Ref sig .tc := ⟨.hbm, 2107, rfl⟩
abbrev main_v1655 : Ref sig .tc := ⟨.hbm, 2108, rfl⟩
abbrev main_v1656 : Ref sig .tc := ⟨.hbm, 2109, rfl⟩
abbrev main_c_281 : Ref sig .tc := ⟨.hbm, 2110, rfl⟩
abbrev main_c_282 : Ref sig .tc := ⟨.hbm, 2111, rfl⟩
abbrev main_call46_v0 : Ref sig .tc := ⟨.hbm, 2112, rfl⟩
abbrev main_call46_v1 : Ref sig .tc := ⟨.hbm, 2113, rfl⟩
abbrev main_call46_v2 : Ref sig .tc := ⟨.hbm, 2114, rfl⟩
abbrev main_call46_v3 : Ref sig .tc := ⟨.hbm, 2115, rfl⟩
abbrev main_call46_v4 : Ref sig .tc := ⟨.hbm, 2116, rfl⟩
abbrev main_v1657 : Ref sig .tc := ⟨.hbm, 2117, rfl⟩
abbrev main_cst_283 : Ref sig .tc := ⟨.hbm, 2118, rfl⟩
abbrev main_v1658 : Ref sig .tc := ⟨.hbm, 2119, rfl⟩
abbrev main_v1659 : Ref sig .tc := ⟨.hbm, 2120, rfl⟩
abbrev main_cst_284 : Ref sig .tc := ⟨.hbm, 2121, rfl⟩
abbrev main_v1660 : Ref sig .tc := ⟨.hbm, 2122, rfl⟩
abbrev main_v1661 : Ref sig .tc := ⟨.hbm, 2123, rfl⟩
abbrev main_v1662 : Ref sig .tc := ⟨.hbm, 2124, rfl⟩
abbrev main_v1663 : Ref sig .tc := ⟨.hbm, 2125, rfl⟩
abbrev main_c_285 : Ref sig .tc := ⟨.hbm, 2126, rfl⟩
abbrev main_c_286 : Ref sig .tc := ⟨.hbm, 2127, rfl⟩
abbrev main_call47_v0 : Ref sig .tc := ⟨.hbm, 2128, rfl⟩
abbrev main_call47_v1 : Ref sig .tc := ⟨.hbm, 2129, rfl⟩
abbrev main_call47_v2 : Ref sig .tc := ⟨.hbm, 2130, rfl⟩
abbrev main_call47_v3 : Ref sig .tc := ⟨.hbm, 2131, rfl⟩
abbrev main_call47_v4 : Ref sig .tc := ⟨.hbm, 2132, rfl⟩
abbrev main_v1664 : Ref sig .tc := ⟨.hbm, 2133, rfl⟩
abbrev main_c_287 : Ref sig .tc := ⟨.hbm, 2134, rfl⟩
abbrev main_v1665 : Ref sig .tc := ⟨.hbm, 2135, rfl⟩
abbrev main_v1666 : Ref sig .tc := ⟨.hbm, 2136, rfl⟩
abbrev main_v1667 : Ref sig .tc := ⟨.hbm, 2137, rfl⟩
abbrev main_v1668 : Ref sig .tc := ⟨.hbm, 2138, rfl⟩
abbrev main_v1669 : Ref sig .tc := ⟨.hbm, 2139, rfl⟩
abbrev main_c_288 : Ref sig .tc := ⟨.hbm, 2140, rfl⟩
abbrev main_v1670 : Ref sig .tc := ⟨.hbm, 2141, rfl⟩
abbrev main_v1671 : Ref sig .tc := ⟨.hbm, 2142, rfl⟩
abbrev main_v1672 : Ref sig .tc := ⟨.hbm, 2143, rfl⟩
abbrev main_v1673 : Ref sig .tc := ⟨.hbm, 2144, rfl⟩
abbrev main_c_289 : Ref sig .tc := ⟨.hbm, 2145, rfl⟩
abbrev main_v1674 : Ref sig .tc := ⟨.hbm, 2146, rfl⟩
abbrev main_v1675 : Ref sig .tc := ⟨.hbm, 2147, rfl⟩
abbrev main_v1676 : Ref sig .tc := ⟨.hbm, 2148, rfl⟩
abbrev main_v1677 : Ref sig .tc := ⟨.hbm, 2149, rfl⟩
abbrev main_v1678 : Ref sig .tc := ⟨.hbm, 2150, rfl⟩
abbrev main_v1679 : Ref sig .tc := ⟨.hbm, 2151, rfl⟩
abbrev main_v1680 : Ref sig .tc := ⟨.hbm, 2152, rfl⟩
abbrev main_v1681 : Ref sig .tc := ⟨.hbm, 2153, rfl⟩
abbrev main_v1682 : Ref sig .tc := ⟨.hbm, 2154, rfl⟩
abbrev main_cst_290 : Ref sig .tc := ⟨.hbm, 2155, rfl⟩
abbrev main_v1683 : Ref sig .tc := ⟨.hbm, 2156, rfl⟩
abbrev main_v1684 : Ref sig .tc := ⟨.hbm, 2157, rfl⟩
abbrev main_v1685 : Ref sig .tc := ⟨.hbm, 2158, rfl⟩
abbrev main_v1686 : Ref sig .tc := ⟨.hbm, 2159, rfl⟩
abbrev main_cst_291 : Ref sig .tc := ⟨.hbm, 2160, rfl⟩
abbrev main_v1687 : Ref sig .tc := ⟨.hbm, 2161, rfl⟩
abbrev main_v1688 : Ref sig .tc := ⟨.hbm, 2162, rfl⟩
abbrev main_v1689 : Ref sig .tc := ⟨.hbm, 2163, rfl⟩
abbrev main_v1690 : Ref sig .tc := ⟨.hbm, 2164, rfl⟩
abbrev main_v1691 : Ref sig .tc := ⟨.hbm, 2165, rfl⟩
abbrev main_v1692 : Ref sig .tc := ⟨.hbm, 2166, rfl⟩
abbrev main_v1693 : Ref sig .tc := ⟨.hbm, 2167, rfl⟩
abbrev main_v1694 : Ref sig .tc := ⟨.hbm, 2168, rfl⟩
abbrev main_v1695 : Ref sig .tc := ⟨.hbm, 2169, rfl⟩
abbrev main_v1696 : Ref sig .tc := ⟨.hbm, 2170, rfl⟩
abbrev main_v1697 : Ref sig .tc := ⟨.hbm, 2171, rfl⟩
abbrev main_v1698 : Ref sig .tc := ⟨.hbm, 2172, rfl⟩
abbrev main_v1699 : Ref sig .tc := ⟨.hbm, 2173, rfl⟩
abbrev main_c_292 : Ref sig .tc := ⟨.hbm, 2174, rfl⟩
abbrev main_call48_v0 : Ref sig .tc := ⟨.hbm, 2175, rfl⟩
abbrev main_call48_v1 : Ref sig .tc := ⟨.hbm, 2176, rfl⟩
abbrev main_v1700 : Ref sig .tc := ⟨.hbm, 2177, rfl⟩
abbrev main_v1701 : Ref sig .tc := ⟨.hbm, 2178, rfl⟩
abbrev main_v1702 : Ref sig .tc := ⟨.hbm, 2179, rfl⟩
abbrev main_v1703 : Ref sig .tc := ⟨.hbm, 2180, rfl⟩
abbrev main_v1704 : Ref sig .tc := ⟨.hbm, 2181, rfl⟩
abbrev main_v1705 : Ref sig .tc := ⟨.hbm, 2182, rfl⟩
abbrev main_v1706 : Ref sig .tc := ⟨.hbm, 2183, rfl⟩
abbrev main_v1707 : Ref sig .tc := ⟨.hbm, 2184, rfl⟩
abbrev main_v1708 : Ref sig .tc := ⟨.hbm, 2185, rfl⟩
abbrev main_v1709 : Ref sig .tc := ⟨.hbm, 2186, rfl⟩
abbrev main_cst_293 : Ref sig .tc := ⟨.hbm, 2187, rfl⟩
abbrev main_v1710 : Ref sig .tc := ⟨.hbm, 2188, rfl⟩
abbrev main_c_294 : Ref sig .tc := ⟨.hbm, 2189, rfl⟩
abbrev main_v1711 : Ref sig .tc := ⟨.hbm, 2190, rfl⟩
abbrev main_v1712 : Ref sig .tc := ⟨.hbm, 2191, rfl⟩
abbrev main_c_295 : Ref sig .tc := ⟨.hbm, 2192, rfl⟩
abbrev main_v1713 : Ref sig .tc := ⟨.hbm, 2193, rfl⟩
abbrev main_v1714 : Ref sig .tc := ⟨.hbm, 2194, rfl⟩
abbrev main_v1715 : Ref sig .tc := ⟨.hbm, 2195, rfl⟩
abbrev main_c_296 : Ref sig .tc := ⟨.hbm, 2196, rfl⟩
abbrev main_v1716 : Ref sig .tc := ⟨.hbm, 2197, rfl⟩
abbrev main_v1717 : Ref sig .tc := ⟨.hbm, 2198, rfl⟩
abbrev main_c_297 : Ref sig .tc := ⟨.hbm, 2199, rfl⟩
abbrev main_v1718 : Ref sig .tc := ⟨.hbm, 2200, rfl⟩
abbrev main_v1719 : Ref sig .tc := ⟨.hbm, 2201, rfl⟩
abbrev main_v1720 : Ref sig .tc := ⟨.hbm, 2202, rfl⟩
abbrev main_v1721 : Ref sig .tc := ⟨.hbm, 2203, rfl⟩
abbrev main_v1722 : Ref sig .tc := ⟨.hbm, 2204, rfl⟩
abbrev main_v1723 : Ref sig .tc := ⟨.hbm, 2205, rfl⟩
abbrev main_v1724 : Ref sig .tc := ⟨.hbm, 2206, rfl⟩
abbrev main_v1725 : Ref sig .tc := ⟨.hbm, 2207, rfl⟩
abbrev main_v1726 : Ref sig .tc := ⟨.hbm, 2208, rfl⟩
abbrev main_v1727 : Ref sig .tc := ⟨.hbm, 2209, rfl⟩
abbrev main_v1728 : Ref sig .tc := ⟨.hbm, 2210, rfl⟩
abbrev main_v1729 : Ref sig .tc := ⟨.hbm, 2211, rfl⟩
abbrev main_v1730 : Ref sig .tc := ⟨.hbm, 2212, rfl⟩
abbrev main_v1731 : Ref sig .tc := ⟨.hbm, 2213, rfl⟩
abbrev main_v1732 : Ref sig .tc := ⟨.hbm, 2214, rfl⟩
abbrev main_v1733 : Ref sig .tc := ⟨.hbm, 2215, rfl⟩
abbrev main_v1734 : Ref sig .tc := ⟨.hbm, 2216, rfl⟩
abbrev main_v1735 : Ref sig .tc := ⟨.hbm, 2217, rfl⟩
abbrev main_v1736 : Ref sig .tc := ⟨.hbm, 2218, rfl⟩
abbrev main_v1737 : Ref sig .tc := ⟨.hbm, 2219, rfl⟩
abbrev main_v1738 : Ref sig .tc := ⟨.hbm, 2220, rfl⟩
abbrev main_v1739 : Ref sig .tc := ⟨.hbm, 2221, rfl⟩
abbrev main_v1740 : Ref sig .tc := ⟨.hbm, 2222, rfl⟩
abbrev main_v1741 : Ref sig .tc := ⟨.hbm, 2223, rfl⟩
abbrev main_v1742 : Ref sig .tc := ⟨.hbm, 2224, rfl⟩
abbrev main_v1743 : Ref sig .tc := ⟨.hbm, 2225, rfl⟩
abbrev main_v1744 : Ref sig .tc := ⟨.hbm, 2226, rfl⟩
abbrev main_v1745 : Ref sig .tc := ⟨.hbm, 2227, rfl⟩
abbrev main_v1746 : Ref sig .tc := ⟨.hbm, 2228, rfl⟩
abbrev main_v1747 : Ref sig .tc := ⟨.hbm, 2229, rfl⟩
abbrev main_v1748 : Ref sig .tc := ⟨.hbm, 2230, rfl⟩
abbrev main_v1749 : Ref sig .tc := ⟨.hbm, 2231, rfl⟩
abbrev main_v1750 : Ref sig .tc := ⟨.hbm, 2232, rfl⟩
abbrev main_v1751 : Ref sig .tc := ⟨.hbm, 2233, rfl⟩
abbrev main_v1752 : Ref sig .tc := ⟨.hbm, 2234, rfl⟩
abbrev main_v1753 : Ref sig .tc := ⟨.hbm, 2235, rfl⟩
abbrev main_v1754 : Ref sig .tc := ⟨.hbm, 2236, rfl⟩
abbrev main_v1755 : Ref sig .tc := ⟨.hbm, 2237, rfl⟩
abbrev main_cst_298 : Ref sig .tc := ⟨.hbm, 2238, rfl⟩
abbrev main_v1756 : Ref sig .tc := ⟨.hbm, 2239, rfl⟩
abbrev main_v1757 : Ref sig .tc := ⟨.hbm, 2240, rfl⟩
abbrev main_cst_299 : Ref sig .tc := ⟨.hbm, 2241, rfl⟩
abbrev main_v1758 : Ref sig .tc := ⟨.hbm, 2242, rfl⟩
abbrev main_v1759 : Ref sig .tc := ⟨.hbm, 2243, rfl⟩
abbrev main_v1760 : Ref sig .tc := ⟨.hbm, 2244, rfl⟩
abbrev main_v1761 : Ref sig .tc := ⟨.hbm, 2245, rfl⟩
abbrev main_cst_300 : Ref sig .tc := ⟨.hbm, 2246, rfl⟩
abbrev main_v1762 : Ref sig .tc := ⟨.hbm, 2247, rfl⟩
abbrev main_v1763 : Ref sig .tc := ⟨.hbm, 2248, rfl⟩
abbrev main_cst_301 : Ref sig .tc := ⟨.hbm, 2249, rfl⟩
abbrev main_v1764 : Ref sig .tc := ⟨.hbm, 2250, rfl⟩
abbrev main_v1765 : Ref sig .tc := ⟨.hbm, 2251, rfl⟩
abbrev main_v1766 : Ref sig .tc := ⟨.hbm, 2252, rfl⟩
abbrev main_v1767 : Ref sig .tc := ⟨.hbm, 2253, rfl⟩
abbrev main_v1768 : Ref sig .tc := ⟨.hbm, 2254, rfl⟩
abbrev main_cst_302 : Ref sig .tc := ⟨.hbm, 2255, rfl⟩
abbrev main_v1769 : Ref sig .tc := ⟨.hbm, 2256, rfl⟩
abbrev main_v1770 : Ref sig .tc := ⟨.hbm, 2257, rfl⟩
abbrev main_cst_303 : Ref sig .tc := ⟨.hbm, 2258, rfl⟩
abbrev main_v1771 : Ref sig .tc := ⟨.hbm, 2259, rfl⟩
abbrev main_v1772 : Ref sig .tc := ⟨.hbm, 2260, rfl⟩
abbrev main_v1773 : Ref sig .tc := ⟨.hbm, 2261, rfl⟩
abbrev main_v1774 : Ref sig .tc := ⟨.hbm, 2262, rfl⟩
abbrev main_v1775 : Ref sig .tc := ⟨.hbm, 2263, rfl⟩
abbrev main_v1776 : Ref sig .tc := ⟨.hbm, 2264, rfl⟩
abbrev main_v1777 : Ref sig .tc := ⟨.hbm, 2265, rfl⟩
abbrev main_v1778 : Ref sig .tc := ⟨.hbm, 2266, rfl⟩
abbrev main_v1779 : Ref sig .tc := ⟨.hbm, 2267, rfl⟩
abbrev main_v1780 : Ref sig .tc := ⟨.hbm, 2268, rfl⟩
abbrev main_v1781 : Ref sig .tc := ⟨.hbm, 2269, rfl⟩
abbrev main_v1782 : Ref sig .tc := ⟨.hbm, 2270, rfl⟩
abbrev main_v1783 : Ref sig .tc := ⟨.hbm, 2271, rfl⟩
abbrev main_v1784 : Ref sig .tc := ⟨.hbm, 2272, rfl⟩
abbrev main_v1785 : Ref sig .tc := ⟨.hbm, 2273, rfl⟩
abbrev main_cst_304 : Ref sig .tc := ⟨.hbm, 2274, rfl⟩
abbrev main_v1786 : Ref sig .tc := ⟨.hbm, 2275, rfl⟩
abbrev main_v1787 : Ref sig .tc := ⟨.hbm, 2276, rfl⟩
abbrev main_v1788 : Ref sig .tc := ⟨.hbm, 2277, rfl⟩
abbrev main_v1789 : Ref sig .tc := ⟨.hbm, 2278, rfl⟩
abbrev main_v1790 : Ref sig .tc := ⟨.hbm, 2279, rfl⟩
abbrev main_v1791 : Ref sig .tc := ⟨.hbm, 2280, rfl⟩
abbrev main_v1792 : Ref sig .tc := ⟨.hbm, 2281, rfl⟩
abbrev main_v1793 : Ref sig .tc := ⟨.hbm, 2282, rfl⟩
abbrev main_v1794 : Ref sig .tc := ⟨.hbm, 2283, rfl⟩
abbrev main_v1795 : Ref sig .tc := ⟨.hbm, 2284, rfl⟩
abbrev main_v1796 : Ref sig .tc := ⟨.hbm, 2285, rfl⟩
abbrev main_v1797 : Ref sig .tc := ⟨.hbm, 2286, rfl⟩
abbrev main_v1798 : Ref sig .tc := ⟨.hbm, 2287, rfl⟩
abbrev main_call49_cst : Ref sig .tc := ⟨.hbm, 2288, rfl⟩
abbrev main_call49_v0 : Ref sig .tc := ⟨.hbm, 2289, rfl⟩
abbrev main_v1799 : Ref sig .tc := ⟨.hbm, 2290, rfl⟩
abbrev main_v1800 : Ref sig .tc := ⟨.hbm, 2291, rfl⟩
abbrev main_v1801 : Ref sig .tc := ⟨.hbm, 2292, rfl⟩
abbrev main_v1802 : Ref sig .tc := ⟨.hbm, 2293, rfl⟩
abbrev main_v1803 : Ref sig .tc := ⟨.hbm, 2294, rfl⟩
abbrev main_v1804 : Ref sig .tc := ⟨.hbm, 2295, rfl⟩
abbrev main_v1805 : Ref sig .tc := ⟨.hbm, 2296, rfl⟩
abbrev main_v1806 : Ref sig .tc := ⟨.hbm, 2297, rfl⟩
abbrev main_v1807 : Ref sig .tc := ⟨.hbm, 2298, rfl⟩
abbrev main_v1808 : Ref sig .tc := ⟨.hbm, 2299, rfl⟩
abbrev main_cst_305 : Ref sig .tc := ⟨.hbm, 2300, rfl⟩
abbrev main_v1809 : Ref sig .tc := ⟨.hbm, 2301, rfl⟩
abbrev main_v1810 : Ref sig .tc := ⟨.hbm, 2302, rfl⟩
abbrev main_cst_306 : Ref sig .tc := ⟨.hbm, 2303, rfl⟩
abbrev main_v1811 : Ref sig .tc := ⟨.hbm, 2304, rfl⟩
abbrev main_v1812 : Ref sig .tc := ⟨.hbm, 2305, rfl⟩
abbrev main_v1813 : Ref sig .tc := ⟨.hbm, 2306, rfl⟩
abbrev main_v1814 : Ref sig .tc := ⟨.hbm, 2307, rfl⟩
abbrev main_c_307 : Ref sig .tc := ⟨.hbm, 2308, rfl⟩
abbrev main_c_308 : Ref sig .tc := ⟨.hbm, 2309, rfl⟩
abbrev main_call50_v0 : Ref sig .tc := ⟨.hbm, 2310, rfl⟩
abbrev main_call50_v1 : Ref sig .tc := ⟨.hbm, 2311, rfl⟩
abbrev main_call50_v2 : Ref sig .tc := ⟨.hbm, 2312, rfl⟩
abbrev main_call50_v3 : Ref sig .tc := ⟨.hbm, 2313, rfl⟩
abbrev main_call50_v4 : Ref sig .tc := ⟨.hbm, 2314, rfl⟩
abbrev main_v1815 : Ref sig .tc := ⟨.hbm, 2315, rfl⟩
abbrev main_cst_309 : Ref sig .tc := ⟨.hbm, 2316, rfl⟩
abbrev main_v1816 : Ref sig .tc := ⟨.hbm, 2317, rfl⟩
abbrev main_v1817 : Ref sig .tc := ⟨.hbm, 2318, rfl⟩
abbrev main_cst_310 : Ref sig .tc := ⟨.hbm, 2319, rfl⟩
abbrev main_v1818 : Ref sig .tc := ⟨.hbm, 2320, rfl⟩
abbrev main_v1819 : Ref sig .tc := ⟨.hbm, 2321, rfl⟩
abbrev main_v1820 : Ref sig .tc := ⟨.hbm, 2322, rfl⟩
abbrev main_v1821 : Ref sig .tc := ⟨.hbm, 2323, rfl⟩
abbrev main_c_311 : Ref sig .tc := ⟨.hbm, 2324, rfl⟩
abbrev main_c_312 : Ref sig .tc := ⟨.hbm, 2325, rfl⟩
abbrev main_call51_v0 : Ref sig .tc := ⟨.hbm, 2326, rfl⟩
abbrev main_call51_v1 : Ref sig .tc := ⟨.hbm, 2327, rfl⟩
abbrev main_call51_v2 : Ref sig .tc := ⟨.hbm, 2328, rfl⟩
abbrev main_call51_v3 : Ref sig .tc := ⟨.hbm, 2329, rfl⟩
abbrev main_call51_v4 : Ref sig .tc := ⟨.hbm, 2330, rfl⟩
abbrev main_v1822 : Ref sig .tc := ⟨.hbm, 2331, rfl⟩
abbrev main_c_313 : Ref sig .tc := ⟨.hbm, 2332, rfl⟩
abbrev main_v1823 : Ref sig .tc := ⟨.hbm, 2333, rfl⟩
abbrev main_v1824 : Ref sig .tc := ⟨.hbm, 2334, rfl⟩
abbrev main_v1825 : Ref sig .tc := ⟨.hbm, 2335, rfl⟩
abbrev main_v1826 : Ref sig .tc := ⟨.hbm, 2336, rfl⟩
abbrev main_v1827 : Ref sig .tc := ⟨.hbm, 2337, rfl⟩
abbrev main_c_314 : Ref sig .tc := ⟨.hbm, 2338, rfl⟩
abbrev main_v1828 : Ref sig .tc := ⟨.hbm, 2339, rfl⟩
abbrev main_v1829 : Ref sig .tc := ⟨.hbm, 2340, rfl⟩
abbrev main_v1830 : Ref sig .tc := ⟨.hbm, 2341, rfl⟩
abbrev main_v1831 : Ref sig .tc := ⟨.hbm, 2342, rfl⟩
abbrev main_c_315 : Ref sig .tc := ⟨.hbm, 2343, rfl⟩
abbrev main_v1832 : Ref sig .tc := ⟨.hbm, 2344, rfl⟩
abbrev main_v1833 : Ref sig .tc := ⟨.hbm, 2345, rfl⟩
abbrev main_v1834 : Ref sig .tc := ⟨.hbm, 2346, rfl⟩
abbrev main_v1835 : Ref sig .tc := ⟨.hbm, 2347, rfl⟩
abbrev main_v1836 : Ref sig .tc := ⟨.hbm, 2348, rfl⟩
abbrev main_v1837 : Ref sig .tc := ⟨.hbm, 2349, rfl⟩
abbrev main_v1838 : Ref sig .tc := ⟨.hbm, 2350, rfl⟩
abbrev main_v1839 : Ref sig .tc := ⟨.hbm, 2351, rfl⟩
abbrev main_v1840 : Ref sig .tc := ⟨.hbm, 2352, rfl⟩
abbrev main_cst_316 : Ref sig .tc := ⟨.hbm, 2353, rfl⟩
abbrev main_v1841 : Ref sig .tc := ⟨.hbm, 2354, rfl⟩
abbrev main_v1842 : Ref sig .tc := ⟨.hbm, 2355, rfl⟩
abbrev main_v1843 : Ref sig .tc := ⟨.hbm, 2356, rfl⟩
abbrev main_v1844 : Ref sig .tc := ⟨.hbm, 2357, rfl⟩
abbrev main_cst_317 : Ref sig .tc := ⟨.hbm, 2358, rfl⟩
abbrev main_v1845 : Ref sig .tc := ⟨.hbm, 2359, rfl⟩
abbrev main_v1846 : Ref sig .tc := ⟨.hbm, 2360, rfl⟩
abbrev main_v1847 : Ref sig .tc := ⟨.hbm, 2361, rfl⟩
abbrev main_v1848 : Ref sig .tc := ⟨.hbm, 2362, rfl⟩
abbrev main_v1849 : Ref sig .tc := ⟨.hbm, 2363, rfl⟩
abbrev main_v1850 : Ref sig .tc := ⟨.hbm, 2364, rfl⟩
abbrev main_v1851 : Ref sig .tc := ⟨.hbm, 2365, rfl⟩
abbrev main_v1852 : Ref sig .tc := ⟨.hbm, 2366, rfl⟩
abbrev main_v1853 : Ref sig .tc := ⟨.hbm, 2367, rfl⟩
abbrev main_v1854 : Ref sig .tc := ⟨.hbm, 2368, rfl⟩
abbrev main_v1855 : Ref sig .tc := ⟨.hbm, 2369, rfl⟩
abbrev main_v1856 : Ref sig .tc := ⟨.hbm, 2370, rfl⟩
abbrev main_v1857 : Ref sig .tc := ⟨.hbm, 2371, rfl⟩
abbrev main_c_318 : Ref sig .tc := ⟨.hbm, 2372, rfl⟩
abbrev main_call52_v0 : Ref sig .tc := ⟨.hbm, 2373, rfl⟩
abbrev main_call52_v1 : Ref sig .tc := ⟨.hbm, 2374, rfl⟩
abbrev main_v1858 : Ref sig .tc := ⟨.hbm, 2375, rfl⟩
abbrev main_v1859 : Ref sig .tc := ⟨.hbm, 2376, rfl⟩
abbrev main_v1860 : Ref sig .tc := ⟨.hbm, 2377, rfl⟩
abbrev main_v1861 : Ref sig .tc := ⟨.hbm, 2378, rfl⟩
abbrev main_v1862 : Ref sig .tc := ⟨.hbm, 2379, rfl⟩
abbrev main_v1863 : Ref sig .tc := ⟨.hbm, 2380, rfl⟩
abbrev main_v1864 : Ref sig .tc := ⟨.hbm, 2381, rfl⟩
abbrev main_v1865 : Ref sig .tc := ⟨.hbm, 2382, rfl⟩
abbrev main_v1866 : Ref sig .tc := ⟨.hbm, 2383, rfl⟩
abbrev main_v1867 : Ref sig .tc := ⟨.hbm, 2384, rfl⟩
abbrev main_cst_319 : Ref sig .tc := ⟨.hbm, 2385, rfl⟩
abbrev main_v1868 : Ref sig .tc := ⟨.hbm, 2386, rfl⟩
abbrev main_c_320 : Ref sig .tc := ⟨.hbm, 2387, rfl⟩
abbrev main_v1869 : Ref sig .tc := ⟨.hbm, 2388, rfl⟩
abbrev main_v1870 : Ref sig .tc := ⟨.hbm, 2389, rfl⟩
abbrev main_c_321 : Ref sig .tc := ⟨.hbm, 2390, rfl⟩
abbrev main_v1871 : Ref sig .tc := ⟨.hbm, 2391, rfl⟩
abbrev main_v1872 : Ref sig .tc := ⟨.hbm, 2392, rfl⟩
abbrev main_v1873 : Ref sig .tc := ⟨.hbm, 2393, rfl⟩
abbrev main_c_322 : Ref sig .tc := ⟨.hbm, 2394, rfl⟩
abbrev main_v1874 : Ref sig .tc := ⟨.hbm, 2395, rfl⟩
abbrev main_v1875 : Ref sig .tc := ⟨.hbm, 2396, rfl⟩
abbrev main_c_323 : Ref sig .tc := ⟨.hbm, 2397, rfl⟩
abbrev main_v1876 : Ref sig .tc := ⟨.hbm, 2398, rfl⟩
abbrev main_v1877 : Ref sig .tc := ⟨.hbm, 2399, rfl⟩
abbrev main_v1878 : Ref sig .tc := ⟨.hbm, 2400, rfl⟩
abbrev main_v1879 : Ref sig .tc := ⟨.hbm, 2401, rfl⟩
abbrev main_v1880 : Ref sig .tc := ⟨.hbm, 2402, rfl⟩
abbrev main_v1881 : Ref sig .tc := ⟨.hbm, 2403, rfl⟩
abbrev main_v1882 : Ref sig .tc := ⟨.hbm, 2404, rfl⟩
abbrev main_v1883 : Ref sig .tc := ⟨.hbm, 2405, rfl⟩
abbrev main_v1884 : Ref sig .tc := ⟨.hbm, 2406, rfl⟩
abbrev main_v1885 : Ref sig .tc := ⟨.hbm, 2407, rfl⟩
abbrev main_v1886 : Ref sig .tc := ⟨.hbm, 2408, rfl⟩
abbrev main_v1887 : Ref sig .tc := ⟨.hbm, 2409, rfl⟩
abbrev main_v1888 : Ref sig .tc := ⟨.hbm, 2410, rfl⟩
abbrev main_v1889 : Ref sig .tc := ⟨.hbm, 2411, rfl⟩
abbrev main_v1890 : Ref sig .tc := ⟨.hbm, 2412, rfl⟩
abbrev main_v1891 : Ref sig .tc := ⟨.hbm, 2413, rfl⟩
abbrev main_v1892 : Ref sig .tc := ⟨.hbm, 2414, rfl⟩
abbrev main_v1893 : Ref sig .tc := ⟨.hbm, 2415, rfl⟩
abbrev main_v1894 : Ref sig .tc := ⟨.hbm, 2416, rfl⟩
abbrev main_v1895 : Ref sig .tc := ⟨.hbm, 2417, rfl⟩
abbrev main_v1896 : Ref sig .tc := ⟨.hbm, 2418, rfl⟩
abbrev main_v1897 : Ref sig .tc := ⟨.hbm, 2419, rfl⟩
abbrev main_v1898 : Ref sig .tc := ⟨.hbm, 2420, rfl⟩
abbrev main_v1899 : Ref sig .tc := ⟨.hbm, 2421, rfl⟩
abbrev main_v1900 : Ref sig .tc := ⟨.hbm, 2422, rfl⟩
abbrev main_v1901 : Ref sig .tc := ⟨.hbm, 2423, rfl⟩
abbrev main_v1902 : Ref sig .tc := ⟨.hbm, 2424, rfl⟩
abbrev main_v1903 : Ref sig .tc := ⟨.hbm, 2425, rfl⟩
abbrev main_v1904 : Ref sig .tc := ⟨.hbm, 2426, rfl⟩
abbrev main_v1905 : Ref sig .tc := ⟨.hbm, 2427, rfl⟩
abbrev main_v1906 : Ref sig .tc := ⟨.hbm, 2428, rfl⟩
abbrev main_v1907 : Ref sig .tc := ⟨.hbm, 2429, rfl⟩
abbrev main_v1908 : Ref sig .tc := ⟨.hbm, 2430, rfl⟩
abbrev main_v1909 : Ref sig .tc := ⟨.hbm, 2431, rfl⟩
abbrev main_v1910 : Ref sig .tc := ⟨.hbm, 2432, rfl⟩
abbrev main_v1911 : Ref sig .tc := ⟨.hbm, 2433, rfl⟩
abbrev main_v1912 : Ref sig .tc := ⟨.hbm, 2434, rfl⟩
abbrev main_v1913 : Ref sig .tc := ⟨.hbm, 2435, rfl⟩
abbrev main_cst_324 : Ref sig .tc := ⟨.hbm, 2436, rfl⟩
abbrev main_v1914 : Ref sig .tc := ⟨.hbm, 2437, rfl⟩
abbrev main_v1915 : Ref sig .tc := ⟨.hbm, 2438, rfl⟩
abbrev main_cst_325 : Ref sig .tc := ⟨.hbm, 2439, rfl⟩
abbrev main_v1916 : Ref sig .tc := ⟨.hbm, 2440, rfl⟩
abbrev main_v1917 : Ref sig .tc := ⟨.hbm, 2441, rfl⟩
abbrev main_v1918 : Ref sig .tc := ⟨.hbm, 2442, rfl⟩
abbrev main_v1919 : Ref sig .tc := ⟨.hbm, 2443, rfl⟩
abbrev main_cst_326 : Ref sig .tc := ⟨.hbm, 2444, rfl⟩
abbrev main_v1920 : Ref sig .tc := ⟨.hbm, 2445, rfl⟩
abbrev main_v1921 : Ref sig .tc := ⟨.hbm, 2446, rfl⟩
abbrev main_cst_327 : Ref sig .tc := ⟨.hbm, 2447, rfl⟩
abbrev main_v1922 : Ref sig .tc := ⟨.hbm, 2448, rfl⟩
abbrev main_v1923 : Ref sig .tc := ⟨.hbm, 2449, rfl⟩
abbrev main_v1924 : Ref sig .tc := ⟨.hbm, 2450, rfl⟩
abbrev main_v1925 : Ref sig .tc := ⟨.hbm, 2451, rfl⟩
abbrev main_v1926 : Ref sig .tc := ⟨.hbm, 2452, rfl⟩
abbrev main_cst_328 : Ref sig .tc := ⟨.hbm, 2453, rfl⟩
abbrev main_v1927 : Ref sig .tc := ⟨.hbm, 2454, rfl⟩
abbrev main_v1928 : Ref sig .tc := ⟨.hbm, 2455, rfl⟩
abbrev main_cst_329 : Ref sig .tc := ⟨.hbm, 2456, rfl⟩
abbrev main_v1929 : Ref sig .tc := ⟨.hbm, 2457, rfl⟩
abbrev main_v1930 : Ref sig .tc := ⟨.hbm, 2458, rfl⟩
abbrev main_v1931 : Ref sig .tc := ⟨.hbm, 2459, rfl⟩
abbrev main_v1932 : Ref sig .tc := ⟨.hbm, 2460, rfl⟩
abbrev main_v1933 : Ref sig .tc := ⟨.hbm, 2461, rfl⟩
abbrev main_v1934 : Ref sig .tc := ⟨.hbm, 2462, rfl⟩
abbrev main_v1935 : Ref sig .tc := ⟨.hbm, 2463, rfl⟩
abbrev main_v1936 : Ref sig .tc := ⟨.hbm, 2464, rfl⟩
abbrev main_v1937 : Ref sig .tc := ⟨.hbm, 2465, rfl⟩
abbrev main_v1938 : Ref sig .tc := ⟨.hbm, 2466, rfl⟩
abbrev main_v1939 : Ref sig .tc := ⟨.hbm, 2467, rfl⟩
abbrev main_v1940 : Ref sig .tc := ⟨.hbm, 2468, rfl⟩
abbrev main_v1941 : Ref sig .tc := ⟨.hbm, 2469, rfl⟩
abbrev main_v1942 : Ref sig .tc := ⟨.hbm, 2470, rfl⟩
abbrev main_v1943 : Ref sig .tc := ⟨.hbm, 2471, rfl⟩
abbrev main_cst_330 : Ref sig .tc := ⟨.hbm, 2472, rfl⟩
abbrev main_v1944 : Ref sig .tc := ⟨.hbm, 2473, rfl⟩
abbrev main_v1945 : Ref sig .tc := ⟨.hbm, 2474, rfl⟩
abbrev main_v1946 : Ref sig .tc := ⟨.hbm, 2475, rfl⟩
abbrev main_v1947 : Ref sig .tc := ⟨.hbm, 2476, rfl⟩
abbrev main_v1948 : Ref sig .tc := ⟨.hbm, 2477, rfl⟩
abbrev main_v1949 : Ref sig .tc := ⟨.hbm, 2478, rfl⟩
abbrev main_v1950 : Ref sig .tc := ⟨.hbm, 2479, rfl⟩
abbrev main_v1951 : Ref sig .tc := ⟨.hbm, 2480, rfl⟩
abbrev main_v1952 : Ref sig .tc := ⟨.hbm, 2481, rfl⟩
abbrev main_v1953 : Ref sig .tc := ⟨.hbm, 2482, rfl⟩
abbrev main_v1954 : Ref sig .tc := ⟨.hbm, 2483, rfl⟩
abbrev main_v1955 : Ref sig .tc := ⟨.hbm, 2484, rfl⟩
abbrev main_v1956 : Ref sig .tc := ⟨.hbm, 2485, rfl⟩
abbrev main_call53_cst : Ref sig .tc := ⟨.hbm, 2486, rfl⟩
abbrev main_call53_v0 : Ref sig .tc := ⟨.hbm, 2487, rfl⟩
abbrev main_v1957 : Ref sig .tc := ⟨.hbm, 2488, rfl⟩
abbrev main_v1958 : Ref sig .tc := ⟨.hbm, 2489, rfl⟩
abbrev main_v1959 : Ref sig .tc := ⟨.hbm, 2490, rfl⟩
abbrev main_v1960 : Ref sig .tc := ⟨.hbm, 2491, rfl⟩
abbrev main_v1961 : Ref sig .tc := ⟨.hbm, 2492, rfl⟩
abbrev main_v1962 : Ref sig .tc := ⟨.hbm, 2493, rfl⟩
abbrev main_v1963 : Ref sig .tc := ⟨.hbm, 2494, rfl⟩
abbrev main_v1964 : Ref sig .tc := ⟨.hbm, 2495, rfl⟩
abbrev main_v1965 : Ref sig .tc := ⟨.hbm, 2496, rfl⟩
abbrev main_v1966 : Ref sig .tc := ⟨.hbm, 2497, rfl⟩
abbrev main_cst_331 : Ref sig .tc := ⟨.hbm, 2498, rfl⟩
abbrev main_v1967 : Ref sig .tc := ⟨.hbm, 2499, rfl⟩
abbrev main_v1968 : Ref sig .tc := ⟨.hbm, 2500, rfl⟩
abbrev main_cst_332 : Ref sig .tc := ⟨.hbm, 2501, rfl⟩
abbrev main_v1969 : Ref sig .tc := ⟨.hbm, 2502, rfl⟩
abbrev main_v1970 : Ref sig .tc := ⟨.hbm, 2503, rfl⟩
abbrev main_v1971 : Ref sig .tc := ⟨.hbm, 2504, rfl⟩
abbrev main_v1972 : Ref sig .tc := ⟨.hbm, 2505, rfl⟩
abbrev main_c_333 : Ref sig .tc := ⟨.hbm, 2506, rfl⟩
abbrev main_c_334 : Ref sig .tc := ⟨.hbm, 2507, rfl⟩
abbrev main_call54_v0 : Ref sig .tc := ⟨.hbm, 2508, rfl⟩
abbrev main_call54_v1 : Ref sig .tc := ⟨.hbm, 2509, rfl⟩
abbrev main_call54_v2 : Ref sig .tc := ⟨.hbm, 2510, rfl⟩
abbrev main_call54_v3 : Ref sig .tc := ⟨.hbm, 2511, rfl⟩
abbrev main_call54_v4 : Ref sig .tc := ⟨.hbm, 2512, rfl⟩
abbrev main_v1973 : Ref sig .tc := ⟨.hbm, 2513, rfl⟩
abbrev main_cst_335 : Ref sig .tc := ⟨.hbm, 2514, rfl⟩
abbrev main_v1974 : Ref sig .tc := ⟨.hbm, 2515, rfl⟩
abbrev main_v1975 : Ref sig .tc := ⟨.hbm, 2516, rfl⟩
abbrev main_cst_336 : Ref sig .tc := ⟨.hbm, 2517, rfl⟩
abbrev main_v1976 : Ref sig .tc := ⟨.hbm, 2518, rfl⟩
abbrev main_v1977 : Ref sig .tc := ⟨.hbm, 2519, rfl⟩
abbrev main_v1978 : Ref sig .tc := ⟨.hbm, 2520, rfl⟩
abbrev main_v1979 : Ref sig .tc := ⟨.hbm, 2521, rfl⟩
abbrev main_c_337 : Ref sig .tc := ⟨.hbm, 2522, rfl⟩
abbrev main_c_338 : Ref sig .tc := ⟨.hbm, 2523, rfl⟩
abbrev main_call55_v0 : Ref sig .tc := ⟨.hbm, 2524, rfl⟩
abbrev main_call55_v1 : Ref sig .tc := ⟨.hbm, 2525, rfl⟩
abbrev main_call55_v2 : Ref sig .tc := ⟨.hbm, 2526, rfl⟩
abbrev main_call55_v3 : Ref sig .tc := ⟨.hbm, 2527, rfl⟩
abbrev main_call55_v4 : Ref sig .tc := ⟨.hbm, 2528, rfl⟩
abbrev main_v1980 : Ref sig .tc := ⟨.hbm, 2529, rfl⟩
abbrev main_c_339 : Ref sig .tc := ⟨.hbm, 2530, rfl⟩
abbrev main_v1981 : Ref sig .tc := ⟨.hbm, 2531, rfl⟩
abbrev main_v1982 : Ref sig .tc := ⟨.hbm, 2532, rfl⟩
abbrev main_v1983 : Ref sig .tc := ⟨.hbm, 2533, rfl⟩
abbrev main_v1984 : Ref sig .tc := ⟨.hbm, 2534, rfl⟩
abbrev main_v1985 : Ref sig .tc := ⟨.hbm, 2535, rfl⟩
abbrev main_c_340 : Ref sig .tc := ⟨.hbm, 2536, rfl⟩
abbrev main_v1986 : Ref sig .tc := ⟨.hbm, 2537, rfl⟩
abbrev main_v1987 : Ref sig .tc := ⟨.hbm, 2538, rfl⟩
abbrev main_v1988 : Ref sig .tc := ⟨.hbm, 2539, rfl⟩
abbrev main_v1989 : Ref sig .tc := ⟨.hbm, 2540, rfl⟩
abbrev main_c_341 : Ref sig .tc := ⟨.hbm, 2541, rfl⟩
abbrev main_v1990 : Ref sig .tc := ⟨.hbm, 2542, rfl⟩
abbrev main_v1991 : Ref sig .tc := ⟨.hbm, 2543, rfl⟩
abbrev main_v1992 : Ref sig .tc := ⟨.hbm, 2544, rfl⟩
abbrev main_v1993 : Ref sig .tc := ⟨.hbm, 2545, rfl⟩
abbrev main_v1994 : Ref sig .tc := ⟨.hbm, 2546, rfl⟩
abbrev main_v1995 : Ref sig .tc := ⟨.hbm, 2547, rfl⟩
abbrev main_v1996 : Ref sig .tc := ⟨.hbm, 2548, rfl⟩
abbrev main_v1997 : Ref sig .tc := ⟨.hbm, 2549, rfl⟩
abbrev main_v1998 : Ref sig .tc := ⟨.hbm, 2550, rfl⟩
abbrev main_cst_342 : Ref sig .tc := ⟨.hbm, 2551, rfl⟩
abbrev main_v1999 : Ref sig .tc := ⟨.hbm, 2552, rfl⟩
abbrev main_v2000 : Ref sig .tc := ⟨.hbm, 2553, rfl⟩
abbrev main_v2001 : Ref sig .tc := ⟨.hbm, 2554, rfl⟩
abbrev main_v2002 : Ref sig .tc := ⟨.hbm, 2555, rfl⟩
abbrev main_cst_343 : Ref sig .tc := ⟨.hbm, 2556, rfl⟩
abbrev main_v2003 : Ref sig .tc := ⟨.hbm, 2557, rfl⟩
abbrev main_v2004 : Ref sig .tc := ⟨.hbm, 2558, rfl⟩
abbrev main_v2005 : Ref sig .tc := ⟨.hbm, 2559, rfl⟩
abbrev main_v2006 : Ref sig .tc := ⟨.hbm, 2560, rfl⟩
abbrev main_v2007 : Ref sig .tc := ⟨.hbm, 2561, rfl⟩
abbrev main_v2008 : Ref sig .tc := ⟨.hbm, 2562, rfl⟩
abbrev main_v2009 : Ref sig .tc := ⟨.hbm, 2563, rfl⟩
abbrev main_v2010 : Ref sig .tc := ⟨.hbm, 2564, rfl⟩
abbrev main_v2011 : Ref sig .tc := ⟨.hbm, 2565, rfl⟩
abbrev main_v2012 : Ref sig .tc := ⟨.hbm, 2566, rfl⟩
abbrev main_v2013 : Ref sig .tc := ⟨.hbm, 2567, rfl⟩
abbrev main_v2014 : Ref sig .tc := ⟨.hbm, 2568, rfl⟩
abbrev main_v2015 : Ref sig .tc := ⟨.hbm, 2569, rfl⟩
abbrev main_c_344 : Ref sig .tc := ⟨.hbm, 2570, rfl⟩
abbrev main_call56_v0 : Ref sig .tc := ⟨.hbm, 2571, rfl⟩
abbrev main_call56_v1 : Ref sig .tc := ⟨.hbm, 2572, rfl⟩
abbrev main_v2016 : Ref sig .tc := ⟨.hbm, 2573, rfl⟩
abbrev main_v2017 : Ref sig .tc := ⟨.hbm, 2574, rfl⟩
abbrev main_v2018 : Ref sig .tc := ⟨.hbm, 2575, rfl⟩
abbrev main_v2019 : Ref sig .tc := ⟨.hbm, 2576, rfl⟩
abbrev main_v2020 : Ref sig .tc := ⟨.hbm, 2577, rfl⟩
abbrev main_v2021 : Ref sig .tc := ⟨.hbm, 2578, rfl⟩
abbrev main_v2022 : Ref sig .tc := ⟨.hbm, 2579, rfl⟩
abbrev main_v2023 : Ref sig .tc := ⟨.hbm, 2580, rfl⟩
abbrev main_v2024 : Ref sig .tc := ⟨.hbm, 2581, rfl⟩
abbrev main_v2025 : Ref sig .tc := ⟨.hbm, 2582, rfl⟩
abbrev main_cst_345 : Ref sig .tc := ⟨.hbm, 2583, rfl⟩
abbrev main_v2026 : Ref sig .tc := ⟨.hbm, 2584, rfl⟩
abbrev main_c_346 : Ref sig .tc := ⟨.hbm, 2585, rfl⟩
abbrev main_v2027 : Ref sig .tc := ⟨.hbm, 2586, rfl⟩
abbrev main_v2028 : Ref sig .tc := ⟨.hbm, 2587, rfl⟩
abbrev main_c_347 : Ref sig .tc := ⟨.hbm, 2588, rfl⟩
abbrev main_v2029 : Ref sig .tc := ⟨.hbm, 2589, rfl⟩
abbrev main_v2030 : Ref sig .tc := ⟨.hbm, 2590, rfl⟩
abbrev main_v2031 : Ref sig .tc := ⟨.hbm, 2591, rfl⟩
abbrev main_c_348 : Ref sig .tc := ⟨.hbm, 2592, rfl⟩
abbrev main_v2032 : Ref sig .tc := ⟨.hbm, 2593, rfl⟩
abbrev main_v2033 : Ref sig .tc := ⟨.hbm, 2594, rfl⟩
abbrev main_c_349 : Ref sig .tc := ⟨.hbm, 2595, rfl⟩
abbrev main_v2034 : Ref sig .tc := ⟨.hbm, 2596, rfl⟩
abbrev main_v2035 : Ref sig .tc := ⟨.hbm, 2597, rfl⟩
abbrev main_v2036 : Ref sig .tc := ⟨.hbm, 2598, rfl⟩
abbrev main_v2037 : Ref sig .tc := ⟨.hbm, 2599, rfl⟩
abbrev main_v2038 : Ref sig .tc := ⟨.hbm, 2600, rfl⟩
abbrev main_v2039 : Ref sig .tc := ⟨.hbm, 2601, rfl⟩
abbrev main_v2040 : Ref sig .tc := ⟨.hbm, 2602, rfl⟩
abbrev main_v2041 : Ref sig .tc := ⟨.hbm, 2603, rfl⟩
abbrev main_v2042 : Ref sig .tc := ⟨.hbm, 2604, rfl⟩
abbrev main_v2043 : Ref sig .tc := ⟨.hbm, 2605, rfl⟩
abbrev main_v2044 : Ref sig .tc := ⟨.hbm, 2606, rfl⟩
abbrev main_v2045 : Ref sig .tc := ⟨.hbm, 2607, rfl⟩
abbrev main_v2046 : Ref sig .tc := ⟨.hbm, 2608, rfl⟩
abbrev main_v2047 : Ref sig .tc := ⟨.hbm, 2609, rfl⟩
abbrev main_v2048 : Ref sig .tc := ⟨.hbm, 2610, rfl⟩
abbrev main_v2049 : Ref sig .tc := ⟨.hbm, 2611, rfl⟩
abbrev main_v2050 : Ref sig .tc := ⟨.hbm, 2612, rfl⟩
abbrev main_v2051 : Ref sig .tc := ⟨.hbm, 2613, rfl⟩
abbrev main_v2052 : Ref sig .tc := ⟨.hbm, 2614, rfl⟩
abbrev main_v2053 : Ref sig .tc := ⟨.hbm, 2615, rfl⟩
abbrev main_v2054 : Ref sig .tc := ⟨.hbm, 2616, rfl⟩
abbrev main_v2055 : Ref sig .tc := ⟨.hbm, 2617, rfl⟩
abbrev main_v2056 : Ref sig .tc := ⟨.hbm, 2618, rfl⟩
abbrev main_v2057 : Ref sig .tc := ⟨.hbm, 2619, rfl⟩
abbrev main_v2058 : Ref sig .tc := ⟨.hbm, 2620, rfl⟩
abbrev main_v2059 : Ref sig .tc := ⟨.hbm, 2621, rfl⟩
abbrev main_v2060 : Ref sig .tc := ⟨.hbm, 2622, rfl⟩
abbrev main_v2061 : Ref sig .tc := ⟨.hbm, 2623, rfl⟩
abbrev main_v2062 : Ref sig .tc := ⟨.hbm, 2624, rfl⟩
abbrev main_v2063 : Ref sig .tc := ⟨.hbm, 2625, rfl⟩
abbrev main_v2064 : Ref sig .tc := ⟨.hbm, 2626, rfl⟩
abbrev main_v2065 : Ref sig .tc := ⟨.hbm, 2627, rfl⟩
abbrev main_v2066 : Ref sig .tc := ⟨.hbm, 2628, rfl⟩
abbrev main_v2067 : Ref sig .tc := ⟨.hbm, 2629, rfl⟩
abbrev main_v2068 : Ref sig .tc := ⟨.hbm, 2630, rfl⟩
abbrev main_v2069 : Ref sig .tc := ⟨.hbm, 2631, rfl⟩
abbrev main_v2070 : Ref sig .tc := ⟨.hbm, 2632, rfl⟩
abbrev main_v2071 : Ref sig .tc := ⟨.hbm, 2633, rfl⟩
abbrev main_cst_350 : Ref sig .tc := ⟨.hbm, 2634, rfl⟩
abbrev main_v2072 : Ref sig .tc := ⟨.hbm, 2635, rfl⟩
abbrev main_v2073 : Ref sig .tc := ⟨.hbm, 2636, rfl⟩
abbrev main_cst_351 : Ref sig .tc := ⟨.hbm, 2637, rfl⟩
abbrev main_v2074 : Ref sig .tc := ⟨.hbm, 2638, rfl⟩
abbrev main_v2075 : Ref sig .tc := ⟨.hbm, 2639, rfl⟩
abbrev main_v2076 : Ref sig .tc := ⟨.hbm, 2640, rfl⟩
abbrev main_v2077 : Ref sig .tc := ⟨.hbm, 2641, rfl⟩
abbrev main_cst_352 : Ref sig .tc := ⟨.hbm, 2642, rfl⟩
abbrev main_v2078 : Ref sig .tc := ⟨.hbm, 2643, rfl⟩
abbrev main_v2079 : Ref sig .tc := ⟨.hbm, 2644, rfl⟩
abbrev main_cst_353 : Ref sig .tc := ⟨.hbm, 2645, rfl⟩
abbrev main_v2080 : Ref sig .tc := ⟨.hbm, 2646, rfl⟩
abbrev main_v2081 : Ref sig .tc := ⟨.hbm, 2647, rfl⟩
abbrev main_v2082 : Ref sig .tc := ⟨.hbm, 2648, rfl⟩
abbrev main_v2083 : Ref sig .tc := ⟨.hbm, 2649, rfl⟩
abbrev main_v2084 : Ref sig .tc := ⟨.hbm, 2650, rfl⟩
abbrev main_cst_354 : Ref sig .tc := ⟨.hbm, 2651, rfl⟩
abbrev main_v2085 : Ref sig .tc := ⟨.hbm, 2652, rfl⟩
abbrev main_v2086 : Ref sig .tc := ⟨.hbm, 2653, rfl⟩
abbrev main_cst_355 : Ref sig .tc := ⟨.hbm, 2654, rfl⟩
abbrev main_v2087 : Ref sig .tc := ⟨.hbm, 2655, rfl⟩
abbrev main_v2088 : Ref sig .tc := ⟨.hbm, 2656, rfl⟩
abbrev main_v2089 : Ref sig .tc := ⟨.hbm, 2657, rfl⟩
abbrev main_v2090 : Ref sig .tc := ⟨.hbm, 2658, rfl⟩
abbrev main_v2091 : Ref sig .tc := ⟨.hbm, 2659, rfl⟩
abbrev main_v2092 : Ref sig .tc := ⟨.hbm, 2660, rfl⟩
abbrev main_v2093 : Ref sig .tc := ⟨.hbm, 2661, rfl⟩
abbrev main_v2094 : Ref sig .tc := ⟨.hbm, 2662, rfl⟩
abbrev main_v2095 : Ref sig .tc := ⟨.hbm, 2663, rfl⟩
abbrev main_v2096 : Ref sig .tc := ⟨.hbm, 2664, rfl⟩
abbrev main_v2097 : Ref sig .tc := ⟨.hbm, 2665, rfl⟩
abbrev main_v2098 : Ref sig .tc := ⟨.hbm, 2666, rfl⟩
abbrev main_v2099 : Ref sig .tc := ⟨.hbm, 2667, rfl⟩
abbrev main_v2100 : Ref sig .tc := ⟨.hbm, 2668, rfl⟩
abbrev main_v2101 : Ref sig .tc := ⟨.hbm, 2669, rfl⟩
abbrev main_cst_356 : Ref sig .tc := ⟨.hbm, 2670, rfl⟩
abbrev main_v2102 : Ref sig .tc := ⟨.hbm, 2671, rfl⟩
abbrev main_v2103 : Ref sig .tc := ⟨.hbm, 2672, rfl⟩
abbrev main_v2104 : Ref sig .tc := ⟨.hbm, 2673, rfl⟩
abbrev main_v2105 : Ref sig .tc := ⟨.hbm, 2674, rfl⟩
abbrev main_v2106 : Ref sig .tc := ⟨.hbm, 2675, rfl⟩
abbrev main_v2107 : Ref sig .tc := ⟨.hbm, 2676, rfl⟩
abbrev main_v2108 : Ref sig .tc := ⟨.hbm, 2677, rfl⟩
abbrev main_v2109 : Ref sig .tc := ⟨.hbm, 2678, rfl⟩
abbrev main_v2110 : Ref sig .tc := ⟨.hbm, 2679, rfl⟩
abbrev main_v2111 : Ref sig .tc := ⟨.hbm, 2680, rfl⟩
abbrev main_v2112 : Ref sig .tc := ⟨.hbm, 2681, rfl⟩
abbrev main_v2113 : Ref sig .tc := ⟨.hbm, 2682, rfl⟩
abbrev main_v2114 : Ref sig .tc := ⟨.hbm, 2683, rfl⟩
abbrev main_call57_cst : Ref sig .tc := ⟨.hbm, 2684, rfl⟩
abbrev main_call57_v0 : Ref sig .tc := ⟨.hbm, 2685, rfl⟩
abbrev main_v2115 : Ref sig .tc := ⟨.hbm, 2686, rfl⟩
abbrev main_v2116 : Ref sig .tc := ⟨.hbm, 2687, rfl⟩
abbrev main_v2117 : Ref sig .tc := ⟨.hbm, 2688, rfl⟩
abbrev main_v2118 : Ref sig .tc := ⟨.hbm, 2689, rfl⟩
abbrev main_v2119 : Ref sig .tc := ⟨.hbm, 2690, rfl⟩
abbrev main_v2120 : Ref sig .tc := ⟨.hbm, 2691, rfl⟩
abbrev main_v2121 : Ref sig .tc := ⟨.hbm, 2692, rfl⟩
abbrev main_v2122 : Ref sig .tc := ⟨.hbm, 2693, rfl⟩
abbrev main_v2123 : Ref sig .tc := ⟨.hbm, 2694, rfl⟩
abbrev main_v2124 : Ref sig .tc := ⟨.hbm, 2695, rfl⟩
abbrev main_cst_357 : Ref sig .tc := ⟨.hbm, 2696, rfl⟩
abbrev main_v2125 : Ref sig .tc := ⟨.hbm, 2697, rfl⟩
abbrev main_v2126 : Ref sig .tc := ⟨.hbm, 2698, rfl⟩
abbrev main_cst_358 : Ref sig .tc := ⟨.hbm, 2699, rfl⟩
abbrev main_v2127 : Ref sig .tc := ⟨.hbm, 2700, rfl⟩
abbrev main_v2128 : Ref sig .tc := ⟨.hbm, 2701, rfl⟩
abbrev main_v2129 : Ref sig .tc := ⟨.hbm, 2702, rfl⟩
abbrev main_v2130 : Ref sig .tc := ⟨.hbm, 2703, rfl⟩
abbrev main_c_359 : Ref sig .tc := ⟨.hbm, 2704, rfl⟩
abbrev main_c_360 : Ref sig .tc := ⟨.hbm, 2705, rfl⟩
abbrev main_call58_v0 : Ref sig .tc := ⟨.hbm, 2706, rfl⟩
abbrev main_call58_v1 : Ref sig .tc := ⟨.hbm, 2707, rfl⟩
abbrev main_call58_v2 : Ref sig .tc := ⟨.hbm, 2708, rfl⟩
abbrev main_call58_v3 : Ref sig .tc := ⟨.hbm, 2709, rfl⟩
abbrev main_call58_v4 : Ref sig .tc := ⟨.hbm, 2710, rfl⟩
abbrev main_v2131 : Ref sig .tc := ⟨.hbm, 2711, rfl⟩
abbrev main_cst_361 : Ref sig .tc := ⟨.hbm, 2712, rfl⟩
abbrev main_v2132 : Ref sig .tc := ⟨.hbm, 2713, rfl⟩
abbrev main_v2133 : Ref sig .tc := ⟨.hbm, 2714, rfl⟩
abbrev main_cst_362 : Ref sig .tc := ⟨.hbm, 2715, rfl⟩
abbrev main_v2134 : Ref sig .tc := ⟨.hbm, 2716, rfl⟩
abbrev main_v2135 : Ref sig .tc := ⟨.hbm, 2717, rfl⟩
abbrev main_v2136 : Ref sig .tc := ⟨.hbm, 2718, rfl⟩
abbrev main_v2137 : Ref sig .tc := ⟨.hbm, 2719, rfl⟩
abbrev main_c_363 : Ref sig .tc := ⟨.hbm, 2720, rfl⟩
abbrev main_c_364 : Ref sig .tc := ⟨.hbm, 2721, rfl⟩
abbrev main_call59_v0 : Ref sig .tc := ⟨.hbm, 2722, rfl⟩
abbrev main_call59_v1 : Ref sig .tc := ⟨.hbm, 2723, rfl⟩
abbrev main_call59_v2 : Ref sig .tc := ⟨.hbm, 2724, rfl⟩
abbrev main_call59_v3 : Ref sig .tc := ⟨.hbm, 2725, rfl⟩
abbrev main_call59_v4 : Ref sig .tc := ⟨.hbm, 2726, rfl⟩
abbrev main_v2138 : Ref sig .tc := ⟨.hbm, 2727, rfl⟩
abbrev main_c_365 : Ref sig .tc := ⟨.hbm, 2728, rfl⟩
abbrev main_v2139 : Ref sig .tc := ⟨.hbm, 2729, rfl⟩
abbrev main_v2140 : Ref sig .tc := ⟨.hbm, 2730, rfl⟩
abbrev main_v2141 : Ref sig .tc := ⟨.hbm, 2731, rfl⟩
abbrev main_v2142 : Ref sig .tc := ⟨.hbm, 2732, rfl⟩
abbrev main_v2143 : Ref sig .tc := ⟨.hbm, 2733, rfl⟩
abbrev main_c_366 : Ref sig .tc := ⟨.hbm, 2734, rfl⟩
abbrev main_v2144 : Ref sig .tc := ⟨.hbm, 2735, rfl⟩
abbrev main_v2145 : Ref sig .tc := ⟨.hbm, 2736, rfl⟩
abbrev main_v2146 : Ref sig .tc := ⟨.hbm, 2737, rfl⟩
abbrev main_v2147 : Ref sig .tc := ⟨.hbm, 2738, rfl⟩
abbrev main_c_367 : Ref sig .tc := ⟨.hbm, 2739, rfl⟩
abbrev main_v2148 : Ref sig .tc := ⟨.hbm, 2740, rfl⟩
abbrev main_v2149 : Ref sig .tc := ⟨.hbm, 2741, rfl⟩
abbrev main_v2150 : Ref sig .tc := ⟨.hbm, 2742, rfl⟩
abbrev main_v2151 : Ref sig .tc := ⟨.hbm, 2743, rfl⟩
abbrev main_v2152 : Ref sig .tc := ⟨.hbm, 2744, rfl⟩
abbrev main_v2153 : Ref sig .tc := ⟨.hbm, 2745, rfl⟩
abbrev main_v2154 : Ref sig .tc := ⟨.hbm, 2746, rfl⟩
abbrev main_v2155 : Ref sig .tc := ⟨.hbm, 2747, rfl⟩
abbrev main_v2156 : Ref sig .tc := ⟨.hbm, 2748, rfl⟩
abbrev main_cst_368 : Ref sig .tc := ⟨.hbm, 2749, rfl⟩
abbrev main_v2157 : Ref sig .tc := ⟨.hbm, 2750, rfl⟩
abbrev main_v2158 : Ref sig .tc := ⟨.hbm, 2751, rfl⟩
abbrev main_v2159 : Ref sig .tc := ⟨.hbm, 2752, rfl⟩
abbrev main_v2160 : Ref sig .tc := ⟨.hbm, 2753, rfl⟩
abbrev main_cst_369 : Ref sig .tc := ⟨.hbm, 2754, rfl⟩
abbrev main_v2161 : Ref sig .tc := ⟨.hbm, 2755, rfl⟩
abbrev main_v2162 : Ref sig .tc := ⟨.hbm, 2756, rfl⟩
abbrev main_v2163 : Ref sig .tc := ⟨.hbm, 2757, rfl⟩
abbrev main_v2164 : Ref sig .tc := ⟨.hbm, 2758, rfl⟩
abbrev main_v2165 : Ref sig .tc := ⟨.hbm, 2759, rfl⟩
abbrev main_v2166 : Ref sig .tc := ⟨.hbm, 2760, rfl⟩
abbrev main_v2167 : Ref sig .tc := ⟨.hbm, 2761, rfl⟩
abbrev main_v2168 : Ref sig .tc := ⟨.hbm, 2762, rfl⟩
abbrev main_v2169 : Ref sig .tc := ⟨.hbm, 2763, rfl⟩
abbrev main_v2170 : Ref sig .tc := ⟨.hbm, 2764, rfl⟩
abbrev main_v2171 : Ref sig .tc := ⟨.hbm, 2765, rfl⟩
abbrev main_v2172 : Ref sig .tc := ⟨.hbm, 2766, rfl⟩
abbrev main_v2173 : Ref sig .tc := ⟨.hbm, 2767, rfl⟩
abbrev main_c_370 : Ref sig .tc := ⟨.hbm, 2768, rfl⟩
abbrev main_call60_v0 : Ref sig .tc := ⟨.hbm, 2769, rfl⟩
abbrev main_call60_v1 : Ref sig .tc := ⟨.hbm, 2770, rfl⟩
abbrev main_v2174 : Ref sig .tc := ⟨.hbm, 2771, rfl⟩
abbrev main_v2175 : Ref sig .tc := ⟨.hbm, 2772, rfl⟩
abbrev main_v2176 : Ref sig .tc := ⟨.hbm, 2773, rfl⟩
abbrev main_v2177 : Ref sig .tc := ⟨.hbm, 2774, rfl⟩
abbrev main_v2178 : Ref sig .tc := ⟨.hbm, 2775, rfl⟩
abbrev main_v2179 : Ref sig .tc := ⟨.hbm, 2776, rfl⟩
abbrev main_v2180 : Ref sig .tc := ⟨.hbm, 2777, rfl⟩
abbrev main_v2181 : Ref sig .tc := ⟨.hbm, 2778, rfl⟩
abbrev main_v2182 : Ref sig .tc := ⟨.hbm, 2779, rfl⟩
abbrev main_v2183 : Ref sig .tc := ⟨.hbm, 2780, rfl⟩
abbrev main_cst_371 : Ref sig .tc := ⟨.hbm, 2781, rfl⟩
abbrev main_v2184 : Ref sig .tc := ⟨.hbm, 2782, rfl⟩
abbrev main_c_372 : Ref sig .tc := ⟨.hbm, 2783, rfl⟩
abbrev main_v2185 : Ref sig .tc := ⟨.hbm, 2784, rfl⟩
abbrev main_v2186 : Ref sig .tc := ⟨.hbm, 2785, rfl⟩
abbrev main_c_373 : Ref sig .tc := ⟨.hbm, 2786, rfl⟩
abbrev main_v2187 : Ref sig .tc := ⟨.hbm, 2787, rfl⟩
abbrev main_v2188 : Ref sig .tc := ⟨.hbm, 2788, rfl⟩
abbrev main_v2189 : Ref sig .tc := ⟨.hbm, 2789, rfl⟩
abbrev main_c_374 : Ref sig .tc := ⟨.hbm, 2790, rfl⟩
abbrev main_v2190 : Ref sig .tc := ⟨.hbm, 2791, rfl⟩
abbrev main_v2191 : Ref sig .tc := ⟨.hbm, 2792, rfl⟩
abbrev main_c_375 : Ref sig .tc := ⟨.hbm, 2793, rfl⟩
abbrev main_v2192 : Ref sig .tc := ⟨.hbm, 2794, rfl⟩
abbrev main_v2193 : Ref sig .tc := ⟨.hbm, 2795, rfl⟩
abbrev main_v2194 : Ref sig .tc := ⟨.hbm, 2796, rfl⟩
abbrev main_v2195 : Ref sig .tc := ⟨.hbm, 2797, rfl⟩
abbrev main_v2196 : Ref sig .tc := ⟨.hbm, 2798, rfl⟩
abbrev main_v2197 : Ref sig .tc := ⟨.hbm, 2799, rfl⟩
abbrev main_v2198 : Ref sig .tc := ⟨.hbm, 2800, rfl⟩
abbrev main_v2199 : Ref sig .tc := ⟨.hbm, 2801, rfl⟩
abbrev main_v2200 : Ref sig .tc := ⟨.hbm, 2802, rfl⟩
abbrev main_v2201 : Ref sig .tc := ⟨.hbm, 2803, rfl⟩
abbrev main_v2202 : Ref sig .tc := ⟨.hbm, 2804, rfl⟩
abbrev main_v2203 : Ref sig .tc := ⟨.hbm, 2805, rfl⟩
abbrev main_v2204 : Ref sig .tc := ⟨.hbm, 2806, rfl⟩
abbrev main_v2205 : Ref sig .tc := ⟨.hbm, 2807, rfl⟩
abbrev main_v2206 : Ref sig .tc := ⟨.hbm, 2808, rfl⟩
abbrev main_v2207 : Ref sig .tc := ⟨.hbm, 2809, rfl⟩
abbrev main_v2208 : Ref sig .tc := ⟨.hbm, 2810, rfl⟩
abbrev main_v2209 : Ref sig .tc := ⟨.hbm, 2811, rfl⟩
abbrev main_v2210 : Ref sig .tc := ⟨.hbm, 2812, rfl⟩
abbrev main_v2211 : Ref sig .tc := ⟨.hbm, 2813, rfl⟩
abbrev main_v2212 : Ref sig .tc := ⟨.hbm, 2814, rfl⟩
abbrev main_v2213 : Ref sig .tc := ⟨.hbm, 2815, rfl⟩
abbrev main_v2214 : Ref sig .tc := ⟨.hbm, 2816, rfl⟩
abbrev main_v2215 : Ref sig .tc := ⟨.hbm, 2817, rfl⟩
abbrev main_v2216 : Ref sig .tc := ⟨.hbm, 2818, rfl⟩
abbrev main_v2217 : Ref sig .tc := ⟨.hbm, 2819, rfl⟩
abbrev main_v2218 : Ref sig .tc := ⟨.hbm, 2820, rfl⟩
abbrev main_v2219 : Ref sig .tc := ⟨.hbm, 2821, rfl⟩
abbrev main_v2220 : Ref sig .tc := ⟨.hbm, 2822, rfl⟩
abbrev main_v2221 : Ref sig .tc := ⟨.hbm, 2823, rfl⟩
abbrev main_v2222 : Ref sig .tc := ⟨.hbm, 2824, rfl⟩
abbrev main_v2223 : Ref sig .tc := ⟨.hbm, 2825, rfl⟩
abbrev main_v2224 : Ref sig .tc := ⟨.hbm, 2826, rfl⟩
abbrev main_v2225 : Ref sig .tc := ⟨.hbm, 2827, rfl⟩
abbrev main_v2226 : Ref sig .tc := ⟨.hbm, 2828, rfl⟩
abbrev main_v2227 : Ref sig .tc := ⟨.hbm, 2829, rfl⟩
abbrev main_v2228 : Ref sig .tc := ⟨.hbm, 2830, rfl⟩
abbrev main_v2229 : Ref sig .tc := ⟨.hbm, 2831, rfl⟩
abbrev main_cst_376 : Ref sig .tc := ⟨.hbm, 2832, rfl⟩
abbrev main_v2230 : Ref sig .tc := ⟨.hbm, 2833, rfl⟩
abbrev main_v2231 : Ref sig .tc := ⟨.hbm, 2834, rfl⟩
abbrev main_cst_377 : Ref sig .tc := ⟨.hbm, 2835, rfl⟩
abbrev main_v2232 : Ref sig .tc := ⟨.hbm, 2836, rfl⟩
abbrev main_v2233 : Ref sig .tc := ⟨.hbm, 2837, rfl⟩
abbrev main_v2234 : Ref sig .tc := ⟨.hbm, 2838, rfl⟩
abbrev main_v2235 : Ref sig .tc := ⟨.hbm, 2839, rfl⟩
abbrev main_cst_378 : Ref sig .tc := ⟨.hbm, 2840, rfl⟩
abbrev main_v2236 : Ref sig .tc := ⟨.hbm, 2841, rfl⟩
abbrev main_v2237 : Ref sig .tc := ⟨.hbm, 2842, rfl⟩
abbrev main_cst_379 : Ref sig .tc := ⟨.hbm, 2843, rfl⟩
abbrev main_v2238 : Ref sig .tc := ⟨.hbm, 2844, rfl⟩
abbrev main_v2239 : Ref sig .tc := ⟨.hbm, 2845, rfl⟩
abbrev main_v2240 : Ref sig .tc := ⟨.hbm, 2846, rfl⟩
abbrev main_v2241 : Ref sig .tc := ⟨.hbm, 2847, rfl⟩
abbrev main_v2242 : Ref sig .tc := ⟨.hbm, 2848, rfl⟩
abbrev main_cst_380 : Ref sig .tc := ⟨.hbm, 2849, rfl⟩
abbrev main_v2243 : Ref sig .tc := ⟨.hbm, 2850, rfl⟩
abbrev main_v2244 : Ref sig .tc := ⟨.hbm, 2851, rfl⟩
abbrev main_cst_381 : Ref sig .tc := ⟨.hbm, 2852, rfl⟩
abbrev main_v2245 : Ref sig .tc := ⟨.hbm, 2853, rfl⟩
abbrev main_v2246 : Ref sig .tc := ⟨.hbm, 2854, rfl⟩
abbrev main_v2247 : Ref sig .tc := ⟨.hbm, 2855, rfl⟩
abbrev main_v2248 : Ref sig .tc := ⟨.hbm, 2856, rfl⟩
abbrev main_v2249 : Ref sig .tc := ⟨.hbm, 2857, rfl⟩
abbrev main_v2250 : Ref sig .tc := ⟨.hbm, 2858, rfl⟩
abbrev main_v2251 : Ref sig .tc := ⟨.hbm, 2859, rfl⟩
abbrev main_v2252 : Ref sig .tc := ⟨.hbm, 2860, rfl⟩
abbrev main_v2253 : Ref sig .tc := ⟨.hbm, 2861, rfl⟩
abbrev main_v2254 : Ref sig .tc := ⟨.hbm, 2862, rfl⟩
abbrev main_v2255 : Ref sig .tc := ⟨.hbm, 2863, rfl⟩
abbrev main_v2256 : Ref sig .tc := ⟨.hbm, 2864, rfl⟩
abbrev main_v2257 : Ref sig .tc := ⟨.hbm, 2865, rfl⟩
abbrev main_v2258 : Ref sig .tc := ⟨.hbm, 2866, rfl⟩
abbrev main_v2259 : Ref sig .tc := ⟨.hbm, 2867, rfl⟩
abbrev main_cst_382 : Ref sig .tc := ⟨.hbm, 2868, rfl⟩
abbrev main_v2260 : Ref sig .tc := ⟨.hbm, 2869, rfl⟩
abbrev main_v2261 : Ref sig .tc := ⟨.hbm, 2870, rfl⟩
abbrev main_v2262 : Ref sig .tc := ⟨.hbm, 2871, rfl⟩
abbrev main_v2263 : Ref sig .tc := ⟨.hbm, 2872, rfl⟩
abbrev main_v2264 : Ref sig .tc := ⟨.hbm, 2873, rfl⟩
abbrev main_v2265 : Ref sig .tc := ⟨.hbm, 2874, rfl⟩
abbrev main_v2266 : Ref sig .tc := ⟨.hbm, 2875, rfl⟩
abbrev main_v2267 : Ref sig .tc := ⟨.hbm, 2876, rfl⟩
abbrev main_v2268 : Ref sig .tc := ⟨.hbm, 2877, rfl⟩
abbrev main_v2269 : Ref sig .tc := ⟨.hbm, 2878, rfl⟩
abbrev main_v2270 : Ref sig .tc := ⟨.hbm, 2879, rfl⟩
abbrev main_v2271 : Ref sig .tc := ⟨.hbm, 2880, rfl⟩
abbrev main_v2272 : Ref sig .tc := ⟨.hbm, 2881, rfl⟩
abbrev main_call61_cst : Ref sig .tc := ⟨.hbm, 2882, rfl⟩
abbrev main_call61_v0 : Ref sig .tc := ⟨.hbm, 2883, rfl⟩
abbrev main_v2273 : Ref sig .tc := ⟨.hbm, 2884, rfl⟩
abbrev main_v2274 : Ref sig .tc := ⟨.hbm, 2885, rfl⟩
abbrev main_v2275 : Ref sig .tc := ⟨.hbm, 2886, rfl⟩
abbrev main_v2276 : Ref sig .tc := ⟨.hbm, 2887, rfl⟩
abbrev main_v2277 : Ref sig .tc := ⟨.hbm, 2888, rfl⟩
abbrev main_v2278 : Ref sig .tc := ⟨.hbm, 2889, rfl⟩
abbrev main_v2279 : Ref sig .tc := ⟨.hbm, 2890, rfl⟩
abbrev main_v2280 : Ref sig .tc := ⟨.hbm, 2891, rfl⟩
abbrev main_v2281 : Ref sig .tc := ⟨.hbm, 2892, rfl⟩
abbrev main_v2282 : Ref sig .tc := ⟨.hbm, 2893, rfl⟩
abbrev main_cst_383 : Ref sig .tc := ⟨.hbm, 2894, rfl⟩
abbrev main_v2283 : Ref sig .tc := ⟨.hbm, 2895, rfl⟩
abbrev main_v2284 : Ref sig .tc := ⟨.hbm, 2896, rfl⟩
abbrev main_cst_384 : Ref sig .tc := ⟨.hbm, 2897, rfl⟩
abbrev main_v2285 : Ref sig .tc := ⟨.hbm, 2898, rfl⟩
abbrev main_v2286 : Ref sig .tc := ⟨.hbm, 2899, rfl⟩
abbrev main_v2287 : Ref sig .tc := ⟨.hbm, 2900, rfl⟩
abbrev main_v2288 : Ref sig .tc := ⟨.hbm, 2901, rfl⟩
abbrev main_c_385 : Ref sig .tc := ⟨.hbm, 2902, rfl⟩
abbrev main_c_386 : Ref sig .tc := ⟨.hbm, 2903, rfl⟩
abbrev main_call62_v0 : Ref sig .tc := ⟨.hbm, 2904, rfl⟩
abbrev main_call62_v1 : Ref sig .tc := ⟨.hbm, 2905, rfl⟩
abbrev main_call62_v2 : Ref sig .tc := ⟨.hbm, 2906, rfl⟩
abbrev main_call62_v3 : Ref sig .tc := ⟨.hbm, 2907, rfl⟩
abbrev main_call62_v4 : Ref sig .tc := ⟨.hbm, 2908, rfl⟩
abbrev main_v2289 : Ref sig .tc := ⟨.hbm, 2909, rfl⟩
abbrev main_cst_387 : Ref sig .tc := ⟨.hbm, 2910, rfl⟩
abbrev main_v2290 : Ref sig .tc := ⟨.hbm, 2911, rfl⟩
abbrev main_v2291 : Ref sig .tc := ⟨.hbm, 2912, rfl⟩
abbrev main_cst_388 : Ref sig .tc := ⟨.hbm, 2913, rfl⟩
abbrev main_v2292 : Ref sig .tc := ⟨.hbm, 2914, rfl⟩
abbrev main_v2293 : Ref sig .tc := ⟨.hbm, 2915, rfl⟩
abbrev main_v2294 : Ref sig .tc := ⟨.hbm, 2916, rfl⟩
abbrev main_v2295 : Ref sig .tc := ⟨.hbm, 2917, rfl⟩
abbrev main_c_389 : Ref sig .tc := ⟨.hbm, 2918, rfl⟩
abbrev main_c_390 : Ref sig .tc := ⟨.hbm, 2919, rfl⟩
abbrev main_call63_v0 : Ref sig .tc := ⟨.hbm, 2920, rfl⟩
abbrev main_call63_v1 : Ref sig .tc := ⟨.hbm, 2921, rfl⟩
abbrev main_call63_v2 : Ref sig .tc := ⟨.hbm, 2922, rfl⟩
abbrev main_call63_v3 : Ref sig .tc := ⟨.hbm, 2923, rfl⟩
abbrev main_call63_v4 : Ref sig .tc := ⟨.hbm, 2924, rfl⟩
abbrev main_v2296 : Ref sig .tc := ⟨.hbm, 2925, rfl⟩
abbrev main_c_391 : Ref sig .tc := ⟨.hbm, 2926, rfl⟩
abbrev main_v2297 : Ref sig .tc := ⟨.hbm, 2927, rfl⟩
abbrev main_v2298 : Ref sig .tc := ⟨.hbm, 2928, rfl⟩
abbrev main_v2299 : Ref sig .tc := ⟨.hbm, 2929, rfl⟩
abbrev main_v2300 : Ref sig .tc := ⟨.hbm, 2930, rfl⟩
abbrev main_v2301 : Ref sig .tc := ⟨.hbm, 2931, rfl⟩
abbrev main_c_392 : Ref sig .tc := ⟨.hbm, 2932, rfl⟩
abbrev main_v2302 : Ref sig .tc := ⟨.hbm, 2933, rfl⟩
abbrev main_v2303 : Ref sig .tc := ⟨.hbm, 2934, rfl⟩
abbrev main_v2304 : Ref sig .tc := ⟨.hbm, 2935, rfl⟩
abbrev main_v2305 : Ref sig .tc := ⟨.hbm, 2936, rfl⟩
abbrev main_c_393 : Ref sig .tc := ⟨.hbm, 2937, rfl⟩
abbrev main_v2306 : Ref sig .tc := ⟨.hbm, 2938, rfl⟩
abbrev main_v2307 : Ref sig .tc := ⟨.hbm, 2939, rfl⟩
abbrev main_v2308 : Ref sig .tc := ⟨.hbm, 2940, rfl⟩
abbrev main_v2309 : Ref sig .tc := ⟨.hbm, 2941, rfl⟩
abbrev main_v2310 : Ref sig .tc := ⟨.hbm, 2942, rfl⟩
abbrev main_v2311 : Ref sig .tc := ⟨.hbm, 2943, rfl⟩
abbrev main_v2312 : Ref sig .tc := ⟨.hbm, 2944, rfl⟩
abbrev main_v2313 : Ref sig .tc := ⟨.hbm, 2945, rfl⟩
abbrev main_v2314 : Ref sig .tc := ⟨.hbm, 2946, rfl⟩
abbrev main_cst_394 : Ref sig .tc := ⟨.hbm, 2947, rfl⟩
abbrev main_v2315 : Ref sig .tc := ⟨.hbm, 2948, rfl⟩
abbrev main_v2316 : Ref sig .tc := ⟨.hbm, 2949, rfl⟩
abbrev main_v2317 : Ref sig .tc := ⟨.hbm, 2950, rfl⟩
abbrev main_v2318 : Ref sig .tc := ⟨.hbm, 2951, rfl⟩
abbrev main_cst_395 : Ref sig .tc := ⟨.hbm, 2952, rfl⟩
abbrev main_v2319 : Ref sig .tc := ⟨.hbm, 2953, rfl⟩
abbrev main_v2320 : Ref sig .tc := ⟨.hbm, 2954, rfl⟩
abbrev main_v2321 : Ref sig .tc := ⟨.hbm, 2955, rfl⟩
abbrev main_v2322 : Ref sig .tc := ⟨.hbm, 2956, rfl⟩
abbrev main_v2323 : Ref sig .tc := ⟨.hbm, 2957, rfl⟩
abbrev main_v2324 : Ref sig .tc := ⟨.hbm, 2958, rfl⟩
abbrev main_v2325 : Ref sig .tc := ⟨.hbm, 2959, rfl⟩
abbrev main_v2326 : Ref sig .tc := ⟨.hbm, 2960, rfl⟩
abbrev main_v2327 : Ref sig .tc := ⟨.hbm, 2961, rfl⟩
abbrev main_v2328 : Ref sig .tc := ⟨.hbm, 2962, rfl⟩
abbrev main_v2329 : Ref sig .tc := ⟨.hbm, 2963, rfl⟩
abbrev main_v2330 : Ref sig .tc := ⟨.hbm, 2964, rfl⟩
abbrev main_v2331 : Ref sig .tc := ⟨.hbm, 2965, rfl⟩
abbrev main_c_396 : Ref sig .tc := ⟨.hbm, 2966, rfl⟩
abbrev main_call64_v0 : Ref sig .tc := ⟨.hbm, 2967, rfl⟩
abbrev main_call64_v1 : Ref sig .tc := ⟨.hbm, 2968, rfl⟩
abbrev main_v2332 : Ref sig .tc := ⟨.hbm, 2969, rfl⟩
abbrev main_v2333 : Ref sig .tc := ⟨.hbm, 2970, rfl⟩
abbrev main_v2334 : Ref sig .tc := ⟨.hbm, 2971, rfl⟩
abbrev main_v2335 : Ref sig .tc := ⟨.hbm, 2972, rfl⟩
abbrev main_v2336 : Ref sig .tc := ⟨.hbm, 2973, rfl⟩
abbrev main_v2337 : Ref sig .tc := ⟨.hbm, 2974, rfl⟩
abbrev main_v2338 : Ref sig .tc := ⟨.hbm, 2975, rfl⟩
abbrev main_v2339 : Ref sig .tc := ⟨.hbm, 2976, rfl⟩
abbrev main_v2340 : Ref sig .tc := ⟨.hbm, 2977, rfl⟩
abbrev main_v2341 : Ref sig .tc := ⟨.hbm, 2978, rfl⟩
abbrev main_cst_397 : Ref sig .tc := ⟨.hbm, 2979, rfl⟩
abbrev main_v2342 : Ref sig .tc := ⟨.hbm, 2980, rfl⟩
abbrev main_c_398 : Ref sig .tc := ⟨.hbm, 2981, rfl⟩
abbrev main_v2343 : Ref sig .tc := ⟨.hbm, 2982, rfl⟩
abbrev main_v2344 : Ref sig .tc := ⟨.hbm, 2983, rfl⟩
abbrev main_c_399 : Ref sig .tc := ⟨.hbm, 2984, rfl⟩
abbrev main_v2345 : Ref sig .tc := ⟨.hbm, 2985, rfl⟩
abbrev main_v2346 : Ref sig .tc := ⟨.hbm, 2986, rfl⟩
abbrev main_v2347 : Ref sig .tc := ⟨.hbm, 2987, rfl⟩
abbrev main_c_400 : Ref sig .tc := ⟨.hbm, 2988, rfl⟩
abbrev main_v2348 : Ref sig .tc := ⟨.hbm, 2989, rfl⟩
abbrev main_v2349 : Ref sig .tc := ⟨.hbm, 2990, rfl⟩
abbrev main_c_401 : Ref sig .tc := ⟨.hbm, 2991, rfl⟩
abbrev main_v2350 : Ref sig .tc := ⟨.hbm, 2992, rfl⟩
abbrev main_v2351 : Ref sig .tc := ⟨.hbm, 2993, rfl⟩
abbrev main_v2352 : Ref sig .tc := ⟨.hbm, 2994, rfl⟩
abbrev main_v2353 : Ref sig .tc := ⟨.hbm, 2995, rfl⟩
abbrev main_v2354 : Ref sig .tc := ⟨.hbm, 2996, rfl⟩
abbrev main_v2355 : Ref sig .tc := ⟨.hbm, 2997, rfl⟩
abbrev main_v2356 : Ref sig .tc := ⟨.hbm, 2998, rfl⟩
abbrev main_v2357 : Ref sig .tc := ⟨.hbm, 2999, rfl⟩
abbrev main_v2358 : Ref sig .tc := ⟨.hbm, 3000, rfl⟩
abbrev main_v2359 : Ref sig .tc := ⟨.hbm, 3001, rfl⟩
abbrev main_v2360 : Ref sig .tc := ⟨.hbm, 3002, rfl⟩
abbrev main_v2361 : Ref sig .tc := ⟨.hbm, 3003, rfl⟩
abbrev main_v2362 : Ref sig .tc := ⟨.hbm, 3004, rfl⟩
abbrev main_v2363 : Ref sig .tc := ⟨.hbm, 3005, rfl⟩
abbrev main_v2364 : Ref sig .tc := ⟨.hbm, 3006, rfl⟩
abbrev main_v2365 : Ref sig .tc := ⟨.hbm, 3007, rfl⟩
abbrev main_v2366 : Ref sig .tc := ⟨.hbm, 3008, rfl⟩
abbrev main_v2367 : Ref sig .tc := ⟨.hbm, 3009, rfl⟩
abbrev main_v2368 : Ref sig .tc := ⟨.hbm, 3010, rfl⟩
abbrev main_v2369 : Ref sig .tc := ⟨.hbm, 3011, rfl⟩
abbrev main_v2370 : Ref sig .tc := ⟨.hbm, 3012, rfl⟩
abbrev main_v2371 : Ref sig .tc := ⟨.hbm, 3013, rfl⟩
abbrev main_v2372 : Ref sig .tc := ⟨.hbm, 3014, rfl⟩
abbrev main_v2373 : Ref sig .tc := ⟨.hbm, 3015, rfl⟩
abbrev main_v2374 : Ref sig .tc := ⟨.hbm, 3016, rfl⟩
abbrev main_v2375 : Ref sig .tc := ⟨.hbm, 3017, rfl⟩
abbrev main_v2376 : Ref sig .tc := ⟨.hbm, 3018, rfl⟩
abbrev main_v2377 : Ref sig .tc := ⟨.hbm, 3019, rfl⟩
abbrev main_v2378 : Ref sig .tc := ⟨.hbm, 3020, rfl⟩
abbrev main_v2379 : Ref sig .tc := ⟨.hbm, 3021, rfl⟩
abbrev main_v2380 : Ref sig .tc := ⟨.hbm, 3022, rfl⟩
abbrev main_v2381 : Ref sig .tc := ⟨.hbm, 3023, rfl⟩
abbrev main_v2382 : Ref sig .tc := ⟨.hbm, 3024, rfl⟩
abbrev main_v2383 : Ref sig .tc := ⟨.hbm, 3025, rfl⟩
abbrev main_v2384 : Ref sig .tc := ⟨.hbm, 3026, rfl⟩
abbrev main_v2385 : Ref sig .tc := ⟨.hbm, 3027, rfl⟩
abbrev main_v2386 : Ref sig .tc := ⟨.hbm, 3028, rfl⟩
abbrev main_v2387 : Ref sig .tc := ⟨.hbm, 3029, rfl⟩
abbrev main_cst_402 : Ref sig .tc := ⟨.hbm, 3030, rfl⟩
abbrev main_v2388 : Ref sig .tc := ⟨.hbm, 3031, rfl⟩
abbrev main_v2389 : Ref sig .tc := ⟨.hbm, 3032, rfl⟩
abbrev main_cst_403 : Ref sig .tc := ⟨.hbm, 3033, rfl⟩
abbrev main_v2390 : Ref sig .tc := ⟨.hbm, 3034, rfl⟩
abbrev main_v2391 : Ref sig .tc := ⟨.hbm, 3035, rfl⟩
abbrev main_v2392 : Ref sig .tc := ⟨.hbm, 3036, rfl⟩
abbrev main_v2393 : Ref sig .tc := ⟨.hbm, 3037, rfl⟩
abbrev main_cst_404 : Ref sig .tc := ⟨.hbm, 3038, rfl⟩
abbrev main_v2394 : Ref sig .tc := ⟨.hbm, 3039, rfl⟩
abbrev main_v2395 : Ref sig .tc := ⟨.hbm, 3040, rfl⟩
abbrev main_cst_405 : Ref sig .tc := ⟨.hbm, 3041, rfl⟩
abbrev main_v2396 : Ref sig .tc := ⟨.hbm, 3042, rfl⟩
abbrev main_v2397 : Ref sig .tc := ⟨.hbm, 3043, rfl⟩
abbrev main_v2398 : Ref sig .tc := ⟨.hbm, 3044, rfl⟩
abbrev main_v2399 : Ref sig .tc := ⟨.hbm, 3045, rfl⟩
abbrev main_v2400 : Ref sig .tc := ⟨.hbm, 3046, rfl⟩
abbrev main_cst_406 : Ref sig .tc := ⟨.hbm, 3047, rfl⟩
abbrev main_v2401 : Ref sig .tc := ⟨.hbm, 3048, rfl⟩
abbrev main_v2402 : Ref sig .tc := ⟨.hbm, 3049, rfl⟩
abbrev main_cst_407 : Ref sig .tc := ⟨.hbm, 3050, rfl⟩
abbrev main_v2403 : Ref sig .tc := ⟨.hbm, 3051, rfl⟩
abbrev main_v2404 : Ref sig .tc := ⟨.hbm, 3052, rfl⟩
abbrev main_v2405 : Ref sig .tc := ⟨.hbm, 3053, rfl⟩
abbrev main_v2406 : Ref sig .tc := ⟨.hbm, 3054, rfl⟩
abbrev main_v2407 : Ref sig .tc := ⟨.hbm, 3055, rfl⟩
abbrev main_v2408 : Ref sig .tc := ⟨.hbm, 3056, rfl⟩
abbrev main_v2409 : Ref sig .tc := ⟨.hbm, 3057, rfl⟩
abbrev main_v2410 : Ref sig .tc := ⟨.hbm, 3058, rfl⟩
abbrev main_v2411 : Ref sig .tc := ⟨.hbm, 3059, rfl⟩
abbrev main_v2412 : Ref sig .tc := ⟨.hbm, 3060, rfl⟩
abbrev main_v2413 : Ref sig .tc := ⟨.hbm, 3061, rfl⟩
abbrev main_v2414 : Ref sig .tc := ⟨.hbm, 3062, rfl⟩
abbrev main_v2415 : Ref sig .tc := ⟨.hbm, 3063, rfl⟩
abbrev main_v2416 : Ref sig .tc := ⟨.hbm, 3064, rfl⟩
abbrev main_v2417 : Ref sig .tc := ⟨.hbm, 3065, rfl⟩
abbrev main_cst_408 : Ref sig .tc := ⟨.hbm, 3066, rfl⟩
abbrev main_v2418 : Ref sig .tc := ⟨.hbm, 3067, rfl⟩
abbrev main_v2419 : Ref sig .tc := ⟨.hbm, 3068, rfl⟩
abbrev main_v2420 : Ref sig .tc := ⟨.hbm, 3069, rfl⟩
abbrev main_v2421 : Ref sig .tc := ⟨.hbm, 3070, rfl⟩
abbrev main_v2422 : Ref sig .tc := ⟨.hbm, 3071, rfl⟩
abbrev main_v2423 : Ref sig .tc := ⟨.hbm, 3072, rfl⟩
abbrev main_v2424 : Ref sig .tc := ⟨.hbm, 3073, rfl⟩
abbrev main_v2425 : Ref sig .tc := ⟨.hbm, 3074, rfl⟩
abbrev main_v2426 : Ref sig .tc := ⟨.hbm, 3075, rfl⟩
abbrev main_v2427 : Ref sig .tc := ⟨.hbm, 3076, rfl⟩
abbrev main_v2428 : Ref sig .tc := ⟨.hbm, 3077, rfl⟩
abbrev main_v2429 : Ref sig .tc := ⟨.hbm, 3078, rfl⟩
abbrev main_v2430 : Ref sig .tc := ⟨.hbm, 3079, rfl⟩
abbrev main_call65_cst : Ref sig .tc := ⟨.hbm, 3080, rfl⟩
abbrev main_call65_v0 : Ref sig .tc := ⟨.hbm, 3081, rfl⟩
abbrev main_v2431 : Ref sig .tc := ⟨.hbm, 3082, rfl⟩
abbrev main_v2432 : Ref sig .tc := ⟨.hbm, 3083, rfl⟩
abbrev main_v2433 : Ref sig .tc := ⟨.hbm, 3084, rfl⟩
abbrev main_v2434 : Ref sig .tc := ⟨.hbm, 3085, rfl⟩
abbrev main_v2435 : Ref sig .tc := ⟨.hbm, 3086, rfl⟩
abbrev main_v2436 : Ref sig .tc := ⟨.hbm, 3087, rfl⟩
abbrev main_v2437 : Ref sig .tc := ⟨.hbm, 3088, rfl⟩
abbrev main_v2438 : Ref sig .tc := ⟨.hbm, 3089, rfl⟩
abbrev main_v2439 : Ref sig .tc := ⟨.hbm, 3090, rfl⟩
abbrev main_v2440 : Ref sig .tc := ⟨.hbm, 3091, rfl⟩
abbrev main_cst_409 : Ref sig .tc := ⟨.hbm, 3092, rfl⟩
abbrev main_v2441 : Ref sig .tc := ⟨.hbm, 3093, rfl⟩
abbrev main_v2442 : Ref sig .tc := ⟨.hbm, 3094, rfl⟩
abbrev main_cst_410 : Ref sig .tc := ⟨.hbm, 3095, rfl⟩
abbrev main_v2443 : Ref sig .tc := ⟨.hbm, 3096, rfl⟩
abbrev main_v2444 : Ref sig .tc := ⟨.hbm, 3097, rfl⟩
abbrev main_v2445 : Ref sig .tc := ⟨.hbm, 3098, rfl⟩
abbrev main_v2446 : Ref sig .tc := ⟨.hbm, 3099, rfl⟩
abbrev main_c_411 : Ref sig .tc := ⟨.hbm, 3100, rfl⟩
abbrev main_c_412 : Ref sig .tc := ⟨.hbm, 3101, rfl⟩
abbrev main_call66_v0 : Ref sig .tc := ⟨.hbm, 3102, rfl⟩
abbrev main_call66_v1 : Ref sig .tc := ⟨.hbm, 3103, rfl⟩
abbrev main_call66_v2 : Ref sig .tc := ⟨.hbm, 3104, rfl⟩
abbrev main_call66_v3 : Ref sig .tc := ⟨.hbm, 3105, rfl⟩
abbrev main_call66_v4 : Ref sig .tc := ⟨.hbm, 3106, rfl⟩
abbrev main_v2447 : Ref sig .tc := ⟨.hbm, 3107, rfl⟩
abbrev main_cst_413 : Ref sig .tc := ⟨.hbm, 3108, rfl⟩
abbrev main_v2448 : Ref sig .tc := ⟨.hbm, 3109, rfl⟩
abbrev main_v2449 : Ref sig .tc := ⟨.hbm, 3110, rfl⟩
abbrev main_cst_414 : Ref sig .tc := ⟨.hbm, 3111, rfl⟩
abbrev main_v2450 : Ref sig .tc := ⟨.hbm, 3112, rfl⟩
abbrev main_v2451 : Ref sig .tc := ⟨.hbm, 3113, rfl⟩
abbrev main_v2452 : Ref sig .tc := ⟨.hbm, 3114, rfl⟩
abbrev main_v2453 : Ref sig .tc := ⟨.hbm, 3115, rfl⟩
abbrev main_c_415 : Ref sig .tc := ⟨.hbm, 3116, rfl⟩
abbrev main_c_416 : Ref sig .tc := ⟨.hbm, 3117, rfl⟩
abbrev main_call67_v0 : Ref sig .tc := ⟨.hbm, 3118, rfl⟩
abbrev main_call67_v1 : Ref sig .tc := ⟨.hbm, 3119, rfl⟩
abbrev main_call67_v2 : Ref sig .tc := ⟨.hbm, 3120, rfl⟩
abbrev main_call67_v3 : Ref sig .tc := ⟨.hbm, 3121, rfl⟩
abbrev main_call67_v4 : Ref sig .tc := ⟨.hbm, 3122, rfl⟩
abbrev main_v2454 : Ref sig .tc := ⟨.hbm, 3123, rfl⟩
abbrev main_c_417 : Ref sig .tc := ⟨.hbm, 3124, rfl⟩
abbrev main_v2455 : Ref sig .tc := ⟨.hbm, 3125, rfl⟩
abbrev main_v2456 : Ref sig .tc := ⟨.hbm, 3126, rfl⟩
abbrev main_v2457 : Ref sig .tc := ⟨.hbm, 3127, rfl⟩
abbrev main_v2458 : Ref sig .tc := ⟨.hbm, 3128, rfl⟩
abbrev main_v2459 : Ref sig .tc := ⟨.hbm, 3129, rfl⟩
abbrev main_c_418 : Ref sig .tc := ⟨.hbm, 3130, rfl⟩
abbrev main_v2460 : Ref sig .tc := ⟨.hbm, 3131, rfl⟩
abbrev main_v2461 : Ref sig .tc := ⟨.hbm, 3132, rfl⟩
abbrev main_v2462 : Ref sig .tc := ⟨.hbm, 3133, rfl⟩
abbrev main_v2463 : Ref sig .tc := ⟨.hbm, 3134, rfl⟩
abbrev main_c_419 : Ref sig .tc := ⟨.hbm, 3135, rfl⟩
abbrev main_v2464 : Ref sig .tc := ⟨.hbm, 3136, rfl⟩
abbrev main_v2465 : Ref sig .tc := ⟨.hbm, 3137, rfl⟩
abbrev main_v2466 : Ref sig .tc := ⟨.hbm, 3138, rfl⟩
abbrev main_v2467 : Ref sig .tc := ⟨.hbm, 3139, rfl⟩
abbrev main_v2468 : Ref sig .tc := ⟨.hbm, 3140, rfl⟩
abbrev main_v2469 : Ref sig .tc := ⟨.hbm, 3141, rfl⟩
abbrev main_v2470 : Ref sig .tc := ⟨.hbm, 3142, rfl⟩
abbrev main_v2471 : Ref sig .tc := ⟨.hbm, 3143, rfl⟩
abbrev main_v2472 : Ref sig .tc := ⟨.hbm, 3144, rfl⟩
abbrev main_cst_420 : Ref sig .tc := ⟨.hbm, 3145, rfl⟩
abbrev main_v2473 : Ref sig .tc := ⟨.hbm, 3146, rfl⟩
abbrev main_v2474 : Ref sig .tc := ⟨.hbm, 3147, rfl⟩
abbrev main_v2475 : Ref sig .tc := ⟨.hbm, 3148, rfl⟩
abbrev main_v2476 : Ref sig .tc := ⟨.hbm, 3149, rfl⟩
abbrev main_cst_421 : Ref sig .tc := ⟨.hbm, 3150, rfl⟩
abbrev main_v2477 : Ref sig .tc := ⟨.hbm, 3151, rfl⟩
abbrev main_v2478 : Ref sig .tc := ⟨.hbm, 3152, rfl⟩
abbrev main_v2479 : Ref sig .tc := ⟨.hbm, 3153, rfl⟩
abbrev main_v2480 : Ref sig .tc := ⟨.hbm, 3154, rfl⟩
abbrev main_v2481 : Ref sig .tc := ⟨.hbm, 3155, rfl⟩
abbrev main_v2482 : Ref sig .tc := ⟨.hbm, 3156, rfl⟩
abbrev main_v2483 : Ref sig .tc := ⟨.hbm, 3157, rfl⟩
abbrev main_v2484 : Ref sig .tc := ⟨.hbm, 3158, rfl⟩
abbrev main_v2485 : Ref sig .tc := ⟨.hbm, 3159, rfl⟩
abbrev main_v2486 : Ref sig .tc := ⟨.hbm, 3160, rfl⟩
abbrev main_v2487 : Ref sig .tc := ⟨.hbm, 3161, rfl⟩
abbrev main_v2488 : Ref sig .tc := ⟨.hbm, 3162, rfl⟩
abbrev main_v2489 : Ref sig .tc := ⟨.hbm, 3163, rfl⟩
abbrev main_c_422 : Ref sig .tc := ⟨.hbm, 3164, rfl⟩
abbrev main_call68_v0 : Ref sig .tc := ⟨.hbm, 3165, rfl⟩
abbrev main_call68_v1 : Ref sig .tc := ⟨.hbm, 3166, rfl⟩
abbrev main_v2490 : Ref sig .tc := ⟨.hbm, 3167, rfl⟩
abbrev main_v2491 : Ref sig .tc := ⟨.hbm, 3168, rfl⟩
abbrev main_v2492 : Ref sig .tc := ⟨.hbm, 3169, rfl⟩
abbrev main_v2493 : Ref sig .tc := ⟨.hbm, 3170, rfl⟩
abbrev main_v2494 : Ref sig .tc := ⟨.hbm, 3171, rfl⟩
abbrev main_v2495 : Ref sig .tc := ⟨.hbm, 3172, rfl⟩
abbrev main_v2496 : Ref sig .tc := ⟨.hbm, 3173, rfl⟩
abbrev main_v2497 : Ref sig .tc := ⟨.hbm, 3174, rfl⟩
abbrev main_v2498 : Ref sig .tc := ⟨.hbm, 3175, rfl⟩
abbrev main_v2499 : Ref sig .tc := ⟨.hbm, 3176, rfl⟩
abbrev main_cst_423 : Ref sig .tc := ⟨.hbm, 3177, rfl⟩
abbrev main_v2500 : Ref sig .tc := ⟨.hbm, 3178, rfl⟩
abbrev main_c_424 : Ref sig .tc := ⟨.hbm, 3179, rfl⟩
abbrev main_v2501 : Ref sig .tc := ⟨.hbm, 3180, rfl⟩
abbrev main_v2502 : Ref sig .tc := ⟨.hbm, 3181, rfl⟩
abbrev main_c_425 : Ref sig .tc := ⟨.hbm, 3182, rfl⟩
abbrev main_v2503 : Ref sig .tc := ⟨.hbm, 3183, rfl⟩
abbrev main_v2504 : Ref sig .tc := ⟨.hbm, 3184, rfl⟩
abbrev main_v2505 : Ref sig .tc := ⟨.hbm, 3185, rfl⟩
abbrev main_c_426 : Ref sig .tc := ⟨.hbm, 3186, rfl⟩
abbrev main_v2506 : Ref sig .tc := ⟨.hbm, 3187, rfl⟩
abbrev main_v2507 : Ref sig .tc := ⟨.hbm, 3188, rfl⟩
abbrev main_c_427 : Ref sig .tc := ⟨.hbm, 3189, rfl⟩
abbrev main_v2508 : Ref sig .tc := ⟨.hbm, 3190, rfl⟩
abbrev main_v2509 : Ref sig .tc := ⟨.hbm, 3191, rfl⟩
abbrev main_v2510 : Ref sig .tc := ⟨.hbm, 3192, rfl⟩
abbrev main_v2511 : Ref sig .tc := ⟨.hbm, 3193, rfl⟩
abbrev main_v2512 : Ref sig .tc := ⟨.hbm, 3194, rfl⟩
abbrev main_v2513 : Ref sig .tc := ⟨.hbm, 3195, rfl⟩
abbrev main_v2514 : Ref sig .tc := ⟨.hbm, 3196, rfl⟩
abbrev main_v2515 : Ref sig .tc := ⟨.hbm, 3197, rfl⟩
abbrev main_v2516 : Ref sig .tc := ⟨.hbm, 3198, rfl⟩
abbrev main_v2517 : Ref sig .tc := ⟨.hbm, 3199, rfl⟩
abbrev main_v2518 : Ref sig .tc := ⟨.hbm, 3200, rfl⟩
abbrev main_v2519 : Ref sig .tc := ⟨.hbm, 3201, rfl⟩
abbrev main_v2520 : Ref sig .tc := ⟨.hbm, 3202, rfl⟩
abbrev main_v2521 : Ref sig .tc := ⟨.hbm, 3203, rfl⟩
abbrev main_v2522 : Ref sig .tc := ⟨.hbm, 3204, rfl⟩
abbrev main_v2523 : Ref sig .tc := ⟨.hbm, 3205, rfl⟩
abbrev main_v2524 : Ref sig .tc := ⟨.hbm, 3206, rfl⟩
abbrev main_v2525 : Ref sig .tc := ⟨.hbm, 3207, rfl⟩
abbrev main_v2526 : Ref sig .tc := ⟨.hbm, 3208, rfl⟩
abbrev main_v2527 : Ref sig .tc := ⟨.hbm, 3209, rfl⟩
abbrev main_v2528 : Ref sig .tc := ⟨.hbm, 3210, rfl⟩
abbrev main_v2529 : Ref sig .tc := ⟨.hbm, 3211, rfl⟩
abbrev main_v2530 : Ref sig .tc := ⟨.hbm, 3212, rfl⟩
abbrev main_v2531 : Ref sig .tc := ⟨.hbm, 3213, rfl⟩
abbrev main_v2532 : Ref sig .tc := ⟨.hbm, 3214, rfl⟩
abbrev main_v2533 : Ref sig .tc := ⟨.hbm, 3215, rfl⟩
abbrev main_v2534 : Ref sig .tc := ⟨.hbm, 3216, rfl⟩
abbrev main_v2535 : Ref sig .tc := ⟨.hbm, 3217, rfl⟩
abbrev main_v2536 : Ref sig .tc := ⟨.hbm, 3218, rfl⟩
abbrev main_v2537 : Ref sig .tc := ⟨.hbm, 3219, rfl⟩
abbrev main_v2538 : Ref sig .tc := ⟨.hbm, 3220, rfl⟩
abbrev main_v2539 : Ref sig .tc := ⟨.hbm, 3221, rfl⟩
abbrev main_v2540 : Ref sig .tc := ⟨.hbm, 3222, rfl⟩
abbrev main_v2541 : Ref sig .tc := ⟨.hbm, 3223, rfl⟩
abbrev main_v2542 : Ref sig .tc := ⟨.hbm, 3224, rfl⟩
abbrev main_v2543 : Ref sig .tc := ⟨.hbm, 3225, rfl⟩
abbrev main_v2544 : Ref sig .tc := ⟨.hbm, 3226, rfl⟩
abbrev main_v2545 : Ref sig .tc := ⟨.hbm, 3227, rfl⟩
abbrev main_cst_428 : Ref sig .tc := ⟨.hbm, 3228, rfl⟩
abbrev main_v2546 : Ref sig .tc := ⟨.hbm, 3229, rfl⟩
abbrev main_v2547 : Ref sig .tc := ⟨.hbm, 3230, rfl⟩
abbrev main_cst_429 : Ref sig .tc := ⟨.hbm, 3231, rfl⟩
abbrev main_v2548 : Ref sig .tc := ⟨.hbm, 3232, rfl⟩
abbrev main_v2549 : Ref sig .tc := ⟨.hbm, 3233, rfl⟩
abbrev main_v2550 : Ref sig .tc := ⟨.hbm, 3234, rfl⟩
abbrev main_v2551 : Ref sig .tc := ⟨.hbm, 3235, rfl⟩
abbrev main_cst_430 : Ref sig .tc := ⟨.hbm, 3236, rfl⟩
abbrev main_v2552 : Ref sig .tc := ⟨.hbm, 3237, rfl⟩
abbrev main_v2553 : Ref sig .tc := ⟨.hbm, 3238, rfl⟩
abbrev main_cst_431 : Ref sig .tc := ⟨.hbm, 3239, rfl⟩
abbrev main_v2554 : Ref sig .tc := ⟨.hbm, 3240, rfl⟩
abbrev main_v2555 : Ref sig .tc := ⟨.hbm, 3241, rfl⟩
abbrev main_v2556 : Ref sig .tc := ⟨.hbm, 3242, rfl⟩
abbrev main_v2557 : Ref sig .tc := ⟨.hbm, 3243, rfl⟩
abbrev main_v2558 : Ref sig .tc := ⟨.hbm, 3244, rfl⟩
abbrev main_cst_432 : Ref sig .tc := ⟨.hbm, 3245, rfl⟩
abbrev main_v2559 : Ref sig .tc := ⟨.hbm, 3246, rfl⟩
abbrev main_v2560 : Ref sig .tc := ⟨.hbm, 3247, rfl⟩
abbrev main_cst_433 : Ref sig .tc := ⟨.hbm, 3248, rfl⟩
abbrev main_v2561 : Ref sig .tc := ⟨.hbm, 3249, rfl⟩
abbrev main_v2562 : Ref sig .tc := ⟨.hbm, 3250, rfl⟩
abbrev main_v2563 : Ref sig .tc := ⟨.hbm, 3251, rfl⟩
abbrev main_v2564 : Ref sig .tc := ⟨.hbm, 3252, rfl⟩
abbrev main_v2565 : Ref sig .tc := ⟨.hbm, 3253, rfl⟩
abbrev main_v2566 : Ref sig .tc := ⟨.hbm, 3254, rfl⟩
abbrev main_v2567 : Ref sig .tc := ⟨.hbm, 3255, rfl⟩
abbrev main_v2568 : Ref sig .tc := ⟨.hbm, 3256, rfl⟩
abbrev main_v2569 : Ref sig .tc := ⟨.hbm, 3257, rfl⟩
abbrev main_v2570 : Ref sig .tc := ⟨.hbm, 3258, rfl⟩
abbrev main_v2571 : Ref sig .tc := ⟨.hbm, 3259, rfl⟩
abbrev main_v2572 : Ref sig .tc := ⟨.hbm, 3260, rfl⟩
abbrev main_v2573 : Ref sig .tc := ⟨.hbm, 3261, rfl⟩
abbrev main_v2574 : Ref sig .tc := ⟨.hbm, 3262, rfl⟩
abbrev main_v2575 : Ref sig .tc := ⟨.hbm, 3263, rfl⟩
abbrev main_cst_434 : Ref sig .tc := ⟨.hbm, 3264, rfl⟩
abbrev main_v2576 : Ref sig .tc := ⟨.hbm, 3265, rfl⟩
abbrev main_v2577 : Ref sig .tc := ⟨.hbm, 3266, rfl⟩
abbrev main_v2578 : Ref sig .tc := ⟨.hbm, 3267, rfl⟩
abbrev main_v2579 : Ref sig .tc := ⟨.hbm, 3268, rfl⟩
abbrev main_v2580 : Ref sig .tc := ⟨.hbm, 3269, rfl⟩
abbrev main_v2581 : Ref sig .tc := ⟨.hbm, 3270, rfl⟩
abbrev main_v2582 : Ref sig .tc := ⟨.hbm, 3271, rfl⟩
abbrev main_v2583 : Ref sig .tc := ⟨.hbm, 3272, rfl⟩
abbrev main_v2584 : Ref sig .tc := ⟨.hbm, 3273, rfl⟩
abbrev main_v2585 : Ref sig .tc := ⟨.hbm, 3274, rfl⟩
abbrev main_v2586 : Ref sig .tc := ⟨.hbm, 3275, rfl⟩
abbrev main_v2587 : Ref sig .tc := ⟨.hbm, 3276, rfl⟩
abbrev main_v2588 : Ref sig .tc := ⟨.hbm, 3277, rfl⟩
abbrev main_call69_cst : Ref sig .tc := ⟨.hbm, 3278, rfl⟩
abbrev main_call69_v0 : Ref sig .tc := ⟨.hbm, 3279, rfl⟩
abbrev main_v2589 : Ref sig .tc := ⟨.hbm, 3280, rfl⟩
abbrev main_v2590 : Ref sig .tc := ⟨.hbm, 3281, rfl⟩
abbrev main_v2591 : Ref sig .tc := ⟨.hbm, 3282, rfl⟩
abbrev main_v2592 : Ref sig .tc := ⟨.hbm, 3283, rfl⟩
abbrev main_v2593 : Ref sig .tc := ⟨.hbm, 3284, rfl⟩
abbrev main_v2594 : Ref sig .tc := ⟨.hbm, 3285, rfl⟩
abbrev main_v2595 : Ref sig .tc := ⟨.hbm, 3286, rfl⟩
abbrev main_v2596 : Ref sig .tc := ⟨.hbm, 3287, rfl⟩
abbrev main_v2597 : Ref sig .tc := ⟨.hbm, 3288, rfl⟩
abbrev main_v2598 : Ref sig .tc := ⟨.hbm, 3289, rfl⟩
abbrev main_cst_435 : Ref sig .tc := ⟨.hbm, 3290, rfl⟩
abbrev main_v2599 : Ref sig .tc := ⟨.hbm, 3291, rfl⟩
abbrev main_v2600 : Ref sig .tc := ⟨.hbm, 3292, rfl⟩
abbrev main_cst_436 : Ref sig .tc := ⟨.hbm, 3293, rfl⟩
abbrev main_v2601 : Ref sig .tc := ⟨.hbm, 3294, rfl⟩
abbrev main_v2602 : Ref sig .tc := ⟨.hbm, 3295, rfl⟩
abbrev main_v2603 : Ref sig .tc := ⟨.hbm, 3296, rfl⟩
abbrev main_v2604 : Ref sig .tc := ⟨.hbm, 3297, rfl⟩
abbrev main_c_437 : Ref sig .tc := ⟨.hbm, 3298, rfl⟩
abbrev main_c_438 : Ref sig .tc := ⟨.hbm, 3299, rfl⟩
abbrev main_call70_v0 : Ref sig .tc := ⟨.hbm, 3300, rfl⟩
abbrev main_call70_v1 : Ref sig .tc := ⟨.hbm, 3301, rfl⟩
abbrev main_call70_v2 : Ref sig .tc := ⟨.hbm, 3302, rfl⟩
abbrev main_call70_v3 : Ref sig .tc := ⟨.hbm, 3303, rfl⟩
abbrev main_call70_v4 : Ref sig .tc := ⟨.hbm, 3304, rfl⟩
abbrev main_v2605 : Ref sig .tc := ⟨.hbm, 3305, rfl⟩
abbrev main_cst_439 : Ref sig .tc := ⟨.hbm, 3306, rfl⟩
abbrev main_v2606 : Ref sig .tc := ⟨.hbm, 3307, rfl⟩
abbrev main_v2607 : Ref sig .tc := ⟨.hbm, 3308, rfl⟩
abbrev main_cst_440 : Ref sig .tc := ⟨.hbm, 3309, rfl⟩
abbrev main_v2608 : Ref sig .tc := ⟨.hbm, 3310, rfl⟩
abbrev main_v2609 : Ref sig .tc := ⟨.hbm, 3311, rfl⟩
abbrev main_v2610 : Ref sig .tc := ⟨.hbm, 3312, rfl⟩
abbrev main_v2611 : Ref sig .tc := ⟨.hbm, 3313, rfl⟩
abbrev main_c_441 : Ref sig .tc := ⟨.hbm, 3314, rfl⟩
abbrev main_c_442 : Ref sig .tc := ⟨.hbm, 3315, rfl⟩
abbrev main_call71_v0 : Ref sig .tc := ⟨.hbm, 3316, rfl⟩
abbrev main_call71_v1 : Ref sig .tc := ⟨.hbm, 3317, rfl⟩
abbrev main_call71_v2 : Ref sig .tc := ⟨.hbm, 3318, rfl⟩
abbrev main_call71_v3 : Ref sig .tc := ⟨.hbm, 3319, rfl⟩
abbrev main_call71_v4 : Ref sig .tc := ⟨.hbm, 3320, rfl⟩
abbrev main_v2612 : Ref sig .tc := ⟨.hbm, 3321, rfl⟩
abbrev main_c_443 : Ref sig .tc := ⟨.hbm, 3322, rfl⟩
abbrev main_v2613 : Ref sig .tc := ⟨.hbm, 3323, rfl⟩
abbrev main_v2614 : Ref sig .tc := ⟨.hbm, 3324, rfl⟩
abbrev main_v2615 : Ref sig .tc := ⟨.hbm, 3325, rfl⟩
abbrev main_v2616 : Ref sig .tc := ⟨.hbm, 3326, rfl⟩
abbrev main_v2617 : Ref sig .tc := ⟨.hbm, 3327, rfl⟩
abbrev main_c_444 : Ref sig .tc := ⟨.hbm, 3328, rfl⟩
abbrev main_v2618 : Ref sig .tc := ⟨.hbm, 3329, rfl⟩
abbrev main_v2619 : Ref sig .tc := ⟨.hbm, 3330, rfl⟩
abbrev main_v2620 : Ref sig .tc := ⟨.hbm, 3331, rfl⟩
abbrev main_v2621 : Ref sig .tc := ⟨.hbm, 3332, rfl⟩
abbrev main_c_445 : Ref sig .tc := ⟨.hbm, 3333, rfl⟩
abbrev main_v2622 : Ref sig .tc := ⟨.hbm, 3334, rfl⟩
abbrev main_v2623 : Ref sig .tc := ⟨.hbm, 3335, rfl⟩
abbrev main_v2624 : Ref sig .tc := ⟨.hbm, 3336, rfl⟩
abbrev main_v2625 : Ref sig .tc := ⟨.hbm, 3337, rfl⟩
abbrev main_v2626 : Ref sig .tc := ⟨.hbm, 3338, rfl⟩
abbrev main_v2627 : Ref sig .tc := ⟨.hbm, 3339, rfl⟩
abbrev main_v2628 : Ref sig .tc := ⟨.hbm, 3340, rfl⟩
abbrev main_v2629 : Ref sig .tc := ⟨.hbm, 3341, rfl⟩
abbrev main_v2630 : Ref sig .tc := ⟨.hbm, 3342, rfl⟩
abbrev main_cst_446 : Ref sig .tc := ⟨.hbm, 3343, rfl⟩
abbrev main_v2631 : Ref sig .tc := ⟨.hbm, 3344, rfl⟩
abbrev main_v2632 : Ref sig .tc := ⟨.hbm, 3345, rfl⟩
abbrev main_v2633 : Ref sig .tc := ⟨.hbm, 3346, rfl⟩
abbrev main_v2634 : Ref sig .tc := ⟨.hbm, 3347, rfl⟩
abbrev main_cst_447 : Ref sig .tc := ⟨.hbm, 3348, rfl⟩
abbrev main_v2635 : Ref sig .tc := ⟨.hbm, 3349, rfl⟩
abbrev main_v2636 : Ref sig .tc := ⟨.hbm, 3350, rfl⟩
abbrev main_v2637 : Ref sig .tc := ⟨.hbm, 3351, rfl⟩
abbrev main_v2638 : Ref sig .tc := ⟨.hbm, 3352, rfl⟩
abbrev main_v2639 : Ref sig .tc := ⟨.hbm, 3353, rfl⟩
abbrev main_v2640 : Ref sig .tc := ⟨.hbm, 3354, rfl⟩
abbrev main_v2641 : Ref sig .tc := ⟨.hbm, 3355, rfl⟩
abbrev main_v2642 : Ref sig .tc := ⟨.hbm, 3356, rfl⟩
abbrev main_v2643 : Ref sig .tc := ⟨.hbm, 3357, rfl⟩
abbrev main_v2644 : Ref sig .tc := ⟨.hbm, 3358, rfl⟩
abbrev main_v2645 : Ref sig .tc := ⟨.hbm, 3359, rfl⟩
abbrev main_v2646 : Ref sig .tc := ⟨.hbm, 3360, rfl⟩
abbrev main_v2647 : Ref sig .tc := ⟨.hbm, 3361, rfl⟩
abbrev main_c_448 : Ref sig .tc := ⟨.hbm, 3362, rfl⟩
abbrev main_call72_v0 : Ref sig .tc := ⟨.hbm, 3363, rfl⟩
abbrev main_call72_v1 : Ref sig .tc := ⟨.hbm, 3364, rfl⟩
abbrev main_v2648 : Ref sig .tc := ⟨.hbm, 3365, rfl⟩
abbrev main_v2649 : Ref sig .tc := ⟨.hbm, 3366, rfl⟩
abbrev main_v2650 : Ref sig .tc := ⟨.hbm, 3367, rfl⟩
abbrev main_v2651 : Ref sig .tc := ⟨.hbm, 3368, rfl⟩
abbrev main_v2652 : Ref sig .tc := ⟨.hbm, 3369, rfl⟩
abbrev main_v2653 : Ref sig .tc := ⟨.hbm, 3370, rfl⟩
abbrev main_v2654 : Ref sig .tc := ⟨.hbm, 3371, rfl⟩
abbrev main_v2655 : Ref sig .tc := ⟨.hbm, 3372, rfl⟩
abbrev main_v2656 : Ref sig .tc := ⟨.hbm, 3373, rfl⟩
abbrev main_v2657 : Ref sig .tc := ⟨.hbm, 3374, rfl⟩
abbrev main_cst_449 : Ref sig .tc := ⟨.hbm, 3375, rfl⟩
abbrev main_v2658 : Ref sig .tc := ⟨.hbm, 3376, rfl⟩
abbrev main_c_450 : Ref sig .tc := ⟨.hbm, 3377, rfl⟩
abbrev main_v2659 : Ref sig .tc := ⟨.hbm, 3378, rfl⟩
abbrev main_v2660 : Ref sig .tc := ⟨.hbm, 3379, rfl⟩
abbrev main_c_451 : Ref sig .tc := ⟨.hbm, 3380, rfl⟩
abbrev main_v2661 : Ref sig .tc := ⟨.hbm, 3381, rfl⟩
abbrev main_v2662 : Ref sig .tc := ⟨.hbm, 3382, rfl⟩
abbrev main_v2663 : Ref sig .tc := ⟨.hbm, 3383, rfl⟩
abbrev main_c_452 : Ref sig .tc := ⟨.hbm, 3384, rfl⟩
abbrev main_v2664 : Ref sig .tc := ⟨.hbm, 3385, rfl⟩
abbrev main_v2665 : Ref sig .tc := ⟨.hbm, 3386, rfl⟩
abbrev main_c_453 : Ref sig .tc := ⟨.hbm, 3387, rfl⟩
abbrev main_v2666 : Ref sig .tc := ⟨.hbm, 3388, rfl⟩
abbrev main_v2667 : Ref sig .tc := ⟨.hbm, 3389, rfl⟩
abbrev main_v2668 : Ref sig .tc := ⟨.hbm, 3390, rfl⟩
abbrev main_v2669 : Ref sig .tc := ⟨.hbm, 3391, rfl⟩
abbrev main_v2670 : Ref sig .tc := ⟨.hbm, 3392, rfl⟩
abbrev main_v2671 : Ref sig .tc := ⟨.hbm, 3393, rfl⟩
abbrev main_v2672 : Ref sig .tc := ⟨.hbm, 3394, rfl⟩
abbrev main_v2673 : Ref sig .tc := ⟨.hbm, 3395, rfl⟩
abbrev main_v2674 : Ref sig .tc := ⟨.hbm, 3396, rfl⟩
abbrev main_v2675 : Ref sig .tc := ⟨.hbm, 3397, rfl⟩
abbrev main_v2676 : Ref sig .tc := ⟨.hbm, 3398, rfl⟩
abbrev main_v2677 : Ref sig .tc := ⟨.hbm, 3399, rfl⟩
abbrev main_v2678 : Ref sig .tc := ⟨.hbm, 3400, rfl⟩
abbrev main_v2679 : Ref sig .tc := ⟨.hbm, 3401, rfl⟩
abbrev main_v2680 : Ref sig .tc := ⟨.hbm, 3402, rfl⟩
abbrev main_v2681 : Ref sig .tc := ⟨.hbm, 3403, rfl⟩
abbrev main_v2682 : Ref sig .tc := ⟨.hbm, 3404, rfl⟩
abbrev main_v2683 : Ref sig .tc := ⟨.hbm, 3405, rfl⟩
abbrev main_v2684 : Ref sig .tc := ⟨.hbm, 3406, rfl⟩
abbrev main_v2685 : Ref sig .tc := ⟨.hbm, 3407, rfl⟩
abbrev main_v2686 : Ref sig .tc := ⟨.hbm, 3408, rfl⟩
abbrev main_v2687 : Ref sig .tc := ⟨.hbm, 3409, rfl⟩
abbrev main_v2688 : Ref sig .tc := ⟨.hbm, 3410, rfl⟩
abbrev main_v2689 : Ref sig .tc := ⟨.hbm, 3411, rfl⟩
abbrev main_v2690 : Ref sig .tc := ⟨.hbm, 3412, rfl⟩
abbrev main_v2691 : Ref sig .tc := ⟨.hbm, 3413, rfl⟩
abbrev main_v2692 : Ref sig .tc := ⟨.hbm, 3414, rfl⟩
abbrev main_v2693 : Ref sig .tc := ⟨.hbm, 3415, rfl⟩
abbrev main_v2694 : Ref sig .tc := ⟨.hbm, 3416, rfl⟩
abbrev main_v2695 : Ref sig .tc := ⟨.hbm, 3417, rfl⟩
abbrev main_v2696 : Ref sig .tc := ⟨.hbm, 3418, rfl⟩
abbrev main_v2697 : Ref sig .tc := ⟨.hbm, 3419, rfl⟩
abbrev main_v2698 : Ref sig .tc := ⟨.hbm, 3420, rfl⟩
abbrev main_v2699 : Ref sig .tc := ⟨.hbm, 3421, rfl⟩
abbrev main_v2700 : Ref sig .tc := ⟨.hbm, 3422, rfl⟩
abbrev main_v2701 : Ref sig .tc := ⟨.hbm, 3423, rfl⟩
abbrev main_v2702 : Ref sig .tc := ⟨.hbm, 3424, rfl⟩
abbrev main_v2703 : Ref sig .tc := ⟨.hbm, 3425, rfl⟩
abbrev main_cst_454 : Ref sig .tc := ⟨.hbm, 3426, rfl⟩
abbrev main_v2704 : Ref sig .tc := ⟨.hbm, 3427, rfl⟩
abbrev main_v2705 : Ref sig .tc := ⟨.hbm, 3428, rfl⟩
abbrev main_cst_455 : Ref sig .tc := ⟨.hbm, 3429, rfl⟩
abbrev main_v2706 : Ref sig .tc := ⟨.hbm, 3430, rfl⟩
abbrev main_v2707 : Ref sig .tc := ⟨.hbm, 3431, rfl⟩
abbrev main_v2708 : Ref sig .tc := ⟨.hbm, 3432, rfl⟩
abbrev main_v2709 : Ref sig .tc := ⟨.hbm, 3433, rfl⟩
abbrev main_cst_456 : Ref sig .tc := ⟨.hbm, 3434, rfl⟩
abbrev main_v2710 : Ref sig .tc := ⟨.hbm, 3435, rfl⟩
abbrev main_v2711 : Ref sig .tc := ⟨.hbm, 3436, rfl⟩
abbrev main_cst_457 : Ref sig .tc := ⟨.hbm, 3437, rfl⟩
abbrev main_v2712 : Ref sig .tc := ⟨.hbm, 3438, rfl⟩
abbrev main_v2713 : Ref sig .tc := ⟨.hbm, 3439, rfl⟩
abbrev main_v2714 : Ref sig .tc := ⟨.hbm, 3440, rfl⟩
abbrev main_v2715 : Ref sig .tc := ⟨.hbm, 3441, rfl⟩
abbrev main_v2716 : Ref sig .tc := ⟨.hbm, 3442, rfl⟩
abbrev main_cst_458 : Ref sig .tc := ⟨.hbm, 3443, rfl⟩
abbrev main_v2717 : Ref sig .tc := ⟨.hbm, 3444, rfl⟩
abbrev main_v2718 : Ref sig .tc := ⟨.hbm, 3445, rfl⟩
abbrev main_cst_459 : Ref sig .tc := ⟨.hbm, 3446, rfl⟩
abbrev main_v2719 : Ref sig .tc := ⟨.hbm, 3447, rfl⟩
abbrev main_v2720 : Ref sig .tc := ⟨.hbm, 3448, rfl⟩
abbrev main_v2721 : Ref sig .tc := ⟨.hbm, 3449, rfl⟩
abbrev main_v2722 : Ref sig .tc := ⟨.hbm, 3450, rfl⟩
abbrev main_v2723 : Ref sig .tc := ⟨.hbm, 3451, rfl⟩
abbrev main_v2724 : Ref sig .tc := ⟨.hbm, 3452, rfl⟩
abbrev main_v2725 : Ref sig .tc := ⟨.hbm, 3453, rfl⟩
abbrev main_v2726 : Ref sig .tc := ⟨.hbm, 3454, rfl⟩
abbrev main_v2727 : Ref sig .tc := ⟨.hbm, 3455, rfl⟩
abbrev main_v2728 : Ref sig .tc := ⟨.hbm, 3456, rfl⟩
abbrev main_v2729 : Ref sig .tc := ⟨.hbm, 3457, rfl⟩
abbrev main_v2730 : Ref sig .tc := ⟨.hbm, 3458, rfl⟩
abbrev main_v2731 : Ref sig .tc := ⟨.hbm, 3459, rfl⟩
abbrev main_v2732 : Ref sig .tc := ⟨.hbm, 3460, rfl⟩
abbrev main_v2733 : Ref sig .tc := ⟨.hbm, 3461, rfl⟩
abbrev main_cst_460 : Ref sig .tc := ⟨.hbm, 3462, rfl⟩
abbrev main_v2734 : Ref sig .tc := ⟨.hbm, 3463, rfl⟩
abbrev main_v2735 : Ref sig .tc := ⟨.hbm, 3464, rfl⟩
abbrev main_v2736 : Ref sig .tc := ⟨.hbm, 3465, rfl⟩
abbrev main_v2737 : Ref sig .tc := ⟨.hbm, 3466, rfl⟩
abbrev main_v2738 : Ref sig .tc := ⟨.hbm, 3467, rfl⟩
abbrev main_v2739 : Ref sig .tc := ⟨.hbm, 3468, rfl⟩
abbrev main_v2740 : Ref sig .tc := ⟨.hbm, 3469, rfl⟩
abbrev main_v2741 : Ref sig .tc := ⟨.hbm, 3470, rfl⟩
abbrev main_v2742 : Ref sig .tc := ⟨.hbm, 3471, rfl⟩
abbrev main_v2743 : Ref sig .tc := ⟨.hbm, 3472, rfl⟩
abbrev main_v2744 : Ref sig .tc := ⟨.hbm, 3473, rfl⟩
abbrev main_v2745 : Ref sig .tc := ⟨.hbm, 3474, rfl⟩
abbrev main_v2746 : Ref sig .tc := ⟨.hbm, 3475, rfl⟩
abbrev main_call73_cst : Ref sig .tc := ⟨.hbm, 3476, rfl⟩
abbrev main_call73_v0 : Ref sig .tc := ⟨.hbm, 3477, rfl⟩
abbrev main_v2747 : Ref sig .tc := ⟨.hbm, 3478, rfl⟩
abbrev main_v2748 : Ref sig .tc := ⟨.hbm, 3479, rfl⟩
abbrev main_v2749 : Ref sig .tc := ⟨.hbm, 3480, rfl⟩
abbrev main_v2750 : Ref sig .tc := ⟨.hbm, 3481, rfl⟩
abbrev main_v2751 : Ref sig .tc := ⟨.hbm, 3482, rfl⟩
abbrev main_v2752 : Ref sig .tc := ⟨.hbm, 3483, rfl⟩
abbrev main_v2753 : Ref sig .tc := ⟨.hbm, 3484, rfl⟩
abbrev main_v2754 : Ref sig .tc := ⟨.hbm, 3485, rfl⟩
abbrev main_v2755 : Ref sig .tc := ⟨.hbm, 3486, rfl⟩
abbrev main_v2756 : Ref sig .tc := ⟨.hbm, 3487, rfl⟩
abbrev main_cst_461 : Ref sig .tc := ⟨.hbm, 3488, rfl⟩
abbrev main_v2757 : Ref sig .tc := ⟨.hbm, 3489, rfl⟩
abbrev main_v2758 : Ref sig .tc := ⟨.hbm, 3490, rfl⟩
abbrev main_cst_462 : Ref sig .tc := ⟨.hbm, 3491, rfl⟩
abbrev main_v2759 : Ref sig .tc := ⟨.hbm, 3492, rfl⟩
abbrev main_v2760 : Ref sig .tc := ⟨.hbm, 3493, rfl⟩
abbrev main_v2761 : Ref sig .tc := ⟨.hbm, 3494, rfl⟩
abbrev main_v2762 : Ref sig .tc := ⟨.hbm, 3495, rfl⟩
abbrev main_c_463 : Ref sig .tc := ⟨.hbm, 3496, rfl⟩
abbrev main_c_464 : Ref sig .tc := ⟨.hbm, 3497, rfl⟩
abbrev main_call74_v0 : Ref sig .tc := ⟨.hbm, 3498, rfl⟩
abbrev main_call74_v1 : Ref sig .tc := ⟨.hbm, 3499, rfl⟩
abbrev main_call74_v2 : Ref sig .tc := ⟨.hbm, 3500, rfl⟩
abbrev main_call74_v3 : Ref sig .tc := ⟨.hbm, 3501, rfl⟩
abbrev main_call74_v4 : Ref sig .tc := ⟨.hbm, 3502, rfl⟩
abbrev main_v2763 : Ref sig .tc := ⟨.hbm, 3503, rfl⟩
abbrev main_cst_465 : Ref sig .tc := ⟨.hbm, 3504, rfl⟩
abbrev main_v2764 : Ref sig .tc := ⟨.hbm, 3505, rfl⟩
abbrev main_v2765 : Ref sig .tc := ⟨.hbm, 3506, rfl⟩
abbrev main_cst_466 : Ref sig .tc := ⟨.hbm, 3507, rfl⟩
abbrev main_v2766 : Ref sig .tc := ⟨.hbm, 3508, rfl⟩
abbrev main_v2767 : Ref sig .tc := ⟨.hbm, 3509, rfl⟩
abbrev main_v2768 : Ref sig .tc := ⟨.hbm, 3510, rfl⟩
abbrev main_v2769 : Ref sig .tc := ⟨.hbm, 3511, rfl⟩
abbrev main_c_467 : Ref sig .tc := ⟨.hbm, 3512, rfl⟩
abbrev main_c_468 : Ref sig .tc := ⟨.hbm, 3513, rfl⟩
abbrev main_call75_v0 : Ref sig .tc := ⟨.hbm, 3514, rfl⟩
abbrev main_call75_v1 : Ref sig .tc := ⟨.hbm, 3515, rfl⟩
abbrev main_call75_v2 : Ref sig .tc := ⟨.hbm, 3516, rfl⟩
abbrev main_call75_v3 : Ref sig .tc := ⟨.hbm, 3517, rfl⟩
abbrev main_call75_v4 : Ref sig .tc := ⟨.hbm, 3518, rfl⟩
abbrev main_v2770 : Ref sig .tc := ⟨.hbm, 3519, rfl⟩
abbrev main_c_469 : Ref sig .tc := ⟨.hbm, 3520, rfl⟩
abbrev main_v2771 : Ref sig .tc := ⟨.hbm, 3521, rfl⟩
abbrev main_v2772 : Ref sig .tc := ⟨.hbm, 3522, rfl⟩
abbrev main_v2773 : Ref sig .tc := ⟨.hbm, 3523, rfl⟩
abbrev main_v2774 : Ref sig .tc := ⟨.hbm, 3524, rfl⟩
abbrev main_v2775 : Ref sig .tc := ⟨.hbm, 3525, rfl⟩
abbrev main_c_470 : Ref sig .tc := ⟨.hbm, 3526, rfl⟩
abbrev main_v2776 : Ref sig .tc := ⟨.hbm, 3527, rfl⟩
abbrev main_v2777 : Ref sig .tc := ⟨.hbm, 3528, rfl⟩
abbrev main_v2778 : Ref sig .tc := ⟨.hbm, 3529, rfl⟩
abbrev main_v2779 : Ref sig .tc := ⟨.hbm, 3530, rfl⟩
abbrev main_c_471 : Ref sig .tc := ⟨.hbm, 3531, rfl⟩
abbrev main_v2780 : Ref sig .tc := ⟨.hbm, 3532, rfl⟩
abbrev main_v2781 : Ref sig .tc := ⟨.hbm, 3533, rfl⟩
abbrev main_v2782 : Ref sig .tc := ⟨.hbm, 3534, rfl⟩
abbrev main_v2783 : Ref sig .tc := ⟨.hbm, 3535, rfl⟩
abbrev main_v2784 : Ref sig .tc := ⟨.hbm, 3536, rfl⟩
abbrev main_v2785 : Ref sig .tc := ⟨.hbm, 3537, rfl⟩
abbrev main_v2786 : Ref sig .tc := ⟨.hbm, 3538, rfl⟩
abbrev main_v2787 : Ref sig .tc := ⟨.hbm, 3539, rfl⟩
abbrev main_v2788 : Ref sig .tc := ⟨.hbm, 3540, rfl⟩
abbrev main_cst_472 : Ref sig .tc := ⟨.hbm, 3541, rfl⟩
abbrev main_v2789 : Ref sig .tc := ⟨.hbm, 3542, rfl⟩
abbrev main_v2790 : Ref sig .tc := ⟨.hbm, 3543, rfl⟩
abbrev main_v2791 : Ref sig .tc := ⟨.hbm, 3544, rfl⟩
abbrev main_v2792 : Ref sig .tc := ⟨.hbm, 3545, rfl⟩
abbrev main_cst_473 : Ref sig .tc := ⟨.hbm, 3546, rfl⟩
abbrev main_v2793 : Ref sig .tc := ⟨.hbm, 3547, rfl⟩
abbrev main_v2794 : Ref sig .tc := ⟨.hbm, 3548, rfl⟩
abbrev main_v2795 : Ref sig .tc := ⟨.hbm, 3549, rfl⟩
abbrev main_v2796 : Ref sig .tc := ⟨.hbm, 3550, rfl⟩
abbrev main_v2797 : Ref sig .tc := ⟨.hbm, 3551, rfl⟩
abbrev main_v2798 : Ref sig .tc := ⟨.hbm, 3552, rfl⟩
abbrev main_v2799 : Ref sig .tc := ⟨.hbm, 3553, rfl⟩
abbrev main_v2800 : Ref sig .tc := ⟨.hbm, 3554, rfl⟩
abbrev main_v2801 : Ref sig .tc := ⟨.hbm, 3555, rfl⟩
abbrev main_v2802 : Ref sig .tc := ⟨.hbm, 3556, rfl⟩
abbrev main_v2803 : Ref sig .tc := ⟨.hbm, 3557, rfl⟩
abbrev main_v2804 : Ref sig .tc := ⟨.hbm, 3558, rfl⟩
abbrev main_v2805 : Ref sig .tc := ⟨.hbm, 3559, rfl⟩
abbrev main_c_474 : Ref sig .tc := ⟨.hbm, 3560, rfl⟩
abbrev main_call76_v0 : Ref sig .tc := ⟨.hbm, 3561, rfl⟩
abbrev main_call76_v1 : Ref sig .tc := ⟨.hbm, 3562, rfl⟩
abbrev main_v2806 : Ref sig .tc := ⟨.hbm, 3563, rfl⟩
abbrev main_v2807 : Ref sig .tc := ⟨.hbm, 3564, rfl⟩
abbrev main_v2808 : Ref sig .tc := ⟨.hbm, 3565, rfl⟩
abbrev main_v2809 : Ref sig .tc := ⟨.hbm, 3566, rfl⟩
abbrev main_v2810 : Ref sig .tc := ⟨.hbm, 3567, rfl⟩
abbrev main_v2811 : Ref sig .tc := ⟨.hbm, 3568, rfl⟩
abbrev main_v2812 : Ref sig .tc := ⟨.hbm, 3569, rfl⟩
abbrev main_v2813 : Ref sig .tc := ⟨.hbm, 3570, rfl⟩
abbrev main_v2814 : Ref sig .tc := ⟨.hbm, 3571, rfl⟩
abbrev main_v2815 : Ref sig .tc := ⟨.hbm, 3572, rfl⟩
abbrev main_cst_475 : Ref sig .tc := ⟨.hbm, 3573, rfl⟩
abbrev main_v2816 : Ref sig .tc := ⟨.hbm, 3574, rfl⟩
abbrev main_c_476 : Ref sig .tc := ⟨.hbm, 3575, rfl⟩
abbrev main_v2817 : Ref sig .tc := ⟨.hbm, 3576, rfl⟩
abbrev main_v2818 : Ref sig .tc := ⟨.hbm, 3577, rfl⟩
abbrev main_c_477 : Ref sig .tc := ⟨.hbm, 3578, rfl⟩
abbrev main_v2819 : Ref sig .tc := ⟨.hbm, 3579, rfl⟩
abbrev main_v2820 : Ref sig .tc := ⟨.hbm, 3580, rfl⟩
abbrev main_v2821 : Ref sig .tc := ⟨.hbm, 3581, rfl⟩
abbrev main_c_478 : Ref sig .tc := ⟨.hbm, 3582, rfl⟩
abbrev main_v2822 : Ref sig .tc := ⟨.hbm, 3583, rfl⟩
abbrev main_v2823 : Ref sig .tc := ⟨.hbm, 3584, rfl⟩
abbrev main_c_479 : Ref sig .tc := ⟨.hbm, 3585, rfl⟩
abbrev main_v2824 : Ref sig .tc := ⟨.hbm, 3586, rfl⟩
abbrev main_v2825 : Ref sig .tc := ⟨.hbm, 3587, rfl⟩
abbrev main_v2826 : Ref sig .tc := ⟨.hbm, 3588, rfl⟩
abbrev main_v2827 : Ref sig .tc := ⟨.hbm, 3589, rfl⟩
abbrev main_v2828 : Ref sig .tc := ⟨.hbm, 3590, rfl⟩
abbrev main_v2829 : Ref sig .tc := ⟨.hbm, 3591, rfl⟩
abbrev main_v2830 : Ref sig .tc := ⟨.hbm, 3592, rfl⟩
abbrev main_v2831 : Ref sig .tc := ⟨.hbm, 3593, rfl⟩
abbrev main_v2832 : Ref sig .tc := ⟨.hbm, 3594, rfl⟩
abbrev main_v2833 : Ref sig .tc := ⟨.hbm, 3595, rfl⟩
abbrev main_v2834 : Ref sig .tc := ⟨.hbm, 3596, rfl⟩
abbrev main_v2835 : Ref sig .tc := ⟨.hbm, 3597, rfl⟩
abbrev main_v2836 : Ref sig .tc := ⟨.hbm, 3598, rfl⟩
abbrev main_v2837 : Ref sig .tc := ⟨.hbm, 3599, rfl⟩
abbrev main_v2838 : Ref sig .tc := ⟨.hbm, 3600, rfl⟩
abbrev main_v2839 : Ref sig .tc := ⟨.hbm, 3601, rfl⟩
abbrev main_v2840 : Ref sig .tc := ⟨.hbm, 3602, rfl⟩
abbrev main_v2841 : Ref sig .tc := ⟨.hbm, 3603, rfl⟩
abbrev main_v2842 : Ref sig .tc := ⟨.hbm, 3604, rfl⟩
abbrev main_v2843 : Ref sig .tc := ⟨.hbm, 3605, rfl⟩
abbrev main_v2844 : Ref sig .tc := ⟨.hbm, 3606, rfl⟩
abbrev main_v2845 : Ref sig .tc := ⟨.hbm, 3607, rfl⟩
abbrev main_v2846 : Ref sig .tc := ⟨.hbm, 3608, rfl⟩
abbrev main_v2847 : Ref sig .tc := ⟨.hbm, 3609, rfl⟩
abbrev main_v2848 : Ref sig .tc := ⟨.hbm, 3610, rfl⟩
abbrev main_v2849 : Ref sig .tc := ⟨.hbm, 3611, rfl⟩
abbrev main_v2850 : Ref sig .tc := ⟨.hbm, 3612, rfl⟩
abbrev main_v2851 : Ref sig .tc := ⟨.hbm, 3613, rfl⟩
abbrev main_v2852 : Ref sig .tc := ⟨.hbm, 3614, rfl⟩
abbrev main_v2853 : Ref sig .tc := ⟨.hbm, 3615, rfl⟩
abbrev main_v2854 : Ref sig .tc := ⟨.hbm, 3616, rfl⟩
abbrev main_v2855 : Ref sig .tc := ⟨.hbm, 3617, rfl⟩
abbrev main_v2856 : Ref sig .tc := ⟨.hbm, 3618, rfl⟩
abbrev main_v2857 : Ref sig .tc := ⟨.hbm, 3619, rfl⟩
abbrev main_v2858 : Ref sig .tc := ⟨.hbm, 3620, rfl⟩
abbrev main_v2859 : Ref sig .tc := ⟨.hbm, 3621, rfl⟩
abbrev main_v2860 : Ref sig .tc := ⟨.hbm, 3622, rfl⟩
abbrev main_v2861 : Ref sig .tc := ⟨.hbm, 3623, rfl⟩
abbrev main_cst_480 : Ref sig .tc := ⟨.hbm, 3624, rfl⟩
abbrev main_v2862 : Ref sig .tc := ⟨.hbm, 3625, rfl⟩
abbrev main_v2863 : Ref sig .tc := ⟨.hbm, 3626, rfl⟩
abbrev main_cst_481 : Ref sig .tc := ⟨.hbm, 3627, rfl⟩
abbrev main_v2864 : Ref sig .tc := ⟨.hbm, 3628, rfl⟩
abbrev main_v2865 : Ref sig .tc := ⟨.hbm, 3629, rfl⟩
abbrev main_v2866 : Ref sig .tc := ⟨.hbm, 3630, rfl⟩
abbrev main_v2867 : Ref sig .tc := ⟨.hbm, 3631, rfl⟩
abbrev main_cst_482 : Ref sig .tc := ⟨.hbm, 3632, rfl⟩
abbrev main_v2868 : Ref sig .tc := ⟨.hbm, 3633, rfl⟩
abbrev main_v2869 : Ref sig .tc := ⟨.hbm, 3634, rfl⟩
abbrev main_cst_483 : Ref sig .tc := ⟨.hbm, 3635, rfl⟩
abbrev main_v2870 : Ref sig .tc := ⟨.hbm, 3636, rfl⟩
abbrev main_v2871 : Ref sig .tc := ⟨.hbm, 3637, rfl⟩
abbrev main_v2872 : Ref sig .tc := ⟨.hbm, 3638, rfl⟩
abbrev main_v2873 : Ref sig .tc := ⟨.hbm, 3639, rfl⟩
abbrev main_v2874 : Ref sig .tc := ⟨.hbm, 3640, rfl⟩
abbrev main_cst_484 : Ref sig .tc := ⟨.hbm, 3641, rfl⟩
abbrev main_v2875 : Ref sig .tc := ⟨.hbm, 3642, rfl⟩
abbrev main_v2876 : Ref sig .tc := ⟨.hbm, 3643, rfl⟩
abbrev main_cst_485 : Ref sig .tc := ⟨.hbm, 3644, rfl⟩
abbrev main_v2877 : Ref sig .tc := ⟨.hbm, 3645, rfl⟩
abbrev main_v2878 : Ref sig .tc := ⟨.hbm, 3646, rfl⟩
abbrev main_v2879 : Ref sig .tc := ⟨.hbm, 3647, rfl⟩
abbrev main_v2880 : Ref sig .tc := ⟨.hbm, 3648, rfl⟩
abbrev main_v2881 : Ref sig .tc := ⟨.hbm, 3649, rfl⟩
abbrev main_v2882 : Ref sig .tc := ⟨.hbm, 3650, rfl⟩
abbrev main_v2883 : Ref sig .tc := ⟨.hbm, 3651, rfl⟩
abbrev main_v2884 : Ref sig .tc := ⟨.hbm, 3652, rfl⟩
abbrev main_v2885 : Ref sig .tc := ⟨.hbm, 3653, rfl⟩
abbrev main_v2886 : Ref sig .tc := ⟨.hbm, 3654, rfl⟩
abbrev main_v2887 : Ref sig .tc := ⟨.hbm, 3655, rfl⟩
abbrev main_v2888 : Ref sig .tc := ⟨.hbm, 3656, rfl⟩
abbrev main_v2889 : Ref sig .tc := ⟨.hbm, 3657, rfl⟩
abbrev main_v2890 : Ref sig .tc := ⟨.hbm, 3658, rfl⟩
abbrev main_v2891 : Ref sig .tc := ⟨.hbm, 3659, rfl⟩
abbrev main_cst_486 : Ref sig .tc := ⟨.hbm, 3660, rfl⟩
abbrev main_v2892 : Ref sig .tc := ⟨.hbm, 3661, rfl⟩
abbrev main_v2893 : Ref sig .tc := ⟨.hbm, 3662, rfl⟩
abbrev main_v2894 : Ref sig .tc := ⟨.hbm, 3663, rfl⟩
abbrev main_v2895 : Ref sig .tc := ⟨.hbm, 3664, rfl⟩
abbrev main_v2896 : Ref sig .tc := ⟨.hbm, 3665, rfl⟩
abbrev main_v2897 : Ref sig .tc := ⟨.hbm, 3666, rfl⟩
abbrev main_v2898 : Ref sig .tc := ⟨.hbm, 3667, rfl⟩
abbrev main_v2899 : Ref sig .tc := ⟨.hbm, 3668, rfl⟩
abbrev main_v2900 : Ref sig .tc := ⟨.hbm, 3669, rfl⟩
abbrev main_v2901 : Ref sig .tc := ⟨.hbm, 3670, rfl⟩
abbrev main_v2902 : Ref sig .tc := ⟨.hbm, 3671, rfl⟩
abbrev main_v2903 : Ref sig .tc := ⟨.hbm, 3672, rfl⟩
abbrev main_v2904 : Ref sig .tc := ⟨.hbm, 3673, rfl⟩
abbrev main_call77_cst : Ref sig .tc := ⟨.hbm, 3674, rfl⟩
abbrev main_call77_v0 : Ref sig .tc := ⟨.hbm, 3675, rfl⟩
abbrev main_v2905 : Ref sig .tc := ⟨.hbm, 3676, rfl⟩
abbrev main_v2906 : Ref sig .tc := ⟨.hbm, 3677, rfl⟩
abbrev main_v2907 : Ref sig .tc := ⟨.hbm, 3678, rfl⟩
abbrev main_v2908 : Ref sig .tc := ⟨.hbm, 3679, rfl⟩
abbrev main_v2909 : Ref sig .tc := ⟨.hbm, 3680, rfl⟩
abbrev main_v2910 : Ref sig .tc := ⟨.hbm, 3681, rfl⟩
abbrev main_v2911 : Ref sig .tc := ⟨.hbm, 3682, rfl⟩
abbrev main_v2912 : Ref sig .tc := ⟨.hbm, 3683, rfl⟩
abbrev main_v2913 : Ref sig .tc := ⟨.hbm, 3684, rfl⟩
abbrev main_v2914 : Ref sig .tc := ⟨.hbm, 3685, rfl⟩
abbrev main_cst_487 : Ref sig .tc := ⟨.hbm, 3686, rfl⟩
abbrev main_v2915 : Ref sig .tc := ⟨.hbm, 3687, rfl⟩
abbrev main_v2916 : Ref sig .tc := ⟨.hbm, 3688, rfl⟩
abbrev main_cst_488 : Ref sig .tc := ⟨.hbm, 3689, rfl⟩
abbrev main_v2917 : Ref sig .tc := ⟨.hbm, 3690, rfl⟩
abbrev main_v2918 : Ref sig .tc := ⟨.hbm, 3691, rfl⟩
abbrev main_v2919 : Ref sig .tc := ⟨.hbm, 3692, rfl⟩
abbrev main_v2920 : Ref sig .tc := ⟨.hbm, 3693, rfl⟩
abbrev main_c_489 : Ref sig .tc := ⟨.hbm, 3694, rfl⟩
abbrev main_c_490 : Ref sig .tc := ⟨.hbm, 3695, rfl⟩
abbrev main_call78_v0 : Ref sig .tc := ⟨.hbm, 3696, rfl⟩
abbrev main_call78_v1 : Ref sig .tc := ⟨.hbm, 3697, rfl⟩
abbrev main_call78_v2 : Ref sig .tc := ⟨.hbm, 3698, rfl⟩
abbrev main_call78_v3 : Ref sig .tc := ⟨.hbm, 3699, rfl⟩
abbrev main_call78_v4 : Ref sig .tc := ⟨.hbm, 3700, rfl⟩
abbrev main_v2921 : Ref sig .tc := ⟨.hbm, 3701, rfl⟩
abbrev main_cst_491 : Ref sig .tc := ⟨.hbm, 3702, rfl⟩
abbrev main_v2922 : Ref sig .tc := ⟨.hbm, 3703, rfl⟩
abbrev main_v2923 : Ref sig .tc := ⟨.hbm, 3704, rfl⟩
abbrev main_cst_492 : Ref sig .tc := ⟨.hbm, 3705, rfl⟩
abbrev main_v2924 : Ref sig .tc := ⟨.hbm, 3706, rfl⟩
abbrev main_v2925 : Ref sig .tc := ⟨.hbm, 3707, rfl⟩
abbrev main_v2926 : Ref sig .tc := ⟨.hbm, 3708, rfl⟩
abbrev main_v2927 : Ref sig .tc := ⟨.hbm, 3709, rfl⟩
abbrev main_c_493 : Ref sig .tc := ⟨.hbm, 3710, rfl⟩
abbrev main_c_494 : Ref sig .tc := ⟨.hbm, 3711, rfl⟩
abbrev main_call79_v0 : Ref sig .tc := ⟨.hbm, 3712, rfl⟩
abbrev main_call79_v1 : Ref sig .tc := ⟨.hbm, 3713, rfl⟩
abbrev main_call79_v2 : Ref sig .tc := ⟨.hbm, 3714, rfl⟩
abbrev main_call79_v3 : Ref sig .tc := ⟨.hbm, 3715, rfl⟩
abbrev main_call79_v4 : Ref sig .tc := ⟨.hbm, 3716, rfl⟩
abbrev main_v2928 : Ref sig .tc := ⟨.hbm, 3717, rfl⟩
abbrev main_c_495 : Ref sig .tc := ⟨.hbm, 3718, rfl⟩
abbrev main_v2929 : Ref sig .tc := ⟨.hbm, 3719, rfl⟩
abbrev main_v2930 : Ref sig .tc := ⟨.hbm, 3720, rfl⟩
abbrev main_v2931 : Ref sig .tc := ⟨.hbm, 3721, rfl⟩
abbrev main_v2932 : Ref sig .tc := ⟨.hbm, 3722, rfl⟩
abbrev main_v2933 : Ref sig .tc := ⟨.hbm, 3723, rfl⟩
abbrev main_c_496 : Ref sig .tc := ⟨.hbm, 3724, rfl⟩
abbrev main_v2934 : Ref sig .tc := ⟨.hbm, 3725, rfl⟩
abbrev main_v2935 : Ref sig .tc := ⟨.hbm, 3726, rfl⟩
abbrev main_v2936 : Ref sig .tc := ⟨.hbm, 3727, rfl⟩
abbrev main_v2937 : Ref sig .tc := ⟨.hbm, 3728, rfl⟩
abbrev main_c_497 : Ref sig .tc := ⟨.hbm, 3729, rfl⟩
abbrev main_v2938 : Ref sig .tc := ⟨.hbm, 3730, rfl⟩
abbrev main_v2939 : Ref sig .tc := ⟨.hbm, 3731, rfl⟩
abbrev main_v2940 : Ref sig .tc := ⟨.hbm, 3732, rfl⟩
abbrev main_v2941 : Ref sig .tc := ⟨.hbm, 3733, rfl⟩
abbrev main_v2942 : Ref sig .tc := ⟨.hbm, 3734, rfl⟩
abbrev main_v2943 : Ref sig .tc := ⟨.hbm, 3735, rfl⟩
abbrev main_v2944 : Ref sig .tc := ⟨.hbm, 3736, rfl⟩
abbrev main_v2945 : Ref sig .tc := ⟨.hbm, 3737, rfl⟩
abbrev main_v2946 : Ref sig .tc := ⟨.hbm, 3738, rfl⟩
abbrev main_cst_498 : Ref sig .tc := ⟨.hbm, 3739, rfl⟩
abbrev main_v2947 : Ref sig .tc := ⟨.hbm, 3740, rfl⟩
abbrev main_v2948 : Ref sig .tc := ⟨.hbm, 3741, rfl⟩
abbrev main_v2949 : Ref sig .tc := ⟨.hbm, 3742, rfl⟩
abbrev main_v2950 : Ref sig .tc := ⟨.hbm, 3743, rfl⟩
abbrev main_cst_499 : Ref sig .tc := ⟨.hbm, 3744, rfl⟩
abbrev main_v2951 : Ref sig .tc := ⟨.hbm, 3745, rfl⟩
abbrev main_v2952 : Ref sig .tc := ⟨.hbm, 3746, rfl⟩
abbrev main_v2953 : Ref sig .tc := ⟨.hbm, 3747, rfl⟩
abbrev main_v2954 : Ref sig .tc := ⟨.hbm, 3748, rfl⟩
abbrev main_v2955 : Ref sig .tc := ⟨.hbm, 3749, rfl⟩
abbrev main_v2956 : Ref sig .tc := ⟨.hbm, 3750, rfl⟩
abbrev main_v2957 : Ref sig .tc := ⟨.hbm, 3751, rfl⟩
abbrev main_v2958 : Ref sig .tc := ⟨.hbm, 3752, rfl⟩
abbrev main_v2959 : Ref sig .tc := ⟨.hbm, 3753, rfl⟩
abbrev main_v2960 : Ref sig .tc := ⟨.hbm, 3754, rfl⟩
abbrev main_v2961 : Ref sig .tc := ⟨.hbm, 3755, rfl⟩
abbrev main_v2962 : Ref sig .tc := ⟨.hbm, 3756, rfl⟩
abbrev main_v2963 : Ref sig .tc := ⟨.hbm, 3757, rfl⟩
abbrev main_c_500 : Ref sig .tc := ⟨.hbm, 3758, rfl⟩
abbrev main_call80_v0 : Ref sig .tc := ⟨.hbm, 3759, rfl⟩
abbrev main_call80_v1 : Ref sig .tc := ⟨.hbm, 3760, rfl⟩
abbrev main_v2964 : Ref sig .tc := ⟨.hbm, 3761, rfl⟩
abbrev main_v2965 : Ref sig .tc := ⟨.hbm, 3762, rfl⟩
abbrev main_v2966 : Ref sig .tc := ⟨.hbm, 3763, rfl⟩
abbrev main_v2967 : Ref sig .tc := ⟨.hbm, 3764, rfl⟩
abbrev main_v2968 : Ref sig .tc := ⟨.hbm, 3765, rfl⟩
abbrev main_v2969 : Ref sig .tc := ⟨.hbm, 3766, rfl⟩
abbrev main_v2970 : Ref sig .tc := ⟨.hbm, 3767, rfl⟩
abbrev main_v2971 : Ref sig .tc := ⟨.hbm, 3768, rfl⟩
abbrev main_v2972 : Ref sig .tc := ⟨.hbm, 3769, rfl⟩
abbrev main_v2973 : Ref sig .tc := ⟨.hbm, 3770, rfl⟩
abbrev main_cst_501 : Ref sig .tc := ⟨.hbm, 3771, rfl⟩
abbrev main_v2974 : Ref sig .tc := ⟨.hbm, 3772, rfl⟩
abbrev main_c_502 : Ref sig .tc := ⟨.hbm, 3773, rfl⟩
abbrev main_v2975 : Ref sig .tc := ⟨.hbm, 3774, rfl⟩
abbrev main_v2976 : Ref sig .tc := ⟨.hbm, 3775, rfl⟩
abbrev main_c_503 : Ref sig .tc := ⟨.hbm, 3776, rfl⟩
abbrev main_v2977 : Ref sig .tc := ⟨.hbm, 3777, rfl⟩
abbrev main_v2978 : Ref sig .tc := ⟨.hbm, 3778, rfl⟩
abbrev main_v2979 : Ref sig .tc := ⟨.hbm, 3779, rfl⟩
abbrev main_c_504 : Ref sig .tc := ⟨.hbm, 3780, rfl⟩
abbrev main_v2980 : Ref sig .tc := ⟨.hbm, 3781, rfl⟩
abbrev main_v2981 : Ref sig .tc := ⟨.hbm, 3782, rfl⟩
abbrev main_c_505 : Ref sig .tc := ⟨.hbm, 3783, rfl⟩
abbrev main_v2982 : Ref sig .tc := ⟨.hbm, 3784, rfl⟩
abbrev main_v2983 : Ref sig .tc := ⟨.hbm, 3785, rfl⟩
abbrev main_v2984 : Ref sig .tc := ⟨.hbm, 3786, rfl⟩
abbrev main_v2985 : Ref sig .tc := ⟨.hbm, 3787, rfl⟩
abbrev main_v2986 : Ref sig .tc := ⟨.hbm, 3788, rfl⟩
abbrev main_v2987 : Ref sig .tc := ⟨.hbm, 3789, rfl⟩
abbrev main_v2988 : Ref sig .tc := ⟨.hbm, 3790, rfl⟩
abbrev main_v2989 : Ref sig .tc := ⟨.hbm, 3791, rfl⟩
abbrev main_v2990 : Ref sig .tc := ⟨.hbm, 3792, rfl⟩
abbrev main_v2991 : Ref sig .tc := ⟨.hbm, 3793, rfl⟩
abbrev main_v2992 : Ref sig .tc := ⟨.hbm, 3794, rfl⟩
abbrev main_v2993 : Ref sig .tc := ⟨.hbm, 3795, rfl⟩
abbrev main_v2994 : Ref sig .tc := ⟨.hbm, 3796, rfl⟩
abbrev main_v2995 : Ref sig .tc := ⟨.hbm, 3797, rfl⟩
abbrev main_v2996 : Ref sig .tc := ⟨.hbm, 3798, rfl⟩
abbrev main_v2997 : Ref sig .tc := ⟨.hbm, 3799, rfl⟩
abbrev main_v2998 : Ref sig .tc := ⟨.hbm, 3800, rfl⟩
abbrev main_v2999 : Ref sig .tc := ⟨.hbm, 3801, rfl⟩
abbrev main_v3000 : Ref sig .tc := ⟨.hbm, 3802, rfl⟩
abbrev main_v3001 : Ref sig .tc := ⟨.hbm, 3803, rfl⟩
abbrev main_v3002 : Ref sig .tc := ⟨.hbm, 3804, rfl⟩
abbrev main_v3003 : Ref sig .tc := ⟨.hbm, 3805, rfl⟩
abbrev main_v3004 : Ref sig .tc := ⟨.hbm, 3806, rfl⟩
abbrev main_v3005 : Ref sig .tc := ⟨.hbm, 3807, rfl⟩
abbrev main_v3006 : Ref sig .tc := ⟨.hbm, 3808, rfl⟩
abbrev main_v3007 : Ref sig .tc := ⟨.hbm, 3809, rfl⟩
abbrev main_v3008 : Ref sig .tc := ⟨.hbm, 3810, rfl⟩
abbrev main_v3009 : Ref sig .tc := ⟨.hbm, 3811, rfl⟩
abbrev main_v3010 : Ref sig .tc := ⟨.hbm, 3812, rfl⟩
abbrev main_v3011 : Ref sig .tc := ⟨.hbm, 3813, rfl⟩
abbrev main_v3012 : Ref sig .tc := ⟨.hbm, 3814, rfl⟩
abbrev main_v3013 : Ref sig .tc := ⟨.hbm, 3815, rfl⟩
abbrev main_v3014 : Ref sig .tc := ⟨.hbm, 3816, rfl⟩
abbrev main_v3015 : Ref sig .tc := ⟨.hbm, 3817, rfl⟩
abbrev main_v3016 : Ref sig .tc := ⟨.hbm, 3818, rfl⟩
abbrev main_v3017 : Ref sig .tc := ⟨.hbm, 3819, rfl⟩
abbrev main_v3018 : Ref sig .tc := ⟨.hbm, 3820, rfl⟩
abbrev main_v3019 : Ref sig .tc := ⟨.hbm, 3821, rfl⟩
abbrev main_cst_506 : Ref sig .tc := ⟨.hbm, 3822, rfl⟩
abbrev main_v3020 : Ref sig .tc := ⟨.hbm, 3823, rfl⟩
abbrev main_v3021 : Ref sig .tc := ⟨.hbm, 3824, rfl⟩
abbrev main_cst_507 : Ref sig .tc := ⟨.hbm, 3825, rfl⟩
abbrev main_v3022 : Ref sig .tc := ⟨.hbm, 3826, rfl⟩
abbrev main_v3023 : Ref sig .tc := ⟨.hbm, 3827, rfl⟩
abbrev main_v3024 : Ref sig .tc := ⟨.hbm, 3828, rfl⟩
abbrev main_v3025 : Ref sig .tc := ⟨.hbm, 3829, rfl⟩
abbrev main_cst_508 : Ref sig .tc := ⟨.hbm, 3830, rfl⟩
abbrev main_v3026 : Ref sig .tc := ⟨.hbm, 3831, rfl⟩
abbrev main_v3027 : Ref sig .tc := ⟨.hbm, 3832, rfl⟩
abbrev main_cst_509 : Ref sig .tc := ⟨.hbm, 3833, rfl⟩
abbrev main_v3028 : Ref sig .tc := ⟨.hbm, 3834, rfl⟩
abbrev main_v3029 : Ref sig .tc := ⟨.hbm, 3835, rfl⟩
abbrev main_v3030 : Ref sig .tc := ⟨.hbm, 3836, rfl⟩
abbrev main_v3031 : Ref sig .tc := ⟨.hbm, 3837, rfl⟩
abbrev main_v3032 : Ref sig .tc := ⟨.hbm, 3838, rfl⟩
abbrev main_cst_510 : Ref sig .tc := ⟨.hbm, 3839, rfl⟩
abbrev main_v3033 : Ref sig .tc := ⟨.hbm, 3840, rfl⟩
abbrev main_v3034 : Ref sig .tc := ⟨.hbm, 3841, rfl⟩
abbrev main_cst_511 : Ref sig .tc := ⟨.hbm, 3842, rfl⟩
abbrev main_v3035 : Ref sig .tc := ⟨.hbm, 3843, rfl⟩
abbrev main_v3036 : Ref sig .tc := ⟨.hbm, 3844, rfl⟩
abbrev main_v3037 : Ref sig .tc := ⟨.hbm, 3845, rfl⟩
abbrev main_v3038 : Ref sig .tc := ⟨.hbm, 3846, rfl⟩
abbrev main_v3039 : Ref sig .tc := ⟨.hbm, 3847, rfl⟩
abbrev main_v3040 : Ref sig .tc := ⟨.hbm, 3848, rfl⟩
abbrev main_v3041 : Ref sig .tc := ⟨.hbm, 3849, rfl⟩
abbrev main_v3042 : Ref sig .tc := ⟨.hbm, 3850, rfl⟩
abbrev main_v3043 : Ref sig .tc := ⟨.hbm, 3851, rfl⟩
abbrev main_v3044 : Ref sig .tc := ⟨.hbm, 3852, rfl⟩
abbrev main_v3045 : Ref sig .tc := ⟨.hbm, 3853, rfl⟩
abbrev main_v3046 : Ref sig .tc := ⟨.hbm, 3854, rfl⟩
abbrev main_v3047 : Ref sig .tc := ⟨.hbm, 3855, rfl⟩
abbrev main_v3048 : Ref sig .tc := ⟨.hbm, 3856, rfl⟩
abbrev main_v3049 : Ref sig .tc := ⟨.hbm, 3857, rfl⟩
abbrev main_cst_512 : Ref sig .tc := ⟨.hbm, 3858, rfl⟩
abbrev main_v3050 : Ref sig .tc := ⟨.hbm, 3859, rfl⟩
abbrev main_v3051 : Ref sig .tc := ⟨.hbm, 3860, rfl⟩
abbrev main_v3052 : Ref sig .tc := ⟨.hbm, 3861, rfl⟩
abbrev main_v3053 : Ref sig .tc := ⟨.hbm, 3862, rfl⟩
abbrev main_v3054 : Ref sig .tc := ⟨.hbm, 3863, rfl⟩
abbrev main_v3055 : Ref sig .tc := ⟨.hbm, 3864, rfl⟩
abbrev main_v3056 : Ref sig .tc := ⟨.hbm, 3865, rfl⟩
abbrev main_v3057 : Ref sig .tc := ⟨.hbm, 3866, rfl⟩
abbrev main_v3058 : Ref sig .tc := ⟨.hbm, 3867, rfl⟩
abbrev main_v3059 : Ref sig .tc := ⟨.hbm, 3868, rfl⟩
abbrev main_v3060 : Ref sig .tc := ⟨.hbm, 3869, rfl⟩
abbrev main_v3061 : Ref sig .tc := ⟨.hbm, 3870, rfl⟩
abbrev main_v3062 : Ref sig .tc := ⟨.hbm, 3871, rfl⟩
abbrev main_v3063 : Ref sig .tc := ⟨.hbm, 3872, rfl⟩
abbrev main_v3064 : Ref sig .tc := ⟨.hbm, 3873, rfl⟩
abbrev main_v3065 : Ref sig .tc := ⟨.hbm, 3874, rfl⟩
abbrev main_v3066 : Ref sig .tc := ⟨.hbm, 3875, rfl⟩
abbrev main_v3067 : Ref sig .tc := ⟨.hbm, 3876, rfl⟩
abbrev main_v3068 : Ref sig .tc := ⟨.hbm, 3877, rfl⟩
abbrev main_v3069 : Ref sig .tc := ⟨.hbm, 3878, rfl⟩
abbrev main_v3070 : Ref sig .tc := ⟨.hbm, 3879, rfl⟩
abbrev main_v3071 : Ref sig .tc := ⟨.hbm, 3880, rfl⟩
abbrev main_v3072 : Ref sig .tc := ⟨.hbm, 3881, rfl⟩
abbrev main_v3073 : Ref sig .tc := ⟨.hbm, 3882, rfl⟩
abbrev main_v3074 : Ref sig .tc := ⟨.hbm, 3883, rfl⟩
abbrev main_v3075 : Ref sig .tc := ⟨.hbm, 3884, rfl⟩
abbrev main_v3076 : Ref sig .tc := ⟨.hbm, 3885, rfl⟩
abbrev main_v3077 : Ref sig .tc := ⟨.hbm, 3886, rfl⟩
abbrev main_v3078 : Ref sig .tc := ⟨.hbm, 3887, rfl⟩
abbrev main_v3079 : Ref sig .tc := ⟨.hbm, 3888, rfl⟩
abbrev main_v3080 : Ref sig .tc := ⟨.hbm, 3889, rfl⟩
abbrev main_v3081 : Ref sig .tc := ⟨.hbm, 3890, rfl⟩
abbrev main_v3082 : Ref sig .tc := ⟨.hbm, 3891, rfl⟩
abbrev main_v3083 : Ref sig .tc := ⟨.hbm, 3892, rfl⟩
abbrev main_v3084 : Ref sig .tc := ⟨.hbm, 3893, rfl⟩
abbrev main_v3085 : Ref sig .tc := ⟨.hbm, 3894, rfl⟩
abbrev main_v3086 : Ref sig .tc := ⟨.hbm, 3895, rfl⟩
abbrev main_v3087 : Ref sig .tc := ⟨.hbm, 3896, rfl⟩
abbrev main_v3088 : Ref sig .tc := ⟨.hbm, 3897, rfl⟩
abbrev main_v3089 : Ref sig .tc := ⟨.hbm, 3898, rfl⟩
abbrev main_v3090 : Ref sig .tc := ⟨.hbm, 3899, rfl⟩
abbrev main_v3091 : Ref sig .tc := ⟨.hbm, 3900, rfl⟩
abbrev main_v3092 : Ref sig .tc := ⟨.hbm, 3901, rfl⟩
abbrev main_v3093 : Ref sig .tc := ⟨.hbm, 3902, rfl⟩
abbrev main_v3094 : Ref sig .tc := ⟨.hbm, 3903, rfl⟩
abbrev main_v3095 : Ref sig .tc := ⟨.hbm, 3904, rfl⟩
abbrev main_v3096 : Ref sig .tc := ⟨.hbm, 3905, rfl⟩

abbrev nD : Nat := 1
abbrev τ : Topo := Topo.v7x

variable {F : FTy → Type} [FloatOps F]
-- ==== Proof.Cells.lean ====
/-
  THE GRID CELLS — extended-real facts about where a neighbour falls in a person's 8 by 8 grid. No array and no program is named here.
-/
module

public import Idealize.ShloMosaic.Lib.Pointwise
public import Idealize.ShloMosaic.Lib.IdealHost

@[expose] public section

noncomputable section

namespace Cert.Cells

open Idealize.ShloMosaic

/-- The half width of the neighbourhood, as the programs print it, is 32. -/
theorem ofBits_32 : Ideal.ofBits .f32 0x42000000#32 = ((32 : ℝ) : EReal) := by
  simp [Ideal.ofBits, Ideal.ieee, -EReal.coe_mul]; norm_num

/-- The number of cells along an axis (and the width of a cell), as the programs print it, is 8. -/
theorem ofBits_8 : Ideal.ofBits .f32 0x41000000#32 = ((8 : ℝ) : EReal) := by
  simp [Ideal.ofBits, Ideal.ieee, -EReal.coe_mul]; norm_num

/-- An offset is inside the neighbourhood along its axis. -/
def near (r : EReal) : Prop := max r (-r) < ((32 : ℝ) : EReal)

/-- The cell's coordinate along an axis, as a float. -/
def slot (r : EReal) : EReal := Ideal.liftRound Int.floor (Ideal.div (r + ((32 : ℝ) : EReal)) ((8 : ℝ) : EReal))

/-- The cell's coordinate along an axis, as a word clipped to 0 … 7. -/
def slotWord (r : EReal) : BitVec 32 := IntOp.minsi 7#32 (IntOp.maxsi 0#32 (Ideal.fptosi 32 (slot r)))

/-- An offset inside the neighbourhood is a real number. -/
theorem near_real {r : EReal} (h : near r) : ∃ x : ℝ, r = (x : EReal) ∧ -32 < x ∧ x < 32 := by
  unfold near at h
  induction r with
  | bot => exact absurd h (by simp)
  | top => exact absurd h (by simp)
  | coe x =>
    refine ⟨x, rfl, ?_⟩
    have h1 := (max_lt_iff.1 h).1
    have h2 := (max_lt_iff.1 h).2
    rw [← EReal.coe_neg] at h2
    have a1 := EReal.coe_lt_coe_iff.1 h1
    have a2 := EReal.coe_lt_coe_iff.1 h2
    constructor <;> linarith

/-- Inside the neighbourhood the float coordinate is one of 0 … 7 and the word is that same number: the clip changes nothing. -/
theorem near_slot {r : EReal} (h : near r) : ∃ n : ℕ, n < 8 ∧ slot r = ((n : ℝ) : EReal) ∧ slotWord r = BitVec.ofNat 32 n := by
  obtain ⟨x, rfl, hl, hu⟩ := near_real h
  have hs : slot (x : EReal) = ((⌊(x + 32) * (1 / 8)⌋ : ℝ) : EReal) := by
    unfold slot
    rw [← EReal.coe_add, Ideal.div_coe (by norm_num : (8 : ℝ) ≠ 0), ← EReal.coe_mul]
    rfl
  have h0 : (0 : ℤ) ≤ ⌊(x + 32) * (1 / 8)⌋ := Int.floor_nonneg.2 (by linarith)
  have h8 : ⌊(x + 32) * (1 / 8)⌋ < 8 := Int.floor_lt.2 (by push_cast; linarith)
  obtain ⟨n, hn⟩ := Int.eq_ofNat_of_zero_le h0
  have hn8 : n < 8 := by omega
  refine ⟨n, hn8, by rw [hs, hn]; simp, ?_⟩
  unfold slotWord
  have hf : Ideal.fptosi 32 (slot (x : EReal)) = BitVec.ofNat 32 n := by
    rw [hs, hn]
    have : ((((n : ℕ) : ℤ) : ℝ) : EReal) = (((n : ℕ) : ℝ) : EReal) := by norm_cast
    unfold Ideal.fptosi
    show BitVec.ofInt 32 (max _ (min _ (if (0 : ℝ) ≤ (((n : ℕ) : ℤ) : ℝ) then ⌊(((n : ℕ) : ℤ) : ℝ)⌋ else _))) = _
    rw [if_pos (by positivity), Int.floor_intCast]
    have e : max (-((2 ^ (32 - 1) : ℕ) : ℤ)) (min (((2 ^ (32 - 1) : ℕ) : ℤ) - 1) ((n : ℕ) : ℤ)) = (n : ℤ) := by
      norm_num; omega
    rw [e, BitVec.ofInt_natCast]
  rw [hf]
  interval_cases n <;> decide

/-- Two offsets inside the neighbourhood: the float cell number is `c` exactly when the word cell number is. -/
theorem cell_iff {rx ry : EReal} (hx : near rx) (hy : near ry) (c : ℕ) :
    (IntOp.addi (IntOp.muli (slotWord ry) 8#32) (slotWord rx)).toInt = (c : ℤ)
      ↔ slot ry * ((8 : ℝ) : EReal) + slot rx = ((c : ℝ) : EReal) := by
  obtain ⟨a, ha, sa, wa⟩ := near_slot hx
  obtain ⟨b, hb, sb, wb⟩ := near_slot hy
  rw [sa, sb, wa, wb, ← EReal.coe_mul, ← EReal.coe_add, EReal.coe_eq_coe_iff]
  have e : (IntOp.addi (IntOp.muli (BitVec.ofNat 32 b) 8#32) (BitVec.ofNat 32 a)).toInt = ((b * 8 + a : ℕ) : ℤ) := by
    interval_cases a <;> interval_cases b <;> decide
  rw [e]
  constructor
  · intro h; have h' : b * 8 + a = c := by exact_mod_cast h
    rw [← h']; push_cast; ring
  · intro h; exact_mod_cast h

/-- Inside the neighbourhood the word cell number is a small natural number. -/
theorem cell_small {rx ry : EReal} (hx : near rx) (hy : near ry) :
    (IntOp.addi (IntOp.muli (slotWord ry) 8#32) (slotWord rx)).toNat < 64 := by
  obtain ⟨a, ha, sa, wa⟩ := near_slot hx
  obtain ⟨b, hb, sb, wb⟩ := near_slot hy
  rw [wa, wb]
  interval_cases a <;> interval_cases b <;> decide

/-! ## The pooled layer, written over plain functions -/

/-- A condition as the float 1 or 0. -/
def ind (p : Prop) [Decidable p] : EReal := if p then 1 else 0

open Classical in
/-- Person `j` counts for person `i`: another person, both present, inside the neighbourhood along both axes. -/
def Valid (m : Fin 256 → BitVec 1) (p : Fin 256 → Fin 2 → EReal) (i j : Fin 256) : Prop :=
  i ≠ j ∧ m j = 1#1 ∧ m i = 1#1 ∧ near (p j 0 - p i 0) ∧ near (p j 1 - p i 1)

/-- Person `j` falls in cell `c` of person `i`'s grid. -/
def InCell (p : Fin 256 → Fin 2 → EReal) (i j : Fin 256) (c : ℕ) : Prop :=
  slot (p j 1 - p i 1) * ((8 : ℝ) : EReal) + slot (p j 0 - p i 0) = ((c : ℝ) : EReal)

open Classical in
/-- Lane `l` of cell `c` of person `i`'s grid: the sum of the hidden states of those who count and fall there. -/
def grid (m : Fin 256 → BitVec 1) (p : Fin 256 → Fin 2 → EReal) (h : Fin 256 → Fin 128 → EReal) (c : ℕ) (i : Fin 256) (l : Fin 128) : EReal :=
  ∑ j : Fin 256, if Valid m p i j ∧ InCell p i j c then h j l else 0

/-- Lane `k` of person `i`'s pooled vector: the flattened grid times the weights, plus the bias, nothing for an absent person. -/
def pooled (m : Fin 256 → BitVec 1) (p : Fin 256 → Fin 2 → EReal) (h : Fin 256 → Fin 128 → EReal) (w : Fin 8192 → Fin 128 → EReal) (b : Fin 128 → EReal)
    (i : Fin 256) (k : Fin 128) : EReal :=
  ((∑ q : Fin 8192, grid m p h (q.val / 128) i ⟨q.val % 128, Nat.mod_lt _ (by norm_num)⟩ * w q k) + b k) * ind (m i = 1#1)

end Cert.Cells
-- ==== Proof.KernelPool.lean ====
/-
  THE KERNEL'S POOLING, PURE — the values the pooling kernel stores, read at an index: one cell's block of the grid, and the output.
-/
module

public import proofs.«01_k».proof.Proof.Gen.KernelIdeal.Skeleton
public import proofs.«01_k».proof.Proof.Cells

@[expose] public section

set_option maxRecDepth 16384

noncomputable section

namespace Cert.KernelIdeal.Pool

open Cert.KernelIdeal Cert.KernelIdeal.Gen Idealize.ShloMosaic Idealize.ShloMosaic.Pointwise Cert.Cells

/-- The block one trip of the loop stores, from the arrays the kernel loads. -/
def cellBlock (h : Vec Ideal S256x128 .f32) (p : Vec Ideal S256x2 .f32) (pT : Vec Ideal S2x256 .f32) (mH : Vec Ideal S256x128 .f32) (mT : Vec Ideal S1x256 .f32)
    (t : Fin k0_t1_loop.trips) : FVec Ideal S256x128 .f32 :=
  k0_pay1 (k0_pay8 p pT) (k0_pay9 p pT) (k0_pay10 mH mT p pT) (k0_pay11 p pT) (k0_pay12 (F := Ideal)) h t

/-- A comparison's bit, widened and converted, is the float 1 or 0. -/
theorem sitofp_bit (b : Bool) : (FloatOps.sitofp FTy.f32 (BitVec.setWidth 32 (BitVec.ofBool b)) : Ideal .f32) = ind (b = true) := by
  show (((BitVec.setWidth 32 (BitVec.ofBool b)).toInt : ℝ) : EReal) = _
  cases b <;> simp [ind]

/-- Two row numbers below 256 differ as words exactly when they differ. -/
theorem ne_word (i j : Fin 256) : (BitVec.ofNat 32 i.val != BitVec.ofNat 32 j.val) = decide (i ≠ j) := by
  have : (BitVec.ofNat 32 i.val = BitVec.ofNat 32 j.val) ↔ i = j := by
    constructor
    · intro e
      have := congrArg BitVec.toNat e
      simp only [BitVec.toNat_ofNat] at this
      have := i.isLt; have := j.isLt
      exact Fin.ext (by omega)
    · rintro rfl; rfl
  by_cases e : i = j
  · subst e; simp
  · simp [e, this, bne]

/-- The loop's induction variable at trip `t` is `t`. -/
theorem trip_word (t : ℕ) (ht : t < 64) : (Scf.iv 0#32 1#32 t).toInt = (t : ℤ) := by
  interval_cases t <;> decide

theorem ind_mul (p : Prop) [Decidable p] (x : EReal) : ind p * x = if p then x else 0 := by
  unfold ind; split <;> simp

theorem ind_ind (p q : Prop) [Decidable p] [Decidable q] : ind p * ind q = ind (p ∧ q) := by
  unfold ind; by_cases p <;> by_cases q <;> simp [*]

/-- The arrays the kernel loads describe the mask `m` and the transposed positions. -/
structure Args (m : Fin 256 → BitVec 1) (p : Vec Ideal S256x2 .f32) (pT : Vec Ideal S2x256 .f32) (mH : Vec Ideal S256x128 .f32) (mT : Vec Ideal S1x256 .f32) : Prop where
  pT : ∀ (a : Fin 2) (j : Fin 256), pT (ix2 a j) = p (ix2 j a)
  mH : ∀ (i : Fin 256) (l : Fin 128), mH (ix2 i l) = ind (m i = 1#1)
  mT : ∀ j : Fin 256, mT (ix2 0 j) = ind (m j = 1#1)

/-- What trip `t` stores is cell `t` of everybody's grid. -/
theorem cellBlock_at {m : Fin 256 → BitVec 1} {h : Vec Ideal S256x128 .f32} {p : Vec Ideal S256x2 .f32} {pT : Vec Ideal S2x256 .f32} {mH : Vec Ideal S256x128 .f32}
    {mT : Vec Ideal S1x256 .f32} (A : Args m p pT mH mT) (t : Fin k0_t1_loop.trips) (ht : t.val < 64) (i : Fin 256) (l : Fin 128) :
    cellBlock h p pT mH mT t (ix2 i l) = grid m (fun i a => p (ix2 i a)) (fun j l => h (ix2 j l)) t.val i l := by
  pointwise [cellBlock, k0_pay1, k0_pay3, k0_pay4, k0_pay5, k0_pay6, k0_pay7, k0_pay8, k0_pay9, k0_pay10, k0_pay11, k0_pay12]
  unfold grid
  refine Finset.sum_congr rfl fun j _ => ?_
  rw [trip_word _ ht, A.mH, A.mT, A.pT, A.pT]
  simp only [IntOp.cmpi, sitofp_bit, ne_word]
  simp only [ind_ind, decide_eq_true_eq]
  rw [ind_mul]
  have e : ∀ x : EReal, (FloatOps.absf x : Ideal .f32) = max x (-x) := fun _ => rfl
  by_cases hb : Valid m (fun i a => p (ix2 i a)) i j ∧ InCell (fun i a => p (ix2 i a)) i j t.val
  · rw [if_pos hb]
    refine if_pos ?_
    simp only [Valid, InCell, near, slot, ofBits_32, ofBits_8, e, Int.cast_natCast] at hb ⊢
    tauto
  · rw [if_neg hb]
    refine if_neg fun ha => hb ?_
    simp only [Valid, InCell, near, slot, ofBits_32, ofBits_8, e, Int.cast_natCast] at ha ⊢
    tauto

/-- What the kernel writes out, from the grid it reads back and the other arrays it loads. -/
theorem out_at {m : Fin 256 → BitVec 1} {h : Vec Ideal S256x128 .f32} {p : Vec Ideal S256x2 .f32} {pT : Vec Ideal S2x256 .f32} {mH : Vec Ideal S256x128 .f32}
    {mT : Vec Ideal S1x256 .f32} (A : Args m p pT mH mT) (g : Vec Ideal S256x8192 .f32) (w : Vec Ideal S8192x128 .f32) (b : Vec Ideal S1x128 .f32)
    (hg : ∀ (i : Fin 256) (q : Fin 8192), g (ix2 i q)
      = grid m (fun i a => p (ix2 i a)) (fun j l => h (ix2 j l)) (q.val / 128) i ⟨q.val % 128, Nat.mod_lt _ (by norm_num)⟩) (i : Fin 256) (k : Fin 128) :
    k0_pay2 (k0_pay3 mH) g w b (ix2 i k)
      = pooled m (fun i a => p (ix2 i a)) (fun j l => h (ix2 j l)) (fun q k => w (ix2 q k)) (fun k => b (ix2 0 k)) i k := by
  pointwise [k0_pay2, k0_pay3]
  unfold pooled
  rw [A.mH]
  simp only [hg]

end Cert.KernelIdeal.Pool
-- ==== Proof.Gathered.lean ====
module

public import proofs.«01_k».proof.Proof.KernelPool
public import Idealize.ShloMosaic.Lib.Pipeline.ValueKit
public import Idealize.ShloMosaic.Lib.Pipeline.ReadBack

/-! The scratch array after the loop over the 64 grid cells: the trip of cell `t` stores its block of 128 columns, and the whole array is
read back once at the end. -/

@[expose] public section

set_option maxRecDepth 16384

noncomputable section

namespace Cert.KernelIdeal.Pool

open Cert.KernelIdeal Cert.KernelIdeal.Gen Idealize.ShloMosaic Idealize.ShloMosaic.Pointwise Cert.Cells

/-- The loop makes 64 trips. -/
theorem trips_eq : Scf.trips (0#32) (Scalar.addi 0#32 64#32) 1#32 = 64 := by decide

/-- Trip `t` stores at column `128 * t`. -/
theorem column (t : Fin k0_t1_loop.trips) : k0_off1 t = ![0, 128 * t.val] := by
  have h : ∀ t : Fin k0_t1_loop.trips, (Scalar.indexCast (Scalar.muli (Scf.iv 0#32 1#32 t.val) 128#32)).toNat = 128 * t.val := by
    rw [show k0_t1_loop.trips = 64 from by decide]
    decide
  show ![0, _] = _
  rw [h t]

/-- The store of trip `t`: its block, at its 128 columns. -/
abbrev stored (t : Fin k0_t1_loop.trips) (x : Vec Ideal S256x128 .f32) : View.Piece (Elt Ideal) S256x8192 .f32 :=
  ⟨Rect.unit (s := S256x8192) (k0_off1 t) S256x128.size (k0_off1_inb t), x⟩

/-- Where trip `t`'s block lands. -/
theorem stored_emb (t : Fin k0_t1_loop.trips) (x : Vec Ideal S256x128 .f32) (i : Fin 256) (l : Fin 128) (h : 128 * t.val + l.val < 8192) :
    (stored t x).1.emb (ix2 i l) = ix2 i ⟨128 * t.val + l.val, h⟩ := by
  funext a
  apply Fin.ext
  have hc := column t
  fin_cases a
  · show k0_off1 t 0 + 1 * i.val = i.val
    rw [hc]; simp
  · show k0_off1 t 1 + 1 * l.val = 128 * t.val + l.val
    rw [hc]; simp

/-- What the scratch array holds in the end: at column `q`, the block of cell `q / 128` at its column `q % 128`. -/
def gathered (blocks : ℕ → Vec Ideal S256x128 .f32) : Vec Ideal S256x8192 .f32 :=
  fun y => blocks ((y 1).val / 128) (ix2 (y 0) ⟨(y 1).val % 128, Nat.mod_lt _ (by decide)⟩)

/-- Every store is a block of that array. -/
theorem stored_block (blocks : ℕ → Vec Ideal S256x128 .f32) (t : Fin k0_t1_loop.trips) (x : (stored t (blocks t.val)).1.shape.Idx) :
    (stored t (blocks t.val)).2 x = gathered blocks ((stored t (blocks t.val)).1.emb x) := by
  obtain ⟨i, l, rfl⟩ : ∃ (i : Fin 256) (l : Fin 128), x = ix2 i l := ⟨x 0, x 1, (ix2_eta x).symm⟩
  have ht : t.val < 64 := lt_of_lt_of_eq t.isLt (by decide)
  rw [stored_emb t _ i l (by omega)]
  show blocks t.val (ix2 i l) = blocks ((128 * t.val + l.val) / 128) (ix2 i ⟨(128 * t.val + l.val) % 128, _⟩)
  have h1 : (128 * t.val + l.val) / 128 = t.val := by omega
  have h2 : (128 * t.val + l.val) % 128 = l.val := by omega
  simp only [h1, h2]

/-- The scratch array read back after the loop. -/
theorem gathered_of_trips (blocks : ℕ → Vec Ideal S256x128 .f32) (pb : ℕ → List (View.Piece (Elt Ideal) S256x8192 .f32))
    (h0 : pb 0 = []) (hs : ∀ t : Fin k0_t1_loop.trips, pb (t.val + 1) = [stored t (blocks t.val)] ++ pb t.val)
    {κ : Kind} {sp : Space} {sig : RefSig} (v : View sig κ sp S256x8192 .f32) :
    v.readCov (pb (Scf.trips (0#32) (Scalar.addi 0#32 64#32) 1#32)) (Rect.unit ![0, 0] ![256, 8192] inb_S256x8192_S256x8192_0_0).toLoadRect
      = gathered blocks := by
  have hmem : ∀ n, n ≤ 64 → ∀ p ∈ pb n, ∀ x : p.1.shape.Idx, p.2 x = gathered blocks (p.1.emb x) := by
    intro n
    induction n with
    | zero => intro _ p hp; rw [h0] at hp; exact absurd hp List.not_mem_nil
    | succ n ih =>
      intro hn p hp
      rw [hs ⟨n, lt_of_lt_of_eq (Nat.lt_of_succ_le hn) (by decide)⟩] at hp
      rcases List.mem_cons.mp hp with rfl | hp
      · exact stored_block blocks _
      · exact ih (by omega) p hp
  have hcov : ∀ n, n ≤ 64 → ∀ t : Fin k0_t1_loop.trips, t.val < n → stored t (blocks t.val) ∈ pb n := by
    intro n
    induction n with
    | zero => intro _ t ht; omega
    | succ n ih =>
      intro hn t ht
      rw [hs ⟨n, lt_of_lt_of_eq (Nat.lt_of_succ_le hn) (by decide)⟩]
      rcases Nat.lt_succ_iff_lt_or_eq.mp ht with h | h
      · exact List.mem_cons_of_mem _ (ih (by omega) t h)
      · subst h; exact List.mem_cons_self
  rw [trips_eq, View.readCov_eq_canon']
  funext y
  have hy : (Rect.unit (s := S256x8192) ![0, 0] ![256, 8192] inb_S256x8192_S256x8192_0_0).toLoadRect.idx y = y := by
    funext a
    apply Fin.ext
    fin_cases a
    · show 0 + 1 * (y 0).val = (y 0).val; omega
    · show 0 + 1 * (y 1).val = (y 1).val; omega
  show View.canon (pb 64) _ = _
  rw [hy]
  have h := View.canon_append_of_pieces (gathered blocks) [] (pb 64) (hmem 64 le_rfl) y ?_
  · rwa [List.append_nil] at h
  · obtain ⟨i, q, rfl⟩ : ∃ (i : Fin 256) (q : Fin 8192), y = ix2 i q := ⟨y 0, y 1, (ix2_eta y).symm⟩
    have ht : q.val / 128 < k0_t1_loop.trips := lt_of_lt_of_eq (by omega : q.val / 128 < 64) (by decide)
    refine ⟨_, hcov 64 le_rfl ⟨q.val / 128, ht⟩ (by show q.val / 128 < 64; omega), ?_⟩
    have he := stored_emb ⟨q.val / 128, ht⟩ (blocks (q.val / 128)) i ⟨q.val % 128, Nat.mod_lt _ (by decide)⟩ (by show 128 * (q.val / 128) + q.val % 128 < 8192; omega)
    have hq : (⟨128 * (q.val / 128) + q.val % 128, by omega⟩ : Fin 8192) = q := Fin.ext (by show 128 * (q.val / 128) + q.val % 128 = q.val; omega)
    rw [show (ix2 i q : S256x8192.Idx) = _ from (he.trans (by rw [hq])).symm]
    rw [← Rect.map_emb_univ]
    exact Finset.mem_map_of_mem _ (Finset.mem_univ _)

/-- What one launch computes from its seven operands: the hidden states `h`, the positions `p` and their transpose `pT`, the mask spread
over the lanes `mH` and along a row `mT`, the pooling weights `w` and bias `b`. -/
def launched (h : Vec Ideal S256x128 .f32) (p : Vec Ideal S256x2 .f32) (pT : Vec Ideal S2x256 .f32) (mH : Vec Ideal S256x128 .f32)
    (mT : Vec Ideal S1x256 .f32) (w : Vec Ideal S8192x128 .f32) (b : Vec Ideal S1x128 .f32) : Vec Ideal S256x128 .f32 :=
  k0_pay2 (k0_pay3 mH) (gathered fun n => if ht : n < k0_t1_loop.trips then cellBlock h p pT mH mT ⟨n, ht⟩ else h) w b

/-- One launch computes the pooled grid. -/
theorem launched_at {m : Fin 256 → BitVec 1} {h : Vec Ideal S256x128 .f32} {p : Vec Ideal S256x2 .f32} {pT : Vec Ideal S2x256 .f32}
    {mH : Vec Ideal S256x128 .f32} {mT : Vec Ideal S1x256 .f32} (A : Args m p pT mH mT) (w : Vec Ideal S8192x128 .f32) (b : Vec Ideal S1x128 .f32)
    (i : Fin 256) (k : Fin 128) :
    launched h p pT mH mT w b (ix2 i k)
      = pooled m (fun i a => p (ix2 i a)) (fun j l => h (ix2 j l)) (fun q k => w (ix2 q k)) (fun k => b (ix2 0 k)) i k := by
  refine out_at A _ w b (fun i q => ?_) i k
  have hq : q.val / 128 < 64 := by omega
  have ht : q.val / 128 < k0_t1_loop.trips := lt_of_lt_of_eq hq (by decide)
  show (if ht : q.val / 128 < k0_t1_loop.trips then cellBlock h p pT mH mT ⟨q.val / 128, ht⟩ else h) (ix2 i ⟨q.val % 128, _⟩) = _
  rw [dif_pos ht]
  exact cellBlock_at A ⟨q.val / 128, ht⟩ hq i _

/-- A block at index zero starts at zero. -/
theorem zero_block (k n : ℕ) : 0 * k + 1 * n = n := by omega

end Cert.KernelIdeal.Pool
-- ==== Proof.RefPool.lean ====
/-
  THE REFERENCE'S POOLING, PURE — the reference's social pooling of one step as a function of its arrays, read at an index.
-/
module

public import proofs.«01_k».proof.Proof.Gen.ReferenceIdeal
public import proofs.«01_k».proof.Proof.Cells
public import Idealize.ShloMosaic.Lib.Routing.OpsPair
public import Idealize.ShloMosaic.Lib.Routing.OpsOrder

@[expose] public section

set_option maxRecDepth 16384

noncomputable section

namespace Cert.ReferenceIdeal.Pool

open Cert.ReferenceIdeal Cert.ReferenceIdeal.Gen Idealize.ShloMosaic Idealize.ShloMosaic.Pointwise Cert.Cells

/-- The offsets of every person from every person. -/
def rel (p : FVec Ideal S256x2 .f32) : FVec Ideal S256x256x2 .f32 :=
  subf (broadcastInDim S256x256x2 ![0, 1, 2] bcast_S1x256x2_S256x256x2_0_1_2 (broadcastInDim S1x256x2 ![1, 2] bcast_S256x2_S1x256x2_1_2 p))
    (broadcastInDim S256x256x2 ![0, 1, 2] bcast_S256x1x2_S256x256x2_0_1_2 (broadcastInDim S256x1x2 ![0, 2] bcast_S256x2_S256x1x2_0_2 p))

/-- The offsets along the first axis. -/
def relX (p : FVec Ideal S256x2 .f32) : FVec Ideal S256x256 .f32 :=
  shapeCast _ (extractStridedSlice S256x256x1 ![0, 0, 0] (rel p) slices_S256x256x2_S256x256x1_0_0_0) shapeCasts_S256x256x1_S256x256

/-- The offsets along the second axis. -/
def relY (p : FVec Ideal S256x2 .f32) : FVec Ideal S256x256 .f32 :=
  shapeCast _ (extractStridedSlice S256x256x1 ![0, 0, 1] (rel p) slices_S256x256x2_S256x256x1_0_0_1) shapeCasts_S256x256x1_S256x256

/-- Whether a person's position is not a number. -/
def nan (p : FVec Ideal S256x2 .f32) : IVec S256 1 :=
  Host.reduce IntOp.ori (cmpf .une p p) (constantI S_ 1 0#1) reducesTo_S256x2_S256_d1 h_S_

/-- Whether person `j` counts for person `i`. -/
def valid (m : IVec S256 1) (p : FVec Ideal S256x2 .f32) : IVec S256x256 1 :=
  andi (andi (andi (andi (andi (andi (andi (noti (cmpi .eq (addi (iotaInDim S256x256 32 0) (broadcastInDim S256x256 ![] bcast_S_S256x256 (constantI S_ 32 0#32))) (iotaInDim S256x256 32 1))) (broadcastInDim S256x256 ![0, 1] bcast_S1x256_S256x256_0_1 (broadcastInDim S1x256 ![1] bcast_S256_S1x256_1 m))) (broadcastInDim S256x256 ![0, 1] bcast_S256x1_S256x256_0_1 (broadcastInDim S256x1 ![0] bcast_S256_S256x1_0 m))) (cmpf .olt (Host.absf (relX p)) (broadcastInDim S256x256 ![] bcast_S_S256x256 (constant S_ .f32 0x42000000#32)))) (cmpf .olt (Host.absf (relY p)) (broadcastInDim S256x256 ![] bcast_S_S256x256 (constant S_ .f32 0x42000000#32)))) (noti (cmpf .une (relX p) (relX p)))) (noti (cmpf .une (relY p) (relY p)))) (broadcastInDim S256x256 ![0, 1] bcast_S256x1_S256x256_0_1 (broadcastInDim S256x1 ![0] bcast_S256_S256x1_0 (noti (nan p))))

/-- One axis' cell coordinates, clipped. -/
def coord (r : FVec Ideal S256x256 .f32) : IVec S256x256 32 :=
  minsi (broadcastInDim S256x256 ![] bcast_S_S256x256 (id (constantI S_ 32 7#32))) (maxsi (broadcastInDim S256x256 ![] bcast_S_S256x256 (id (constantI S_ 32 0#32))) (fptosi 32 (Host.floor (Host.divf (addf r (broadcastInDim S256x256 ![] bcast_S_S256x256 (constant S_ .f32 0x42000000#32))) (broadcastInDim S256x256 ![] bcast_S_S256x256 (constant S_ .f32 0x41000000#32))))))

/-- The cell of person `j` in person `i`'s grid; 64, the spare cell, where `j` does not count. -/
def cell (m : IVec S256 1) (p : FVec Ideal S256x2 .f32) : IVec S256x256 32 :=
  select (valid m p) (addi (muli (coord (relY p)) (broadcastInDim S256x256 ![] bcast_S_S256x256 (constantI S_ 32 8#32))) (coord (relX p))) (broadcastInDim S256x256 ![] bcast_S_S256x256 (id (constantI S_ 32 64#32)))

/-- The row numbers. -/
def rowNo : IVec S256x256 32 :=
  broadcastInDim S256x256 ![0, 1] bcast_S256x1_S256x256_0_1 (broadcastInDim S256x1 ![0] bcast_S256_S256x1_0 (iotaInDim S256 32 0))

/-- The pairs (row, cell) the updates go to. -/
def where_ (m : IVec S256 1) (p : FVec Ideal S256x2 .f32) : IVec S256x256x2 32 :=
  concatenate S256x256x2 2 [⟨S256x256x1, (broadcastInDim S256x256x1 ![0, 1] bcast_S256x256_S256x256x1_0_1 (select (cmpi .slt rowNo (broadcastInDim S256x256 ![] bcast_S_S256x256 (constantI S_ 32 0#32))) (addi rowNo (broadcastInDim S256x256 ![] bcast_S_S256x256 (constantI S_ 32 256#32))) rowNo))⟩, ⟨S256x256x1, (broadcastInDim S256x256x1 ![0, 1] bcast_S256x256_S256x256x1_0_1 (select (cmpi .slt (cell m p) (broadcastInDim S256x256 ![] bcast_S_S256x256 (constantI S_ 32 0#32))) (addi (cell m p) (broadcastInDim S256x256 ![] bcast_S_S256x256 (constantI S_ 32 65#32))) (cell m p)))⟩] concatenates_S256x256x1_S256x256x1_S256x256x2_d2

/-- The hidden states to add, nothing where `j` does not count. -/
def updates (m : IVec S256 1) (p : FVec Ideal S256x2 .f32) (h : FVec Ideal S256x128 .f32) : FVec Ideal S256x256x128 .f32 :=
  mulf (broadcastInDim S256x256x128 ![0, 1, 2] bcast_S1x256x128_S256x256x128_0_1_2 (broadcastInDim S1x256x128 ![1, 2] bcast_S256x128_S1x256x128_1_2 h)) (broadcastInDim S256x256x128 ![0, 1, 2] bcast_S256x256x1_S256x256x128_0_1_2 (uitofp .f32 (broadcastInDim S256x256x1 ![0, 1] bcast_S256x256_S256x256x1_0_1 (valid m p))))

/-- The grids with their spare cell. -/
def cells (m : IVec S256 1) (p : FVec Ideal S256x2 .f32) (h : FVec Ideal S256x128 .f32) : FVec Ideal S256x65x128 .f32 :=
  Host.scatterAdd scatter_S256x65x128_S256x256x2_S256x256x128_2_01_01_2 (broadcastInDim S256x65x128 ![] bcast_S_S256x65x128 (constant S_ .f32 0x00000000#32)) (where_ m p) (updates m p h)

/-- The pooled vectors. -/
def social (m : IVec S256 1) (p : FVec Ideal S256x2 .f32) (h : FVec Ideal S256x128 .f32) (w : FVec Ideal S128x8192 .f32) (b : FVec Ideal S128 .f32) : FVec Ideal S256x128 .f32 :=
  mulf (addf (Host.dotGeneral dot_S256x8192_S8192x128_S256x128_1_0_0_1_n_n none (shapeCast _ (extractStridedSlice S256x64x128 ![0, 0, 0] (cells m p h) slices_S256x65x128_S256x64x128_0_0_0) shapeCasts_S256x64x128_S256x8192) (transpose S8192x128 [1, 0] w transposes_S128x8192_S8192x128_1_0)) (broadcastInDim S256x128 ![0, 1] bcast_S1x128_S256x128_0_1 (broadcastInDim S1x128 ![1] bcast_S128_S1x128_1 b))) (broadcastInDim S256x128 ![0, 1] bcast_S256x1_S256x128_0_1 (broadcastInDim S256x1 ![0] bcast_S256_S256x1_0 (uitofp .f32 (andi m (noti (nan p))))))

theorem relX_at (p : FVec Ideal S256x2 .f32) (i j : Fin 256) : relX p (ix2 i j) = p (ix2 j 0) - p (ix2 i 0) := by
  pointwise [relX, rel]

theorem relY_at (p : FVec Ideal S256x2 .f32) (i j : Fin 256) : relY p (ix2 i j) = p (ix2 j 1) - p (ix2 i 1) := by
  pointwise [relY, rel]

/-- No extended real is unequal to itself: no position counts as not a number. -/
theorem nan_at (p : FVec Ideal S256x2 .f32) (i : Fin 256) : nan p (ix1 i) = 0#1 := by
  pointwise [nan]
  refine (BitVec.eq_zero_or_eq_one _).resolve_right fun g => ?_
  obtain ⟨x, _, hx⟩ := (Routing.fold_ori _ _).1 g
  simp at hx

theorem and_one (x y : BitVec 1) : IntOp.andi x y = 1#1 ↔ x = 1#1 ∧ y = 1#1 := by
  revert x y; decide

theorem not_one (x : BitVec 1) : ~~~x = 1#1 ↔ x = 0#1 := by
  revert x; decide

theorem bit_one (p : Prop) [Decidable p] : BitVec.ofBool (decide p) = 1#1 ↔ p := by
  by_cases h : p <;> simp [h]

theorem bit_zero (p : Prop) [Decidable p] : BitVec.ofBool (decide p) = 0#1 ↔ ¬p := by
  by_cases h : p <;> simp [h]

/-- Row numbers below 256 compared as words. -/
theorem eq_word (i j : Fin 256) : IntOp.cmpi CmpIPredicate.eq (IntOp.addi (BitVec.ofNat 32 i.val) 0#32) (BitVec.ofNat 32 j.val) = 0#1 ↔ i ≠ j := by
  have e : (BitVec.ofNat 32 i.val = BitVec.ofNat 32 j.val) ↔ i = j := by
    constructor
    · intro e
      have := congrArg BitVec.toNat e
      simp only [BitVec.toNat_ofNat] at this
      have := i.isLt; have := j.isLt
      exact Fin.ext (by omega)
    · rintro rfl; rfl
  simp only [IntOp.cmpi, IntOp.addi, BitVec.add_zero]
  by_cases h : i = j
  · subst h; simp
  · have h' : ¬(BitVec.ofNat 32 i.val = BitVec.ofNat 32 j.val) := fun q => h (e.1 q)
    rw [beq_eq_false_iff_ne.2 h']
    simp [h]

/-- The reference's mask of pairs says who counts for whom. -/
theorem valid_at (m : IVec S256 1) (p : FVec Ideal S256x2 .f32) (i j : Fin 256) :
    valid m p (ix2 i j) = 1#1 ↔ Valid (fun i => m (ix1 i)) (fun i a => p (ix2 i a)) i j := by
  pointwise [valid]
  have e : ∀ x : EReal, (FloatOps.absf x : Ideal .f32) = max x (-x) := fun _ => rfl
  simp only [and_one, not_one, bit_one, bit_zero, eq_word, nan_at, relX_at, relY_at, e, ofBits_32, Valid, near]
  tauto

/-- Where `j` counts, its cell is the clipped coordinates' combination; elsewhere the spare cell. -/
theorem cell_at (m : IVec S256 1) (p : FVec Ideal S256x2 .f32) (i j : Fin 256) :
    cell m p (ix2 i j) = Scalar.select (valid m p (ix2 i j))
      (IntOp.addi (IntOp.muli (slotWord (p (ix2 j 1) - p (ix2 i 1))) 8#32) (slotWord (p (ix2 j 0) - p (ix2 i 0)))) 64#32 := by
  pointwise [cell, coord]
  rw [relX_at, relY_at, ofBits_32, ofBits_8]
  rfl

/-- A cell word is one of 0 … 64. -/
theorem cell_lt (m : IVec S256 1) (p : FVec Ideal S256x2 .f32) (i j : Fin 256) : (cell m p (ix2 i j)).toNat < 65 := by
  rw [cell_at]
  rcases BitVec.eq_zero_or_eq_one (valid m p (ix2 i j)) with g | g
  · rw [g]; show (64#32 : BitVec 32).toNat < 65; decide
  · rw [g]
    have v := (valid_at m p i j).1 g
    exact Nat.lt_succ_of_lt (cell_small v.2.2.2.1 v.2.2.2.2)

/-- Update `(i, j)`'s row is `i`. -/
theorem where_row (m : IVec S256 1) (p : FVec Ideal S256x2 .f32) (i j : Fin 256) : (where_ m p (ix3 i j 0)).toInt = i.val := by
  have e : where_ m p (ix3 i j 0) = Scalar.select (IntOp.cmpi CmpIPredicate.slt (BitVec.ofNat 32 i.val) 0#32) (IntOp.addi (BitVec.ofNat 32 i.val) 256#32) (BitVec.ofNat 32 i.val) := by
    pointwise [where_, rowNo]
  have hi := i.isLt
  rw [e, Routing.wrap_of_lt _ _ (by rw [BitVec.toNat_ofNat]; omega), BitVec.toInt_eq_toNat_of_lt (by rw [BitVec.toNat_ofNat]; omega), BitVec.toNat_ofNat]
  omega

/-- Update `(i, j)`'s cell is `j`'s cell in `i`'s grid. -/
theorem where_cell (m : IVec S256 1) (p : FVec Ideal S256x2 .f32) (i j : Fin 256) : where_ m p (ix3 i j 1) = cell m p (ix2 i j) := by
  have e : where_ m p (ix3 i j 1) = Scalar.select (IntOp.cmpi CmpIPredicate.slt (cell m p (ix2 i j)) 0#32) (IntOp.addi (cell m p (ix2 i j)) 65#32) (cell m p (ix2 i j)) := by
    pointwise [where_]
  have := cell_lt m p i j
  rw [e, Routing.wrap_of_lt _ _ (by omega)]

/-- What is added: the hidden state where `j` counts, nothing elsewhere. -/
theorem updates_at (m : IVec S256 1) (p : FVec Ideal S256x2 .f32) (h : FVec Ideal S256x128 .f32) (i j : Fin 256) (l : Fin 128) :
    updates m p h (ix3 i j l) = if valid m p (ix2 i j) = 1#1 then h (ix2 j l) else 0 := by
  pointwise [updates]
  have e : (FloatOps.uitofp FTy.f32 (valid m p (ix2 i j)) : Ideal .f32) = (((valid m p (ix2 i j)).toNat : ℝ) : EReal) := rfl
  rw [e]
  rcases BitVec.eq_zero_or_eq_one (valid m p (ix2 i j)) with g | g <;> rw [g] <;> simp

abbrev D := scatter_S256x65x128_S256x256x2_S256x256x128_2_01_01_2

/-- Update `(a, b, l')` lands at `(i, c, l)` exactly when its row word is `i`, its cell word is `c` and its lane is `l`. -/
theorem lands (idx : IVec S256x256x2 32) (a b : Fin 256) (l' : Fin 128) (i : Fin 256) (c : Fin 65) (l : Fin 128) :
    D.resultIdx? (ix3 a b l') idx = some (ix3 i c l) ↔ (idx (ix3 a b 0)).toInt = i.val ∧ (idx (ix3 a b 1)).toInt = c.val ∧ l' = l := by
  have s0 : D.start (ix3 a b l') idx 0 = (idx (ix3 a b 0)).toInt := by
    unfold ScatterDims.start
    rw [dif_pos (by decide)]
    refine congrArg (fun q => (idx q).toInt) (funext fun q => ?_)
    fin_cases q <;> rfl
  have s1 : D.start (ix3 a b l') idx 1 = (idx (ix3 a b 1)).toInt := by
    unfold ScatterDims.start
    rw [dif_pos (by decide)]
    refine congrArg (fun q => (idx q).toInt) (funext fun q => ?_)
    fin_cases q <;> rfl
  have s2 : D.start (ix3 a b l') idx 2 = 0 := by
    rfl
  have w0 : D.window (ix3 a b l') 0 = 0 := by
    rfl
  have w1 : D.window (ix3 a b l') 1 = 0 := by
    rfl
  have w2 : D.window (ix3 a b l') 2 = l'.val := by
    rfl
  rw [Routing.resultIdx?_eq_some]
  constructor
  · intro h
    have h0 := h 0; have h1 := h 1; have h2 := h 2
    rw [s0, w0] at h0; rw [s1, w1] at h1; rw [s2, w2] at h2
    refine ⟨by simpa using h0, by simpa using h1, Fin.ext ?_⟩
    have : ((l'.val : ℕ) : ℤ) = l.val := by simpa using h2
    exact_mod_cast this
  · rintro ⟨h0, h1, rfl⟩ q
    match q with
    | ⟨0, _⟩ => rw [show D.start (ix3 a b l') idx ⟨0, _⟩ = _ from s0, show D.window (ix3 a b l') ⟨0, _⟩ = _ from w0, h0]; simp
    | ⟨1, _⟩ => rw [show D.start (ix3 a b l') idx ⟨1, _⟩ = _ from s1, show D.window (ix3 a b l') ⟨1, _⟩ = _ from w1, h1]; simp
    | ⟨2, _⟩ => rw [show D.start (ix3 a b l') idx ⟨2, _⟩ = _ from s2, show D.window (ix3 a b l') ⟨2, _⟩ = _ from w2]; simp

/-- An index of the updates' array is its three coordinates. -/
theorem idx_eta (u : S256x256x128.Idx) : ∃ (a b : Fin 256) (l : Fin 128), u = ix3 a b l :=
  ⟨u 0, u 1, u 2, by funext a; fin_cases a <;> rfl⟩

/-- A scatter of adds into zeros, read at an element: the sum over `j` of the updates `(i, j, l)` whose cell is `c`. -/
theorem cells_sum (m : IVec S256 1) (p : FVec Ideal S256x2 .f32) (h : FVec Ideal S256x128 .f32) (i : Fin 256) (c : Fin 65) (l : Fin 128) :
    cells m p h (ix3 i c l) = ∑ j : Fin 256, if (cell m p (ix2 i j)).toInt = c.val then updates m p h (ix3 i j l) else 0 := by
  have e : cells m p h (ix3 i c l) = Ideal.ofBits .f32 0x00000000#32
      + ∑ u ∈ Finset.univ.filter (fun u => D.resultIdx? u (where_ m p) = some (ix3 i c l)), updates m p h u := rfl
  rw [e, Ideal.ofBits_zero_f32, zero_add, ← Finset.sum_filter]
  have back : ∀ a b l', D.resultIdx? (ix3 a b l') (where_ m p) = some (ix3 i c l) ↔ a = i ∧ (cell m p (ix2 i b)).toInt = c.val ∧ l' = l := by
    intro a b l'
    rw [lands, where_row, where_cell]
    constructor
    · rintro ⟨h1, h2, h3⟩
      have : a = i := Fin.ext (by exact_mod_cast h1)
      subst this
      exact ⟨rfl, h2, h3⟩
    · rintro ⟨rfl, h2, h3⟩
      exact ⟨rfl, h2, h3⟩
  refine Finset.sum_nbij' (fun u => (u 1 : Fin 256)) (fun j => ix3 i j l) ?_ ?_ ?_ ?_ ?_
  · intro u hu
    obtain ⟨a, b, l', rfl⟩ := idx_eta u
    exact Finset.mem_filter.2 ⟨Finset.mem_univ _, ((back a b l').1 (Finset.mem_filter.1 hu).2).2.1⟩
  · intro j hj
    exact Finset.mem_filter.2 ⟨Finset.mem_univ _, (back i j l).2 ⟨rfl, (Finset.mem_filter.1 hj).2, rfl⟩⟩
  · intro u hu
    obtain ⟨a, b, l', rfl⟩ := idx_eta u
    obtain ⟨rfl, _, rfl⟩ := (back a b l').1 (Finset.mem_filter.1 hu).2
    rfl
  · intro j _; rfl
  · intro u hu
    obtain ⟨a, b, l', rfl⟩ := idx_eta u
    obtain ⟨rfl, _, rfl⟩ := (back a b l').1 (Finset.mem_filter.1 hu).2
    rfl

/-- Lane `l` of cell `c` of person `i`'s grid, as the reference scatters it. -/
theorem cells_at (m : IVec S256 1) (p : FVec Ideal S256x2 .f32) (h : FVec Ideal S256x128 .f32) (i : Fin 256) (c : Fin 65) (hc : c.val < 64) (l : Fin 128) :
    cells m p h (ix3 i c l) = grid (fun i => m (ix1 i)) (fun i a => p (ix2 i a)) (fun j l => h (ix2 j l)) c.val i l := by
  rw [cells_sum]
  unfold grid
  refine Finset.sum_congr rfl fun j _ => ?_
  rw [updates_at, cell_at]
  by_cases v : valid m p (ix2 i j) = 1#1
  · have v' := (valid_at m p i j).1 v
    rw [if_pos v, v]
    have hs : ∀ a b : BitVec 32, Scalar.select (1#1 : BitVec 1) a b = a := fun _ _ => rfl
    rw [hs]
    have hcell := cell_iff v'.2.2.2.1 v'.2.2.2.2 c.val
    by_cases q : InCell (fun i a => p (ix2 i a)) i j c.val
    · rw [if_pos (hcell.2 q), if_pos ⟨v', q⟩]
    · rw [if_neg fun z => q (hcell.1 z), if_neg fun z => q z.2]
  · rw [if_neg v, ite_self, if_neg fun z => v ((valid_at m p i j).2 z.1)]

/-- The reference's pooled vectors. -/
theorem social_at (m : IVec S256 1) (p : FVec Ideal S256x2 .f32) (h : FVec Ideal S256x128 .f32) (w : FVec Ideal S128x8192 .f32) (b : FVec Ideal S128 .f32) (i : Fin 256) (k : Fin 128) :
    social m p h w b (ix2 i k) = pooled (fun i => m (ix1 i)) (fun i a => p (ix2 i a)) (fun j l => h (ix2 j l)) (fun q k => w (ix2 k q)) (fun k => b (ix1 k)) i k := by
  pointwise [social]
  unfold pooled
  have e : (FloatOps.uitofp FTy.f32 (IntOp.andi (m (ix1 i)) (~~~nan p (ix1 i))) : Ideal .f32) = ind (m (ix1 i) = 1#1) := by
    rw [nan_at]
    show (((IntOp.andi (m (ix1 i)) (~~~0#1)).toNat : ℝ) : EReal) = _
    rcases BitVec.eq_zero_or_eq_one (m (ix1 i)) with g | g <;> rw [g] <;> simp [ind, IntOp.andi]
  rw [e]
  refine congrArg (fun z => (z + b (ix1 k)) * ind (m (ix1 i) = 1#1)) (Finset.sum_congr rfl fun q _ => ?_)
  have hq := q.isLt
  rw [cells_at m p h i ⟨q.val / 128, by omega⟩ (by show q.val / 128 < 64; omega)]

end Cert.ReferenceIdeal.Pool
-- ==== Proof.Steps.lean ====
module

public import proofs.«01_k».proof.Proof.RefPool

/-! One time step of the network, written with the reference's operations: the embedding, the gates, the cell, the hidden state, the read-out and
the next position; then the states of all the steps, one after the other. -/

@[expose] public section

set_option maxRecDepth 16384

noncomputable section

namespace Cert.Steps

open Cert.ReferenceIdeal Cert.ReferenceIdeal.Gen Idealize.ShloMosaic

/-- The arguments: observed positions, mask, and the weights and biases of the embedding, the pooling, the cell and the read-out. -/
structure Args where
  obs : FVec Ideal S8x256x2 .f32
  mask : IVec S256 1
  wEmbed : FVec Ideal S64x2 .f32
  bEmbed : FVec Ideal S64 .f32
  wPool : FVec Ideal S128x8192 .f32
  bPool : FVec Ideal S128 .f32
  wIn : FVec Ideal S512x192 .f32
  wHid : FVec Ideal S512x128 .f32
  bIn : FVec Ideal S512 .f32
  bHid : FVec Ideal S512 .f32
  wOut : FVec Ideal S5x128 .f32
  bOut : FVec Ideal S5 .f32

/-- Nothing: the first hidden state and the first cell. -/
def zeros : FVec Ideal S256x128 .f32 := broadcastInDim S256x128 ![] bcast_S_S256x128 (constant S_ .f32 0x00000000#32)

/-- The observed positions with zero for what is not a number. -/
def clean (o : FVec Ideal S8x256x2 .f32) : FVec Ideal S8x256x2 .f32 :=
  select (cmpf .une o o) (broadcastInDim S8x256x2 ![] bcast_S_S8x256x2 (id (constant S_ .f32 0x00000000#32))) o

/-- The mask as numbers, a column. -/
def maskCol (m : IVec S256 1) : FVec Ideal S256x1 .f32 := broadcastInDim S256x1 ![0] bcast_S256_S256x1_0 (uitofp .f32 m)

/-- The positions' embedding before its rectifier. -/
def preEmbed (w : FVec Ideal S64x2 .f32) (b : FVec Ideal S64 .f32) (p : FVec Ideal S256x2 .f32) : FVec Ideal S256x64 .f32 :=
  addf (Host.dotGeneral dot_S256x2_S2x64_S256x64_1_0_0_1_n_n none p (transpose S2x64 [1, 0] w transposes_S64x2_S2x64_1_0))
    (broadcastInDim S256x64 ![0, 1] bcast_S1x64_S256x64_0_1 (broadcastInDim S1x64 ![1] bcast_S64_S1x64_1 b))

/-- The rectifier. -/
def relu (x : FVec Ideal S256x64 .f32) : FVec Ideal S256x64 .f32 :=
  maximumf x (broadcastInDim S256x64 ![] bcast_S_S256x64 (constant S_ .f32 0x00000000#32))

/-- The gates' share of the inputs: embedding and pooled vectors side by side, times the input weights, plus the input bias. -/
def gatesIn (w : FVec Ideal S512x192 .f32) (b : FVec Ideal S512 .f32) (e : FVec Ideal S256x64 .f32) (s : FVec Ideal S256x128 .f32) : FVec Ideal S256x512 .f32 :=
  addf (Host.dotGeneral dot_S256x192_S192x512_S256x512_1_0_0_1_n_n none
      (concatenate S256x192 1 [⟨S256x64, e⟩, ⟨S256x128, s⟩] concatenates_S256x64_S256x128_S256x192_d1)
      (transpose S192x512 [1, 0] w transposes_S512x192_S192x512_1_0))
    (broadcastInDim S256x512 ![0, 1] bcast_S1x512_S256x512_0_1 (broadcastInDim S1x512 ![1] bcast_S512_S1x512_1 b))

/-- The gates' share of the hidden state. -/
def gatesHid (w : FVec Ideal S512x128 .f32) (h : FVec Ideal S256x128 .f32) : FVec Ideal S256x512 .f32 :=
  Host.dotGeneral dot_S256x128_S128x512_S256x512_1_0_0_1_n_n none h (transpose S128x512 [1, 0] w transposes_S512x128_S128x512_1_0)

/-- The gates: the two shares and the hidden bias. -/
def gates (x y : FVec Ideal S256x512 .f32) (b : FVec Ideal S512 .f32) : FVec Ideal S256x512 .f32 :=
  addf (addf x y) (broadcastInDim S256x512 ![0, 1] bcast_S1x512_S256x512_0_1 (broadcastInDim S1x512 ![1] bcast_S512_S1x512_1 b))

/-- The logistic function. -/
def sigmoid (x : FVec Ideal S256x128 .f32) : FVec Ideal S256x128 .f32 :=
  Host.divf (broadcastInDim S256x128 ![] bcast_S_S256x128 (constant S_ .f32 0x3F800000#32))
    (addf (broadcastInDim S256x128 ![] bcast_S_S256x128 (constant S_ .f32 0x3F800000#32)) (Host.exp (Host.negf x)))

/-- The next cell. -/
def cellNext (g : FVec Ideal S256x512 .f32) (c : FVec Ideal S256x128 .f32) : FVec Ideal S256x128 .f32 :=
  addf (mulf (sigmoid (extractStridedSlice S256x128 ![0, 128] g slices_S256x512_S256x128_0_128)) c)
    (mulf (sigmoid (extractStridedSlice S256x128 ![0, 0] g slices_S256x512_S256x128_0_0))
      (Host.tanh (extractStridedSlice S256x128 ![0, 256] g slices_S256x512_S256x128_0_256)))

/-- The next hidden state, from the gates and the next cell. -/
def hidNext (g : FVec Ideal S256x512 .f32) (c : FVec Ideal S256x128 .f32) : FVec Ideal S256x128 .f32 :=
  mulf (sigmoid (extractStridedSlice S256x128 ![0, 384] g slices_S256x512_S256x128_0_384)) (Host.tanh c)

/-- The read-out. -/
def readOut (w : FVec Ideal S5x128 .f32) (b : FVec Ideal S5 .f32) (h : FVec Ideal S256x128 .f32) : FVec Ideal S256x5 .f32 :=
  addf (Host.dotGeneral dot_S256x128_S128x5_S256x5_1_0_0_1_n_n none h (transpose S128x5 [1, 0] w transposes_S5x128_S128x5_1_0))
    (broadcastInDim S256x5 ![0, 1] bcast_S1x5_S256x5_0_1 (broadcastInDim S1x5 ![1] bcast_S5_S1x5_1 b))

/-- The position moved by the read-out's first two columns, where the mask is set. -/
def moved (mc : FVec Ideal S256x1 .f32) (r : FVec Ideal S256x5 .f32) (p : FVec Ideal S256x2 .f32) : FVec Ideal S256x2 .f32 :=
  addf p (mulf (extractStridedSlice S256x2 ![0, 0] r slices_S256x5_S256x2_0_0) (broadcastInDim S256x2 ![0, 1] bcast_S256x1_S256x2_0_1 mc))

/-- The last observed position, where the mask is set. -/
def lastSeen (mc : FVec Ideal S256x1 .f32) (p : FVec Ideal S256x2 .f32) : FVec Ideal S256x2 .f32 :=
  mulf p (broadcastInDim S256x2 ![0, 1] bcast_S256x1_S256x2_0_1 mc)

/-- One observed frame. -/
def frameAt (k : ℕ) (hk : S8x256x2.Slices ![k, 0, 0] S1x256x2) (o : FVec Ideal S8x256x2 .f32) : FVec Ideal S256x2 .f32 :=
  shapeCast _ (extractStridedSlice S1x256x2 ![k, 0, 0] o hk) shapeCasts_S1x256x2_S256x2

/-- The spreads of a read-out. -/
def spread (r : FVec Ideal S256x5 .f32) : FVec Ideal S256x2 .f32 :=
  addf (Host.exp (extractStridedSlice S256x2 ![0, 2] r slices_S256x5_S256x2_0_2)) (broadcastInDim S256x2 ![] bcast_S_S256x2 (constant S_ .f32 0x358637BD#32))

/-- The correlations of a read-out. -/
def corr (r : FVec Ideal S256x5 .f32) : FVec Ideal S256 .f32 :=
  Host.tanh (shapeCast _ (extractStridedSlice S256x1 ![0, 4] r slices_S256x5_S256x1_0_4) shapeCasts_S256x1_S256)

/-- What a step starts from. -/
structure State where
  hid : FVec Ideal S256x128 .f32
  cell : FVec Ideal S256x128 .f32
  pos : FVec Ideal S256x2 .f32

/-- The gates of the step that starts from `s`. -/
def gatesOf (A : Args) (s : State) : FVec Ideal S256x512 .f32 :=
  gates (gatesIn A.wIn A.bIn (relu (preEmbed A.wEmbed A.bEmbed s.pos)) (ReferenceIdeal.Pool.social A.mask s.pos s.hid A.wPool A.bPool))
    (gatesHid A.wHid s.hid) A.bHid

/-- The next cell. -/
def cellOf (A : Args) (s : State) : FVec Ideal S256x128 .f32 := cellNext (gatesOf A s) s.cell

/-- The next hidden state. -/
def hidOf (A : Args) (s : State) : FVec Ideal S256x128 .f32 := hidNext (gatesOf A s) (cellOf A s)

/-- The position after step `n`: the next observed one for the first seven, then the last observed one masked, then the one moved by the read-out. -/
def posOf (A : Args) (s : State) : ℕ → FVec Ideal S256x2 .f32
  | 0 => frameAt 1 slices_S8x256x2_S1x256x2_1_0_0 (clean A.obs)
  | 1 => frameAt 2 slices_S8x256x2_S1x256x2_2_0_0 (clean A.obs)
  | 2 => frameAt 3 slices_S8x256x2_S1x256x2_3_0_0 (clean A.obs)
  | 3 => frameAt 4 slices_S8x256x2_S1x256x2_4_0_0 (clean A.obs)
  | 4 => frameAt 5 slices_S8x256x2_S1x256x2_5_0_0 (clean A.obs)
  | 5 => frameAt 6 slices_S8x256x2_S1x256x2_6_0_0 (clean A.obs)
  | 6 => frameAt 7 slices_S8x256x2_S1x256x2_7_0_0 (clean A.obs)
  | 7 => lastSeen (maskCol A.mask) (frameAt 7 slices_S8x256x2_S1x256x2_7_0_0 (clean A.obs))
  | _ + 8 => moved (maskCol A.mask) (readOut A.wOut A.bOut (hidOf A s)) s.pos

/-- The state step `n` starts from. -/
def state (A : Args) : ℕ → State
  | 0 => ⟨zeros, zeros, frameAt 0 slices_S8x256x2_S1x256x2_0_0_0 (clean A.obs)⟩
  | n + 1 => ⟨hidOf A (state A n), cellOf A (state A n), posOf A (state A n) n⟩

end Cert.Steps
-- ==== Proof.Chain.lean ====
module

public import proofs.«01_k».proof.Proof.Gen.KernelIdeal.Frame.Fold0
public import proofs.«01_k».proof.Proof.Gathered
public import proofs.«01_k».proof.Proof.Steps

/-! What the kernel's run carries from launch to launch, and why one launch and the host operations after it carry it one step further. -/

@[expose] public section

set_option maxRecDepth 16384

noncomputable section

namespace Cert.KernelIdeal.Chain

open Cert.KernelIdeal Cert.KernelIdeal.Gen Idealize.ShloMosaic Idealize.ShloMosaic.TcCoe Idealize.ShloMosaic.Pointwise Cert.Steps Cert.Cells

/-- The transposed positions. -/
abbrev flip (p : FVec Ideal S256x2 .f32) : FVec Ideal S2x256 .f32 := transpose S2x256 [1, 0] p transposes_S256x2_S2x256_1_0

/-- The mask as numbers, over the lanes. -/
def maskLanes (m : IVec S256 1) : FVec Ideal S256x128 .f32 :=
  broadcastInDim S256x128 ![0, 1] bcast_S256x1_S256x128_0_1 (shapeCast S256x1 (uitofp .f32 m : FVec Ideal S256 .f32) shapeCasts_S256_S256x1)

/-- The mask as numbers, a row. -/
def maskRow (m : IVec S256 1) : FVec Ideal S1x256 .f32 := shapeCast S1x256 (uitofp .f32 m : FVec Ideal S256 .f32) shapeCasts_S256_S1x256

/-- The pooling weights transposed. -/
def poolWeights (w : FVec Ideal S128x8192 .f32) : FVec Ideal S8192x128 .f32 := transpose S8192x128 [1, 0] w transposes_S128x8192_S8192x128_1_0

/-- The pooling bias as a row. -/
def poolBias (b : FVec Ideal S128 .f32) : FVec Ideal S1x128 .f32 := shapeCast S1x128 b shapeCasts_S128_S1x128

/-- A mask bit as a number. -/
theorem bit_value (b : BitVec 1) : (FloatOps.uitofp FTy.f32 b : Ideal .f32) = ind (b = 1#1) := by
  rcases (show b = 0#1 ∨ b = 1#1 by revert b; decide) with rfl | rfl
  · show ((BitVec.toNat 0#1 : ℕ) : EReal) = _
    simp [ind]
  · show ((BitVec.toNat 1#1 : ℕ) : EReal) = _
    simp [ind]

/-- One launch on these operands is the reference's pooling. -/
theorem launched_social (m : IVec S256 1) (p : FVec Ideal S256x2 .f32) (h : FVec Ideal S256x128 .f32) (w : FVec Ideal S128x8192 .f32) (b : FVec Ideal S128 .f32) :
    Pool.launched h p (flip p) (maskLanes m) (maskRow m) (poolWeights w) (poolBias b) = ReferenceIdeal.Pool.social m p h w b := by
  funext y
  obtain ⟨i, k, rfl⟩ : ∃ (i : Fin 256) (k : Fin 128), y = ix2 i k := ⟨y 0, y 1, (ix2_eta y).symm⟩
  have A : Pool.Args (fun i => m (ix1 i)) p (flip p) (maskLanes m) (maskRow m) :=
    { pT := fun a j => by pointwise [flip]
      mH := fun i l => by pointwise [maskLanes]; exact bit_value _
      mT := fun j => by pointwise [maskRow]; exact bit_value _ }
  rw [Pool.launched_at A]
  refine Eq.trans ?_ (ReferenceIdeal.Pool.social_at m p h w b i k).symm
  have hw : (fun (q : Fin 8192) (k : Fin 128) => poolWeights w (ix2 q k)) = fun q k => w (ix2 k q) := by
    funext q k
    pointwise [poolWeights]
  have hb : (fun k : Fin 128 => poolBias b (ix2 0 k)) = fun k => b (ix1 k) := by
    funext k
    pointwise [poolBias]
  rw [hw, hb]

/-- Nothing times a row of sums is the hidden state's share of the gates where that state is nothing. -/
theorem first_share (w : FVec Ideal S512x128 .f32) (x : FVec Ideal S256x512 .f32) :
    mulf (broadcastInDim S256x512 ![] bcast_S_S256x512 (constant S_ .f32 0x00000000#32)) x = gatesHid w zeros := by
  funext y
  obtain ⟨i, k, rfl⟩ : ∃ (i : Fin 256) (k : Fin 512), y = ix2 i k := ⟨y 0, y 1, (ix2_eta y).symm⟩
  pointwise [gatesHid, zeros]
  show (0 : EReal) * _ = ∑ q : Fin 128, (0 : EReal) * _
  simp only [zero_mul, Finset.sum_const_zero]

/-- The arguments of a device. -/
def argsOf (m : (ℓ : Loc nD τ sig) → Buf (Elt Ideal) ℓ) (c : Dev nD) : Args where
  obs := m ((c : Thread nD τ).loc main_arg0)
  mask := m ((c : Thread nD τ).loc main_arg1)
  wEmbed := m ((c : Thread nD τ).loc main_arg2)
  bEmbed := m ((c : Thread nD τ).loc main_arg3)
  wPool := m ((c : Thread nD τ).loc main_arg4)
  bPool := m ((c : Thread nD τ).loc main_arg5)
  wIn := m ((c : Thread nD τ).loc main_arg6)
  wHid := m ((c : Thread nD τ).loc main_arg7)
  bIn := m ((c : Thread nD τ).loc main_arg8)
  bHid := m ((c : Thread nD τ).loc main_arg9)
  wOut := m ((c : Thread nD τ).loc main_arg10)
  bOut := m ((c : Thread nD τ).loc main_arg11)

/-- What every launch and every stretch reads unchanged: the arguments, and the arrays made from them before the first launch. -/
structure Fixed (A : Args) (W : Valuation τ sig (Elt Ideal)) : Prop where
  clean : W (Proc.devRef .tc main_v3) = clean A.obs
  maskCol : W (Proc.devRef .tc main_v5) = maskCol A.mask
  maskLanes : W (Proc.devRef .tc main_v8) = maskLanes A.mask
  maskRow : W (Proc.devRef .tc main_v10) = maskRow A.mask
  poolWeights : W (Proc.devRef .tc main_v11) = poolWeights A.wPool
  poolBias : W (Proc.devRef .tc main_v12) = poolBias A.bPool
  wEmbed : W (Proc.devRef .tc main_arg2) = A.wEmbed
  bEmbed : W (Proc.devRef .tc main_arg3) = A.bEmbed
  wIn : W (Proc.devRef .tc main_arg6) = A.wIn
  wHid : W (Proc.devRef .tc main_arg7) = A.wHid
  bIn : W (Proc.devRef .tc main_arg8) = A.bIn
  bHid : W (Proc.devRef .tc main_arg9) = A.bHid
  wOut : W (Proc.devRef .tc main_arg10) = A.wOut
  bOut : W (Proc.devRef .tc main_arg11) = A.bOut

/-- The arrays `Fixed` speaks of. -/
abbrev fixedRefs : List (Ref sig .tc) :=
  [main_v3, main_v5, main_v8, main_v10, main_v11, main_v12, main_arg2, main_arg3, main_arg6, main_arg7, main_arg8, main_arg9, main_arg10, main_arg11]

/-- `Fixed` passes to any contents that agree on those arrays. -/
theorem Fixed.of_eq {A : Args} {W W' : Valuation τ sig (Elt Ideal)} (F : Fixed A W) (h : ∀ r ∈ fixedRefs, W' (Proc.devRef .tc r) = W (Proc.devRef .tc r)) : Fixed A W' where
  clean := (h main_v3 (by decide)).trans F.clean
  maskCol := (h main_v5 (by decide)).trans F.maskCol
  maskLanes := (h main_v8 (by decide)).trans F.maskLanes
  maskRow := (h main_v10 (by decide)).trans F.maskRow
  poolWeights := (h main_v11 (by decide)).trans F.poolWeights
  poolBias := (h main_v12 (by decide)).trans F.poolBias
  wEmbed := (h main_arg2 (by decide)).trans F.wEmbed
  bEmbed := (h main_arg3 (by decide)).trans F.bEmbed
  wIn := (h main_arg6 (by decide)).trans F.wIn
  wHid := (h main_arg7 (by decide)).trans F.wHid
  bIn := (h main_arg8 (by decide)).trans F.bIn
  bHid := (h main_arg9 (by decide)).trans F.bHid
  wOut := (h main_arg10 (by decide)).trans F.wOut
  bOut := (h main_arg11 (by decide)).trans F.bOut

/-- The arrays a launch and the stretch after it start from, in terms of a state: hidden state, cell, positions, their embedding and their transpose. -/
structure Holds (A : Args) (s : State) (h c : FVec Ideal S256x128 .f32) (p : FVec Ideal S256x2 .f32) (e : FVec Ideal S256x64 .f32) (pT : FVec Ideal S2x256 .f32) : Prop where
  hid : h = s.hid
  cell : c = s.cell
  pos : p = s.pos
  emb : e = relu (preEmbed A.wEmbed A.bEmbed s.pos)
  posT : pT = flip s.pos

/-- A launch from arrays that hold a state pools that state. -/
theorem Holds.pooled {A : Args} {s : State} {h c : FVec Ideal S256x128 .f32} {p : FVec Ideal S256x2 .f32} {e : FVec Ideal S256x64 .f32} {pT : FVec Ideal S2x256 .f32}
    (H : Holds A s h c p e pT) {W : Valuation τ sig (Elt Ideal)} (F : Fixed A W) :
    Pool.launched h p pT (W (Proc.devRef .tc main_v8)) (W (Proc.devRef .tc main_v10)) (W (Proc.devRef .tc main_v11)) (W (Proc.devRef .tc main_v12))
      = ReferenceIdeal.Pool.social A.mask s.pos s.hid A.wPool A.bPool := by
  rw [F.maskLanes, F.maskRow, F.poolWeights, F.poolBias, H.hid, H.pos, H.posT]
  exact launched_social _ _ _ _ _

/-- One step further: the gates are the state's, the next arrays are computed from them, so they hold the next state. -/
theorem Holds.next {A : Args} {n : ℕ} {g : FVec Ideal S256x512 .f32} {c h' c' : FVec Ideal S256x128 .f32} {p' : FVec Ideal S256x2 .f32} {e' : FVec Ideal S256x64 .f32}
    {pT' : FVec Ideal S2x256 .f32} (hg : g = gatesOf A (state A n)) (hc : c = (state A n).cell) (hc' : c' = cellNext g c) (hh' : h' = hidNext g c')
    (hp' : p' = posOf A (state A n) n) (he' : e' = relu (preEmbed A.wEmbed A.bEmbed p')) (hT' : pT' = flip p') :
    Holds A (state A (n + 1)) h' c' p' e' pT' := by
  subst hg hc hc' hh' hp' he' hT'
  exact ⟨rfl, rfl, rfl, rfl, rfl⟩

end Cert.KernelIdeal.Chain
-- ==== Proof.Start.lean ====
module

public import proofs.«01_k».proof.Proof.Chain
public import Idealize.ShloMosaic.Lib.StableHlo.RunRead

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

variable (m : (ℓ : Loc nD τ sig) → Buf (Elt Ideal) ℓ) (ρ : Dev nD → PrngReg) (c : Dev nD)

/-- The arrays made before the first launch. -/
theorem fixed0 : Fixed (argsOf m c) (W5 m ρ c) where
  clean := by after_reads_simp; rfl
  maskCol := by after_reads_simp; rfl
  maskLanes := by after_reads_simp; rfl
  maskRow := by after_reads_simp; rfl
  poolWeights := by after_reads_simp; rfl
  poolBias := by after_reads_simp; rfl
  wEmbed := W5_args m ρ c main_arg2 (by decide)
  bEmbed := W5_args m ρ c main_arg3 (by decide)
  wIn := W5_args m ρ c main_arg6 (by decide)
  wHid := W5_args m ρ c main_arg7 (by decide)
  bIn := W5_args m ρ c main_arg8 (by decide)
  bHid := W5_args m ρ c main_arg9 (by decide)
  wOut := W5_args m ρ c main_arg10 (by decide)
  bOut := W5_args m ρ c main_arg11 (by decide)

/-- The first launch starts from the first state. -/
theorem entry0 : Holds (argsOf m c) (state (argsOf m c) 0) (W5 m ρ c (Proc.devRef .tc main_v0)) (W5 m ρ c (Proc.devRef .tc main_v1)) (W5 m ρ c (Proc.devRef .tc main_v14))
    (W5 m ρ c (Proc.devRef .tc main_v20)) (W5 m ρ c (Proc.devRef .tc main_v21)) where
  hid := by after_reads_simp; rfl
  cell := by after_reads_simp; rfl
  pos := by after_reads_simp; rfl
  emb := by after_reads_simp; rfl
  posT := by after_reads_simp; rfl

end Cert.KernelIdeal.Chain
-- ==== Proof.Stretch0.lean ====
module

public import proofs.«01_k».proof.Proof.Chain
public import Idealize.ShloMosaic.Lib.StableHlo.RunRead

/-! The host operations after launches 0 to 3, read back: each array they leave as a step function of the contents they start from. The
operations are printed launch by launch over arrays of their own, so each launch has its own statements. -/

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

/-- The gates the host operations after launch 0 compute, from the contents they start from. -/
def gates0 (V : Valuation τ sig (Elt Ideal)) : FVec Ideal S256x512 .f32 :=
  gates (gatesIn (V (Proc.devRef .tc main_arg6)) (V (Proc.devRef .tc main_arg8)) (V (Proc.devRef .tc main_v20)) (V (Proc.devRef .tc main_v22)))
      (gatesHid (V (Proc.devRef .tc main_arg7)) zeros) (V (Proc.devRef .tc main_arg9))

/-- The cell they compute. -/
def cell0 (V : Valuation τ sig (Elt Ideal)) : FVec Ideal S256x128 .f32 := cellNext (gates0 V) (V (Proc.devRef .tc main_v1))

/-- The hidden state they compute. -/
def hid0 (V : Valuation τ sig (Elt Ideal)) : FVec Ideal S256x128 .f32 := hidNext (gates0 V) (cell0 V)

/-- The positions they compute. -/
def pos0 (V : Valuation τ sig (Elt Ideal)) : FVec Ideal S256x2 .f32 :=
  frameAt 1 slices_S8x256x2_S1x256x2_1_0_0 (V (Proc.devRef .tc main_v3))

/-- Where the cell is left. -/
theorem cell0_eq (V : Valuation τ sig (Elt Ideal)) : after hostOps1_2 (after hostOps1_1 (after hostOps1 V)) (Proc.devRef .tc main_v63) = cell0 V := by
  after_reads_simp
  rw [first_share]
  rfl

/-- Where the hidden state is left. -/
theorem hid0_eq (V : Valuation τ sig (Elt Ideal)) : after hostOps1_2 (after hostOps1_1 (after hostOps1 V)) (Proc.devRef .tc main_v65) = hid0 V := by
  after_reads_simp
  rw [first_share]
  rfl

/-- Where the positions are left. -/
theorem pos0_eq (V : Valuation τ sig (Elt Ideal)) : after hostOps1_2 (after hostOps1_1 (after hostOps1 V)) (Proc.devRef .tc main_v67) = pos0 V := by
  after_reads_simp
  rfl

/-- Where the positions' embedding is left. -/
theorem emb0_eq (V : Valuation τ sig (Elt Ideal)) : after hostOps1_2 (after hostOps1_1 (after hostOps1 V)) (Proc.devRef .tc main_v73) = relu (preEmbed (V (Proc.devRef .tc main_arg2)) (V (Proc.devRef .tc main_arg3)) (pos0 V)) := by
  after_reads_simp
  rfl

/-- Where the transposed positions are left. -/
theorem flip0_eq (V : Valuation τ sig (Elt Ideal)) : after hostOps1_2 (after hostOps1_1 (after hostOps1 V)) (Proc.devRef .tc main_v74) = flip (pos0 V) := by
  after_reads_simp
  rfl

/-- The gates the host operations after launch 1 compute, from the contents they start from. -/
def gates1 (V : Valuation τ sig (Elt Ideal)) : FVec Ideal S256x512 .f32 :=
  gates (gatesIn (V (Proc.devRef .tc main_arg6)) (V (Proc.devRef .tc main_arg8)) (V (Proc.devRef .tc main_v73)) (V (Proc.devRef .tc main_v75)))
      (gatesHid (V (Proc.devRef .tc main_arg7)) (V (Proc.devRef .tc main_v65))) (V (Proc.devRef .tc main_arg9))

/-- The cell they compute. -/
def cell1 (V : Valuation τ sig (Elt Ideal)) : FVec Ideal S256x128 .f32 := cellNext (gates1 V) (V (Proc.devRef .tc main_v63))

/-- The hidden state they compute. -/
def hid1 (V : Valuation τ sig (Elt Ideal)) : FVec Ideal S256x128 .f32 := hidNext (gates1 V) (cell1 V)

/-- The positions they compute. -/
def pos1 (V : Valuation τ sig (Elt Ideal)) : FVec Ideal S256x2 .f32 :=
  frameAt 2 slices_S8x256x2_S1x256x2_2_0_0 (V (Proc.devRef .tc main_v3))

/-- Where the cell is left. -/
theorem cell1_eq (V : Valuation τ sig (Elt Ideal)) : after hostOps2_2 (after hostOps2_1 (after hostOps2 V)) (Proc.devRef .tc main_v113) = cell1 V := by
  after_reads_simp
  rfl

/-- Where the hidden state is left. -/
theorem hid1_eq (V : Valuation τ sig (Elt Ideal)) : after hostOps2_2 (after hostOps2_1 (after hostOps2 V)) (Proc.devRef .tc main_v115) = hid1 V := by
  after_reads_simp
  rfl

/-- Where the positions are left. -/
theorem pos1_eq (V : Valuation τ sig (Elt Ideal)) : after hostOps2_2 (after hostOps2_1 (after hostOps2 V)) (Proc.devRef .tc main_v117) = pos1 V := by
  after_reads_simp
  rfl

/-- Where the positions' embedding is left. -/
theorem emb1_eq (V : Valuation τ sig (Elt Ideal)) : after hostOps2_2 (after hostOps2_1 (after hostOps2 V)) (Proc.devRef .tc main_v123) = relu (preEmbed (V (Proc.devRef .tc main_arg2)) (V (Proc.devRef .tc main_arg3)) (pos1 V)) := by
  after_reads_simp
  rfl

/-- Where the transposed positions are left. -/
theorem flip1_eq (V : Valuation τ sig (Elt Ideal)) : after hostOps2_2 (after hostOps2_1 (after hostOps2 V)) (Proc.devRef .tc main_v124) = flip (pos1 V) := by
  after_reads_simp
  rfl

/-- The gates the host operations after launch 2 compute, from the contents they start from. -/
def gates2 (V : Valuation τ sig (Elt Ideal)) : FVec Ideal S256x512 .f32 :=
  gates (gatesIn (V (Proc.devRef .tc main_arg6)) (V (Proc.devRef .tc main_arg8)) (V (Proc.devRef .tc main_v123)) (V (Proc.devRef .tc main_v125)))
      (gatesHid (V (Proc.devRef .tc main_arg7)) (V (Proc.devRef .tc main_v115))) (V (Proc.devRef .tc main_arg9))

/-- The cell they compute. -/
def cell2 (V : Valuation τ sig (Elt Ideal)) : FVec Ideal S256x128 .f32 := cellNext (gates2 V) (V (Proc.devRef .tc main_v113))

/-- The hidden state they compute. -/
def hid2 (V : Valuation τ sig (Elt Ideal)) : FVec Ideal S256x128 .f32 := hidNext (gates2 V) (cell2 V)

/-- The positions they compute. -/
def pos2 (V : Valuation τ sig (Elt Ideal)) : FVec Ideal S256x2 .f32 :=
  frameAt 3 slices_S8x256x2_S1x256x2_3_0_0 (V (Proc.devRef .tc main_v3))

/-- Where the cell is left. -/
theorem cell2_eq (V : Valuation τ sig (Elt Ideal)) : after hostOps3_2 (after hostOps3_1 (after hostOps3 V)) (Proc.devRef .tc main_v163) = cell2 V := by
  after_reads_simp
  rfl

/-- Where the hidden state is left. -/
theorem hid2_eq (V : Valuation τ sig (Elt Ideal)) : after hostOps3_2 (after hostOps3_1 (after hostOps3 V)) (Proc.devRef .tc main_v165) = hid2 V := by
  after_reads_simp
  rfl

/-- Where the positions are left. -/
theorem pos2_eq (V : Valuation τ sig (Elt Ideal)) : after hostOps3_2 (after hostOps3_1 (after hostOps3 V)) (Proc.devRef .tc main_v167) = pos2 V := by
  after_reads_simp
  rfl

/-- Where the positions' embedding is left. -/
theorem emb2_eq (V : Valuation τ sig (Elt Ideal)) : after hostOps3_2 (after hostOps3_1 (after hostOps3 V)) (Proc.devRef .tc main_v173) = relu (preEmbed (V (Proc.devRef .tc main_arg2)) (V (Proc.devRef .tc main_arg3)) (pos2 V)) := by
  after_reads_simp
  rfl

/-- Where the transposed positions are left. -/
theorem flip2_eq (V : Valuation τ sig (Elt Ideal)) : after hostOps3_2 (after hostOps3_1 (after hostOps3 V)) (Proc.devRef .tc main_v174) = flip (pos2 V) := by
  after_reads_simp
  rfl

/-- The gates the host operations after launch 3 compute, from the contents they start from. -/
def gates3 (V : Valuation τ sig (Elt Ideal)) : FVec Ideal S256x512 .f32 :=
  gates (gatesIn (V (Proc.devRef .tc main_arg6)) (V (Proc.devRef .tc main_arg8)) (V (Proc.devRef .tc main_v173)) (V (Proc.devRef .tc main_v175)))
      (gatesHid (V (Proc.devRef .tc main_arg7)) (V (Proc.devRef .tc main_v165))) (V (Proc.devRef .tc main_arg9))

/-- The cell they compute. -/
def cell3 (V : Valuation τ sig (Elt Ideal)) : FVec Ideal S256x128 .f32 := cellNext (gates3 V) (V (Proc.devRef .tc main_v163))

/-- The hidden state they compute. -/
def hid3 (V : Valuation τ sig (Elt Ideal)) : FVec Ideal S256x128 .f32 := hidNext (gates3 V) (cell3 V)

/-- The positions they compute. -/
def pos3 (V : Valuation τ sig (Elt Ideal)) : FVec Ideal S256x2 .f32 :=
  frameAt 4 slices_S8x256x2_S1x256x2_4_0_0 (V (Proc.devRef .tc main_v3))

/-- Where the cell is left. -/
theorem cell3_eq (V : Valuation τ sig (Elt Ideal)) : after hostOps4_2 (after hostOps4_1 (after hostOps4 V)) (Proc.devRef .tc main_v213) = cell3 V := by
  after_reads_simp
  rfl

/-- Where the hidden state is left. -/
theorem hid3_eq (V : Valuation τ sig (Elt Ideal)) : after hostOps4_2 (after hostOps4_1 (after hostOps4 V)) (Proc.devRef .tc main_v215) = hid3 V := by
  after_reads_simp
  rfl

/-- Where the positions are left. -/
theorem pos3_eq (V : Valuation τ sig (Elt Ideal)) : after hostOps4_2 (after hostOps4_1 (after hostOps4 V)) (Proc.devRef .tc main_v217) = pos3 V := by
  after_reads_simp
  rfl

/-- Where the positions' embedding is left. -/
theorem emb3_eq (V : Valuation τ sig (Elt Ideal)) : after hostOps4_2 (after hostOps4_1 (after hostOps4 V)) (Proc.devRef .tc main_v223) = relu (preEmbed (V (Proc.devRef .tc main_arg2)) (V (Proc.devRef .tc main_arg3)) (pos3 V)) := by
  after_reads_simp
  rfl

/-- Where the transposed positions are left. -/
theorem flip3_eq (V : Valuation τ sig (Elt Ideal)) : after hostOps4_2 (after hostOps4_1 (after hostOps4 V)) (Proc.devRef .tc main_v224) = flip (pos3 V) := by
  after_reads_simp
  rfl

end Cert.KernelIdeal.Chain
-- ==== Proof.Launches0.lean ====
module

public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region3
public import proofs.«01_k».proof.Proof.Gathered

/-! The output arrays of launches 0 to 3: each is the pooled grid of the launch's operands. The launches are printed one by one, so each has its
own statement; the loop and the arithmetic are read by the same lemmas. -/

@[expose] public section

set_option maxRecDepth 16384

noncomputable section

namespace Cert.KernelIdeal.Pool

open Cert.KernelIdeal Cert.KernelIdeal.Gen Idealize.ShloMosaic Idealize.ShloMosaic.TcCoe Cert.Cells Idealize.SL Idealize.SL.Sem

/-- What launch 0's body leaves in its output block. -/
theorem body0 (V) (c : Dev nD) (t : Fin cfg0.N) : outsAt0 (F := Ideal) V c t
    = launched (V c main_v0) (V c main_v14) (V c main_v21) (V c main_v8) (V c main_v10) (V c main_v11) (V c main_v12) := by
  unfold outsAt0
  frame_open
  frame_out
  simp only [read_unread_whole]
  have b0 : iblk0 V c 0 t = V c main_v0 :=
    Memref.read_access_unit_zero (Elt Ideal) main_v0 (funext fun _ => Nat.zero_mul _) _ (V c main_v0)
  have b1 : iblk0 V c 1 t = V c main_v14 :=
    Memref.read_access_unit_zero (Elt Ideal) main_v14 (funext fun _ => Nat.zero_mul _) _ (V c main_v14)
  have b2 : iblk0 V c 2 t = V c main_v21 :=
    Memref.read_access_unit_zero (Elt Ideal) main_v21 (funext fun _ => Nat.zero_mul _) _ (V c main_v21)
  have b3 : iblk0 V c 3 t = V c main_v8 :=
    Memref.read_access_unit_zero (Elt Ideal) main_v8 (funext fun _ => Nat.zero_mul _) _ (V c main_v8)
  have b4 : iblk0 V c 4 t = V c main_v10 :=
    Memref.read_access_unit_zero (Elt Ideal) main_v10 (funext fun _ => Nat.zero_mul _) _ (V c main_v10)
  have b5 : iblk0 V c 5 t = V c main_v11 :=
    Memref.read_access_unit_zero (Elt Ideal) main_v11 (funext fun _ => Nat.zero_mul _) _ (V c main_v11)
  have b6 : iblk0 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k0_t1 _ _ _ _ _ _ _ _ _ _ _ _ _ _ _ _ _ _ _ _ _ _ _ _ _ _ _ n) rfl (fun t => ?_) _
  refine (pb_k0_t1_succ _ _ _ _ _ _ _ _ _ _ _ _ _ _ _ _ _ _ _ _ _ _ _ _ _ _ _ t).trans ?_
  rw [dif_pos t.isLt]
  refine congrArg (· ++ _) ?_
  unfold tripL_k0_t1 trip_k0_t1
  rfl

/-- What launch 0 leaves in its output array. -/
theorem out0 (V) (c : Dev nD) : (dat0 (F := Ideal) V c).arrAt 7 cfg0.N
    = launched (V c main_v0) (V c main_v14) (V c main_v21) (V c main_v8) (V c main_v10) (V c main_v11) (V c main_v12) := by
  refine (dat0 V c).arrAt_eq_of_covers 7 _ (by decide +kernel) fun t hf y => ?_
  rw [after0_7, body0]
  have h : (win0_7.blk t).view.emb y = y := funext fun _ => Fin.ext (zero_block _ _)
  generalize launched _ _ _ _ _ _ _ = L
  blk_simp
  exact congrArg L h.symm

/-- What launch 1's body leaves in its output block. -/
theorem body1 (V) (c : Dev nD) (t : Fin cfg1.N) : outsAt1 (F := Ideal) V c t
    = launched (V c main_v65) (V c main_v67) (V c main_v74) (V c main_v8) (V c main_v10) (V c main_v11) (V c main_v12) := by
  unfold outsAt1
  frame_open
  frame_out
  simp only [read_unread_whole]
  have b0 : iblk1 V c 0 t = V c main_v65 :=
    Memref.read_access_unit_zero (Elt Ideal) main_v65 (funext fun _ => Nat.zero_mul _) _ (V c main_v65)
  have b1 : iblk1 V c 1 t = V c main_v67 :=
    Memref.read_access_unit_zero (Elt Ideal) main_v67 (funext fun _ => Nat.zero_mul _) _ (V c main_v67)
  have b2 : iblk1 V c 2 t = V c main_v74 :=
    Memref.read_access_unit_zero (Elt Ideal) main_v74 (funext fun _ => Nat.zero_mul _) _ (V c main_v74)
  have b3 : iblk1 V c 3 t = V c main_v8 :=
    Memref.read_access_unit_zero (Elt Ideal) main_v8 (funext fun _ => Nat.zero_mul _) _ (V c main_v8)
  have b4 : iblk1 V c 4 t = V c main_v10 :=
    Memref.read_access_unit_zero (Elt Ideal) main_v10 (funext fun _ => Nat.zero_mul _) _ (V c main_v10)
  have b5 : iblk1 V c 5 t = V c main_v11 :=
    Memref.read_access_unit_zero (Elt Ideal) main_v11 (funext fun _ => Nat.zero_mul _) _ (V c main_v11)
  have b6 : iblk1 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k1_t1 _ _ _ _ _ _ _ _ _ _ _ _ _ _ _ _ _ _ _ _ _ _ _ _ _ _ _ n) rfl (fun t => ?_) _
  refine (pb_k1_t1_succ _ _ _ _ _ _ _ _ _ _ _ _ _ _ _ _ _ _ _ _ _ _ _ _ _ _ _ t).trans ?_
  rw [dif_pos t.isLt]
  refine congrArg (· ++ _) ?_
  unfold tripL_k1_t1 trip_k1_t1
  rfl

/-- What launch 1 leaves in its output array. -/
theorem out1 (V) (c : Dev nD) : (dat1 (F := Ideal) V c).arrAt 7 cfg1.N
    = launched (V c main_v65) (V c main_v67) (V c main_v74) (V c main_v8) (V c main_v10) (V c main_v11) (V c main_v12) := by
  refine (dat1 V c).arrAt_eq_of_covers 7 _ (by decide +kernel) fun t hf y => ?_
  rw [after1_7, body1]
  have h : (win1_7.blk t).view.emb y = y := funext fun _ => Fin.ext (zero_block _ _)
  generalize launched _ _ _ _ _ _ _ = L
  blk_simp
  exact congrArg L h.symm

/-- What launch 2's body leaves in its output block. -/
theorem body2 (V) (c : Dev nD) (t : Fin cfg2.N) : outsAt2 (F := Ideal) V c t
    = launched (V c main_v115) (V c main_v117) (V c main_v124) (V c main_v8) (V c main_v10) (V c main_v11) (V c main_v12) := by
  unfold outsAt2
  frame_open
  frame_out
  simp only [read_unread_whole]
  have b0 : iblk2 V c 0 t = V c main_v115 :=
    Memref.read_access_unit_zero (Elt Ideal) main_v115 (funext fun _ => Nat.zero_mul _) _ (V c main_v115)
  have b1 : iblk2 V c 1 t = V c main_v117 :=
    Memref.read_access_unit_zero (Elt Ideal) main_v117 (funext fun _ => Nat.zero_mul _) _ (V c main_v117)
  have b2 : iblk2 V c 2 t = V c main_v124 :=
    Memref.read_access_unit_zero (Elt Ideal) main_v124 (funext fun _ => Nat.zero_mul _) _ (V c main_v124)
  have b3 : iblk2 V c 3 t = V c main_v8 :=
    Memref.read_access_unit_zero (Elt Ideal) main_v8 (funext fun _ => Nat.zero_mul _) _ (V c main_v8)
  have b4 : iblk2 V c 4 t = V c main_v10 :=
    Memref.read_access_unit_zero (Elt Ideal) main_v10 (funext fun _ => Nat.zero_mul _) _ (V c main_v10)
  have b5 : iblk2 V c 5 t = V c main_v11 :=
    Memref.read_access_unit_zero (Elt Ideal) main_v11 (funext fun _ => Nat.zero_mul _) _ (V c main_v11)
  have b6 : iblk2 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k2_t1 _ _ _ _ _ _ _ _ _ _ _ _ _ _ _ _ _ _ _ _ _ _ _ _ _ _ _ n) rfl (fun t => ?_) _
  refine (pb_k2_t1_succ _ _ _ _ _ _ _ _ _ _ _ _ _ _ _ _ _ _ _ _ _ _ _ _ _ _ _ t).trans ?_
  rw [dif_pos t.isLt]
  refine congrArg (· ++ _) ?_
  unfold tripL_k2_t1 trip_k2_t1
  rfl

/-- What launch 2 leaves in its output array. -/
theorem out2 (V) (c : Dev nD) : (dat2 (F := Ideal) V c).arrAt 7 cfg2.N
    = launched (V c main_v115) (V c main_v117) (V c main_v124) (V c main_v8) (V c main_v10) (V c main_v11) (V c main_v12) := by
  refine (dat2 V c).arrAt_eq_of_covers 7 _ (by decide +kernel) fun t hf y => ?_
  rw [after2_7, body2]
  have h : (win2_7.blk t).view.emb y = y := funext fun _ => Fin.ext (zero_block _ _)
  generalize launched _ _ _ _ _ _ _ = L
  blk_simp
  exact congrArg L h.symm

/-- What launch 3's body leaves in its output block. -/
theorem body3 (V) (c : Dev nD) (t : Fin cfg3.N) : outsAt3 (F := Ideal) V c t
    = launched (V c main_v165) (V c main_v167) (V c main_v174) (V c main_v8) (V c main_v10) (V c main_v11) (V c main_v12) := by
  unfold outsAt3
  frame_open
  frame_out
  simp only [read_unread_whole]
  have b0 : iblk3 V c 0 t = V c main_v165 :=
    Memref.read_access_unit_zero (Elt Ideal) main_v165 (funext fun _ => Nat.zero_mul _) _ (V c main_v165)
  have b1 : iblk3 V c 1 t = V c main_v167 :=
    Memref.read_access_unit_zero (Elt Ideal) main_v167 (funext fun _ => Nat.zero_mul _) _ (V c main_v167)
  have b2 : iblk3 V c 2 t = V c main_v174 :=
    Memref.read_access_unit_zero (Elt Ideal) main_v174 (funext fun _ => Nat.zero_mul _) _ (V c main_v174)
  have b3 : iblk3 V c 3 t = V c main_v8 :=
    Memref.read_access_unit_zero (Elt Ideal) main_v8 (funext fun _ => Nat.zero_mul _) _ (V c main_v8)
  have b4 : iblk3 V c 4 t = V c main_v10 :=
    Memref.read_access_unit_zero (Elt Ideal) main_v10 (funext fun _ => Nat.zero_mul _) _ (V c main_v10)
  have b5 : iblk3 V c 5 t = V c main_v11 :=
    Memref.read_access_unit_zero (Elt Ideal) main_v11 (funext fun _ => Nat.zero_mul _) _ (V c main_v11)
  have b6 : iblk3 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k3_t1 _ _ _ _ _ _ _ _ _ _ _ _ _ _ _ _ _ _ _ _ _ _ _ _ _ _ _ n) rfl (fun t => ?_) _
  refine (pb_k3_t1_succ _ _ _ _ _ _ _ _ _ _ _ _ _ _ _ _ _ _ _ _ _ _ _ _ _ _ _ t).trans ?_
  rw [dif_pos t.isLt]
  refine congrArg (· ++ _) ?_
  unfold tripL_k3_t1 trip_k3_t1
  rfl

/-- What launch 3 leaves in its output array. -/
theorem out3 (V) (c : Dev nD) : (dat3 (F := Ideal) V c).arrAt 7 cfg3.N
    = launched (V c main_v165) (V c main_v167) (V c main_v174) (V c main_v8) (V c main_v10) (V c main_v11) (V c main_v12) := by
  refine (dat3 V c).arrAt_eq_of_covers 7 _ (by decide +kernel) fun t hf y => ?_
  rw [after3_7, body3]
  have h : (win3_7.blk t).view.emb y = y := funext fun _ => Fin.ext (zero_block _ _)
  generalize launched _ _ _ _ _ _ _ = L
  blk_simp
  exact congrArg L h.symm

end Cert.KernelIdeal.Pool
-- ==== Proof.Results.lean ====
module

public import proofs.«01_k».proof.Proof.Steps

/-! The three results, from the states of all the steps. -/

@[expose] public section

set_option maxRecDepth 16384

noncomputable section

namespace Cert.Steps

open Cert.ReferenceIdeal Cert.ReferenceIdeal.Gen Idealize.ShloMosaic

/-- Twelve frames one after the other. -/
def stack (a0 a1 a2 a3 a4 a5 a6 a7 a8 a9 a10 a11 : FVec Ideal S256x2 .f32) : FVec Ideal S12x256x2 .f32 :=
  concatenate S12x256x2 0 [⟨S1x256x2, (broadcastInDim S1x256x2 ![1, 2] bcast_S256x2_S1x256x2_1_2 a0 : FVec Ideal S1x256x2 .f32)⟩, ⟨S1x256x2, (broadcastInDim S1x256x2 ![1, 2] bcast_S256x2_S1x256x2_1_2 a1 : FVec Ideal S1x256x2 .f32)⟩, ⟨S1x256x2, (broadcastInDim S1x256x2 ![1, 2] bcast_S256x2_S1x256x2_1_2 a2 : FVec Ideal S1x256x2 .f32)⟩, ⟨S1x256x2, (broadcastInDim S1x256x2 ![1, 2] bcast_S256x2_S1x256x2_1_2 a3 : FVec Ideal S1x256x2 .f32)⟩, ⟨S1x256x2, (broadcastInDim S1x256x2 ![1, 2] bcast_S256x2_S1x256x2_1_2 a4 : FVec Ideal S1x256x2 .f32)⟩, ⟨S1x256x2, (broadcastInDim S1x256x2 ![1, 2] bcast_S256x2_S1x256x2_1_2 a5 : FVec Ideal S1x256x2 .f32)⟩, ⟨S1x256x2, (broadcastInDim S1x256x2 ![1, 2] bcast_S256x2_S1x256x2_1_2 a6 : FVec Ideal S1x256x2 .f32)⟩, ⟨S1x256x2, (broadcastInDim S1x256x2 ![1, 2] bcast_S256x2_S1x256x2_1_2 a7 : FVec Ideal S1x256x2 .f32)⟩, ⟨S1x256x2, (broadcastInDim S1x256x2 ![1, 2] bcast_S256x2_S1x256x2_1_2 a8 : FVec Ideal S1x256x2 .f32)⟩, ⟨S1x256x2, (broadcastInDim S1x256x2 ![1, 2] bcast_S256x2_S1x256x2_1_2 a9 : FVec Ideal S1x256x2 .f32)⟩, ⟨S1x256x2, (broadcastInDim S1x256x2 ![1, 2] bcast_S256x2_S1x256x2_1_2 a10 : FVec Ideal S1x256x2 .f32)⟩, ⟨S1x256x2, (broadcastInDim S1x256x2 ![1, 2] bcast_S256x2_S1x256x2_1_2 a11 : FVec Ideal S1x256x2 .f32)⟩]
    concatenates_S1x256x2_S1x256x2_S1x256x2_S1x256x2_S1x256x2_S1x256x2_S1x256x2_S1x256x2_S1x256x2_S1x256x2_S1x256x2_S1x256x2_S12x256x2_d0

/-- Twelve rows one after the other. -/
def stackRows (a0 a1 a2 a3 a4 a5 a6 a7 a8 a9 a10 a11 : FVec Ideal S256 .f32) : FVec Ideal S12x256 .f32 :=
  concatenate S12x256 0 [⟨S1x256, (broadcastInDim S1x256 ![1] bcast_S256_S1x256_1 a0 : FVec Ideal S1x256 .f32)⟩, ⟨S1x256, (broadcastInDim S1x256 ![1] bcast_S256_S1x256_1 a1 : FVec Ideal S1x256 .f32)⟩, ⟨S1x256, (broadcastInDim S1x256 ![1] bcast_S256_S1x256_1 a2 : FVec Ideal S1x256 .f32)⟩, ⟨S1x256, (broadcastInDim S1x256 ![1] bcast_S256_S1x256_1 a3 : FVec Ideal S1x256 .f32)⟩, ⟨S1x256, (broadcastInDim S1x256 ![1] bcast_S256_S1x256_1 a4 : FVec Ideal S1x256 .f32)⟩, ⟨S1x256, (broadcastInDim S1x256 ![1] bcast_S256_S1x256_1 a5 : FVec Ideal S1x256 .f32)⟩, ⟨S1x256, (broadcastInDim S1x256 ![1] bcast_S256_S1x256_1 a6 : FVec Ideal S1x256 .f32)⟩, ⟨S1x256, (broadcastInDim S1x256 ![1] bcast_S256_S1x256_1 a7 : FVec Ideal S1x256 .f32)⟩, ⟨S1x256, (broadcastInDim S1x256 ![1] bcast_S256_S1x256_1 a8 : FVec Ideal S1x256 .f32)⟩, ⟨S1x256, (broadcastInDim S1x256 ![1] bcast_S256_S1x256_1 a9 : FVec Ideal S1x256 .f32)⟩, ⟨S1x256, (broadcastInDim S1x256 ![1] bcast_S256_S1x256_1 a10 : FVec Ideal S1x256 .f32)⟩, ⟨S1x256, (broadcastInDim S1x256 ![1] bcast_S256_S1x256_1 a11 : FVec Ideal S1x256 .f32)⟩]
    concatenates_S1x256_S1x256_S1x256_S1x256_S1x256_S1x256_S1x256_S1x256_S1x256_S1x256_S1x256_S1x256_S12x256_d0

/-- What is read out of the state step `n` starts from. -/
def outOf (A : Args) (n : ℕ) : FVec Ideal S256x5 .f32 := readOut A.wOut A.bOut (state A n).hid

/-- The first result: the predicted positions. -/
def mus (A : Args) : FVec Ideal S12x256x2 .f32 :=
  stack (state A 9).pos (state A 10).pos (state A 11).pos (state A 12).pos (state A 13).pos (state A 14).pos (state A 15).pos (state A 16).pos (state A 17).pos (state A 18).pos (state A 19).pos (state A 20).pos

/-- The second result: their spreads. -/
def sigmas (A : Args) : FVec Ideal S12x256x2 .f32 :=
  stack (spread (outOf A 9)) (spread (outOf A 10)) (spread (outOf A 11)) (spread (outOf A 12)) (spread (outOf A 13)) (spread (outOf A 14)) (spread (outOf A 15)) (spread (outOf A 16)) (spread (outOf A 17)) (spread (outOf A 18)) (spread (outOf A 19)) (spread (outOf A 20))

/-- The third result: their correlations. -/
def rhos (A : Args) : FVec Ideal S12x256 .f32 :=
  stackRows (corr (outOf A 9)) (corr (outOf A 10)) (corr (outOf A 11)) (corr (outOf A 12)) (corr (outOf A 13)) (corr (outOf A 14)) (corr (outOf A 15)) (corr (outOf A 16)) (corr (outOf A 17)) (corr (outOf A 18)) (corr (outOf A 19)) (corr (outOf A 20))

end Cert.Steps
-- ==== Proof.Walk0.lean ====
module

public import proofs.«01_k».proof.Proof.Start
public import proofs.«01_k».proof.Proof.Stretch0
public import proofs.«01_k».proof.Proof.Launches0
public import proofs.«01_k».proof.Proof.Results

/-! The run from launch 0 through launch 3: each launch starts from the arrays of its state and the host operations after it leave those of the
next one. -/

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

variable (m : (ℓ : Loc nD τ sig) → Buf (Elt Ideal) ℓ) (ρ : Dev nD → PrngReg) (c : Dev nD)

/-- Launch 0 leaves the fixed arrays alone. -/
theorem fixedOut0 : Fixed (argsOf m c) (W6 m ρ c) :=
  (fixed0 m ρ c).of_eq fun r hr => W6_of m ρ c r ((ListAll.forall_mem_of_all_decide (by decide +kernel) :
    ∀ r ∈ fixedRefs, ∀ w : Fin cfg0.W, Pipeline.arrRef spec0 w = r → (cfg0.win w).isOut = false) r hr)

/-- What launch 0 leaves alone of the state it starts from. -/
theorem kept0 : ∀ r ∈ [main_v0, main_v1, main_v14, main_v20], W6 m ρ c (Proc.devRef .tc r) = W5 m ρ c (Proc.devRef .tc r) := fun r hr =>
  W6_of m ρ c r ((ListAll.forall_mem_of_all_decide (by decide +kernel) :
    ∀ r ∈ [main_v0, main_v1, main_v14, main_v20], ∀ w : Fin cfg0.W, Pipeline.arrRef spec0 w = r → (cfg0.win w).isOut = false) r hr)

/-- Launch 0 pools its state. -/
theorem pooled0 : W6 m ρ c (Proc.devRef .tc main_v22)
    = ReferenceIdeal.Pool.social (argsOf m c).mask (state (argsOf m c) 0).pos (state (argsOf m c) 0).hid (argsOf m c).wPool (argsOf m c).bPool :=
  (W6_arr m ρ c 7).trans ((Pool.out0 (V5 m ρ) c).trans ((entry0 m ρ c).pooled (fixed0 m ρ c)))

/-- The gates after launch 0 are the state's. -/
theorem gates0_state : gates0 (W6 m ρ c) = gatesOf (argsOf m c) (state (argsOf m c) 0) := by
  have F := fixedOut0 m ρ c
  have H := entry0 m ρ c
  unfold gates0 gatesOf
  rw [F.wIn, F.bIn, F.wHid, F.bHid, (kept0 m ρ c main_v20 (by decide)).trans H.emb, pooled0]
  rfl

/-- The hidden state after launch 0 is the next state's. -/
theorem hid0_state : hid0 (W6 m ρ c) = (state (argsOf m c) (0 + 1)).hid := by
  unfold hid0 cell0
  rw [gates0_state, (kept0 m ρ c main_v1 (by decide)).trans (entry0 m ρ c).cell]
  rfl

/-- The positions after launch 0 are the next state's. -/
theorem pos0_state : pos0 (W6 m ρ c) = posOf (argsOf m c) (state (argsOf m c) 0) 0 := by
  have F := fixedOut0 m ρ c
  unfold pos0
  rw [F.clean]
  rfl

/-- The fixed arrays as launch 1 finds them. -/
theorem fixed1 : Fixed (argsOf m c) (W9 m ρ c) :=
  (fixedOut0 m ρ c).of_eq fun r hr =>
    (W9_of m ρ c r ((ListAll.forall_mem_of_all_decide (by decide +kernel) : ∀ r ∈ fixedRefs, r ∉ hostOps1_2_W) r hr)).trans
    ((W8_of m ρ c r ((ListAll.forall_mem_of_all_decide (by decide +kernel) : ∀ r ∈ fixedRefs, r ∉ hostOps1_1_W) r hr)).trans
    (W7_of m ρ c r ((ListAll.forall_mem_of_all_decide (by decide +kernel) : ∀ r ∈ fixedRefs, r ∉ hostOps1_W) r hr)))

/-- Launch 1 starts from the next state. -/
theorem entry1 : Holds (argsOf m c) (state (argsOf m c) 1) (W9 m ρ c (Proc.devRef .tc main_v65)) (W9 m ρ c (Proc.devRef .tc main_v63)) (W9 m ρ c (Proc.devRef .tc main_v67))
    (W9 m ρ c (Proc.devRef .tc main_v73)) (W9 m ρ c (Proc.devRef .tc main_v74)) := by
  have F := fixedOut0 m ρ c
  exact Holds.next (n := 0) (gates0_state m ρ c) ((kept0 m ρ c main_v1 (by decide)).trans (entry0 m ρ c).cell) (cell0_eq _)
    ((hid0_eq _).trans (congrArg (hidNext _) (cell0_eq _).symm)) ((pos0_eq _).trans (pos0_state m ρ c))
    ((emb0_eq _).trans (by rw [F.wEmbed, F.bEmbed]; exact congrArg _ (congrArg _ (pos0_eq _).symm)))
    ((flip0_eq _).trans (congrArg flip (pos0_eq _).symm))

/-- Launch 1 leaves the fixed arrays alone. -/
theorem fixedOut1 : Fixed (argsOf m c) (W10 m ρ c) :=
  (fixed1 m ρ c).of_eq fun r hr => W10_of m ρ c r ((ListAll.forall_mem_of_all_decide (by decide +kernel) :
    ∀ r ∈ fixedRefs, ∀ w : Fin cfg1.W, Pipeline.arrRef spec1 w = r → (cfg1.win w).isOut = false) r hr)

/-- What launch 1 leaves alone of the state it starts from. -/
theorem kept1 : ∀ r ∈ [main_v65, main_v63, main_v67, main_v73], W10 m ρ c (Proc.devRef .tc r) = W9 m ρ c (Proc.devRef .tc r) := fun r hr =>
  W10_of m ρ c r ((ListAll.forall_mem_of_all_decide (by decide +kernel) :
    ∀ r ∈ [main_v65, main_v63, main_v67, main_v73], ∀ w : Fin cfg1.W, Pipeline.arrRef spec1 w = r → (cfg1.win w).isOut = false) r hr)

/-- Launch 1 pools its state. -/
theorem pooled1 : W10 m ρ c (Proc.devRef .tc main_v75)
    = ReferenceIdeal.Pool.social (argsOf m c).mask (state (argsOf m c) 1).pos (state (argsOf m c) 1).hid (argsOf m c).wPool (argsOf m c).bPool :=
  (W10_arr m ρ c 7).trans ((Pool.out1 (V9 m ρ) c).trans ((entry1 m ρ c).pooled (fixed1 m ρ c)))

/-- The gates after launch 1 are the state's. -/
theorem gates1_state : gates1 (W10 m ρ c) = gatesOf (argsOf m c) (state (argsOf m c) 1) := by
  have F := fixedOut1 m ρ c
  have H := entry1 m ρ c
  unfold gates1 gatesOf
  rw [F.wIn, F.bIn, F.wHid, F.bHid, (kept1 m ρ c main_v73 (by decide)).trans H.emb, pooled1, (kept1 m ρ c main_v65 (by decide)).trans H.hid]

/-- The hidden state after launch 1 is the next state's. -/
theorem hid1_state : hid1 (W10 m ρ c) = (state (argsOf m c) (1 + 1)).hid := by
  unfold hid1 cell1
  rw [gates1_state, (kept1 m ρ c main_v63 (by decide)).trans (entry1 m ρ c).cell]
  rfl

/-- The positions after launch 1 are the next state's. -/
theorem pos1_state : pos1 (W10 m ρ c) = posOf (argsOf m c) (state (argsOf m c) 1) 1 := by
  have F := fixedOut1 m ρ c
  unfold pos1
  rw [F.clean]
  rfl

/-- The fixed arrays as launch 2 finds them. -/
theorem fixed2 : Fixed (argsOf m c) (W13 m ρ c) :=
  (fixedOut1 m ρ c).of_eq fun r hr =>
    (W13_of m ρ c r ((ListAll.forall_mem_of_all_decide (by decide +kernel) : ∀ r ∈ fixedRefs, r ∉ hostOps2_2_W) r hr)).trans
    ((W12_of m ρ c r ((ListAll.forall_mem_of_all_decide (by decide +kernel) : ∀ r ∈ fixedRefs, r ∉ hostOps2_1_W) r hr)).trans
    (W11_of m ρ c r ((ListAll.forall_mem_of_all_decide (by decide +kernel) : ∀ r ∈ fixedRefs, r ∉ hostOps2_W) r hr)))

/-- Launch 2 starts from the next state. -/
theorem entry2 : Holds (argsOf m c) (state (argsOf m c) 2) (W13 m ρ c (Proc.devRef .tc main_v115)) (W13 m ρ c (Proc.devRef .tc main_v113)) (W13 m ρ c (Proc.devRef .tc main_v117))
    (W13 m ρ c (Proc.devRef .tc main_v123)) (W13 m ρ c (Proc.devRef .tc main_v124)) := by
  have F := fixedOut1 m ρ c
  exact Holds.next (n := 1) (gates1_state m ρ c) ((kept1 m ρ c main_v63 (by decide)).trans (entry1 m ρ c).cell) (cell1_eq _)
    ((hid1_eq _).trans (congrArg (hidNext _) (cell1_eq _).symm)) ((pos1_eq _).trans (pos1_state m ρ c))
    ((emb1_eq _).trans (by rw [F.wEmbed, F.bEmbed]; exact congrArg _ (congrArg _ (pos1_eq _).symm)))
    ((flip1_eq _).trans (congrArg flip (pos1_eq _).symm))

/-- Launch 2 leaves the fixed arrays alone. -/
theorem fixedOut2 : Fixed (argsOf m c) (W14 m ρ c) :=
  (fixed2 m ρ c).of_eq fun r hr => W14_of m ρ c r ((ListAll.forall_mem_of_all_decide (by decide +kernel) :
    ∀ r ∈ fixedRefs, ∀ w : Fin cfg2.W, Pipeline.arrRef spec2 w = r → (cfg2.win w).isOut = false) r hr)

/-- What launch 2 leaves alone of the state it starts from. -/
theorem kept2 : ∀ r ∈ [main_v115, main_v113, main_v117, main_v123], W14 m ρ c (Proc.devRef .tc r) = W13 m ρ c (Proc.devRef .tc r) := fun r hr =>
  W14_of m ρ c r ((ListAll.forall_mem_of_all_decide (by decide +kernel) :
    ∀ r ∈ [main_v115, main_v113, main_v117, main_v123], ∀ w : Fin cfg2.W, Pipeline.arrRef spec2 w = r → (cfg2.win w).isOut = false) r hr)

/-- Launch 2 pools its state. -/
theorem pooled2 : W14 m ρ c (Proc.devRef .tc main_v125)
    = ReferenceIdeal.Pool.social (argsOf m c).mask (state (argsOf m c) 2).pos (state (argsOf m c) 2).hid (argsOf m c).wPool (argsOf m c).bPool :=
  (W14_arr m ρ c 7).trans ((Pool.out2 (V13 m ρ) c).trans ((entry2 m ρ c).pooled (fixed2 m ρ c)))

/-- The gates after launch 2 are the state's. -/
theorem gates2_state : gates2 (W14 m ρ c) = gatesOf (argsOf m c) (state (argsOf m c) 2) := by
  have F := fixedOut2 m ρ c
  have H := entry2 m ρ c
  unfold gates2 gatesOf
  rw [F.wIn, F.bIn, F.wHid, F.bHid, (kept2 m ρ c main_v123 (by decide)).trans H.emb, pooled2, (kept2 m ρ c main_v115 (by decide)).trans H.hid]

/-- The hidden state after launch 2 is the next state's. -/
theorem hid2_state : hid2 (W14 m ρ c) = (state (argsOf m c) (2 + 1)).hid := by
  unfold hid2 cell2
  rw [gates2_state, (kept2 m ρ c main_v113 (by decide)).trans (entry2 m ρ c).cell]
  rfl

/-- The positions after launch 2 are the next state's. -/
theorem pos2_state : pos2 (W14 m ρ c) = posOf (argsOf m c) (state (argsOf m c) 2) 2 := by
  have F := fixedOut2 m ρ c
  unfold pos2
  rw [F.clean]
  rfl

/-- The fixed arrays as launch 3 finds them. -/
theorem fixed3 : Fixed (argsOf m c) (W17 m ρ c) :=
  (fixedOut2 m ρ c).of_eq fun r hr =>
    (W17_of m ρ c r ((ListAll.forall_mem_of_all_decide (by decide +kernel) : ∀ r ∈ fixedRefs, r ∉ hostOps3_2_W) r hr)).trans
    ((W16_of m ρ c r ((ListAll.forall_mem_of_all_decide (by decide +kernel) : ∀ r ∈ fixedRefs, r ∉ hostOps3_1_W) r hr)).trans
    (W15_of m ρ c r ((ListAll.forall_mem_of_all_decide (by decide +kernel) : ∀ r ∈ fixedRefs, r ∉ hostOps3_W) r hr)))

/-- Launch 3 starts from the next state. -/
theorem entry3 : Holds (argsOf m c) (state (argsOf m c) 3) (W17 m ρ c (Proc.devRef .tc main_v165)) (W17 m ρ c (Proc.devRef .tc main_v163)) (W17 m ρ c (Proc.devRef .tc main_v167))
    (W17 m ρ c (Proc.devRef .tc main_v173)) (W17 m ρ c (Proc.devRef .tc main_v174)) := by
  have F := fixedOut2 m ρ c
  exact Holds.next (n := 2) (gates2_state m ρ c) ((kept2 m ρ c main_v113 (by decide)).trans (entry2 m ρ c).cell) (cell2_eq _)
    ((hid2_eq _).trans (congrArg (hidNext _) (cell2_eq _).symm)) ((pos2_eq _).trans (pos2_state m ρ c))
    ((emb2_eq _).trans (by rw [F.wEmbed, F.bEmbed]; exact congrArg _ (congrArg _ (pos2_eq _).symm)))
    ((flip2_eq _).trans (congrArg flip (pos2_eq _).symm))

/-- Launch 3 leaves the fixed arrays alone. -/
theorem fixedOut3 : Fixed (argsOf m c) (W18 m ρ c) :=
  (fixed3 m ρ c).of_eq fun r hr => W18_of m ρ c r ((ListAll.forall_mem_of_all_decide (by decide +kernel) :
    ∀ r ∈ fixedRefs, ∀ w : Fin cfg3.W, Pipeline.arrRef spec3 w = r → (cfg3.win w).isOut = false) r hr)

/-- What launch 3 leaves alone of the state it starts from. -/
theorem kept3 : ∀ r ∈ [main_v165, main_v163, main_v167, main_v173], W18 m ρ c (Proc.devRef .tc r) = W17 m ρ c (Proc.devRef .tc r) := fun r hr =>
  W18_of m ρ c r ((ListAll.forall_mem_of_all_decide (by decide +kernel) :
    ∀ r ∈ [main_v165, main_v163, main_v167, main_v173], ∀ w : Fin cfg3.W, Pipeline.arrRef spec3 w = r → (cfg3.win w).isOut = false) r hr)

/-- Launch 3 pools its state. -/
theorem pooled3 : W18 m ρ c (Proc.devRef .tc main_v175)
    = ReferenceIdeal.Pool.social (argsOf m c).mask (state (argsOf m c) 3).pos (state (argsOf m c) 3).hid (argsOf m c).wPool (argsOf m c).bPool :=
  (W18_arr m ρ c 7).trans ((Pool.out3 (V17 m ρ) c).trans ((entry3 m ρ c).pooled (fixed3 m ρ c)))

/-- The gates after launch 3 are the state's. -/
theorem gates3_state : gates3 (W18 m ρ c) = gatesOf (argsOf m c) (state (argsOf m c) 3) := by
  have F := fixedOut3 m ρ c
  have H := entry3 m ρ c
  unfold gates3 gatesOf
  rw [F.wIn, F.bIn, F.wHid, F.bHid, (kept3 m ρ c main_v173 (by decide)).trans H.emb, pooled3, (kept3 m ρ c main_v165 (by decide)).trans H.hid]

/-- The hidden state after launch 3 is the next state's. -/
theorem hid3_state : hid3 (W18 m ρ c) = (state (argsOf m c) (3 + 1)).hid := by
  unfold hid3 cell3
  rw [gates3_state, (kept3 m ρ c main_v163 (by decide)).trans (entry3 m ρ c).cell]
  rfl

/-- The positions after launch 3 are the next state's. -/
theorem pos3_state : pos3 (W18 m ρ c) = posOf (argsOf m c) (state (argsOf m c) 3) 3 := by
  have F := fixedOut3 m ρ c
  unfold pos3
  rw [F.clean]
  rfl

/-- The fixed arrays as launch 4 finds them. -/
theorem fixed4 : Fixed (argsOf m c) (W21 m ρ c) :=
  (fixedOut3 m ρ c).of_eq fun r hr =>
    (W21_of m ρ c r ((ListAll.forall_mem_of_all_decide (by decide +kernel) : ∀ r ∈ fixedRefs, r ∉ hostOps4_2_W) r hr)).trans
    ((W20_of m ρ c r ((ListAll.forall_mem_of_all_decide (by decide +kernel) : ∀ r ∈ fixedRefs, r ∉ hostOps4_1_W) r hr)).trans
    (W19_of m ρ c r ((ListAll.forall_mem_of_all_decide (by decide +kernel) : ∀ r ∈ fixedRefs, r ∉ hostOps4_W) r hr)))

/-- Launch 4 starts from the next state. -/
theorem entry4 : Holds (argsOf m c) (state (argsOf m c) 4) (W21 m ρ c (Proc.devRef .tc main_v215)) (W21 m ρ c (Proc.devRef .tc main_v213)) (W21 m ρ c (Proc.devRef .tc main_v217))
    (W21 m ρ c (Proc.devRef .tc main_v223)) (W21 m ρ c (Proc.devRef .tc main_v224)) := by
  have F := fixedOut3 m ρ c
  exact Holds.next (n := 3) (gates3_state m ρ c) ((kept3 m ρ c main_v163 (by decide)).trans (entry3 m ρ c).cell) (cell3_eq _)
    ((hid3_eq _).trans (congrArg (hidNext _) (cell3_eq _).symm)) ((pos3_eq _).trans (pos3_state m ρ c))
    ((emb3_eq _).trans (by rw [F.wEmbed, F.bEmbed]; exact congrArg _ (congrArg _ (pos3_eq _).symm)))
    ((flip3_eq _).trans (congrArg flip (pos3_eq _).symm))

end Cert.KernelIdeal.Chain
-- ==== Proof.Stretch1.lean ====
module

public import proofs.«01_k».proof.Proof.Chain
public import Idealize.ShloMosaic.Lib.StableHlo.RunRead

/-! The host operations after launches 4 to 7, read back: each array they leave as a step function of the contents they start from. The
operations are printed launch by launch over arrays of their own, so each launch has its own statements. -/

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

/-- The gates the host operations after launch 4 compute, from the contents they start from. -/
def gates4 (V : Valuation τ sig (Elt Ideal)) : FVec Ideal S256x512 .f32 :=
  gates (gatesIn (V (Proc.devRef .tc main_arg6)) (V (Proc.devRef .tc main_arg8)) (V (Proc.devRef .tc main_v223)) (V (Proc.devRef .tc main_v225)))
      (gatesHid (V (Proc.devRef .tc main_arg7)) (V (Proc.devRef .tc main_v215))) (V (Proc.devRef .tc main_arg9))

/-- The cell they compute. -/
def cell4 (V : Valuation τ sig (Elt Ideal)) : FVec Ideal S256x128 .f32 := cellNext (gates4 V) (V (Proc.devRef .tc main_v213))

/-- The hidden state they compute. -/
def hid4 (V : Valuation τ sig (Elt Ideal)) : FVec Ideal S256x128 .f32 := hidNext (gates4 V) (cell4 V)

/-- The positions they compute. -/
def pos4 (V : Valuation τ sig (Elt Ideal)) : FVec Ideal S256x2 .f32 :=
  frameAt 5 slices_S8x256x2_S1x256x2_5_0_0 (V (Proc.devRef .tc main_v3))

/-- Where the cell is left. -/
theorem cell4_eq (V : Valuation τ sig (Elt Ideal)) : after hostOps5_2 (after hostOps5_1 (after hostOps5 V)) (Proc.devRef .tc main_v263) = cell4 V := by
  after_reads_simp
  rfl

/-- Where the hidden state is left. -/
theorem hid4_eq (V : Valuation τ sig (Elt Ideal)) : after hostOps5_2 (after hostOps5_1 (after hostOps5 V)) (Proc.devRef .tc main_v265) = hid4 V := by
  after_reads_simp
  rfl

/-- Where the positions are left. -/
theorem pos4_eq (V : Valuation τ sig (Elt Ideal)) : after hostOps5_2 (after hostOps5_1 (after hostOps5 V)) (Proc.devRef .tc main_v267) = pos4 V := by
  after_reads_simp
  rfl

/-- Where the positions' embedding is left. -/
theorem emb4_eq (V : Valuation τ sig (Elt Ideal)) : after hostOps5_2 (after hostOps5_1 (after hostOps5 V)) (Proc.devRef .tc main_v273) = relu (preEmbed (V (Proc.devRef .tc main_arg2)) (V (Proc.devRef .tc main_arg3)) (pos4 V)) := by
  after_reads_simp
  rfl

/-- Where the transposed positions are left. -/
theorem flip4_eq (V : Valuation τ sig (Elt Ideal)) : after hostOps5_2 (after hostOps5_1 (after hostOps5 V)) (Proc.devRef .tc main_v274) = flip (pos4 V) := by
  after_reads_simp
  rfl

/-- The gates the host operations after launch 5 compute, from the contents they start from. -/
def gates5 (V : Valuation τ sig (Elt Ideal)) : FVec Ideal S256x512 .f32 :=
  gates (gatesIn (V (Proc.devRef .tc main_arg6)) (V (Proc.devRef .tc main_arg8)) (V (Proc.devRef .tc main_v273)) (V (Proc.devRef .tc main_v275)))
      (gatesHid (V (Proc.devRef .tc main_arg7)) (V (Proc.devRef .tc main_v265))) (V (Proc.devRef .tc main_arg9))

/-- The cell they compute. -/
def cell5 (V : Valuation τ sig (Elt Ideal)) : FVec Ideal S256x128 .f32 := cellNext (gates5 V) (V (Proc.devRef .tc main_v263))

/-- The hidden state they compute. -/
def hid5 (V : Valuation τ sig (Elt Ideal)) : FVec Ideal S256x128 .f32 := hidNext (gates5 V) (cell5 V)

/-- The positions they compute. -/
def pos5 (V : Valuation τ sig (Elt Ideal)) : FVec Ideal S256x2 .f32 :=
  frameAt 6 slices_S8x256x2_S1x256x2_6_0_0 (V (Proc.devRef .tc main_v3))

/-- Where the cell is left. -/
theorem cell5_eq (V : Valuation τ sig (Elt Ideal)) : after hostOps6_2 (after hostOps6_1 (after hostOps6 V)) (Proc.devRef .tc main_v313) = cell5 V := by
  after_reads_simp
  rfl

/-- Where the hidden state is left. -/
theorem hid5_eq (V : Valuation τ sig (Elt Ideal)) : after hostOps6_2 (after hostOps6_1 (after hostOps6 V)) (Proc.devRef .tc main_v315) = hid5 V := by
  after_reads_simp
  rfl

/-- Where the positions are left. -/
theorem pos5_eq (V : Valuation τ sig (Elt Ideal)) : after hostOps6_2 (after hostOps6_1 (after hostOps6 V)) (Proc.devRef .tc main_v317) = pos5 V := by
  after_reads_simp
  rfl

/-- Where the positions' embedding is left. -/
theorem emb5_eq (V : Valuation τ sig (Elt Ideal)) : after hostOps6_2 (after hostOps6_1 (after hostOps6 V)) (Proc.devRef .tc main_v323) = relu (preEmbed (V (Proc.devRef .tc main_arg2)) (V (Proc.devRef .tc main_arg3)) (pos5 V)) := by
  after_reads_simp
  rfl

/-- Where the transposed positions are left. -/
theorem flip5_eq (V : Valuation τ sig (Elt Ideal)) : after hostOps6_2 (after hostOps6_1 (after hostOps6 V)) (Proc.devRef .tc main_v324) = flip (pos5 V) := by
  after_reads_simp
  rfl

/-- The gates the host operations after launch 6 compute, from the contents they start from. -/
def gates6 (V : Valuation τ sig (Elt Ideal)) : FVec Ideal S256x512 .f32 :=
  gates (gatesIn (V (Proc.devRef .tc main_arg6)) (V (Proc.devRef .tc main_arg8)) (V (Proc.devRef .tc main_v323)) (V (Proc.devRef .tc main_v325)))
      (gatesHid (V (Proc.devRef .tc main_arg7)) (V (Proc.devRef .tc main_v315))) (V (Proc.devRef .tc main_arg9))

/-- The cell they compute. -/
def cell6 (V : Valuation τ sig (Elt Ideal)) : FVec Ideal S256x128 .f32 := cellNext (gates6 V) (V (Proc.devRef .tc main_v313))

/-- The hidden state they compute. -/
def hid6 (V : Valuation τ sig (Elt Ideal)) : FVec Ideal S256x128 .f32 := hidNext (gates6 V) (cell6 V)

/-- The positions they compute. -/
def pos6 (V : Valuation τ sig (Elt Ideal)) : FVec Ideal S256x2 .f32 :=
  frameAt 7 slices_S8x256x2_S1x256x2_7_0_0 (V (Proc.devRef .tc main_v3))

/-- Where the cell is left. -/
theorem cell6_eq (V : Valuation τ sig (Elt Ideal)) : after hostOps7_2 (after hostOps7_1 (after hostOps7 V)) (Proc.devRef .tc main_v363) = cell6 V := by
  after_reads_simp
  rfl

/-- Where the hidden state is left. -/
theorem hid6_eq (V : Valuation τ sig (Elt Ideal)) : after hostOps7_2 (after hostOps7_1 (after hostOps7 V)) (Proc.devRef .tc main_v365) = hid6 V := by
  after_reads_simp
  rfl

/-- Where the positions are left. -/
theorem pos6_eq (V : Valuation τ sig (Elt Ideal)) : after hostOps7_2 (after hostOps7_1 (after hostOps7 V)) (Proc.devRef .tc main_v367) = pos6 V := by
  after_reads_simp
  rfl

/-- Where the positions' embedding is left. -/
theorem emb6_eq (V : Valuation τ sig (Elt Ideal)) : after hostOps7_2 (after hostOps7_1 (after hostOps7 V)) (Proc.devRef .tc main_v373) = relu (preEmbed (V (Proc.devRef .tc main_arg2)) (V (Proc.devRef .tc main_arg3)) (pos6 V)) := by
  after_reads_simp
  rfl

/-- Where the transposed positions are left. -/
theorem flip6_eq (V : Valuation τ sig (Elt Ideal)) : after hostOps7_2 (after hostOps7_1 (after hostOps7 V)) (Proc.devRef .tc main_v374) = flip (pos6 V) := by
  after_reads_simp
  rfl

/-- The gates the host operations after launch 7 compute, from the contents they start from. -/
def gates7 (V : Valuation τ sig (Elt Ideal)) : FVec Ideal S256x512 .f32 :=
  gates (gatesIn (V (Proc.devRef .tc main_arg6)) (V (Proc.devRef .tc main_arg8)) (V (Proc.devRef .tc main_v373)) (V (Proc.devRef .tc main_v375)))
      (gatesHid (V (Proc.devRef .tc main_arg7)) (V (Proc.devRef .tc main_v365))) (V (Proc.devRef .tc main_arg9))

/-- The cell they compute. -/
def cell7 (V : Valuation τ sig (Elt Ideal)) : FVec Ideal S256x128 .f32 := cellNext (gates7 V) (V (Proc.devRef .tc main_v363))

/-- The hidden state they compute. -/
def hid7 (V : Valuation τ sig (Elt Ideal)) : FVec Ideal S256x128 .f32 := hidNext (gates7 V) (cell7 V)

/-- The positions they compute. -/
def pos7 (V : Valuation τ sig (Elt Ideal)) : FVec Ideal S256x2 .f32 :=
  lastSeen (V (Proc.devRef .tc main_v5)) (frameAt 7 slices_S8x256x2_S1x256x2_7_0_0 (V (Proc.devRef .tc main_v3)))

/-- Where the cell is left. -/
theorem cell7_eq (V : Valuation τ sig (Elt Ideal)) : after hostOps8_2 (after hostOps8_1 (after hostOps8 V)) (Proc.devRef .tc main_v413) = cell7 V := by
  after_reads_simp
  rfl

/-- Where the hidden state is left. -/
theorem hid7_eq (V : Valuation τ sig (Elt Ideal)) : after hostOps8_2 (after hostOps8_1 (after hostOps8 V)) (Proc.devRef .tc main_v415) = hid7 V := by
  after_reads_simp
  rfl

/-- Where the positions are left. -/
theorem pos7_eq (V : Valuation τ sig (Elt Ideal)) : after hostOps8_2 (after hostOps8_1 (after hostOps8 V)) (Proc.devRef .tc main_v419) = pos7 V := by
  after_reads_simp
  rfl

/-- Where the positions' embedding is left. -/
theorem emb7_eq (V : Valuation τ sig (Elt Ideal)) : after hostOps8_2 (after hostOps8_1 (after hostOps8 V)) (Proc.devRef .tc main_v425) = relu (preEmbed (V (Proc.devRef .tc main_arg2)) (V (Proc.devRef .tc main_arg3)) (pos7 V)) := by
  after_reads_simp
  rfl

/-- Where the transposed positions are left. -/
theorem flip7_eq (V : Valuation τ sig (Elt Ideal)) : after hostOps8_2 (after hostOps8_1 (after hostOps8 V)) (Proc.devRef .tc main_v426) = flip (pos7 V) := by
  after_reads_simp
  rfl

end Cert.KernelIdeal.Chain
-- ==== Proof.Launches1.lean ====
module

public import proofs.«01_k».proof.Proof.Gen.KernelIdeal.Frame.Region4
public import proofs.«01_k».proof.Proof.Gen.KernelIdeal.Frame.Region5
public import proofs.«01_k».proof.Proof.Gen.KernelIdeal.Frame.Region6
public import proofs.«01_k».proof.Proof.Gen.KernelIdeal.Frame.Region7
public import proofs.«01_k».proof.Proof.Gathered

/-! The output arrays of launches 4 to 7: each is the pooled grid of the launch's operands. The launches are printed one by one, so each has its
own statement; the loop and the arithmetic are read by the same lemmas. -/

@[expose] public section

set_option maxRecDepth 16384

noncomputable section

namespace Cert.KernelIdeal.Pool

open Cert.KernelIdeal Cert.KernelIdeal.Gen Idealize.ShloMosaic Idealize.ShloMosaic.TcCoe Cert.Cells Idealize.SL Idealize.SL.Sem

/-- What launch 4's body leaves in its output block. -/
theorem body4 (V) (c : Dev nD) (t : Fin cfg4.N) : outsAt4 (F := Ideal) V c t
    = launched (V c main_v215) (V c main_v217) (V c main_v224) (V c main_v8) (V c main_v10) (V c main_v11) (V c main_v12) := by
  unfold outsAt4
  frame_open
  frame_out
  simp only [read_unread_whole]
  have b0 : iblk4 V c 0 t = V c main_v215 :=
    Memref.read_access_unit_zero (Elt Ideal) main_v215 (funext fun _ => Nat.zero_mul _) _ (V c main_v215)
  have b1 : iblk4 V c 1 t = V c main_v217 :=
    Memref.read_access_unit_zero (Elt Ideal) main_v217 (funext fun _ => Nat.zero_mul _) _ (V c main_v217)
  have b2 : iblk4 V c 2 t = V c main_v224 :=
    Memref.read_access_unit_zero (Elt Ideal) main_v224 (funext fun _ => Nat.zero_mul _) _ (V c main_v224)
  have b3 : iblk4 V c 3 t = V c main_v8 :=
    Memref.read_access_unit_zero (Elt Ideal) main_v8 (funext fun _ => Nat.zero_mul _) _ (V c main_v8)
  have b4 : iblk4 V c 4 t = V c main_v10 :=
    Memref.read_access_unit_zero (Elt Ideal) main_v10 (funext fun _ => Nat.zero_mul _) _ (V c main_v10)
  have b5 : iblk4 V c 5 t = V c main_v11 :=
    Memref.read_access_unit_zero (Elt Ideal) main_v11 (funext fun _ => Nat.zero_mul _) _ (V c main_v11)
  have b6 : iblk4 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k4_t1 _ _ _ _ _ _ _ _ _ _ _ _ _ _ _ _ _ _ _ _ _ _ _ _ _ _ _ n) rfl (fun t => ?_) _
  refine (pb_k4_t1_succ _ _ _ _ _ _ _ _ _ _ _ _ _ _ _ _ _ _ _ _ _ _ _ _ _ _ _ t).trans ?_
  rw [dif_pos t.isLt]
  refine congrArg (· ++ _) ?_
  unfold tripL_k4_t1 trip_k4_t1
  rfl

/-- What launch 4 leaves in its output array. -/
theorem out4 (V) (c : Dev nD) : (dat4 (F := Ideal) V c).arrAt 7 cfg4.N
    = launched (V c main_v215) (V c main_v217) (V c main_v224) (V c main_v8) (V c main_v10) (V c main_v11) (V c main_v12) := by
  refine (dat4 V c).arrAt_eq_of_covers 7 _ (by decide +kernel) fun t hf y => ?_
  rw [after4_7, body4]
  have h : (win4_7.blk t).view.emb y = y := funext fun _ => Fin.ext (zero_block _ _)
  generalize launched _ _ _ _ _ _ _ = L
  blk_simp
  exact congrArg L h.symm

/-- What launch 5's body leaves in its output block. -/
theorem body5 (V) (c : Dev nD) (t : Fin cfg5.N) : outsAt5 (F := Ideal) V c t
    = launched (V c main_v265) (V c main_v267) (V c main_v274) (V c main_v8) (V c main_v10) (V c main_v11) (V c main_v12) := by
  unfold outsAt5
  frame_open
  frame_out
  simp only [read_unread_whole]
  have b0 : iblk5 V c 0 t = V c main_v265 :=
    Memref.read_access_unit_zero (Elt Ideal) main_v265 (funext fun _ => Nat.zero_mul _) _ (V c main_v265)
  have b1 : iblk5 V c 1 t = V c main_v267 :=
    Memref.read_access_unit_zero (Elt Ideal) main_v267 (funext fun _ => Nat.zero_mul _) _ (V c main_v267)
  have b2 : iblk5 V c 2 t = V c main_v274 :=
    Memref.read_access_unit_zero (Elt Ideal) main_v274 (funext fun _ => Nat.zero_mul _) _ (V c main_v274)
  have b3 : iblk5 V c 3 t = V c main_v8 :=
    Memref.read_access_unit_zero (Elt Ideal) main_v8 (funext fun _ => Nat.zero_mul _) _ (V c main_v8)
  have b4 : iblk5 V c 4 t = V c main_v10 :=
    Memref.read_access_unit_zero (Elt Ideal) main_v10 (funext fun _ => Nat.zero_mul _) _ (V c main_v10)
  have b5 : iblk5 V c 5 t = V c main_v11 :=
    Memref.read_access_unit_zero (Elt Ideal) main_v11 (funext fun _ => Nat.zero_mul _) _ (V c main_v11)
  have b6 : iblk5 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k5_t1 _ _ _ _ _ _ _ _ _ _ _ _ _ _ _ _ _ _ _ _ _ _ _ _ _ _ _ n) rfl (fun t => ?_) _
  refine (pb_k5_t1_succ _ _ _ _ _ _ _ _ _ _ _ _ _ _ _ _ _ _ _ _ _ _ _ _ _ _ _ t).trans ?_
  rw [dif_pos t.isLt]
  refine congrArg (· ++ _) ?_
  unfold tripL_k5_t1 trip_k5_t1
  rfl

/-- What launch 5 leaves in its output array. -/
theorem out5 (V) (c : Dev nD) : (dat5 (F := Ideal) V c).arrAt 7 cfg5.N
    = launched (V c main_v265) (V c main_v267) (V c main_v274) (V c main_v8) (V c main_v10) (V c main_v11) (V c main_v12) := by
  refine (dat5 V c).arrAt_eq_of_covers 7 _ (by decide +kernel) fun t hf y => ?_
  rw [after5_7, body5]
  have h : (win5_7.blk t).view.emb y = y := funext fun _ => Fin.ext (zero_block _ _)
  generalize launched _ _ _ _ _ _ _ = L
  blk_simp
  exact congrArg L h.symm

/-- What launch 6's body leaves in its output block. -/
theorem body6 (V) (c : Dev nD) (t : Fin cfg6.N) : outsAt6 (F := Ideal) V c t
    = launched (V c main_v315) (V c main_v317) (V c main_v324) (V c main_v8) (V c main_v10) (V c main_v11) (V c main_v12) := by
  unfold outsAt6
  frame_open
  frame_out
  simp only [read_unread_whole]
  have b0 : iblk6 V c 0 t = V c main_v315 :=
    Memref.read_access_unit_zero (Elt Ideal) main_v315 (funext fun _ => Nat.zero_mul _) _ (V c main_v315)
  have b1 : iblk6 V c 1 t = V c main_v317 :=
    Memref.read_access_unit_zero (Elt Ideal) main_v317 (funext fun _ => Nat.zero_mul _) _ (V c main_v317)
  have b2 : iblk6 V c 2 t = V c main_v324 :=
    Memref.read_access_unit_zero (Elt Ideal) main_v324 (funext fun _ => Nat.zero_mul _) _ (V c main_v324)
  have b3 : iblk6 V c 3 t = V c main_v8 :=
    Memref.read_access_unit_zero (Elt Ideal) main_v8 (funext fun _ => Nat.zero_mul _) _ (V c main_v8)
  have b4 : iblk6 V c 4 t = V c main_v10 :=
    Memref.read_access_unit_zero (Elt Ideal) main_v10 (funext fun _ => Nat.zero_mul _) _ (V c main_v10)
  have b5 : iblk6 V c 5 t = V c main_v11 :=
    Memref.read_access_unit_zero (Elt Ideal) main_v11 (funext fun _ => Nat.zero_mul _) _ (V c main_v11)
  have b6 : iblk6 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k6_t1 _ _ _ _ _ _ _ _ _ _ _ _ _ _ _ _ _ _ _ _ _ _ _ _ _ _ _ n) rfl (fun t => ?_) _
  refine (pb_k6_t1_succ _ _ _ _ _ _ _ _ _ _ _ _ _ _ _ _ _ _ _ _ _ _ _ _ _ _ _ t).trans ?_
  rw [dif_pos t.isLt]
  refine congrArg (· ++ _) ?_
  unfold tripL_k6_t1 trip_k6_t1
  rfl

/-- What launch 6 leaves in its output array. -/
theorem out6 (V) (c : Dev nD) : (dat6 (F := Ideal) V c).arrAt 7 cfg6.N
    = launched (V c main_v315) (V c main_v317) (V c main_v324) (V c main_v8) (V c main_v10) (V c main_v11) (V c main_v12) := by
  refine (dat6 V c).arrAt_eq_of_covers 7 _ (by decide +kernel) fun t hf y => ?_
  rw [after6_7, body6]
  have h : (win6_7.blk t).view.emb y = y := funext fun _ => Fin.ext (zero_block _ _)
  generalize launched _ _ _ _ _ _ _ = L
  blk_simp
  exact congrArg L h.symm

/-- What launch 7's body leaves in its output block. -/
theorem body7 (V) (c : Dev nD) (t : Fin cfg7.N) : outsAt7 (F := Ideal) V c t
    = launched (V c main_v365) (V c main_v367) (V c main_v374) (V c main_v8) (V c main_v10) (V c main_v11) (V c main_v12) := by
  unfold outsAt7
  frame_open
  frame_out
  simp only [read_unread_whole]
  have b0 : iblk7 V c 0 t = V c main_v365 :=
    Memref.read_access_unit_zero (Elt Ideal) main_v365 (funext fun _ => Nat.zero_mul _) _ (V c main_v365)
  have b1 : iblk7 V c 1 t = V c main_v367 :=
    Memref.read_access_unit_zero (Elt Ideal) main_v367 (funext fun _ => Nat.zero_mul _) _ (V c main_v367)
  have b2 : iblk7 V c 2 t = V c main_v374 :=
    Memref.read_access_unit_zero (Elt Ideal) main_v374 (funext fun _ => Nat.zero_mul _) _ (V c main_v374)
  have b3 : iblk7 V c 3 t = V c main_v8 :=
    Memref.read_access_unit_zero (Elt Ideal) main_v8 (funext fun _ => Nat.zero_mul _) _ (V c main_v8)
  have b4 : iblk7 V c 4 t = V c main_v10 :=
    Memref.read_access_unit_zero (Elt Ideal) main_v10 (funext fun _ => Nat.zero_mul _) _ (V c main_v10)
  have b5 : iblk7 V c 5 t = V c main_v11 :=
    Memref.read_access_unit_zero (Elt Ideal) main_v11 (funext fun _ => Nat.zero_mul _) _ (V c main_v11)
  have b6 : iblk7 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k7_t1 _ _ _ _ _ _ _ _ _ _ _ _ _ _ _ _ _ _ _ _ _ _ _ _ _ _ _ n) rfl (fun t => ?_) _
  refine (pb_k7_t1_succ _ _ _ _ _ _ _ _ _ _ _ _ _ _ _ _ _ _ _ _ _ _ _ _ _ _ _ t).trans ?_
  rw [dif_pos t.isLt]
  refine congrArg (· ++ _) ?_
  unfold tripL_k7_t1 trip_k7_t1
  rfl

/-- What launch 7 leaves in its output array. -/
theorem out7 (V) (c : Dev nD) : (dat7 (F := Ideal) V c).arrAt 7 cfg7.N
    = launched (V c main_v365) (V c main_v367) (V c main_v374) (V c main_v8) (V c main_v10) (V c main_v11) (V c main_v12) := by
  refine (dat7 V c).arrAt_eq_of_covers 7 _ (by decide +kernel) fun t hf y => ?_
  rw [after7_7, body7]
  have h : (win7_7.blk t).view.emb y = y := funext fun _ => Fin.ext (zero_block _ _)
  generalize launched _ _ _ _ _ _ _ = L
  blk_simp
  exact congrArg L h.symm

end Cert.KernelIdeal.Pool
-- ==== Proof.Walk1.lean ====
module

public import proofs.«01_k».proof.Proof.Walk0
public import proofs.«01_k».proof.Proof.Stretch1
public import proofs.«01_k».proof.Proof.Launches1
public import proofs.«01_k».proof.Proof.Results

/-! The run from launch 4 through launch 7: each launch starts from the arrays of its state and the host operations after it leave those of the
next one. -/

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

variable (m : (ℓ : Loc nD τ sig) → Buf (Elt Ideal) ℓ) (ρ : Dev nD → PrngReg) (c : Dev nD)

/-- Launch 4 leaves the fixed arrays alone. -/
theorem fixedOut4 : Fixed (argsOf m c) (W22 m ρ c) :=
  (fixed4 m ρ c).of_eq fun r hr => W22_of m ρ c r ((ListAll.forall_mem_of_all_decide (by decide +kernel) :
    ∀ r ∈ fixedRefs, ∀ w : Fin cfg4.W, Pipeline.arrRef spec4 w = r → (cfg4.win w).isOut = false) r hr)

/-- What launch 4 leaves alone of the state it starts from. -/
theorem kept4 : ∀ r ∈ [main_v215, main_v213, main_v217, main_v223], W22 m ρ c (Proc.devRef .tc r) = W21 m ρ c (Proc.devRef .tc r) := fun r hr =>
  W22_of m ρ c r ((ListAll.forall_mem_of_all_decide (by decide +kernel) :
    ∀ r ∈ [main_v215, main_v213, main_v217, main_v223], ∀ w : Fin cfg4.W, Pipeline.arrRef spec4 w = r → (cfg4.win w).isOut = false) r hr)

/-- Launch 4 pools its state. -/
theorem pooled4 : W22 m ρ c (Proc.devRef .tc main_v225)
    = ReferenceIdeal.Pool.social (argsOf m c).mask (state (argsOf m c) 4).pos (state (argsOf m c) 4).hid (argsOf m c).wPool (argsOf m c).bPool :=
  (W22_arr m ρ c 7).trans ((Pool.out4 (V21 m ρ) c).trans ((entry4 m ρ c).pooled (fixed4 m ρ c)))

/-- The gates after launch 4 are the state's. -/
theorem gates4_state : gates4 (W22 m ρ c) = gatesOf (argsOf m c) (state (argsOf m c) 4) := by
  have F := fixedOut4 m ρ c
  have H := entry4 m ρ c
  unfold gates4 gatesOf
  rw [F.wIn, F.bIn, F.wHid, F.bHid, (kept4 m ρ c main_v223 (by decide)).trans H.emb, pooled4, (kept4 m ρ c main_v215 (by decide)).trans H.hid]

/-- The hidden state after launch 4 is the next state's. -/
theorem hid4_state : hid4 (W22 m ρ c) = (state (argsOf m c) (4 + 1)).hid := by
  unfold hid4 cell4
  rw [gates4_state, (kept4 m ρ c main_v213 (by decide)).trans (entry4 m ρ c).cell]
  rfl

/-- The positions after launch 4 are the next state's. -/
theorem pos4_state : pos4 (W22 m ρ c) = posOf (argsOf m c) (state (argsOf m c) 4) 4 := by
  have F := fixedOut4 m ρ c
  unfold pos4
  rw [F.clean]
  rfl

/-- The fixed arrays as launch 5 finds them. -/
theorem fixed5 : Fixed (argsOf m c) (W25 m ρ c) :=
  (fixedOut4 m ρ c).of_eq fun r hr =>
    (W25_of m ρ c r ((ListAll.forall_mem_of_all_decide (by decide +kernel) : ∀ r ∈ fixedRefs, r ∉ hostOps5_2_W) r hr)).trans
    ((W24_of m ρ c r ((ListAll.forall_mem_of_all_decide (by decide +kernel) : ∀ r ∈ fixedRefs, r ∉ hostOps5_1_W) r hr)).trans
    (W23_of m ρ c r ((ListAll.forall_mem_of_all_decide (by decide +kernel) : ∀ r ∈ fixedRefs, r ∉ hostOps5_W) r hr)))

/-- Launch 5 starts from the next state. -/
theorem entry5 : Holds (argsOf m c) (state (argsOf m c) 5) (W25 m ρ c (Proc.devRef .tc main_v265)) (W25 m ρ c (Proc.devRef .tc main_v263)) (W25 m ρ c (Proc.devRef .tc main_v267))
    (W25 m ρ c (Proc.devRef .tc main_v273)) (W25 m ρ c (Proc.devRef .tc main_v274)) := by
  have F := fixedOut4 m ρ c
  exact Holds.next (n := 4) (gates4_state m ρ c) ((kept4 m ρ c main_v213 (by decide)).trans (entry4 m ρ c).cell) (cell4_eq _)
    ((hid4_eq _).trans (congrArg (hidNext _) (cell4_eq _).symm)) ((pos4_eq _).trans (pos4_state m ρ c))
    ((emb4_eq _).trans (by rw [F.wEmbed, F.bEmbed]; exact congrArg _ (congrArg _ (pos4_eq _).symm)))
    ((flip4_eq _).trans (congrArg flip (pos4_eq _).symm))

/-- Launch 5 leaves the fixed arrays alone. -/
theorem fixedOut5 : Fixed (argsOf m c) (W26 m ρ c) :=
  (fixed5 m ρ c).of_eq fun r hr => W26_of m ρ c r ((ListAll.forall_mem_of_all_decide (by decide +kernel) :
    ∀ r ∈ fixedRefs, ∀ w : Fin cfg5.W, Pipeline.arrRef spec5 w = r → (cfg5.win w).isOut = false) r hr)

/-- What launch 5 leaves alone of the state it starts from. -/
theorem kept5 : ∀ r ∈ [main_v265, main_v263, main_v267, main_v273], W26 m ρ c (Proc.devRef .tc r) = W25 m ρ c (Proc.devRef .tc r) := fun r hr =>
  W26_of m ρ c r ((ListAll.forall_mem_of_all_decide (by decide +kernel) :
    ∀ r ∈ [main_v265, main_v263, main_v267, main_v273], ∀ w : Fin cfg5.W, Pipeline.arrRef spec5 w = r → (cfg5.win w).isOut = false) r hr)

/-- Launch 5 pools its state. -/
theorem pooled5 : W26 m ρ c (Proc.devRef .tc main_v275)
    = ReferenceIdeal.Pool.social (argsOf m c).mask (state (argsOf m c) 5).pos (state (argsOf m c) 5).hid (argsOf m c).wPool (argsOf m c).bPool :=
  (W26_arr m ρ c 7).trans ((Pool.out5 (V25 m ρ) c).trans ((entry5 m ρ c).pooled (fixed5 m ρ c)))

/-- The gates after launch 5 are the state's. -/
theorem gates5_state : gates5 (W26 m ρ c) = gatesOf (argsOf m c) (state (argsOf m c) 5) := by
  have F := fixedOut5 m ρ c
  have H := entry5 m ρ c
  unfold gates5 gatesOf
  rw [F.wIn, F.bIn, F.wHid, F.bHid, (kept5 m ρ c main_v273 (by decide)).trans H.emb, pooled5, (kept5 m ρ c main_v265 (by decide)).trans H.hid]

/-- The hidden state after launch 5 is the next state's. -/
theorem hid5_state : hid5 (W26 m ρ c) = (state (argsOf m c) (5 + 1)).hid := by
  unfold hid5 cell5
  rw [gates5_state, (kept5 m ρ c main_v263 (by decide)).trans (entry5 m ρ c).cell]
  rfl

/-- The positions after launch 5 are the next state's. -/
theorem pos5_state : pos5 (W26 m ρ c) = posOf (argsOf m c) (state (argsOf m c) 5) 5 := by
  have F := fixedOut5 m ρ c
  unfold pos5
  rw [F.clean]
  rfl

/-- The fixed arrays as launch 6 finds them. -/
theorem fixed6 : Fixed (argsOf m c) (W29 m ρ c) :=
  (fixedOut5 m ρ c).of_eq fun r hr =>
    (W29_of m ρ c r ((ListAll.forall_mem_of_all_decide (by decide +kernel) : ∀ r ∈ fixedRefs, r ∉ hostOps6_2_W) r hr)).trans
    ((W28_of m ρ c r ((ListAll.forall_mem_of_all_decide (by decide +kernel) : ∀ r ∈ fixedRefs, r ∉ hostOps6_1_W) r hr)).trans
    (W27_of m ρ c r ((ListAll.forall_mem_of_all_decide (by decide +kernel) : ∀ r ∈ fixedRefs, r ∉ hostOps6_W) r hr)))

/-- Launch 6 starts from the next state. -/
theorem entry6 : Holds (argsOf m c) (state (argsOf m c) 6) (W29 m ρ c (Proc.devRef .tc main_v315)) (W29 m ρ c (Proc.devRef .tc main_v313)) (W29 m ρ c (Proc.devRef .tc main_v317))
    (W29 m ρ c (Proc.devRef .tc main_v323)) (W29 m ρ c (Proc.devRef .tc main_v324)) := by
  have F := fixedOut5 m ρ c
  exact Holds.next (n := 5) (gates5_state m ρ c) ((kept5 m ρ c main_v263 (by decide)).trans (entry5 m ρ c).cell) (cell5_eq _)
    ((hid5_eq _).trans (congrArg (hidNext _) (cell5_eq _).symm)) ((pos5_eq _).trans (pos5_state m ρ c))
    ((emb5_eq _).trans (by rw [F.wEmbed, F.bEmbed]; exact congrArg _ (congrArg _ (pos5_eq _).symm)))
    ((flip5_eq _).trans (congrArg flip (pos5_eq _).symm))

/-- Launch 6 leaves the fixed arrays alone. -/
theorem fixedOut6 : Fixed (argsOf m c) (W30 m ρ c) :=
  (fixed6 m ρ c).of_eq fun r hr => W30_of m ρ c r ((ListAll.forall_mem_of_all_decide (by decide +kernel) :
    ∀ r ∈ fixedRefs, ∀ w : Fin cfg6.W, Pipeline.arrRef spec6 w = r → (cfg6.win w).isOut = false) r hr)

/-- What launch 6 leaves alone of the state it starts from. -/
theorem kept6 : ∀ r ∈ [main_v315, main_v313, main_v317, main_v323], W30 m ρ c (Proc.devRef .tc r) = W29 m ρ c (Proc.devRef .tc r) := fun r hr =>
  W30_of m ρ c r ((ListAll.forall_mem_of_all_decide (by decide +kernel) :
    ∀ r ∈ [main_v315, main_v313, main_v317, main_v323], ∀ w : Fin cfg6.W, Pipeline.arrRef spec6 w = r → (cfg6.win w).isOut = false) r hr)

/-- Launch 6 pools its state. -/
theorem pooled6 : W30 m ρ c (Proc.devRef .tc main_v325)
    = ReferenceIdeal.Pool.social (argsOf m c).mask (state (argsOf m c) 6).pos (state (argsOf m c) 6).hid (argsOf m c).wPool (argsOf m c).bPool :=
  (W30_arr m ρ c 7).trans ((Pool.out6 (V29 m ρ) c).trans ((entry6 m ρ c).pooled (fixed6 m ρ c)))

/-- The gates after launch 6 are the state's. -/
theorem gates6_state : gates6 (W30 m ρ c) = gatesOf (argsOf m c) (state (argsOf m c) 6) := by
  have F := fixedOut6 m ρ c
  have H := entry6 m ρ c
  unfold gates6 gatesOf
  rw [F.wIn, F.bIn, F.wHid, F.bHid, (kept6 m ρ c main_v323 (by decide)).trans H.emb, pooled6, (kept6 m ρ c main_v315 (by decide)).trans H.hid]

/-- The hidden state after launch 6 is the next state's. -/
theorem hid6_state : hid6 (W30 m ρ c) = (state (argsOf m c) (6 + 1)).hid := by
  unfold hid6 cell6
  rw [gates6_state, (kept6 m ρ c main_v313 (by decide)).trans (entry6 m ρ c).cell]
  rfl

/-- The positions after launch 6 are the next state's. -/
theorem pos6_state : pos6 (W30 m ρ c) = posOf (argsOf m c) (state (argsOf m c) 6) 6 := by
  have F := fixedOut6 m ρ c
  unfold pos6
  rw [F.clean]
  rfl

/-- The fixed arrays as launch 7 finds them. -/
theorem fixed7 : Fixed (argsOf m c) (W33 m ρ c) :=
  (fixedOut6 m ρ c).of_eq fun r hr =>
    (W33_of m ρ c r ((ListAll.forall_mem_of_all_decide (by decide +kernel) : ∀ r ∈ fixedRefs, r ∉ hostOps7_2_W) r hr)).trans
    ((W32_of m ρ c r ((ListAll.forall_mem_of_all_decide (by decide +kernel) : ∀ r ∈ fixedRefs, r ∉ hostOps7_1_W) r hr)).trans
    (W31_of m ρ c r ((ListAll.forall_mem_of_all_decide (by decide +kernel) : ∀ r ∈ fixedRefs, r ∉ hostOps7_W) r hr)))

/-- Launch 7 starts from the next state. -/
theorem entry7 : Holds (argsOf m c) (state (argsOf m c) 7) (W33 m ρ c (Proc.devRef .tc main_v365)) (W33 m ρ c (Proc.devRef .tc main_v363)) (W33 m ρ c (Proc.devRef .tc main_v367))
    (W33 m ρ c (Proc.devRef .tc main_v373)) (W33 m ρ c (Proc.devRef .tc main_v374)) := by
  have F := fixedOut6 m ρ c
  exact Holds.next (n := 6) (gates6_state m ρ c) ((kept6 m ρ c main_v313 (by decide)).trans (entry6 m ρ c).cell) (cell6_eq _)
    ((hid6_eq _).trans (congrArg (hidNext _) (cell6_eq _).symm)) ((pos6_eq _).trans (pos6_state m ρ c))
    ((emb6_eq _).trans (by rw [F.wEmbed, F.bEmbed]; exact congrArg _ (congrArg _ (pos6_eq _).symm)))
    ((flip6_eq _).trans (congrArg flip (pos6_eq _).symm))

/-- Launch 7 leaves the fixed arrays alone. -/
theorem fixedOut7 : Fixed (argsOf m c) (W34 m ρ c) :=
  (fixed7 m ρ c).of_eq fun r hr => W34_of m ρ c r ((ListAll.forall_mem_of_all_decide (by decide +kernel) :
    ∀ r ∈ fixedRefs, ∀ w : Fin cfg7.W, Pipeline.arrRef spec7 w = r → (cfg7.win w).isOut = false) r hr)

/-- What launch 7 leaves alone of the state it starts from. -/
theorem kept7 : ∀ r ∈ [main_v365, main_v363, main_v367, main_v373], W34 m ρ c (Proc.devRef .tc r) = W33 m ρ c (Proc.devRef .tc r) := fun r hr =>
  W34_of m ρ c r ((ListAll.forall_mem_of_all_decide (by decide +kernel) :
    ∀ r ∈ [main_v365, main_v363, main_v367, main_v373], ∀ w : Fin cfg7.W, Pipeline.arrRef spec7 w = r → (cfg7.win w).isOut = false) r hr)

/-- Launch 7 pools its state. -/
theorem pooled7 : W34 m ρ c (Proc.devRef .tc main_v375)
    = ReferenceIdeal.Pool.social (argsOf m c).mask (state (argsOf m c) 7).pos (state (argsOf m c) 7).hid (argsOf m c).wPool (argsOf m c).bPool :=
  (W34_arr m ρ c 7).trans ((Pool.out7 (V33 m ρ) c).trans ((entry7 m ρ c).pooled (fixed7 m ρ c)))

/-- The gates after launch 7 are the state's. -/
theorem gates7_state : gates7 (W34 m ρ c) = gatesOf (argsOf m c) (state (argsOf m c) 7) := by
  have F := fixedOut7 m ρ c
  have H := entry7 m ρ c
  unfold gates7 gatesOf
  rw [F.wIn, F.bIn, F.wHid, F.bHid, (kept7 m ρ c main_v373 (by decide)).trans H.emb, pooled7, (kept7 m ρ c main_v365 (by decide)).trans H.hid]

/-- The hidden state after launch 7 is the next state's. -/
theorem hid7_state : hid7 (W34 m ρ c) = (state (argsOf m c) (7 + 1)).hid := by
  unfold hid7 cell7
  rw [gates7_state, (kept7 m ρ c main_v363 (by decide)).trans (entry7 m ρ c).cell]
  rfl

/-- The positions after launch 7 are the next state's. -/
theorem pos7_state : pos7 (W34 m ρ c) = posOf (argsOf m c) (state (argsOf m c) 7) 7 := by
  have F := fixedOut7 m ρ c
  unfold pos7
  rw [F.clean, F.maskCol]
  rfl

/-- The fixed arrays as launch 8 finds them. -/
theorem fixed8 : Fixed (argsOf m c) (W37 m ρ c) :=
  (fixedOut7 m ρ c).of_eq fun r hr =>
    (W37_of m ρ c r ((ListAll.forall_mem_of_all_decide (by decide +kernel) : ∀ r ∈ fixedRefs, r ∉ hostOps8_2_W) r hr)).trans
    ((W36_of m ρ c r ((ListAll.forall_mem_of_all_decide (by decide +kernel) : ∀ r ∈ fixedRefs, r ∉ hostOps8_1_W) r hr)).trans
    (W35_of m ρ c r ((ListAll.forall_mem_of_all_decide (by decide +kernel) : ∀ r ∈ fixedRefs, r ∉ hostOps8_W) r hr)))

/-- Launch 8 starts from the next state. -/
theorem entry8 : Holds (argsOf m c) (state (argsOf m c) 8) (W37 m ρ c (Proc.devRef .tc main_v415)) (W37 m ρ c (Proc.devRef .tc main_v413)) (W37 m ρ c (Proc.devRef .tc main_v419))
    (W37 m ρ c (Proc.devRef .tc main_v425)) (W37 m ρ c (Proc.devRef .tc main_v426)) := by
  have F := fixedOut7 m ρ c
  exact Holds.next (n := 7) (gates7_state m ρ c) ((kept7 m ρ c main_v363 (by decide)).trans (entry7 m ρ c).cell) (cell7_eq _)
    ((hid7_eq _).trans (congrArg (hidNext _) (cell7_eq _).symm)) ((pos7_eq _).trans (pos7_state m ρ c))
    ((emb7_eq _).trans (by rw [F.wEmbed, F.bEmbed]; exact congrArg _ (congrArg _ (pos7_eq _).symm)))
    ((flip7_eq _).trans (congrArg flip (pos7_eq _).symm))

end Cert.KernelIdeal.Chain
-- ==== Proof.Stretch2.lean ====
module

public import proofs.«01_k».proof.Proof.Chain
public import Idealize.ShloMosaic.Lib.StableHlo.RunRead

/-! The host operations after launches 8 to 11, read back: each array they leave as a step function of the contents they start from. The
operations are printed launch by launch over arrays of their own, so each launch has its own statements. -/

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

/-- The gates the host operations after launch 8 compute, from the contents they start from. -/
def gates8 (V : Valuation τ sig (Elt Ideal)) : FVec Ideal S256x512 .f32 :=
  gates (gatesIn (V (Proc.devRef .tc main_arg6)) (V (Proc.devRef .tc main_arg8)) (V (Proc.devRef .tc main_v425)) (V (Proc.devRef .tc main_v427)))
      (gatesHid (V (Proc.devRef .tc main_arg7)) (V (Proc.devRef .tc main_v415))) (V (Proc.devRef .tc main_arg9))

/-- The cell they compute. -/
def cell8 (V : Valuation τ sig (Elt Ideal)) : FVec Ideal S256x128 .f32 := cellNext (gates8 V) (V (Proc.devRef .tc main_v413))

/-- The hidden state they compute. -/
def hid8 (V : Valuation τ sig (Elt Ideal)) : FVec Ideal S256x128 .f32 := hidNext (gates8 V) (cell8 V)

/-- The positions they compute. -/
def pos8 (V : Valuation τ sig (Elt Ideal)) : FVec Ideal S256x2 .f32 :=
  moved (V (Proc.devRef .tc main_v5)) (readOut (V (Proc.devRef .tc main_arg10)) (V (Proc.devRef .tc main_arg11)) (hid8 V)) (V (Proc.devRef .tc main_v419))

/-- Where the cell is left. -/
theorem cell8_eq (V : Valuation τ sig (Elt Ideal)) : after hostOps9_2 (after hostOps9_1 (after hostOps9 V)) (Proc.devRef .tc main_v465) = cell8 V := by
  after_reads_simp
  rfl

/-- Where the hidden state is left. -/
theorem hid8_eq (V : Valuation τ sig (Elt Ideal)) : after hostOps9_2 (after hostOps9_1 (after hostOps9 V)) (Proc.devRef .tc main_v467) = hid8 V := by
  after_reads_simp
  rfl

/-- Where the positions are left. -/
theorem pos8_eq (V : Valuation τ sig (Elt Ideal)) : after hostOps9_2 (after hostOps9_1 (after hostOps9 V)) (Proc.devRef .tc main_v483) = pos8 V := by
  after_reads_simp
  rfl

/-- Where the positions' embedding is left. -/
theorem emb8_eq (V : Valuation τ sig (Elt Ideal)) : after hostOps9_2 (after hostOps9_1 (after hostOps9 V)) (Proc.devRef .tc main_v489) = relu (preEmbed (V (Proc.devRef .tc main_arg2)) (V (Proc.devRef .tc main_arg3)) (pos8 V)) := by
  after_reads_simp
  rfl

/-- Where the transposed positions are left. -/
theorem flip8_eq (V : Valuation τ sig (Elt Ideal)) : after hostOps9_2 (after hostOps9_1 (after hostOps9 V)) (Proc.devRef .tc main_v490) = flip (pos8 V) := by
  after_reads_simp
  rfl

/-- Where the spreads are left. -/
theorem spread8_eq (V : Valuation τ sig (Elt Ideal)) : after hostOps9_2 (after hostOps9_1 (after hostOps9 V)) (Proc.devRef .tc main_v477) = spread (readOut (V (Proc.devRef .tc main_arg10)) (V (Proc.devRef .tc main_arg11)) (hid8 V)) := by
  after_reads_simp
  rfl

/-- Where the correlations are left. -/
theorem corr8_eq (V : Valuation τ sig (Elt Ideal)) : after hostOps9_2 (after hostOps9_1 (after hostOps9 V)) (Proc.devRef .tc main_v480) = corr (readOut (V (Proc.devRef .tc main_arg10)) (V (Proc.devRef .tc main_arg11)) (hid8 V)) := by
  after_reads_simp
  rfl

/-- The gates the host operations after launch 9 compute, from the contents they start from. -/
def gates9 (V : Valuation τ sig (Elt Ideal)) : FVec Ideal S256x512 .f32 :=
  gates (gatesIn (V (Proc.devRef .tc main_arg6)) (V (Proc.devRef .tc main_arg8)) (V (Proc.devRef .tc main_v489)) (V (Proc.devRef .tc main_v491)))
      (gatesHid (V (Proc.devRef .tc main_arg7)) (V (Proc.devRef .tc main_v467))) (V (Proc.devRef .tc main_arg9))

/-- The cell they compute. -/
def cell9 (V : Valuation τ sig (Elt Ideal)) : FVec Ideal S256x128 .f32 := cellNext (gates9 V) (V (Proc.devRef .tc main_v465))

/-- The hidden state they compute. -/
def hid9 (V : Valuation τ sig (Elt Ideal)) : FVec Ideal S256x128 .f32 := hidNext (gates9 V) (cell9 V)

/-- The positions they compute. -/
def pos9 (V : Valuation τ sig (Elt Ideal)) : FVec Ideal S256x2 .f32 :=
  moved (V (Proc.devRef .tc main_v5)) (readOut (V (Proc.devRef .tc main_arg10)) (V (Proc.devRef .tc main_arg11)) (hid9 V)) (V (Proc.devRef .tc main_v483))

/-- Where the cell is left. -/
theorem cell9_eq (V : Valuation τ sig (Elt Ideal)) : after hostOps10_2 (after hostOps10_1 (after hostOps10 V)) (Proc.devRef .tc main_v529) = cell9 V := by
  after_reads_simp
  rfl

/-- Where the hidden state is left. -/
theorem hid9_eq (V : Valuation τ sig (Elt Ideal)) : after hostOps10_2 (after hostOps10_1 (after hostOps10 V)) (Proc.devRef .tc main_v531) = hid9 V := by
  after_reads_simp
  rfl

/-- Where the positions are left. -/
theorem pos9_eq (V : Valuation τ sig (Elt Ideal)) : after hostOps10_2 (after hostOps10_1 (after hostOps10 V)) (Proc.devRef .tc main_v547) = pos9 V := by
  after_reads_simp
  rfl

/-- Where the positions' embedding is left. -/
theorem emb9_eq (V : Valuation τ sig (Elt Ideal)) : after hostOps10_2 (after hostOps10_1 (after hostOps10 V)) (Proc.devRef .tc main_v553) = relu (preEmbed (V (Proc.devRef .tc main_arg2)) (V (Proc.devRef .tc main_arg3)) (pos9 V)) := by
  after_reads_simp
  rfl

/-- Where the transposed positions are left. -/
theorem flip9_eq (V : Valuation τ sig (Elt Ideal)) : after hostOps10_2 (after hostOps10_1 (after hostOps10 V)) (Proc.devRef .tc main_v554) = flip (pos9 V) := by
  after_reads_simp
  rfl

/-- Where the spreads are left. -/
theorem spread9_eq (V : Valuation τ sig (Elt Ideal)) : after hostOps10_2 (after hostOps10_1 (after hostOps10 V)) (Proc.devRef .tc main_v541) = spread (readOut (V (Proc.devRef .tc main_arg10)) (V (Proc.devRef .tc main_arg11)) (hid9 V)) := by
  after_reads_simp
  rfl

/-- Where the correlations are left. -/
theorem corr9_eq (V : Valuation τ sig (Elt Ideal)) : after hostOps10_2 (after hostOps10_1 (after hostOps10 V)) (Proc.devRef .tc main_v544) = corr (readOut (V (Proc.devRef .tc main_arg10)) (V (Proc.devRef .tc main_arg11)) (hid9 V)) := by
  after_reads_simp
  rfl

/-- The gates the host operations after launch 10 compute, from the contents they start from. -/
def gates10 (V : Valuation τ sig (Elt Ideal)) : FVec Ideal S256x512 .f32 :=
  gates (gatesIn (V (Proc.devRef .tc main_arg6)) (V (Proc.devRef .tc main_arg8)) (V (Proc.devRef .tc main_v553)) (V (Proc.devRef .tc main_v555)))
      (gatesHid (V (Proc.devRef .tc main_arg7)) (V (Proc.devRef .tc main_v531))) (V (Proc.devRef .tc main_arg9))

/-- The cell they compute. -/
def cell10 (V : Valuation τ sig (Elt Ideal)) : FVec Ideal S256x128 .f32 := cellNext (gates10 V) (V (Proc.devRef .tc main_v529))

/-- The hidden state they compute. -/
def hid10 (V : Valuation τ sig (Elt Ideal)) : FVec Ideal S256x128 .f32 := hidNext (gates10 V) (cell10 V)

/-- The positions they compute. -/
def pos10 (V : Valuation τ sig (Elt Ideal)) : FVec Ideal S256x2 .f32 :=
  moved (V (Proc.devRef .tc main_v5)) (readOut (V (Proc.devRef .tc main_arg10)) (V (Proc.devRef .tc main_arg11)) (hid10 V)) (V (Proc.devRef .tc main_v547))

/-- Where the cell is left. -/
theorem cell10_eq (V : Valuation τ sig (Elt Ideal)) : after hostOps11_2 (after hostOps11_1 (after hostOps11 V)) (Proc.devRef .tc main_v593) = cell10 V := by
  after_reads_simp
  rfl

/-- Where the hidden state is left. -/
theorem hid10_eq (V : Valuation τ sig (Elt Ideal)) : after hostOps11_2 (after hostOps11_1 (after hostOps11 V)) (Proc.devRef .tc main_v595) = hid10 V := by
  after_reads_simp
  rfl

/-- Where the positions are left. -/
theorem pos10_eq (V : Valuation τ sig (Elt Ideal)) : after hostOps11_2 (after hostOps11_1 (after hostOps11 V)) (Proc.devRef .tc main_v611) = pos10 V := by
  after_reads_simp
  rfl

/-- Where the positions' embedding is left. -/
theorem emb10_eq (V : Valuation τ sig (Elt Ideal)) : after hostOps11_2 (after hostOps11_1 (after hostOps11 V)) (Proc.devRef .tc main_v617) = relu (preEmbed (V (Proc.devRef .tc main_arg2)) (V (Proc.devRef .tc main_arg3)) (pos10 V)) := by
  after_reads_simp
  rfl

/-- Where the transposed positions are left. -/
theorem flip10_eq (V : Valuation τ sig (Elt Ideal)) : after hostOps11_2 (after hostOps11_1 (after hostOps11 V)) (Proc.devRef .tc main_v618) = flip (pos10 V) := by
  after_reads_simp
  rfl

/-- Where the spreads are left. -/
theorem spread10_eq (V : Valuation τ sig (Elt Ideal)) : after hostOps11_2 (after hostOps11_1 (after hostOps11 V)) (Proc.devRef .tc main_v605) = spread (readOut (V (Proc.devRef .tc main_arg10)) (V (Proc.devRef .tc main_arg11)) (hid10 V)) := by
  after_reads_simp
  rfl

/-- Where the correlations are left. -/
theorem corr10_eq (V : Valuation τ sig (Elt Ideal)) : after hostOps11_2 (after hostOps11_1 (after hostOps11 V)) (Proc.devRef .tc main_v608) = corr (readOut (V (Proc.devRef .tc main_arg10)) (V (Proc.devRef .tc main_arg11)) (hid10 V)) := by
  after_reads_simp
  rfl

/-- The gates the host operations after launch 11 compute, from the contents they start from. -/
def gates11 (V : Valuation τ sig (Elt Ideal)) : FVec Ideal S256x512 .f32 :=
  gates (gatesIn (V (Proc.devRef .tc main_arg6)) (V (Proc.devRef .tc main_arg8)) (V (Proc.devRef .tc main_v617)) (V (Proc.devRef .tc main_v619)))
      (gatesHid (V (Proc.devRef .tc main_arg7)) (V (Proc.devRef .tc main_v595))) (V (Proc.devRef .tc main_arg9))

/-- The cell they compute. -/
def cell11 (V : Valuation τ sig (Elt Ideal)) : FVec Ideal S256x128 .f32 := cellNext (gates11 V) (V (Proc.devRef .tc main_v593))

/-- The hidden state they compute. -/
def hid11 (V : Valuation τ sig (Elt Ideal)) : FVec Ideal S256x128 .f32 := hidNext (gates11 V) (cell11 V)

/-- The positions they compute. -/
def pos11 (V : Valuation τ sig (Elt Ideal)) : FVec Ideal S256x2 .f32 :=
  moved (V (Proc.devRef .tc main_v5)) (readOut (V (Proc.devRef .tc main_arg10)) (V (Proc.devRef .tc main_arg11)) (hid11 V)) (V (Proc.devRef .tc main_v611))

/-- Where the cell is left. -/
theorem cell11_eq (V : Valuation τ sig (Elt Ideal)) : after hostOps12_2 (after hostOps12_1 (after hostOps12 V)) (Proc.devRef .tc main_v657) = cell11 V := by
  after_reads_simp
  rfl

/-- Where the hidden state is left. -/
theorem hid11_eq (V : Valuation τ sig (Elt Ideal)) : after hostOps12_2 (after hostOps12_1 (after hostOps12 V)) (Proc.devRef .tc main_v659) = hid11 V := by
  after_reads_simp
  rfl

/-- Where the positions are left. -/
theorem pos11_eq (V : Valuation τ sig (Elt Ideal)) : after hostOps12_2 (after hostOps12_1 (after hostOps12 V)) (Proc.devRef .tc main_v675) = pos11 V := by
  after_reads_simp
  rfl

/-- Where the positions' embedding is left. -/
theorem emb11_eq (V : Valuation τ sig (Elt Ideal)) : after hostOps12_2 (after hostOps12_1 (after hostOps12 V)) (Proc.devRef .tc main_v681) = relu (preEmbed (V (Proc.devRef .tc main_arg2)) (V (Proc.devRef .tc main_arg3)) (pos11 V)) := by
  after_reads_simp
  rfl

/-- Where the transposed positions are left. -/
theorem flip11_eq (V : Valuation τ sig (Elt Ideal)) : after hostOps12_2 (after hostOps12_1 (after hostOps12 V)) (Proc.devRef .tc main_v682) = flip (pos11 V) := by
  after_reads_simp
  rfl

/-- Where the spreads are left. -/
theorem spread11_eq (V : Valuation τ sig (Elt Ideal)) : after hostOps12_2 (after hostOps12_1 (after hostOps12 V)) (Proc.devRef .tc main_v669) = spread (readOut (V (Proc.devRef .tc main_arg10)) (V (Proc.devRef .tc main_arg11)) (hid11 V)) := by
  after_reads_simp
  rfl

/-- Where the correlations are left. -/
theorem corr11_eq (V : Valuation τ sig (Elt Ideal)) : after hostOps12_2 (after hostOps12_1 (after hostOps12 V)) (Proc.devRef .tc main_v672) = corr (readOut (V (Proc.devRef .tc main_arg10)) (V (Proc.devRef .tc main_arg11)) (hid11 V)) := by
  after_reads_simp
  rfl

end Cert.KernelIdeal.Chain
-- ==== Proof.Launches2.lean ====
module

public import proofs.«01_k».proof.Proof.Gen.KernelIdeal.Frame.Region8
public import proofs.«01_k».proof.Proof.Gen.KernelIdeal.Frame.Region9
public import proofs.«01_k».proof.Proof.Gen.KernelIdeal.Frame.Region10
public import proofs.«01_k».proof.Proof.Gen.KernelIdeal.Frame.Region11
public import proofs.«01_k».proof.Proof.Gathered

/-! The output arrays of launches 8 to 11: each is the pooled grid of the launch's operands. The launches are printed one by one, so each has its
own statement; the loop and the arithmetic are read by the same lemmas. -/

@[expose] public section

set_option maxRecDepth 16384

noncomputable section

namespace Cert.KernelIdeal.Pool

open Cert.KernelIdeal Cert.KernelIdeal.Gen Idealize.ShloMosaic Idealize.ShloMosaic.TcCoe Cert.Cells Idealize.SL Idealize.SL.Sem

/-- What launch 8's body leaves in its output block. -/
theorem body8 (V) (c : Dev nD) (t : Fin cfg8.N) : outsAt8 (F := Ideal) V c t
    = launched (V c main_v415) (V c main_v419) (V c main_v426) (V c main_v8) (V c main_v10) (V c main_v11) (V c main_v12) := by
  unfold outsAt8
  frame_open
  frame_out
  simp only [read_unread_whole]
  have b0 : iblk8 V c 0 t = V c main_v415 :=
    Memref.read_access_unit_zero (Elt Ideal) main_v415 (funext fun _ => Nat.zero_mul _) _ (V c main_v415)
  have b1 : iblk8 V c 1 t = V c main_v419 :=
    Memref.read_access_unit_zero (Elt Ideal) main_v419 (funext fun _ => Nat.zero_mul _) _ (V c main_v419)
  have b2 : iblk8 V c 2 t = V c main_v426 :=
    Memref.read_access_unit_zero (Elt Ideal) main_v426 (funext fun _ => Nat.zero_mul _) _ (V c main_v426)
  have b3 : iblk8 V c 3 t = V c main_v8 :=
    Memref.read_access_unit_zero (Elt Ideal) main_v8 (funext fun _ => Nat.zero_mul _) _ (V c main_v8)
  have b4 : iblk8 V c 4 t = V c main_v10 :=
    Memref.read_access_unit_zero (Elt Ideal) main_v10 (funext fun _ => Nat.zero_mul _) _ (V c main_v10)
  have b5 : iblk8 V c 5 t = V c main_v11 :=
    Memref.read_access_unit_zero (Elt Ideal) main_v11 (funext fun _ => Nat.zero_mul _) _ (V c main_v11)
  have b6 : iblk8 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k8_t1 _ _ _ _ _ _ _ _ _ _ _ _ _ _ _ _ _ _ _ _ _ _ _ _ _ _ _ n) rfl (fun t => ?_) _
  refine (pb_k8_t1_succ _ _ _ _ _ _ _ _ _ _ _ _ _ _ _ _ _ _ _ _ _ _ _ _ _ _ _ t).trans ?_
  rw [dif_pos t.isLt]
  refine congrArg (· ++ _) ?_
  unfold tripL_k8_t1 trip_k8_t1
  rfl

/-- What launch 8 leaves in its output array. -/
theorem out8 (V) (c : Dev nD) : (dat8 (F := Ideal) V c).arrAt 7 cfg8.N
    = launched (V c main_v415) (V c main_v419) (V c main_v426) (V c main_v8) (V c main_v10) (V c main_v11) (V c main_v12) := by
  refine (dat8 V c).arrAt_eq_of_covers 7 _ (by decide +kernel) fun t hf y => ?_
  rw [after8_7, body8]
  have h : (win8_7.blk t).view.emb y = y := funext fun _ => Fin.ext (zero_block _ _)
  generalize launched _ _ _ _ _ _ _ = L
  blk_simp
  exact congrArg L h.symm

/-- What launch 9's body leaves in its output block. -/
theorem body9 (V) (c : Dev nD) (t : Fin cfg9.N) : outsAt9 (F := Ideal) V c t
    = launched (V c main_v467) (V c main_v483) (V c main_v490) (V c main_v8) (V c main_v10) (V c main_v11) (V c main_v12) := by
  unfold outsAt9
  frame_open
  frame_out
  simp only [read_unread_whole]
  have b0 : iblk9 V c 0 t = V c main_v467 :=
    Memref.read_access_unit_zero (Elt Ideal) main_v467 (funext fun _ => Nat.zero_mul _) _ (V c main_v467)
  have b1 : iblk9 V c 1 t = V c main_v483 :=
    Memref.read_access_unit_zero (Elt Ideal) main_v483 (funext fun _ => Nat.zero_mul _) _ (V c main_v483)
  have b2 : iblk9 V c 2 t = V c main_v490 :=
    Memref.read_access_unit_zero (Elt Ideal) main_v490 (funext fun _ => Nat.zero_mul _) _ (V c main_v490)
  have b3 : iblk9 V c 3 t = V c main_v8 :=
    Memref.read_access_unit_zero (Elt Ideal) main_v8 (funext fun _ => Nat.zero_mul _) _ (V c main_v8)
  have b4 : iblk9 V c 4 t = V c main_v10 :=
    Memref.read_access_unit_zero (Elt Ideal) main_v10 (funext fun _ => Nat.zero_mul _) _ (V c main_v10)
  have b5 : iblk9 V c 5 t = V c main_v11 :=
    Memref.read_access_unit_zero (Elt Ideal) main_v11 (funext fun _ => Nat.zero_mul _) _ (V c main_v11)
  have b6 : iblk9 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k9_t1 _ _ _ _ _ _ _ _ _ _ _ _ _ _ _ _ _ _ _ _ _ _ _ _ _ _ _ n) rfl (fun t => ?_) _
  refine (pb_k9_t1_succ _ _ _ _ _ _ _ _ _ _ _ _ _ _ _ _ _ _ _ _ _ _ _ _ _ _ _ t).trans ?_
  rw [dif_pos t.isLt]
  refine congrArg (· ++ _) ?_
  unfold tripL_k9_t1 trip_k9_t1
  rfl

/-- What launch 9 leaves in its output array. -/
theorem out9 (V) (c : Dev nD) : (dat9 (F := Ideal) V c).arrAt 7 cfg9.N
    = launched (V c main_v467) (V c main_v483) (V c main_v490) (V c main_v8) (V c main_v10) (V c main_v11) (V c main_v12) := by
  refine (dat9 V c).arrAt_eq_of_covers 7 _ (by decide +kernel) fun t hf y => ?_
  rw [after9_7, body9]
  have h : (win9_7.blk t).view.emb y = y := funext fun _ => Fin.ext (zero_block _ _)
  generalize launched _ _ _ _ _ _ _ = L
  blk_simp
  exact congrArg L h.symm

/-- What launch 10's body leaves in its output block. -/
theorem body10 (V) (c : Dev nD) (t : Fin cfg10.N) : outsAt10 (F := Ideal) V c t
    = launched (V c main_v531) (V c main_v547) (V c main_v554) (V c main_v8) (V c main_v10) (V c main_v11) (V c main_v12) := by
  unfold outsAt10
  frame_open
  frame_out
  simp only [read_unread_whole]
  have b0 : iblk10 V c 0 t = V c main_v531 :=
    Memref.read_access_unit_zero (Elt Ideal) main_v531 (funext fun _ => Nat.zero_mul _) _ (V c main_v531)
  have b1 : iblk10 V c 1 t = V c main_v547 :=
    Memref.read_access_unit_zero (Elt Ideal) main_v547 (funext fun _ => Nat.zero_mul _) _ (V c main_v547)
  have b2 : iblk10 V c 2 t = V c main_v554 :=
    Memref.read_access_unit_zero (Elt Ideal) main_v554 (funext fun _ => Nat.zero_mul _) _ (V c main_v554)
  have b3 : iblk10 V c 3 t = V c main_v8 :=
    Memref.read_access_unit_zero (Elt Ideal) main_v8 (funext fun _ => Nat.zero_mul _) _ (V c main_v8)
  have b4 : iblk10 V c 4 t = V c main_v10 :=
    Memref.read_access_unit_zero (Elt Ideal) main_v10 (funext fun _ => Nat.zero_mul _) _ (V c main_v10)
  have b5 : iblk10 V c 5 t = V c main_v11 :=
    Memref.read_access_unit_zero (Elt Ideal) main_v11 (funext fun _ => Nat.zero_mul _) _ (V c main_v11)
  have b6 : iblk10 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k10_t1 _ _ _ _ _ _ _ _ _ _ _ _ _ _ _ _ _ _ _ _ _ _ _ _ _ _ _ n) rfl (fun t => ?_) _
  refine (pb_k10_t1_succ _ _ _ _ _ _ _ _ _ _ _ _ _ _ _ _ _ _ _ _ _ _ _ _ _ _ _ t).trans ?_
  rw [dif_pos t.isLt]
  refine congrArg (· ++ _) ?_
  unfold tripL_k10_t1 trip_k10_t1
  rfl

/-- What launch 10 leaves in its output array. -/
theorem out10 (V) (c : Dev nD) : (dat10 (F := Ideal) V c).arrAt 7 cfg10.N
    = launched (V c main_v531) (V c main_v547) (V c main_v554) (V c main_v8) (V c main_v10) (V c main_v11) (V c main_v12) := by
  refine (dat10 V c).arrAt_eq_of_covers 7 _ (by decide +kernel) fun t hf y => ?_
  rw [after10_7, body10]
  have h : (win10_7.blk t).view.emb y = y := funext fun _ => Fin.ext (zero_block _ _)
  generalize launched _ _ _ _ _ _ _ = L
  blk_simp
  exact congrArg L h.symm

/-- What launch 11's body leaves in its output block. -/
theorem body11 (V) (c : Dev nD) (t : Fin cfg11.N) : outsAt11 (F := Ideal) V c t
    = launched (V c main_v595) (V c main_v611) (V c main_v618) (V c main_v8) (V c main_v10) (V c main_v11) (V c main_v12) := by
  unfold outsAt11
  frame_open
  frame_out
  simp only [read_unread_whole]
  have b0 : iblk11 V c 0 t = V c main_v595 :=
    Memref.read_access_unit_zero (Elt Ideal) main_v595 (funext fun _ => Nat.zero_mul _) _ (V c main_v595)
  have b1 : iblk11 V c 1 t = V c main_v611 :=
    Memref.read_access_unit_zero (Elt Ideal) main_v611 (funext fun _ => Nat.zero_mul _) _ (V c main_v611)
  have b2 : iblk11 V c 2 t = V c main_v618 :=
    Memref.read_access_unit_zero (Elt Ideal) main_v618 (funext fun _ => Nat.zero_mul _) _ (V c main_v618)
  have b3 : iblk11 V c 3 t = V c main_v8 :=
    Memref.read_access_unit_zero (Elt Ideal) main_v8 (funext fun _ => Nat.zero_mul _) _ (V c main_v8)
  have b4 : iblk11 V c 4 t = V c main_v10 :=
    Memref.read_access_unit_zero (Elt Ideal) main_v10 (funext fun _ => Nat.zero_mul _) _ (V c main_v10)
  have b5 : iblk11 V c 5 t = V c main_v11 :=
    Memref.read_access_unit_zero (Elt Ideal) main_v11 (funext fun _ => Nat.zero_mul _) _ (V c main_v11)
  have b6 : iblk11 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k11_t1 _ _ _ _ _ _ _ _ _ _ _ _ _ _ _ _ _ _ _ _ _ _ _ _ _ _ _ n) rfl (fun t => ?_) _
  refine (pb_k11_t1_succ _ _ _ _ _ _ _ _ _ _ _ _ _ _ _ _ _ _ _ _ _ _ _ _ _ _ _ t).trans ?_
  rw [dif_pos t.isLt]
  refine congrArg (· ++ _) ?_
  unfold tripL_k11_t1 trip_k11_t1
  rfl

/-- What launch 11 leaves in its output array. -/
theorem out11 (V) (c : Dev nD) : (dat11 (F := Ideal) V c).arrAt 7 cfg11.N
    = launched (V c main_v595) (V c main_v611) (V c main_v618) (V c main_v8) (V c main_v10) (V c main_v11) (V c main_v12) := by
  refine (dat11 V c).arrAt_eq_of_covers 7 _ (by decide +kernel) fun t hf y => ?_
  rw [after11_7, body11]
  have h : (win11_7.blk t).view.emb y = y := funext fun _ => Fin.ext (zero_block _ _)
  generalize launched _ _ _ _ _ _ _ = L
  blk_simp
  exact congrArg L h.symm

end Cert.KernelIdeal.Pool
-- ==== Proof.Walk2.lean ====
module

public import proofs.«01_k».proof.Proof.Walk1
public import proofs.«01_k».proof.Proof.Stretch2
public import proofs.«01_k».proof.Proof.Launches2
public import proofs.«01_k».proof.Proof.Results

/-! The run from launch 8 through launch 11: each launch starts from the arrays of its state and the host operations after it leave those of the
next one. -/

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

variable (m : (ℓ : Loc nD τ sig) → Buf (Elt Ideal) ℓ) (ρ : Dev nD → PrngReg) (c : Dev nD)

/-- Launch 8 leaves the fixed arrays alone. -/
theorem fixedOut8 : Fixed (argsOf m c) (W38 m ρ c) :=
  (fixed8 m ρ c).of_eq fun r hr => W38_of m ρ c r ((ListAll.forall_mem_of_all_decide (by decide +kernel) :
    ∀ r ∈ fixedRefs, ∀ w : Fin cfg8.W, Pipeline.arrRef spec8 w = r → (cfg8.win w).isOut = false) r hr)

/-- What launch 8 leaves alone of the state it starts from. -/
theorem kept8 : ∀ r ∈ [main_v415, main_v413, main_v419, main_v425], W38 m ρ c (Proc.devRef .tc r) = W37 m ρ c (Proc.devRef .tc r) := fun r hr =>
  W38_of m ρ c r ((ListAll.forall_mem_of_all_decide (by decide +kernel) :
    ∀ r ∈ [main_v415, main_v413, main_v419, main_v425], ∀ w : Fin cfg8.W, Pipeline.arrRef spec8 w = r → (cfg8.win w).isOut = false) r hr)

/-- Launch 8 pools its state. -/
theorem pooled8 : W38 m ρ c (Proc.devRef .tc main_v427)
    = ReferenceIdeal.Pool.social (argsOf m c).mask (state (argsOf m c) 8).pos (state (argsOf m c) 8).hid (argsOf m c).wPool (argsOf m c).bPool :=
  (W38_arr m ρ c 7).trans ((Pool.out8 (V37 m ρ) c).trans ((entry8 m ρ c).pooled (fixed8 m ρ c)))

/-- The gates after launch 8 are the state's. -/
theorem gates8_state : gates8 (W38 m ρ c) = gatesOf (argsOf m c) (state (argsOf m c) 8) := by
  have F := fixedOut8 m ρ c
  have H := entry8 m ρ c
  unfold gates8 gatesOf
  rw [F.wIn, F.bIn, F.wHid, F.bHid, (kept8 m ρ c main_v425 (by decide)).trans H.emb, pooled8, (kept8 m ρ c main_v415 (by decide)).trans H.hid]

/-- The hidden state after launch 8 is the next state's. -/
theorem hid8_state : hid8 (W38 m ρ c) = (state (argsOf m c) (8 + 1)).hid := by
  unfold hid8 cell8
  rw [gates8_state, (kept8 m ρ c main_v413 (by decide)).trans (entry8 m ρ c).cell]
  rfl

/-- The positions after launch 8 are the next state's. -/
theorem pos8_state : pos8 (W38 m ρ c) = posOf (argsOf m c) (state (argsOf m c) 8) 8 := by
  have F := fixedOut8 m ρ c
  unfold pos8
  rw [F.maskCol, F.wOut, F.bOut, hid8_state, (kept8 m ρ c main_v419 (by decide)).trans (entry8 m ρ c).pos]
  rfl

/-- The fixed arrays as launch 9 finds them. -/
theorem fixed9 : Fixed (argsOf m c) (W41 m ρ c) :=
  (fixedOut8 m ρ c).of_eq fun r hr =>
    (W41_of m ρ c r ((ListAll.forall_mem_of_all_decide (by decide +kernel) : ∀ r ∈ fixedRefs, r ∉ hostOps9_2_W) r hr)).trans
    ((W40_of m ρ c r ((ListAll.forall_mem_of_all_decide (by decide +kernel) : ∀ r ∈ fixedRefs, r ∉ hostOps9_1_W) r hr)).trans
    (W39_of m ρ c r ((ListAll.forall_mem_of_all_decide (by decide +kernel) : ∀ r ∈ fixedRefs, r ∉ hostOps9_W) r hr)))

/-- Launch 9 starts from the next state. -/
theorem entry9 : Holds (argsOf m c) (state (argsOf m c) 9) (W41 m ρ c (Proc.devRef .tc main_v467)) (W41 m ρ c (Proc.devRef .tc main_v465)) (W41 m ρ c (Proc.devRef .tc main_v483))
    (W41 m ρ c (Proc.devRef .tc main_v489)) (W41 m ρ c (Proc.devRef .tc main_v490)) := by
  have F := fixedOut8 m ρ c
  exact Holds.next (n := 8) (gates8_state m ρ c) ((kept8 m ρ c main_v413 (by decide)).trans (entry8 m ρ c).cell) (cell8_eq _)
    ((hid8_eq _).trans (congrArg (hidNext _) (cell8_eq _).symm)) ((pos8_eq _).trans (pos8_state m ρ c))
    ((emb8_eq _).trans (by rw [F.wEmbed, F.bEmbed]; exact congrArg _ (congrArg _ (pos8_eq _).symm)))
    ((flip8_eq _).trans (congrArg flip (pos8_eq _).symm))

/-- The spreads after launch 8. -/
theorem spread8_state : W41 m ρ c (Proc.devRef .tc main_v477) = spread (outOf (argsOf m c) 9) :=
  (spread8_eq _).trans (by rw [(fixedOut8 m ρ c).wOut, (fixedOut8 m ρ c).bOut, hid8_state]; rfl)

/-- The correlations after launch 8. -/
theorem corr8_state : W41 m ρ c (Proc.devRef .tc main_v480) = corr (outOf (argsOf m c) 9) :=
  (corr8_eq _).trans (by rw [(fixedOut8 m ρ c).wOut, (fixedOut8 m ρ c).bOut, hid8_state]; rfl)

/-- Launch 9 leaves the fixed arrays alone. -/
theorem fixedOut9 : Fixed (argsOf m c) (W42 m ρ c) :=
  (fixed9 m ρ c).of_eq fun r hr => W42_of m ρ c r ((ListAll.forall_mem_of_all_decide (by decide +kernel) :
    ∀ r ∈ fixedRefs, ∀ w : Fin cfg9.W, Pipeline.arrRef spec9 w = r → (cfg9.win w).isOut = false) r hr)

/-- What launch 9 leaves alone of the state it starts from. -/
theorem kept9 : ∀ r ∈ [main_v467, main_v465, main_v483, main_v489], W42 m ρ c (Proc.devRef .tc r) = W41 m ρ c (Proc.devRef .tc r) := fun r hr =>
  W42_of m ρ c r ((ListAll.forall_mem_of_all_decide (by decide +kernel) :
    ∀ r ∈ [main_v467, main_v465, main_v483, main_v489], ∀ w : Fin cfg9.W, Pipeline.arrRef spec9 w = r → (cfg9.win w).isOut = false) r hr)

/-- Launch 9 pools its state. -/
theorem pooled9 : W42 m ρ c (Proc.devRef .tc main_v491)
    = ReferenceIdeal.Pool.social (argsOf m c).mask (state (argsOf m c) 9).pos (state (argsOf m c) 9).hid (argsOf m c).wPool (argsOf m c).bPool :=
  (W42_arr m ρ c 7).trans ((Pool.out9 (V41 m ρ) c).trans ((entry9 m ρ c).pooled (fixed9 m ρ c)))

/-- The gates after launch 9 are the state's. -/
theorem gates9_state : gates9 (W42 m ρ c) = gatesOf (argsOf m c) (state (argsOf m c) 9) := by
  have F := fixedOut9 m ρ c
  have H := entry9 m ρ c
  unfold gates9 gatesOf
  rw [F.wIn, F.bIn, F.wHid, F.bHid, (kept9 m ρ c main_v489 (by decide)).trans H.emb, pooled9, (kept9 m ρ c main_v467 (by decide)).trans H.hid]

/-- The hidden state after launch 9 is the next state's. -/
theorem hid9_state : hid9 (W42 m ρ c) = (state (argsOf m c) (9 + 1)).hid := by
  unfold hid9 cell9
  rw [gates9_state, (kept9 m ρ c main_v465 (by decide)).trans (entry9 m ρ c).cell]
  rfl

/-- The positions after launch 9 are the next state's. -/
theorem pos9_state : pos9 (W42 m ρ c) = posOf (argsOf m c) (state (argsOf m c) 9) 9 := by
  have F := fixedOut9 m ρ c
  unfold pos9
  rw [F.maskCol, F.wOut, F.bOut, hid9_state, (kept9 m ρ c main_v483 (by decide)).trans (entry9 m ρ c).pos]
  rfl

/-- The fixed arrays as launch 10 finds them. -/
theorem fixed10 : Fixed (argsOf m c) (W45 m ρ c) :=
  (fixedOut9 m ρ c).of_eq fun r hr =>
    (W45_of m ρ c r ((ListAll.forall_mem_of_all_decide (by decide +kernel) : ∀ r ∈ fixedRefs, r ∉ hostOps10_2_W) r hr)).trans
    ((W44_of m ρ c r ((ListAll.forall_mem_of_all_decide (by decide +kernel) : ∀ r ∈ fixedRefs, r ∉ hostOps10_1_W) r hr)).trans
    (W43_of m ρ c r ((ListAll.forall_mem_of_all_decide (by decide +kernel) : ∀ r ∈ fixedRefs, r ∉ hostOps10_W) r hr)))

/-- Launch 10 starts from the next state. -/
theorem entry10 : Holds (argsOf m c) (state (argsOf m c) 10) (W45 m ρ c (Proc.devRef .tc main_v531)) (W45 m ρ c (Proc.devRef .tc main_v529)) (W45 m ρ c (Proc.devRef .tc main_v547))
    (W45 m ρ c (Proc.devRef .tc main_v553)) (W45 m ρ c (Proc.devRef .tc main_v554)) := by
  have F := fixedOut9 m ρ c
  exact Holds.next (n := 9) (gates9_state m ρ c) ((kept9 m ρ c main_v465 (by decide)).trans (entry9 m ρ c).cell) (cell9_eq _)
    ((hid9_eq _).trans (congrArg (hidNext _) (cell9_eq _).symm)) ((pos9_eq _).trans (pos9_state m ρ c))
    ((emb9_eq _).trans (by rw [F.wEmbed, F.bEmbed]; exact congrArg _ (congrArg _ (pos9_eq _).symm)))
    ((flip9_eq _).trans (congrArg flip (pos9_eq _).symm))

/-- The spreads after launch 9. -/
theorem spread9_state : W45 m ρ c (Proc.devRef .tc main_v541) = spread (outOf (argsOf m c) 10) :=
  (spread9_eq _).trans (by rw [(fixedOut9 m ρ c).wOut, (fixedOut9 m ρ c).bOut, hid9_state]; rfl)

/-- The correlations after launch 9. -/
theorem corr9_state : W45 m ρ c (Proc.devRef .tc main_v544) = corr (outOf (argsOf m c) 10) :=
  (corr9_eq _).trans (by rw [(fixedOut9 m ρ c).wOut, (fixedOut9 m ρ c).bOut, hid9_state]; rfl)

/-- Launch 10 leaves the fixed arrays alone. -/
theorem fixedOut10 : Fixed (argsOf m c) (W46 m ρ c) :=
  (fixed10 m ρ c).of_eq fun r hr => W46_of m ρ c r ((ListAll.forall_mem_of_all_decide (by decide +kernel) :
    ∀ r ∈ fixedRefs, ∀ w : Fin cfg10.W, Pipeline.arrRef spec10 w = r → (cfg10.win w).isOut = false) r hr)

/-- What launch 10 leaves alone of the state it starts from. -/
theorem kept10 : ∀ r ∈ [main_v531, main_v529, main_v547, main_v553], W46 m ρ c (Proc.devRef .tc r) = W45 m ρ c (Proc.devRef .tc r) := fun r hr =>
  W46_of m ρ c r ((ListAll.forall_mem_of_all_decide (by decide +kernel) :
    ∀ r ∈ [main_v531, main_v529, main_v547, main_v553], ∀ w : Fin cfg10.W, Pipeline.arrRef spec10 w = r → (cfg10.win w).isOut = false) r hr)

/-- Launch 10 pools its state. -/
theorem pooled10 : W46 m ρ c (Proc.devRef .tc main_v555)
    = ReferenceIdeal.Pool.social (argsOf m c).mask (state (argsOf m c) 10).pos (state (argsOf m c) 10).hid (argsOf m c).wPool (argsOf m c).bPool :=
  (W46_arr m ρ c 7).trans ((Pool.out10 (V45 m ρ) c).trans ((entry10 m ρ c).pooled (fixed10 m ρ c)))

/-- The gates after launch 10 are the state's. -/
theorem gates10_state : gates10 (W46 m ρ c) = gatesOf (argsOf m c) (state (argsOf m c) 10) := by
  have F := fixedOut10 m ρ c
  have H := entry10 m ρ c
  unfold gates10 gatesOf
  rw [F.wIn, F.bIn, F.wHid, F.bHid, (kept10 m ρ c main_v553 (by decide)).trans H.emb, pooled10, (kept10 m ρ c main_v531 (by decide)).trans H.hid]

/-- The hidden state after launch 10 is the next state's. -/
theorem hid10_state : hid10 (W46 m ρ c) = (state (argsOf m c) (10 + 1)).hid := by
  unfold hid10 cell10
  rw [gates10_state, (kept10 m ρ c main_v529 (by decide)).trans (entry10 m ρ c).cell]
  rfl

/-- The positions after launch 10 are the next state's. -/
theorem pos10_state : pos10 (W46 m ρ c) = posOf (argsOf m c) (state (argsOf m c) 10) 10 := by
  have F := fixedOut10 m ρ c
  unfold pos10
  rw [F.maskCol, F.wOut, F.bOut, hid10_state, (kept10 m ρ c main_v547 (by decide)).trans (entry10 m ρ c).pos]
  rfl

/-- The fixed arrays as launch 11 finds them. -/
theorem fixed11 : Fixed (argsOf m c) (W49 m ρ c) :=
  (fixedOut10 m ρ c).of_eq fun r hr =>
    (W49_of m ρ c r ((ListAll.forall_mem_of_all_decide (by decide +kernel) : ∀ r ∈ fixedRefs, r ∉ hostOps11_2_W) r hr)).trans
    ((W48_of m ρ c r ((ListAll.forall_mem_of_all_decide (by decide +kernel) : ∀ r ∈ fixedRefs, r ∉ hostOps11_1_W) r hr)).trans
    (W47_of m ρ c r ((ListAll.forall_mem_of_all_decide (by decide +kernel) : ∀ r ∈ fixedRefs, r ∉ hostOps11_W) r hr)))

/-- Launch 11 starts from the next state. -/
theorem entry11 : Holds (argsOf m c) (state (argsOf m c) 11) (W49 m ρ c (Proc.devRef .tc main_v595)) (W49 m ρ c (Proc.devRef .tc main_v593)) (W49 m ρ c (Proc.devRef .tc main_v611))
    (W49 m ρ c (Proc.devRef .tc main_v617)) (W49 m ρ c (Proc.devRef .tc main_v618)) := by
  have F := fixedOut10 m ρ c
  exact Holds.next (n := 10) (gates10_state m ρ c) ((kept10 m ρ c main_v529 (by decide)).trans (entry10 m ρ c).cell) (cell10_eq _)
    ((hid10_eq _).trans (congrArg (hidNext _) (cell10_eq _).symm)) ((pos10_eq _).trans (pos10_state m ρ c))
    ((emb10_eq _).trans (by rw [F.wEmbed, F.bEmbed]; exact congrArg _ (congrArg _ (pos10_eq _).symm)))
    ((flip10_eq _).trans (congrArg flip (pos10_eq _).symm))

/-- The spreads after launch 10. -/
theorem spread10_state : W49 m ρ c (Proc.devRef .tc main_v605) = spread (outOf (argsOf m c) 11) :=
  (spread10_eq _).trans (by rw [(fixedOut10 m ρ c).wOut, (fixedOut10 m ρ c).bOut, hid10_state]; rfl)

/-- The correlations after launch 10. -/
theorem corr10_state : W49 m ρ c (Proc.devRef .tc main_v608) = corr (outOf (argsOf m c) 11) :=
  (corr10_eq _).trans (by rw [(fixedOut10 m ρ c).wOut, (fixedOut10 m ρ c).bOut, hid10_state]; rfl)

/-- Launch 11 leaves the fixed arrays alone. -/
theorem fixedOut11 : Fixed (argsOf m c) (W50 m ρ c) :=
  (fixed11 m ρ c).of_eq fun r hr => W50_of m ρ c r ((ListAll.forall_mem_of_all_decide (by decide +kernel) :
    ∀ r ∈ fixedRefs, ∀ w : Fin cfg11.W, Pipeline.arrRef spec11 w = r → (cfg11.win w).isOut = false) r hr)

/-- What launch 11 leaves alone of the state it starts from. -/
theorem kept11 : ∀ r ∈ [main_v595, main_v593, main_v611, main_v617], W50 m ρ c (Proc.devRef .tc r) = W49 m ρ c (Proc.devRef .tc r) := fun r hr =>
  W50_of m ρ c r ((ListAll.forall_mem_of_all_decide (by decide +kernel) :
    ∀ r ∈ [main_v595, main_v593, main_v611, main_v617], ∀ w : Fin cfg11.W, Pipeline.arrRef spec11 w = r → (cfg11.win w).isOut = false) r hr)

/-- Launch 11 pools its state. -/
theorem pooled11 : W50 m ρ c (Proc.devRef .tc main_v619)
    = ReferenceIdeal.Pool.social (argsOf m c).mask (state (argsOf m c) 11).pos (state (argsOf m c) 11).hid (argsOf m c).wPool (argsOf m c).bPool :=
  (W50_arr m ρ c 7).trans ((Pool.out11 (V49 m ρ) c).trans ((entry11 m ρ c).pooled (fixed11 m ρ c)))

/-- The gates after launch 11 are the state's. -/
theorem gates11_state : gates11 (W50 m ρ c) = gatesOf (argsOf m c) (state (argsOf m c) 11) := by
  have F := fixedOut11 m ρ c
  have H := entry11 m ρ c
  unfold gates11 gatesOf
  rw [F.wIn, F.bIn, F.wHid, F.bHid, (kept11 m ρ c main_v617 (by decide)).trans H.emb, pooled11, (kept11 m ρ c main_v595 (by decide)).trans H.hid]

/-- The hidden state after launch 11 is the next state's. -/
theorem hid11_state : hid11 (W50 m ρ c) = (state (argsOf m c) (11 + 1)).hid := by
  unfold hid11 cell11
  rw [gates11_state, (kept11 m ρ c main_v593 (by decide)).trans (entry11 m ρ c).cell]
  rfl

/-- The positions after launch 11 are the next state's. -/
theorem pos11_state : pos11 (W50 m ρ c) = posOf (argsOf m c) (state (argsOf m c) 11) 11 := by
  have F := fixedOut11 m ρ c
  unfold pos11
  rw [F.maskCol, F.wOut, F.bOut, hid11_state, (kept11 m ρ c main_v611 (by decide)).trans (entry11 m ρ c).pos]
  rfl

/-- The fixed arrays as launch 12 finds them. -/
theorem fixed12 : Fixed (argsOf m c) (W53 m ρ c) :=
  (fixedOut11 m ρ c).of_eq fun r hr =>
    (W53_of m ρ c r ((ListAll.forall_mem_of_all_decide (by decide +kernel) : ∀ r ∈ fixedRefs, r ∉ hostOps12_2_W) r hr)).trans
    ((W52_of m ρ c r ((ListAll.forall_mem_of_all_decide (by decide +kernel) : ∀ r ∈ fixedRefs, r ∉ hostOps12_1_W) r hr)).trans
    (W51_of m ρ c r ((ListAll.forall_mem_of_all_decide (by decide +kernel) : ∀ r ∈ fixedRefs, r ∉ hostOps12_W) r hr)))

/-- Launch 12 starts from the next state. -/
theorem entry12 : Holds (argsOf m c) (state (argsOf m c) 12) (W53 m ρ c (Proc.devRef .tc main_v659)) (W53 m ρ c (Proc.devRef .tc main_v657)) (W53 m ρ c (Proc.devRef .tc main_v675))
    (W53 m ρ c (Proc.devRef .tc main_v681)) (W53 m ρ c (Proc.devRef .tc main_v682)) := by
  have F := fixedOut11 m ρ c
  exact Holds.next (n := 11) (gates11_state m ρ c) ((kept11 m ρ c main_v593 (by decide)).trans (entry11 m ρ c).cell) (cell11_eq _)
    ((hid11_eq _).trans (congrArg (hidNext _) (cell11_eq _).symm)) ((pos11_eq _).trans (pos11_state m ρ c))
    ((emb11_eq _).trans (by rw [F.wEmbed, F.bEmbed]; exact congrArg _ (congrArg _ (pos11_eq _).symm)))
    ((flip11_eq _).trans (congrArg flip (pos11_eq _).symm))

/-- The spreads after launch 11. -/
theorem spread11_state : W53 m ρ c (Proc.devRef .tc main_v669) = spread (outOf (argsOf m c) 12) :=
  (spread11_eq _).trans (by rw [(fixedOut11 m ρ c).wOut, (fixedOut11 m ρ c).bOut, hid11_state]; rfl)

/-- The correlations after launch 11. -/
theorem corr11_state : W53 m ρ c (Proc.devRef .tc main_v672) = corr (outOf (argsOf m c) 12) :=
  (corr11_eq _).trans (by rw [(fixedOut11 m ρ c).wOut, (fixedOut11 m ρ c).bOut, hid11_state]; rfl)

end Cert.KernelIdeal.Chain
-- ==== Proof.Stretch3.lean ====
module

public import proofs.«01_k».proof.Proof.Chain
public import Idealize.ShloMosaic.Lib.StableHlo.RunRead

/-! The host operations after launches 12 to 15, read back: each array they leave as a step function of the contents they start from. The
operations are printed launch by launch over arrays of their own, so each launch has its own statements. -/

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

/-- The gates the host operations after launch 12 compute, from the contents they start from. -/
def gates12 (V : Valuation τ sig (Elt Ideal)) : FVec Ideal S256x512 .f32 :=
  gates (gatesIn (V (Proc.devRef .tc main_arg6)) (V (Proc.devRef .tc main_arg8)) (V (Proc.devRef .tc main_v681)) (V (Proc.devRef .tc main_v683)))
      (gatesHid (V (Proc.devRef .tc main_arg7)) (V (Proc.devRef .tc main_v659))) (V (Proc.devRef .tc main_arg9))

/-- The cell they compute. -/
def cell12 (V : Valuation τ sig (Elt Ideal)) : FVec Ideal S256x128 .f32 := cellNext (gates12 V) (V (Proc.devRef .tc main_v657))

/-- The hidden state they compute. -/
def hid12 (V : Valuation τ sig (Elt Ideal)) : FVec Ideal S256x128 .f32 := hidNext (gates12 V) (cell12 V)

/-- The positions they compute. -/
def pos12 (V : Valuation τ sig (Elt Ideal)) : FVec Ideal S256x2 .f32 :=
  moved (V (Proc.devRef .tc main_v5)) (readOut (V (Proc.devRef .tc main_arg10)) (V (Proc.devRef .tc main_arg11)) (hid12 V)) (V (Proc.devRef .tc main_v675))

/-- Where the cell is left. -/
theorem cell12_eq (V : Valuation τ sig (Elt Ideal)) : after hostOps13_2 (after hostOps13_1 (after hostOps13 V)) (Proc.devRef .tc main_v721) = cell12 V := by
  after_reads_simp
  rfl

/-- Where the hidden state is left. -/
theorem hid12_eq (V : Valuation τ sig (Elt Ideal)) : after hostOps13_2 (after hostOps13_1 (after hostOps13 V)) (Proc.devRef .tc main_v723) = hid12 V := by
  after_reads_simp
  rfl

/-- Where the positions are left. -/
theorem pos12_eq (V : Valuation τ sig (Elt Ideal)) : after hostOps13_2 (after hostOps13_1 (after hostOps13 V)) (Proc.devRef .tc main_v739) = pos12 V := by
  after_reads_simp
  rfl

/-- Where the positions' embedding is left. -/
theorem emb12_eq (V : Valuation τ sig (Elt Ideal)) : after hostOps13_2 (after hostOps13_1 (after hostOps13 V)) (Proc.devRef .tc main_v745) = relu (preEmbed (V (Proc.devRef .tc main_arg2)) (V (Proc.devRef .tc main_arg3)) (pos12 V)) := by
  after_reads_simp
  rfl

/-- Where the transposed positions are left. -/
theorem flip12_eq (V : Valuation τ sig (Elt Ideal)) : after hostOps13_2 (after hostOps13_1 (after hostOps13 V)) (Proc.devRef .tc main_v746) = flip (pos12 V) := by
  after_reads_simp
  rfl

/-- Where the spreads are left. -/
theorem spread12_eq (V : Valuation τ sig (Elt Ideal)) : after hostOps13_2 (after hostOps13_1 (after hostOps13 V)) (Proc.devRef .tc main_v733) = spread (readOut (V (Proc.devRef .tc main_arg10)) (V (Proc.devRef .tc main_arg11)) (hid12 V)) := by
  after_reads_simp
  rfl

/-- Where the correlations are left. -/
theorem corr12_eq (V : Valuation τ sig (Elt Ideal)) : after hostOps13_2 (after hostOps13_1 (after hostOps13 V)) (Proc.devRef .tc main_v736) = corr (readOut (V (Proc.devRef .tc main_arg10)) (V (Proc.devRef .tc main_arg11)) (hid12 V)) := by
  after_reads_simp
  rfl

/-- The gates the host operations after launch 13 compute, from the contents they start from. -/
def gates13 (V : Valuation τ sig (Elt Ideal)) : FVec Ideal S256x512 .f32 :=
  gates (gatesIn (V (Proc.devRef .tc main_arg6)) (V (Proc.devRef .tc main_arg8)) (V (Proc.devRef .tc main_v745)) (V (Proc.devRef .tc main_v747)))
      (gatesHid (V (Proc.devRef .tc main_arg7)) (V (Proc.devRef .tc main_v723))) (V (Proc.devRef .tc main_arg9))

/-- The cell they compute. -/
def cell13 (V : Valuation τ sig (Elt Ideal)) : FVec Ideal S256x128 .f32 := cellNext (gates13 V) (V (Proc.devRef .tc main_v721))

/-- The hidden state they compute. -/
def hid13 (V : Valuation τ sig (Elt Ideal)) : FVec Ideal S256x128 .f32 := hidNext (gates13 V) (cell13 V)

/-- The positions they compute. -/
def pos13 (V : Valuation τ sig (Elt Ideal)) : FVec Ideal S256x2 .f32 :=
  moved (V (Proc.devRef .tc main_v5)) (readOut (V (Proc.devRef .tc main_arg10)) (V (Proc.devRef .tc main_arg11)) (hid13 V)) (V (Proc.devRef .tc main_v739))

/-- Where the cell is left. -/
theorem cell13_eq (V : Valuation τ sig (Elt Ideal)) : after hostOps14_2 (after hostOps14_1 (after hostOps14 V)) (Proc.devRef .tc main_v785) = cell13 V := by
  after_reads_simp
  rfl

/-- Where the hidden state is left. -/
theorem hid13_eq (V : Valuation τ sig (Elt Ideal)) : after hostOps14_2 (after hostOps14_1 (after hostOps14 V)) (Proc.devRef .tc main_v787) = hid13 V := by
  after_reads_simp
  rfl

/-- Where the positions are left. -/
theorem pos13_eq (V : Valuation τ sig (Elt Ideal)) : after hostOps14_2 (after hostOps14_1 (after hostOps14 V)) (Proc.devRef .tc main_v803) = pos13 V := by
  after_reads_simp
  rfl

/-- Where the positions' embedding is left. -/
theorem emb13_eq (V : Valuation τ sig (Elt Ideal)) : after hostOps14_2 (after hostOps14_1 (after hostOps14 V)) (Proc.devRef .tc main_v809) = relu (preEmbed (V (Proc.devRef .tc main_arg2)) (V (Proc.devRef .tc main_arg3)) (pos13 V)) := by
  after_reads_simp
  rfl

/-- Where the transposed positions are left. -/
theorem flip13_eq (V : Valuation τ sig (Elt Ideal)) : after hostOps14_2 (after hostOps14_1 (after hostOps14 V)) (Proc.devRef .tc main_v810) = flip (pos13 V) := by
  after_reads_simp
  rfl

/-- Where the spreads are left. -/
theorem spread13_eq (V : Valuation τ sig (Elt Ideal)) : after hostOps14_2 (after hostOps14_1 (after hostOps14 V)) (Proc.devRef .tc main_v797) = spread (readOut (V (Proc.devRef .tc main_arg10)) (V (Proc.devRef .tc main_arg11)) (hid13 V)) := by
  after_reads_simp
  rfl

/-- Where the correlations are left. -/
theorem corr13_eq (V : Valuation τ sig (Elt Ideal)) : after hostOps14_2 (after hostOps14_1 (after hostOps14 V)) (Proc.devRef .tc main_v800) = corr (readOut (V (Proc.devRef .tc main_arg10)) (V (Proc.devRef .tc main_arg11)) (hid13 V)) := by
  after_reads_simp
  rfl

/-- The gates the host operations after launch 14 compute, from the contents they start from. -/
def gates14 (V : Valuation τ sig (Elt Ideal)) : FVec Ideal S256x512 .f32 :=
  gates (gatesIn (V (Proc.devRef .tc main_arg6)) (V (Proc.devRef .tc main_arg8)) (V (Proc.devRef .tc main_v809)) (V (Proc.devRef .tc main_v811)))
      (gatesHid (V (Proc.devRef .tc main_arg7)) (V (Proc.devRef .tc main_v787))) (V (Proc.devRef .tc main_arg9))

/-- The cell they compute. -/
def cell14 (V : Valuation τ sig (Elt Ideal)) : FVec Ideal S256x128 .f32 := cellNext (gates14 V) (V (Proc.devRef .tc main_v785))

/-- The hidden state they compute. -/
def hid14 (V : Valuation τ sig (Elt Ideal)) : FVec Ideal S256x128 .f32 := hidNext (gates14 V) (cell14 V)

/-- The positions they compute. -/
def pos14 (V : Valuation τ sig (Elt Ideal)) : FVec Ideal S256x2 .f32 :=
  moved (V (Proc.devRef .tc main_v5)) (readOut (V (Proc.devRef .tc main_arg10)) (V (Proc.devRef .tc main_arg11)) (hid14 V)) (V (Proc.devRef .tc main_v803))

/-- Where the cell is left. -/
theorem cell14_eq (V : Valuation τ sig (Elt Ideal)) : after hostOps15_2 (after hostOps15_1 (after hostOps15 V)) (Proc.devRef .tc main_v849) = cell14 V := by
  after_reads_simp
  rfl

/-- Where the hidden state is left. -/
theorem hid14_eq (V : Valuation τ sig (Elt Ideal)) : after hostOps15_2 (after hostOps15_1 (after hostOps15 V)) (Proc.devRef .tc main_v851) = hid14 V := by
  after_reads_simp
  rfl

/-- Where the positions are left. -/
theorem pos14_eq (V : Valuation τ sig (Elt Ideal)) : after hostOps15_2 (after hostOps15_1 (after hostOps15 V)) (Proc.devRef .tc main_v867) = pos14 V := by
  after_reads_simp
  rfl

/-- Where the positions' embedding is left. -/
theorem emb14_eq (V : Valuation τ sig (Elt Ideal)) : after hostOps15_2 (after hostOps15_1 (after hostOps15 V)) (Proc.devRef .tc main_v873) = relu (preEmbed (V (Proc.devRef .tc main_arg2)) (V (Proc.devRef .tc main_arg3)) (pos14 V)) := by
  after_reads_simp
  rfl

/-- Where the transposed positions are left. -/
theorem flip14_eq (V : Valuation τ sig (Elt Ideal)) : after hostOps15_2 (after hostOps15_1 (after hostOps15 V)) (Proc.devRef .tc main_v874) = flip (pos14 V) := by
  after_reads_simp
  rfl

/-- Where the spreads are left. -/
theorem spread14_eq (V : Valuation τ sig (Elt Ideal)) : after hostOps15_2 (after hostOps15_1 (after hostOps15 V)) (Proc.devRef .tc main_v861) = spread (readOut (V (Proc.devRef .tc main_arg10)) (V (Proc.devRef .tc main_arg11)) (hid14 V)) := by
  after_reads_simp
  rfl

/-- Where the correlations are left. -/
theorem corr14_eq (V : Valuation τ sig (Elt Ideal)) : after hostOps15_2 (after hostOps15_1 (after hostOps15 V)) (Proc.devRef .tc main_v864) = corr (readOut (V (Proc.devRef .tc main_arg10)) (V (Proc.devRef .tc main_arg11)) (hid14 V)) := by
  after_reads_simp
  rfl

/-- The gates the host operations after launch 15 compute, from the contents they start from. -/
def gates15 (V : Valuation τ sig (Elt Ideal)) : FVec Ideal S256x512 .f32 :=
  gates (gatesIn (V (Proc.devRef .tc main_arg6)) (V (Proc.devRef .tc main_arg8)) (V (Proc.devRef .tc main_v873)) (V (Proc.devRef .tc main_v875)))
      (gatesHid (V (Proc.devRef .tc main_arg7)) (V (Proc.devRef .tc main_v851))) (V (Proc.devRef .tc main_arg9))

/-- The cell they compute. -/
def cell15 (V : Valuation τ sig (Elt Ideal)) : FVec Ideal S256x128 .f32 := cellNext (gates15 V) (V (Proc.devRef .tc main_v849))

/-- The hidden state they compute. -/
def hid15 (V : Valuation τ sig (Elt Ideal)) : FVec Ideal S256x128 .f32 := hidNext (gates15 V) (cell15 V)

/-- The positions they compute. -/
def pos15 (V : Valuation τ sig (Elt Ideal)) : FVec Ideal S256x2 .f32 :=
  moved (V (Proc.devRef .tc main_v5)) (readOut (V (Proc.devRef .tc main_arg10)) (V (Proc.devRef .tc main_arg11)) (hid15 V)) (V (Proc.devRef .tc main_v867))

/-- Where the cell is left. -/
theorem cell15_eq (V : Valuation τ sig (Elt Ideal)) : after hostOps16_2 (after hostOps16_1 (after hostOps16 V)) (Proc.devRef .tc main_v913) = cell15 V := by
  after_reads_simp
  rfl

/-- Where the hidden state is left. -/
theorem hid15_eq (V : Valuation τ sig (Elt Ideal)) : after hostOps16_2 (after hostOps16_1 (after hostOps16 V)) (Proc.devRef .tc main_v915) = hid15 V := by
  after_reads_simp
  rfl

/-- Where the positions are left. -/
theorem pos15_eq (V : Valuation τ sig (Elt Ideal)) : after hostOps16_2 (after hostOps16_1 (after hostOps16 V)) (Proc.devRef .tc main_v931) = pos15 V := by
  after_reads_simp
  rfl

/-- Where the positions' embedding is left. -/
theorem emb15_eq (V : Valuation τ sig (Elt Ideal)) : after hostOps16_2 (after hostOps16_1 (after hostOps16 V)) (Proc.devRef .tc main_v937) = relu (preEmbed (V (Proc.devRef .tc main_arg2)) (V (Proc.devRef .tc main_arg3)) (pos15 V)) := by
  after_reads_simp
  rfl

/-- Where the transposed positions are left. -/
theorem flip15_eq (V : Valuation τ sig (Elt Ideal)) : after hostOps16_2 (after hostOps16_1 (after hostOps16 V)) (Proc.devRef .tc main_v938) = flip (pos15 V) := by
  after_reads_simp
  rfl

/-- Where the spreads are left. -/
theorem spread15_eq (V : Valuation τ sig (Elt Ideal)) : after hostOps16_2 (after hostOps16_1 (after hostOps16 V)) (Proc.devRef .tc main_v925) = spread (readOut (V (Proc.devRef .tc main_arg10)) (V (Proc.devRef .tc main_arg11)) (hid15 V)) := by
  after_reads_simp
  rfl

/-- Where the correlations are left. -/
theorem corr15_eq (V : Valuation τ sig (Elt Ideal)) : after hostOps16_2 (after hostOps16_1 (after hostOps16 V)) (Proc.devRef .tc main_v928) = corr (readOut (V (Proc.devRef .tc main_arg10)) (V (Proc.devRef .tc main_arg11)) (hid15 V)) := by
  after_reads_simp
  rfl

end Cert.KernelIdeal.Chain
-- ==== Proof.Launches3.lean ====
module

public import proofs.«01_k».proof.Proof.Gen.KernelIdeal.Frame.Region12
public import proofs.«01_k».proof.Proof.Gen.KernelIdeal.Frame.Region13
public import proofs.«01_k».proof.Proof.Gen.KernelIdeal.Frame.Region14
public import proofs.«01_k».proof.Proof.Gen.KernelIdeal.Frame.Region15
public import proofs.«01_k».proof.Proof.Gathered

/-! The output arrays of launches 12 to 15: each is the pooled grid of the launch's operands. The launches are printed one by one, so each has its
own statement; the loop and the arithmetic are read by the same lemmas. -/

@[expose] public section

set_option maxRecDepth 16384

noncomputable section

namespace Cert.KernelIdeal.Pool

open Cert.KernelIdeal Cert.KernelIdeal.Gen Idealize.ShloMosaic Idealize.ShloMosaic.TcCoe Cert.Cells Idealize.SL Idealize.SL.Sem

/-- What launch 12's body leaves in its output block. -/
theorem body12 (V) (c : Dev nD) (t : Fin cfg12.N) : outsAt12 (F := Ideal) V c t
    = launched (V c main_v659) (V c main_v675) (V c main_v682) (V c main_v8) (V c main_v10) (V c main_v11) (V c main_v12) := by
  unfold outsAt12
  frame_open
  frame_out
  simp only [read_unread_whole]
  have b0 : iblk12 V c 0 t = V c main_v659 :=
    Memref.read_access_unit_zero (Elt Ideal) main_v659 (funext fun _ => Nat.zero_mul _) _ (V c main_v659)
  have b1 : iblk12 V c 1 t = V c main_v675 :=
    Memref.read_access_unit_zero (Elt Ideal) main_v675 (funext fun _ => Nat.zero_mul _) _ (V c main_v675)
  have b2 : iblk12 V c 2 t = V c main_v682 :=
    Memref.read_access_unit_zero (Elt Ideal) main_v682 (funext fun _ => Nat.zero_mul _) _ (V c main_v682)
  have b3 : iblk12 V c 3 t = V c main_v8 :=
    Memref.read_access_unit_zero (Elt Ideal) main_v8 (funext fun _ => Nat.zero_mul _) _ (V c main_v8)
  have b4 : iblk12 V c 4 t = V c main_v10 :=
    Memref.read_access_unit_zero (Elt Ideal) main_v10 (funext fun _ => Nat.zero_mul _) _ (V c main_v10)
  have b5 : iblk12 V c 5 t = V c main_v11 :=
    Memref.read_access_unit_zero (Elt Ideal) main_v11 (funext fun _ => Nat.zero_mul _) _ (V c main_v11)
  have b6 : iblk12 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k12_t1 _ _ _ _ _ _ _ _ _ _ _ _ _ _ _ _ _ _ _ _ _ _ _ _ _ _ _ n) rfl (fun t => ?_) _
  refine (pb_k12_t1_succ _ _ _ _ _ _ _ _ _ _ _ _ _ _ _ _ _ _ _ _ _ _ _ _ _ _ _ t).trans ?_
  rw [dif_pos t.isLt]
  refine congrArg (· ++ _) ?_
  unfold tripL_k12_t1 trip_k12_t1
  rfl

/-- What launch 12 leaves in its output array. -/
theorem out12 (V) (c : Dev nD) : (dat12 (F := Ideal) V c).arrAt 7 cfg12.N
    = launched (V c main_v659) (V c main_v675) (V c main_v682) (V c main_v8) (V c main_v10) (V c main_v11) (V c main_v12) := by
  refine (dat12 V c).arrAt_eq_of_covers 7 _ (by decide +kernel) fun t hf y => ?_
  rw [after12_7, body12]
  have h : (win12_7.blk t).view.emb y = y := funext fun _ => Fin.ext (zero_block _ _)
  generalize launched _ _ _ _ _ _ _ = L
  blk_simp
  exact congrArg L h.symm

/-- What launch 13's body leaves in its output block. -/
theorem body13 (V) (c : Dev nD) (t : Fin cfg13.N) : outsAt13 (F := Ideal) V c t
    = launched (V c main_v723) (V c main_v739) (V c main_v746) (V c main_v8) (V c main_v10) (V c main_v11) (V c main_v12) := by
  unfold outsAt13
  frame_open
  frame_out
  simp only [read_unread_whole]
  have b0 : iblk13 V c 0 t = V c main_v723 :=
    Memref.read_access_unit_zero (Elt Ideal) main_v723 (funext fun _ => Nat.zero_mul _) _ (V c main_v723)
  have b1 : iblk13 V c 1 t = V c main_v739 :=
    Memref.read_access_unit_zero (Elt Ideal) main_v739 (funext fun _ => Nat.zero_mul _) _ (V c main_v739)
  have b2 : iblk13 V c 2 t = V c main_v746 :=
    Memref.read_access_unit_zero (Elt Ideal) main_v746 (funext fun _ => Nat.zero_mul _) _ (V c main_v746)
  have b3 : iblk13 V c 3 t = V c main_v8 :=
    Memref.read_access_unit_zero (Elt Ideal) main_v8 (funext fun _ => Nat.zero_mul _) _ (V c main_v8)
  have b4 : iblk13 V c 4 t = V c main_v10 :=
    Memref.read_access_unit_zero (Elt Ideal) main_v10 (funext fun _ => Nat.zero_mul _) _ (V c main_v10)
  have b5 : iblk13 V c 5 t = V c main_v11 :=
    Memref.read_access_unit_zero (Elt Ideal) main_v11 (funext fun _ => Nat.zero_mul _) _ (V c main_v11)
  have b6 : iblk13 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k13_t1 _ _ _ _ _ _ _ _ _ _ _ _ _ _ _ _ _ _ _ _ _ _ _ _ _ _ _ n) rfl (fun t => ?_) _
  refine (pb_k13_t1_succ _ _ _ _ _ _ _ _ _ _ _ _ _ _ _ _ _ _ _ _ _ _ _ _ _ _ _ t).trans ?_
  rw [dif_pos t.isLt]
  refine congrArg (· ++ _) ?_
  unfold tripL_k13_t1 trip_k13_t1
  rfl

/-- What launch 13 leaves in its output array. -/
theorem out13 (V) (c : Dev nD) : (dat13 (F := Ideal) V c).arrAt 7 cfg13.N
    = launched (V c main_v723) (V c main_v739) (V c main_v746) (V c main_v8) (V c main_v10) (V c main_v11) (V c main_v12) := by
  refine (dat13 V c).arrAt_eq_of_covers 7 _ (by decide +kernel) fun t hf y => ?_
  rw [after13_7, body13]
  have h : (win13_7.blk t).view.emb y = y := funext fun _ => Fin.ext (zero_block _ _)
  generalize launched _ _ _ _ _ _ _ = L
  blk_simp
  exact congrArg L h.symm

/-- What launch 14's body leaves in its output block. -/
theorem body14 (V) (c : Dev nD) (t : Fin cfg14.N) : outsAt14 (F := Ideal) V c t
    = launched (V c main_v787) (V c main_v803) (V c main_v810) (V c main_v8) (V c main_v10) (V c main_v11) (V c main_v12) := by
  unfold outsAt14
  frame_open
  frame_out
  simp only [read_unread_whole]
  have b0 : iblk14 V c 0 t = V c main_v787 :=
    Memref.read_access_unit_zero (Elt Ideal) main_v787 (funext fun _ => Nat.zero_mul _) _ (V c main_v787)
  have b1 : iblk14 V c 1 t = V c main_v803 :=
    Memref.read_access_unit_zero (Elt Ideal) main_v803 (funext fun _ => Nat.zero_mul _) _ (V c main_v803)
  have b2 : iblk14 V c 2 t = V c main_v810 :=
    Memref.read_access_unit_zero (Elt Ideal) main_v810 (funext fun _ => Nat.zero_mul _) _ (V c main_v810)
  have b3 : iblk14 V c 3 t = V c main_v8 :=
    Memref.read_access_unit_zero (Elt Ideal) main_v8 (funext fun _ => Nat.zero_mul _) _ (V c main_v8)
  have b4 : iblk14 V c 4 t = V c main_v10 :=
    Memref.read_access_unit_zero (Elt Ideal) main_v10 (funext fun _ => Nat.zero_mul _) _ (V c main_v10)
  have b5 : iblk14 V c 5 t = V c main_v11 :=
    Memref.read_access_unit_zero (Elt Ideal) main_v11 (funext fun _ => Nat.zero_mul _) _ (V c main_v11)
  have b6 : iblk14 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k14_t1 _ _ _ _ _ _ _ _ _ _ _ _ _ _ _ _ _ _ _ _ _ _ _ _ _ _ _ n) rfl (fun t => ?_) _
  refine (pb_k14_t1_succ _ _ _ _ _ _ _ _ _ _ _ _ _ _ _ _ _ _ _ _ _ _ _ _ _ _ _ t).trans ?_
  rw [dif_pos t.isLt]
  refine congrArg (· ++ _) ?_
  unfold tripL_k14_t1 trip_k14_t1
  rfl

/-- What launch 14 leaves in its output array. -/
theorem out14 (V) (c : Dev nD) : (dat14 (F := Ideal) V c).arrAt 7 cfg14.N
    = launched (V c main_v787) (V c main_v803) (V c main_v810) (V c main_v8) (V c main_v10) (V c main_v11) (V c main_v12) := by
  refine (dat14 V c).arrAt_eq_of_covers 7 _ (by decide +kernel) fun t hf y => ?_
  rw [after14_7, body14]
  have h : (win14_7.blk t).view.emb y = y := funext fun _ => Fin.ext (zero_block _ _)
  generalize launched _ _ _ _ _ _ _ = L
  blk_simp
  exact congrArg L h.symm

/-- What launch 15's body leaves in its output block. -/
theorem body15 (V) (c : Dev nD) (t : Fin cfg15.N) : outsAt15 (F := Ideal) V c t
    = launched (V c main_v851) (V c main_v867) (V c main_v874) (V c main_v8) (V c main_v10) (V c main_v11) (V c main_v12) := by
  unfold outsAt15
  frame_open
  frame_out
  simp only [read_unread_whole]
  have b0 : iblk15 V c 0 t = V c main_v851 :=
    Memref.read_access_unit_zero (Elt Ideal) main_v851 (funext fun _ => Nat.zero_mul _) _ (V c main_v851)
  have b1 : iblk15 V c 1 t = V c main_v867 :=
    Memref.read_access_unit_zero (Elt Ideal) main_v867 (funext fun _ => Nat.zero_mul _) _ (V c main_v867)
  have b2 : iblk15 V c 2 t = V c main_v874 :=
    Memref.read_access_unit_zero (Elt Ideal) main_v874 (funext fun _ => Nat.zero_mul _) _ (V c main_v874)
  have b3 : iblk15 V c 3 t = V c main_v8 :=
    Memref.read_access_unit_zero (Elt Ideal) main_v8 (funext fun _ => Nat.zero_mul _) _ (V c main_v8)
  have b4 : iblk15 V c 4 t = V c main_v10 :=
    Memref.read_access_unit_zero (Elt Ideal) main_v10 (funext fun _ => Nat.zero_mul _) _ (V c main_v10)
  have b5 : iblk15 V c 5 t = V c main_v11 :=
    Memref.read_access_unit_zero (Elt Ideal) main_v11 (funext fun _ => Nat.zero_mul _) _ (V c main_v11)
  have b6 : iblk15 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k15_t1 _ _ _ _ _ _ _ _ _ _ _ _ _ _ _ _ _ _ _ _ _ _ _ _ _ _ _ n) rfl (fun t => ?_) _
  refine (pb_k15_t1_succ _ _ _ _ _ _ _ _ _ _ _ _ _ _ _ _ _ _ _ _ _ _ _ _ _ _ _ t).trans ?_
  rw [dif_pos t.isLt]
  refine congrArg (· ++ _) ?_
  unfold tripL_k15_t1 trip_k15_t1
  rfl

/-- What launch 15 leaves in its output array. -/
theorem out15 (V) (c : Dev nD) : (dat15 (F := Ideal) V c).arrAt 7 cfg15.N
    = launched (V c main_v851) (V c main_v867) (V c main_v874) (V c main_v8) (V c main_v10) (V c main_v11) (V c main_v12) := by
  refine (dat15 V c).arrAt_eq_of_covers 7 _ (by decide +kernel) fun t hf y => ?_
  rw [after15_7, body15]
  have h : (win15_7.blk t).view.emb y = y := funext fun _ => Fin.ext (zero_block _ _)
  generalize launched _ _ _ _ _ _ _ = L
  blk_simp
  exact congrArg L h.symm

end Cert.KernelIdeal.Pool
-- ==== Proof.Walk3.lean ====
module

public import proofs.«01_k».proof.Proof.Walk2
public import proofs.«01_k».proof.Proof.Stretch3
public import proofs.«01_k».proof.Proof.Launches3
public import proofs.«01_k».proof.Proof.Results

/-! The run from launch 12 through launch 15: each launch starts from the arrays of its state and the host operations after it leave those of the
next one. -/

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

variable (m : (ℓ : Loc nD τ sig) → Buf (Elt Ideal) ℓ) (ρ : Dev nD → PrngReg) (c : Dev nD)

/-- Launch 12 leaves the fixed arrays alone. -/
theorem fixedOut12 : Fixed (argsOf m c) (W54 m ρ c) :=
  (fixed12 m ρ c).of_eq fun r hr => W54_of m ρ c r ((ListAll.forall_mem_of_all_decide (by decide +kernel) :
    ∀ r ∈ fixedRefs, ∀ w : Fin cfg12.W, Pipeline.arrRef spec12 w = r → (cfg12.win w).isOut = false) r hr)

/-- What launch 12 leaves alone of the state it starts from. -/
theorem kept12 : ∀ r ∈ [main_v659, main_v657, main_v675, main_v681], W54 m ρ c (Proc.devRef .tc r) = W53 m ρ c (Proc.devRef .tc r) := fun r hr =>
  W54_of m ρ c r ((ListAll.forall_mem_of_all_decide (by decide +kernel) :
    ∀ r ∈ [main_v659, main_v657, main_v675, main_v681], ∀ w : Fin cfg12.W, Pipeline.arrRef spec12 w = r → (cfg12.win w).isOut = false) r hr)

/-- Launch 12 pools its state. -/
theorem pooled12 : W54 m ρ c (Proc.devRef .tc main_v683)
    = ReferenceIdeal.Pool.social (argsOf m c).mask (state (argsOf m c) 12).pos (state (argsOf m c) 12).hid (argsOf m c).wPool (argsOf m c).bPool :=
  (W54_arr m ρ c 7).trans ((Pool.out12 (V53 m ρ) c).trans ((entry12 m ρ c).pooled (fixed12 m ρ c)))

/-- The gates after launch 12 are the state's. -/
theorem gates12_state : gates12 (W54 m ρ c) = gatesOf (argsOf m c) (state (argsOf m c) 12) := by
  have F := fixedOut12 m ρ c
  have H := entry12 m ρ c
  unfold gates12 gatesOf
  rw [F.wIn, F.bIn, F.wHid, F.bHid, (kept12 m ρ c main_v681 (by decide)).trans H.emb, pooled12, (kept12 m ρ c main_v659 (by decide)).trans H.hid]

/-- The hidden state after launch 12 is the next state's. -/
theorem hid12_state : hid12 (W54 m ρ c) = (state (argsOf m c) (12 + 1)).hid := by
  unfold hid12 cell12
  rw [gates12_state, (kept12 m ρ c main_v657 (by decide)).trans (entry12 m ρ c).cell]
  rfl

/-- The positions after launch 12 are the next state's. -/
theorem pos12_state : pos12 (W54 m ρ c) = posOf (argsOf m c) (state (argsOf m c) 12) 12 := by
  have F := fixedOut12 m ρ c
  unfold pos12
  rw [F.maskCol, F.wOut, F.bOut, hid12_state, (kept12 m ρ c main_v675 (by decide)).trans (entry12 m ρ c).pos]
  rfl

/-- The fixed arrays as launch 13 finds them. -/
theorem fixed13 : Fixed (argsOf m c) (W57 m ρ c) :=
  (fixedOut12 m ρ c).of_eq fun r hr =>
    (W57_of m ρ c r ((ListAll.forall_mem_of_all_decide (by decide +kernel) : ∀ r ∈ fixedRefs, r ∉ hostOps13_2_W) r hr)).trans
    ((W56_of m ρ c r ((ListAll.forall_mem_of_all_decide (by decide +kernel) : ∀ r ∈ fixedRefs, r ∉ hostOps13_1_W) r hr)).trans
    (W55_of m ρ c r ((ListAll.forall_mem_of_all_decide (by decide +kernel) : ∀ r ∈ fixedRefs, r ∉ hostOps13_W) r hr)))

/-- Launch 13 starts from the next state. -/
theorem entry13 : Holds (argsOf m c) (state (argsOf m c) 13) (W57 m ρ c (Proc.devRef .tc main_v723)) (W57 m ρ c (Proc.devRef .tc main_v721)) (W57 m ρ c (Proc.devRef .tc main_v739))
    (W57 m ρ c (Proc.devRef .tc main_v745)) (W57 m ρ c (Proc.devRef .tc main_v746)) := by
  have F := fixedOut12 m ρ c
  exact Holds.next (n := 12) (gates12_state m ρ c) ((kept12 m ρ c main_v657 (by decide)).trans (entry12 m ρ c).cell) (cell12_eq _)
    ((hid12_eq _).trans (congrArg (hidNext _) (cell12_eq _).symm)) ((pos12_eq _).trans (pos12_state m ρ c))
    ((emb12_eq _).trans (by rw [F.wEmbed, F.bEmbed]; exact congrArg _ (congrArg _ (pos12_eq _).symm)))
    ((flip12_eq _).trans (congrArg flip (pos12_eq _).symm))

/-- The spreads after launch 12. -/
theorem spread12_state : W57 m ρ c (Proc.devRef .tc main_v733) = spread (outOf (argsOf m c) 13) :=
  (spread12_eq _).trans (by rw [(fixedOut12 m ρ c).wOut, (fixedOut12 m ρ c).bOut, hid12_state]; rfl)

/-- The correlations after launch 12. -/
theorem corr12_state : W57 m ρ c (Proc.devRef .tc main_v736) = corr (outOf (argsOf m c) 13) :=
  (corr12_eq _).trans (by rw [(fixedOut12 m ρ c).wOut, (fixedOut12 m ρ c).bOut, hid12_state]; rfl)

/-- Launch 13 leaves the fixed arrays alone. -/
theorem fixedOut13 : Fixed (argsOf m c) (W58 m ρ c) :=
  (fixed13 m ρ c).of_eq fun r hr => W58_of m ρ c r ((ListAll.forall_mem_of_all_decide (by decide +kernel) :
    ∀ r ∈ fixedRefs, ∀ w : Fin cfg13.W, Pipeline.arrRef spec13 w = r → (cfg13.win w).isOut = false) r hr)

/-- What launch 13 leaves alone of the state it starts from. -/
theorem kept13 : ∀ r ∈ [main_v723, main_v721, main_v739, main_v745], W58 m ρ c (Proc.devRef .tc r) = W57 m ρ c (Proc.devRef .tc r) := fun r hr =>
  W58_of m ρ c r ((ListAll.forall_mem_of_all_decide (by decide +kernel) :
    ∀ r ∈ [main_v723, main_v721, main_v739, main_v745], ∀ w : Fin cfg13.W, Pipeline.arrRef spec13 w = r → (cfg13.win w).isOut = false) r hr)

/-- Launch 13 pools its state. -/
theorem pooled13 : W58 m ρ c (Proc.devRef .tc main_v747)
    = ReferenceIdeal.Pool.social (argsOf m c).mask (state (argsOf m c) 13).pos (state (argsOf m c) 13).hid (argsOf m c).wPool (argsOf m c).bPool :=
  (W58_arr m ρ c 7).trans ((Pool.out13 (V57 m ρ) c).trans ((entry13 m ρ c).pooled (fixed13 m ρ c)))

/-- The gates after launch 13 are the state's. -/
theorem gates13_state : gates13 (W58 m ρ c) = gatesOf (argsOf m c) (state (argsOf m c) 13) := by
  have F := fixedOut13 m ρ c
  have H := entry13 m ρ c
  unfold gates13 gatesOf
  rw [F.wIn, F.bIn, F.wHid, F.bHid, (kept13 m ρ c main_v745 (by decide)).trans H.emb, pooled13, (kept13 m ρ c main_v723 (by decide)).trans H.hid]

/-- The hidden state after launch 13 is the next state's. -/
theorem hid13_state : hid13 (W58 m ρ c) = (state (argsOf m c) (13 + 1)).hid := by
  unfold hid13 cell13
  rw [gates13_state, (kept13 m ρ c main_v721 (by decide)).trans (entry13 m ρ c).cell]
  rfl

/-- The positions after launch 13 are the next state's. -/
theorem pos13_state : pos13 (W58 m ρ c) = posOf (argsOf m c) (state (argsOf m c) 13) 13 := by
  have F := fixedOut13 m ρ c
  unfold pos13
  rw [F.maskCol, F.wOut, F.bOut, hid13_state, (kept13 m ρ c main_v739 (by decide)).trans (entry13 m ρ c).pos]
  rfl

/-- The fixed arrays as launch 14 finds them. -/
theorem fixed14 : Fixed (argsOf m c) (W61 m ρ c) :=
  (fixedOut13 m ρ c).of_eq fun r hr =>
    (W61_of m ρ c r ((ListAll.forall_mem_of_all_decide (by decide +kernel) : ∀ r ∈ fixedRefs, r ∉ hostOps14_2_W) r hr)).trans
    ((W60_of m ρ c r ((ListAll.forall_mem_of_all_decide (by decide +kernel) : ∀ r ∈ fixedRefs, r ∉ hostOps14_1_W) r hr)).trans
    (W59_of m ρ c r ((ListAll.forall_mem_of_all_decide (by decide +kernel) : ∀ r ∈ fixedRefs, r ∉ hostOps14_W) r hr)))

/-- Launch 14 starts from the next state. -/
theorem entry14 : Holds (argsOf m c) (state (argsOf m c) 14) (W61 m ρ c (Proc.devRef .tc main_v787)) (W61 m ρ c (Proc.devRef .tc main_v785)) (W61 m ρ c (Proc.devRef .tc main_v803))
    (W61 m ρ c (Proc.devRef .tc main_v809)) (W61 m ρ c (Proc.devRef .tc main_v810)) := by
  have F := fixedOut13 m ρ c
  exact Holds.next (n := 13) (gates13_state m ρ c) ((kept13 m ρ c main_v721 (by decide)).trans (entry13 m ρ c).cell) (cell13_eq _)
    ((hid13_eq _).trans (congrArg (hidNext _) (cell13_eq _).symm)) ((pos13_eq _).trans (pos13_state m ρ c))
    ((emb13_eq _).trans (by rw [F.wEmbed, F.bEmbed]; exact congrArg _ (congrArg _ (pos13_eq _).symm)))
    ((flip13_eq _).trans (congrArg flip (pos13_eq _).symm))

/-- The spreads after launch 13. -/
theorem spread13_state : W61 m ρ c (Proc.devRef .tc main_v797) = spread (outOf (argsOf m c) 14) :=
  (spread13_eq _).trans (by rw [(fixedOut13 m ρ c).wOut, (fixedOut13 m ρ c).bOut, hid13_state]; rfl)

/-- The correlations after launch 13. -/
theorem corr13_state : W61 m ρ c (Proc.devRef .tc main_v800) = corr (outOf (argsOf m c) 14) :=
  (corr13_eq _).trans (by rw [(fixedOut13 m ρ c).wOut, (fixedOut13 m ρ c).bOut, hid13_state]; rfl)

/-- Launch 14 leaves the fixed arrays alone. -/
theorem fixedOut14 : Fixed (argsOf m c) (W62 m ρ c) :=
  (fixed14 m ρ c).of_eq fun r hr => W62_of m ρ c r ((ListAll.forall_mem_of_all_decide (by decide +kernel) :
    ∀ r ∈ fixedRefs, ∀ w : Fin cfg14.W, Pipeline.arrRef spec14 w = r → (cfg14.win w).isOut = false) r hr)

/-- What launch 14 leaves alone of the state it starts from. -/
theorem kept14 : ∀ r ∈ [main_v787, main_v785, main_v803, main_v809], W62 m ρ c (Proc.devRef .tc r) = W61 m ρ c (Proc.devRef .tc r) := fun r hr =>
  W62_of m ρ c r ((ListAll.forall_mem_of_all_decide (by decide +kernel) :
    ∀ r ∈ [main_v787, main_v785, main_v803, main_v809], ∀ w : Fin cfg14.W, Pipeline.arrRef spec14 w = r → (cfg14.win w).isOut = false) r hr)

/-- Launch 14 pools its state. -/
theorem pooled14 : W62 m ρ c (Proc.devRef .tc main_v811)
    = ReferenceIdeal.Pool.social (argsOf m c).mask (state (argsOf m c) 14).pos (state (argsOf m c) 14).hid (argsOf m c).wPool (argsOf m c).bPool :=
  (W62_arr m ρ c 7).trans ((Pool.out14 (V61 m ρ) c).trans ((entry14 m ρ c).pooled (fixed14 m ρ c)))

/-- The gates after launch 14 are the state's. -/
theorem gates14_state : gates14 (W62 m ρ c) = gatesOf (argsOf m c) (state (argsOf m c) 14) := by
  have F := fixedOut14 m ρ c
  have H := entry14 m ρ c
  unfold gates14 gatesOf
  rw [F.wIn, F.bIn, F.wHid, F.bHid, (kept14 m ρ c main_v809 (by decide)).trans H.emb, pooled14, (kept14 m ρ c main_v787 (by decide)).trans H.hid]

/-- The hidden state after launch 14 is the next state's. -/
theorem hid14_state : hid14 (W62 m ρ c) = (state (argsOf m c) (14 + 1)).hid := by
  unfold hid14 cell14
  rw [gates14_state, (kept14 m ρ c main_v785 (by decide)).trans (entry14 m ρ c).cell]
  rfl

/-- The positions after launch 14 are the next state's. -/
theorem pos14_state : pos14 (W62 m ρ c) = posOf (argsOf m c) (state (argsOf m c) 14) 14 := by
  have F := fixedOut14 m ρ c
  unfold pos14
  rw [F.maskCol, F.wOut, F.bOut, hid14_state, (kept14 m ρ c main_v803 (by decide)).trans (entry14 m ρ c).pos]
  rfl

/-- The fixed arrays as launch 15 finds them. -/
theorem fixed15 : Fixed (argsOf m c) (W65 m ρ c) :=
  (fixedOut14 m ρ c).of_eq fun r hr =>
    (W65_of m ρ c r ((ListAll.forall_mem_of_all_decide (by decide +kernel) : ∀ r ∈ fixedRefs, r ∉ hostOps15_2_W) r hr)).trans
    ((W64_of m ρ c r ((ListAll.forall_mem_of_all_decide (by decide +kernel) : ∀ r ∈ fixedRefs, r ∉ hostOps15_1_W) r hr)).trans
    (W63_of m ρ c r ((ListAll.forall_mem_of_all_decide (by decide +kernel) : ∀ r ∈ fixedRefs, r ∉ hostOps15_W) r hr)))

/-- Launch 15 starts from the next state. -/
theorem entry15 : Holds (argsOf m c) (state (argsOf m c) 15) (W65 m ρ c (Proc.devRef .tc main_v851)) (W65 m ρ c (Proc.devRef .tc main_v849)) (W65 m ρ c (Proc.devRef .tc main_v867))
    (W65 m ρ c (Proc.devRef .tc main_v873)) (W65 m ρ c (Proc.devRef .tc main_v874)) := by
  have F := fixedOut14 m ρ c
  exact Holds.next (n := 14) (gates14_state m ρ c) ((kept14 m ρ c main_v785 (by decide)).trans (entry14 m ρ c).cell) (cell14_eq _)
    ((hid14_eq _).trans (congrArg (hidNext _) (cell14_eq _).symm)) ((pos14_eq _).trans (pos14_state m ρ c))
    ((emb14_eq _).trans (by rw [F.wEmbed, F.bEmbed]; exact congrArg _ (congrArg _ (pos14_eq _).symm)))
    ((flip14_eq _).trans (congrArg flip (pos14_eq _).symm))

/-- The spreads after launch 14. -/
theorem spread14_state : W65 m ρ c (Proc.devRef .tc main_v861) = spread (outOf (argsOf m c) 15) :=
  (spread14_eq _).trans (by rw [(fixedOut14 m ρ c).wOut, (fixedOut14 m ρ c).bOut, hid14_state]; rfl)

/-- The correlations after launch 14. -/
theorem corr14_state : W65 m ρ c (Proc.devRef .tc main_v864) = corr (outOf (argsOf m c) 15) :=
  (corr14_eq _).trans (by rw [(fixedOut14 m ρ c).wOut, (fixedOut14 m ρ c).bOut, hid14_state]; rfl)

/-- Launch 15 leaves the fixed arrays alone. -/
theorem fixedOut15 : Fixed (argsOf m c) (W66 m ρ c) :=
  (fixed15 m ρ c).of_eq fun r hr => W66_of m ρ c r ((ListAll.forall_mem_of_all_decide (by decide +kernel) :
    ∀ r ∈ fixedRefs, ∀ w : Fin cfg15.W, Pipeline.arrRef spec15 w = r → (cfg15.win w).isOut = false) r hr)

/-- What launch 15 leaves alone of the state it starts from. -/
theorem kept15 : ∀ r ∈ [main_v851, main_v849, main_v867, main_v873], W66 m ρ c (Proc.devRef .tc r) = W65 m ρ c (Proc.devRef .tc r) := fun r hr =>
  W66_of m ρ c r ((ListAll.forall_mem_of_all_decide (by decide +kernel) :
    ∀ r ∈ [main_v851, main_v849, main_v867, main_v873], ∀ w : Fin cfg15.W, Pipeline.arrRef spec15 w = r → (cfg15.win w).isOut = false) r hr)

/-- Launch 15 pools its state. -/
theorem pooled15 : W66 m ρ c (Proc.devRef .tc main_v875)
    = ReferenceIdeal.Pool.social (argsOf m c).mask (state (argsOf m c) 15).pos (state (argsOf m c) 15).hid (argsOf m c).wPool (argsOf m c).bPool :=
  (W66_arr m ρ c 7).trans ((Pool.out15 (V65 m ρ) c).trans ((entry15 m ρ c).pooled (fixed15 m ρ c)))

/-- The gates after launch 15 are the state's. -/
theorem gates15_state : gates15 (W66 m ρ c) = gatesOf (argsOf m c) (state (argsOf m c) 15) := by
  have F := fixedOut15 m ρ c
  have H := entry15 m ρ c
  unfold gates15 gatesOf
  rw [F.wIn, F.bIn, F.wHid, F.bHid, (kept15 m ρ c main_v873 (by decide)).trans H.emb, pooled15, (kept15 m ρ c main_v851 (by decide)).trans H.hid]

/-- The hidden state after launch 15 is the next state's. -/
theorem hid15_state : hid15 (W66 m ρ c) = (state (argsOf m c) (15 + 1)).hid := by
  unfold hid15 cell15
  rw [gates15_state, (kept15 m ρ c main_v849 (by decide)).trans (entry15 m ρ c).cell]
  rfl

/-- The positions after launch 15 are the next state's. -/
theorem pos15_state : pos15 (W66 m ρ c) = posOf (argsOf m c) (state (argsOf m c) 15) 15 := by
  have F := fixedOut15 m ρ c
  unfold pos15
  rw [F.maskCol, F.wOut, F.bOut, hid15_state, (kept15 m ρ c main_v867 (by decide)).trans (entry15 m ρ c).pos]
  rfl

/-- The fixed arrays as launch 16 finds them. -/
theorem fixed16 : Fixed (argsOf m c) (W69 m ρ c) :=
  (fixedOut15 m ρ c).of_eq fun r hr =>
    (W69_of m ρ c r ((ListAll.forall_mem_of_all_decide (by decide +kernel) : ∀ r ∈ fixedRefs, r ∉ hostOps16_2_W) r hr)).trans
    ((W68_of m ρ c r ((ListAll.forall_mem_of_all_decide (by decide +kernel) : ∀ r ∈ fixedRefs, r ∉ hostOps16_1_W) r hr)).trans
    (W67_of m ρ c r ((ListAll.forall_mem_of_all_decide (by decide +kernel) : ∀ r ∈ fixedRefs, r ∉ hostOps16_W) r hr)))

/-- Launch 16 starts from the next state. -/
theorem entry16 : Holds (argsOf m c) (state (argsOf m c) 16) (W69 m ρ c (Proc.devRef .tc main_v915)) (W69 m ρ c (Proc.devRef .tc main_v913)) (W69 m ρ c (Proc.devRef .tc main_v931))
    (W69 m ρ c (Proc.devRef .tc main_v937)) (W69 m ρ c (Proc.devRef .tc main_v938)) := by
  have F := fixedOut15 m ρ c
  exact Holds.next (n := 15) (gates15_state m ρ c) ((kept15 m ρ c main_v849 (by decide)).trans (entry15 m ρ c).cell) (cell15_eq _)
    ((hid15_eq _).trans (congrArg (hidNext _) (cell15_eq _).symm)) ((pos15_eq _).trans (pos15_state m ρ c))
    ((emb15_eq _).trans (by rw [F.wEmbed, F.bEmbed]; exact congrArg _ (congrArg _ (pos15_eq _).symm)))
    ((flip15_eq _).trans (congrArg flip (pos15_eq _).symm))

/-- The spreads after launch 15. -/
theorem spread15_state : W69 m ρ c (Proc.devRef .tc main_v925) = spread (outOf (argsOf m c) 16) :=
  (spread15_eq _).trans (by rw [(fixedOut15 m ρ c).wOut, (fixedOut15 m ρ c).bOut, hid15_state]; rfl)

/-- The correlations after launch 15. -/
theorem corr15_state : W69 m ρ c (Proc.devRef .tc main_v928) = corr (outOf (argsOf m c) 16) :=
  (corr15_eq _).trans (by rw [(fixedOut15 m ρ c).wOut, (fixedOut15 m ρ c).bOut, hid15_state]; rfl)

end Cert.KernelIdeal.Chain
-- ==== Proof.Stretch4.lean ====
module

public import proofs.«01_k».proof.Proof.Chain
public import Idealize.ShloMosaic.Lib.StableHlo.RunRead

/-! The host operations after launches 16 to 19, read back: each array they leave as a step function of the contents they start from. The
operations are printed launch by launch over arrays of their own, so each launch has its own statements. -/

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

/-- The gates the host operations after launch 16 compute, from the contents they start from. -/
def gates16 (V : Valuation τ sig (Elt Ideal)) : FVec Ideal S256x512 .f32 :=
  gates (gatesIn (V (Proc.devRef .tc main_arg6)) (V (Proc.devRef .tc main_arg8)) (V (Proc.devRef .tc main_v937)) (V (Proc.devRef .tc main_v939)))
      (gatesHid (V (Proc.devRef .tc main_arg7)) (V (Proc.devRef .tc main_v915))) (V (Proc.devRef .tc main_arg9))

/-- The cell they compute. -/
def cell16 (V : Valuation τ sig (Elt Ideal)) : FVec Ideal S256x128 .f32 := cellNext (gates16 V) (V (Proc.devRef .tc main_v913))

/-- The hidden state they compute. -/
def hid16 (V : Valuation τ sig (Elt Ideal)) : FVec Ideal S256x128 .f32 := hidNext (gates16 V) (cell16 V)

/-- The positions they compute. -/
def pos16 (V : Valuation τ sig (Elt Ideal)) : FVec Ideal S256x2 .f32 :=
  moved (V (Proc.devRef .tc main_v5)) (readOut (V (Proc.devRef .tc main_arg10)) (V (Proc.devRef .tc main_arg11)) (hid16 V)) (V (Proc.devRef .tc main_v931))

/-- Where the cell is left. -/
theorem cell16_eq (V : Valuation τ sig (Elt Ideal)) : after hostOps17_2 (after hostOps17_1 (after hostOps17 V)) (Proc.devRef .tc main_v977) = cell16 V := by
  after_reads_simp
  rfl

/-- Where the hidden state is left. -/
theorem hid16_eq (V : Valuation τ sig (Elt Ideal)) : after hostOps17_2 (after hostOps17_1 (after hostOps17 V)) (Proc.devRef .tc main_v979) = hid16 V := by
  after_reads_simp
  rfl

/-- Where the positions are left. -/
theorem pos16_eq (V : Valuation τ sig (Elt Ideal)) : after hostOps17_2 (after hostOps17_1 (after hostOps17 V)) (Proc.devRef .tc main_v995) = pos16 V := by
  after_reads_simp
  rfl

/-- Where the positions' embedding is left. -/
theorem emb16_eq (V : Valuation τ sig (Elt Ideal)) : after hostOps17_2 (after hostOps17_1 (after hostOps17 V)) (Proc.devRef .tc main_v1001) = relu (preEmbed (V (Proc.devRef .tc main_arg2)) (V (Proc.devRef .tc main_arg3)) (pos16 V)) := by
  after_reads_simp
  rfl

/-- Where the transposed positions are left. -/
theorem flip16_eq (V : Valuation τ sig (Elt Ideal)) : after hostOps17_2 (after hostOps17_1 (after hostOps17 V)) (Proc.devRef .tc main_v1002) = flip (pos16 V) := by
  after_reads_simp
  rfl

/-- Where the spreads are left. -/
theorem spread16_eq (V : Valuation τ sig (Elt Ideal)) : after hostOps17_2 (after hostOps17_1 (after hostOps17 V)) (Proc.devRef .tc main_v989) = spread (readOut (V (Proc.devRef .tc main_arg10)) (V (Proc.devRef .tc main_arg11)) (hid16 V)) := by
  after_reads_simp
  rfl

/-- Where the correlations are left. -/
theorem corr16_eq (V : Valuation τ sig (Elt Ideal)) : after hostOps17_2 (after hostOps17_1 (after hostOps17 V)) (Proc.devRef .tc main_v992) = corr (readOut (V (Proc.devRef .tc main_arg10)) (V (Proc.devRef .tc main_arg11)) (hid16 V)) := by
  after_reads_simp
  rfl

/-- The gates the host operations after launch 17 compute, from the contents they start from. -/
def gates17 (V : Valuation τ sig (Elt Ideal)) : FVec Ideal S256x512 .f32 :=
  gates (gatesIn (V (Proc.devRef .tc main_arg6)) (V (Proc.devRef .tc main_arg8)) (V (Proc.devRef .tc main_v1001)) (V (Proc.devRef .tc main_v1003)))
      (gatesHid (V (Proc.devRef .tc main_arg7)) (V (Proc.devRef .tc main_v979))) (V (Proc.devRef .tc main_arg9))

/-- The cell they compute. -/
def cell17 (V : Valuation τ sig (Elt Ideal)) : FVec Ideal S256x128 .f32 := cellNext (gates17 V) (V (Proc.devRef .tc main_v977))

/-- The hidden state they compute. -/
def hid17 (V : Valuation τ sig (Elt Ideal)) : FVec Ideal S256x128 .f32 := hidNext (gates17 V) (cell17 V)

/-- The positions they compute. -/
def pos17 (V : Valuation τ sig (Elt Ideal)) : FVec Ideal S256x2 .f32 :=
  moved (V (Proc.devRef .tc main_v5)) (readOut (V (Proc.devRef .tc main_arg10)) (V (Proc.devRef .tc main_arg11)) (hid17 V)) (V (Proc.devRef .tc main_v995))

/-- Where the cell is left. -/
theorem cell17_eq (V : Valuation τ sig (Elt Ideal)) : after hostOps18_2 (after hostOps18_1 (after hostOps18 V)) (Proc.devRef .tc main_v1041) = cell17 V := by
  after_reads_simp
  rfl

/-- Where the hidden state is left. -/
theorem hid17_eq (V : Valuation τ sig (Elt Ideal)) : after hostOps18_2 (after hostOps18_1 (after hostOps18 V)) (Proc.devRef .tc main_v1043) = hid17 V := by
  after_reads_simp
  rfl

/-- Where the positions are left. -/
theorem pos17_eq (V : Valuation τ sig (Elt Ideal)) : after hostOps18_2 (after hostOps18_1 (after hostOps18 V)) (Proc.devRef .tc main_v1059) = pos17 V := by
  after_reads_simp
  rfl

/-- Where the positions' embedding is left. -/
theorem emb17_eq (V : Valuation τ sig (Elt Ideal)) : after hostOps18_2 (after hostOps18_1 (after hostOps18 V)) (Proc.devRef .tc main_v1065) = relu (preEmbed (V (Proc.devRef .tc main_arg2)) (V (Proc.devRef .tc main_arg3)) (pos17 V)) := by
  after_reads_simp
  rfl

/-- Where the transposed positions are left. -/
theorem flip17_eq (V : Valuation τ sig (Elt Ideal)) : after hostOps18_2 (after hostOps18_1 (after hostOps18 V)) (Proc.devRef .tc main_v1066) = flip (pos17 V) := by
  after_reads_simp
  rfl

/-- Where the spreads are left. -/
theorem spread17_eq (V : Valuation τ sig (Elt Ideal)) : after hostOps18_2 (after hostOps18_1 (after hostOps18 V)) (Proc.devRef .tc main_v1053) = spread (readOut (V (Proc.devRef .tc main_arg10)) (V (Proc.devRef .tc main_arg11)) (hid17 V)) := by
  after_reads_simp
  rfl

/-- Where the correlations are left. -/
theorem corr17_eq (V : Valuation τ sig (Elt Ideal)) : after hostOps18_2 (after hostOps18_1 (after hostOps18 V)) (Proc.devRef .tc main_v1056) = corr (readOut (V (Proc.devRef .tc main_arg10)) (V (Proc.devRef .tc main_arg11)) (hid17 V)) := by
  after_reads_simp
  rfl

/-- The gates the host operations after launch 18 compute, from the contents they start from. -/
def gates18 (V : Valuation τ sig (Elt Ideal)) : FVec Ideal S256x512 .f32 :=
  gates (gatesIn (V (Proc.devRef .tc main_arg6)) (V (Proc.devRef .tc main_arg8)) (V (Proc.devRef .tc main_v1065)) (V (Proc.devRef .tc main_v1067)))
      (gatesHid (V (Proc.devRef .tc main_arg7)) (V (Proc.devRef .tc main_v1043))) (V (Proc.devRef .tc main_arg9))

/-- The cell they compute. -/
def cell18 (V : Valuation τ sig (Elt Ideal)) : FVec Ideal S256x128 .f32 := cellNext (gates18 V) (V (Proc.devRef .tc main_v1041))

/-- The hidden state they compute. -/
def hid18 (V : Valuation τ sig (Elt Ideal)) : FVec Ideal S256x128 .f32 := hidNext (gates18 V) (cell18 V)

/-- The positions they compute. -/
def pos18 (V : Valuation τ sig (Elt Ideal)) : FVec Ideal S256x2 .f32 :=
  moved (V (Proc.devRef .tc main_v5)) (readOut (V (Proc.devRef .tc main_arg10)) (V (Proc.devRef .tc main_arg11)) (hid18 V)) (V (Proc.devRef .tc main_v1059))

/-- Where the cell is left. -/
theorem cell18_eq (V : Valuation τ sig (Elt Ideal)) : after hostOps19_2 (after hostOps19_1 (after hostOps19 V)) (Proc.devRef .tc main_v1105) = cell18 V := by
  after_reads_simp
  rfl

/-- Where the hidden state is left. -/
theorem hid18_eq (V : Valuation τ sig (Elt Ideal)) : after hostOps19_2 (after hostOps19_1 (after hostOps19 V)) (Proc.devRef .tc main_v1107) = hid18 V := by
  after_reads_simp
  rfl

/-- Where the positions are left. -/
theorem pos18_eq (V : Valuation τ sig (Elt Ideal)) : after hostOps19_2 (after hostOps19_1 (after hostOps19 V)) (Proc.devRef .tc main_v1123) = pos18 V := by
  after_reads_simp
  rfl

/-- Where the positions' embedding is left. -/
theorem emb18_eq (V : Valuation τ sig (Elt Ideal)) : after hostOps19_2 (after hostOps19_1 (after hostOps19 V)) (Proc.devRef .tc main_v1129) = relu (preEmbed (V (Proc.devRef .tc main_arg2)) (V (Proc.devRef .tc main_arg3)) (pos18 V)) := by
  after_reads_simp
  rfl

/-- Where the transposed positions are left. -/
theorem flip18_eq (V : Valuation τ sig (Elt Ideal)) : after hostOps19_2 (after hostOps19_1 (after hostOps19 V)) (Proc.devRef .tc main_v1130) = flip (pos18 V) := by
  after_reads_simp
  rfl

/-- Where the spreads are left. -/
theorem spread18_eq (V : Valuation τ sig (Elt Ideal)) : after hostOps19_2 (after hostOps19_1 (after hostOps19 V)) (Proc.devRef .tc main_v1117) = spread (readOut (V (Proc.devRef .tc main_arg10)) (V (Proc.devRef .tc main_arg11)) (hid18 V)) := by
  after_reads_simp
  rfl

/-- Where the correlations are left. -/
theorem corr18_eq (V : Valuation τ sig (Elt Ideal)) : after hostOps19_2 (after hostOps19_1 (after hostOps19 V)) (Proc.devRef .tc main_v1120) = corr (readOut (V (Proc.devRef .tc main_arg10)) (V (Proc.devRef .tc main_arg11)) (hid18 V)) := by
  after_reads_simp
  rfl

/-- The gates the host operations after launch 19 compute, from the contents they start from. -/
def gates19 (V : Valuation τ sig (Elt Ideal)) : FVec Ideal S256x512 .f32 :=
  gates (gatesIn (V (Proc.devRef .tc main_arg6)) (V (Proc.devRef .tc main_arg8)) (V (Proc.devRef .tc main_v1129)) (V (Proc.devRef .tc main_v1131)))
      (gatesHid (V (Proc.devRef .tc main_arg7)) (V (Proc.devRef .tc main_v1107))) (V (Proc.devRef .tc main_arg9))

/-- The cell they compute. -/
def cell19 (V : Valuation τ sig (Elt Ideal)) : FVec Ideal S256x128 .f32 := cellNext (gates19 V) (V (Proc.devRef .tc main_v1105))

/-- The hidden state they compute. -/
def hid19 (V : Valuation τ sig (Elt Ideal)) : FVec Ideal S256x128 .f32 := hidNext (gates19 V) (cell19 V)

/-- The positions they compute. -/
def pos19 (V : Valuation τ sig (Elt Ideal)) : FVec Ideal S256x2 .f32 :=
  moved (V (Proc.devRef .tc main_v5)) (readOut (V (Proc.devRef .tc main_arg10)) (V (Proc.devRef .tc main_arg11)) (hid19 V)) (V (Proc.devRef .tc main_v1123))

/-- Where the hidden state is left. -/
theorem hid19_eq (V : Valuation τ sig (Elt Ideal)) : after hostOps20 V (Proc.devRef .tc main_v1171) = hid19 V := by
  after_reads_simp
  rfl

/-- Where the positions are left. -/
theorem pos19_eq (V : Valuation τ sig (Elt Ideal)) : after hostOps20 V (Proc.devRef .tc main_v1187) = pos19 V := by
  after_reads_simp
  rfl

/-- Where the spreads are left. -/
theorem spread19_eq (V : Valuation τ sig (Elt Ideal)) : after hostOps20 V (Proc.devRef .tc main_v1181) = spread (readOut (V (Proc.devRef .tc main_arg10)) (V (Proc.devRef .tc main_arg11)) (hid19 V)) := by
  after_reads_simp
  rfl

/-- Where the correlations are left. -/
theorem corr19_eq (V : Valuation τ sig (Elt Ideal)) : after hostOps20 V (Proc.devRef .tc main_v1184) = corr (readOut (V (Proc.devRef .tc main_arg10)) (V (Proc.devRef .tc main_arg11)) (hid19 V)) := by
  after_reads_simp
  rfl

end Cert.KernelIdeal.Chain
-- ==== Proof.Launches4.lean ====
module

public import proofs.«01_k».proof.Proof.Gen.KernelIdeal.Frame.Region16
public import proofs.«01_k».proof.Proof.Gen.KernelIdeal.Frame.Region17
public import proofs.«01_k».proof.Proof.Gen.KernelIdeal.Frame.Region18
public import proofs.«01_k».proof.Proof.Gen.KernelIdeal.Frame.Region19
public import proofs.«01_k».proof.Proof.Gathered

/-! The output arrays of launches 16 to 19: each is the pooled grid of the launch's operands. The launches are printed one by one, so each has its
own statement; the loop and the arithmetic are read by the same lemmas. -/

@[expose] public section

set_option maxRecDepth 16384

noncomputable section

namespace Cert.KernelIdeal.Pool

open Cert.KernelIdeal Cert.KernelIdeal.Gen Idealize.ShloMosaic Idealize.ShloMosaic.TcCoe Cert.Cells Idealize.SL Idealize.SL.Sem

/-- What launch 16's body leaves in its output block. -/
theorem body16 (V) (c : Dev nD) (t : Fin cfg16.N) : outsAt16 (F := Ideal) V c t
    = launched (V c main_v915) (V c main_v931) (V c main_v938) (V c main_v8) (V c main_v10) (V c main_v11) (V c main_v12) := by
  unfold outsAt16
  frame_open
  frame_out
  simp only [read_unread_whole]
  have b0 : iblk16 V c 0 t = V c main_v915 :=
    Memref.read_access_unit_zero (Elt Ideal) main_v915 (funext fun _ => Nat.zero_mul _) _ (V c main_v915)
  have b1 : iblk16 V c 1 t = V c main_v931 :=
    Memref.read_access_unit_zero (Elt Ideal) main_v931 (funext fun _ => Nat.zero_mul _) _ (V c main_v931)
  have b2 : iblk16 V c 2 t = V c main_v938 :=
    Memref.read_access_unit_zero (Elt Ideal) main_v938 (funext fun _ => Nat.zero_mul _) _ (V c main_v938)
  have b3 : iblk16 V c 3 t = V c main_v8 :=
    Memref.read_access_unit_zero (Elt Ideal) main_v8 (funext fun _ => Nat.zero_mul _) _ (V c main_v8)
  have b4 : iblk16 V c 4 t = V c main_v10 :=
    Memref.read_access_unit_zero (Elt Ideal) main_v10 (funext fun _ => Nat.zero_mul _) _ (V c main_v10)
  have b5 : iblk16 V c 5 t = V c main_v11 :=
    Memref.read_access_unit_zero (Elt Ideal) main_v11 (funext fun _ => Nat.zero_mul _) _ (V c main_v11)
  have b6 : iblk16 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k16_t1 _ _ _ _ _ _ _ _ _ _ _ _ _ _ _ _ _ _ _ _ _ _ _ _ _ _ _ n) rfl (fun t => ?_) _
  refine (pb_k16_t1_succ _ _ _ _ _ _ _ _ _ _ _ _ _ _ _ _ _ _ _ _ _ _ _ _ _ _ _ t).trans ?_
  rw [dif_pos t.isLt]
  refine congrArg (· ++ _) ?_
  unfold tripL_k16_t1 trip_k16_t1
  rfl

/-- What launch 16 leaves in its output array. -/
theorem out16 (V) (c : Dev nD) : (dat16 (F := Ideal) V c).arrAt 7 cfg16.N
    = launched (V c main_v915) (V c main_v931) (V c main_v938) (V c main_v8) (V c main_v10) (V c main_v11) (V c main_v12) := by
  refine (dat16 V c).arrAt_eq_of_covers 7 _ (by decide +kernel) fun t hf y => ?_
  rw [after16_7, body16]
  have h : (win16_7.blk t).view.emb y = y := funext fun _ => Fin.ext (zero_block _ _)
  generalize launched _ _ _ _ _ _ _ = L
  blk_simp
  exact congrArg L h.symm

/-- What launch 17's body leaves in its output block. -/
theorem body17 (V) (c : Dev nD) (t : Fin cfg17.N) : outsAt17 (F := Ideal) V c t
    = launched (V c main_v979) (V c main_v995) (V c main_v1002) (V c main_v8) (V c main_v10) (V c main_v11) (V c main_v12) := by
  unfold outsAt17
  frame_open
  frame_out
  simp only [read_unread_whole]
  have b0 : iblk17 V c 0 t = V c main_v979 :=
    Memref.read_access_unit_zero (Elt Ideal) main_v979 (funext fun _ => Nat.zero_mul _) _ (V c main_v979)
  have b1 : iblk17 V c 1 t = V c main_v995 :=
    Memref.read_access_unit_zero (Elt Ideal) main_v995 (funext fun _ => Nat.zero_mul _) _ (V c main_v995)
  have b2 : iblk17 V c 2 t = V c main_v1002 :=
    Memref.read_access_unit_zero (Elt Ideal) main_v1002 (funext fun _ => Nat.zero_mul _) _ (V c main_v1002)
  have b3 : iblk17 V c 3 t = V c main_v8 :=
    Memref.read_access_unit_zero (Elt Ideal) main_v8 (funext fun _ => Nat.zero_mul _) _ (V c main_v8)
  have b4 : iblk17 V c 4 t = V c main_v10 :=
    Memref.read_access_unit_zero (Elt Ideal) main_v10 (funext fun _ => Nat.zero_mul _) _ (V c main_v10)
  have b5 : iblk17 V c 5 t = V c main_v11 :=
    Memref.read_access_unit_zero (Elt Ideal) main_v11 (funext fun _ => Nat.zero_mul _) _ (V c main_v11)
  have b6 : iblk17 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k17_t1 _ _ _ _ _ _ _ _ _ _ _ _ _ _ _ _ _ _ _ _ _ _ _ _ _ _ _ n) rfl (fun t => ?_) _
  refine (pb_k17_t1_succ _ _ _ _ _ _ _ _ _ _ _ _ _ _ _ _ _ _ _ _ _ _ _ _ _ _ _ t).trans ?_
  rw [dif_pos t.isLt]
  refine congrArg (· ++ _) ?_
  unfold tripL_k17_t1 trip_k17_t1
  rfl

/-- What launch 17 leaves in its output array. -/
theorem out17 (V) (c : Dev nD) : (dat17 (F := Ideal) V c).arrAt 7 cfg17.N
    = launched (V c main_v979) (V c main_v995) (V c main_v1002) (V c main_v8) (V c main_v10) (V c main_v11) (V c main_v12) := by
  refine (dat17 V c).arrAt_eq_of_covers 7 _ (by decide +kernel) fun t hf y => ?_
  rw [after17_7, body17]
  have h : (win17_7.blk t).view.emb y = y := funext fun _ => Fin.ext (zero_block _ _)
  generalize launched _ _ _ _ _ _ _ = L
  blk_simp
  exact congrArg L h.symm

/-- What launch 18's body leaves in its output block. -/
theorem body18 (V) (c : Dev nD) (t : Fin cfg18.N) : outsAt18 (F := Ideal) V c t
    = launched (V c main_v1043) (V c main_v1059) (V c main_v1066) (V c main_v8) (V c main_v10) (V c main_v11) (V c main_v12) := by
  unfold outsAt18
  frame_open
  frame_out
  simp only [read_unread_whole]
  have b0 : iblk18 V c 0 t = V c main_v1043 :=
    Memref.read_access_unit_zero (Elt Ideal) main_v1043 (funext fun _ => Nat.zero_mul _) _ (V c main_v1043)
  have b1 : iblk18 V c 1 t = V c main_v1059 :=
    Memref.read_access_unit_zero (Elt Ideal) main_v1059 (funext fun _ => Nat.zero_mul _) _ (V c main_v1059)
  have b2 : iblk18 V c 2 t = V c main_v1066 :=
    Memref.read_access_unit_zero (Elt Ideal) main_v1066 (funext fun _ => Nat.zero_mul _) _ (V c main_v1066)
  have b3 : iblk18 V c 3 t = V c main_v8 :=
    Memref.read_access_unit_zero (Elt Ideal) main_v8 (funext fun _ => Nat.zero_mul _) _ (V c main_v8)
  have b4 : iblk18 V c 4 t = V c main_v10 :=
    Memref.read_access_unit_zero (Elt Ideal) main_v10 (funext fun _ => Nat.zero_mul _) _ (V c main_v10)
  have b5 : iblk18 V c 5 t = V c main_v11 :=
    Memref.read_access_unit_zero (Elt Ideal) main_v11 (funext fun _ => Nat.zero_mul _) _ (V c main_v11)
  have b6 : iblk18 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k18_t1 _ _ _ _ _ _ _ _ _ _ _ _ _ _ _ _ _ _ _ _ _ _ _ _ _ _ _ n) rfl (fun t => ?_) _
  refine (pb_k18_t1_succ _ _ _ _ _ _ _ _ _ _ _ _ _ _ _ _ _ _ _ _ _ _ _ _ _ _ _ t).trans ?_
  rw [dif_pos t.isLt]
  refine congrArg (· ++ _) ?_
  unfold tripL_k18_t1 trip_k18_t1
  rfl

/-- What launch 18 leaves in its output array. -/
theorem out18 (V) (c : Dev nD) : (dat18 (F := Ideal) V c).arrAt 7 cfg18.N
    = launched (V c main_v1043) (V c main_v1059) (V c main_v1066) (V c main_v8) (V c main_v10) (V c main_v11) (V c main_v12) := by
  refine (dat18 V c).arrAt_eq_of_covers 7 _ (by decide +kernel) fun t hf y => ?_
  rw [after18_7, body18]
  have h : (win18_7.blk t).view.emb y = y := funext fun _ => Fin.ext (zero_block _ _)
  generalize launched _ _ _ _ _ _ _ = L
  blk_simp
  exact congrArg L h.symm

/-- What launch 19's body leaves in its output block. -/
theorem body19 (V) (c : Dev nD) (t : Fin cfg19.N) : outsAt19 (F := Ideal) V c t
    = launched (V c main_v1107) (V c main_v1123) (V c main_v1130) (V c main_v8) (V c main_v10) (V c main_v11) (V c main_v12) := by
  unfold outsAt19
  frame_open
  frame_out
  simp only [read_unread_whole]
  have b0 : iblk19 V c 0 t = V c main_v1107 :=
    Memref.read_access_unit_zero (Elt Ideal) main_v1107 (funext fun _ => Nat.zero_mul _) _ (V c main_v1107)
  have b1 : iblk19 V c 1 t = V c main_v1123 :=
    Memref.read_access_unit_zero (Elt Ideal) main_v1123 (funext fun _ => Nat.zero_mul _) _ (V c main_v1123)
  have b2 : iblk19 V c 2 t = V c main_v1130 :=
    Memref.read_access_unit_zero (Elt Ideal) main_v1130 (funext fun _ => Nat.zero_mul _) _ (V c main_v1130)
  have b3 : iblk19 V c 3 t = V c main_v8 :=
    Memref.read_access_unit_zero (Elt Ideal) main_v8 (funext fun _ => Nat.zero_mul _) _ (V c main_v8)
  have b4 : iblk19 V c 4 t = V c main_v10 :=
    Memref.read_access_unit_zero (Elt Ideal) main_v10 (funext fun _ => Nat.zero_mul _) _ (V c main_v10)
  have b5 : iblk19 V c 5 t = V c main_v11 :=
    Memref.read_access_unit_zero (Elt Ideal) main_v11 (funext fun _ => Nat.zero_mul _) _ (V c main_v11)
  have b6 : iblk19 V c 6 t = V c main_v12 :=
    Memref.read_access_unit_zero (Elt Ideal) main_v12 (funext fun _ => Nat.zero_mul _) _ (V c main_v12)
  rw [b0, b1, b2, b3, b4, b5, b6]
  refine congrArg (fun g => k0_pay2 (k0_pay3 (V c main_v8)) g (V c main_v11) (V c main_v12)) ?_
  refine gathered_of_trips _ (fun n => pb_k19_t1 _ _ _ _ _ _ _ _ _ _ _ _ _ _ _ _ _ _ _ _ _ _ _ _ _ _ _ n) rfl (fun t => ?_) _
  refine (pb_k19_t1_succ _ _ _ _ _ _ _ _ _ _ _ _ _ _ _ _ _ _ _ _ _ _ _ _ _ _ _ t).trans ?_
  rw [dif_pos t.isLt]
  refine congrArg (· ++ _) ?_
  unfold tripL_k19_t1 trip_k19_t1
  rfl

/-- What launch 19 leaves in its output array. -/
theorem out19 (V) (c : Dev nD) : (dat19 (F := Ideal) V c).arrAt 7 cfg19.N
    = launched (V c main_v1107) (V c main_v1123) (V c main_v1130) (V c main_v8) (V c main_v10) (V c main_v11) (V c main_v12) := by
  refine (dat19 V c).arrAt_eq_of_covers 7 _ (by decide +kernel) fun t hf y => ?_
  rw [after19_7, body19]
  have h : (win19_7.blk t).view.emb y = y := funext fun _ => Fin.ext (zero_block _ _)
  generalize launched _ _ _ _ _ _ _ = L
  blk_simp
  exact congrArg L h.symm

end Cert.KernelIdeal.Pool
-- ==== Proof.Walk4.lean ====
module

public import proofs.«01_k».proof.Proof.Walk3
public import proofs.«01_k».proof.Proof.Stretch4
public import proofs.«01_k».proof.Proof.Launches4
public import proofs.«01_k».proof.Proof.Results

/-! The run from launch 16 through launch 19: each launch starts from the arrays of its state and the host operations after it leave those of the
next one. -/

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

variable (m : (ℓ : Loc nD τ sig) → Buf (Elt Ideal) ℓ) (ρ : Dev nD → PrngReg) (c : Dev nD)

/-- Launch 16 leaves the fixed arrays alone. -/
theorem fixedOut16 : Fixed (argsOf m c) (W70 m ρ c) :=
  (fixed16 m ρ c).of_eq fun r hr => W70_of m ρ c r ((ListAll.forall_mem_of_all_decide (by decide +kernel) :
    ∀ r ∈ fixedRefs, ∀ w : Fin cfg16.W, Pipeline.arrRef spec16 w = r → (cfg16.win w).isOut = false) r hr)

/-- What launch 16 leaves alone of the state it starts from. -/
theorem kept16 : ∀ r ∈ [main_v915, main_v913, main_v931, main_v937], W70 m ρ c (Proc.devRef .tc r) = W69 m ρ c (Proc.devRef .tc r) := fun r hr =>
  W70_of m ρ c r ((ListAll.forall_mem_of_all_decide (by decide +kernel) :
    ∀ r ∈ [main_v915, main_v913, main_v931, main_v937], ∀ w : Fin cfg16.W, Pipeline.arrRef spec16 w = r → (cfg16.win w).isOut = false) r hr)

/-- Launch 16 pools its state. -/
theorem pooled16 : W70 m ρ c (Proc.devRef .tc main_v939)
    = ReferenceIdeal.Pool.social (argsOf m c).mask (state (argsOf m c) 16).pos (state (argsOf m c) 16).hid (argsOf m c).wPool (argsOf m c).bPool :=
  (W70_arr m ρ c 7).trans ((Pool.out16 (V69 m ρ) c).trans ((entry16 m ρ c).pooled (fixed16 m ρ c)))

/-- The gates after launch 16 are the state's. -/
theorem gates16_state : gates16 (W70 m ρ c) = gatesOf (argsOf m c) (state (argsOf m c) 16) := by
  have F := fixedOut16 m ρ c
  have H := entry16 m ρ c
  unfold gates16 gatesOf
  rw [F.wIn, F.bIn, F.wHid, F.bHid, (kept16 m ρ c main_v937 (by decide)).trans H.emb, pooled16, (kept16 m ρ c main_v915 (by decide)).trans H.hid]

/-- The hidden state after launch 16 is the next state's. -/
theorem hid16_state : hid16 (W70 m ρ c) = (state (argsOf m c) (16 + 1)).hid := by
  unfold hid16 cell16
  rw [gates16_state, (kept16 m ρ c main_v913 (by decide)).trans (entry16 m ρ c).cell]
  rfl

/-- The positions after launch 16 are the next state's. -/
theorem pos16_state : pos16 (W70 m ρ c) = posOf (argsOf m c) (state (argsOf m c) 16) 16 := by
  have F := fixedOut16 m ρ c
  unfold pos16
  rw [F.maskCol, F.wOut, F.bOut, hid16_state, (kept16 m ρ c main_v931 (by decide)).trans (entry16 m ρ c).pos]
  rfl

/-- The fixed arrays as launch 17 finds them. -/
theorem fixed17 : Fixed (argsOf m c) (W73 m ρ c) :=
  (fixedOut16 m ρ c).of_eq fun r hr =>
    (W73_of m ρ c r ((ListAll.forall_mem_of_all_decide (by decide +kernel) : ∀ r ∈ fixedRefs, r ∉ hostOps17_2_W) r hr)).trans
    ((W72_of m ρ c r ((ListAll.forall_mem_of_all_decide (by decide +kernel) : ∀ r ∈ fixedRefs, r ∉ hostOps17_1_W) r hr)).trans
    (W71_of m ρ c r ((ListAll.forall_mem_of_all_decide (by decide +kernel) : ∀ r ∈ fixedRefs, r ∉ hostOps17_W) r hr)))

/-- Launch 17 starts from the next state. -/
theorem entry17 : Holds (argsOf m c) (state (argsOf m c) 17) (W73 m ρ c (Proc.devRef .tc main_v979)) (W73 m ρ c (Proc.devRef .tc main_v977)) (W73 m ρ c (Proc.devRef .tc main_v995))
    (W73 m ρ c (Proc.devRef .tc main_v1001)) (W73 m ρ c (Proc.devRef .tc main_v1002)) := by
  have F := fixedOut16 m ρ c
  exact Holds.next (n := 16) (gates16_state m ρ c) ((kept16 m ρ c main_v913 (by decide)).trans (entry16 m ρ c).cell) (cell16_eq _)
    ((hid16_eq _).trans (congrArg (hidNext _) (cell16_eq _).symm)) ((pos16_eq _).trans (pos16_state m ρ c))
    ((emb16_eq _).trans (by rw [F.wEmbed, F.bEmbed]; exact congrArg _ (congrArg _ (pos16_eq _).symm)))
    ((flip16_eq _).trans (congrArg flip (pos16_eq _).symm))

/-- The spreads after launch 16. -/
theorem spread16_state : W73 m ρ c (Proc.devRef .tc main_v989) = spread (outOf (argsOf m c) 17) :=
  (spread16_eq _).trans (by rw [(fixedOut16 m ρ c).wOut, (fixedOut16 m ρ c).bOut, hid16_state]; rfl)

/-- The correlations after launch 16. -/
theorem corr16_state : W73 m ρ c (Proc.devRef .tc main_v992) = corr (outOf (argsOf m c) 17) :=
  (corr16_eq _).trans (by rw [(fixedOut16 m ρ c).wOut, (fixedOut16 m ρ c).bOut, hid16_state]; rfl)

/-- Launch 17 leaves the fixed arrays alone. -/
theorem fixedOut17 : Fixed (argsOf m c) (W74 m ρ c) :=
  (fixed17 m ρ c).of_eq fun r hr => W74_of m ρ c r ((ListAll.forall_mem_of_all_decide (by decide +kernel) :
    ∀ r ∈ fixedRefs, ∀ w : Fin cfg17.W, Pipeline.arrRef spec17 w = r → (cfg17.win w).isOut = false) r hr)

/-- What launch 17 leaves alone of the state it starts from. -/
theorem kept17 : ∀ r ∈ [main_v979, main_v977, main_v995, main_v1001], W74 m ρ c (Proc.devRef .tc r) = W73 m ρ c (Proc.devRef .tc r) := fun r hr =>
  W74_of m ρ c r ((ListAll.forall_mem_of_all_decide (by decide +kernel) :
    ∀ r ∈ [main_v979, main_v977, main_v995, main_v1001], ∀ w : Fin cfg17.W, Pipeline.arrRef spec17 w = r → (cfg17.win w).isOut = false) r hr)

/-- Launch 17 pools its state. -/
theorem pooled17 : W74 m ρ c (Proc.devRef .tc main_v1003)
    = ReferenceIdeal.Pool.social (argsOf m c).mask (state (argsOf m c) 17).pos (state (argsOf m c) 17).hid (argsOf m c).wPool (argsOf m c).bPool :=
  (W74_arr m ρ c 7).trans ((Pool.out17 (V73 m ρ) c).trans ((entry17 m ρ c).pooled (fixed17 m ρ c)))

/-- The gates after launch 17 are the state's. -/
theorem gates17_state : gates17 (W74 m ρ c) = gatesOf (argsOf m c) (state (argsOf m c) 17) := by
  have F := fixedOut17 m ρ c
  have H := entry17 m ρ c
  unfold gates17 gatesOf
  rw [F.wIn, F.bIn, F.wHid, F.bHid, (kept17 m ρ c main_v1001 (by decide)).trans H.emb, pooled17, (kept17 m ρ c main_v979 (by decide)).trans H.hid]

/-- The hidden state after launch 17 is the next state's. -/
theorem hid17_state : hid17 (W74 m ρ c) = (state (argsOf m c) (17 + 1)).hid := by
  unfold hid17 cell17
  rw [gates17_state, (kept17 m ρ c main_v977 (by decide)).trans (entry17 m ρ c).cell]
  rfl

/-- The positions after launch 17 are the next state's. -/
theorem pos17_state : pos17 (W74 m ρ c) = posOf (argsOf m c) (state (argsOf m c) 17) 17 := by
  have F := fixedOut17 m ρ c
  unfold pos17
  rw [F.maskCol, F.wOut, F.bOut, hid17_state, (kept17 m ρ c main_v995 (by decide)).trans (entry17 m ρ c).pos]
  rfl

/-- The fixed arrays as launch 18 finds them. -/
theorem fixed18 : Fixed (argsOf m c) (W77 m ρ c) :=
  (fixedOut17 m ρ c).of_eq fun r hr =>
    (W77_of m ρ c r ((ListAll.forall_mem_of_all_decide (by decide +kernel) : ∀ r ∈ fixedRefs, r ∉ hostOps18_2_W) r hr)).trans
    ((W76_of m ρ c r ((ListAll.forall_mem_of_all_decide (by decide +kernel) : ∀ r ∈ fixedRefs, r ∉ hostOps18_1_W) r hr)).trans
    (W75_of m ρ c r ((ListAll.forall_mem_of_all_decide (by decide +kernel) : ∀ r ∈ fixedRefs, r ∉ hostOps18_W) r hr)))

/-- Launch 18 starts from the next state. -/
theorem entry18 : Holds (argsOf m c) (state (argsOf m c) 18) (W77 m ρ c (Proc.devRef .tc main_v1043)) (W77 m ρ c (Proc.devRef .tc main_v1041)) (W77 m ρ c (Proc.devRef .tc main_v1059))
    (W77 m ρ c (Proc.devRef .tc main_v1065)) (W77 m ρ c (Proc.devRef .tc main_v1066)) := by
  have F := fixedOut17 m ρ c
  exact Holds.next (n := 17) (gates17_state m ρ c) ((kept17 m ρ c main_v977 (by decide)).trans (entry17 m ρ c).cell) (cell17_eq _)
    ((hid17_eq _).trans (congrArg (hidNext _) (cell17_eq _).symm)) ((pos17_eq _).trans (pos17_state m ρ c))
    ((emb17_eq _).trans (by rw [F.wEmbed, F.bEmbed]; exact congrArg _ (congrArg _ (pos17_eq _).symm)))
    ((flip17_eq _).trans (congrArg flip (pos17_eq _).symm))

/-- The spreads after launch 17. -/
theorem spread17_state : W77 m ρ c (Proc.devRef .tc main_v1053) = spread (outOf (argsOf m c) 18) :=
  (spread17_eq _).trans (by rw [(fixedOut17 m ρ c).wOut, (fixedOut17 m ρ c).bOut, hid17_state]; rfl)

/-- The correlations after launch 17. -/
theorem corr17_state : W77 m ρ c (Proc.devRef .tc main_v1056) = corr (outOf (argsOf m c) 18) :=
  (corr17_eq _).trans (by rw [(fixedOut17 m ρ c).wOut, (fixedOut17 m ρ c).bOut, hid17_state]; rfl)

/-- Launch 18 leaves the fixed arrays alone. -/
theorem fixedOut18 : Fixed (argsOf m c) (W78 m ρ c) :=
  (fixed18 m ρ c).of_eq fun r hr => W78_of m ρ c r ((ListAll.forall_mem_of_all_decide (by decide +kernel) :
    ∀ r ∈ fixedRefs, ∀ w : Fin cfg18.W, Pipeline.arrRef spec18 w = r → (cfg18.win w).isOut = false) r hr)

/-- What launch 18 leaves alone of the state it starts from. -/
theorem kept18 : ∀ r ∈ [main_v1043, main_v1041, main_v1059, main_v1065], W78 m ρ c (Proc.devRef .tc r) = W77 m ρ c (Proc.devRef .tc r) := fun r hr =>
  W78_of m ρ c r ((ListAll.forall_mem_of_all_decide (by decide +kernel) :
    ∀ r ∈ [main_v1043, main_v1041, main_v1059, main_v1065], ∀ w : Fin cfg18.W, Pipeline.arrRef spec18 w = r → (cfg18.win w).isOut = false) r hr)

/-- Launch 18 pools its state. -/
theorem pooled18 : W78 m ρ c (Proc.devRef .tc main_v1067)
    = ReferenceIdeal.Pool.social (argsOf m c).mask (state (argsOf m c) 18).pos (state (argsOf m c) 18).hid (argsOf m c).wPool (argsOf m c).bPool :=
  (W78_arr m ρ c 7).trans ((Pool.out18 (V77 m ρ) c).trans ((entry18 m ρ c).pooled (fixed18 m ρ c)))

/-- The gates after launch 18 are the state's. -/
theorem gates18_state : gates18 (W78 m ρ c) = gatesOf (argsOf m c) (state (argsOf m c) 18) := by
  have F := fixedOut18 m ρ c
  have H := entry18 m ρ c
  unfold gates18 gatesOf
  rw [F.wIn, F.bIn, F.wHid, F.bHid, (kept18 m ρ c main_v1065 (by decide)).trans H.emb, pooled18, (kept18 m ρ c main_v1043 (by decide)).trans H.hid]

/-- The hidden state after launch 18 is the next state's. -/
theorem hid18_state : hid18 (W78 m ρ c) = (state (argsOf m c) (18 + 1)).hid := by
  unfold hid18 cell18
  rw [gates18_state, (kept18 m ρ c main_v1041 (by decide)).trans (entry18 m ρ c).cell]
  rfl

/-- The positions after launch 18 are the next state's. -/
theorem pos18_state : pos18 (W78 m ρ c) = posOf (argsOf m c) (state (argsOf m c) 18) 18 := by
  have F := fixedOut18 m ρ c
  unfold pos18
  rw [F.maskCol, F.wOut, F.bOut, hid18_state, (kept18 m ρ c main_v1059 (by decide)).trans (entry18 m ρ c).pos]
  rfl

/-- The fixed arrays as launch 19 finds them. -/
theorem fixed19 : Fixed (argsOf m c) (W81 m ρ c) :=
  (fixedOut18 m ρ c).of_eq fun r hr =>
    (W81_of m ρ c r ((ListAll.forall_mem_of_all_decide (by decide +kernel) : ∀ r ∈ fixedRefs, r ∉ hostOps19_2_W) r hr)).trans
    ((W80_of m ρ c r ((ListAll.forall_mem_of_all_decide (by decide +kernel) : ∀ r ∈ fixedRefs, r ∉ hostOps19_1_W) r hr)).trans
    (W79_of m ρ c r ((ListAll.forall_mem_of_all_decide (by decide +kernel) : ∀ r ∈ fixedRefs, r ∉ hostOps19_W) r hr)))

/-- Launch 19 starts from the next state. -/
theorem entry19 : Holds (argsOf m c) (state (argsOf m c) 19) (W81 m ρ c (Proc.devRef .tc main_v1107)) (W81 m ρ c (Proc.devRef .tc main_v1105)) (W81 m ρ c (Proc.devRef .tc main_v1123))
    (W81 m ρ c (Proc.devRef .tc main_v1129)) (W81 m ρ c (Proc.devRef .tc main_v1130)) := by
  have F := fixedOut18 m ρ c
  exact Holds.next (n := 18) (gates18_state m ρ c) ((kept18 m ρ c main_v1041 (by decide)).trans (entry18 m ρ c).cell) (cell18_eq _)
    ((hid18_eq _).trans (congrArg (hidNext _) (cell18_eq _).symm)) ((pos18_eq _).trans (pos18_state m ρ c))
    ((emb18_eq _).trans (by rw [F.wEmbed, F.bEmbed]; exact congrArg _ (congrArg _ (pos18_eq _).symm)))
    ((flip18_eq _).trans (congrArg flip (pos18_eq _).symm))

/-- The spreads after launch 18. -/
theorem spread18_state : W81 m ρ c (Proc.devRef .tc main_v1117) = spread (outOf (argsOf m c) 19) :=
  (spread18_eq _).trans (by rw [(fixedOut18 m ρ c).wOut, (fixedOut18 m ρ c).bOut, hid18_state]; rfl)

/-- The correlations after launch 18. -/
theorem corr18_state : W81 m ρ c (Proc.devRef .tc main_v1120) = corr (outOf (argsOf m c) 19) :=
  (corr18_eq _).trans (by rw [(fixedOut18 m ρ c).wOut, (fixedOut18 m ρ c).bOut, hid18_state]; rfl)

/-- Launch 19 leaves the fixed arrays alone. -/
theorem fixedOut19 : Fixed (argsOf m c) (W82 m ρ c) :=
  (fixed19 m ρ c).of_eq fun r hr => W82_of m ρ c r ((ListAll.forall_mem_of_all_decide (by decide +kernel) :
    ∀ r ∈ fixedRefs, ∀ w : Fin cfg19.W, Pipeline.arrRef spec19 w = r → (cfg19.win w).isOut = false) r hr)

/-- What launch 19 leaves alone of the state it starts from. -/
theorem kept19 : ∀ r ∈ [main_v1107, main_v1105, main_v1123, main_v1129], W82 m ρ c (Proc.devRef .tc r) = W81 m ρ c (Proc.devRef .tc r) := fun r hr =>
  W82_of m ρ c r ((ListAll.forall_mem_of_all_decide (by decide +kernel) :
    ∀ r ∈ [main_v1107, main_v1105, main_v1123, main_v1129], ∀ w : Fin cfg19.W, Pipeline.arrRef spec19 w = r → (cfg19.win w).isOut = false) r hr)

/-- Launch 19 pools its state. -/
theorem pooled19 : W82 m ρ c (Proc.devRef .tc main_v1131)
    = ReferenceIdeal.Pool.social (argsOf m c).mask (state (argsOf m c) 19).pos (state (argsOf m c) 19).hid (argsOf m c).wPool (argsOf m c).bPool :=
  (W82_arr m ρ c 7).trans ((Pool.out19 (V81 m ρ) c).trans ((entry19 m ρ c).pooled (fixed19 m ρ c)))

/-- The gates after launch 19 are the state's. -/
theorem gates19_state : gates19 (W82 m ρ c) = gatesOf (argsOf m c) (state (argsOf m c) 19) := by
  have F := fixedOut19 m ρ c
  have H := entry19 m ρ c
  unfold gates19 gatesOf
  rw [F.wIn, F.bIn, F.wHid, F.bHid, (kept19 m ρ c main_v1129 (by decide)).trans H.emb, pooled19, (kept19 m ρ c main_v1107 (by decide)).trans H.hid]

/-- The hidden state after launch 19 is the next state's. -/
theorem hid19_state : hid19 (W82 m ρ c) = (state (argsOf m c) (19 + 1)).hid := by
  unfold hid19 cell19
  rw [gates19_state, (kept19 m ρ c main_v1105 (by decide)).trans (entry19 m ρ c).cell]
  rfl

/-- The positions after launch 19 are the next state's. -/
theorem pos19_state : pos19 (W82 m ρ c) = posOf (argsOf m c) (state (argsOf m c) 19) 19 := by
  have F := fixedOut19 m ρ c
  unfold pos19
  rw [F.maskCol, F.wOut, F.bOut, hid19_state, (kept19 m ρ c main_v1123 (by decide)).trans (entry19 m ρ c).pos]
  rfl

end Cert.KernelIdeal.Chain
-- ==== Proof.Final.lean ====
module

public import proofs.«01_k».proof.Proof.Walk4

/-! The three results: the last host operations stack the positions, spreads and correlations of the twelve steps, which nothing after their step
overwrites. -/

@[expose] public section

set_option maxRecDepth 16384
set_option maxHeartbeats 1000000

noncomputable section

namespace Cert.KernelIdeal.Chain

open Cert.KernelIdeal Cert.KernelIdeal.Gen Idealize.ShloMosaic Idealize.ShloMosaic.TcCoe Idealize.ShloMosaic.StableHlo Cert.Steps

variable (m : (ℓ : Loc nD τ sig) → Buf (Elt Ideal) ℓ) (ρ : Dev nD → PrngReg) (c : Dev nD)

/-- The positions, spreads and correlations written before launch 9. -/
def early9 : List (Ref sig .tc) := main_v483 :: main_v477 :: main_v480 :: []

/-- The positions, spreads and correlations written before launch 10. -/
def early10 : List (Ref sig .tc) := main_v547 :: main_v541 :: main_v544 :: early9

/-- The positions, spreads and correlations written before launch 11. -/
def early11 : List (Ref sig .tc) := main_v611 :: main_v605 :: main_v608 :: early10

/-- The positions, spreads and correlations written before launch 12. -/
def early12 : List (Ref sig .tc) := main_v675 :: main_v669 :: main_v672 :: early11

/-- The positions, spreads and correlations written before launch 13. -/
def early13 : List (Ref sig .tc) := main_v739 :: main_v733 :: main_v736 :: early12

/-- The positions, spreads and correlations written before launch 14. -/
def early14 : List (Ref sig .tc) := main_v803 :: main_v797 :: main_v800 :: early13

/-- The positions, spreads and correlations written before launch 15. -/
def early15 : List (Ref sig .tc) := main_v867 :: main_v861 :: main_v864 :: early14

/-- The positions, spreads and correlations written before launch 16. -/
def early16 : List (Ref sig .tc) := main_v931 :: main_v925 :: main_v928 :: early15

/-- The positions, spreads and correlations written before launch 17. -/
def early17 : List (Ref sig .tc) := main_v995 :: main_v989 :: main_v992 :: early16

/-- The positions, spreads and correlations written before launch 18. -/
def early18 : List (Ref sig .tc) := main_v1059 :: main_v1053 :: main_v1056 :: early17

/-- The positions, spreads and correlations written before launch 19. -/
def early19 : List (Ref sig .tc) := main_v1123 :: main_v1117 :: main_v1120 :: early18

/-- Nothing from launch 19 on overwrites them. -/
theorem later19 : ∀ r ∈ early19, W82 m ρ c (Proc.devRef .tc r) = W81 m ρ c (Proc.devRef .tc r) := fun r hr =>
  (W82_of m ρ c r ((ListAll.forall_mem_of_all_decide (by decide +kernel) :
      ∀ r ∈ early19, ∀ w : Fin cfg19.W, Pipeline.arrRef spec19 w = r → (cfg19.win w).isOut = false) r hr))

/-- Nothing from launch 18 on overwrites them. -/
theorem later18 : ∀ r ∈ early18, W82 m ρ c (Proc.devRef .tc r) = W77 m ρ c (Proc.devRef .tc r) := fun r hr =>
  (later19 m ρ c r (List.mem_cons_of_mem _ (List.mem_cons_of_mem _ (List.mem_cons_of_mem _ hr)))).trans
    ((W81_of m ρ c r ((ListAll.forall_mem_of_all_decide (by decide +kernel) : ∀ r ∈ early18, r ∉ hostOps19_2_W) r hr)).trans
    ((W80_of m ρ c r ((ListAll.forall_mem_of_all_decide (by decide +kernel) : ∀ r ∈ early18, r ∉ hostOps19_1_W) r hr)).trans
    ((W79_of m ρ c r ((ListAll.forall_mem_of_all_decide (by decide +kernel) : ∀ r ∈ early18, r ∉ hostOps19_W) r hr)).trans
    (W78_of m ρ c r ((ListAll.forall_mem_of_all_decide (by decide +kernel) :
      ∀ r ∈ early18, ∀ w : Fin cfg18.W, Pipeline.arrRef spec18 w = r → (cfg18.win w).isOut = false) r hr)))))

/-- Nothing from launch 17 on overwrites them. -/
theorem later17 : ∀ r ∈ early17, W82 m ρ c (Proc.devRef .tc r) = W73 m ρ c (Proc.devRef .tc r) := fun r hr =>
  (later18 m ρ c r (List.mem_cons_of_mem _ (List.mem_cons_of_mem _ (List.mem_cons_of_mem _ hr)))).trans
    ((W77_of m ρ c r ((ListAll.forall_mem_of_all_decide (by decide +kernel) : ∀ r ∈ early17, r ∉ hostOps18_2_W) r hr)).trans
    ((W76_of m ρ c r ((ListAll.forall_mem_of_all_decide (by decide +kernel) : ∀ r ∈ early17, r ∉ hostOps18_1_W) r hr)).trans
    ((W75_of m ρ c r ((ListAll.forall_mem_of_all_decide (by decide +kernel) : ∀ r ∈ early17, r ∉ hostOps18_W) r hr)).trans
    (W74_of m ρ c r ((ListAll.forall_mem_of_all_decide (by decide +kernel) :
      ∀ r ∈ early17, ∀ w : Fin cfg17.W, Pipeline.arrRef spec17 w = r → (cfg17.win w).isOut = false) r hr)))))

/-- Nothing from launch 16 on overwrites them. -/
theorem later16 : ∀ r ∈ early16, W82 m ρ c (Proc.devRef .tc r) = W69 m ρ c (Proc.devRef .tc r) := fun r hr =>
  (later17 m ρ c r (List.mem_cons_of_mem _ (List.mem_cons_of_mem _ (List.mem_cons_of_mem _ hr)))).trans
    ((W73_of m ρ c r ((ListAll.forall_mem_of_all_decide (by decide +kernel) : ∀ r ∈ early16, r ∉ hostOps17_2_W) r hr)).trans
    ((W72_of m ρ c r ((ListAll.forall_mem_of_all_decide (by decide +kernel) : ∀ r ∈ early16, r ∉ hostOps17_1_W) r hr)).trans
    ((W71_of m ρ c r ((ListAll.forall_mem_of_all_decide (by decide +kernel) : ∀ r ∈ early16, r ∉ hostOps17_W) r hr)).trans
    (W70_of m ρ c r ((ListAll.forall_mem_of_all_decide (by decide +kernel) :
      ∀ r ∈ early16, ∀ w : Fin cfg16.W, Pipeline.arrRef spec16 w = r → (cfg16.win w).isOut = false) r hr)))))

/-- Nothing from launch 15 on overwrites them. -/
theorem later15 : ∀ r ∈ early15, W82 m ρ c (Proc.devRef .tc r) = W65 m ρ c (Proc.devRef .tc r) := fun r hr =>
  (later16 m ρ c r (List.mem_cons_of_mem _ (List.mem_cons_of_mem _ (List.mem_cons_of_mem _ hr)))).trans
    ((W69_of m ρ c r ((ListAll.forall_mem_of_all_decide (by decide +kernel) : ∀ r ∈ early15, r ∉ hostOps16_2_W) r hr)).trans
    ((W68_of m ρ c r ((ListAll.forall_mem_of_all_decide (by decide +kernel) : ∀ r ∈ early15, r ∉ hostOps16_1_W) r hr)).trans
    ((W67_of m ρ c r ((ListAll.forall_mem_of_all_decide (by decide +kernel) : ∀ r ∈ early15, r ∉ hostOps16_W) r hr)).trans
    (W66_of m ρ c r ((ListAll.forall_mem_of_all_decide (by decide +kernel) :
      ∀ r ∈ early15, ∀ w : Fin cfg15.W, Pipeline.arrRef spec15 w = r → (cfg15.win w).isOut = false) r hr)))))

/-- Nothing from launch 14 on overwrites them. -/
theorem later14 : ∀ r ∈ early14, W82 m ρ c (Proc.devRef .tc r) = W61 m ρ c (Proc.devRef .tc r) := fun r hr =>
  (later15 m ρ c r (List.mem_cons_of_mem _ (List.mem_cons_of_mem _ (List.mem_cons_of_mem _ hr)))).trans
    ((W65_of m ρ c r ((ListAll.forall_mem_of_all_decide (by decide +kernel) : ∀ r ∈ early14, r ∉ hostOps15_2_W) r hr)).trans
    ((W64_of m ρ c r ((ListAll.forall_mem_of_all_decide (by decide +kernel) : ∀ r ∈ early14, r ∉ hostOps15_1_W) r hr)).trans
    ((W63_of m ρ c r ((ListAll.forall_mem_of_all_decide (by decide +kernel) : ∀ r ∈ early14, r ∉ hostOps15_W) r hr)).trans
    (W62_of m ρ c r ((ListAll.forall_mem_of_all_decide (by decide +kernel) :
      ∀ r ∈ early14, ∀ w : Fin cfg14.W, Pipeline.arrRef spec14 w = r → (cfg14.win w).isOut = false) r hr)))))

/-- Nothing from launch 13 on overwrites them. -/
theorem later13 : ∀ r ∈ early13, W82 m ρ c (Proc.devRef .tc r) = W57 m ρ c (Proc.devRef .tc r) := fun r hr =>
  (later14 m ρ c r (List.mem_cons_of_mem _ (List.mem_cons_of_mem _ (List.mem_cons_of_mem _ hr)))).trans
    ((W61_of m ρ c r ((ListAll.forall_mem_of_all_decide (by decide +kernel) : ∀ r ∈ early13, r ∉ hostOps14_2_W) r hr)).trans
    ((W60_of m ρ c r ((ListAll.forall_mem_of_all_decide (by decide +kernel) : ∀ r ∈ early13, r ∉ hostOps14_1_W) r hr)).trans
    ((W59_of m ρ c r ((ListAll.forall_mem_of_all_decide (by decide +kernel) : ∀ r ∈ early13, r ∉ hostOps14_W) r hr)).trans
    (W58_of m ρ c r ((ListAll.forall_mem_of_all_decide (by decide +kernel) :
      ∀ r ∈ early13, ∀ w : Fin cfg13.W, Pipeline.arrRef spec13 w = r → (cfg13.win w).isOut = false) r hr)))))

/-- Nothing from launch 12 on overwrites them. -/
theorem later12 : ∀ r ∈ early12, W82 m ρ c (Proc.devRef .tc r) = W53 m ρ c (Proc.devRef .tc r) := fun r hr =>
  (later13 m ρ c r (List.mem_cons_of_mem _ (List.mem_cons_of_mem _ (List.mem_cons_of_mem _ hr)))).trans
    ((W57_of m ρ c r ((ListAll.forall_mem_of_all_decide (by decide +kernel) : ∀ r ∈ early12, r ∉ hostOps13_2_W) r hr)).trans
    ((W56_of m ρ c r ((ListAll.forall_mem_of_all_decide (by decide +kernel) : ∀ r ∈ early12, r ∉ hostOps13_1_W) r hr)).trans
    ((W55_of m ρ c r ((ListAll.forall_mem_of_all_decide (by decide +kernel) : ∀ r ∈ early12, r ∉ hostOps13_W) r hr)).trans
    (W54_of m ρ c r ((ListAll.forall_mem_of_all_decide (by decide +kernel) :
      ∀ r ∈ early12, ∀ w : Fin cfg12.W, Pipeline.arrRef spec12 w = r → (cfg12.win w).isOut = false) r hr)))))

/-- Nothing from launch 11 on overwrites them. -/
theorem later11 : ∀ r ∈ early11, W82 m ρ c (Proc.devRef .tc r) = W49 m ρ c (Proc.devRef .tc r) := fun r hr =>
  (later12 m ρ c r (List.mem_cons_of_mem _ (List.mem_cons_of_mem _ (List.mem_cons_of_mem _ hr)))).trans
    ((W53_of m ρ c r ((ListAll.forall_mem_of_all_decide (by decide +kernel) : ∀ r ∈ early11, r ∉ hostOps12_2_W) r hr)).trans
    ((W52_of m ρ c r ((ListAll.forall_mem_of_all_decide (by decide +kernel) : ∀ r ∈ early11, r ∉ hostOps12_1_W) r hr)).trans
    ((W51_of m ρ c r ((ListAll.forall_mem_of_all_decide (by decide +kernel) : ∀ r ∈ early11, r ∉ hostOps12_W) r hr)).trans
    (W50_of m ρ c r ((ListAll.forall_mem_of_all_decide (by decide +kernel) :
      ∀ r ∈ early11, ∀ w : Fin cfg11.W, Pipeline.arrRef spec11 w = r → (cfg11.win w).isOut = false) r hr)))))

/-- Nothing from launch 10 on overwrites them. -/
theorem later10 : ∀ r ∈ early10, W82 m ρ c (Proc.devRef .tc r) = W45 m ρ c (Proc.devRef .tc r) := fun r hr =>
  (later11 m ρ c r (List.mem_cons_of_mem _ (List.mem_cons_of_mem _ (List.mem_cons_of_mem _ hr)))).trans
    ((W49_of m ρ c r ((ListAll.forall_mem_of_all_decide (by decide +kernel) : ∀ r ∈ early10, r ∉ hostOps11_2_W) r hr)).trans
    ((W48_of m ρ c r ((ListAll.forall_mem_of_all_decide (by decide +kernel) : ∀ r ∈ early10, r ∉ hostOps11_1_W) r hr)).trans
    ((W47_of m ρ c r ((ListAll.forall_mem_of_all_decide (by decide +kernel) : ∀ r ∈ early10, r ∉ hostOps11_W) r hr)).trans
    (W46_of m ρ c r ((ListAll.forall_mem_of_all_decide (by decide +kernel) :
      ∀ r ∈ early10, ∀ w : Fin cfg10.W, Pipeline.arrRef spec10 w = r → (cfg10.win w).isOut = false) r hr)))))

/-- Nothing from launch 9 on overwrites them. -/
theorem later9 : ∀ r ∈ early9, W82 m ρ c (Proc.devRef .tc r) = W41 m ρ c (Proc.devRef .tc r) := fun r hr =>
  (later10 m ρ c r (List.mem_cons_of_mem _ (List.mem_cons_of_mem _ (List.mem_cons_of_mem _ hr)))).trans
    ((W45_of m ρ c r ((ListAll.forall_mem_of_all_decide (by decide +kernel) : ∀ r ∈ early9, r ∉ hostOps10_2_W) r hr)).trans
    ((W44_of m ρ c r ((ListAll.forall_mem_of_all_decide (by decide +kernel) : ∀ r ∈ early9, r ∉ hostOps10_1_W) r hr)).trans
    ((W43_of m ρ c r ((ListAll.forall_mem_of_all_decide (by decide +kernel) : ∀ r ∈ early9, r ∉ hostOps10_W) r hr)).trans
    (W42_of m ρ c r ((ListAll.forall_mem_of_all_decide (by decide +kernel) :
      ∀ r ∈ early9, ∀ w : Fin cfg9.W, Pipeline.arrRef spec9 w = r → (cfg9.win w).isOut = false) r hr)))))

/-- The last host operations stack the twelve positions. -/
theorem stacked_mus (V : Valuation τ sig (Elt Ideal)) : after hostOps20 V (Proc.devRef .tc main_v1200) =
    stack (V (Proc.devRef .tc main_v483)) (V (Proc.devRef .tc main_v547)) (V (Proc.devRef .tc main_v611)) (V (Proc.devRef .tc main_v675)) (V (Proc.devRef .tc main_v739)) (V (Proc.devRef .tc main_v803)) (V (Proc.devRef .tc main_v867)) (V (Proc.devRef .tc main_v931)) (V (Proc.devRef .tc main_v995)) (V (Proc.devRef .tc main_v1059)) (V (Proc.devRef .tc main_v1123)) (pos19 V) := by
  after_reads_simp
  rfl

/-- The last host operations stack the twelve spreads. -/
theorem stacked_sigmas (V : Valuation τ sig (Elt Ideal)) : after hostOps20 V (Proc.devRef .tc main_v1213) =
    stack (V (Proc.devRef .tc main_v477)) (V (Proc.devRef .tc main_v541)) (V (Proc.devRef .tc main_v605)) (V (Proc.devRef .tc main_v669)) (V (Proc.devRef .tc main_v733)) (V (Proc.devRef .tc main_v797)) (V (Proc.devRef .tc main_v861)) (V (Proc.devRef .tc main_v925)) (V (Proc.devRef .tc main_v989)) (V (Proc.devRef .tc main_v1053)) (V (Proc.devRef .tc main_v1117)) (spread (readOut (V (Proc.devRef .tc main_arg10)) (V (Proc.devRef .tc main_arg11)) (hid19 V))) := by
  after_reads_simp
  rfl

/-- The last host operations stack the twelve correlations. -/
theorem stacked_rhos (V : Valuation τ sig (Elt Ideal)) : after hostOps20 V (Proc.devRef .tc main_v1226) =
    stackRows (V (Proc.devRef .tc main_v480)) (V (Proc.devRef .tc main_v544)) (V (Proc.devRef .tc main_v608)) (V (Proc.devRef .tc main_v672)) (V (Proc.devRef .tc main_v736)) (V (Proc.devRef .tc main_v800)) (V (Proc.devRef .tc main_v864)) (V (Proc.devRef .tc main_v928)) (V (Proc.devRef .tc main_v992)) (V (Proc.devRef .tc main_v1056)) (V (Proc.devRef .tc main_v1120)) (corr (readOut (V (Proc.devRef .tc main_arg10)) (V (Proc.devRef .tc main_arg11)) (hid19 V))) := by
  after_reads_simp
  rfl

/-- The positions of the twelve steps are the result. -/
theorem mus_eq : W83 m ρ c (Proc.devRef .tc main_v1200) = mus (argsOf m c) := by
  refine (stacked_mus (W82 m ρ c)).trans ?_
  rw [(later9 m ρ c main_v483 (by decide)).trans ((entry9 m ρ c).pos),
    (later10 m ρ c main_v547 (by decide)).trans ((entry10 m ρ c).pos),
    (later11 m ρ c main_v611 (by decide)).trans ((entry11 m ρ c).pos),
    (later12 m ρ c main_v675 (by decide)).trans ((entry12 m ρ c).pos),
    (later13 m ρ c main_v739 (by decide)).trans ((entry13 m ρ c).pos),
    (later14 m ρ c main_v803 (by decide)).trans ((entry14 m ρ c).pos),
    (later15 m ρ c main_v867 (by decide)).trans ((entry15 m ρ c).pos),
    (later16 m ρ c main_v931 (by decide)).trans ((entry16 m ρ c).pos),
    (later17 m ρ c main_v995 (by decide)).trans ((entry17 m ρ c).pos),
    (later18 m ρ c main_v1059 (by decide)).trans ((entry18 m ρ c).pos),
    (later19 m ρ c main_v1123 (by decide)).trans ((entry19 m ρ c).pos),
    pos19_state]
  rfl

/-- The spreads of the twelve steps are the result. -/
theorem sigmas_eq : W83 m ρ c (Proc.devRef .tc main_v1213) = sigmas (argsOf m c) := by
  refine (stacked_sigmas (W82 m ρ c)).trans ?_
  rw [(later9 m ρ c main_v477 (by decide)).trans (spread8_state m ρ c),
    (later10 m ρ c main_v541 (by decide)).trans (spread9_state m ρ c),
    (later11 m ρ c main_v605 (by decide)).trans (spread10_state m ρ c),
    (later12 m ρ c main_v669 (by decide)).trans (spread11_state m ρ c),
    (later13 m ρ c main_v733 (by decide)).trans (spread12_state m ρ c),
    (later14 m ρ c main_v797 (by decide)).trans (spread13_state m ρ c),
    (later15 m ρ c main_v861 (by decide)).trans (spread14_state m ρ c),
    (later16 m ρ c main_v925 (by decide)).trans (spread15_state m ρ c),
    (later17 m ρ c main_v989 (by decide)).trans (spread16_state m ρ c),
    (later18 m ρ c main_v1053 (by decide)).trans (spread17_state m ρ c),
    (later19 m ρ c main_v1117 (by decide)).trans (spread18_state m ρ c),
    (fixedOut19 m ρ c).wOut, (fixedOut19 m ρ c).bOut, hid19_state]
  rfl

/-- The correlations of the twelve steps are the result. -/
theorem rhos_eq : W83 m ρ c (Proc.devRef .tc main_v1226) = rhos (argsOf m c) := by
  refine (stacked_rhos (W82 m ρ c)).trans ?_
  rw [(later9 m ρ c main_v480 (by decide)).trans (corr8_state m ρ c),
    (later10 m ρ c main_v544 (by decide)).trans (corr9_state m ρ c),
    (later11 m ρ c main_v608 (by decide)).trans (corr10_state m ρ c),
    (later12 m ρ c main_v672 (by decide)).trans (corr11_state m ρ c),
    (later13 m ρ c main_v736 (by decide)).trans (corr12_state m ρ c),
    (later14 m ρ c main_v800 (by decide)).trans (corr13_state m ρ c),
    (later15 m ρ c main_v864 (by decide)).trans (corr14_state m ρ c),
    (later16 m ρ c main_v928 (by decide)).trans (corr15_state m ρ c),
    (later17 m ρ c main_v992 (by decide)).trans (corr16_state m ρ c),
    (later18 m ρ c main_v1056 (by decide)).trans (corr17_state m ρ c),
    (later19 m ρ c main_v1120 (by decide)).trans (corr18_state m ρ c),
    (fixedOut19 m ρ c).wOut, (fixedOut19 m ρ c).bOut, hid19_state]
  rfl

end Cert.KernelIdeal.Chain
-- ==== Proof.KernelRun.lean ====
module

public import proofs.«01_k».proof.Proof.Gen.KernelIdeal.Frame
public import proofs.«01_k».proof.Proof.Final

/-! The kernel's run with its results: the launch is set up as for its frame, and the last contents are read at the result buffers too. -/

@[expose] public section

set_option maxRecDepth 16384

noncomputable section

namespace Cert.KernelIdeal.Chain

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The kernel's run: every result buffer ends at the steps' result of the arguments, and the arguments end unchanged. -/
theorem run : θ_run defs (onTc (τ := τ) (main (F := Ideal))) ⟨m, fun _ => 0, ρ⟩ (fun r => ∀ c : Dev nD,
      r.2.mem ((c.tc : Thread nD τ).loc main_v1200) = mus (argsOf m c)
      ∧ r.2.mem ((c.tc : Thread nD τ).loc main_v1213) = sigmas (argsOf m c)
      ∧ r.2.mem ((c.tc : Thread nD τ).loc main_v1226) = rhos (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W83 m ρ c b)
    (hfin := fun c s' => by
      iintro ⟨⟨Hh, -⟩, HSI⟩
      unfold StableHlo.held
      imodintro
      iapply (pointsTo_read_all (Pipeline.ucRefs τ sig) (fun b => (((c : Thread nD τ)).1, b)) (W83 m ρ c) s')
      isplitl [Hh] <;> iassumption)
    (hQ := fun s h _ c =>
      ⟨(h c _ (mem_uc main_v1200 (by decide))).trans (mus_eq m ρ c),
       (h c _ (mem_uc main_v1213 (by decide))).trans (sigmas_eq m ρ c),
       (h c _ (mem_uc main_v1226 (by decide))).trans (rhos_eq m ρ c),
       (h c _ (mem_uc main_arg0 (by decide))).trans (W83_main_arg0 m ρ c),
       (h c _ (mem_uc main_arg1 (by decide))).trans (W83_main_arg1 m ρ c),
       (h c _ (mem_uc main_arg2 (by decide))).trans (W83_main_arg2 m ρ c),
       (h c _ (mem_uc main_arg3 (by decide))).trans (W83_main_arg3 m ρ c),
       (h c _ (mem_uc main_arg4 (by decide))).trans (W83_main_arg4 m ρ c),
       (h c _ (mem_uc main_arg5 (by decide))).trans (W83_main_arg5 m ρ c),
       (h c _ (mem_uc main_arg6 (by decide))).trans (W83_main_arg6 m ρ c),
       (h c _ (mem_uc main_arg7 (by decide))).trans (W83_main_arg7 m ρ c),
       (h c _ (mem_uc main_arg8 (by decide))).trans (W83_main_arg8 m ρ c),
       (h c _ (mem_uc main_arg9 (by decide))).trans (W83_main_arg9 m ρ c),
       (h c _ (mem_uc main_arg10 (by decide))).trans (W83_main_arg10 m ρ c),
       (h c _ (mem_uc main_arg11 (by decide))).trans (W83_main_arg11 m ρ c)⟩)

end Cert.KernelIdeal.Chain
-- ==== Proof.RefWalk.lean ====
module

public import proofs.«01_k».proof.Proof.Gen.ReferenceIdeal.Run
public import proofs.«01_k».proof.Proof.Results

/-! The reference's run read step by step: the arrays it computes are those of the states, and its three results are the results of the steps. -/

@[expose] public section

set_option maxRecDepth 16384

noncomputable section

namespace Cert.ReferenceIdeal.Walk

open Cert.ReferenceIdeal Cert.ReferenceIdeal.Gen Cert.ReferenceIdeal.Value Idealize.ShloMosaic Idealize.ShloMosaic.TcCoe Idealize.ShloMosaic.StableHlo Cert.Steps

/-- The next state from its three arrays, where the gates are at hand. -/
theorem next {A : Args} {n : ℕ} {s : State} {g : FVec Ideal S256x512 .f32} {h c : FVec Ideal S256x128 .f32} {p : FVec Ideal S256x2 .f32}
    (hs : state A n = s) (hg : g = gatesOf A s) (hc : c = cellNext g s.cell) (hh : h = hidNext g c) (hp : p = posOf A s n) :
    state A (n + 1) = ⟨h, c, p⟩ := by
  subst hs hg hc hh hp
  rfl

/-- The same for a predicted step, whose position is the one moved by the read-out. -/
theorem nextMoved {A : Args} {n : ℕ} {s : State} {g : FVec Ideal S256x512 .f32} {h c : FVec Ideal S256x128 .f32} {r : FVec Ideal S256x5 .f32}
    {p : FVec Ideal S256x2 .f32} (hs : state A (n + 8) = s) (hg : g = gatesOf A s) (hc : c = cellNext g s.cell) (hh : h = hidNext g c)
    (hr : r = readOut A.wOut A.bOut h) (hp : p = moved (maskCol A.mask) r s.pos) : state A (n + 8 + 1) = ⟨h, c, p⟩ := by
  subst hs hg hc hh hr hp
  rfl

/-- What is read out of a state, from its hidden state. -/
theorem out_of {A : Args} {n : ℕ} {s : State} {r : FVec Ideal S256x5 .f32} (hs : state A n = s) (hr : r = readOut A.wOut A.bOut s.hid) : outOf A n = r := by
  subst hs hr
  rfl

variable (V : Valuation τ sig (Elt Ideal))

/-- The arguments a valuation holds. -/
@[reducible] noncomputable def argsOf : Args where
  obs := V (Proc.devRef .tc main_arg0)
  mask := V (Proc.devRef .tc main_arg1)
  wEmbed := V (Proc.devRef .tc main_arg2)
  bEmbed := V (Proc.devRef .tc main_arg3)
  wPool := V (Proc.devRef .tc main_arg4)
  bPool := V (Proc.devRef .tc main_arg5)
  wIn := V (Proc.devRef .tc main_arg6)
  wHid := V (Proc.devRef .tc main_arg7)
  bIn := V (Proc.devRef .tc main_arg8)
  bHid := V (Proc.devRef .tc main_arg9)
  wOut := V (Proc.devRef .tc main_arg10)
  bOut := V (Proc.devRef .tc main_arg11)

/-- The state the first step starts from. -/
theorem state0 : state (argsOf V) 0 = ⟨zeros, zeros, res_main_v7 V⟩ := rfl

/-- The gates of step 0. -/
theorem gates0 : res_main_v121 V = gatesOf (argsOf V) ⟨zeros, zeros, res_main_v7 V⟩ := rfl

/-- The state after step 0. -/
theorem state1 : state (argsOf V) 1 = ⟨res_main_v149 V, res_main_v147 V, res_main_v151 V⟩ :=
  next (state0 V) (gates0 V) rfl rfl rfl

/-- The gates of step 1. -/
theorem gates1 : res_main_v265 V = gatesOf (argsOf V) ⟨res_main_v149 V, res_main_v147 V, res_main_v151 V⟩ := rfl

/-- The state after step 1. -/
theorem state2 : state (argsOf V) 2 = ⟨res_main_v293 V, res_main_v291 V, res_main_v295 V⟩ :=
  next (state1 V) (gates1 V) rfl rfl rfl

/-- The gates of step 2. -/
theorem gates2 : res_main_v409 V = gatesOf (argsOf V) ⟨res_main_v293 V, res_main_v291 V, res_main_v295 V⟩ := rfl

/-- The state after step 2. -/
theorem state3 : state (argsOf V) 3 = ⟨res_main_v437 V, res_main_v435 V, res_main_v439 V⟩ :=
  next (state2 V) (gates2 V) rfl rfl rfl

/-- The gates of step 3. -/
theorem gates3 : res_main_v553 V = gatesOf (argsOf V) ⟨res_main_v437 V, res_main_v435 V, res_main_v439 V⟩ := rfl

/-- The state after step 3. -/
theorem state4 : state (argsOf V) 4 = ⟨res_main_v581 V, res_main_v579 V, res_main_v583 V⟩ :=
  next (state3 V) (gates3 V) rfl rfl rfl

/-- The gates of step 4. -/
theorem gates4 : res_main_v697 V = gatesOf (argsOf V) ⟨res_main_v581 V, res_main_v579 V, res_main_v583 V⟩ := rfl

/-- The state after step 4. -/
theorem state5 : state (argsOf V) 5 = ⟨res_main_v725 V, res_main_v723 V, res_main_v727 V⟩ :=
  next (state4 V) (gates4 V) rfl rfl rfl

/-- The gates of step 5. -/
theorem gates5 : res_main_v841 V = gatesOf (argsOf V) ⟨res_main_v725 V, res_main_v723 V, res_main_v727 V⟩ := rfl

/-- The state after step 5. -/
theorem state6 : state (argsOf V) 6 = ⟨res_main_v869 V, res_main_v867 V, res_main_v871 V⟩ :=
  next (state5 V) (gates5 V) rfl rfl rfl

/-- The gates of step 6. -/
theorem gates6 : res_main_v985 V = gatesOf (argsOf V) ⟨res_main_v869 V, res_main_v867 V, res_main_v871 V⟩ := rfl

/-- The state after step 6. -/
theorem state7 : state (argsOf V) 7 = ⟨res_main_v1013 V, res_main_v1011 V, res_main_v1015 V⟩ :=
  next (state6 V) (gates6 V) rfl rfl rfl

/-- The gates of step 7. -/
theorem gates7 : res_main_v1129 V = gatesOf (argsOf V) ⟨res_main_v1013 V, res_main_v1011 V, res_main_v1015 V⟩ := rfl

/-- The state after step 7. -/
theorem state8 : state (argsOf V) 8 = ⟨res_main_v1157 V, res_main_v1155 V, res_main_v1161 V⟩ :=
  next (state7 V) (gates7 V) rfl rfl rfl

/-- The gates of step 8. -/
theorem gates8 : res_main_v1275 V = gatesOf (argsOf V) ⟨res_main_v1157 V, res_main_v1155 V, res_main_v1161 V⟩ := rfl

/-- The state after step 8. -/
theorem state9 : state (argsOf V) 9 = ⟨res_main_v1303 V, res_main_v1301 V, res_main_v1319 V⟩ :=
  nextMoved (n := 0) (r := res_main_v1308 V) (state8 V) (gates8 V) rfl rfl rfl rfl

/-- What is read out after step 8. -/
theorem out9 : outOf (argsOf V) 9 = res_main_v1308 V := out_of (state9 V) rfl

/-- The gates of step 9. -/
theorem gates9 : res_main_v1433 V = gatesOf (argsOf V) ⟨res_main_v1303 V, res_main_v1301 V, res_main_v1319 V⟩ := rfl

/-- The state after step 9. -/
theorem state10 : state (argsOf V) 10 = ⟨res_main_v1461 V, res_main_v1459 V, res_main_v1477 V⟩ :=
  nextMoved (n := 1) (r := res_main_v1466 V) (state9 V) (gates9 V) rfl rfl rfl rfl

/-- What is read out after step 9. -/
theorem out10 : outOf (argsOf V) 10 = res_main_v1466 V := out_of (state10 V) rfl

/-- The gates of step 10. -/
theorem gates10 : res_main_v1591 V = gatesOf (argsOf V) ⟨res_main_v1461 V, res_main_v1459 V, res_main_v1477 V⟩ := rfl

/-- The state after step 10. -/
theorem state11 : state (argsOf V) 11 = ⟨res_main_v1619 V, res_main_v1617 V, res_main_v1635 V⟩ :=
  nextMoved (n := 2) (r := res_main_v1624 V) (state10 V) (gates10 V) rfl rfl rfl rfl

/-- What is read out after step 10. -/
theorem out11 : outOf (argsOf V) 11 = res_main_v1624 V := out_of (state11 V) rfl

/-- The gates of step 11. -/
theorem gates11 : res_main_v1749 V = gatesOf (argsOf V) ⟨res_main_v1619 V, res_main_v1617 V, res_main_v1635 V⟩ := rfl

/-- The state after step 11. -/
theorem state12 : state (argsOf V) 12 = ⟨res_main_v1777 V, res_main_v1775 V, res_main_v1793 V⟩ :=
  nextMoved (n := 3) (r := res_main_v1782 V) (state11 V) (gates11 V) rfl rfl rfl rfl

/-- What is read out after step 11. -/
theorem out12 : outOf (argsOf V) 12 = res_main_v1782 V := out_of (state12 V) rfl

/-- The gates of step 12. -/
theorem gates12 : res_main_v1907 V = gatesOf (argsOf V) ⟨res_main_v1777 V, res_main_v1775 V, res_main_v1793 V⟩ := rfl

/-- The state after step 12. -/
theorem state13 : state (argsOf V) 13 = ⟨res_main_v1935 V, res_main_v1933 V, res_main_v1951 V⟩ :=
  nextMoved (n := 4) (r := res_main_v1940 V) (state12 V) (gates12 V) rfl rfl rfl rfl

/-- What is read out after step 12. -/
theorem out13 : outOf (argsOf V) 13 = res_main_v1940 V := out_of (state13 V) rfl

/-- The gates of step 13. -/
theorem gates13 : res_main_v2065 V = gatesOf (argsOf V) ⟨res_main_v1935 V, res_main_v1933 V, res_main_v1951 V⟩ := rfl

/-- The state after step 13. -/
theorem state14 : state (argsOf V) 14 = ⟨res_main_v2093 V, res_main_v2091 V, res_main_v2109 V⟩ :=
  nextMoved (n := 5) (r := res_main_v2098 V) (state13 V) (gates13 V) rfl rfl rfl rfl

/-- What is read out after step 13. -/
theorem out14 : outOf (argsOf V) 14 = res_main_v2098 V := out_of (state14 V) rfl

/-- The gates of step 14. -/
theorem gates14 : res_main_v2223 V = gatesOf (argsOf V) ⟨res_main_v2093 V, res_main_v2091 V, res_main_v2109 V⟩ := rfl

/-- The state after step 14. -/
theorem state15 : state (argsOf V) 15 = ⟨res_main_v2251 V, res_main_v2249 V, res_main_v2267 V⟩ :=
  nextMoved (n := 6) (r := res_main_v2256 V) (state14 V) (gates14 V) rfl rfl rfl rfl

/-- What is read out after step 14. -/
theorem out15 : outOf (argsOf V) 15 = res_main_v2256 V := out_of (state15 V) rfl

/-- The gates of step 15. -/
theorem gates15 : res_main_v2381 V = gatesOf (argsOf V) ⟨res_main_v2251 V, res_main_v2249 V, res_main_v2267 V⟩ := rfl

/-- The state after step 15. -/
theorem state16 : state (argsOf V) 16 = ⟨res_main_v2409 V, res_main_v2407 V, res_main_v2425 V⟩ :=
  nextMoved (n := 7) (r := res_main_v2414 V) (state15 V) (gates15 V) rfl rfl rfl rfl

/-- What is read out after step 15. -/
theorem out16 : outOf (argsOf V) 16 = res_main_v2414 V := out_of (state16 V) rfl

/-- The gates of step 16. -/
theorem gates16 : res_main_v2539 V = gatesOf (argsOf V) ⟨res_main_v2409 V, res_main_v2407 V, res_main_v2425 V⟩ := rfl

/-- The state after step 16. -/
theorem state17 : state (argsOf V) 17 = ⟨res_main_v2567 V, res_main_v2565 V, res_main_v2583 V⟩ :=
  nextMoved (n := 8) (r := res_main_v2572 V) (state16 V) (gates16 V) rfl rfl rfl rfl

/-- What is read out after step 16. -/
theorem out17 : outOf (argsOf V) 17 = res_main_v2572 V := out_of (state17 V) rfl

/-- The gates of step 17. -/
theorem gates17 : res_main_v2697 V = gatesOf (argsOf V) ⟨res_main_v2567 V, res_main_v2565 V, res_main_v2583 V⟩ := rfl

/-- The state after step 17. -/
theorem state18 : state (argsOf V) 18 = ⟨res_main_v2725 V, res_main_v2723 V, res_main_v2741 V⟩ :=
  nextMoved (n := 9) (r := res_main_v2730 V) (state17 V) (gates17 V) rfl rfl rfl rfl

/-- What is read out after step 17. -/
theorem out18 : outOf (argsOf V) 18 = res_main_v2730 V := out_of (state18 V) rfl

/-- The gates of step 18. -/
theorem gates18 : res_main_v2855 V = gatesOf (argsOf V) ⟨res_main_v2725 V, res_main_v2723 V, res_main_v2741 V⟩ := rfl

/-- The state after step 18. -/
theorem state19 : state (argsOf V) 19 = ⟨res_main_v2883 V, res_main_v2881 V, res_main_v2899 V⟩ :=
  nextMoved (n := 10) (r := res_main_v2888 V) (state18 V) (gates18 V) rfl rfl rfl rfl

/-- What is read out after step 18. -/
theorem out19 : outOf (argsOf V) 19 = res_main_v2888 V := out_of (state19 V) rfl

/-- The gates of step 19. -/
theorem gates19 : res_main_v3013 V = gatesOf (argsOf V) ⟨res_main_v2883 V, res_main_v2881 V, res_main_v2899 V⟩ := rfl

/-- The state after step 19. -/
theorem state20 : state (argsOf V) 20 = ⟨hidNext (res_main_v3013 V) (cellNext (res_main_v3013 V) (res_main_v2881 V)), cellNext (res_main_v3013 V) (res_main_v2881 V), moved (maskCol (argsOf V).mask) (res_main_v3046 V) (res_main_v2899 V)⟩ :=
  nextMoved (n := 11) (r := res_main_v3046 V) (state19 V) (gates19 V) rfl rfl rfl rfl

/-- What is read out after step 19. -/
theorem out20 : outOf (argsOf V) 20 = res_main_v3046 V := out_of (state20 V) rfl

/-- The first result stacks the predicted positions. -/
theorem mus_eq : mus (argsOf V) = stack (res_main_v1319 V) (res_main_v1477 V) (res_main_v1635 V) (res_main_v1793 V) (res_main_v1951 V) (res_main_v2109 V) (res_main_v2267 V) (res_main_v2425 V) (res_main_v2583 V) (res_main_v2741 V) (res_main_v2899 V) (moved (maskCol (argsOf V).mask) (res_main_v3046 V) (res_main_v2899 V)) := by
  unfold mus
  rw [state9, state10, state11, state12, state13, state14, state15, state16, state17, state18, state19, state20]

/-- The second result stacks their spreads. -/
theorem sigmas_eq : sigmas (argsOf V) = stack (spread (res_main_v1308 V)) (spread (res_main_v1466 V)) (spread (res_main_v1624 V)) (spread (res_main_v1782 V)) (spread (res_main_v1940 V)) (spread (res_main_v2098 V)) (spread (res_main_v2256 V)) (spread (res_main_v2414 V)) (spread (res_main_v2572 V)) (spread (res_main_v2730 V)) (spread (res_main_v2888 V)) (spread (res_main_v3046 V)) := by
  unfold sigmas
  rw [out9, out10, out11, out12, out13, out14, out15, out16, out17, out18, out19, out20]

/-- The third result stacks their correlations. -/
theorem rhos_eq : rhos (argsOf V) = stackRows (corr (res_main_v1308 V)) (corr (res_main_v1466 V)) (corr (res_main_v1624 V)) (corr (res_main_v1782 V)) (corr (res_main_v1940 V)) (corr (res_main_v2098 V)) (corr (res_main_v2256 V)) (corr (res_main_v2414 V)) (corr (res_main_v2572 V)) (corr (res_main_v2730 V)) (corr (res_main_v2888 V)) (corr (res_main_v3046 V)) := by
  unfold rhos
  rw [out9, out10, out11, out12, out13, out14, out15, out16, out17, out18, out19, out20]

end Cert.ReferenceIdeal.Walk
-- ==== Proof.RefRun.lean ====
module

public import proofs.«01_k».proof.Proof.RefWalk

/-! The reference's run with its results named: those of the steps. -/

@[expose] public section

set_option maxRecDepth 16384

noncomputable section

namespace Cert.ReferenceIdeal.Walk

open Cert.ReferenceIdeal Cert.ReferenceIdeal.Gen Idealize.ShloMosaic Idealize.ShloMosaic.TcCoe Idealize.SL.Sem Idealize.ShloMosaic.StableHlo Cert.Steps

variable (m : (ℓ : Loc nD τ sig) → Buf (Elt Ideal) ℓ) (ρ : Dev nD → PrngReg)

/-- The reference's run: every result buffer ends at the steps' result of the arguments, and the arguments end unchanged. -/
theorem run : θ_run defs (onTc (τ := τ) (main (F := Ideal))) ⟨m, fun _ => 0, ρ⟩ (fun r => ∀ c : Dev nD,
      r.2.mem ((c.tc : Thread nD τ).loc main_v3070) = mus (argsOf (launchContents m c))
      ∧ r.2.mem ((c.tc : Thread nD τ).loc main_v3083) = sigmas (argsOf (launchContents m c))
      ∧ r.2.mem ((c.tc : Thread nD τ).loc main_v3096) = rhos (argsOf (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (mus_eq (launchContents m c)).symm, (h c).2.1.trans (sigmas_eq (launchContents m c)).symm,
    (h c).2.2.1.trans (rhos_eq (launchContents m c)).symm, (h c).2.2.2⟩) (Value.run m ρ)

end Cert.ReferenceIdeal.Walk
-- ==== Proof.lean ====
module

public import proofs.«01_k».proof.Defs
public import proofs.«01_k».proof.Proof.Gen.Kernel.Frame
public import proofs.«01_k».proof.Proof.KernelRun
public import proofs.«01_k».proof.Proof.RefRun

/-! The five claims, proved. -/

@[expose] public section

set_option maxRecDepth 16384
set_option maxHeartbeats 10000000

namespace Cert.Proof

open Idealize.ShloMosaic Idealize.ShloMosaic.TcCoe Idealize.SL.Sem Idealize.ShloMosaic.StableHlo

/-- The reference's frame: the arguments are what its run leaves of them, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Walk.run m ρ)

/-- Kernel and reference end with the same three results, whatever the arguments: both with those of the steps. -/
theorem same : Cert.algebraic_KernelIdeal_ReferenceIdeal (hKernelIdeal := Cert.KernelIdeal.Gen.facts)
    (hReferenceIdeal := Cert.ReferenceIdeal.Gen.facts) := by
  intro m g m' g' _ h
  have e : ∀ c, Cert.ReferenceIdeal.Walk.argsOf (launchContents m' c) = Cert.KernelIdeal.Chain.argsOf m c := fun c => by
    obtain ⟨e0, e1, e2, e3, e4, e5, e6, e7, e8, e9, e10, e11⟩ := h c
    exact (Cert.Steps.Args.mk.injEq ..).mpr ⟨e0, e1, e2, e3, e4, e5, e6, e7, e8, e9, e10, e11⟩
  refine ⟨fun c => Cert.Steps.mus (Cert.KernelIdeal.Chain.argsOf m c), fun c => Cert.Steps.sigmas (Cert.KernelIdeal.Chain.argsOf m c),
    fun c => Cert.Steps.rhos (Cert.KernelIdeal.Chain.argsOf m c), Cert.KernelIdeal.Chain.run m g, ?_⟩
  exact (θ_run Cert.ReferenceIdeal.defs _ _).mono (fun r q c => ⟨(q c).1.trans (congrArg Cert.Steps.mus (e c)),
    (q c).2.1.trans (congrArg Cert.Steps.sigmas (e c)), (q c).2.2.1.trans (congrArg Cert.Steps.rhos (e c)), (q c).2.2.2⟩)
    (Cert.ReferenceIdeal.Walk.run m' g')

/-- All five claims. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, frame_reference, trivial, same⟩

end Cert.Proof
